-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite1 [hPre_finite1 : Cert.Pre_finite1.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite1.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_finite1.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_finite1.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite1 [hPre_finite1 : Cert.Pre_finite1.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite1.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_finite1.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_finite1.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite7 [hPre_finite7 : Cert.Pre_finite7.Facts] (m : (ℓ : Loc Cert.AttnIdeal.nD Cert.AttnIdeal.τ Cert.AttnIdeal.sig) → Buf (Elt Ideal) ℓ) : Prop :=
  ∀ c : Dev Cert.AttnIdeal.nD,
    (Cert.Pre_finite7.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite7.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite7.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite7.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite7 [hPre_finite7 : Cert.Pre_finite7.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite7.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite7.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite7.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite7.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_GlaOutBwd (m : (ℓ : Loc Cert.GlaOutBwd.nD Cert.GlaOutBwd.τ Cert.GlaOutBwd.sig) → Buf (Elt Bits) ℓ) : Prop :=
  True

def Pre_GlaOutBwdIdeal (m : (ℓ : Loc Cert.GlaOutBwdIdeal.nD Cert.GlaOutBwdIdeal.τ Cert.GlaOutBwdIdeal.sig) → Buf (Elt Ideal) ℓ) : Prop :=
  True

def Pre_GlaOutBwdIdeal_finite5 [hPre_finite5 : Cert.Pre_finite5.Facts] (m : (ℓ : Loc Cert.GlaOutBwdIdeal.nD Cert.GlaOutBwdIdeal.τ Cert.GlaOutBwdIdeal.sig) → Buf (Elt Ideal) ℓ) : Prop :=
  ∀ c : Dev Cert.GlaOutBwdIdeal.nD,
    (Cert.Pre_finite5.fn (F := Ideal) (m ((c.tc : Thread Cert.GlaOutBwdIdeal.nD Cert.GlaOutBwdIdeal.τ).loc Cert.GlaOutBwdIdeal.main_arg0)) (m ((c.tc : Thread Cert.GlaOutBwdIdeal.nD Cert.GlaOutBwdIdeal.τ).loc Cert.GlaOutBwdIdeal.main_arg1)) (m ((c.tc : Thread Cert.GlaOutBwdIdeal.nD Cert.GlaOutBwdIdeal.τ).loc Cert.GlaOutBwdIdeal.main_arg2)) (m ((c.tc : Thread Cert.GlaOutBwdIdeal.nD Cert.GlaOutBwdIdeal.τ).loc Cert.GlaOutBwdIdeal.main_arg3)) (m ((c.tc : Thread Cert.GlaOutBwdIdeal.nD Cert.GlaOutBwdIdeal.τ).loc Cert.GlaOutBwdIdeal.main_arg4))).1 = (fun _ => 1#1)
    ∧ (Cert.Pre_finite5.fn (F := Ideal) (m ((c.tc : Thread Cert.GlaOutBwdIdeal.nD Cert.GlaOutBwdIdeal.τ).loc Cert.GlaOutBwdIdeal.main_arg0)) (m ((c.tc : Thread Cert.GlaOutBwdIdeal.nD Cert.GlaOutBwdIdeal.τ).loc Cert.GlaOutBwdIdeal.main_arg1)) (m ((c.tc : Thread Cert.GlaOutBwdIdeal.nD Cert.GlaOutBwdIdeal.τ).loc Cert.GlaOutBwdIdeal.main_arg2)) (m ((c.tc : Thread Cert.GlaOutBwdIdeal.nD Cert.GlaOutBwdIdeal.τ).loc Cert.GlaOutBwdIdeal.main_arg3)) (m ((c.tc : Thread Cert.GlaOutBwdIdeal.nD Cert.GlaOutBwdIdeal.τ).loc Cert.GlaOutBwdIdeal.main_arg4))).2.1 = (fun _ => 1#1)
    ∧ (Cert.Pre_finite5.fn (F := Ideal) (m ((c.tc : Thread Cert.GlaOutBwdIdeal.nD Cert.GlaOutBwdIdeal.τ).loc Cert.GlaOutBwdIdeal.main_arg0)) (m ((c.tc : Thread Cert.GlaOutBwdIdeal.nD Cert.GlaOutBwdIdeal.τ).loc Cert.GlaOutBwdIdeal.main_arg1)) (m ((c.tc : Thread Cert.GlaOutBwdIdeal.nD Cert.GlaOutBwdIdeal.τ).loc Cert.GlaOutBwdIdeal.main_arg2)) (m ((c.tc : Thread Cert.GlaOutBwdIdeal.nD Cert.GlaOutBwdIdeal.τ).loc Cert.GlaOutBwdIdeal.main_arg3)) (m ((c.tc : Thread Cert.GlaOutBwdIdeal.nD Cert.GlaOutBwdIdeal.τ).loc Cert.GlaOutBwdIdeal.main_arg4))).2.2.1 = (fun _ => 1#1)
    ∧ (Cert.Pre_finite5.fn (F := Ideal) (m ((c.tc : Thread Cert.GlaOutBwdIdeal.nD Cert.GlaOutBwdIdeal.τ).loc Cert.GlaOutBwdIdeal.main_arg0)) (m ((c.tc : Thread Cert.GlaOutBwdIdeal.nD Cert.GlaOutBwdIdeal.τ).loc Cert.GlaOutBwdIdeal.main_arg1)) (m ((c.tc : Thread Cert.GlaOutBwdIdeal.nD Cert.GlaOutBwdIdeal.τ).loc Cert.GlaOutBwdIdeal.main_arg2)) (m ((c.tc : Thread Cert.GlaOutBwdIdeal.nD Cert.GlaOutBwdIdeal.τ).loc Cert.GlaOutBwdIdeal.main_arg3)) (m ((c.tc : Thread Cert.GlaOutBwdIdeal.nD Cert.GlaOutBwdIdeal.τ).loc Cert.GlaOutBwdIdeal.main_arg4))).2.2.2.1 = (fun _ => 1#1)
    ∧ (Cert.Pre_finite5.fn (F := Ideal) (m ((c.tc : Thread Cert.GlaOutBwdIdeal.nD Cert.GlaOutBwdIdeal.τ).loc Cert.GlaOutBwdIdeal.main_arg0)) (m ((c.tc : Thread Cert.GlaOutBwdIdeal.nD Cert.GlaOutBwdIdeal.τ).loc Cert.GlaOutBwdIdeal.main_arg1)) (m ((c.tc : Thread Cert.GlaOutBwdIdeal.nD Cert.GlaOutBwdIdeal.τ).loc Cert.GlaOutBwdIdeal.main_arg2)) (m ((c.tc : Thread Cert.GlaOutBwdIdeal.nD Cert.GlaOutBwdIdeal.τ).loc Cert.GlaOutBwdIdeal.main_arg3)) (m ((c.tc : Thread Cert.GlaOutBwdIdeal.nD Cert.GlaOutBwdIdeal.τ).loc Cert.GlaOutBwdIdeal.main_arg4))).2.2.2.2 = (fun _ => 1#1)

def Pre_GlaOutBwdRefIdeal (m : (ℓ : Loc Cert.GlaOutBwdRefIdeal.nD Cert.GlaOutBwdRefIdeal.τ Cert.GlaOutBwdRefIdeal.sig) → Buf (Elt Ideal) ℓ) : Prop :=
  True

def Pre_GlaOutBwdRefIdeal_finite5 [hPre_finite5 : Cert.Pre_finite5.Facts] (m : (ℓ : Loc Cert.GlaOutBwdRefIdeal.nD Cert.GlaOutBwdRefIdeal.τ Cert.GlaOutBwdRefIdeal.sig) → Buf (Elt Ideal) ℓ) : Prop :=
  ∀ c : Dev Cert.GlaOutBwdRefIdeal.nD,
    (Cert.Pre_finite5.fn (F := Ideal) (m ((c.tc : Thread Cert.GlaOutBwdRefIdeal.nD Cert.GlaOutBwdRefIdeal.τ).loc Cert.GlaOutBwdRefIdeal.main_arg0)) (m ((c.tc : Thread Cert.GlaOutBwdRefIdeal.nD Cert.GlaOutBwdRefIdeal.τ).loc Cert.GlaOutBwdRefIdeal.main_arg1)) (m ((c.tc : Thread Cert.GlaOutBwdRefIdeal.nD Cert.GlaOutBwdRefIdeal.τ).loc Cert.GlaOutBwdRefIdeal.main_arg2)) (m ((c.tc : Thread Cert.GlaOutBwdRefIdeal.nD Cert.GlaOutBwdRefIdeal.τ).loc Cert.GlaOutBwdRefIdeal.main_arg3)) (m ((c.tc : Thread Cert.GlaOutBwdRefIdeal.nD Cert.GlaOutBwdRefIdeal.τ).loc Cert.GlaOutBwdRefIdeal.main_arg4))).1 = (fun _ => 1#1)
    ∧ (Cert.Pre_finite5.fn (F := Ideal) (m ((c.tc : Thread Cert.GlaOutBwdRefIdeal.nD Cert.GlaOutBwdRefIdeal.τ).loc Cert.GlaOutBwdRefIdeal.main_arg0)) (m ((c.tc : Thread Cert.GlaOutBwdRefIdeal.nD Cert.GlaOutBwdRefIdeal.τ).loc Cert.GlaOutBwdRefIdeal.main_arg1)) (m ((c.tc : Thread Cert.GlaOutBwdRefIdeal.nD Cert.GlaOutBwdRefIdeal.τ).loc Cert.GlaOutBwdRefIdeal.main_arg2)) (m ((c.tc : Thread Cert.GlaOutBwdRefIdeal.nD Cert.GlaOutBwdRefIdeal.τ).loc Cert.GlaOutBwdRefIdeal.main_arg3)) (m ((c.tc : Thread Cert.GlaOutBwdRefIdeal.nD Cert.GlaOutBwdRefIdeal.τ).loc Cert.GlaOutBwdRefIdeal.main_arg4))).2.1 = (fun _ => 1#1)
    ∧ (Cert.Pre_finite5.fn (F := Ideal) (m ((c.tc : Thread Cert.GlaOutBwdRefIdeal.nD Cert.GlaOutBwdRefIdeal.τ).loc Cert.GlaOutBwdRefIdeal.main_arg0)) (m ((c.tc : Thread Cert.GlaOutBwdRefIdeal.nD Cert.GlaOutBwdRefIdeal.τ).loc Cert.GlaOutBwdRefIdeal.main_arg1)) (m ((c.tc : Thread Cert.GlaOutBwdRefIdeal.nD Cert.GlaOutBwdRefIdeal.τ).loc Cert.GlaOutBwdRefIdeal.main_arg2)) (m ((c.tc : Thread Cert.GlaOutBwdRefIdeal.nD Cert.GlaOutBwdRefIdeal.τ).loc Cert.GlaOutBwdRefIdeal.main_arg3)) (m ((c.tc : Thread Cert.GlaOutBwdRefIdeal.nD Cert.GlaOutBwdRefIdeal.τ).loc Cert.GlaOutBwdRefIdeal.main_arg4))).2.2.1 = (fun _ => 1#1)
    ∧ (Cert.Pre_finite5.fn (F := Ideal) (m ((c.tc : Thread Cert.GlaOutBwdRefIdeal.nD Cert.GlaOutBwdRefIdeal.τ).loc Cert.GlaOutBwdRefIdeal.main_arg0)) (m ((c.tc : Thread Cert.GlaOutBwdRefIdeal.nD Cert.GlaOutBwdRefIdeal.τ).loc Cert.GlaOutBwdRefIdeal.main_arg1)) (m ((c.tc : Thread Cert.GlaOutBwdRefIdeal.nD Cert.GlaOutBwdRefIdeal.τ).loc Cert.GlaOutBwdRefIdeal.main_arg2)) (m ((c.tc : Thread Cert.GlaOutBwdRefIdeal.nD Cert.GlaOutBwdRefIdeal.τ).loc Cert.GlaOutBwdRefIdeal.main_arg3)) (m ((c.tc : Thread Cert.GlaOutBwdRefIdeal.nD Cert.GlaOutBwdRefIdeal.τ).loc Cert.GlaOutBwdRefIdeal.main_arg4))).2.2.2.1 = (fun _ => 1#1)
    ∧ (Cert.Pre_finite5.fn (F := Ideal) (m ((c.tc : Thread Cert.GlaOutBwdRefIdeal.nD Cert.GlaOutBwdRefIdeal.τ).loc Cert.GlaOutBwdRefIdeal.main_arg0)) (m ((c.tc : Thread Cert.GlaOutBwdRefIdeal.nD Cert.GlaOutBwdRefIdeal.τ).loc Cert.GlaOutBwdRefIdeal.main_arg1)) (m ((c.tc : Thread Cert.GlaOutBwdRefIdeal.nD Cert.GlaOutBwdRefIdeal.τ).loc Cert.GlaOutBwdRefIdeal.main_arg2)) (m ((c.tc : Thread Cert.GlaOutBwdRefIdeal.nD Cert.GlaOutBwdRefIdeal.τ).loc Cert.GlaOutBwdRefIdeal.main_arg3)) (m ((c.tc : Thread Cert.GlaOutBwdRefIdeal.nD Cert.GlaOutBwdRefIdeal.τ).loc Cert.GlaOutBwdRefIdeal.main_arg4))).2.2.2.2 = (fun _ => 1#1)

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactIdeal_finite2 [hPre_finite2 : Cert.Pre_finite2.Facts] (m : (ℓ : Loc Cert.FfnDactIdeal.nD Cert.FfnDactIdeal.τ Cert.FfnDactIdeal.sig) → Buf (Elt Ideal) ℓ) : Prop :=
  ∀ c : Dev Cert.FfnDactIdeal.nD,
    (Cert.Pre_finite2.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3)) (m ((c.tc : Thread Cert.FfnDactIdeal.nD Cert.FfnDactIdeal.τ).loc Cert.FfnDactIdeal.main_arg4))).1 = (fun _ => 1#1)
    ∧ (Cert.Pre_finite2.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3)) (m ((c.tc : Thread Cert.FfnDactIdeal.nD Cert.FfnDactIdeal.τ).loc Cert.FfnDactIdeal.main_arg4))).2.1 = (fun _ => 1#1)
    ∧ (Cert.Pre_finite2.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3)) (m ((c.tc : Thread Cert.FfnDactIdeal.nD Cert.FfnDactIdeal.τ).loc Cert.FfnDactIdeal.main_arg4))).2.2.1 = (fun _ => 1#1)
    ∧ (Cert.Pre_finite2.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3)) (m ((c.tc : Thread Cert.FfnDactIdeal.nD Cert.FfnDactIdeal.τ).loc Cert.FfnDactIdeal.main_arg4))).2.2.2.1 = (fun _ => 1#1)
    ∧ (Cert.Pre_finite2.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3)) (m ((c.tc : Thread Cert.FfnDactIdeal.nD Cert.FfnDactIdeal.τ).loc Cert.FfnDactIdeal.main_arg4))).2.2.2.2 = (fun _ => 1#1)

def Pre_FfnDactRefIdeal (m : (ℓ : Loc Cert.FfnDactRefIdeal.nD Cert.FfnDactRefIdeal.τ Cert.FfnDactRefIdeal.sig) → Buf (Elt Ideal) ℓ) : Prop :=
  True

def Pre_FfnDactRefIdeal_finite2 [hPre_finite2 : Cert.Pre_finite2.Facts] (m : (ℓ : Loc Cert.FfnDactRefIdeal.nD Cert.FfnDactRefIdeal.τ Cert.FfnDactRefIdeal.sig) → Buf (Elt Ideal) ℓ) : Prop :=
  ∀ c : Dev Cert.FfnDactRefIdeal.nD,
    (Cert.Pre_finite2.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3)) (m ((c.tc : Thread Cert.FfnDactRefIdeal.nD Cert.FfnDactRefIdeal.τ).loc Cert.FfnDactRefIdeal.main_arg4))).1 = (fun _ => 1#1)
    ∧ (Cert.Pre_finite2.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3)) (m ((c.tc : Thread Cert.FfnDactRefIdeal.nD Cert.FfnDactRefIdeal.τ).loc Cert.FfnDactRefIdeal.main_arg4))).2.1 = (fun _ => 1#1)
    ∧ (Cert.Pre_finite2.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3)) (m ((c.tc : Thread Cert.FfnDactRefIdeal.nD Cert.FfnDactRefIdeal.τ).loc Cert.FfnDactRefIdeal.main_arg4))).2.2.1 = (fun _ => 1#1)
    ∧ (Cert.Pre_finite2.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3)) (m ((c.tc : Thread Cert.FfnDactRefIdeal.nD Cert.FfnDactRefIdeal.τ).loc Cert.FfnDactRefIdeal.main_arg4))).2.2.2.1 = (fun _ => 1#1)
    ∧ (Cert.Pre_finite2.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3)) (m ((c.tc : Thread Cert.FfnDactRefIdeal.nD Cert.FfnDactRefIdeal.τ).loc Cert.FfnDactRefIdeal.main_arg4))).2.2.2.2 = (fun _ => 1#1)

def Pre_FfnDz (m : (ℓ : Loc Cert.FfnDz.nD Cert.FfnDz.τ Cert.FfnDz.sig) → Buf (Elt Bits) ℓ) : Prop :=
  True

def Pre_FfnDzIdeal (m : (ℓ : Loc Cert.FfnDzIdeal.nD Cert.FfnDzIdeal.τ Cert.FfnDzIdeal.sig) → Buf (Elt Ideal) ℓ) : Prop :=
  True

def Pre_FfnDzIdeal_finite3 [hPre_finite3 : Cert.Pre_finite3.Facts] (m : (ℓ : Loc Cert.FfnDzIdeal.nD Cert.FfnDzIdeal.τ Cert.FfnDzIdeal.sig) → Buf (Elt Ideal) ℓ) : Prop :=
  ∀ c : Dev Cert.FfnDzIdeal.nD,
    (Cert.Pre_finite3.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3)) (m ((c.tc : Thread Cert.FfnDzIdeal.nD Cert.FfnDzIdeal.τ).loc Cert.FfnDzIdeal.main_arg4)) (m ((c.tc : Thread Cert.FfnDzIdeal.nD Cert.FfnDzIdeal.τ).loc Cert.FfnDzIdeal.main_arg5)) (m ((c.tc : Thread Cert.FfnDzIdeal.nD Cert.FfnDzIdeal.τ).loc Cert.FfnDzIdeal.main_arg6))).1 = (fun _ => 1#1)
    ∧ (Cert.Pre_finite3.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3)) (m ((c.tc : Thread Cert.FfnDzIdeal.nD Cert.FfnDzIdeal.τ).loc Cert.FfnDzIdeal.main_arg4)) (m ((c.tc : Thread Cert.FfnDzIdeal.nD Cert.FfnDzIdeal.τ).loc Cert.FfnDzIdeal.main_arg5)) (m ((c.tc : Thread Cert.FfnDzIdeal.nD Cert.FfnDzIdeal.τ).loc Cert.FfnDzIdeal.main_arg6))).2.1 = (fun _ => 1#1)
    ∧ (Cert.Pre_finite3.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3)) (m ((c.tc : Thread Cert.FfnDzIdeal.nD Cert.FfnDzIdeal.τ).loc Cert.FfnDzIdeal.main_arg4)) (m ((c.tc : Thread Cert.FfnDzIdeal.nD Cert.FfnDzIdeal.τ).loc Cert.FfnDzIdeal.main_arg5)) (m ((c.tc : Thread Cert.FfnDzIdeal.nD Cert.FfnDzIdeal.τ).loc Cert.FfnDzIdeal.main_arg6))).2.2.1 = (fun _ => 1#1)
    ∧ (Cert.Pre_finite3.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3)) (m ((c.tc : Thread Cert.FfnDzIdeal.nD Cert.FfnDzIdeal.τ).loc Cert.FfnDzIdeal.main_arg4)) (m ((c.tc : Thread Cert.FfnDzIdeal.nD Cert.FfnDzIdeal.τ).loc Cert.FfnDzIdeal.main_arg5)) (m ((c.tc : Thread Cert.FfnDzIdeal.nD Cert.FfnDzIdeal.τ).loc Cert.FfnDzIdeal.main_arg6))).2.2.2.1 = (fun _ => 1#1)
    ∧ (Cert.Pre_finite3.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3)) (m ((c.tc : Thread Cert.FfnDzIdeal.nD Cert.FfnDzIdeal.τ).loc Cert.FfnDzIdeal.main_arg4)) (m ((c.tc : Thread Cert.FfnDzIdeal.nD Cert.FfnDzIdeal.τ).loc Cert.FfnDzIdeal.main_arg5)) (m ((c.tc : Thread Cert.FfnDzIdeal.nD Cert.FfnDzIdeal.τ).loc Cert.FfnDzIdeal.main_arg6))).2.2.2.2.1 = (fun _ => 1#1)
    ∧ (Cert.Pre_finite3.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3)) (m ((c.tc : Thread Cert.FfnDzIdeal.nD Cert.FfnDzIdeal.τ).loc Cert.FfnDzIdeal.main_arg4)) (m ((c.tc : Thread Cert.FfnDzIdeal.nD Cert.FfnDzIdeal.τ).loc Cert.FfnDzIdeal.main_arg5)) (m ((c.tc : Thread Cert.FfnDzIdeal.nD Cert.FfnDzIdeal.τ).loc Cert.FfnDzIdeal.main_arg6))).2.2.2.2.2.1 = (fun _ => 1#1)
    ∧ (Cert.Pre_finite3.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3)) (m ((c.tc : Thread Cert.FfnDzIdeal.nD Cert.FfnDzIdeal.τ).loc Cert.FfnDzIdeal.main_arg4)) (m ((c.tc : Thread Cert.FfnDzIdeal.nD Cert.FfnDzIdeal.τ).loc Cert.FfnDzIdeal.main_arg5)) (m ((c.tc : Thread Cert.FfnDzIdeal.nD Cert.FfnDzIdeal.τ).loc Cert.FfnDzIdeal.main_arg6))).2.2.2.2.2.2 = (fun _ => 1#1)

def Pre_FfnDzRefIdeal (m : (ℓ : Loc Cert.FfnDzRefIdeal.nD Cert.FfnDzRefIdeal.τ Cert.FfnDzRefIdeal.sig) → Buf (Elt Ideal) ℓ) : Prop :=
  True

def Pre_FfnDzRefIdeal_finite3 [hPre_finite3 : Cert.Pre_finite3.Facts] (m : (ℓ : Loc Cert.FfnDzRefIdeal.nD Cert.FfnDzRefIdeal.τ Cert.FfnDzRefIdeal.sig) → Buf (Elt Ideal) ℓ) : Prop :=
  ∀ c : Dev Cert.FfnDzRefIdeal.nD,
    (Cert.Pre_finite3.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3)) (m ((c.tc : Thread Cert.FfnDzRefIdeal.nD Cert.FfnDzRefIdeal.τ).loc Cert.FfnDzRefIdeal.main_arg4)) (m ((c.tc : Thread Cert.FfnDzRefIdeal.nD Cert.FfnDzRefIdeal.τ).loc Cert.FfnDzRefIdeal.main_arg5)) (m ((c.tc : Thread Cert.FfnDzRefIdeal.nD Cert.FfnDzRefIdeal.τ).loc Cert.FfnDzRefIdeal.main_arg6))).1 = (fun _ => 1#1)
    ∧ (Cert.Pre_finite3.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3)) (m ((c.tc : Thread Cert.FfnDzRefIdeal.nD Cert.FfnDzRefIdeal.τ).loc Cert.FfnDzRefIdeal.main_arg4)) (m ((c.tc : Thread Cert.FfnDzRefIdeal.nD Cert.FfnDzRefIdeal.τ).loc Cert.FfnDzRefIdeal.main_arg5)) (m ((c.tc : Thread Cert.FfnDzRefIdeal.nD Cert.FfnDzRefIdeal.τ).loc Cert.FfnDzRefIdeal.main_arg6))).2.1 = (fun _ => 1#1)
    ∧ (Cert.Pre_finite3.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3)) (m ((c.tc : Thread Cert.FfnDzRefIdeal.nD Cert.FfnDzRefIdeal.τ).loc Cert.FfnDzRefIdeal.main_arg4)) (m ((c.tc : Thread Cert.FfnDzRefIdeal.nD Cert.FfnDzRefIdeal.τ).loc Cert.FfnDzRefIdeal.main_arg5)) (m ((c.tc : Thread Cert.FfnDzRefIdeal.nD Cert.FfnDzRefIdeal.τ).loc Cert.FfnDzRefIdeal.main_arg6))).2.2.1 = (fun _ => 1#1)
    ∧ (Cert.Pre_finite3.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3)) (m ((c.tc : Thread Cert.FfnDzRefIdeal.nD Cert.FfnDzRefIdeal.τ).loc Cert.FfnDzRefIdeal.main_arg4)) (m ((c.tc : Thread Cert.FfnDzRefIdeal.nD Cert.FfnDzRefIdeal.τ).loc Cert.FfnDzRefIdeal.main_arg5)) (m ((c.tc : Thread Cert.FfnDzRefIdeal.nD Cert.FfnDzRefIdeal.τ).loc Cert.FfnDzRefIdeal.main_arg6))).2.2.2.1 = (fun _ => 1#1)
    ∧ (Cert.Pre_finite3.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3)) (m ((c.tc : Thread Cert.FfnDzRefIdeal.nD Cert.FfnDzRefIdeal.τ).loc Cert.FfnDzRefIdeal.main_arg4)) (m ((c.tc : Thread Cert.FfnDzRefIdeal.nD Cert.FfnDzRefIdeal.τ).loc Cert.FfnDzRefIdeal.main_arg5)) (m ((c.tc : Thread Cert.FfnDzRefIdeal.nD Cert.FfnDzRefIdeal.τ).loc Cert.FfnDzRefIdeal.main_arg6))).2.2.2.2.1 = (fun _ => 1#1)
    ∧ (Cert.Pre_finite3.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3)) (m ((c.tc : Thread Cert.FfnDzRefIdeal.nD Cert.FfnDzRefIdeal.τ).loc Cert.FfnDzRefIdeal.main_arg4)) (m ((c.tc : Thread Cert.FfnDzRefIdeal.nD Cert.FfnDzRefIdeal.τ).loc Cert.FfnDzRefIdeal.main_arg5)) (m ((c.tc : Thread Cert.FfnDzRefIdeal.nD Cert.FfnDzRefIdeal.τ).loc Cert.FfnDzRefIdeal.main_arg6))).2.2.2.2.2.1 = (fun _ => 1#1)
    ∧ (Cert.Pre_finite3.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3)) (m ((c.tc : Thread Cert.FfnDzRefIdeal.nD Cert.FfnDzRefIdeal.τ).loc Cert.FfnDzRefIdeal.main_arg4)) (m ((c.tc : Thread Cert.FfnDzRefIdeal.nD Cert.FfnDzRefIdeal.τ).loc Cert.FfnDzRefIdeal.main_arg5)) (m ((c.tc : Thread Cert.FfnDzRefIdeal.nD Cert.FfnDzRefIdeal.τ).loc Cert.FfnDzRefIdeal.main_arg6))).2.2.2.2.2.2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdIdeal_finite4 [hPre_finite4 : Cert.Pre_finite4.Facts] (m : (ℓ : Loc Cert.MergeBwdIdeal.nD Cert.MergeBwdIdeal.τ Cert.MergeBwdIdeal.sig) → Buf (Elt Ideal) ℓ) : Prop :=
  ∀ c : Dev Cert.MergeBwdIdeal.nD,
    (Cert.Pre_finite4.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7))).1 = (fun _ => 1#1)
    ∧ (Cert.Pre_finite4.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7))).2.1 = (fun _ => 1#1)
    ∧ (Cert.Pre_finite4.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7))).2.2.1 = (fun _ => 1#1)
    ∧ (Cert.Pre_finite4.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7))).2.2.2.1 = (fun _ => 1#1)
    ∧ (Cert.Pre_finite4.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7))).2.2.2.2.1 = (fun _ => 1#1)
    ∧ (Cert.Pre_finite4.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7))).2.2.2.2.2.1 = (fun _ => 1#1)
    ∧ (Cert.Pre_finite4.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7))).2.2.2.2.2.2.1 = (fun _ => 1#1)
    ∧ (Cert.Pre_finite4.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7))).2.2.2.2.2.2.2 = (fun _ => 1#1)

def Pre_MergeBwdRefIdeal (m : (ℓ : Loc Cert.MergeBwdRefIdeal.nD Cert.MergeBwdRefIdeal.τ Cert.MergeBwdRefIdeal.sig) → Buf (Elt Ideal) ℓ) : Prop :=
  True

def Pre_MergeBwdRefIdeal_finite4 [hPre_finite4 : Cert.Pre_finite4.Facts] (m : (ℓ : Loc Cert.MergeBwdRefIdeal.nD Cert.MergeBwdRefIdeal.τ Cert.MergeBwdRefIdeal.sig) → Buf (Elt Ideal) ℓ) : Prop :=
  ∀ c : Dev Cert.MergeBwdRefIdeal.nD,
    (Cert.Pre_finite4.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7))).1 = (fun _ => 1#1)
    ∧ (Cert.Pre_finite4.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7))).2.1 = (fun _ => 1#1)
    ∧ (Cert.Pre_finite4.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7))).2.2.1 = (fun _ => 1#1)
    ∧ (Cert.Pre_finite4.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7))).2.2.2.1 = (fun _ => 1#1)
    ∧ (Cert.Pre_finite4.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7))).2.2.2.2.1 = (fun _ => 1#1)
    ∧ (Cert.Pre_finite4.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7))).2.2.2.2.2.1 = (fun _ => 1#1)
    ∧ (Cert.Pre_finite4.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7))).2.2.2.2.2.2.1 = (fun _ => 1#1)
    ∧ (Cert.Pre_finite4.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7))).2.2.2.2.2.2.2 = (fun _ => 1#1)

def Pre_InProjDz (m : (ℓ : Loc Cert.InProjDz.nD Cert.InProjDz.τ Cert.InProjDz.sig) → Buf (Elt Bits) ℓ) : Prop :=
  True

def Pre_InProjDzIdeal (m : (ℓ : Loc Cert.InProjDzIdeal.nD Cert.InProjDzIdeal.τ Cert.InProjDzIdeal.sig) → Buf (Elt Ideal) ℓ) : Prop :=
  True

def Pre_InProjDzIdeal_finite10 [hPre_finite10 : Cert.Pre_finite10.Facts] (m : (ℓ : Loc Cert.InProjDzIdeal.nD Cert.InProjDzIdeal.τ Cert.InProjDzIdeal.sig) → Buf (Elt Ideal) ℓ) : Prop :=
  ∀ c : Dev Cert.InProjDzIdeal.nD,
    (Cert.Pre_finite10.fn (F := Ideal) (m ((c.tc : Thread Cert.InProjDzIdeal.nD Cert.InProjDzIdeal.τ).loc Cert.InProjDzIdeal.main_arg0)) (m ((c.tc : Thread Cert.InProjDzIdeal.nD Cert.InProjDzIdeal.τ).loc Cert.InProjDzIdeal.main_arg1)) (m ((c.tc : Thread Cert.InProjDzIdeal.nD Cert.InProjDzIdeal.τ).loc Cert.InProjDzIdeal.main_arg2)) (m ((c.tc : Thread Cert.InProjDzIdeal.nD Cert.InProjDzIdeal.τ).loc Cert.InProjDzIdeal.main_arg3)) (m ((c.tc : Thread Cert.InProjDzIdeal.nD Cert.InProjDzIdeal.τ).loc Cert.InProjDzIdeal.main_arg4))).1 = (fun _ => 1#1)
    ∧ (Cert.Pre_finite10.fn (F := Ideal) (m ((c.tc : Thread Cert.InProjDzIdeal.nD Cert.InProjDzIdeal.τ).loc Cert.InProjDzIdeal.main_arg0)) (m ((c.tc : Thread Cert.InProjDzIdeal.nD Cert.InProjDzIdeal.τ).loc Cert.InProjDzIdeal.main_arg1)) (m ((c.tc : Thread Cert.InProjDzIdeal.nD Cert.InProjDzIdeal.τ).loc Cert.InProjDzIdeal.main_arg2)) (m ((c.tc : Thread Cert.InProjDzIdeal.nD Cert.InProjDzIdeal.τ).loc Cert.InProjDzIdeal.main_arg3)) (m ((c.tc : Thread Cert.InProjDzIdeal.nD Cert.InProjDzIdeal.τ).loc Cert.InProjDzIdeal.main_arg4))).2.1 = (fun _ => 1#1)
    ∧ (Cert.Pre_finite10.fn (F := Ideal) (m ((c.tc : Thread Cert.InProjDzIdeal.nD Cert.InProjDzIdeal.τ).loc Cert.InProjDzIdeal.main_arg0)) (m ((c.tc : Thread Cert.InProjDzIdeal.nD Cert.InProjDzIdeal.τ).loc Cert.InProjDzIdeal.main_arg1)) (m ((c.tc : Thread Cert.InProjDzIdeal.nD Cert.InProjDzIdeal.τ).loc Cert.InProjDzIdeal.main_arg2)) (m ((c.tc : Thread Cert.InProjDzIdeal.nD Cert.InProjDzIdeal.τ).loc Cert.InProjDzIdeal.main_arg3)) (m ((c.tc : Thread Cert.InProjDzIdeal.nD Cert.InProjDzIdeal.τ).loc Cert.InProjDzIdeal.main_arg4))).2.2.1 = (fun _ => 1#1)
    ∧ (Cert.Pre_finite10.fn (F := Ideal) (m ((c.tc : Thread Cert.InProjDzIdeal.nD Cert.InProjDzIdeal.τ).loc Cert.InProjDzIdeal.main_arg0)) (m ((c.tc : Thread Cert.InProjDzIdeal.nD Cert.InProjDzIdeal.τ).loc Cert.InProjDzIdeal.main_arg1)) (m ((c.tc : Thread Cert.InProjDzIdeal.nD Cert.InProjDzIdeal.τ).loc Cert.InProjDzIdeal.main_arg2)) (m ((c.tc : Thread Cert.InProjDzIdeal.nD Cert.InProjDzIdeal.τ).loc Cert.InProjDzIdeal.main_arg3)) (m ((c.tc : Thread Cert.InProjDzIdeal.nD Cert.InProjDzIdeal.τ).loc Cert.InProjDzIdeal.main_arg4))).2.2.2.1 = (fun _ => 1#1)
    ∧ (Cert.Pre_finite10.fn (F := Ideal) (m ((c.tc : Thread Cert.InProjDzIdeal.nD Cert.InProjDzIdeal.τ).loc Cert.InProjDzIdeal.main_arg0)) (m ((c.tc : Thread Cert.InProjDzIdeal.nD Cert.InProjDzIdeal.τ).loc Cert.InProjDzIdeal.main_arg1)) (m ((c.tc : Thread Cert.InProjDzIdeal.nD Cert.InProjDzIdeal.τ).loc Cert.InProjDzIdeal.main_arg2)) (m ((c.tc : Thread Cert.InProjDzIdeal.nD Cert.InProjDzIdeal.τ).loc Cert.InProjDzIdeal.main_arg3)) (m ((c.tc : Thread Cert.InProjDzIdeal.nD Cert.InProjDzIdeal.τ).loc Cert.InProjDzIdeal.main_arg4))).2.2.2.2 = (fun _ => 1#1)

def Pre_InProjDzRefIdeal (m : (ℓ : Loc Cert.InProjDzRefIdeal.nD Cert.InProjDzRefIdeal.τ Cert.InProjDzRefIdeal.sig) → Buf (Elt Ideal) ℓ) : Prop :=
  True

def Pre_InProjDzRefIdeal_finite10 [hPre_finite10 : Cert.Pre_finite10.Facts] (m : (ℓ : Loc Cert.InProjDzRefIdeal.nD Cert.InProjDzRefIdeal.τ Cert.InProjDzRefIdeal.sig) → Buf (Elt Ideal) ℓ) : Prop :=
  ∀ c : Dev Cert.InProjDzRefIdeal.nD,
    (Cert.Pre_finite10.fn (F := Ideal) (m ((c.tc : Thread Cert.InProjDzRefIdeal.nD Cert.InProjDzRefIdeal.τ).loc Cert.InProjDzRefIdeal.main_arg0)) (m ((c.tc : Thread Cert.InProjDzRefIdeal.nD Cert.InProjDzRefIdeal.τ).loc Cert.InProjDzRefIdeal.main_arg1)) (m ((c.tc : Thread Cert.InProjDzRefIdeal.nD Cert.InProjDzRefIdeal.τ).loc Cert.InProjDzRefIdeal.main_arg2)) (m ((c.tc : Thread Cert.InProjDzRefIdeal.nD Cert.InProjDzRefIdeal.τ).loc Cert.InProjDzRefIdeal.main_arg3)) (m ((c.tc : Thread Cert.InProjDzRefIdeal.nD Cert.InProjDzRefIdeal.τ).loc Cert.InProjDzRefIdeal.main_arg4))).1 = (fun _ => 1#1)
    ∧ (Cert.Pre_finite10.fn (F := Ideal) (m ((c.tc : Thread Cert.InProjDzRefIdeal.nD Cert.InProjDzRefIdeal.τ).loc Cert.InProjDzRefIdeal.main_arg0)) (m ((c.tc : Thread Cert.InProjDzRefIdeal.nD Cert.InProjDzRefIdeal.τ).loc Cert.InProjDzRefIdeal.main_arg1)) (m ((c.tc : Thread Cert.InProjDzRefIdeal.nD Cert.InProjDzRefIdeal.τ).loc Cert.InProjDzRefIdeal.main_arg2)) (m ((c.tc : Thread Cert.InProjDzRefIdeal.nD Cert.InProjDzRefIdeal.τ).loc Cert.InProjDzRefIdeal.main_arg3)) (m ((c.tc : Thread Cert.InProjDzRefIdeal.nD Cert.InProjDzRefIdeal.τ).loc Cert.InProjDzRefIdeal.main_arg4))).2.1 = (fun _ => 1#1)
    ∧ (Cert.Pre_finite10.fn (F := Ideal) (m ((c.tc : Thread Cert.InProjDzRefIdeal.nD Cert.InProjDzRefIdeal.τ).loc Cert.InProjDzRefIdeal.main_arg0)) (m ((c.tc : Thread Cert.InProjDzRefIdeal.nD Cert.InProjDzRefIdeal.τ).loc Cert.InProjDzRefIdeal.main_arg1)) (m ((c.tc : Thread Cert.InProjDzRefIdeal.nD Cert.InProjDzRefIdeal.τ).loc Cert.InProjDzRefIdeal.main_arg2)) (m ((c.tc : Thread Cert.InProjDzRefIdeal.nD Cert.InProjDzRefIdeal.τ).loc Cert.InProjDzRefIdeal.main_arg3)) (m ((c.tc : Thread Cert.InProjDzRefIdeal.nD Cert.InProjDzRefIdeal.τ).loc Cert.InProjDzRefIdeal.main_arg4))).2.2.1 = (fun _ => 1#1)
    ∧ (Cert.Pre_finite10.fn (F := Ideal) (m ((c.tc : Thread Cert.InProjDzRefIdeal.nD Cert.InProjDzRefIdeal.τ).loc Cert.InProjDzRefIdeal.main_arg0)) (m ((c.tc : Thread Cert.InProjDzRefIdeal.nD Cert.InProjDzRefIdeal.τ).loc Cert.InProjDzRefIdeal.main_arg1)) (m ((c.tc : Thread Cert.InProjDzRefIdeal.nD Cert.InProjDzRefIdeal.τ).loc Cert.InProjDzRefIdeal.main_arg2)) (m ((c.tc : Thread Cert.InProjDzRefIdeal.nD Cert.InProjDzRefIdeal.τ).loc Cert.InProjDzRefIdeal.main_arg3)) (m ((c.tc : Thread Cert.InProjDzRefIdeal.nD Cert.InProjDzRefIdeal.τ).loc Cert.InProjDzRefIdeal.main_arg4))).2.2.2.1 = (fun _ => 1#1)
    ∧ (Cert.Pre_finite10.fn (F := Ideal) (m ((c.tc : Thread Cert.InProjDzRefIdeal.nD Cert.InProjDzRefIdeal.τ).loc Cert.InProjDzRefIdeal.main_arg0)) (m ((c.tc : Thread Cert.InProjDzRefIdeal.nD Cert.InProjDzRefIdeal.τ).loc Cert.InProjDzRefIdeal.main_arg1)) (m ((c.tc : Thread Cert.InProjDzRefIdeal.nD Cert.InProjDzRefIdeal.τ).loc Cert.InProjDzRefIdeal.main_arg2)) (m ((c.tc : Thread Cert.InProjDzRefIdeal.nD Cert.InProjDzRefIdeal.τ).loc Cert.InProjDzRefIdeal.main_arg3)) (m ((c.tc : Thread Cert.InProjDzRefIdeal.nD Cert.InProjDzRefIdeal.τ).loc Cert.InProjDzRefIdeal.main_arg4))).2.2.2.2 = (fun _ => 1#1)

def Pre_AttnPrepBwd (m : (ℓ : Loc Cert.AttnPrepBwd.nD Cert.AttnPrepBwd.τ Cert.AttnPrepBwd.sig) → Buf (Elt Bits) ℓ) : Prop :=
  True

def Pre_AttnPrepBwdIdeal (m : (ℓ : Loc Cert.AttnPrepBwdIdeal.nD Cert.AttnPrepBwdIdeal.τ Cert.AttnPrepBwdIdeal.sig) → Buf (Elt Ideal) ℓ) : Prop :=
  True

def Pre_AttnPrepBwdIdeal_finite8 [hPre_finite8 : Cert.Pre_finite8.Facts] (m : (ℓ : Loc Cert.AttnPrepBwdIdeal.nD Cert.AttnPrepBwdIdeal.τ Cert.AttnPrepBwdIdeal.sig) → Buf (Elt Ideal) ℓ) : Prop :=
  ∀ c : Dev Cert.AttnPrepBwdIdeal.nD,
    (Cert.Pre_finite8.fn (F := Ideal) (m ((c.tc : Thread Cert.AttnPrepBwdIdeal.nD Cert.AttnPrepBwdIdeal.τ).loc Cert.AttnPrepBwdIdeal.main_arg0)) (m ((c.tc : Thread Cert.AttnPrepBwdIdeal.nD Cert.AttnPrepBwdIdeal.τ).loc Cert.AttnPrepBwdIdeal.main_arg1)) (m ((c.tc : Thread Cert.AttnPrepBwdIdeal.nD Cert.AttnPrepBwdIdeal.τ).loc Cert.AttnPrepBwdIdeal.main_arg2)) (m ((c.tc : Thread Cert.AttnPrepBwdIdeal.nD Cert.AttnPrepBwdIdeal.τ).loc Cert.AttnPrepBwdIdeal.main_arg3)) (m ((c.tc : Thread Cert.AttnPrepBwdIdeal.nD Cert.AttnPrepBwdIdeal.τ).loc Cert.AttnPrepBwdIdeal.main_arg4))).1 = (fun _ => 1#1)
    ∧ (Cert.Pre_finite8.fn (F := Ideal) (m ((c.tc : Thread Cert.AttnPrepBwdIdeal.nD Cert.AttnPrepBwdIdeal.τ).loc Cert.AttnPrepBwdIdeal.main_arg0)) (m ((c.tc : Thread Cert.AttnPrepBwdIdeal.nD Cert.AttnPrepBwdIdeal.τ).loc Cert.AttnPrepBwdIdeal.main_arg1)) (m ((c.tc : Thread Cert.AttnPrepBwdIdeal.nD Cert.AttnPrepBwdIdeal.τ).loc Cert.AttnPrepBwdIdeal.main_arg2)) (m ((c.tc : Thread Cert.AttnPrepBwdIdeal.nD Cert.AttnPrepBwdIdeal.τ).loc Cert.AttnPrepBwdIdeal.main_arg3)) (m ((c.tc : Thread Cert.AttnPrepBwdIdeal.nD Cert.AttnPrepBwdIdeal.τ).loc Cert.AttnPrepBwdIdeal.main_arg4))).2.1 = (fun _ => 1#1)
    ∧ (Cert.Pre_finite8.fn (F := Ideal) (m ((c.tc : Thread Cert.AttnPrepBwdIdeal.nD Cert.AttnPrepBwdIdeal.τ).loc Cert.AttnPrepBwdIdeal.main_arg0)) (m ((c.tc : Thread Cert.AttnPrepBwdIdeal.nD Cert.AttnPrepBwdIdeal.τ).loc Cert.AttnPrepBwdIdeal.main_arg1)) (m ((c.tc : Thread Cert.AttnPrepBwdIdeal.nD Cert.AttnPrepBwdIdeal.τ).loc Cert.AttnPrepBwdIdeal.main_arg2)) (m ((c.tc : Thread Cert.AttnPrepBwdIdeal.nD Cert.AttnPrepBwdIdeal.τ).loc Cert.AttnPrepBwdIdeal.main_arg3)) (m ((c.tc : Thread Cert.AttnPrepBwdIdeal.nD Cert.AttnPrepBwdIdeal.τ).loc Cert.AttnPrepBwdIdeal.main_arg4))).2.2.1 = (fun _ => 1#1)
    ∧ (Cert.Pre_finite8.fn (F := Ideal) (m ((c.tc : Thread Cert.AttnPrepBwdIdeal.nD Cert.AttnPrepBwdIdeal.τ).loc Cert.AttnPrepBwdIdeal.main_arg0)) (m ((c.tc : Thread Cert.AttnPrepBwdIdeal.nD Cert.AttnPrepBwdIdeal.τ).loc Cert.AttnPrepBwdIdeal.main_arg1)) (m ((c.tc : Thread Cert.AttnPrepBwdIdeal.nD Cert.AttnPrepBwdIdeal.τ).loc Cert.AttnPrepBwdIdeal.main_arg2)) (m ((c.tc : Thread Cert.AttnPrepBwdIdeal.nD Cert.AttnPrepBwdIdeal.τ).loc Cert.AttnPrepBwdIdeal.main_arg3)) (m ((c.tc : Thread Cert.AttnPrepBwdIdeal.nD Cert.AttnPrepBwdIdeal.τ).loc Cert.AttnPrepBwdIdeal.main_arg4))).2.2.2.1 = (fun _ => 1#1)
    ∧ (Cert.Pre_finite8.fn (F := Ideal) (m ((c.tc : Thread Cert.AttnPrepBwdIdeal.nD Cert.AttnPrepBwdIdeal.τ).loc Cert.AttnPrepBwdIdeal.main_arg0)) (m ((c.tc : Thread Cert.AttnPrepBwdIdeal.nD Cert.AttnPrepBwdIdeal.τ).loc Cert.AttnPrepBwdIdeal.main_arg1)) (m ((c.tc : Thread Cert.AttnPrepBwdIdeal.nD Cert.AttnPrepBwdIdeal.τ).loc Cert.AttnPrepBwdIdeal.main_arg2)) (m ((c.tc : Thread Cert.AttnPrepBwdIdeal.nD Cert.AttnPrepBwdIdeal.τ).loc Cert.AttnPrepBwdIdeal.main_arg3)) (m ((c.tc : Thread Cert.AttnPrepBwdIdeal.nD Cert.AttnPrepBwdIdeal.τ).loc Cert.AttnPrepBwdIdeal.main_arg4))).2.2.2.2 = (fun _ => 1#1)

def Pre_AttnPrepBwdRefIdeal (m : (ℓ : Loc Cert.AttnPrepBwdRefIdeal.nD Cert.AttnPrepBwdRefIdeal.τ Cert.AttnPrepBwdRefIdeal.sig) → Buf (Elt Ideal) ℓ) : Prop :=
  True

def Pre_AttnPrepBwdRefIdeal_finite8 [hPre_finite8 : Cert.Pre_finite8.Facts] (m : (ℓ : Loc Cert.AttnPrepBwdRefIdeal.nD Cert.AttnPrepBwdRefIdeal.τ Cert.AttnPrepBwdRefIdeal.sig) → Buf (Elt Ideal) ℓ) : Prop :=
  ∀ c : Dev Cert.AttnPrepBwdRefIdeal.nD,
    (Cert.Pre_finite8.fn (F := Ideal) (m ((c.tc : Thread Cert.AttnPrepBwdRefIdeal.nD Cert.AttnPrepBwdRefIdeal.τ).loc Cert.AttnPrepBwdRefIdeal.main_arg0)) (m ((c.tc : Thread Cert.AttnPrepBwdRefIdeal.nD Cert.AttnPrepBwdRefIdeal.τ).loc Cert.AttnPrepBwdRefIdeal.main_arg1)) (m ((c.tc : Thread Cert.AttnPrepBwdRefIdeal.nD Cert.AttnPrepBwdRefIdeal.τ).loc Cert.AttnPrepBwdRefIdeal.main_arg2)) (m ((c.tc : Thread Cert.AttnPrepBwdRefIdeal.nD Cert.AttnPrepBwdRefIdeal.τ).loc Cert.AttnPrepBwdRefIdeal.main_arg3)) (m ((c.tc : Thread Cert.AttnPrepBwdRefIdeal.nD Cert.AttnPrepBwdRefIdeal.τ).loc Cert.AttnPrepBwdRefIdeal.main_arg4))).1 = (fun _ => 1#1)
    ∧ (Cert.Pre_finite8.fn (F := Ideal) (m ((c.tc : Thread Cert.AttnPrepBwdRefIdeal.nD Cert.AttnPrepBwdRefIdeal.τ).loc Cert.AttnPrepBwdRefIdeal.main_arg0)) (m ((c.tc : Thread Cert.AttnPrepBwdRefIdeal.nD Cert.AttnPrepBwdRefIdeal.τ).loc Cert.AttnPrepBwdRefIdeal.main_arg1)) (m ((c.tc : Thread Cert.AttnPrepBwdRefIdeal.nD Cert.AttnPrepBwdRefIdeal.τ).loc Cert.AttnPrepBwdRefIdeal.main_arg2)) (m ((c.tc : Thread Cert.AttnPrepBwdRefIdeal.nD Cert.AttnPrepBwdRefIdeal.τ).loc Cert.AttnPrepBwdRefIdeal.main_arg3)) (m ((c.tc : Thread Cert.AttnPrepBwdRefIdeal.nD Cert.AttnPrepBwdRefIdeal.τ).loc Cert.AttnPrepBwdRefIdeal.main_arg4))).2.1 = (fun _ => 1#1)
    ∧ (Cert.Pre_finite8.fn (F := Ideal) (m ((c.tc : Thread Cert.AttnPrepBwdRefIdeal.nD Cert.AttnPrepBwdRefIdeal.τ).loc Cert.AttnPrepBwdRefIdeal.main_arg0)) (m ((c.tc : Thread Cert.AttnPrepBwdRefIdeal.nD Cert.AttnPrepBwdRefIdeal.τ).loc Cert.AttnPrepBwdRefIdeal.main_arg1)) (m ((c.tc : Thread Cert.AttnPrepBwdRefIdeal.nD Cert.AttnPrepBwdRefIdeal.τ).loc Cert.AttnPrepBwdRefIdeal.main_arg2)) (m ((c.tc : Thread Cert.AttnPrepBwdRefIdeal.nD Cert.AttnPrepBwdRefIdeal.τ).loc Cert.AttnPrepBwdRefIdeal.main_arg3)) (m ((c.tc : Thread Cert.AttnPrepBwdRefIdeal.nD Cert.AttnPrepBwdRefIdeal.τ).loc Cert.AttnPrepBwdRefIdeal.main_arg4))).2.2.1 = (fun _ => 1#1)
    ∧ (Cert.Pre_finite8.fn (F := Ideal) (m ((c.tc : Thread Cert.AttnPrepBwdRefIdeal.nD Cert.AttnPrepBwdRefIdeal.τ).loc Cert.AttnPrepBwdRefIdeal.main_arg0)) (m ((c.tc : Thread Cert.AttnPrepBwdRefIdeal.nD Cert.AttnPrepBwdRefIdeal.τ).loc Cert.AttnPrepBwdRefIdeal.main_arg1)) (m ((c.tc : Thread Cert.AttnPrepBwdRefIdeal.nD Cert.AttnPrepBwdRefIdeal.τ).loc Cert.AttnPrepBwdRefIdeal.main_arg2)) (m ((c.tc : Thread Cert.AttnPrepBwdRefIdeal.nD Cert.AttnPrepBwdRefIdeal.τ).loc Cert.AttnPrepBwdRefIdeal.main_arg3)) (m ((c.tc : Thread Cert.AttnPrepBwdRefIdeal.nD Cert.AttnPrepBwdRefIdeal.τ).loc Cert.AttnPrepBwdRefIdeal.main_arg4))).2.2.2.1 = (fun _ => 1#1)
    ∧ (Cert.Pre_finite8.fn (F := Ideal) (m ((c.tc : Thread Cert.AttnPrepBwdRefIdeal.nD Cert.AttnPrepBwdRefIdeal.τ).loc Cert.AttnPrepBwdRefIdeal.main_arg0)) (m ((c.tc : Thread Cert.AttnPrepBwdRefIdeal.nD Cert.AttnPrepBwdRefIdeal.τ).loc Cert.AttnPrepBwdRefIdeal.main_arg1)) (m ((c.tc : Thread Cert.AttnPrepBwdRefIdeal.nD Cert.AttnPrepBwdRefIdeal.τ).loc Cert.AttnPrepBwdRefIdeal.main_arg2)) (m ((c.tc : Thread Cert.AttnPrepBwdRefIdeal.nD Cert.AttnPrepBwdRefIdeal.τ).loc Cert.AttnPrepBwdRefIdeal.main_arg3)) (m ((c.tc : Thread Cert.AttnPrepBwdRefIdeal.nD Cert.AttnPrepBwdRefIdeal.τ).loc Cert.AttnPrepBwdRefIdeal.main_arg4))).2.2.2.2 = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdIdeal_finite11 [hPre_finite11 : Cert.Pre_finite11.Facts] (m : (ℓ : Loc Cert.NormFwdIdeal.nD Cert.NormFwdIdeal.τ Cert.NormFwdIdeal.sig) → Buf (Elt Ideal) ℓ) : Prop :=
  ∀ c : Dev Cert.NormFwdIdeal.nD,
    (Cert.Pre_finite11.fn (F := Ideal) (m ((c.tc : Thread Cert.NormFwdIdeal.nD Cert.NormFwdIdeal.τ).loc Cert.NormFwdIdeal.main_arg0)) (m ((c.tc : Thread Cert.NormFwdIdeal.nD Cert.NormFwdIdeal.τ).loc Cert.NormFwdIdeal.main_arg1))).1 = (fun _ => 1#1)
    ∧ (Cert.Pre_finite11.fn (F := Ideal) (m ((c.tc : Thread Cert.NormFwdIdeal.nD Cert.NormFwdIdeal.τ).loc Cert.NormFwdIdeal.main_arg0)) (m ((c.tc : Thread Cert.NormFwdIdeal.nD Cert.NormFwdIdeal.τ).loc Cert.NormFwdIdeal.main_arg1))).2 = (fun _ => 1#1)

def Pre_NormFwdRefIdeal (m : (ℓ : Loc Cert.NormFwdRefIdeal.nD Cert.NormFwdRefIdeal.τ Cert.NormFwdRefIdeal.sig) → Buf (Elt Ideal) ℓ) : Prop :=
  True

def Pre_NormFwdRefIdeal_finite11 [hPre_finite11 : Cert.Pre_finite11.Facts] (m : (ℓ : Loc Cert.NormFwdRefIdeal.nD Cert.NormFwdRefIdeal.τ Cert.NormFwdRefIdeal.sig) → Buf (Elt Ideal) ℓ) : Prop :=
  ∀ c : Dev Cert.NormFwdRefIdeal.nD,
    (Cert.Pre_finite11.fn (F := Ideal) (m ((c.tc : Thread Cert.NormFwdRefIdeal.nD Cert.NormFwdRefIdeal.τ).loc Cert.NormFwdRefIdeal.main_arg0)) (m ((c.tc : Thread Cert.NormFwdRefIdeal.nD Cert.NormFwdRefIdeal.τ).loc Cert.NormFwdRefIdeal.main_arg1))).1 = (fun _ => 1#1)
    ∧ (Cert.Pre_finite11.fn (F := Ideal) (m ((c.tc : Thread Cert.NormFwdRefIdeal.nD Cert.NormFwdRefIdeal.τ).loc Cert.NormFwdRefIdeal.main_arg0)) (m ((c.tc : Thread Cert.NormFwdRefIdeal.nD Cert.NormFwdRefIdeal.τ).loc Cert.NormFwdRefIdeal.main_arg1))).2 = (fun _ => 1#1)

def Pre_GlaOutFwd (m : (ℓ : Loc Cert.GlaOutFwd.nD Cert.GlaOutFwd.τ Cert.GlaOutFwd.sig) → Buf (Elt Bits) ℓ) : Prop :=
  True

def Pre_GlaOutFwdIdeal (m : (ℓ : Loc Cert.GlaOutFwdIdeal.nD Cert.GlaOutFwdIdeal.τ Cert.GlaOutFwdIdeal.sig) → Buf (Elt Ideal) ℓ) : Prop :=
  True

def Pre_GlaOutFwdIdeal_finite12 [hPre_finite12 : Cert.Pre_finite12.Facts] (m : (ℓ : Loc Cert.GlaOutFwdIdeal.nD Cert.GlaOutFwdIdeal.τ Cert.GlaOutFwdIdeal.sig) → Buf (Elt Ideal) ℓ) : Prop :=
  ∀ c : Dev Cert.GlaOutFwdIdeal.nD,
    (Cert.Pre_finite12.fn (F := Ideal) (m ((c.tc : Thread Cert.GlaOutFwdIdeal.nD Cert.GlaOutFwdIdeal.τ).loc Cert.GlaOutFwdIdeal.main_arg0)) (m ((c.tc : Thread Cert.GlaOutFwdIdeal.nD Cert.GlaOutFwdIdeal.τ).loc Cert.GlaOutFwdIdeal.main_arg1)) (m ((c.tc : Thread Cert.GlaOutFwdIdeal.nD Cert.GlaOutFwdIdeal.τ).loc Cert.GlaOutFwdIdeal.main_arg2)) (m ((c.tc : Thread Cert.GlaOutFwdIdeal.nD Cert.GlaOutFwdIdeal.τ).loc Cert.GlaOutFwdIdeal.main_arg3))).1 = (fun _ => 1#1)
    ∧ (Cert.Pre_finite12.fn (F := Ideal) (m ((c.tc : Thread Cert.GlaOutFwdIdeal.nD Cert.GlaOutFwdIdeal.τ).loc Cert.GlaOutFwdIdeal.main_arg0)) (m ((c.tc : Thread Cert.GlaOutFwdIdeal.nD Cert.GlaOutFwdIdeal.τ).loc Cert.GlaOutFwdIdeal.main_arg1)) (m ((c.tc : Thread Cert.GlaOutFwdIdeal.nD Cert.GlaOutFwdIdeal.τ).loc Cert.GlaOutFwdIdeal.main_arg2)) (m ((c.tc : Thread Cert.GlaOutFwdIdeal.nD Cert.GlaOutFwdIdeal.τ).loc Cert.GlaOutFwdIdeal.main_arg3))).2.1 = (fun _ => 1#1)
    ∧ (Cert.Pre_finite12.fn (F := Ideal) (m ((c.tc : Thread Cert.GlaOutFwdIdeal.nD Cert.GlaOutFwdIdeal.τ).loc Cert.GlaOutFwdIdeal.main_arg0)) (m ((c.tc : Thread Cert.GlaOutFwdIdeal.nD Cert.GlaOutFwdIdeal.τ).loc Cert.GlaOutFwdIdeal.main_arg1)) (m ((c.tc : Thread Cert.GlaOutFwdIdeal.nD Cert.GlaOutFwdIdeal.τ).loc Cert.GlaOutFwdIdeal.main_arg2)) (m ((c.tc : Thread Cert.GlaOutFwdIdeal.nD Cert.GlaOutFwdIdeal.τ).loc Cert.GlaOutFwdIdeal.main_arg3))).2.2.1 = (fun _ => 1#1)
    ∧ (Cert.Pre_finite12.fn (F := Ideal) (m ((c.tc : Thread Cert.GlaOutFwdIdeal.nD Cert.GlaOutFwdIdeal.τ).loc Cert.GlaOutFwdIdeal.main_arg0)) (m ((c.tc : Thread Cert.GlaOutFwdIdeal.nD Cert.GlaOutFwdIdeal.τ).loc Cert.GlaOutFwdIdeal.main_arg1)) (m ((c.tc : Thread Cert.GlaOutFwdIdeal.nD Cert.GlaOutFwdIdeal.τ).loc Cert.GlaOutFwdIdeal.main_arg2)) (m ((c.tc : Thread Cert.GlaOutFwdIdeal.nD Cert.GlaOutFwdIdeal.τ).loc Cert.GlaOutFwdIdeal.main_arg3))).2.2.2 = (fun _ => 1#1)

def Pre_GlaOutFwdRefIdeal (m : (ℓ : Loc Cert.GlaOutFwdRefIdeal.nD Cert.GlaOutFwdRefIdeal.τ Cert.GlaOutFwdRefIdeal.sig) → Buf (Elt Ideal) ℓ) : Prop :=
  True

def Pre_GlaOutFwdRefIdeal_finite12 [hPre_finite12 : Cert.Pre_finite12.Facts] (m : (ℓ : Loc Cert.GlaOutFwdRefIdeal.nD Cert.GlaOutFwdRefIdeal.τ Cert.GlaOutFwdRefIdeal.sig) → Buf (Elt Ideal) ℓ) : Prop :=
  ∀ c : Dev Cert.GlaOutFwdRefIdeal.nD,
    (Cert.Pre_finite12.fn (F := Ideal) (m ((c.tc : Thread Cert.GlaOutFwdRefIdeal.nD Cert.GlaOutFwdRefIdeal.τ).loc Cert.GlaOutFwdRefIdeal.main_arg0)) (m ((c.tc : Thread Cert.GlaOutFwdRefIdeal.nD Cert.GlaOutFwdRefIdeal.τ).loc Cert.GlaOutFwdRefIdeal.main_arg1)) (m ((c.tc : Thread Cert.GlaOutFwdRefIdeal.nD Cert.GlaOutFwdRefIdeal.τ).loc Cert.GlaOutFwdRefIdeal.main_arg2)) (m ((c.tc : Thread Cert.GlaOutFwdRefIdeal.nD Cert.GlaOutFwdRefIdeal.τ).loc Cert.GlaOutFwdRefIdeal.main_arg3))).1 = (fun _ => 1#1)
    ∧ (Cert.Pre_finite12.fn (F := Ideal) (m ((c.tc : Thread Cert.GlaOutFwdRefIdeal.nD Cert.GlaOutFwdRefIdeal.τ).loc Cert.GlaOutFwdRefIdeal.main_arg0)) (m ((c.tc : Thread Cert.GlaOutFwdRefIdeal.nD Cert.GlaOutFwdRefIdeal.τ).loc Cert.GlaOutFwdRefIdeal.main_arg1)) (m ((c.tc : Thread Cert.GlaOutFwdRefIdeal.nD Cert.GlaOutFwdRefIdeal.τ).loc Cert.GlaOutFwdRefIdeal.main_arg2)) (m ((c.tc : Thread Cert.GlaOutFwdRefIdeal.nD Cert.GlaOutFwdRefIdeal.τ).loc Cert.GlaOutFwdRefIdeal.main_arg3))).2.1 = (fun _ => 1#1)
    ∧ (Cert.Pre_finite12.fn (F := Ideal) (m ((c.tc : Thread Cert.GlaOutFwdRefIdeal.nD Cert.GlaOutFwdRefIdeal.τ).loc Cert.GlaOutFwdRefIdeal.main_arg0)) (m ((c.tc : Thread Cert.GlaOutFwdRefIdeal.nD Cert.GlaOutFwdRefIdeal.τ).loc Cert.GlaOutFwdRefIdeal.main_arg1)) (m ((c.tc : Thread Cert.GlaOutFwdRefIdeal.nD Cert.GlaOutFwdRefIdeal.τ).loc Cert.GlaOutFwdRefIdeal.main_arg2)) (m ((c.tc : Thread Cert.GlaOutFwdRefIdeal.nD Cert.GlaOutFwdRefIdeal.τ).loc Cert.GlaOutFwdRefIdeal.main_arg3))).2.2.1 = (fun _ => 1#1)
    ∧ (Cert.Pre_finite12.fn (F := Ideal) (m ((c.tc : Thread Cert.GlaOutFwdRefIdeal.nD Cert.GlaOutFwdRefIdeal.τ).loc Cert.GlaOutFwdRefIdeal.main_arg0)) (m ((c.tc : Thread Cert.GlaOutFwdRefIdeal.nD Cert.GlaOutFwdRefIdeal.τ).loc Cert.GlaOutFwdRefIdeal.main_arg1)) (m ((c.tc : Thread Cert.GlaOutFwdRefIdeal.nD Cert.GlaOutFwdRefIdeal.τ).loc Cert.GlaOutFwdRefIdeal.main_arg2)) (m ((c.tc : Thread Cert.GlaOutFwdRefIdeal.nD Cert.GlaOutFwdRefIdeal.τ).loc Cert.GlaOutFwdRefIdeal.main_arg3))).2.2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_finite13 [hPre_finite13 : Cert.Pre_finite13.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_finite13.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))).1 = (fun _ => 1#1)
    ∧ (Cert.Pre_finite13.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))).2.1 = (fun _ => 1#1)
    ∧ (Cert.Pre_finite13.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))).2.2 = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_finite13 [hPre_finite13 : Cert.Pre_finite13.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_finite13.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))).1 = (fun _ => 1#1)
    ∧ (Cert.Pre_finite13.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))).2.1 = (fun _ => 1#1)
    ∧ (Cert.Pre_finite13.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))).2.2 = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdIdeal_finite14 [hPre_finite14 : Cert.Pre_finite14.Facts] (m : (ℓ : Loc Cert.MergeFwdIdeal.nD Cert.MergeFwdIdeal.τ Cert.MergeFwdIdeal.sig) → Buf (Elt Ideal) ℓ) : Prop :=
  ∀ c : Dev Cert.MergeFwdIdeal.nD,
    (Cert.Pre_finite14.fn (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5))).1 = (fun _ => 1#1)
    ∧ (Cert.Pre_finite14.fn (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5))).2.1 = (fun _ => 1#1)
    ∧ (Cert.Pre_finite14.fn (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5))).2.2.1 = (fun _ => 1#1)
    ∧ (Cert.Pre_finite14.fn (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5))).2.2.2.1 = (fun _ => 1#1)
    ∧ (Cert.Pre_finite14.fn (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5))).2.2.2.2.1 = (fun _ => 1#1)
    ∧ (Cert.Pre_finite14.fn (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5))).2.2.2.2.2 = (fun _ => 1#1)

def Pre_MergeFwdRefIdeal (m : (ℓ : Loc Cert.MergeFwdRefIdeal.nD Cert.MergeFwdRefIdeal.τ Cert.MergeFwdRefIdeal.sig) → Buf (Elt Ideal) ℓ) : Prop :=
  True

def Pre_MergeFwdRefIdeal_finite14 [hPre_finite14 : Cert.Pre_finite14.Facts] (m : (ℓ : Loc Cert.MergeFwdRefIdeal.nD Cert.MergeFwdRefIdeal.τ Cert.MergeFwdRefIdeal.sig) → Buf (Elt Ideal) ℓ) : Prop :=
  ∀ c : Dev Cert.MergeFwdRefIdeal.nD,
    (Cert.Pre_finite14.fn (F := Ideal) (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))).1 = (fun _ => 1#1)
    ∧ (Cert.Pre_finite14.fn (F := Ideal) (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))).2.1 = (fun _ => 1#1)
    ∧ (Cert.Pre_finite14.fn (F := Ideal) (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))).2.2.1 = (fun _ => 1#1)
    ∧ (Cert.Pre_finite14.fn (F := Ideal) (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))).2.2.2.1 = (fun _ => 1#1)
    ∧ (Cert.Pre_finite14.fn (F := Ideal) (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))).2.2.2.2.1 = (fun _ => 1#1)
    ∧ (Cert.Pre_finite14.fn (F := Ideal) (m ((c.tc : Thread Cert.MergeFwdRefIdeal.nD Cert.MergeFwdRefIdeal.τ).loc Cert.MergeFwdRefIdeal.main_arg0)) (m ((c.tc : Thread Cert.MergeFwdRefIdeal.nD Cert.MergeFwdRefIdeal.τ).loc Cert.MergeFwdRefIdeal.main_arg1)) (m ((c.tc : Thread Cert.MergeFwdRefIdeal.nD Cert.MergeFwdRefIdeal.τ).loc Cert.MergeFwdRefIdeal.main_arg2)) (m ((c.tc : Thread Cert.MergeFwdRefIdeal.nD Cert.MergeFwdRefIdeal.τ).loc Cert.MergeFwdRefIdeal.main_arg3)) (m ((c.tc : Thread Cert.MergeFwdRefIdeal.nD Cert.MergeFwdRefIdeal.τ).loc Cert.MergeFwdRefIdeal.main_arg4)) (m ((c.tc : Thread Cert.MergeFwdRefIdeal.nD Cert.MergeFwdRefIdeal.τ).loc Cert.MergeFwdRefIdeal.main_arg5))).2.2.2.2.2 = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownIdeal_finite15 [hPre_finite15 : Cert.Pre_finite15.Facts] (m : (ℓ : Loc Cert.FfnDownIdeal.nD Cert.FfnDownIdeal.τ Cert.FfnDownIdeal.sig) → Buf (Elt Ideal) ℓ) : Prop :=
  ∀ c : Dev Cert.FfnDownIdeal.nD,
    (Cert.Pre_finite15.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3))).1 = (fun _ => 1#1)
    ∧ (Cert.Pre_finite15.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3))).2.1 = (fun _ => 1#1)
    ∧ (Cert.Pre_finite15.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3))).2.2.1 = (fun _ => 1#1)
    ∧ (Cert.Pre_finite15.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3))).2.2.2 = (fun _ => 1#1)

def Pre_FfnDownRefIdeal (m : (ℓ : Loc Cert.FfnDownRefIdeal.nD Cert.FfnDownRefIdeal.τ Cert.FfnDownRefIdeal.sig) → Buf (Elt Ideal) ℓ) : Prop :=
  True

def Pre_FfnDownRefIdeal_finite15 [hPre_finite15 : Cert.Pre_finite15.Facts] (m : (ℓ : Loc Cert.FfnDownRefIdeal.nD Cert.FfnDownRefIdeal.τ Cert.FfnDownRefIdeal.sig) → Buf (Elt Ideal) ℓ) : Prop :=
  ∀ c : Dev Cert.FfnDownRefIdeal.nD,
    (Cert.Pre_finite15.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3))).1 = (fun _ => 1#1)
    ∧ (Cert.Pre_finite15.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3))).2.1 = (fun _ => 1#1)
    ∧ (Cert.Pre_finite15.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3))).2.2.1 = (fun _ => 1#1)
    ∧ (Cert.Pre_finite15.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3))).2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite16 [hPre_finite16 : Cert.Pre_finite16.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite16.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3))).1 = (fun _ => 1#1)
    ∧ (Cert.Pre_finite16.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3))).2.1 = (fun _ => 1#1)
    ∧ (Cert.Pre_finite16.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3))).2.2.1 = (fun _ => 1#1)
    ∧ (Cert.Pre_finite16.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3))).2.2.2 = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite16 [hPre_finite16 : Cert.Pre_finite16.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite16.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3))).1 = (fun _ => 1#1)
    ∧ (Cert.Pre_finite16.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3))).2.1 = (fun _ => 1#1)
    ∧ (Cert.Pre_finite16.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3))).2.2.1 = (fun _ => 1#1)
    ∧ (Cert.Pre_finite16.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3))).2.2.2 = (fun _ => 1#1)

def Pre_GlaInBwd (m : (ℓ : Loc Cert.GlaInBwd.nD Cert.GlaInBwd.τ Cert.GlaInBwd.sig) → Buf (Elt Bits) ℓ) : Prop :=
  True

def Pre_GlaInBwdIdeal (m : (ℓ : Loc Cert.GlaInBwdIdeal.nD Cert.GlaInBwdIdeal.τ Cert.GlaInBwdIdeal.sig) → Buf (Elt Ideal) ℓ) : Prop :=
  True

def Pre_GlaInBwdRefIdeal (m : (ℓ : Loc Cert.GlaInBwdRefIdeal.nD Cert.GlaInBwdRefIdeal.τ Cert.GlaInBwdRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite1 [hLossHeadIdeal : Cert.LossHeadIdeal.Facts] [hPre_finite1 : Cert.Pre_finite1.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite1 m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite1 [hLossHeadRefIdeal : Cert.LossHeadRefIdeal.Facts] [hPre_finite1 : Cert.Pre_finite1.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite1 m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite7 [hAttnIdeal : Cert.AttnIdeal.Facts] [hPre_finite7 : Cert.Pre_finite7.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite7 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite7 [hAttnRefIdeal : Cert.AttnRefIdeal.Facts] [hPre_finite7 : Cert.Pre_finite7.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite7 m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_GlaOutBwd [hGlaOutBwd : Cert.GlaOutBwd.Facts] : Prop :=
  ∀ (m : (ℓ : Loc Cert.GlaOutBwd.nD Cert.GlaOutBwd.τ Cert.GlaOutBwd.sig) → Buf (Elt Bits) ℓ) (g : Dev Cert.GlaOutBwd.nD → PrngReg), Pre_GlaOutBwd m →
    θ_run (Cert.GlaOutBwd.defs (F := Bits)) (onTc (τ := Cert.GlaOutBwd.τ) (Cert.GlaOutBwd.main (F := Bits))) ⟨m, fun _ => 0, g⟩ (fun r => (∀ c : Dev Cert.GlaOutBwd.nD,
      r.2.mem ((c.tc : Thread Cert.GlaOutBwd.nD Cert.GlaOutBwd.τ).loc Cert.GlaOutBwd.main_arg0) = m ((c.tc : Thread Cert.GlaOutBwd.nD Cert.GlaOutBwd.τ).loc Cert.GlaOutBwd.main_arg0)
      ∧ r.2.mem ((c.tc : Thread Cert.GlaOutBwd.nD Cert.GlaOutBwd.τ).loc Cert.GlaOutBwd.main_arg1) = m ((c.tc : Thread Cert.GlaOutBwd.nD Cert.GlaOutBwd.τ).loc Cert.GlaOutBwd.main_arg1)
      ∧ r.2.mem ((c.tc : Thread Cert.GlaOutBwd.nD Cert.GlaOutBwd.τ).loc Cert.GlaOutBwd.main_arg2) = m ((c.tc : Thread Cert.GlaOutBwd.nD Cert.GlaOutBwd.τ).loc Cert.GlaOutBwd.main_arg2)
      ∧ r.2.mem ((c.tc : Thread Cert.GlaOutBwd.nD Cert.GlaOutBwd.τ).loc Cert.GlaOutBwd.main_arg3) = m ((c.tc : Thread Cert.GlaOutBwd.nD Cert.GlaOutBwd.τ).loc Cert.GlaOutBwd.main_arg3)
      ∧ r.2.mem ((c.tc : Thread Cert.GlaOutBwd.nD Cert.GlaOutBwd.τ).loc Cert.GlaOutBwd.main_arg4) = m ((c.tc : Thread Cert.GlaOutBwd.nD Cert.GlaOutBwd.τ).loc Cert.GlaOutBwd.main_arg4))
      ∧ r.2.sem = fun _ => 0)

def quiescent_GlaOutBwdIdeal [hGlaOutBwdIdeal : Cert.GlaOutBwdIdeal.Facts] : Prop :=
  ∀ (m : (ℓ : Loc Cert.GlaOutBwdIdeal.nD Cert.GlaOutBwdIdeal.τ Cert.GlaOutBwdIdeal.sig) → Buf (Elt Ideal) ℓ) (g : Dev Cert.GlaOutBwdIdeal.nD → PrngReg), Pre_GlaOutBwdIdeal m →
    θ_run (Cert.GlaOutBwdIdeal.defs (F := Ideal)) (onTc (τ := Cert.GlaOutBwdIdeal.τ) (Cert.GlaOutBwdIdeal.main (F := Ideal))) ⟨m, fun _ => 0, g⟩ (fun r => (∀ c : Dev Cert.GlaOutBwdIdeal.nD,
      r.2.mem ((c.tc : Thread Cert.GlaOutBwdIdeal.nD Cert.GlaOutBwdIdeal.τ).loc Cert.GlaOutBwdIdeal.main_arg0) = m ((c.tc : Thread Cert.GlaOutBwdIdeal.nD Cert.GlaOutBwdIdeal.τ).loc Cert.GlaOutBwdIdeal.main_arg0)
      ∧ r.2.mem ((c.tc : Thread Cert.GlaOutBwdIdeal.nD Cert.GlaOutBwdIdeal.τ).loc Cert.GlaOutBwdIdeal.main_arg1) = m ((c.tc : Thread Cert.GlaOutBwdIdeal.nD Cert.GlaOutBwdIdeal.τ).loc Cert.GlaOutBwdIdeal.main_arg1)
      ∧ r.2.mem ((c.tc : Thread Cert.GlaOutBwdIdeal.nD Cert.GlaOutBwdIdeal.τ).loc Cert.GlaOutBwdIdeal.main_arg2) = m ((c.tc : Thread Cert.GlaOutBwdIdeal.nD Cert.GlaOutBwdIdeal.τ).loc Cert.GlaOutBwdIdeal.main_arg2)
      ∧ r.2.mem ((c.tc : Thread Cert.GlaOutBwdIdeal.nD Cert.GlaOutBwdIdeal.τ).loc Cert.GlaOutBwdIdeal.main_arg3) = m ((c.tc : Thread Cert.GlaOutBwdIdeal.nD Cert.GlaOutBwdIdeal.τ).loc Cert.GlaOutBwdIdeal.main_arg3)
      ∧ r.2.mem ((c.tc : Thread Cert.GlaOutBwdIdeal.nD Cert.GlaOutBwdIdeal.τ).loc Cert.GlaOutBwdIdeal.main_arg4) = m ((c.tc : Thread Cert.GlaOutBwdIdeal.nD Cert.GlaOutBwdIdeal.τ).loc Cert.GlaOutBwdIdeal.main_arg4))
      ∧ r.2.sem = fun _ => 0)

def quiescent_GlaOutBwdIdeal_pre_finite5 [hGlaOutBwdIdeal : Cert.GlaOutBwdIdeal.Facts] [hPre_finite5 : Cert.Pre_finite5.Facts] : Prop :=
  ∀ (m : (ℓ : Loc Cert.GlaOutBwdIdeal.nD Cert.GlaOutBwdIdeal.τ Cert.GlaOutBwdIdeal.sig) → Buf (Elt Ideal) ℓ) (g : Dev Cert.GlaOutBwdIdeal.nD → PrngReg), Pre_GlaOutBwdIdeal_finite5 m →
    θ_run (Cert.GlaOutBwdIdeal.defs (F := Ideal)) (onTc (τ := Cert.GlaOutBwdIdeal.τ) (Cert.GlaOutBwdIdeal.main (F := Ideal))) ⟨m, fun _ => 0, g⟩ (fun r => (∀ c : Dev Cert.GlaOutBwdIdeal.nD,
      r.2.mem ((c.tc : Thread Cert.GlaOutBwdIdeal.nD Cert.GlaOutBwdIdeal.τ).loc Cert.GlaOutBwdIdeal.main_arg0) = m ((c.tc : Thread Cert.GlaOutBwdIdeal.nD Cert.GlaOutBwdIdeal.τ).loc Cert.GlaOutBwdIdeal.main_arg0)
      ∧ r.2.mem ((c.tc : Thread Cert.GlaOutBwdIdeal.nD Cert.GlaOutBwdIdeal.τ).loc Cert.GlaOutBwdIdeal.main_arg1) = m ((c.tc : Thread Cert.GlaOutBwdIdeal.nD Cert.GlaOutBwdIdeal.τ).loc Cert.GlaOutBwdIdeal.main_arg1)
      ∧ r.2.mem ((c.tc : Thread Cert.GlaOutBwdIdeal.nD Cert.GlaOutBwdIdeal.τ).loc Cert.GlaOutBwdIdeal.main_arg2) = m ((c.tc : Thread Cert.GlaOutBwdIdeal.nD Cert.GlaOutBwdIdeal.τ).loc Cert.GlaOutBwdIdeal.main_arg2)
      ∧ r.2.mem ((c.tc : Thread Cert.GlaOutBwdIdeal.nD Cert.GlaOutBwdIdeal.τ).loc Cert.GlaOutBwdIdeal.main_arg3) = m ((c.tc : Thread Cert.GlaOutBwdIdeal.nD Cert.GlaOutBwdIdeal.τ).loc Cert.GlaOutBwdIdeal.main_arg3)
      ∧ r.2.mem ((c.tc : Thread Cert.GlaOutBwdIdeal.nD Cert.GlaOutBwdIdeal.τ).loc Cert.GlaOutBwdIdeal.main_arg4) = m ((c.tc : Thread Cert.GlaOutBwdIdeal.nD Cert.GlaOutBwdIdeal.τ).loc Cert.GlaOutBwdIdeal.main_arg4))
      ∧ r.2.sem = fun _ => 0)

def quiescent_GlaOutBwdRefIdeal [hGlaOutBwdRefIdeal : Cert.GlaOutBwdRefIdeal.Facts] : Prop :=
  ∀ (m : (ℓ : Loc Cert.GlaOutBwdRefIdeal.nD Cert.GlaOutBwdRefIdeal.τ Cert.GlaOutBwdRefIdeal.sig) → Buf (Elt Ideal) ℓ) (g : Dev Cert.GlaOutBwdRefIdeal.nD → PrngReg), Pre_GlaOutBwdRefIdeal m →
    θ_run (Cert.GlaOutBwdRefIdeal.defs (F := Ideal)) (onTc (τ := Cert.GlaOutBwdRefIdeal.τ) (Cert.GlaOutBwdRefIdeal.main (F := Ideal))) ⟨m, fun _ => 0, g⟩ (fun r => (∀ c : Dev Cert.GlaOutBwdRefIdeal.nD,
      r.2.mem ((c.tc : Thread Cert.GlaOutBwdRefIdeal.nD Cert.GlaOutBwdRefIdeal.τ).loc Cert.GlaOutBwdRefIdeal.main_arg0) = m ((c.tc : Thread Cert.GlaOutBwdRefIdeal.nD Cert.GlaOutBwdRefIdeal.τ).loc Cert.GlaOutBwdRefIdeal.main_arg0)
      ∧ r.2.mem ((c.tc : Thread Cert.GlaOutBwdRefIdeal.nD Cert.GlaOutBwdRefIdeal.τ).loc Cert.GlaOutBwdRefIdeal.main_arg1) = m ((c.tc : Thread Cert.GlaOutBwdRefIdeal.nD Cert.GlaOutBwdRefIdeal.τ).loc Cert.GlaOutBwdRefIdeal.main_arg1)
      ∧ r.2.mem ((c.tc : Thread Cert.GlaOutBwdRefIdeal.nD Cert.GlaOutBwdRefIdeal.τ).loc Cert.GlaOutBwdRefIdeal.main_arg2) = m ((c.tc : Thread Cert.GlaOutBwdRefIdeal.nD Cert.GlaOutBwdRefIdeal.τ).loc Cert.GlaOutBwdRefIdeal.main_arg2)
      ∧ r.2.mem ((c.tc : Thread Cert.GlaOutBwdRefIdeal.nD Cert.GlaOutBwdRefIdeal.τ).loc Cert.GlaOutBwdRefIdeal.main_arg3) = m ((c.tc : Thread Cert.GlaOutBwdRefIdeal.nD Cert.GlaOutBwdRefIdeal.τ).loc Cert.GlaOutBwdRefIdeal.main_arg3)
      ∧ r.2.mem ((c.tc : Thread Cert.GlaOutBwdRefIdeal.nD Cert.GlaOutBwdRefIdeal.τ).loc Cert.GlaOutBwdRefIdeal.main_arg4) = m ((c.tc : Thread Cert.GlaOutBwdRefIdeal.nD Cert.GlaOutBwdRefIdeal.τ).loc Cert.GlaOutBwdRefIdeal.main_arg4))
      ∧ r.2.sem = fun _ => 0)

def quiescent_GlaOutBwdRefIdeal_pre_finite5 [hGlaOutBwdRefIdeal : Cert.GlaOutBwdRefIdeal.Facts] [hPre_finite5 : Cert.Pre_finite5.Facts] : Prop :=
  ∀ (m : (ℓ : Loc Cert.GlaOutBwdRefIdeal.nD Cert.GlaOutBwdRefIdeal.τ Cert.GlaOutBwdRefIdeal.sig) → Buf (Elt Ideal) ℓ) (g : Dev Cert.GlaOutBwdRefIdeal.nD → PrngReg), Pre_GlaOutBwdRefIdeal_finite5 m →
    θ_run (Cert.GlaOutBwdRefIdeal.defs (F := Ideal)) (onTc (τ := Cert.GlaOutBwdRefIdeal.τ) (Cert.GlaOutBwdRefIdeal.main (F := Ideal))) ⟨m, fun _ => 0, g⟩ (fun r => (∀ c : Dev Cert.GlaOutBwdRefIdeal.nD,
      r.2.mem ((c.tc : Thread Cert.GlaOutBwdRefIdeal.nD Cert.GlaOutBwdRefIdeal.τ).loc Cert.GlaOutBwdRefIdeal.main_arg0) = m ((c.tc : Thread Cert.GlaOutBwdRefIdeal.nD Cert.GlaOutBwdRefIdeal.τ).loc Cert.GlaOutBwdRefIdeal.main_arg0)
      ∧ r.2.mem ((c.tc : Thread Cert.GlaOutBwdRefIdeal.nD Cert.GlaOutBwdRefIdeal.τ).loc Cert.GlaOutBwdRefIdeal.main_arg1) = m ((c.tc : Thread Cert.GlaOutBwdRefIdeal.nD Cert.GlaOutBwdRefIdeal.τ).loc Cert.GlaOutBwdRefIdeal.main_arg1)
      ∧ r.2.mem ((c.tc : Thread Cert.GlaOutBwdRefIdeal.nD Cert.GlaOutBwdRefIdeal.τ).loc Cert.GlaOutBwdRefIdeal.main_arg2) = m ((c.tc : Thread Cert.GlaOutBwdRefIdeal.nD Cert.GlaOutBwdRefIdeal.τ).loc Cert.GlaOutBwdRefIdeal.main_arg2)
      ∧ r.2.mem ((c.tc : Thread Cert.GlaOutBwdRefIdeal.nD Cert.GlaOutBwdRefIdeal.τ).loc Cert.GlaOutBwdRefIdeal.main_arg3) = m ((c.tc : Thread Cert.GlaOutBwdRefIdeal.nD Cert.GlaOutBwdRefIdeal.τ).loc Cert.GlaOutBwdRefIdeal.main_arg3)
      ∧ r.2.mem ((c.tc : Thread Cert.GlaOutBwdRefIdeal.nD Cert.GlaOutBwdRefIdeal.τ).loc Cert.GlaOutBwdRefIdeal.main_arg4) = m ((c.tc : Thread Cert.GlaOutBwdRefIdeal.nD Cert.GlaOutBwdRefIdeal.τ).loc Cert.GlaOutBwdRefIdeal.main_arg4))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2)
      ∧ r.2.mem ((c.tc : Thread Cert.FfnDact.nD Cert.FfnDact.τ).loc Cert.FfnDact.main_arg3) = m ((c.tc : Thread Cert.FfnDact.nD Cert.FfnDact.τ).loc Cert.FfnDact.main_arg3)
      ∧ r.2.mem ((c.tc : Thread Cert.FfnDact.nD Cert.FfnDact.τ).loc Cert.FfnDact.main_arg4) = m ((c.tc : Thread Cert.FfnDact.nD Cert.FfnDact.τ).loc Cert.FfnDact.main_arg4))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3)
      ∧ r.2.mem ((c.tc : Thread Cert.FfnDactIdeal.nD Cert.FfnDactIdeal.τ).loc Cert.FfnDactIdeal.main_arg4) = m ((c.tc : Thread Cert.FfnDactIdeal.nD Cert.FfnDactIdeal.τ).loc Cert.FfnDactIdeal.main_arg4))
      ∧ r.2.sem = fun _ => 0)

def quiescent_FfnDactIdeal_pre_finite2 [hFfnDactIdeal : Cert.FfnDactIdeal.Facts] [hPre_finite2 : Cert.Pre_finite2.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal_finite2 m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3)
      ∧ r.2.mem ((c.tc : Thread Cert.FfnDactIdeal.nD Cert.FfnDactIdeal.τ).loc Cert.FfnDactIdeal.main_arg4) = m ((c.tc : Thread Cert.FfnDactIdeal.nD Cert.FfnDactIdeal.τ).loc Cert.FfnDactIdeal.main_arg4))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3)
      ∧ r.2.mem ((c.tc : Thread Cert.FfnDactRefIdeal.nD Cert.FfnDactRefIdeal.τ).loc Cert.FfnDactRefIdeal.main_arg4) = m ((c.tc : Thread Cert.FfnDactRefIdeal.nD Cert.FfnDactRefIdeal.τ).loc Cert.FfnDactRefIdeal.main_arg4))
      ∧ r.2.sem = fun _ => 0)

def quiescent_FfnDactRefIdeal_pre_finite2 [hFfnDactRefIdeal : Cert.FfnDactRefIdeal.Facts] [hPre_finite2 : Cert.Pre_finite2.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal_finite2 m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3)
      ∧ r.2.mem ((c.tc : Thread Cert.FfnDactRefIdeal.nD Cert.FfnDactRefIdeal.τ).loc Cert.FfnDactRefIdeal.main_arg4) = m ((c.tc : Thread Cert.FfnDactRefIdeal.nD Cert.FfnDactRefIdeal.τ).loc Cert.FfnDactRefIdeal.main_arg4))
      ∧ r.2.sem = fun _ => 0)

def quiescent_FfnDz [hFfnDz : Cert.FfnDz.Facts] : Prop :=
  ∀ (m : (ℓ : Loc Cert.FfnDz.nD Cert.FfnDz.τ Cert.FfnDz.sig) → Buf (Elt Bits) ℓ) (g : Dev Cert.FfnDz.nD → PrngReg), Pre_FfnDz m →
    θ_run (Cert.FfnDz.defs (F := Bits)) (onTc (τ := Cert.FfnDz.τ) (Cert.FfnDz.main (F := Bits))) ⟨m, fun _ => 0, g⟩ (fun r => (∀ c : Dev Cert.FfnDz.nD,
      r.2.mem ((c.tc : Thread Cert.FfnDz.nD Cert.FfnDz.τ).loc Cert.FfnDz.main_arg0) = m ((c.tc : Thread Cert.FfnDz.nD Cert.FfnDz.τ).loc Cert.FfnDz.main_arg0)
      ∧ r.2.mem ((c.tc : Thread Cert.FfnDz.nD Cert.FfnDz.τ).loc Cert.FfnDz.main_arg1) = m ((c.tc : Thread Cert.FfnDz.nD Cert.FfnDz.τ).loc Cert.FfnDz.main_arg1)
      ∧ r.2.mem ((c.tc : Thread Cert.FfnDz.nD Cert.FfnDz.τ).loc Cert.FfnDz.main_arg2) = m ((c.tc : Thread Cert.FfnDz.nD Cert.FfnDz.τ).loc Cert.FfnDz.main_arg2)
      ∧ r.2.mem ((c.tc : Thread Cert.FfnDz.nD Cert.FfnDz.τ).loc Cert.FfnDz.main_arg3) = m ((c.tc : Thread Cert.FfnDz.nD Cert.FfnDz.τ).loc Cert.FfnDz.main_arg3)
      ∧ r.2.mem ((c.tc : Thread Cert.FfnDz.nD Cert.FfnDz.τ).loc Cert.FfnDz.main_arg4) = m ((c.tc : Thread Cert.FfnDz.nD Cert.FfnDz.τ).loc Cert.FfnDz.main_arg4)
      ∧ r.2.mem ((c.tc : Thread Cert.FfnDz.nD Cert.FfnDz.τ).loc Cert.FfnDz.main_arg5) = m ((c.tc : Thread Cert.FfnDz.nD Cert.FfnDz.τ).loc Cert.FfnDz.main_arg5)
      ∧ r.2.mem ((c.tc : Thread Cert.FfnDz.nD Cert.FfnDz.τ).loc Cert.FfnDz.main_arg6) = m ((c.tc : Thread Cert.FfnDz.nD Cert.FfnDz.τ).loc Cert.FfnDz.main_arg6))
      ∧ r.2.sem = fun _ => 0)

def quiescent_FfnDzIdeal [hFfnDzIdeal : Cert.FfnDzIdeal.Facts] : Prop :=
  ∀ (m : (ℓ : Loc Cert.FfnDzIdeal.nD Cert.FfnDzIdeal.τ Cert.FfnDzIdeal.sig) → Buf (Elt Ideal) ℓ) (g : Dev Cert.FfnDzIdeal.nD → PrngReg), Pre_FfnDzIdeal m →
    θ_run (Cert.FfnDzIdeal.defs (F := Ideal)) (onTc (τ := Cert.FfnDzIdeal.τ) (Cert.FfnDzIdeal.main (F := Ideal))) ⟨m, fun _ => 0, g⟩ (fun r => (∀ c : Dev Cert.FfnDzIdeal.nD,
      r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
      ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1)
      ∧ r.2.mem ((c.tc : Thread Cert.FfnDzIdeal.nD Cert.FfnDzIdeal.τ).loc Cert.FfnDzIdeal.main_arg2) = m ((c.tc : Thread Cert.FfnDzIdeal.nD Cert.FfnDzIdeal.τ).loc Cert.FfnDzIdeal.main_arg2)
      ∧ r.2.mem ((c.tc : Thread Cert.FfnDzIdeal.nD Cert.FfnDzIdeal.τ).loc Cert.FfnDzIdeal.main_arg3) = m ((c.tc : Thread Cert.FfnDzIdeal.nD Cert.FfnDzIdeal.τ).loc Cert.FfnDzIdeal.main_arg3)
      ∧ r.2.mem ((c.tc : Thread Cert.FfnDzIdeal.nD Cert.FfnDzIdeal.τ).loc Cert.FfnDzIdeal.main_arg4) = m ((c.tc : Thread Cert.FfnDzIdeal.nD Cert.FfnDzIdeal.τ).loc Cert.FfnDzIdeal.main_arg4)
      ∧ r.2.mem ((c.tc : Thread Cert.FfnDzIdeal.nD Cert.FfnDzIdeal.τ).loc Cert.FfnDzIdeal.main_arg5) = m ((c.tc : Thread Cert.FfnDzIdeal.nD Cert.FfnDzIdeal.τ).loc Cert.FfnDzIdeal.main_arg5)
      ∧ r.2.mem ((c.tc : Thread Cert.FfnDzIdeal.nD Cert.FfnDzIdeal.τ).loc Cert.FfnDzIdeal.main_arg6) = m ((c.tc : Thread Cert.FfnDzIdeal.nD Cert.FfnDzIdeal.τ).loc Cert.FfnDzIdeal.main_arg6))
      ∧ r.2.sem = fun _ => 0)

def quiescent_FfnDzIdeal_pre_finite3 [hFfnDzIdeal : Cert.FfnDzIdeal.Facts] [hPre_finite3 : Cert.Pre_finite3.Facts] : Prop :=
  ∀ (m : (ℓ : Loc Cert.FfnDzIdeal.nD Cert.FfnDzIdeal.τ Cert.FfnDzIdeal.sig) → Buf (Elt Ideal) ℓ) (g : Dev Cert.FfnDzIdeal.nD → PrngReg), Pre_FfnDzIdeal_finite3 m →
    θ_run (Cert.FfnDzIdeal.defs (F := Ideal)) (onTc (τ := Cert.FfnDzIdeal.τ) (Cert.FfnDzIdeal.main (F := Ideal))) ⟨m, fun _ => 0, g⟩ (fun r => (∀ c : Dev Cert.FfnDzIdeal.nD,
      r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
      ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1)
      ∧ r.2.mem ((c.tc : Thread Cert.FfnDzIdeal.nD Cert.FfnDzIdeal.τ).loc Cert.FfnDzIdeal.main_arg2) = m ((c.tc : Thread Cert.FfnDzIdeal.nD Cert.FfnDzIdeal.τ).loc Cert.FfnDzIdeal.main_arg2)
      ∧ r.2.mem ((c.tc : Thread Cert.FfnDzIdeal.nD Cert.FfnDzIdeal.τ).loc Cert.FfnDzIdeal.main_arg3) = m ((c.tc : Thread Cert.FfnDzIdeal.nD Cert.FfnDzIdeal.τ).loc Cert.FfnDzIdeal.main_arg3)
      ∧ r.2.mem ((c.tc : Thread Cert.FfnDzIdeal.nD Cert.FfnDzIdeal.τ).loc Cert.FfnDzIdeal.main_arg4) = m ((c.tc : Thread Cert.FfnDzIdeal.nD Cert.FfnDzIdeal.τ).loc Cert.FfnDzIdeal.main_arg4)
      ∧ r.2.mem ((c.tc : Thread Cert.FfnDzIdeal.nD Cert.FfnDzIdeal.τ).loc Cert.FfnDzIdeal.main_arg5) = m ((c.tc : Thread Cert.FfnDzIdeal.nD Cert.FfnDzIdeal.τ).loc Cert.FfnDzIdeal.main_arg5)
      ∧ r.2.mem ((c.tc : Thread Cert.FfnDzIdeal.nD Cert.FfnDzIdeal.τ).loc Cert.FfnDzIdeal.main_arg6) = m ((c.tc : Thread Cert.FfnDzIdeal.nD Cert.FfnDzIdeal.τ).loc Cert.FfnDzIdeal.main_arg6))
      ∧ r.2.sem = fun _ => 0)

def quiescent_FfnDzRefIdeal [hFfnDzRefIdeal : Cert.FfnDzRefIdeal.Facts] : Prop :=
  ∀ (m : (ℓ : Loc Cert.FfnDzRefIdeal.nD Cert.FfnDzRefIdeal.τ Cert.FfnDzRefIdeal.sig) → Buf (Elt Ideal) ℓ) (g : Dev Cert.FfnDzRefIdeal.nD → PrngReg), Pre_FfnDzRefIdeal m →
    θ_run (Cert.FfnDzRefIdeal.defs (F := Ideal)) (onTc (τ := Cert.FfnDzRefIdeal.τ) (Cert.FfnDzRefIdeal.main (F := Ideal))) ⟨m, fun _ => 0, g⟩ (fun r => (∀ c : Dev Cert.FfnDzRefIdeal.nD,
      r.2.mem ((c.tc : Thread Cert.FfnDzRefIdeal.nD Cert.FfnDzRefIdeal.τ).loc Cert.FfnDzRefIdeal.main_arg0) = m ((c.tc : Thread Cert.FfnDzRefIdeal.nD Cert.FfnDzRefIdeal.τ).loc Cert.FfnDzRefIdeal.main_arg0)
      ∧ r.2.mem ((c.tc : Thread Cert.FfnDzRefIdeal.nD Cert.FfnDzRefIdeal.τ).loc Cert.FfnDzRefIdeal.main_arg1) = m ((c.tc : Thread Cert.FfnDzRefIdeal.nD Cert.FfnDzRefIdeal.τ).loc Cert.FfnDzRefIdeal.main_arg1)
      ∧ r.2.mem ((c.tc : Thread Cert.FfnDzRefIdeal.nD Cert.FfnDzRefIdeal.τ).loc Cert.FfnDzRefIdeal.main_arg2) = m ((c.tc : Thread Cert.FfnDzRefIdeal.nD Cert.FfnDzRefIdeal.τ).loc Cert.FfnDzRefIdeal.main_arg2)
      ∧ r.2.mem ((c.tc : Thread Cert.FfnDzRefIdeal.nD Cert.FfnDzRefIdeal.τ).loc Cert.FfnDzRefIdeal.main_arg3) = m ((c.tc : Thread Cert.FfnDzRefIdeal.nD Cert.FfnDzRefIdeal.τ).loc Cert.FfnDzRefIdeal.main_arg3)
      ∧ r.2.mem ((c.tc : Thread Cert.FfnDzRefIdeal.nD Cert.FfnDzRefIdeal.τ).loc Cert.FfnDzRefIdeal.main_arg4) = m ((c.tc : Thread Cert.FfnDzRefIdeal.nD Cert.FfnDzRefIdeal.τ).loc Cert.FfnDzRefIdeal.main_arg4)
      ∧ r.2.mem ((c.tc : Thread Cert.FfnDzRefIdeal.nD Cert.FfnDzRefIdeal.τ).loc Cert.FfnDzRefIdeal.main_arg5) = m ((c.tc : Thread Cert.FfnDzRefIdeal.nD Cert.FfnDzRefIdeal.τ).loc Cert.FfnDzRefIdeal.main_arg5)
      ∧ r.2.mem ((c.tc : Thread Cert.FfnDzRefIdeal.nD Cert.FfnDzRefIdeal.τ).loc Cert.FfnDzRefIdeal.main_arg6) = m ((c.tc : Thread Cert.FfnDzRefIdeal.nD Cert.FfnDzRefIdeal.τ).loc Cert.FfnDzRefIdeal.main_arg6))
      ∧ r.2.sem = fun _ => 0)

def quiescent_FfnDzRefIdeal_pre_finite3 [hFfnDzRefIdeal : Cert.FfnDzRefIdeal.Facts] [hPre_finite3 : Cert.Pre_finite3.Facts] : Prop :=
  ∀ (m : (ℓ : Loc Cert.FfnDzRefIdeal.nD Cert.FfnDzRefIdeal.τ Cert.FfnDzRefIdeal.sig) → Buf (Elt Ideal) ℓ) (g : Dev Cert.FfnDzRefIdeal.nD → PrngReg), Pre_FfnDzRefIdeal_finite3 m →
    θ_run (Cert.FfnDzRefIdeal.defs (F := Ideal)) (onTc (τ := Cert.FfnDzRefIdeal.τ) (Cert.FfnDzRefIdeal.main (F := Ideal))) ⟨m, fun _ => 0, g⟩ (fun r => (∀ c : Dev Cert.FfnDzRefIdeal.nD,
      r.2.mem ((c.tc : Thread Cert.FfnDzRefIdeal.nD Cert.FfnDzRefIdeal.τ).loc Cert.FfnDzRefIdeal.main_arg0) = m ((c.tc : Thread Cert.FfnDzRefIdeal.nD Cert.FfnDzRefIdeal.τ).loc Cert.FfnDzRefIdeal.main_arg0)
      ∧ r.2.mem ((c.tc : Thread Cert.FfnDzRefIdeal.nD Cert.FfnDzRefIdeal.τ).loc Cert.FfnDzRefIdeal.main_arg1) = m ((c.tc : Thread Cert.FfnDzRefIdeal.nD Cert.FfnDzRefIdeal.τ).loc Cert.FfnDzRefIdeal.main_arg1)
      ∧ r.2.mem ((c.tc : Thread Cert.FfnDzRefIdeal.nD Cert.FfnDzRefIdeal.τ).loc Cert.FfnDzRefIdeal.main_arg2) = m ((c.tc : Thread Cert.FfnDzRefIdeal.nD Cert.FfnDzRefIdeal.τ).loc Cert.FfnDzRefIdeal.main_arg2)
      ∧ r.2.mem ((c.tc : Thread Cert.FfnDzRefIdeal.nD Cert.FfnDzRefIdeal.τ).loc Cert.FfnDzRefIdeal.main_arg3) = m ((c.tc : Thread Cert.FfnDzRefIdeal.nD Cert.FfnDzRefIdeal.τ).loc Cert.FfnDzRefIdeal.main_arg3)
      ∧ r.2.mem ((c.tc : Thread Cert.FfnDzRefIdeal.nD Cert.FfnDzRefIdeal.τ).loc Cert.FfnDzRefIdeal.main_arg4) = m ((c.tc : Thread Cert.FfnDzRefIdeal.nD Cert.FfnDzRefIdeal.τ).loc Cert.FfnDzRefIdeal.main_arg4)
      ∧ r.2.mem ((c.tc : Thread Cert.FfnDzRefIdeal.nD Cert.FfnDzRefIdeal.τ).loc Cert.FfnDzRefIdeal.main_arg5) = m ((c.tc : Thread Cert.FfnDzRefIdeal.nD Cert.FfnDzRefIdeal.τ).loc Cert.FfnDzRefIdeal.main_arg5)
      ∧ r.2.mem ((c.tc : Thread Cert.FfnDzRefIdeal.nD Cert.FfnDzRefIdeal.τ).loc Cert.FfnDzRefIdeal.main_arg6) = m ((c.tc : Thread Cert.FfnDzRefIdeal.nD Cert.FfnDzRefIdeal.τ).loc Cert.FfnDzRefIdeal.main_arg6))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeBwdIdeal_pre_finite4 [hMergeBwdIdeal : Cert.MergeBwdIdeal.Facts] [hPre_finite4 : Cert.Pre_finite4.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal_finite4 m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7))
      ∧ r.2.sem = fun _ => 0)

def quiescent_MergeBwdRefIdeal_pre_finite4 [hMergeBwdRefIdeal : Cert.MergeBwdRefIdeal.Facts] [hPre_finite4 : Cert.Pre_finite4.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal_finite4 m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7))
      ∧ r.2.sem = fun _ => 0)

def quiescent_InProjDz [hInProjDz : Cert.InProjDz.Facts] : Prop :=
  ∀ (m : (ℓ : Loc Cert.InProjDz.nD Cert.InProjDz.τ Cert.InProjDz.sig) → Buf (Elt Bits) ℓ) (g : Dev Cert.InProjDz.nD → PrngReg), Pre_InProjDz m →
    θ_run (Cert.InProjDz.defs (F := Bits)) (onTc (τ := Cert.InProjDz.τ) (Cert.InProjDz.main (F := Bits))) ⟨m, fun _ => 0, g⟩ (fun r => (∀ c : Dev Cert.InProjDz.nD,
      r.2.mem ((c.tc : Thread Cert.InProjDz.nD Cert.InProjDz.τ).loc Cert.InProjDz.main_arg0) = m ((c.tc : Thread Cert.InProjDz.nD Cert.InProjDz.τ).loc Cert.InProjDz.main_arg0)
      ∧ r.2.mem ((c.tc : Thread Cert.InProjDz.nD Cert.InProjDz.τ).loc Cert.InProjDz.main_arg1) = m ((c.tc : Thread Cert.InProjDz.nD Cert.InProjDz.τ).loc Cert.InProjDz.main_arg1)
      ∧ r.2.mem ((c.tc : Thread Cert.InProjDz.nD Cert.InProjDz.τ).loc Cert.InProjDz.main_arg2) = m ((c.tc : Thread Cert.InProjDz.nD Cert.InProjDz.τ).loc Cert.InProjDz.main_arg2)
      ∧ r.2.mem ((c.tc : Thread Cert.InProjDz.nD Cert.InProjDz.τ).loc Cert.InProjDz.main_arg3) = m ((c.tc : Thread Cert.InProjDz.nD Cert.InProjDz.τ).loc Cert.InProjDz.main_arg3)
      ∧ r.2.mem ((c.tc : Thread Cert.InProjDz.nD Cert.InProjDz.τ).loc Cert.InProjDz.main_arg4) = m ((c.tc : Thread Cert.InProjDz.nD Cert.InProjDz.τ).loc Cert.InProjDz.main_arg4))
      ∧ r.2.sem = fun _ => 0)

def quiescent_InProjDzIdeal [hInProjDzIdeal : Cert.InProjDzIdeal.Facts] : Prop :=
  ∀ (m : (ℓ : Loc Cert.InProjDzIdeal.nD Cert.InProjDzIdeal.τ Cert.InProjDzIdeal.sig) → Buf (Elt Ideal) ℓ) (g : Dev Cert.InProjDzIdeal.nD → PrngReg), Pre_InProjDzIdeal m →
    θ_run (Cert.InProjDzIdeal.defs (F := Ideal)) (onTc (τ := Cert.InProjDzIdeal.τ) (Cert.InProjDzIdeal.main (F := Ideal))) ⟨m, fun _ => 0, g⟩ (fun r => (∀ c : Dev Cert.InProjDzIdeal.nD,
      r.2.mem ((c.tc : Thread Cert.InProjDzIdeal.nD Cert.InProjDzIdeal.τ).loc Cert.InProjDzIdeal.main_arg0) = m ((c.tc : Thread Cert.InProjDzIdeal.nD Cert.InProjDzIdeal.τ).loc Cert.InProjDzIdeal.main_arg0)
      ∧ r.2.mem ((c.tc : Thread Cert.InProjDzIdeal.nD Cert.InProjDzIdeal.τ).loc Cert.InProjDzIdeal.main_arg1) = m ((c.tc : Thread Cert.InProjDzIdeal.nD Cert.InProjDzIdeal.τ).loc Cert.InProjDzIdeal.main_arg1)
      ∧ r.2.mem ((c.tc : Thread Cert.InProjDzIdeal.nD Cert.InProjDzIdeal.τ).loc Cert.InProjDzIdeal.main_arg2) = m ((c.tc : Thread Cert.InProjDzIdeal.nD Cert.InProjDzIdeal.τ).loc Cert.InProjDzIdeal.main_arg2)
      ∧ r.2.mem ((c.tc : Thread Cert.InProjDzIdeal.nD Cert.InProjDzIdeal.τ).loc Cert.InProjDzIdeal.main_arg3) = m ((c.tc : Thread Cert.InProjDzIdeal.nD Cert.InProjDzIdeal.τ).loc Cert.InProjDzIdeal.main_arg3)
      ∧ r.2.mem ((c.tc : Thread Cert.InProjDzIdeal.nD Cert.InProjDzIdeal.τ).loc Cert.InProjDzIdeal.main_arg4) = m ((c.tc : Thread Cert.InProjDzIdeal.nD Cert.InProjDzIdeal.τ).loc Cert.InProjDzIdeal.main_arg4))
      ∧ r.2.sem = fun _ => 0)

def quiescent_InProjDzIdeal_pre_finite10 [hInProjDzIdeal : Cert.InProjDzIdeal.Facts] [hPre_finite10 : Cert.Pre_finite10.Facts] : Prop :=
  ∀ (m : (ℓ : Loc Cert.InProjDzIdeal.nD Cert.InProjDzIdeal.τ Cert.InProjDzIdeal.sig) → Buf (Elt Ideal) ℓ) (g : Dev Cert.InProjDzIdeal.nD → PrngReg), Pre_InProjDzIdeal_finite10 m →
    θ_run (Cert.InProjDzIdeal.defs (F := Ideal)) (onTc (τ := Cert.InProjDzIdeal.τ) (Cert.InProjDzIdeal.main (F := Ideal))) ⟨m, fun _ => 0, g⟩ (fun r => (∀ c : Dev Cert.InProjDzIdeal.nD,
      r.2.mem ((c.tc : Thread Cert.InProjDzIdeal.nD Cert.InProjDzIdeal.τ).loc Cert.InProjDzIdeal.main_arg0) = m ((c.tc : Thread Cert.InProjDzIdeal.nD Cert.InProjDzIdeal.τ).loc Cert.InProjDzIdeal.main_arg0)
      ∧ r.2.mem ((c.tc : Thread Cert.InProjDzIdeal.nD Cert.InProjDzIdeal.τ).loc Cert.InProjDzIdeal.main_arg1) = m ((c.tc : Thread Cert.InProjDzIdeal.nD Cert.InProjDzIdeal.τ).loc Cert.InProjDzIdeal.main_arg1)
      ∧ r.2.mem ((c.tc : Thread Cert.InProjDzIdeal.nD Cert.InProjDzIdeal.τ).loc Cert.InProjDzIdeal.main_arg2) = m ((c.tc : Thread Cert.InProjDzIdeal.nD Cert.InProjDzIdeal.τ).loc Cert.InProjDzIdeal.main_arg2)
      ∧ r.2.mem ((c.tc : Thread Cert.InProjDzIdeal.nD Cert.InProjDzIdeal.τ).loc Cert.InProjDzIdeal.main_arg3) = m ((c.tc : Thread Cert.InProjDzIdeal.nD Cert.InProjDzIdeal.τ).loc Cert.InProjDzIdeal.main_arg3)
      ∧ r.2.mem ((c.tc : Thread Cert.InProjDzIdeal.nD Cert.InProjDzIdeal.τ).loc Cert.InProjDzIdeal.main_arg4) = m ((c.tc : Thread Cert.InProjDzIdeal.nD Cert.InProjDzIdeal.τ).loc Cert.InProjDzIdeal.main_arg4))
      ∧ r.2.sem = fun _ => 0)

def quiescent_InProjDzRefIdeal [hInProjDzRefIdeal : Cert.InProjDzRefIdeal.Facts] : Prop :=
  ∀ (m : (ℓ : Loc Cert.InProjDzRefIdeal.nD Cert.InProjDzRefIdeal.τ Cert.InProjDzRefIdeal.sig) → Buf (Elt Ideal) ℓ) (g : Dev Cert.InProjDzRefIdeal.nD → PrngReg), Pre_InProjDzRefIdeal m →
    θ_run (Cert.InProjDzRefIdeal.defs (F := Ideal)) (onTc (τ := Cert.InProjDzRefIdeal.τ) (Cert.InProjDzRefIdeal.main (F := Ideal))) ⟨m, fun _ => 0, g⟩ (fun r => (∀ c : Dev Cert.InProjDzRefIdeal.nD,
      r.2.mem ((c.tc : Thread Cert.InProjDzRefIdeal.nD Cert.InProjDzRefIdeal.τ).loc Cert.InProjDzRefIdeal.main_arg0) = m ((c.tc : Thread Cert.InProjDzRefIdeal.nD Cert.InProjDzRefIdeal.τ).loc Cert.InProjDzRefIdeal.main_arg0)
      ∧ r.2.mem ((c.tc : Thread Cert.InProjDzRefIdeal.nD Cert.InProjDzRefIdeal.τ).loc Cert.InProjDzRefIdeal.main_arg1) = m ((c.tc : Thread Cert.InProjDzRefIdeal.nD Cert.InProjDzRefIdeal.τ).loc Cert.InProjDzRefIdeal.main_arg1)
      ∧ r.2.mem ((c.tc : Thread Cert.InProjDzRefIdeal.nD Cert.InProjDzRefIdeal.τ).loc Cert.InProjDzRefIdeal.main_arg2) = m ((c.tc : Thread Cert.InProjDzRefIdeal.nD Cert.InProjDzRefIdeal.τ).loc Cert.InProjDzRefIdeal.main_arg2)
      ∧ r.2.mem ((c.tc : Thread Cert.InProjDzRefIdeal.nD Cert.InProjDzRefIdeal.τ).loc Cert.InProjDzRefIdeal.main_arg3) = m ((c.tc : Thread Cert.InProjDzRefIdeal.nD Cert.InProjDzRefIdeal.τ).loc Cert.InProjDzRefIdeal.main_arg3)
      ∧ r.2.mem ((c.tc : Thread Cert.InProjDzRefIdeal.nD Cert.InProjDzRefIdeal.τ).loc Cert.InProjDzRefIdeal.main_arg4) = m ((c.tc : Thread Cert.InProjDzRefIdeal.nD Cert.InProjDzRefIdeal.τ).loc Cert.InProjDzRefIdeal.main_arg4))
      ∧ r.2.sem = fun _ => 0)

def quiescent_InProjDzRefIdeal_pre_finite10 [hInProjDzRefIdeal : Cert.InProjDzRefIdeal.Facts] [hPre_finite10 : Cert.Pre_finite10.Facts] : Prop :=
  ∀ (m : (ℓ : Loc Cert.InProjDzRefIdeal.nD Cert.InProjDzRefIdeal.τ Cert.InProjDzRefIdeal.sig) → Buf (Elt Ideal) ℓ) (g : Dev Cert.InProjDzRefIdeal.nD → PrngReg), Pre_InProjDzRefIdeal_finite10 m →
    θ_run (Cert.InProjDzRefIdeal.defs (F := Ideal)) (onTc (τ := Cert.InProjDzRefIdeal.τ) (Cert.InProjDzRefIdeal.main (F := Ideal))) ⟨m, fun _ => 0, g⟩ (fun r => (∀ c : Dev Cert.InProjDzRefIdeal.nD,
      r.2.mem ((c.tc : Thread Cert.InProjDzRefIdeal.nD Cert.InProjDzRefIdeal.τ).loc Cert.InProjDzRefIdeal.main_arg0) = m ((c.tc : Thread Cert.InProjDzRefIdeal.nD Cert.InProjDzRefIdeal.τ).loc Cert.InProjDzRefIdeal.main_arg0)
      ∧ r.2.mem ((c.tc : Thread Cert.InProjDzRefIdeal.nD Cert.InProjDzRefIdeal.τ).loc Cert.InProjDzRefIdeal.main_arg1) = m ((c.tc : Thread Cert.InProjDzRefIdeal.nD Cert.InProjDzRefIdeal.τ).loc Cert.InProjDzRefIdeal.main_arg1)
      ∧ r.2.mem ((c.tc : Thread Cert.InProjDzRefIdeal.nD Cert.InProjDzRefIdeal.τ).loc Cert.InProjDzRefIdeal.main_arg2) = m ((c.tc : Thread Cert.InProjDzRefIdeal.nD Cert.InProjDzRefIdeal.τ).loc Cert.InProjDzRefIdeal.main_arg2)
      ∧ r.2.mem ((c.tc : Thread Cert.InProjDzRefIdeal.nD Cert.InProjDzRefIdeal.τ).loc Cert.InProjDzRefIdeal.main_arg3) = m ((c.tc : Thread Cert.InProjDzRefIdeal.nD Cert.InProjDzRefIdeal.τ).loc Cert.InProjDzRefIdeal.main_arg3)
      ∧ r.2.mem ((c.tc : Thread Cert.InProjDzRefIdeal.nD Cert.InProjDzRefIdeal.τ).loc Cert.InProjDzRefIdeal.main_arg4) = m ((c.tc : Thread Cert.InProjDzRefIdeal.nD Cert.InProjDzRefIdeal.τ).loc Cert.InProjDzRefIdeal.main_arg4))
      ∧ r.2.sem = fun _ => 0)

def quiescent_AttnPrepBwd [hAttnPrepBwd : Cert.AttnPrepBwd.Facts] : Prop :=
  ∀ (m : (ℓ : Loc Cert.AttnPrepBwd.nD Cert.AttnPrepBwd.τ Cert.AttnPrepBwd.sig) → Buf (Elt Bits) ℓ) (g : Dev Cert.AttnPrepBwd.nD → PrngReg), Pre_AttnPrepBwd m →
    θ_run (Cert.AttnPrepBwd.defs (F := Bits)) (onTc (τ := Cert.AttnPrepBwd.τ) (Cert.AttnPrepBwd.main (F := Bits))) ⟨m, fun _ => 0, g⟩ (fun r => (∀ c : Dev Cert.AttnPrepBwd.nD,
      r.2.mem ((c.tc : Thread Cert.AttnPrepBwd.nD Cert.AttnPrepBwd.τ).loc Cert.AttnPrepBwd.main_arg0) = m ((c.tc : Thread Cert.AttnPrepBwd.nD Cert.AttnPrepBwd.τ).loc Cert.AttnPrepBwd.main_arg0)
      ∧ r.2.mem ((c.tc : Thread Cert.AttnPrepBwd.nD Cert.AttnPrepBwd.τ).loc Cert.AttnPrepBwd.main_arg1) = m ((c.tc : Thread Cert.AttnPrepBwd.nD Cert.AttnPrepBwd.τ).loc Cert.AttnPrepBwd.main_arg1)
      ∧ r.2.mem ((c.tc : Thread Cert.AttnPrepBwd.nD Cert.AttnPrepBwd.τ).loc Cert.AttnPrepBwd.main_arg2) = m ((c.tc : Thread Cert.AttnPrepBwd.nD Cert.AttnPrepBwd.τ).loc Cert.AttnPrepBwd.main_arg2)
      ∧ r.2.mem ((c.tc : Thread Cert.AttnPrepBwd.nD Cert.AttnPrepBwd.τ).loc Cert.AttnPrepBwd.main_arg3) = m ((c.tc : Thread Cert.AttnPrepBwd.nD Cert.AttnPrepBwd.τ).loc Cert.AttnPrepBwd.main_arg3)
      ∧ r.2.mem ((c.tc : Thread Cert.AttnPrepBwd.nD Cert.AttnPrepBwd.τ).loc Cert.AttnPrepBwd.main_arg4) = m ((c.tc : Thread Cert.AttnPrepBwd.nD Cert.AttnPrepBwd.τ).loc Cert.AttnPrepBwd.main_arg4))
      ∧ r.2.sem = fun _ => 0)

def quiescent_AttnPrepBwdIdeal [hAttnPrepBwdIdeal : Cert.AttnPrepBwdIdeal.Facts] : Prop :=
  ∀ (m : (ℓ : Loc Cert.AttnPrepBwdIdeal.nD Cert.AttnPrepBwdIdeal.τ Cert.AttnPrepBwdIdeal.sig) → Buf (Elt Ideal) ℓ) (g : Dev Cert.AttnPrepBwdIdeal.nD → PrngReg), Pre_AttnPrepBwdIdeal m →
    θ_run (Cert.AttnPrepBwdIdeal.defs (F := Ideal)) (onTc (τ := Cert.AttnPrepBwdIdeal.τ) (Cert.AttnPrepBwdIdeal.main (F := Ideal))) ⟨m, fun _ => 0, g⟩ (fun r => (∀ c : Dev Cert.AttnPrepBwdIdeal.nD,
      r.2.mem ((c.tc : Thread Cert.AttnPrepBwdIdeal.nD Cert.AttnPrepBwdIdeal.τ).loc Cert.AttnPrepBwdIdeal.main_arg0) = m ((c.tc : Thread Cert.AttnPrepBwdIdeal.nD Cert.AttnPrepBwdIdeal.τ).loc Cert.AttnPrepBwdIdeal.main_arg0)
      ∧ r.2.mem ((c.tc : Thread Cert.AttnPrepBwdIdeal.nD Cert.AttnPrepBwdIdeal.τ).loc Cert.AttnPrepBwdIdeal.main_arg1) = m ((c.tc : Thread Cert.AttnPrepBwdIdeal.nD Cert.AttnPrepBwdIdeal.τ).loc Cert.AttnPrepBwdIdeal.main_arg1)
      ∧ r.2.mem ((c.tc : Thread Cert.AttnPrepBwdIdeal.nD Cert.AttnPrepBwdIdeal.τ).loc Cert.AttnPrepBwdIdeal.main_arg2) = m ((c.tc : Thread Cert.AttnPrepBwdIdeal.nD Cert.AttnPrepBwdIdeal.τ).loc Cert.AttnPrepBwdIdeal.main_arg2)
      ∧ r.2.mem ((c.tc : Thread Cert.AttnPrepBwdIdeal.nD Cert.AttnPrepBwdIdeal.τ).loc Cert.AttnPrepBwdIdeal.main_arg3) = m ((c.tc : Thread Cert.AttnPrepBwdIdeal.nD Cert.AttnPrepBwdIdeal.τ).loc Cert.AttnPrepBwdIdeal.main_arg3)
      ∧ r.2.mem ((c.tc : Thread Cert.AttnPrepBwdIdeal.nD Cert.AttnPrepBwdIdeal.τ).loc Cert.AttnPrepBwdIdeal.main_arg4) = m ((c.tc : Thread Cert.AttnPrepBwdIdeal.nD Cert.AttnPrepBwdIdeal.τ).loc Cert.AttnPrepBwdIdeal.main_arg4))
      ∧ r.2.sem = fun _ => 0)

def quiescent_AttnPrepBwdIdeal_pre_finite8 [hAttnPrepBwdIdeal : Cert.AttnPrepBwdIdeal.Facts] [hPre_finite8 : Cert.Pre_finite8.Facts] : Prop :=
  ∀ (m : (ℓ : Loc Cert.AttnPrepBwdIdeal.nD Cert.AttnPrepBwdIdeal.τ Cert.AttnPrepBwdIdeal.sig) → Buf (Elt Ideal) ℓ) (g : Dev Cert.AttnPrepBwdIdeal.nD → PrngReg), Pre_AttnPrepBwdIdeal_finite8 m →
    θ_run (Cert.AttnPrepBwdIdeal.defs (F := Ideal)) (onTc (τ := Cert.AttnPrepBwdIdeal.τ) (Cert.AttnPrepBwdIdeal.main (F := Ideal))) ⟨m, fun _ => 0, g⟩ (fun r => (∀ c : Dev Cert.AttnPrepBwdIdeal.nD,
      r.2.mem ((c.tc : Thread Cert.AttnPrepBwdIdeal.nD Cert.AttnPrepBwdIdeal.τ).loc Cert.AttnPrepBwdIdeal.main_arg0) = m ((c.tc : Thread Cert.AttnPrepBwdIdeal.nD Cert.AttnPrepBwdIdeal.τ).loc Cert.AttnPrepBwdIdeal.main_arg0)
      ∧ r.2.mem ((c.tc : Thread Cert.AttnPrepBwdIdeal.nD Cert.AttnPrepBwdIdeal.τ).loc Cert.AttnPrepBwdIdeal.main_arg1) = m ((c.tc : Thread Cert.AttnPrepBwdIdeal.nD Cert.AttnPrepBwdIdeal.τ).loc Cert.AttnPrepBwdIdeal.main_arg1)
      ∧ r.2.mem ((c.tc : Thread Cert.AttnPrepBwdIdeal.nD Cert.AttnPrepBwdIdeal.τ).loc Cert.AttnPrepBwdIdeal.main_arg2) = m ((c.tc : Thread Cert.AttnPrepBwdIdeal.nD Cert.AttnPrepBwdIdeal.τ).loc Cert.AttnPrepBwdIdeal.main_arg2)
      ∧ r.2.mem ((c.tc : Thread Cert.AttnPrepBwdIdeal.nD Cert.AttnPrepBwdIdeal.τ).loc Cert.AttnPrepBwdIdeal.main_arg3) = m ((c.tc : Thread Cert.AttnPrepBwdIdeal.nD Cert.AttnPrepBwdIdeal.τ).loc Cert.AttnPrepBwdIdeal.main_arg3)
      ∧ r.2.mem ((c.tc : Thread Cert.AttnPrepBwdIdeal.nD Cert.AttnPrepBwdIdeal.τ).loc Cert.AttnPrepBwdIdeal.main_arg4) = m ((c.tc : Thread Cert.AttnPrepBwdIdeal.nD Cert.AttnPrepBwdIdeal.τ).loc Cert.AttnPrepBwdIdeal.main_arg4))
      ∧ r.2.sem = fun _ => 0)

def quiescent_AttnPrepBwdRefIdeal [hAttnPrepBwdRefIdeal : Cert.AttnPrepBwdRefIdeal.Facts] : Prop :=
  ∀ (m : (ℓ : Loc Cert.AttnPrepBwdRefIdeal.nD Cert.AttnPrepBwdRefIdeal.τ Cert.AttnPrepBwdRefIdeal.sig) → Buf (Elt Ideal) ℓ) (g : Dev Cert.AttnPrepBwdRefIdeal.nD → PrngReg), Pre_AttnPrepBwdRefIdeal m →
    θ_run (Cert.AttnPrepBwdRefIdeal.defs (F := Ideal)) (onTc (τ := Cert.AttnPrepBwdRefIdeal.τ) (Cert.AttnPrepBwdRefIdeal.main (F := Ideal))) ⟨m, fun _ => 0, g⟩ (fun r => (∀ c : Dev Cert.AttnPrepBwdRefIdeal.nD,
      r.2.mem ((c.tc : Thread Cert.AttnPrepBwdRefIdeal.nD Cert.AttnPrepBwdRefIdeal.τ).loc Cert.AttnPrepBwdRefIdeal.main_arg0) = m ((c.tc : Thread Cert.AttnPrepBwdRefIdeal.nD Cert.AttnPrepBwdRefIdeal.τ).loc Cert.AttnPrepBwdRefIdeal.main_arg0)
      ∧ r.2.mem ((c.tc : Thread Cert.AttnPrepBwdRefIdeal.nD Cert.AttnPrepBwdRefIdeal.τ).loc Cert.AttnPrepBwdRefIdeal.main_arg1) = m ((c.tc : Thread Cert.AttnPrepBwdRefIdeal.nD Cert.AttnPrepBwdRefIdeal.τ).loc Cert.AttnPrepBwdRefIdeal.main_arg1)
      ∧ r.2.mem ((c.tc : Thread Cert.AttnPrepBwdRefIdeal.nD Cert.AttnPrepBwdRefIdeal.τ).loc Cert.AttnPrepBwdRefIdeal.main_arg2) = m ((c.tc : Thread Cert.AttnPrepBwdRefIdeal.nD Cert.AttnPrepBwdRefIdeal.τ).loc Cert.AttnPrepBwdRefIdeal.main_arg2)
      ∧ r.2.mem ((c.tc : Thread Cert.AttnPrepBwdRefIdeal.nD Cert.AttnPrepBwdRefIdeal.τ).loc Cert.AttnPrepBwdRefIdeal.main_arg3) = m ((c.tc : Thread Cert.AttnPrepBwdRefIdeal.nD Cert.AttnPrepBwdRefIdeal.τ).loc Cert.AttnPrepBwdRefIdeal.main_arg3)
      ∧ r.2.mem ((c.tc : Thread Cert.AttnPrepBwdRefIdeal.nD Cert.AttnPrepBwdRefIdeal.τ).loc Cert.AttnPrepBwdRefIdeal.main_arg4) = m ((c.tc : Thread Cert.AttnPrepBwdRefIdeal.nD Cert.AttnPrepBwdRefIdeal.τ).loc Cert.AttnPrepBwdRefIdeal.main_arg4))
      ∧ r.2.sem = fun _ => 0)

def quiescent_AttnPrepBwdRefIdeal_pre_finite8 [hAttnPrepBwdRefIdeal : Cert.AttnPrepBwdRefIdeal.Facts] [hPre_finite8 : Cert.Pre_finite8.Facts] : Prop :=
  ∀ (m : (ℓ : Loc Cert.AttnPrepBwdRefIdeal.nD Cert.AttnPrepBwdRefIdeal.τ Cert.AttnPrepBwdRefIdeal.sig) → Buf (Elt Ideal) ℓ) (g : Dev Cert.AttnPrepBwdRefIdeal.nD → PrngReg), Pre_AttnPrepBwdRefIdeal_finite8 m →
    θ_run (Cert.AttnPrepBwdRefIdeal.defs (F := Ideal)) (onTc (τ := Cert.AttnPrepBwdRefIdeal.τ) (Cert.AttnPrepBwdRefIdeal.main (F := Ideal))) ⟨m, fun _ => 0, g⟩ (fun r => (∀ c : Dev Cert.AttnPrepBwdRefIdeal.nD,
      r.2.mem ((c.tc : Thread Cert.AttnPrepBwdRefIdeal.nD Cert.AttnPrepBwdRefIdeal.τ).loc Cert.AttnPrepBwdRefIdeal.main_arg0) = m ((c.tc : Thread Cert.AttnPrepBwdRefIdeal.nD Cert.AttnPrepBwdRefIdeal.τ).loc Cert.AttnPrepBwdRefIdeal.main_arg0)
      ∧ r.2.mem ((c.tc : Thread Cert.AttnPrepBwdRefIdeal.nD Cert.AttnPrepBwdRefIdeal.τ).loc Cert.AttnPrepBwdRefIdeal.main_arg1) = m ((c.tc : Thread Cert.AttnPrepBwdRefIdeal.nD Cert.AttnPrepBwdRefIdeal.τ).loc Cert.AttnPrepBwdRefIdeal.main_arg1)
      ∧ r.2.mem ((c.tc : Thread Cert.AttnPrepBwdRefIdeal.nD Cert.AttnPrepBwdRefIdeal.τ).loc Cert.AttnPrepBwdRefIdeal.main_arg2) = m ((c.tc : Thread Cert.AttnPrepBwdRefIdeal.nD Cert.AttnPrepBwdRefIdeal.τ).loc Cert.AttnPrepBwdRefIdeal.main_arg2)
      ∧ r.2.mem ((c.tc : Thread Cert.AttnPrepBwdRefIdeal.nD Cert.AttnPrepBwdRefIdeal.τ).loc Cert.AttnPrepBwdRefIdeal.main_arg3) = m ((c.tc : Thread Cert.AttnPrepBwdRefIdeal.nD Cert.AttnPrepBwdRefIdeal.τ).loc Cert.AttnPrepBwdRefIdeal.main_arg3)
      ∧ r.2.mem ((c.tc : Thread Cert.AttnPrepBwdRefIdeal.nD Cert.AttnPrepBwdRefIdeal.τ).loc Cert.AttnPrepBwdRefIdeal.main_arg4) = m ((c.tc : Thread Cert.AttnPrepBwdRefIdeal.nD Cert.AttnPrepBwdRefIdeal.τ).loc Cert.AttnPrepBwdRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdIdeal_pre_finite11 [hNormFwdIdeal : Cert.NormFwdIdeal.Facts] [hPre_finite11 : Cert.Pre_finite11.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal_finite11 m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormFwdRefIdeal_pre_finite11 [hNormFwdRefIdeal : Cert.NormFwdRefIdeal.Facts] [hPre_finite11 : Cert.Pre_finite11.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal_finite11 m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_GlaOutFwd [hGlaOutFwd : Cert.GlaOutFwd.Facts] : Prop :=
  ∀ (m : (ℓ : Loc Cert.GlaOutFwd.nD Cert.GlaOutFwd.τ Cert.GlaOutFwd.sig) → Buf (Elt Bits) ℓ) (g : Dev Cert.GlaOutFwd.nD → PrngReg), Pre_GlaOutFwd m →
    θ_run (Cert.GlaOutFwd.defs (F := Bits)) (onTc (τ := Cert.GlaOutFwd.τ) (Cert.GlaOutFwd.main (F := Bits))) ⟨m, fun _ => 0, g⟩ (fun r => (∀ c : Dev Cert.GlaOutFwd.nD,
      r.2.mem ((c.tc : Thread Cert.GlaOutFwd.nD Cert.GlaOutFwd.τ).loc Cert.GlaOutFwd.main_arg0) = m ((c.tc : Thread Cert.GlaOutFwd.nD Cert.GlaOutFwd.τ).loc Cert.GlaOutFwd.main_arg0)
      ∧ r.2.mem ((c.tc : Thread Cert.GlaOutFwd.nD Cert.GlaOutFwd.τ).loc Cert.GlaOutFwd.main_arg1) = m ((c.tc : Thread Cert.GlaOutFwd.nD Cert.GlaOutFwd.τ).loc Cert.GlaOutFwd.main_arg1)
      ∧ r.2.mem ((c.tc : Thread Cert.GlaOutFwd.nD Cert.GlaOutFwd.τ).loc Cert.GlaOutFwd.main_arg2) = m ((c.tc : Thread Cert.GlaOutFwd.nD Cert.GlaOutFwd.τ).loc Cert.GlaOutFwd.main_arg2)
      ∧ r.2.mem ((c.tc : Thread Cert.GlaOutFwd.nD Cert.GlaOutFwd.τ).loc Cert.GlaOutFwd.main_arg3) = m ((c.tc : Thread Cert.GlaOutFwd.nD Cert.GlaOutFwd.τ).loc Cert.GlaOutFwd.main_arg3))
      ∧ r.2.sem = fun _ => 0)

def quiescent_GlaOutFwdIdeal [hGlaOutFwdIdeal : Cert.GlaOutFwdIdeal.Facts] : Prop :=
  ∀ (m : (ℓ : Loc Cert.GlaOutFwdIdeal.nD Cert.GlaOutFwdIdeal.τ Cert.GlaOutFwdIdeal.sig) → Buf (Elt Ideal) ℓ) (g : Dev Cert.GlaOutFwdIdeal.nD → PrngReg), Pre_GlaOutFwdIdeal m →
    θ_run (Cert.GlaOutFwdIdeal.defs (F := Ideal)) (onTc (τ := Cert.GlaOutFwdIdeal.τ) (Cert.GlaOutFwdIdeal.main (F := Ideal))) ⟨m, fun _ => 0, g⟩ (fun r => (∀ c : Dev Cert.GlaOutFwdIdeal.nD,
      r.2.mem ((c.tc : Thread Cert.GlaOutFwdIdeal.nD Cert.GlaOutFwdIdeal.τ).loc Cert.GlaOutFwdIdeal.main_arg0) = m ((c.tc : Thread Cert.GlaOutFwdIdeal.nD Cert.GlaOutFwdIdeal.τ).loc Cert.GlaOutFwdIdeal.main_arg0)
      ∧ r.2.mem ((c.tc : Thread Cert.GlaOutFwdIdeal.nD Cert.GlaOutFwdIdeal.τ).loc Cert.GlaOutFwdIdeal.main_arg1) = m ((c.tc : Thread Cert.GlaOutFwdIdeal.nD Cert.GlaOutFwdIdeal.τ).loc Cert.GlaOutFwdIdeal.main_arg1)
      ∧ r.2.mem ((c.tc : Thread Cert.GlaOutFwdIdeal.nD Cert.GlaOutFwdIdeal.τ).loc Cert.GlaOutFwdIdeal.main_arg2) = m ((c.tc : Thread Cert.GlaOutFwdIdeal.nD Cert.GlaOutFwdIdeal.τ).loc Cert.GlaOutFwdIdeal.main_arg2)
      ∧ r.2.mem ((c.tc : Thread Cert.GlaOutFwdIdeal.nD Cert.GlaOutFwdIdeal.τ).loc Cert.GlaOutFwdIdeal.main_arg3) = m ((c.tc : Thread Cert.GlaOutFwdIdeal.nD Cert.GlaOutFwdIdeal.τ).loc Cert.GlaOutFwdIdeal.main_arg3))
      ∧ r.2.sem = fun _ => 0)

def quiescent_GlaOutFwdIdeal_pre_finite12 [hGlaOutFwdIdeal : Cert.GlaOutFwdIdeal.Facts] [hPre_finite12 : Cert.Pre_finite12.Facts] : Prop :=
  ∀ (m : (ℓ : Loc Cert.GlaOutFwdIdeal.nD Cert.GlaOutFwdIdeal.τ Cert.GlaOutFwdIdeal.sig) → Buf (Elt Ideal) ℓ) (g : Dev Cert.GlaOutFwdIdeal.nD → PrngReg), Pre_GlaOutFwdIdeal_finite12 m →
    θ_run (Cert.GlaOutFwdIdeal.defs (F := Ideal)) (onTc (τ := Cert.GlaOutFwdIdeal.τ) (Cert.GlaOutFwdIdeal.main (F := Ideal))) ⟨m, fun _ => 0, g⟩ (fun r => (∀ c : Dev Cert.GlaOutFwdIdeal.nD,
      r.2.mem ((c.tc : Thread Cert.GlaOutFwdIdeal.nD Cert.GlaOutFwdIdeal.τ).loc Cert.GlaOutFwdIdeal.main_arg0) = m ((c.tc : Thread Cert.GlaOutFwdIdeal.nD Cert.GlaOutFwdIdeal.τ).loc Cert.GlaOutFwdIdeal.main_arg0)
      ∧ r.2.mem ((c.tc : Thread Cert.GlaOutFwdIdeal.nD Cert.GlaOutFwdIdeal.τ).loc Cert.GlaOutFwdIdeal.main_arg1) = m ((c.tc : Thread Cert.GlaOutFwdIdeal.nD Cert.GlaOutFwdIdeal.τ).loc Cert.GlaOutFwdIdeal.main_arg1)
      ∧ r.2.mem ((c.tc : Thread Cert.GlaOutFwdIdeal.nD Cert.GlaOutFwdIdeal.τ).loc Cert.GlaOutFwdIdeal.main_arg2) = m ((c.tc : Thread Cert.GlaOutFwdIdeal.nD Cert.GlaOutFwdIdeal.τ).loc Cert.GlaOutFwdIdeal.main_arg2)
      ∧ r.2.mem ((c.tc : Thread Cert.GlaOutFwdIdeal.nD Cert.GlaOutFwdIdeal.τ).loc Cert.GlaOutFwdIdeal.main_arg3) = m ((c.tc : Thread Cert.GlaOutFwdIdeal.nD Cert.GlaOutFwdIdeal.τ).loc Cert.GlaOutFwdIdeal.main_arg3))
      ∧ r.2.sem = fun _ => 0)

def quiescent_GlaOutFwdRefIdeal [hGlaOutFwdRefIdeal : Cert.GlaOutFwdRefIdeal.Facts] : Prop :=
  ∀ (m : (ℓ : Loc Cert.GlaOutFwdRefIdeal.nD Cert.GlaOutFwdRefIdeal.τ Cert.GlaOutFwdRefIdeal.sig) → Buf (Elt Ideal) ℓ) (g : Dev Cert.GlaOutFwdRefIdeal.nD → PrngReg), Pre_GlaOutFwdRefIdeal m →
    θ_run (Cert.GlaOutFwdRefIdeal.defs (F := Ideal)) (onTc (τ := Cert.GlaOutFwdRefIdeal.τ) (Cert.GlaOutFwdRefIdeal.main (F := Ideal))) ⟨m, fun _ => 0, g⟩ (fun r => (∀ c : Dev Cert.GlaOutFwdRefIdeal.nD,
      r.2.mem ((c.tc : Thread Cert.GlaOutFwdRefIdeal.nD Cert.GlaOutFwdRefIdeal.τ).loc Cert.GlaOutFwdRefIdeal.main_arg0) = m ((c.tc : Thread Cert.GlaOutFwdRefIdeal.nD Cert.GlaOutFwdRefIdeal.τ).loc Cert.GlaOutFwdRefIdeal.main_arg0)
      ∧ r.2.mem ((c.tc : Thread Cert.GlaOutFwdRefIdeal.nD Cert.GlaOutFwdRefIdeal.τ).loc Cert.GlaOutFwdRefIdeal.main_arg1) = m ((c.tc : Thread Cert.GlaOutFwdRefIdeal.nD Cert.GlaOutFwdRefIdeal.τ).loc Cert.GlaOutFwdRefIdeal.main_arg1)
      ∧ r.2.mem ((c.tc : Thread Cert.GlaOutFwdRefIdeal.nD Cert.GlaOutFwdRefIdeal.τ).loc Cert.GlaOutFwdRefIdeal.main_arg2) = m ((c.tc : Thread Cert.GlaOutFwdRefIdeal.nD Cert.GlaOutFwdRefIdeal.τ).loc Cert.GlaOutFwdRefIdeal.main_arg2)
      ∧ r.2.mem ((c.tc : Thread Cert.GlaOutFwdRefIdeal.nD Cert.GlaOutFwdRefIdeal.τ).loc Cert.GlaOutFwdRefIdeal.main_arg3) = m ((c.tc : Thread Cert.GlaOutFwdRefIdeal.nD Cert.GlaOutFwdRefIdeal.τ).loc Cert.GlaOutFwdRefIdeal.main_arg3))
      ∧ r.2.sem = fun _ => 0)

def quiescent_GlaOutFwdRefIdeal_pre_finite12 [hGlaOutFwdRefIdeal : Cert.GlaOutFwdRefIdeal.Facts] [hPre_finite12 : Cert.Pre_finite12.Facts] : Prop :=
  ∀ (m : (ℓ : Loc Cert.GlaOutFwdRefIdeal.nD Cert.GlaOutFwdRefIdeal.τ Cert.GlaOutFwdRefIdeal.sig) → Buf (Elt Ideal) ℓ) (g : Dev Cert.GlaOutFwdRefIdeal.nD → PrngReg), Pre_GlaOutFwdRefIdeal_finite12 m →
    θ_run (Cert.GlaOutFwdRefIdeal.defs (F := Ideal)) (onTc (τ := Cert.GlaOutFwdRefIdeal.τ) (Cert.GlaOutFwdRefIdeal.main (F := Ideal))) ⟨m, fun _ => 0, g⟩ (fun r => (∀ c : Dev Cert.GlaOutFwdRefIdeal.nD,
      r.2.mem ((c.tc : Thread Cert.GlaOutFwdRefIdeal.nD Cert.GlaOutFwdRefIdeal.τ).loc Cert.GlaOutFwdRefIdeal.main_arg0) = m ((c.tc : Thread Cert.GlaOutFwdRefIdeal.nD Cert.GlaOutFwdRefIdeal.τ).loc Cert.GlaOutFwdRefIdeal.main_arg0)
      ∧ r.2.mem ((c.tc : Thread Cert.GlaOutFwdRefIdeal.nD Cert.GlaOutFwdRefIdeal.τ).loc Cert.GlaOutFwdRefIdeal.main_arg1) = m ((c.tc : Thread Cert.GlaOutFwdRefIdeal.nD Cert.GlaOutFwdRefIdeal.τ).loc Cert.GlaOutFwdRefIdeal.main_arg1)
      ∧ r.2.mem ((c.tc : Thread Cert.GlaOutFwdRefIdeal.nD Cert.GlaOutFwdRefIdeal.τ).loc Cert.GlaOutFwdRefIdeal.main_arg2) = m ((c.tc : Thread Cert.GlaOutFwdRefIdeal.nD Cert.GlaOutFwdRefIdeal.τ).loc Cert.GlaOutFwdRefIdeal.main_arg2)
      ∧ r.2.mem ((c.tc : Thread Cert.GlaOutFwdRefIdeal.nD Cert.GlaOutFwdRefIdeal.τ).loc Cert.GlaOutFwdRefIdeal.main_arg3) = m ((c.tc : Thread Cert.GlaOutFwdRefIdeal.nD Cert.GlaOutFwdRefIdeal.τ).loc Cert.GlaOutFwdRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpIdeal_pre_finite13 [hFfnUpIdeal : Cert.FfnUpIdeal.Facts] [hPre_finite13 : Cert.Pre_finite13.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_finite13 m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnUpRefIdeal_pre_finite13 [hFfnUpRefIdeal : Cert.FfnUpRefIdeal.Facts] [hPre_finite13 : Cert.Pre_finite13.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_finite13 m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdIdeal_pre_finite14 [hMergeFwdIdeal : Cert.MergeFwdIdeal.Facts] [hPre_finite14 : Cert.Pre_finite14.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal_finite14 m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_MergeFwdRefIdeal_pre_finite14 [hMergeFwdRefIdeal : Cert.MergeFwdRefIdeal.Facts] [hPre_finite14 : Cert.Pre_finite14.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal_finite14 m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownIdeal_pre_finite15 [hFfnDownIdeal : Cert.FfnDownIdeal.Facts] [hPre_finite15 : Cert.Pre_finite15.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal_finite15 m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnDownRefIdeal_pre_finite15 [hFfnDownRefIdeal : Cert.FfnDownRefIdeal.Facts] [hPre_finite15 : Cert.Pre_finite15.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal_finite15 m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjIdeal_pre_finite16 [hOutProjIdeal : Cert.OutProjIdeal.Facts] [hPre_finite16 : Cert.Pre_finite16.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite16 m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_OutProjRefIdeal_pre_finite16 [hOutProjRefIdeal : Cert.OutProjRefIdeal.Facts] [hPre_finite16 : Cert.Pre_finite16.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite16 m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_GlaInBwd [hGlaInBwd : Cert.GlaInBwd.Facts] : Prop :=
  ∀ (m : (ℓ : Loc Cert.GlaInBwd.nD Cert.GlaInBwd.τ Cert.GlaInBwd.sig) → Buf (Elt Bits) ℓ) (g : Dev Cert.GlaInBwd.nD → PrngReg), Pre_GlaInBwd m →
    θ_run (Cert.GlaInBwd.defs (F := Bits)) (onTc (τ := Cert.GlaInBwd.τ) (Cert.GlaInBwd.main (F := Bits))) ⟨m, fun _ => 0, g⟩ (fun r => (∀ c : Dev Cert.GlaInBwd.nD,
      r.2.mem ((c.tc : Thread Cert.GlaInBwd.nD Cert.GlaInBwd.τ).loc Cert.GlaInBwd.main_arg0) = m ((c.tc : Thread Cert.GlaInBwd.nD Cert.GlaInBwd.τ).loc Cert.GlaInBwd.main_arg0)
      ∧ r.2.mem ((c.tc : Thread Cert.GlaInBwd.nD Cert.GlaInBwd.τ).loc Cert.GlaInBwd.main_arg1) = m ((c.tc : Thread Cert.GlaInBwd.nD Cert.GlaInBwd.τ).loc Cert.GlaInBwd.main_arg1)
      ∧ r.2.mem ((c.tc : Thread Cert.GlaInBwd.nD Cert.GlaInBwd.τ).loc Cert.GlaInBwd.main_arg2) = m ((c.tc : Thread Cert.GlaInBwd.nD Cert.GlaInBwd.τ).loc Cert.GlaInBwd.main_arg2)
      ∧ r.2.mem ((c.tc : Thread Cert.GlaInBwd.nD Cert.GlaInBwd.τ).loc Cert.GlaInBwd.main_arg3) = m ((c.tc : Thread Cert.GlaInBwd.nD Cert.GlaInBwd.τ).loc Cert.GlaInBwd.main_arg3)
      ∧ r.2.mem ((c.tc : Thread Cert.GlaInBwd.nD Cert.GlaInBwd.τ).loc Cert.GlaInBwd.main_arg4) = m ((c.tc : Thread Cert.GlaInBwd.nD Cert.GlaInBwd.τ).loc Cert.GlaInBwd.main_arg4)
      ∧ r.2.mem ((c.tc : Thread Cert.GlaInBwd.nD Cert.GlaInBwd.τ).loc Cert.GlaInBwd.main_arg5) = m ((c.tc : Thread Cert.GlaInBwd.nD Cert.GlaInBwd.τ).loc Cert.GlaInBwd.main_arg5)
      ∧ r.2.mem ((c.tc : Thread Cert.GlaInBwd.nD Cert.GlaInBwd.τ).loc Cert.GlaInBwd.main_arg6) = m ((c.tc : Thread Cert.GlaInBwd.nD Cert.GlaInBwd.τ).loc Cert.GlaInBwd.main_arg6)
      ∧ r.2.mem ((c.tc : Thread Cert.GlaInBwd.nD Cert.GlaInBwd.τ).loc Cert.GlaInBwd.main_arg7) = m ((c.tc : Thread Cert.GlaInBwd.nD Cert.GlaInBwd.τ).loc Cert.GlaInBwd.main_arg7)
      ∧ r.2.mem ((c.tc : Thread Cert.GlaInBwd.nD Cert.GlaInBwd.τ).loc Cert.GlaInBwd.main_arg8) = m ((c.tc : Thread Cert.GlaInBwd.nD Cert.GlaInBwd.τ).loc Cert.GlaInBwd.main_arg8)
      ∧ r.2.mem ((c.tc : Thread Cert.GlaInBwd.nD Cert.GlaInBwd.τ).loc Cert.GlaInBwd.main_arg9) = m ((c.tc : Thread Cert.GlaInBwd.nD Cert.GlaInBwd.τ).loc Cert.GlaInBwd.main_arg9)
      ∧ r.2.mem ((c.tc : Thread Cert.GlaInBwd.nD Cert.GlaInBwd.τ).loc Cert.GlaInBwd.main_arg10) = m ((c.tc : Thread Cert.GlaInBwd.nD Cert.GlaInBwd.τ).loc Cert.GlaInBwd.main_arg10)
      ∧ r.2.mem ((c.tc : Thread Cert.GlaInBwd.nD Cert.GlaInBwd.τ).loc Cert.GlaInBwd.main_arg11) = m ((c.tc : Thread Cert.GlaInBwd.nD Cert.GlaInBwd.τ).loc Cert.GlaInBwd.main_arg11)
      ∧ r.2.mem ((c.tc : Thread Cert.GlaInBwd.nD Cert.GlaInBwd.τ).loc Cert.GlaInBwd.main_arg12) = m ((c.tc : Thread Cert.GlaInBwd.nD Cert.GlaInBwd.τ).loc Cert.GlaInBwd.main_arg12)
      ∧ r.2.mem ((c.tc : Thread Cert.GlaInBwd.nD Cert.GlaInBwd.τ).loc Cert.GlaInBwd.main_arg13) = m ((c.tc : Thread Cert.GlaInBwd.nD Cert.GlaInBwd.τ).loc Cert.GlaInBwd.main_arg13)
      ∧ r.2.mem ((c.tc : Thread Cert.GlaInBwd.nD Cert.GlaInBwd.τ).loc Cert.GlaInBwd.main_arg14) = m ((c.tc : Thread Cert.GlaInBwd.nD Cert.GlaInBwd.τ).loc Cert.GlaInBwd.main_arg14)
      ∧ r.2.mem ((c.tc : Thread Cert.GlaInBwd.nD Cert.GlaInBwd.τ).loc Cert.GlaInBwd.main_arg15) = m ((c.tc : Thread Cert.GlaInBwd.nD Cert.GlaInBwd.τ).loc Cert.GlaInBwd.main_arg15)
      ∧ r.2.mem ((c.tc : Thread Cert.GlaInBwd.nD Cert.GlaInBwd.τ).loc Cert.GlaInBwd.main_arg16) = m ((c.tc : Thread Cert.GlaInBwd.nD Cert.GlaInBwd.τ).loc Cert.GlaInBwd.main_arg16))
      ∧ r.2.sem = fun _ => 0)

def quiescent_GlaInBwdIdeal [hGlaInBwdIdeal : Cert.GlaInBwdIdeal.Facts] : Prop :=
  ∀ (m : (ℓ : Loc Cert.GlaInBwdIdeal.nD Cert.GlaInBwdIdeal.τ Cert.GlaInBwdIdeal.sig) → Buf (Elt Ideal) ℓ) (g : Dev Cert.GlaInBwdIdeal.nD → PrngReg), Pre_GlaInBwdIdeal m →
    θ_run (Cert.GlaInBwdIdeal.defs (F := Ideal)) (onTc (τ := Cert.GlaInBwdIdeal.τ) (Cert.GlaInBwdIdeal.main (F := Ideal))) ⟨m, fun _ => 0, g⟩ (fun r => (∀ c : Dev Cert.GlaInBwdIdeal.nD,
      r.2.mem ((c.tc : Thread Cert.GlaInBwdIdeal.nD Cert.GlaInBwdIdeal.τ).loc Cert.GlaInBwdIdeal.main_arg0) = m ((c.tc : Thread Cert.GlaInBwdIdeal.nD Cert.GlaInBwdIdeal.τ).loc Cert.GlaInBwdIdeal.main_arg0)
      ∧ r.2.mem ((c.tc : Thread Cert.GlaInBwdIdeal.nD Cert.GlaInBwdIdeal.τ).loc Cert.GlaInBwdIdeal.main_arg1) = m ((c.tc : Thread Cert.GlaInBwdIdeal.nD Cert.GlaInBwdIdeal.τ).loc Cert.GlaInBwdIdeal.main_arg1)
      ∧ r.2.mem ((c.tc : Thread Cert.GlaInBwdIdeal.nD Cert.GlaInBwdIdeal.τ).loc Cert.GlaInBwdIdeal.main_arg2) = m ((c.tc : Thread Cert.GlaInBwdIdeal.nD Cert.GlaInBwdIdeal.τ).loc Cert.GlaInBwdIdeal.main_arg2)
      ∧ r.2.mem ((c.tc : Thread Cert.GlaInBwdIdeal.nD Cert.GlaInBwdIdeal.τ).loc Cert.GlaInBwdIdeal.main_arg3) = m ((c.tc : Thread Cert.GlaInBwdIdeal.nD Cert.GlaInBwdIdeal.τ).loc Cert.GlaInBwdIdeal.main_arg3)
      ∧ r.2.mem ((c.tc : Thread Cert.GlaInBwdIdeal.nD Cert.GlaInBwdIdeal.τ).loc Cert.GlaInBwdIdeal.main_arg4) = m ((c.tc : Thread Cert.GlaInBwdIdeal.nD Cert.GlaInBwdIdeal.τ).loc Cert.GlaInBwdIdeal.main_arg4)
      ∧ r.2.mem ((c.tc : Thread Cert.GlaInBwdIdeal.nD Cert.GlaInBwdIdeal.τ).loc Cert.GlaInBwdIdeal.main_arg5) = m ((c.tc : Thread Cert.GlaInBwdIdeal.nD Cert.GlaInBwdIdeal.τ).loc Cert.GlaInBwdIdeal.main_arg5)
      ∧ r.2.mem ((c.tc : Thread Cert.GlaInBwdIdeal.nD Cert.GlaInBwdIdeal.τ).loc Cert.GlaInBwdIdeal.main_arg6) = m ((c.tc : Thread Cert.GlaInBwdIdeal.nD Cert.GlaInBwdIdeal.τ).loc Cert.GlaInBwdIdeal.main_arg6)
      ∧ r.2.mem ((c.tc : Thread Cert.GlaInBwdIdeal.nD Cert.GlaInBwdIdeal.τ).loc Cert.GlaInBwdIdeal.main_arg7) = m ((c.tc : Thread Cert.GlaInBwdIdeal.nD Cert.GlaInBwdIdeal.τ).loc Cert.GlaInBwdIdeal.main_arg7)
      ∧ r.2.mem ((c.tc : Thread Cert.GlaInBwdIdeal.nD Cert.GlaInBwdIdeal.τ).loc Cert.GlaInBwdIdeal.main_arg8) = m ((c.tc : Thread Cert.GlaInBwdIdeal.nD Cert.GlaInBwdIdeal.τ).loc Cert.GlaInBwdIdeal.main_arg8)
      ∧ r.2.mem ((c.tc : Thread Cert.GlaInBwdIdeal.nD Cert.GlaInBwdIdeal.τ).loc Cert.GlaInBwdIdeal.main_arg9) = m ((c.tc : Thread Cert.GlaInBwdIdeal.nD Cert.GlaInBwdIdeal.τ).loc Cert.GlaInBwdIdeal.main_arg9)
      ∧ r.2.mem ((c.tc : Thread Cert.GlaInBwdIdeal.nD Cert.GlaInBwdIdeal.τ).loc Cert.GlaInBwdIdeal.main_arg10) = m ((c.tc : Thread Cert.GlaInBwdIdeal.nD Cert.GlaInBwdIdeal.τ).loc Cert.GlaInBwdIdeal.main_arg10)
      ∧ r.2.mem ((c.tc : Thread Cert.GlaInBwdIdeal.nD Cert.GlaInBwdIdeal.τ).loc Cert.GlaInBwdIdeal.main_arg11) = m ((c.tc : Thread Cert.GlaInBwdIdeal.nD Cert.GlaInBwdIdeal.τ).loc Cert.GlaInBwdIdeal.main_arg11)
      ∧ r.2.mem ((c.tc : Thread Cert.GlaInBwdIdeal.nD Cert.GlaInBwdIdeal.τ).loc Cert.GlaInBwdIdeal.main_arg12) = m ((c.tc : Thread Cert.GlaInBwdIdeal.nD Cert.GlaInBwdIdeal.τ).loc Cert.GlaInBwdIdeal.main_arg12)
      ∧ r.2.mem ((c.tc : Thread Cert.GlaInBwdIdeal.nD Cert.GlaInBwdIdeal.τ).loc Cert.GlaInBwdIdeal.main_arg13) = m ((c.tc : Thread Cert.GlaInBwdIdeal.nD Cert.GlaInBwdIdeal.τ).loc Cert.GlaInBwdIdeal.main_arg13)
      ∧ r.2.mem ((c.tc : Thread Cert.GlaInBwdIdeal.nD Cert.GlaInBwdIdeal.τ).loc Cert.GlaInBwdIdeal.main_arg14) = m ((c.tc : Thread Cert.GlaInBwdIdeal.nD Cert.GlaInBwdIdeal.τ).loc Cert.GlaInBwdIdeal.main_arg14)
      ∧ r.2.mem ((c.tc : Thread Cert.GlaInBwdIdeal.nD Cert.GlaInBwdIdeal.τ).loc Cert.GlaInBwdIdeal.main_arg15) = m ((c.tc : Thread Cert.GlaInBwdIdeal.nD Cert.GlaInBwdIdeal.τ).loc Cert.GlaInBwdIdeal.main_arg15)
      ∧ r.2.mem ((c.tc : Thread Cert.GlaInBwdIdeal.nD Cert.GlaInBwdIdeal.τ).loc Cert.GlaInBwdIdeal.main_arg16) = m ((c.tc : Thread Cert.GlaInBwdIdeal.nD Cert.GlaInBwdIdeal.τ).loc Cert.GlaInBwdIdeal.main_arg16))
      ∧ r.2.sem = fun _ => 0)

def quiescent_GlaInBwdRefIdeal [hGlaInBwdRefIdeal : Cert.GlaInBwdRefIdeal.Facts] : Prop :=
  ∀ (m : (ℓ : Loc Cert.GlaInBwdRefIdeal.nD Cert.GlaInBwdRefIdeal.τ Cert.GlaInBwdRefIdeal.sig) → Buf (Elt Ideal) ℓ) (g : Dev Cert.GlaInBwdRefIdeal.nD → PrngReg), Pre_GlaInBwdRefIdeal m →
    θ_run (Cert.GlaInBwdRefIdeal.defs (F := Ideal)) (onTc (τ := Cert.GlaInBwdRefIdeal.τ) (Cert.GlaInBwdRefIdeal.main (F := Ideal))) ⟨m, fun _ => 0, g⟩ (fun r => (∀ c : Dev Cert.GlaInBwdRefIdeal.nD,
      r.2.mem ((c.tc : Thread Cert.GlaInBwdRefIdeal.nD Cert.GlaInBwdRefIdeal.τ).loc Cert.GlaInBwdRefIdeal.main_arg0) = m ((c.tc : Thread Cert.GlaInBwdRefIdeal.nD Cert.GlaInBwdRefIdeal.τ).loc Cert.GlaInBwdRefIdeal.main_arg0)
      ∧ r.2.mem ((c.tc : Thread Cert.GlaInBwdRefIdeal.nD Cert.GlaInBwdRefIdeal.τ).loc Cert.GlaInBwdRefIdeal.main_arg1) = m ((c.tc : Thread Cert.GlaInBwdRefIdeal.nD Cert.GlaInBwdRefIdeal.τ).loc Cert.GlaInBwdRefIdeal.main_arg1)
      ∧ r.2.mem ((c.tc : Thread Cert.GlaInBwdRefIdeal.nD Cert.GlaInBwdRefIdeal.τ).loc Cert.GlaInBwdRefIdeal.main_arg2) = m ((c.tc : Thread Cert.GlaInBwdRefIdeal.nD Cert.GlaInBwdRefIdeal.τ).loc Cert.GlaInBwdRefIdeal.main_arg2)
      ∧ r.2.mem ((c.tc : Thread Cert.GlaInBwdRefIdeal.nD Cert.GlaInBwdRefIdeal.τ).loc Cert.GlaInBwdRefIdeal.main_arg3) = m ((c.tc : Thread Cert.GlaInBwdRefIdeal.nD Cert.GlaInBwdRefIdeal.τ).loc Cert.GlaInBwdRefIdeal.main_arg3)
      ∧ r.2.mem ((c.tc : Thread Cert.GlaInBwdRefIdeal.nD Cert.GlaInBwdRefIdeal.τ).loc Cert.GlaInBwdRefIdeal.main_arg4) = m ((c.tc : Thread Cert.GlaInBwdRefIdeal.nD Cert.GlaInBwdRefIdeal.τ).loc Cert.GlaInBwdRefIdeal.main_arg4)
      ∧ r.2.mem ((c.tc : Thread Cert.GlaInBwdRefIdeal.nD Cert.GlaInBwdRefIdeal.τ).loc Cert.GlaInBwdRefIdeal.main_arg5) = m ((c.tc : Thread Cert.GlaInBwdRefIdeal.nD Cert.GlaInBwdRefIdeal.τ).loc Cert.GlaInBwdRefIdeal.main_arg5)
      ∧ r.2.mem ((c.tc : Thread Cert.GlaInBwdRefIdeal.nD Cert.GlaInBwdRefIdeal.τ).loc Cert.GlaInBwdRefIdeal.main_arg6) = m ((c.tc : Thread Cert.GlaInBwdRefIdeal.nD Cert.GlaInBwdRefIdeal.τ).loc Cert.GlaInBwdRefIdeal.main_arg6)
      ∧ r.2.mem ((c.tc : Thread Cert.GlaInBwdRefIdeal.nD Cert.GlaInBwdRefIdeal.τ).loc Cert.GlaInBwdRefIdeal.main_arg7) = m ((c.tc : Thread Cert.GlaInBwdRefIdeal.nD Cert.GlaInBwdRefIdeal.τ).loc Cert.GlaInBwdRefIdeal.main_arg7)
      ∧ r.2.mem ((c.tc : Thread Cert.GlaInBwdRefIdeal.nD Cert.GlaInBwdRefIdeal.τ).loc Cert.GlaInBwdRefIdeal.main_arg8) = m ((c.tc : Thread Cert.GlaInBwdRefIdeal.nD Cert.GlaInBwdRefIdeal.τ).loc Cert.GlaInBwdRefIdeal.main_arg8)
      ∧ r.2.mem ((c.tc : Thread Cert.GlaInBwdRefIdeal.nD Cert.GlaInBwdRefIdeal.τ).loc Cert.GlaInBwdRefIdeal.main_arg9) = m ((c.tc : Thread Cert.GlaInBwdRefIdeal.nD Cert.GlaInBwdRefIdeal.τ).loc Cert.GlaInBwdRefIdeal.main_arg9)
      ∧ r.2.mem ((c.tc : Thread Cert.GlaInBwdRefIdeal.nD Cert.GlaInBwdRefIdeal.τ).loc Cert.GlaInBwdRefIdeal.main_arg10) = m ((c.tc : Thread Cert.GlaInBwdRefIdeal.nD Cert.GlaInBwdRefIdeal.τ).loc Cert.GlaInBwdRefIdeal.main_arg10)
      ∧ r.2.mem ((c.tc : Thread Cert.GlaInBwdRefIdeal.nD Cert.GlaInBwdRefIdeal.τ).loc Cert.GlaInBwdRefIdeal.main_arg11) = m ((c.tc : Thread Cert.GlaInBwdRefIdeal.nD Cert.GlaInBwdRefIdeal.τ).loc Cert.GlaInBwdRefIdeal.main_arg11)
      ∧ r.2.mem ((c.tc : Thread Cert.GlaInBwdRefIdeal.nD Cert.GlaInBwdRefIdeal.τ).loc Cert.GlaInBwdRefIdeal.main_arg12) = m ((c.tc : Thread Cert.GlaInBwdRefIdeal.nD Cert.GlaInBwdRefIdeal.τ).loc Cert.GlaInBwdRefIdeal.main_arg12)
      ∧ r.2.mem ((c.tc : Thread Cert.GlaInBwdRefIdeal.nD Cert.GlaInBwdRefIdeal.τ).loc Cert.GlaInBwdRefIdeal.main_arg13) = m ((c.tc : Thread Cert.GlaInBwdRefIdeal.nD Cert.GlaInBwdRefIdeal.τ).loc Cert.GlaInBwdRefIdeal.main_arg13)
      ∧ r.2.mem ((c.tc : Thread Cert.GlaInBwdRefIdeal.nD Cert.GlaInBwdRefIdeal.τ).loc Cert.GlaInBwdRefIdeal.main_arg14) = m ((c.tc : Thread Cert.GlaInBwdRefIdeal.nD Cert.GlaInBwdRefIdeal.τ).loc Cert.GlaInBwdRefIdeal.main_arg14)
      ∧ r.2.mem ((c.tc : Thread Cert.GlaInBwdRefIdeal.nD Cert.GlaInBwdRefIdeal.τ).loc Cert.GlaInBwdRefIdeal.main_arg15) = m ((c.tc : Thread Cert.GlaInBwdRefIdeal.nD Cert.GlaInBwdRefIdeal.τ).loc Cert.GlaInBwdRefIdeal.main_arg15)
      ∧ r.2.mem ((c.tc : Thread Cert.GlaInBwdRefIdeal.nD Cert.GlaInBwdRefIdeal.τ).loc Cert.GlaInBwdRefIdeal.main_arg16) = m ((c.tc : Thread Cert.GlaInBwdRefIdeal.nD Cert.GlaInBwdRefIdeal.τ).loc Cert.GlaInBwdRefIdeal.main_arg16))
      ∧ r.2.sem = fun _ => 0)

def preserves_LossHead_LossHeadIdeal : Prop :=
  True

def algebraic_LossHeadIdeal_LossHeadRefIdeal_pre_finite1 [hLossHeadIdeal : Cert.LossHeadIdeal.Facts] [hLossHeadRefIdeal : Cert.LossHeadRefIdeal.Facts] [hPre_finite1 : Cert.Pre_finite1.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite1 m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)) (v3 : (c : Dev Cert.LossHeadIdeal.nD) → Buf (Elt Ideal) ((c.tc : Thread Cert.LossHeadIdeal.nD Cert.LossHeadIdeal.τ).loc Cert.LossHeadIdeal.main_v3_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_v3_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v54) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v55) = v2 c
          ∧ r.2.mem ((c.tc : Thread Cert.LossHeadRefIdeal.nD Cert.LossHeadRefIdeal.τ).loc Cert.LossHeadRefIdeal.main_v56) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Attn_AttnIdeal : Prop :=
  IdealRules.named_const.Statement Cert.AttnIdeal.κ "mask" .f32 0xF149F2CA#32 ⊥
  ∧ IdealRules.named_const.Statement Cert.AttnIdeal.κ "inv_ln2" .f32 0x3FB8AA3B#32 (((Real.log 2)⁻¹ : ℝ) : EReal)
  ∧ IdealRules.named_const.Statement Cert.AttnIdeal.κ "ln2" .f32 0x3F317218#32 ((Real.log 2 : ℝ) : EReal)

def algebraic_AttnIdeal_AttnRefIdeal_pre_finite7 [hAttnIdeal : Cert.AttnIdeal.Facts] [hAttnRefIdeal : Cert.AttnRefIdeal.Facts] [hPre_finite7 : Cert.Pre_finite7.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite7 m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v28_0)) (v1 : (c : Dev Cert.AttnIdeal.nD) → Buf (Elt Ideal) ((c.tc : Thread Cert.AttnIdeal.nD Cert.AttnIdeal.τ).loc Cert.AttnIdeal.main_v35_0)) (v2 : (c : Dev Cert.AttnIdeal.nD) → Buf (Elt Ideal) ((c.tc : Thread Cert.AttnIdeal.nD Cert.AttnIdeal.τ).loc Cert.AttnIdeal.main_v35_1)) (v3 : (c : Dev Cert.AttnIdeal.nD) → Buf (Elt Ideal) ((c.tc : Thread Cert.AttnIdeal.nD Cert.AttnIdeal.τ).loc Cert.AttnIdeal.main_v35_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v28_0) = v0 c
          ∧ r.2.mem ((c.tc : Thread Cert.AttnIdeal.nD Cert.AttnIdeal.τ).loc Cert.AttnIdeal.main_v35_0) = v1 c
          ∧ r.2.mem ((c.tc : Thread Cert.AttnIdeal.nD Cert.AttnIdeal.τ).loc Cert.AttnIdeal.main_v35_1) = v2 c
          ∧ r.2.mem ((c.tc : Thread Cert.AttnIdeal.nD Cert.AttnIdeal.τ).loc Cert.AttnIdeal.main_v35_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v74) = v1 c
          ∧ r.2.mem ((c.tc : Thread Cert.AttnRefIdeal.nD Cert.AttnRefIdeal.τ).loc Cert.AttnRefIdeal.main_v78) = v2 c
          ∧ r.2.mem ((c.tc : Thread Cert.AttnRefIdeal.nD Cert.AttnRefIdeal.τ).loc Cert.AttnRefIdeal.main_v82) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_GlaOutBwd_GlaOutBwdIdeal : Prop :=
  True

def algebraic_GlaOutBwdIdeal_GlaOutBwdRefIdeal_pre_finite5 [hGlaOutBwdIdeal : Cert.GlaOutBwdIdeal.Facts] [hGlaOutBwdRefIdeal : Cert.GlaOutBwdRefIdeal.Facts] [hPre_finite5 : Cert.Pre_finite5.Facts] : Prop :=
  ∀ (m : (ℓ : Loc Cert.GlaOutBwdIdeal.nD Cert.GlaOutBwdIdeal.τ Cert.GlaOutBwdIdeal.sig) → Buf (Elt Ideal) ℓ) (g : Dev Cert.GlaOutBwdIdeal.nD → PrngReg)
    (m' : (ℓ : Loc Cert.GlaOutBwdRefIdeal.nD Cert.GlaOutBwdRefIdeal.τ Cert.GlaOutBwdRefIdeal.sig) → Buf (Elt Ideal) ℓ) (g' : Dev Cert.GlaOutBwdRefIdeal.nD → PrngReg), Pre_GlaOutBwdIdeal_finite5 m →
    (∀ c : Dev Cert.GlaOutBwdIdeal.nD,
      m' ((c.tc : Thread Cert.GlaOutBwdRefIdeal.nD Cert.GlaOutBwdRefIdeal.τ).loc Cert.GlaOutBwdRefIdeal.main_arg0) = m ((c.tc : Thread Cert.GlaOutBwdIdeal.nD Cert.GlaOutBwdIdeal.τ).loc Cert.GlaOutBwdIdeal.main_arg0)
      ∧ m' ((c.tc : Thread Cert.GlaOutBwdRefIdeal.nD Cert.GlaOutBwdRefIdeal.τ).loc Cert.GlaOutBwdRefIdeal.main_arg1) = m ((c.tc : Thread Cert.GlaOutBwdIdeal.nD Cert.GlaOutBwdIdeal.τ).loc Cert.GlaOutBwdIdeal.main_arg1)
      ∧ m' ((c.tc : Thread Cert.GlaOutBwdRefIdeal.nD Cert.GlaOutBwdRefIdeal.τ).loc Cert.GlaOutBwdRefIdeal.main_arg2) = m ((c.tc : Thread Cert.GlaOutBwdIdeal.nD Cert.GlaOutBwdIdeal.τ).loc Cert.GlaOutBwdIdeal.main_arg2)
      ∧ m' ((c.tc : Thread Cert.GlaOutBwdRefIdeal.nD Cert.GlaOutBwdRefIdeal.τ).loc Cert.GlaOutBwdRefIdeal.main_arg3) = m ((c.tc : Thread Cert.GlaOutBwdIdeal.nD Cert.GlaOutBwdIdeal.τ).loc Cert.GlaOutBwdIdeal.main_arg3)
      ∧ m' ((c.tc : Thread Cert.GlaOutBwdRefIdeal.nD Cert.GlaOutBwdRefIdeal.τ).loc Cert.GlaOutBwdRefIdeal.main_arg4) = m ((c.tc : Thread Cert.GlaOutBwdIdeal.nD Cert.GlaOutBwdIdeal.τ).loc Cert.GlaOutBwdIdeal.main_arg4)) →
    ∃ (v0 : (c : Dev Cert.GlaOutBwdIdeal.nD) → Buf (Elt Ideal) ((c.tc : Thread Cert.GlaOutBwdIdeal.nD Cert.GlaOutBwdIdeal.τ).loc Cert.GlaOutBwdIdeal.main_v45_0)) (v1 : (c : Dev Cert.GlaOutBwdIdeal.nD) → Buf (Elt Ideal) ((c.tc : Thread Cert.GlaOutBwdIdeal.nD Cert.GlaOutBwdIdeal.τ).loc Cert.GlaOutBwdIdeal.main_v45_1)) (v2 : (c : Dev Cert.GlaOutBwdIdeal.nD) → Buf (Elt Ideal) ((c.tc : Thread Cert.GlaOutBwdIdeal.nD Cert.GlaOutBwdIdeal.τ).loc Cert.GlaOutBwdIdeal.main_v45_2)),
      θ_run (Cert.GlaOutBwdIdeal.defs (F := Ideal)) (onTc (τ := Cert.GlaOutBwdIdeal.τ) (Cert.GlaOutBwdIdeal.main (F := Ideal))) ⟨m, fun _ => 0, g⟩ (fun r => ∀ c : Dev Cert.GlaOutBwdIdeal.nD,
          r.2.mem ((c.tc : Thread Cert.GlaOutBwdIdeal.nD Cert.GlaOutBwdIdeal.τ).loc Cert.GlaOutBwdIdeal.main_v45_0) = v0 c
          ∧ r.2.mem ((c.tc : Thread Cert.GlaOutBwdIdeal.nD Cert.GlaOutBwdIdeal.τ).loc Cert.GlaOutBwdIdeal.main_v45_1) = v1 c
          ∧ r.2.mem ((c.tc : Thread Cert.GlaOutBwdIdeal.nD Cert.GlaOutBwdIdeal.τ).loc Cert.GlaOutBwdIdeal.main_v45_2) = v2 c
          ∧ r.2.mem ((c.tc : Thread Cert.GlaOutBwdIdeal.nD Cert.GlaOutBwdIdeal.τ).loc Cert.GlaOutBwdIdeal.main_arg0) = m ((c.tc : Thread Cert.GlaOutBwdIdeal.nD Cert.GlaOutBwdIdeal.τ).loc Cert.GlaOutBwdIdeal.main_arg0)
          ∧ r.2.mem ((c.tc : Thread Cert.GlaOutBwdIdeal.nD Cert.GlaOutBwdIdeal.τ).loc Cert.GlaOutBwdIdeal.main_arg1) = m ((c.tc : Thread Cert.GlaOutBwdIdeal.nD Cert.GlaOutBwdIdeal.τ).loc Cert.GlaOutBwdIdeal.main_arg1)
          ∧ r.2.mem ((c.tc : Thread Cert.GlaOutBwdIdeal.nD Cert.GlaOutBwdIdeal.τ).loc Cert.GlaOutBwdIdeal.main_arg2) = m ((c.tc : Thread Cert.GlaOutBwdIdeal.nD Cert.GlaOutBwdIdeal.τ).loc Cert.GlaOutBwdIdeal.main_arg2)
          ∧ r.2.mem ((c.tc : Thread Cert.GlaOutBwdIdeal.nD Cert.GlaOutBwdIdeal.τ).loc Cert.GlaOutBwdIdeal.main_arg3) = m ((c.tc : Thread Cert.GlaOutBwdIdeal.nD Cert.GlaOutBwdIdeal.τ).loc Cert.GlaOutBwdIdeal.main_arg3)
          ∧ r.2.mem ((c.tc : Thread Cert.GlaOutBwdIdeal.nD Cert.GlaOutBwdIdeal.τ).loc Cert.GlaOutBwdIdeal.main_arg4) = m ((c.tc : Thread Cert.GlaOutBwdIdeal.nD Cert.GlaOutBwdIdeal.τ).loc Cert.GlaOutBwdIdeal.main_arg4))
      ∧ θ_run (Cert.GlaOutBwdRefIdeal.defs (F := Ideal)) (onTc (τ := Cert.GlaOutBwdRefIdeal.τ) (Cert.GlaOutBwdRefIdeal.main (F := Ideal))) ⟨m', fun _ => 0, g'⟩ (fun r => ∀ c : Dev Cert.GlaOutBwdRefIdeal.nD,
          r.2.mem ((c.tc : Thread Cert.GlaOutBwdRefIdeal.nD Cert.GlaOutBwdRefIdeal.τ).loc Cert.GlaOutBwdRefIdeal.main_v57) = v0 c
          ∧ r.2.mem ((c.tc : Thread Cert.GlaOutBwdRefIdeal.nD Cert.GlaOutBwdRefIdeal.τ).loc Cert.GlaOutBwdRefIdeal.main_v59) = v1 c
          ∧ r.2.mem ((c.tc : Thread Cert.GlaOutBwdRefIdeal.nD Cert.GlaOutBwdRefIdeal.τ).loc Cert.GlaOutBwdRefIdeal.main_v60) = v2 c
          ∧ r.2.mem ((c.tc : Thread Cert.GlaOutBwdRefIdeal.nD Cert.GlaOutBwdRefIdeal.τ).loc Cert.GlaOutBwdRefIdeal.main_arg0) = m' ((c.tc : Thread Cert.GlaOutBwdRefIdeal.nD Cert.GlaOutBwdRefIdeal.τ).loc Cert.GlaOutBwdRefIdeal.main_arg0)
          ∧ r.2.mem ((c.tc : Thread Cert.GlaOutBwdRefIdeal.nD Cert.GlaOutBwdRefIdeal.τ).loc Cert.GlaOutBwdRefIdeal.main_arg1) = m' ((c.tc : Thread Cert.GlaOutBwdRefIdeal.nD Cert.GlaOutBwdRefIdeal.τ).loc Cert.GlaOutBwdRefIdeal.main_arg1)
          ∧ r.2.mem ((c.tc : Thread Cert.GlaOutBwdRefIdeal.nD Cert.GlaOutBwdRefIdeal.τ).loc Cert.GlaOutBwdRefIdeal.main_arg2) = m' ((c.tc : Thread Cert.GlaOutBwdRefIdeal.nD Cert.GlaOutBwdRefIdeal.τ).loc Cert.GlaOutBwdRefIdeal.main_arg2)
          ∧ r.2.mem ((c.tc : Thread Cert.GlaOutBwdRefIdeal.nD Cert.GlaOutBwdRefIdeal.τ).loc Cert.GlaOutBwdRefIdeal.main_arg3) = m' ((c.tc : Thread Cert.GlaOutBwdRefIdeal.nD Cert.GlaOutBwdRefIdeal.τ).loc Cert.GlaOutBwdRefIdeal.main_arg3)
          ∧ r.2.mem ((c.tc : Thread Cert.GlaOutBwdRefIdeal.nD Cert.GlaOutBwdRefIdeal.τ).loc Cert.GlaOutBwdRefIdeal.main_arg4) = m' ((c.tc : Thread Cert.GlaOutBwdRefIdeal.nD Cert.GlaOutBwdRefIdeal.τ).loc Cert.GlaOutBwdRefIdeal.main_arg4))

def preserves_FfnDact_FfnDactIdeal : Prop :=
  True

def algebraic_FfnDactIdeal_FfnDactRefIdeal_pre_finite2 [hFfnDactIdeal : Cert.FfnDactIdeal.Facts] [hFfnDactRefIdeal : Cert.FfnDactRefIdeal.Facts] [hPre_finite2 : Cert.Pre_finite2.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal_finite2 m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)
      ∧ m' ((c.tc : Thread Cert.FfnDactRefIdeal.nD Cert.FfnDactRefIdeal.τ).loc Cert.FfnDactRefIdeal.main_arg2) = m ((c.tc : Thread Cert.FfnDactIdeal.nD Cert.FfnDactIdeal.τ).loc Cert.FfnDactIdeal.main_arg2)
      ∧ m' ((c.tc : Thread Cert.FfnDactRefIdeal.nD Cert.FfnDactRefIdeal.τ).loc Cert.FfnDactRefIdeal.main_arg3) = m ((c.tc : Thread Cert.FfnDactIdeal.nD Cert.FfnDactIdeal.τ).loc Cert.FfnDactIdeal.main_arg3)
      ∧ m' ((c.tc : Thread Cert.FfnDactRefIdeal.nD Cert.FfnDactRefIdeal.τ).loc Cert.FfnDactRefIdeal.main_arg4) = m ((c.tc : Thread Cert.FfnDactIdeal.nD Cert.FfnDactIdeal.τ).loc Cert.FfnDactIdeal.main_arg4)) →
    ∃ (v0 : (c : Dev Cert.FfnDactIdeal.nD) → Buf (Elt Ideal) ((c.tc : Thread Cert.FfnDactIdeal.nD Cert.FfnDactIdeal.τ).loc Cert.FfnDactIdeal.main_v12_0)) (v1 : (c : Dev Cert.FfnDactIdeal.nD) → Buf (Elt Ideal) ((c.tc : Thread Cert.FfnDactIdeal.nD Cert.FfnDactIdeal.τ).loc Cert.FfnDactIdeal.main_v12_1)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v12_0) = v0 c
          ∧ r.2.mem ((c.tc : Thread Cert.FfnDactIdeal.nD Cert.FfnDactIdeal.τ).loc Cert.FfnDactIdeal.main_v12_1) = v1 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
          ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3)
          ∧ r.2.mem ((c.tc : Thread Cert.FfnDactIdeal.nD Cert.FfnDactIdeal.τ).loc Cert.FfnDactIdeal.main_arg4) = m ((c.tc : Thread Cert.FfnDactIdeal.nD Cert.FfnDactIdeal.τ).loc Cert.FfnDactIdeal.main_arg4))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v14) = v0 c
          ∧ r.2.mem ((c.tc : Thread Cert.FfnDactRefIdeal.nD Cert.FfnDactRefIdeal.τ).loc Cert.FfnDactRefIdeal.main_v16) = v1 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1)
          ∧ r.2.mem ((c.tc : Thread Cert.FfnDactRefIdeal.nD Cert.FfnDactRefIdeal.τ).loc Cert.FfnDactRefIdeal.main_arg2) = m' ((c.tc : Thread Cert.FfnDactRefIdeal.nD Cert.FfnDactRefIdeal.τ).loc Cert.FfnDactRefIdeal.main_arg2)
          ∧ r.2.mem ((c.tc : Thread Cert.FfnDactRefIdeal.nD Cert.FfnDactRefIdeal.τ).loc Cert.FfnDactRefIdeal.main_arg3) = m' ((c.tc : Thread Cert.FfnDactRefIdeal.nD Cert.FfnDactRefIdeal.τ).loc Cert.FfnDactRefIdeal.main_arg3)
          ∧ r.2.mem ((c.tc : Thread Cert.FfnDactRefIdeal.nD Cert.FfnDactRefIdeal.τ).loc Cert.FfnDactRefIdeal.main_arg4) = m' ((c.tc : Thread Cert.FfnDactRefIdeal.nD Cert.FfnDactRefIdeal.τ).loc Cert.FfnDactRefIdeal.main_arg4))

def preserves_FfnDz_FfnDzIdeal : Prop :=
  True

def algebraic_FfnDzIdeal_FfnDzRefIdeal_pre_finite3 [hFfnDzIdeal : Cert.FfnDzIdeal.Facts] [hFfnDzRefIdeal : Cert.FfnDzRefIdeal.Facts] [hPre_finite3 : Cert.Pre_finite3.Facts] : Prop :=
  ∀ (m : (ℓ : Loc Cert.FfnDzIdeal.nD Cert.FfnDzIdeal.τ Cert.FfnDzIdeal.sig) → Buf (Elt Ideal) ℓ) (g : Dev Cert.FfnDzIdeal.nD → PrngReg)
    (m' : (ℓ : Loc Cert.FfnDzRefIdeal.nD Cert.FfnDzRefIdeal.τ Cert.FfnDzRefIdeal.sig) → Buf (Elt Ideal) ℓ) (g' : Dev Cert.FfnDzRefIdeal.nD → PrngReg), Pre_FfnDzIdeal_finite3 m →
    (∀ c : Dev Cert.FfnDzIdeal.nD,
      m' ((c.tc : Thread Cert.FfnDzRefIdeal.nD Cert.FfnDzRefIdeal.τ).loc Cert.FfnDzRefIdeal.main_arg0) = m ((c.tc : Thread Cert.FfnDzIdeal.nD Cert.FfnDzIdeal.τ).loc Cert.FfnDzIdeal.main_arg0)
      ∧ m' ((c.tc : Thread Cert.FfnDzRefIdeal.nD Cert.FfnDzRefIdeal.τ).loc Cert.FfnDzRefIdeal.main_arg1) = m ((c.tc : Thread Cert.FfnDzIdeal.nD Cert.FfnDzIdeal.τ).loc Cert.FfnDzIdeal.main_arg1)
      ∧ m' ((c.tc : Thread Cert.FfnDzRefIdeal.nD Cert.FfnDzRefIdeal.τ).loc Cert.FfnDzRefIdeal.main_arg2) = m ((c.tc : Thread Cert.FfnDzIdeal.nD Cert.FfnDzIdeal.τ).loc Cert.FfnDzIdeal.main_arg2)
      ∧ m' ((c.tc : Thread Cert.FfnDzRefIdeal.nD Cert.FfnDzRefIdeal.τ).loc Cert.FfnDzRefIdeal.main_arg3) = m ((c.tc : Thread Cert.FfnDzIdeal.nD Cert.FfnDzIdeal.τ).loc Cert.FfnDzIdeal.main_arg3)
      ∧ m' ((c.tc : Thread Cert.FfnDzRefIdeal.nD Cert.FfnDzRefIdeal.τ).loc Cert.FfnDzRefIdeal.main_arg4) = m ((c.tc : Thread Cert.FfnDzIdeal.nD Cert.FfnDzIdeal.τ).loc Cert.FfnDzIdeal.main_arg4)
      ∧ m' ((c.tc : Thread Cert.FfnDzRefIdeal.nD Cert.FfnDzRefIdeal.τ).loc Cert.FfnDzRefIdeal.main_arg5) = m ((c.tc : Thread Cert.FfnDzIdeal.nD Cert.FfnDzIdeal.τ).loc Cert.FfnDzIdeal.main_arg5)
      ∧ m' ((c.tc : Thread Cert.FfnDzRefIdeal.nD Cert.FfnDzRefIdeal.τ).loc Cert.FfnDzRefIdeal.main_arg6) = m ((c.tc : Thread Cert.FfnDzIdeal.nD Cert.FfnDzIdeal.τ).loc Cert.FfnDzIdeal.main_arg6)) →
    ∃ (v0 : (c : Dev Cert.FfnDzIdeal.nD) → Buf (Elt Ideal) ((c.tc : Thread Cert.FfnDzIdeal.nD Cert.FfnDzIdeal.τ).loc Cert.FfnDzIdeal.main_v15_0)) (v1 : (c : Dev Cert.FfnDzIdeal.nD) → Buf (Elt Ideal) ((c.tc : Thread Cert.FfnDzIdeal.nD Cert.FfnDzIdeal.τ).loc Cert.FfnDzIdeal.main_v15_1)) (v2 : (c : Dev Cert.FfnDzIdeal.nD) → Buf (Elt Ideal) ((c.tc : Thread Cert.FfnDzIdeal.nD Cert.FfnDzIdeal.τ).loc Cert.FfnDzIdeal.main_v15_2)),
      θ_run (Cert.FfnDzIdeal.defs (F := Ideal)) (onTc (τ := Cert.FfnDzIdeal.τ) (Cert.FfnDzIdeal.main (F := Ideal))) ⟨m, fun _ => 0, g⟩ (fun r => ∀ c : Dev Cert.FfnDzIdeal.nD,
          r.2.mem ((c.tc : Thread Cert.FfnDzIdeal.nD Cert.FfnDzIdeal.τ).loc Cert.FfnDzIdeal.main_v15_0) = v0 c
          ∧ r.2.mem ((c.tc : Thread Cert.FfnDzIdeal.nD Cert.FfnDzIdeal.τ).loc Cert.FfnDzIdeal.main_v15_1) = v1 c
          ∧ r.2.mem ((c.tc : Thread Cert.FfnDzIdeal.nD Cert.FfnDzIdeal.τ).loc Cert.FfnDzIdeal.main_v15_2) = v2 c
          ∧ r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
          ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1)
          ∧ r.2.mem ((c.tc : Thread Cert.FfnDzIdeal.nD Cert.FfnDzIdeal.τ).loc Cert.FfnDzIdeal.main_arg2) = m ((c.tc : Thread Cert.FfnDzIdeal.nD Cert.FfnDzIdeal.τ).loc Cert.FfnDzIdeal.main_arg2)
          ∧ r.2.mem ((c.tc : Thread Cert.FfnDzIdeal.nD Cert.FfnDzIdeal.τ).loc Cert.FfnDzIdeal.main_arg3) = m ((c.tc : Thread Cert.FfnDzIdeal.nD Cert.FfnDzIdeal.τ).loc Cert.FfnDzIdeal.main_arg3)
          ∧ r.2.mem ((c.tc : Thread Cert.FfnDzIdeal.nD Cert.FfnDzIdeal.τ).loc Cert.FfnDzIdeal.main_arg4) = m ((c.tc : Thread Cert.FfnDzIdeal.nD Cert.FfnDzIdeal.τ).loc Cert.FfnDzIdeal.main_arg4)
          ∧ r.2.mem ((c.tc : Thread Cert.FfnDzIdeal.nD Cert.FfnDzIdeal.τ).loc Cert.FfnDzIdeal.main_arg5) = m ((c.tc : Thread Cert.FfnDzIdeal.nD Cert.FfnDzIdeal.τ).loc Cert.FfnDzIdeal.main_arg5)
          ∧ r.2.mem ((c.tc : Thread Cert.FfnDzIdeal.nD Cert.FfnDzIdeal.τ).loc Cert.FfnDzIdeal.main_arg6) = m ((c.tc : Thread Cert.FfnDzIdeal.nD Cert.FfnDzIdeal.τ).loc Cert.FfnDzIdeal.main_arg6))
      ∧ θ_run (Cert.FfnDzRefIdeal.defs (F := Ideal)) (onTc (τ := Cert.FfnDzRefIdeal.τ) (Cert.FfnDzRefIdeal.main (F := Ideal))) ⟨m', fun _ => 0, g'⟩ (fun r => ∀ c : Dev Cert.FfnDzRefIdeal.nD,
          r.2.mem ((c.tc : Thread Cert.FfnDzRefIdeal.nD Cert.FfnDzRefIdeal.τ).loc Cert.FfnDzRefIdeal.main_v42) = v0 c
          ∧ r.2.mem ((c.tc : Thread Cert.FfnDzRefIdeal.nD Cert.FfnDzRefIdeal.τ).loc Cert.FfnDzRefIdeal.main_v43) = v1 c
          ∧ r.2.mem ((c.tc : Thread Cert.FfnDzRefIdeal.nD Cert.FfnDzRefIdeal.τ).loc Cert.FfnDzRefIdeal.main_v44) = v2 c
          ∧ r.2.mem ((c.tc : Thread Cert.FfnDzRefIdeal.nD Cert.FfnDzRefIdeal.τ).loc Cert.FfnDzRefIdeal.main_arg0) = m' ((c.tc : Thread Cert.FfnDzRefIdeal.nD Cert.FfnDzRefIdeal.τ).loc Cert.FfnDzRefIdeal.main_arg0)
          ∧ r.2.mem ((c.tc : Thread Cert.FfnDzRefIdeal.nD Cert.FfnDzRefIdeal.τ).loc Cert.FfnDzRefIdeal.main_arg1) = m' ((c.tc : Thread Cert.FfnDzRefIdeal.nD Cert.FfnDzRefIdeal.τ).loc Cert.FfnDzRefIdeal.main_arg1)
          ∧ r.2.mem ((c.tc : Thread Cert.FfnDzRefIdeal.nD Cert.FfnDzRefIdeal.τ).loc Cert.FfnDzRefIdeal.main_arg2) = m' ((c.tc : Thread Cert.FfnDzRefIdeal.nD Cert.FfnDzRefIdeal.τ).loc Cert.FfnDzRefIdeal.main_arg2)
          ∧ r.2.mem ((c.tc : Thread Cert.FfnDzRefIdeal.nD Cert.FfnDzRefIdeal.τ).loc Cert.FfnDzRefIdeal.main_arg3) = m' ((c.tc : Thread Cert.FfnDzRefIdeal.nD Cert.FfnDzRefIdeal.τ).loc Cert.FfnDzRefIdeal.main_arg3)
          ∧ r.2.mem ((c.tc : Thread Cert.FfnDzRefIdeal.nD Cert.FfnDzRefIdeal.τ).loc Cert.FfnDzRefIdeal.main_arg4) = m' ((c.tc : Thread Cert.FfnDzRefIdeal.nD Cert.FfnDzRefIdeal.τ).loc Cert.FfnDzRefIdeal.main_arg4)
          ∧ r.2.mem ((c.tc : Thread Cert.FfnDzRefIdeal.nD Cert.FfnDzRefIdeal.τ).loc Cert.FfnDzRefIdeal.main_arg5) = m' ((c.tc : Thread Cert.FfnDzRefIdeal.nD Cert.FfnDzRefIdeal.τ).loc Cert.FfnDzRefIdeal.main_arg5)
          ∧ r.2.mem ((c.tc : Thread Cert.FfnDzRefIdeal.nD Cert.FfnDzRefIdeal.τ).loc Cert.FfnDzRefIdeal.main_arg6) = m' ((c.tc : Thread Cert.FfnDzRefIdeal.nD Cert.FfnDzRefIdeal.τ).loc Cert.FfnDzRefIdeal.main_arg6))

def preserves_MergeBwd_MergeBwdIdeal : Prop :=
  True

def algebraic_MergeBwdIdeal_MergeBwdRefIdeal_pre_finite4 [hMergeBwdIdeal : Cert.MergeBwdIdeal.Facts] [hMergeBwdRefIdeal : Cert.MergeBwdRefIdeal.Facts] [hPre_finite4 : Cert.Pre_finite4.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal_finite4 m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v52_0)) (v1 : (c : Dev Cert.MergeBwdIdeal.nD) → Buf (Elt Ideal) ((c.tc : Thread Cert.MergeBwdIdeal.nD Cert.MergeBwdIdeal.τ).loc Cert.MergeBwdIdeal.main_v52_1)) (v2 : (c : Dev Cert.MergeBwdIdeal.nD) → Buf (Elt Ideal) ((c.tc : Thread Cert.MergeBwdIdeal.nD Cert.MergeBwdIdeal.τ).loc Cert.MergeBwdIdeal.main_v52_2)) (v3 : (c : Dev Cert.MergeBwdIdeal.nD) → Buf (Elt Ideal) ((c.tc : Thread Cert.MergeBwdIdeal.nD Cert.MergeBwdIdeal.τ).loc Cert.MergeBwdIdeal.main_v52_3)) (v4 : (c : Dev Cert.MergeBwdIdeal.nD) → Buf (Elt Ideal) ((c.tc : Thread Cert.MergeBwdIdeal.nD Cert.MergeBwdIdeal.τ).loc Cert.MergeBwdIdeal.main_v52_4)) (v5 : (c : Dev Cert.MergeBwdIdeal.nD) → Buf (Elt Ideal) ((c.tc : Thread Cert.MergeBwdIdeal.nD Cert.MergeBwdIdeal.τ).loc Cert.MergeBwdIdeal.main_v52_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v52_0) = v0 c
          ∧ r.2.mem ((c.tc : Thread Cert.MergeBwdIdeal.nD Cert.MergeBwdIdeal.τ).loc Cert.MergeBwdIdeal.main_v52_1) = v1 c
          ∧ r.2.mem ((c.tc : Thread Cert.MergeBwdIdeal.nD Cert.MergeBwdIdeal.τ).loc Cert.MergeBwdIdeal.main_v52_2) = v2 c
          ∧ r.2.mem ((c.tc : Thread Cert.MergeBwdIdeal.nD Cert.MergeBwdIdeal.τ).loc Cert.MergeBwdIdeal.main_v52_3) = v3 c
          ∧ r.2.mem ((c.tc : Thread Cert.MergeBwdIdeal.nD Cert.MergeBwdIdeal.τ).loc Cert.MergeBwdIdeal.main_v52_4) = v4 c
          ∧ r.2.mem ((c.tc : Thread Cert.MergeBwdIdeal.nD Cert.MergeBwdIdeal.τ).loc Cert.MergeBwdIdeal.main_v52_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v64) = v0 c
          ∧ r.2.mem ((c.tc : Thread Cert.MergeBwdRefIdeal.nD Cert.MergeBwdRefIdeal.τ).loc Cert.MergeBwdRefIdeal.main_v66) = v1 c
          ∧ r.2.mem ((c.tc : Thread Cert.MergeBwdRefIdeal.nD Cert.MergeBwdRefIdeal.τ).loc Cert.MergeBwdRefIdeal.main_v68) = v2 c
          ∧ r.2.mem ((c.tc : Thread Cert.MergeBwdRefIdeal.nD Cert.MergeBwdRefIdeal.τ).loc Cert.MergeBwdRefIdeal.main_v70) = v3 c
          ∧ r.2.mem ((c.tc : Thread Cert.MergeBwdRefIdeal.nD Cert.MergeBwdRefIdeal.τ).loc Cert.MergeBwdRefIdeal.main_v71) = v4 c
          ∧ r.2.mem ((c.tc : Thread Cert.MergeBwdRefIdeal.nD Cert.MergeBwdRefIdeal.τ).loc Cert.MergeBwdRefIdeal.main_v72) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7))

def preserves_InProjDz_InProjDzIdeal : Prop :=
  True

def algebraic_InProjDzIdeal_InProjDzRefIdeal_pre_finite10 [hInProjDzIdeal : Cert.InProjDzIdeal.Facts] [hInProjDzRefIdeal : Cert.InProjDzRefIdeal.Facts] [hPre_finite10 : Cert.Pre_finite10.Facts] : Prop :=
  ∀ (m : (ℓ : Loc Cert.InProjDzIdeal.nD Cert.InProjDzIdeal.τ Cert.InProjDzIdeal.sig) → Buf (Elt Ideal) ℓ) (g : Dev Cert.InProjDzIdeal.nD → PrngReg)
    (m' : (ℓ : Loc Cert.InProjDzRefIdeal.nD Cert.InProjDzRefIdeal.τ Cert.InProjDzRefIdeal.sig) → Buf (Elt Ideal) ℓ) (g' : Dev Cert.InProjDzRefIdeal.nD → PrngReg), Pre_InProjDzIdeal_finite10 m →
    (∀ c : Dev Cert.InProjDzIdeal.nD,
      m' ((c.tc : Thread Cert.InProjDzRefIdeal.nD Cert.InProjDzRefIdeal.τ).loc Cert.InProjDzRefIdeal.main_arg0) = m ((c.tc : Thread Cert.InProjDzIdeal.nD Cert.InProjDzIdeal.τ).loc Cert.InProjDzIdeal.main_arg0)
      ∧ m' ((c.tc : Thread Cert.InProjDzRefIdeal.nD Cert.InProjDzRefIdeal.τ).loc Cert.InProjDzRefIdeal.main_arg1) = m ((c.tc : Thread Cert.InProjDzIdeal.nD Cert.InProjDzIdeal.τ).loc Cert.InProjDzIdeal.main_arg1)
      ∧ m' ((c.tc : Thread Cert.InProjDzRefIdeal.nD Cert.InProjDzRefIdeal.τ).loc Cert.InProjDzRefIdeal.main_arg2) = m ((c.tc : Thread Cert.InProjDzIdeal.nD Cert.InProjDzIdeal.τ).loc Cert.InProjDzIdeal.main_arg2)
      ∧ m' ((c.tc : Thread Cert.InProjDzRefIdeal.nD Cert.InProjDzRefIdeal.τ).loc Cert.InProjDzRefIdeal.main_arg3) = m ((c.tc : Thread Cert.InProjDzIdeal.nD Cert.InProjDzIdeal.τ).loc Cert.InProjDzIdeal.main_arg3)
      ∧ m' ((c.tc : Thread Cert.InProjDzRefIdeal.nD Cert.InProjDzRefIdeal.τ).loc Cert.InProjDzRefIdeal.main_arg4) = m ((c.tc : Thread Cert.InProjDzIdeal.nD Cert.InProjDzIdeal.τ).loc Cert.InProjDzIdeal.main_arg4)) →
    ∃ (v0 : (c : Dev Cert.InProjDzIdeal.nD) → Buf (Elt Ideal) ((c.tc : Thread Cert.InProjDzIdeal.nD Cert.InProjDzIdeal.τ).loc Cert.InProjDzIdeal.main_v79_0)) (v1 : (c : Dev Cert.InProjDzIdeal.nD) → Buf (Elt Ideal) ((c.tc : Thread Cert.InProjDzIdeal.nD Cert.InProjDzIdeal.τ).loc Cert.InProjDzIdeal.main_v79_1)) (v2 : (c : Dev Cert.InProjDzIdeal.nD) → Buf (Elt Ideal) ((c.tc : Thread Cert.InProjDzIdeal.nD Cert.InProjDzIdeal.τ).loc Cert.InProjDzIdeal.main_v79_2)),
      θ_run (Cert.InProjDzIdeal.defs (F := Ideal)) (onTc (τ := Cert.InProjDzIdeal.τ) (Cert.InProjDzIdeal.main (F := Ideal))) ⟨m, fun _ => 0, g⟩ (fun r => ∀ c : Dev Cert.InProjDzIdeal.nD,
          r.2.mem ((c.tc : Thread Cert.InProjDzIdeal.nD Cert.InProjDzIdeal.τ).loc Cert.InProjDzIdeal.main_v79_0) = v0 c
          ∧ r.2.mem ((c.tc : Thread Cert.InProjDzIdeal.nD Cert.InProjDzIdeal.τ).loc Cert.InProjDzIdeal.main_v79_1) = v1 c
          ∧ r.2.mem ((c.tc : Thread Cert.InProjDzIdeal.nD Cert.InProjDzIdeal.τ).loc Cert.InProjDzIdeal.main_v79_2) = v2 c
          ∧ r.2.mem ((c.tc : Thread Cert.InProjDzIdeal.nD Cert.InProjDzIdeal.τ).loc Cert.InProjDzIdeal.main_arg0) = m ((c.tc : Thread Cert.InProjDzIdeal.nD Cert.InProjDzIdeal.τ).loc Cert.InProjDzIdeal.main_arg0)
          ∧ r.2.mem ((c.tc : Thread Cert.InProjDzIdeal.nD Cert.InProjDzIdeal.τ).loc Cert.InProjDzIdeal.main_arg1) = m ((c.tc : Thread Cert.InProjDzIdeal.nD Cert.InProjDzIdeal.τ).loc Cert.InProjDzIdeal.main_arg1)
          ∧ r.2.mem ((c.tc : Thread Cert.InProjDzIdeal.nD Cert.InProjDzIdeal.τ).loc Cert.InProjDzIdeal.main_arg2) = m ((c.tc : Thread Cert.InProjDzIdeal.nD Cert.InProjDzIdeal.τ).loc Cert.InProjDzIdeal.main_arg2)
          ∧ r.2.mem ((c.tc : Thread Cert.InProjDzIdeal.nD Cert.InProjDzIdeal.τ).loc Cert.InProjDzIdeal.main_arg3) = m ((c.tc : Thread Cert.InProjDzIdeal.nD Cert.InProjDzIdeal.τ).loc Cert.InProjDzIdeal.main_arg3)
          ∧ r.2.mem ((c.tc : Thread Cert.InProjDzIdeal.nD Cert.InProjDzIdeal.τ).loc Cert.InProjDzIdeal.main_arg4) = m ((c.tc : Thread Cert.InProjDzIdeal.nD Cert.InProjDzIdeal.τ).loc Cert.InProjDzIdeal.main_arg4))
      ∧ θ_run (Cert.InProjDzRefIdeal.defs (F := Ideal)) (onTc (τ := Cert.InProjDzRefIdeal.τ) (Cert.InProjDzRefIdeal.main (F := Ideal))) ⟨m', fun _ => 0, g'⟩ (fun r => ∀ c : Dev Cert.InProjDzRefIdeal.nD,
          r.2.mem ((c.tc : Thread Cert.InProjDzRefIdeal.nD Cert.InProjDzRefIdeal.τ).loc Cert.InProjDzRefIdeal.main_v39) = v0 c
          ∧ r.2.mem ((c.tc : Thread Cert.InProjDzRefIdeal.nD Cert.InProjDzRefIdeal.τ).loc Cert.InProjDzRefIdeal.main_v40) = v1 c
          ∧ r.2.mem ((c.tc : Thread Cert.InProjDzRefIdeal.nD Cert.InProjDzRefIdeal.τ).loc Cert.InProjDzRefIdeal.main_v41) = v2 c
          ∧ r.2.mem ((c.tc : Thread Cert.InProjDzRefIdeal.nD Cert.InProjDzRefIdeal.τ).loc Cert.InProjDzRefIdeal.main_arg0) = m' ((c.tc : Thread Cert.InProjDzRefIdeal.nD Cert.InProjDzRefIdeal.τ).loc Cert.InProjDzRefIdeal.main_arg0)
          ∧ r.2.mem ((c.tc : Thread Cert.InProjDzRefIdeal.nD Cert.InProjDzRefIdeal.τ).loc Cert.InProjDzRefIdeal.main_arg1) = m' ((c.tc : Thread Cert.InProjDzRefIdeal.nD Cert.InProjDzRefIdeal.τ).loc Cert.InProjDzRefIdeal.main_arg1)
          ∧ r.2.mem ((c.tc : Thread Cert.InProjDzRefIdeal.nD Cert.InProjDzRefIdeal.τ).loc Cert.InProjDzRefIdeal.main_arg2) = m' ((c.tc : Thread Cert.InProjDzRefIdeal.nD Cert.InProjDzRefIdeal.τ).loc Cert.InProjDzRefIdeal.main_arg2)
          ∧ r.2.mem ((c.tc : Thread Cert.InProjDzRefIdeal.nD Cert.InProjDzRefIdeal.τ).loc Cert.InProjDzRefIdeal.main_arg3) = m' ((c.tc : Thread Cert.InProjDzRefIdeal.nD Cert.InProjDzRefIdeal.τ).loc Cert.InProjDzRefIdeal.main_arg3)
          ∧ r.2.mem ((c.tc : Thread Cert.InProjDzRefIdeal.nD Cert.InProjDzRefIdeal.τ).loc Cert.InProjDzRefIdeal.main_arg4) = m' ((c.tc : Thread Cert.InProjDzRefIdeal.nD Cert.InProjDzRefIdeal.τ).loc Cert.InProjDzRefIdeal.main_arg4))

def preserves_AttnPrepBwd_AttnPrepBwdIdeal : Prop :=
  IdealRules.named_const.Statement Cert.AttnPrepBwdIdeal.κ "q_scale" .f32 0x3E38AA3B#32 ((8⁻¹ * (Real.log 2)⁻¹ : ℝ) : EReal)

def algebraic_AttnPrepBwdIdeal_AttnPrepBwdRefIdeal_pre_finite8 [hAttnPrepBwdIdeal : Cert.AttnPrepBwdIdeal.Facts] [hAttnPrepBwdRefIdeal : Cert.AttnPrepBwdRefIdeal.Facts] [hPre_finite8 : Cert.Pre_finite8.Facts] : Prop :=
  ∀ (m : (ℓ : Loc Cert.AttnPrepBwdIdeal.nD Cert.AttnPrepBwdIdeal.τ Cert.AttnPrepBwdIdeal.sig) → Buf (Elt Ideal) ℓ) (g : Dev Cert.AttnPrepBwdIdeal.nD → PrngReg)
    (m' : (ℓ : Loc Cert.AttnPrepBwdRefIdeal.nD Cert.AttnPrepBwdRefIdeal.τ Cert.AttnPrepBwdRefIdeal.sig) → Buf (Elt Ideal) ℓ) (g' : Dev Cert.AttnPrepBwdRefIdeal.nD → PrngReg), Pre_AttnPrepBwdIdeal_finite8 m →
    (∀ c : Dev Cert.AttnPrepBwdIdeal.nD,
      m' ((c.tc : Thread Cert.AttnPrepBwdRefIdeal.nD Cert.AttnPrepBwdRefIdeal.τ).loc Cert.AttnPrepBwdRefIdeal.main_arg0) = m ((c.tc : Thread Cert.AttnPrepBwdIdeal.nD Cert.AttnPrepBwdIdeal.τ).loc Cert.AttnPrepBwdIdeal.main_arg0)
      ∧ m' ((c.tc : Thread Cert.AttnPrepBwdRefIdeal.nD Cert.AttnPrepBwdRefIdeal.τ).loc Cert.AttnPrepBwdRefIdeal.main_arg1) = m ((c.tc : Thread Cert.AttnPrepBwdIdeal.nD Cert.AttnPrepBwdIdeal.τ).loc Cert.AttnPrepBwdIdeal.main_arg1)
      ∧ m' ((c.tc : Thread Cert.AttnPrepBwdRefIdeal.nD Cert.AttnPrepBwdRefIdeal.τ).loc Cert.AttnPrepBwdRefIdeal.main_arg2) = m ((c.tc : Thread Cert.AttnPrepBwdIdeal.nD Cert.AttnPrepBwdIdeal.τ).loc Cert.AttnPrepBwdIdeal.main_arg2)
      ∧ m' ((c.tc : Thread Cert.AttnPrepBwdRefIdeal.nD Cert.AttnPrepBwdRefIdeal.τ).loc Cert.AttnPrepBwdRefIdeal.main_arg3) = m ((c.tc : Thread Cert.AttnPrepBwdIdeal.nD Cert.AttnPrepBwdIdeal.τ).loc Cert.AttnPrepBwdIdeal.main_arg3)
      ∧ m' ((c.tc : Thread Cert.AttnPrepBwdRefIdeal.nD Cert.AttnPrepBwdRefIdeal.τ).loc Cert.AttnPrepBwdRefIdeal.main_arg4) = m ((c.tc : Thread Cert.AttnPrepBwdIdeal.nD Cert.AttnPrepBwdIdeal.τ).loc Cert.AttnPrepBwdIdeal.main_arg4)) →
    ∃ (v0 : (c : Dev Cert.AttnPrepBwdIdeal.nD) → Buf (Elt Ideal) ((c.tc : Thread Cert.AttnPrepBwdIdeal.nD Cert.AttnPrepBwdIdeal.τ).loc Cert.AttnPrepBwdIdeal.main_v106_0)) (v1 : (c : Dev Cert.AttnPrepBwdIdeal.nD) → Buf (Elt Ideal) ((c.tc : Thread Cert.AttnPrepBwdIdeal.nD Cert.AttnPrepBwdIdeal.τ).loc Cert.AttnPrepBwdIdeal.main_v106_1)) (v2 : (c : Dev Cert.AttnPrepBwdIdeal.nD) → Buf (Elt Ideal) ((c.tc : Thread Cert.AttnPrepBwdIdeal.nD Cert.AttnPrepBwdIdeal.τ).loc Cert.AttnPrepBwdIdeal.main_v106_2)) (v3 : (c : Dev Cert.AttnPrepBwdIdeal.nD) → Buf (Elt Ideal) ((c.tc : Thread Cert.AttnPrepBwdIdeal.nD Cert.AttnPrepBwdIdeal.τ).loc Cert.AttnPrepBwdIdeal.main_v106_3)),
      θ_run (Cert.AttnPrepBwdIdeal.defs (F := Ideal)) (onTc (τ := Cert.AttnPrepBwdIdeal.τ) (Cert.AttnPrepBwdIdeal.main (F := Ideal))) ⟨m, fun _ => 0, g⟩ (fun r => ∀ c : Dev Cert.AttnPrepBwdIdeal.nD,
          r.2.mem ((c.tc : Thread Cert.AttnPrepBwdIdeal.nD Cert.AttnPrepBwdIdeal.τ).loc Cert.AttnPrepBwdIdeal.main_v106_0) = v0 c
          ∧ r.2.mem ((c.tc : Thread Cert.AttnPrepBwdIdeal.nD Cert.AttnPrepBwdIdeal.τ).loc Cert.AttnPrepBwdIdeal.main_v106_1) = v1 c
          ∧ r.2.mem ((c.tc : Thread Cert.AttnPrepBwdIdeal.nD Cert.AttnPrepBwdIdeal.τ).loc Cert.AttnPrepBwdIdeal.main_v106_2) = v2 c
          ∧ r.2.mem ((c.tc : Thread Cert.AttnPrepBwdIdeal.nD Cert.AttnPrepBwdIdeal.τ).loc Cert.AttnPrepBwdIdeal.main_v106_3) = v3 c
          ∧ r.2.mem ((c.tc : Thread Cert.AttnPrepBwdIdeal.nD Cert.AttnPrepBwdIdeal.τ).loc Cert.AttnPrepBwdIdeal.main_arg0) = m ((c.tc : Thread Cert.AttnPrepBwdIdeal.nD Cert.AttnPrepBwdIdeal.τ).loc Cert.AttnPrepBwdIdeal.main_arg0)
          ∧ r.2.mem ((c.tc : Thread Cert.AttnPrepBwdIdeal.nD Cert.AttnPrepBwdIdeal.τ).loc Cert.AttnPrepBwdIdeal.main_arg1) = m ((c.tc : Thread Cert.AttnPrepBwdIdeal.nD Cert.AttnPrepBwdIdeal.τ).loc Cert.AttnPrepBwdIdeal.main_arg1)
          ∧ r.2.mem ((c.tc : Thread Cert.AttnPrepBwdIdeal.nD Cert.AttnPrepBwdIdeal.τ).loc Cert.AttnPrepBwdIdeal.main_arg2) = m ((c.tc : Thread Cert.AttnPrepBwdIdeal.nD Cert.AttnPrepBwdIdeal.τ).loc Cert.AttnPrepBwdIdeal.main_arg2)
          ∧ r.2.mem ((c.tc : Thread Cert.AttnPrepBwdIdeal.nD Cert.AttnPrepBwdIdeal.τ).loc Cert.AttnPrepBwdIdeal.main_arg3) = m ((c.tc : Thread Cert.AttnPrepBwdIdeal.nD Cert.AttnPrepBwdIdeal.τ).loc Cert.AttnPrepBwdIdeal.main_arg3)
          ∧ r.2.mem ((c.tc : Thread Cert.AttnPrepBwdIdeal.nD Cert.AttnPrepBwdIdeal.τ).loc Cert.AttnPrepBwdIdeal.main_arg4) = m ((c.tc : Thread Cert.AttnPrepBwdIdeal.nD Cert.AttnPrepBwdIdeal.τ).loc Cert.AttnPrepBwdIdeal.main_arg4))
      ∧ θ_run (Cert.AttnPrepBwdRefIdeal.defs (F := Ideal)) (onTc (τ := Cert.AttnPrepBwdRefIdeal.τ) (Cert.AttnPrepBwdRefIdeal.main (F := Ideal))) ⟨m', fun _ => 0, g'⟩ (fun r => ∀ c : Dev Cert.AttnPrepBwdRefIdeal.nD,
          r.2.mem ((c.tc : Thread Cert.AttnPrepBwdRefIdeal.nD Cert.AttnPrepBwdRefIdeal.τ).loc Cert.AttnPrepBwdRefIdeal.main_v235) = v0 c
          ∧ r.2.mem ((c.tc : Thread Cert.AttnPrepBwdRefIdeal.nD Cert.AttnPrepBwdRefIdeal.τ).loc Cert.AttnPrepBwdRefIdeal.main_v240) = v1 c
          ∧ r.2.mem ((c.tc : Thread Cert.AttnPrepBwdRefIdeal.nD Cert.AttnPrepBwdRefIdeal.τ).loc Cert.AttnPrepBwdRefIdeal.main_v242) = v2 c
          ∧ r.2.mem ((c.tc : Thread Cert.AttnPrepBwdRefIdeal.nD Cert.AttnPrepBwdRefIdeal.τ).loc Cert.AttnPrepBwdRefIdeal.main_v244) = v3 c
          ∧ r.2.mem ((c.tc : Thread Cert.AttnPrepBwdRefIdeal.nD Cert.AttnPrepBwdRefIdeal.τ).loc Cert.AttnPrepBwdRefIdeal.main_arg0) = m' ((c.tc : Thread Cert.AttnPrepBwdRefIdeal.nD Cert.AttnPrepBwdRefIdeal.τ).loc Cert.AttnPrepBwdRefIdeal.main_arg0)
          ∧ r.2.mem ((c.tc : Thread Cert.AttnPrepBwdRefIdeal.nD Cert.AttnPrepBwdRefIdeal.τ).loc Cert.AttnPrepBwdRefIdeal.main_arg1) = m' ((c.tc : Thread Cert.AttnPrepBwdRefIdeal.nD Cert.AttnPrepBwdRefIdeal.τ).loc Cert.AttnPrepBwdRefIdeal.main_arg1)
          ∧ r.2.mem ((c.tc : Thread Cert.AttnPrepBwdRefIdeal.nD Cert.AttnPrepBwdRefIdeal.τ).loc Cert.AttnPrepBwdRefIdeal.main_arg2) = m' ((c.tc : Thread Cert.AttnPrepBwdRefIdeal.nD Cert.AttnPrepBwdRefIdeal.τ).loc Cert.AttnPrepBwdRefIdeal.main_arg2)
          ∧ r.2.mem ((c.tc : Thread Cert.AttnPrepBwdRefIdeal.nD Cert.AttnPrepBwdRefIdeal.τ).loc Cert.AttnPrepBwdRefIdeal.main_arg3) = m' ((c.tc : Thread Cert.AttnPrepBwdRefIdeal.nD Cert.AttnPrepBwdRefIdeal.τ).loc Cert.AttnPrepBwdRefIdeal.main_arg3)
          ∧ r.2.mem ((c.tc : Thread Cert.AttnPrepBwdRefIdeal.nD Cert.AttnPrepBwdRefIdeal.τ).loc Cert.AttnPrepBwdRefIdeal.main_arg4) = m' ((c.tc : Thread Cert.AttnPrepBwdRefIdeal.nD Cert.AttnPrepBwdRefIdeal.τ).loc Cert.AttnPrepBwdRefIdeal.main_arg4))

def preserves_NormFwd_NormFwdIdeal : Prop :=
  True

def algebraic_NormFwdIdeal_NormFwdRefIdeal_pre_finite11 [hNormFwdIdeal : Cert.NormFwdIdeal.Facts] [hNormFwdRefIdeal : Cert.NormFwdRefIdeal.Facts] [hPre_finite11 : Cert.Pre_finite11.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal_finite11 m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v3)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v3) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_GlaOutFwd_GlaOutFwdIdeal : Prop :=
  True

def algebraic_GlaOutFwdIdeal_GlaOutFwdRefIdeal_pre_finite12 [hGlaOutFwdIdeal : Cert.GlaOutFwdIdeal.Facts] [hGlaOutFwdRefIdeal : Cert.GlaOutFwdRefIdeal.Facts] [hPre_finite12 : Cert.Pre_finite12.Facts] : Prop :=
  ∀ (m : (ℓ : Loc Cert.GlaOutFwdIdeal.nD Cert.GlaOutFwdIdeal.τ Cert.GlaOutFwdIdeal.sig) → Buf (Elt Ideal) ℓ) (g : Dev Cert.GlaOutFwdIdeal.nD → PrngReg)
    (m' : (ℓ : Loc Cert.GlaOutFwdRefIdeal.nD Cert.GlaOutFwdRefIdeal.τ Cert.GlaOutFwdRefIdeal.sig) → Buf (Elt Ideal) ℓ) (g' : Dev Cert.GlaOutFwdRefIdeal.nD → PrngReg), Pre_GlaOutFwdIdeal_finite12 m →
    (∀ c : Dev Cert.GlaOutFwdIdeal.nD,
      m' ((c.tc : Thread Cert.GlaOutFwdRefIdeal.nD Cert.GlaOutFwdRefIdeal.τ).loc Cert.GlaOutFwdRefIdeal.main_arg0) = m ((c.tc : Thread Cert.GlaOutFwdIdeal.nD Cert.GlaOutFwdIdeal.τ).loc Cert.GlaOutFwdIdeal.main_arg0)
      ∧ m' ((c.tc : Thread Cert.GlaOutFwdRefIdeal.nD Cert.GlaOutFwdRefIdeal.τ).loc Cert.GlaOutFwdRefIdeal.main_arg1) = m ((c.tc : Thread Cert.GlaOutFwdIdeal.nD Cert.GlaOutFwdIdeal.τ).loc Cert.GlaOutFwdIdeal.main_arg1)
      ∧ m' ((c.tc : Thread Cert.GlaOutFwdRefIdeal.nD Cert.GlaOutFwdRefIdeal.τ).loc Cert.GlaOutFwdRefIdeal.main_arg2) = m ((c.tc : Thread Cert.GlaOutFwdIdeal.nD Cert.GlaOutFwdIdeal.τ).loc Cert.GlaOutFwdIdeal.main_arg2)
      ∧ m' ((c.tc : Thread Cert.GlaOutFwdRefIdeal.nD Cert.GlaOutFwdRefIdeal.τ).loc Cert.GlaOutFwdRefIdeal.main_arg3) = m ((c.tc : Thread Cert.GlaOutFwdIdeal.nD Cert.GlaOutFwdIdeal.τ).loc Cert.GlaOutFwdIdeal.main_arg3)) →
    ∃ (v0 : (c : Dev Cert.GlaOutFwdIdeal.nD) → Buf (Elt Ideal) ((c.tc : Thread Cert.GlaOutFwdIdeal.nD Cert.GlaOutFwdIdeal.τ).loc Cert.GlaOutFwdIdeal.main_v43)),
      θ_run (Cert.GlaOutFwdIdeal.defs (F := Ideal)) (onTc (τ := Cert.GlaOutFwdIdeal.τ) (Cert.GlaOutFwdIdeal.main (F := Ideal))) ⟨m, fun _ => 0, g⟩ (fun r => ∀ c : Dev Cert.GlaOutFwdIdeal.nD,
          r.2.mem ((c.tc : Thread Cert.GlaOutFwdIdeal.nD Cert.GlaOutFwdIdeal.τ).loc Cert.GlaOutFwdIdeal.main_v43) = v0 c
          ∧ r.2.mem ((c.tc : Thread Cert.GlaOutFwdIdeal.nD Cert.GlaOutFwdIdeal.τ).loc Cert.GlaOutFwdIdeal.main_arg0) = m ((c.tc : Thread Cert.GlaOutFwdIdeal.nD Cert.GlaOutFwdIdeal.τ).loc Cert.GlaOutFwdIdeal.main_arg0)
          ∧ r.2.mem ((c.tc : Thread Cert.GlaOutFwdIdeal.nD Cert.GlaOutFwdIdeal.τ).loc Cert.GlaOutFwdIdeal.main_arg1) = m ((c.tc : Thread Cert.GlaOutFwdIdeal.nD Cert.GlaOutFwdIdeal.τ).loc Cert.GlaOutFwdIdeal.main_arg1)
          ∧ r.2.mem ((c.tc : Thread Cert.GlaOutFwdIdeal.nD Cert.GlaOutFwdIdeal.τ).loc Cert.GlaOutFwdIdeal.main_arg2) = m ((c.tc : Thread Cert.GlaOutFwdIdeal.nD Cert.GlaOutFwdIdeal.τ).loc Cert.GlaOutFwdIdeal.main_arg2)
          ∧ r.2.mem ((c.tc : Thread Cert.GlaOutFwdIdeal.nD Cert.GlaOutFwdIdeal.τ).loc Cert.GlaOutFwdIdeal.main_arg3) = m ((c.tc : Thread Cert.GlaOutFwdIdeal.nD Cert.GlaOutFwdIdeal.τ).loc Cert.GlaOutFwdIdeal.main_arg3))
      ∧ θ_run (Cert.GlaOutFwdRefIdeal.defs (F := Ideal)) (onTc (τ := Cert.GlaOutFwdRefIdeal.τ) (Cert.GlaOutFwdRefIdeal.main (F := Ideal))) ⟨m', fun _ => 0, g'⟩ (fun r => ∀ c : Dev Cert.GlaOutFwdRefIdeal.nD,
          r.2.mem ((c.tc : Thread Cert.GlaOutFwdRefIdeal.nD Cert.GlaOutFwdRefIdeal.τ).loc Cert.GlaOutFwdRefIdeal.main_v30) = v0 c
          ∧ r.2.mem ((c.tc : Thread Cert.GlaOutFwdRefIdeal.nD Cert.GlaOutFwdRefIdeal.τ).loc Cert.GlaOutFwdRefIdeal.main_arg0) = m' ((c.tc : Thread Cert.GlaOutFwdRefIdeal.nD Cert.GlaOutFwdRefIdeal.τ).loc Cert.GlaOutFwdRefIdeal.main_arg0)
          ∧ r.2.mem ((c.tc : Thread Cert.GlaOutFwdRefIdeal.nD Cert.GlaOutFwdRefIdeal.τ).loc Cert.GlaOutFwdRefIdeal.main_arg1) = m' ((c.tc : Thread Cert.GlaOutFwdRefIdeal.nD Cert.GlaOutFwdRefIdeal.τ).loc Cert.GlaOutFwdRefIdeal.main_arg1)
          ∧ r.2.mem ((c.tc : Thread Cert.GlaOutFwdRefIdeal.nD Cert.GlaOutFwdRefIdeal.τ).loc Cert.GlaOutFwdRefIdeal.main_arg2) = m' ((c.tc : Thread Cert.GlaOutFwdRefIdeal.nD Cert.GlaOutFwdRefIdeal.τ).loc Cert.GlaOutFwdRefIdeal.main_arg2)
          ∧ r.2.mem ((c.tc : Thread Cert.GlaOutFwdRefIdeal.nD Cert.GlaOutFwdRefIdeal.τ).loc Cert.GlaOutFwdRefIdeal.main_arg3) = m' ((c.tc : Thread Cert.GlaOutFwdRefIdeal.nD Cert.GlaOutFwdRefIdeal.τ).loc Cert.GlaOutFwdRefIdeal.main_arg3))

def preserves_FfnUp_FfnUpIdeal : Prop :=
  True

def algebraic_FfnUpIdeal_FfnUpRefIdeal_pre_finite13 [hFfnUpIdeal : Cert.FfnUpIdeal.Facts] [hFfnUpRefIdeal : Cert.FfnUpRefIdeal.Facts] [hPre_finite13 : Cert.Pre_finite13.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_finite13 m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v7_0)) (v1 : (c : Dev Cert.FfnUpIdeal.nD) → Buf (Elt Ideal) ((c.tc : Thread Cert.FfnUpIdeal.nD Cert.FfnUpIdeal.τ).loc Cert.FfnUpIdeal.main_v7_1)) (v2 : (c : Dev Cert.FfnUpIdeal.nD) → Buf (Elt Ideal) ((c.tc : Thread Cert.FfnUpIdeal.nD Cert.FfnUpIdeal.τ).loc Cert.FfnUpIdeal.main_v7_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v7_0) = v0 c
          ∧ r.2.mem ((c.tc : Thread Cert.FfnUpIdeal.nD Cert.FfnUpIdeal.τ).loc Cert.FfnUpIdeal.main_v7_1) = v1 c
          ∧ r.2.mem ((c.tc : Thread Cert.FfnUpIdeal.nD Cert.FfnUpIdeal.τ).loc Cert.FfnUpIdeal.main_v7_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v5) = v0 c
          ∧ r.2.mem ((c.tc : Thread Cert.FfnUpRefIdeal.nD Cert.FfnUpRefIdeal.τ).loc Cert.FfnUpRefIdeal.main_v7) = v1 c
          ∧ r.2.mem ((c.tc : Thread Cert.FfnUpRefIdeal.nD Cert.FfnUpRefIdeal.τ).loc Cert.FfnUpRefIdeal.main_v9) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_MergeFwd_MergeFwdIdeal : Prop :=
  True

def algebraic_MergeFwdIdeal_MergeFwdRefIdeal_pre_finite14 [hMergeFwdIdeal : Cert.MergeFwdIdeal.Facts] [hMergeFwdRefIdeal : Cert.MergeFwdRefIdeal.Facts] [hPre_finite14 : Cert.Pre_finite14.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal_finite14 m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v51_0)) (v1 : (c : Dev Cert.MergeFwdIdeal.nD) → Buf (Elt Ideal) ((c.tc : Thread Cert.MergeFwdIdeal.nD Cert.MergeFwdIdeal.τ).loc Cert.MergeFwdIdeal.main_v51_1)) (v2 : (c : Dev Cert.MergeFwdIdeal.nD) → Buf (Elt Ideal) ((c.tc : Thread Cert.MergeFwdIdeal.nD Cert.MergeFwdIdeal.τ).loc Cert.MergeFwdIdeal.main_v51_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v51_0) = v0 c
          ∧ r.2.mem ((c.tc : Thread Cert.MergeFwdIdeal.nD Cert.MergeFwdIdeal.τ).loc Cert.MergeFwdIdeal.main_v51_1) = v1 c
          ∧ r.2.mem ((c.tc : Thread Cert.MergeFwdIdeal.nD Cert.MergeFwdIdeal.τ).loc Cert.MergeFwdIdeal.main_v51_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v39) = v0 c
          ∧ r.2.mem ((c.tc : Thread Cert.MergeFwdRefIdeal.nD Cert.MergeFwdRefIdeal.τ).loc Cert.MergeFwdRefIdeal.main_v41) = v1 c
          ∧ r.2.mem ((c.tc : Thread Cert.MergeFwdRefIdeal.nD Cert.MergeFwdRefIdeal.τ).loc Cert.MergeFwdRefIdeal.main_v43) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_FfnDown_FfnDownIdeal : Prop :=
  True

def algebraic_FfnDownIdeal_FfnDownRefIdeal_pre_finite15 [hFfnDownIdeal : Cert.FfnDownIdeal.Facts] [hFfnDownRefIdeal : Cert.FfnDownRefIdeal.Facts] [hPre_finite15 : Cert.Pre_finite15.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal_finite15 m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v7_0)) (v1 : (c : Dev Cert.FfnDownIdeal.nD) → Buf (Elt Ideal) ((c.tc : Thread Cert.FfnDownIdeal.nD Cert.FfnDownIdeal.τ).loc Cert.FfnDownIdeal.main_v7_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v7_0) = v0 c
          ∧ r.2.mem ((c.tc : Thread Cert.FfnDownIdeal.nD Cert.FfnDownIdeal.τ).loc Cert.FfnDownIdeal.main_v7_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_v19) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_OutProj_OutProjIdeal : Prop :=
  True

def algebraic_OutProjIdeal_OutProjRefIdeal_pre_finite16 [hOutProjIdeal : Cert.OutProjIdeal.Facts] [hOutProjRefIdeal : Cert.OutProjRefIdeal.Facts] [hPre_finite16 : Cert.Pre_finite16.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite16 m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_GlaInBwd_GlaInBwdIdeal : Prop :=
  True

def Claim : Prop :=
  ∃ (hLossHead : Cert.LossHead.Facts) (hLossHeadIdeal : Cert.LossHeadIdeal.Facts) (hLossHeadRefIdeal : Cert.LossHeadRefIdeal.Facts) (hAttn : Cert.Attn.Facts) (hAttnIdeal : Cert.AttnIdeal.Facts) (hAttnRefIdeal : Cert.AttnRefIdeal.Facts) (hGlaOutBwd : Cert.GlaOutBwd.Facts) (hGlaOutBwdIdeal : Cert.GlaOutBwdIdeal.Facts) (hGlaOutBwdRefIdeal : Cert.GlaOutBwdRefIdeal.Facts) (hFfnDact : Cert.FfnDact.Facts) (hFfnDactIdeal : Cert.FfnDactIdeal.Facts) (hFfnDactRefIdeal : Cert.FfnDactRefIdeal.Facts) (hFfnDz : Cert.FfnDz.Facts) (hFfnDzIdeal : Cert.FfnDzIdeal.Facts) (hFfnDzRefIdeal : Cert.FfnDzRefIdeal.Facts) (hMergeBwd : Cert.MergeBwd.Facts) (hMergeBwdIdeal : Cert.MergeBwdIdeal.Facts) (hMergeBwdRefIdeal : Cert.MergeBwdRefIdeal.Facts) (hInProjDz : Cert.InProjDz.Facts) (hInProjDzIdeal : Cert.InProjDzIdeal.Facts) (hInProjDzRefIdeal : Cert.InProjDzRefIdeal.Facts) (hAttnPrepBwd : Cert.AttnPrepBwd.Facts) (hAttnPrepBwdIdeal : Cert.AttnPrepBwdIdeal.Facts) (hAttnPrepBwdRefIdeal : Cert.AttnPrepBwdRefIdeal.Facts) (hNormFwd : Cert.NormFwd.Facts) (hNormFwdIdeal : Cert.NormFwdIdeal.Facts) (hNormFwdRefIdeal : Cert.NormFwdRefIdeal.Facts) (hGlaOutFwd : Cert.GlaOutFwd.Facts) (hGlaOutFwdIdeal : Cert.GlaOutFwdIdeal.Facts) (hGlaOutFwdRefIdeal : Cert.GlaOutFwdRefIdeal.Facts) (hFfnUp : Cert.FfnUp.Facts) (hFfnUpIdeal : Cert.FfnUpIdeal.Facts) (hFfnUpRefIdeal : Cert.FfnUpRefIdeal.Facts) (hMergeFwd : Cert.MergeFwd.Facts) (hMergeFwdIdeal : Cert.MergeFwdIdeal.Facts) (hMergeFwdRefIdeal : Cert.MergeFwdRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hGlaInBwd : Cert.GlaInBwd.Facts) (hGlaInBwdIdeal : Cert.GlaInBwdIdeal.Facts) (hGlaInBwdRefIdeal : Cert.GlaInBwdRefIdeal.Facts) (hPre_finite1 : Cert.Pre_finite1.Facts) (hPre_finite7 : Cert.Pre_finite7.Facts) (hPre_finite5 : Cert.Pre_finite5.Facts) (hPre_finite2 : Cert.Pre_finite2.Facts) (hPre_finite3 : Cert.Pre_finite3.Facts) (hPre_finite4 : Cert.Pre_finite4.Facts) (hPre_finite10 : Cert.Pre_finite10.Facts) (hPre_finite8 : Cert.Pre_finite8.Facts) (hPre_finite11 : Cert.Pre_finite11.Facts) (hPre_finite12 : Cert.Pre_finite12.Facts) (hPre_finite13 : Cert.Pre_finite13.Facts) (hPre_finite14 : Cert.Pre_finite14.Facts) (hPre_finite15 : Cert.Pre_finite15.Facts) (hPre_finite16 : Cert.Pre_finite16.Facts),
    quiescent_LossHead (hLossHead := hLossHead)
    ∧ quiescent_LossHeadIdeal (hLossHeadIdeal := hLossHeadIdeal)
    ∧ quiescent_LossHeadIdeal_pre_finite1 (hLossHeadIdeal := hLossHeadIdeal) (hPre_finite1 := hPre_finite1)
    ∧ quiescent_LossHeadRefIdeal (hLossHeadRefIdeal := hLossHeadRefIdeal)
    ∧ quiescent_LossHeadRefIdeal_pre_finite1 (hLossHeadRefIdeal := hLossHeadRefIdeal) (hPre_finite1 := hPre_finite1)
    ∧ quiescent_Attn (hAttn := hAttn)
    ∧ quiescent_AttnIdeal (hAttnIdeal := hAttnIdeal)
    ∧ quiescent_AttnIdeal_pre_finite7 (hAttnIdeal := hAttnIdeal) (hPre_finite7 := hPre_finite7)
    ∧ quiescent_AttnRefIdeal (hAttnRefIdeal := hAttnRefIdeal)
    ∧ quiescent_AttnRefIdeal_pre_finite7 (hAttnRefIdeal := hAttnRefIdeal) (hPre_finite7 := hPre_finite7)
    ∧ quiescent_GlaOutBwd (hGlaOutBwd := hGlaOutBwd)
    ∧ quiescent_GlaOutBwdIdeal (hGlaOutBwdIdeal := hGlaOutBwdIdeal)
    ∧ quiescent_GlaOutBwdIdeal_pre_finite5 (hGlaOutBwdIdeal := hGlaOutBwdIdeal) (hPre_finite5 := hPre_finite5)
    ∧ quiescent_GlaOutBwdRefIdeal (hGlaOutBwdRefIdeal := hGlaOutBwdRefIdeal)
    ∧ quiescent_GlaOutBwdRefIdeal_pre_finite5 (hGlaOutBwdRefIdeal := hGlaOutBwdRefIdeal) (hPre_finite5 := hPre_finite5)
    ∧ quiescent_FfnDact (hFfnDact := hFfnDact)
    ∧ quiescent_FfnDactIdeal (hFfnDactIdeal := hFfnDactIdeal)
    ∧ quiescent_FfnDactIdeal_pre_finite2 (hFfnDactIdeal := hFfnDactIdeal) (hPre_finite2 := hPre_finite2)
    ∧ quiescent_FfnDactRefIdeal (hFfnDactRefIdeal := hFfnDactRefIdeal)
    ∧ quiescent_FfnDactRefIdeal_pre_finite2 (hFfnDactRefIdeal := hFfnDactRefIdeal) (hPre_finite2 := hPre_finite2)
    ∧ quiescent_FfnDz (hFfnDz := hFfnDz)
    ∧ quiescent_FfnDzIdeal (hFfnDzIdeal := hFfnDzIdeal)
    ∧ quiescent_FfnDzIdeal_pre_finite3 (hFfnDzIdeal := hFfnDzIdeal) (hPre_finite3 := hPre_finite3)
    ∧ quiescent_FfnDzRefIdeal (hFfnDzRefIdeal := hFfnDzRefIdeal)
    ∧ quiescent_FfnDzRefIdeal_pre_finite3 (hFfnDzRefIdeal := hFfnDzRefIdeal) (hPre_finite3 := hPre_finite3)
    ∧ quiescent_MergeBwd (hMergeBwd := hMergeBwd)
    ∧ quiescent_MergeBwdIdeal (hMergeBwdIdeal := hMergeBwdIdeal)
    ∧ quiescent_MergeBwdIdeal_pre_finite4 (hMergeBwdIdeal := hMergeBwdIdeal) (hPre_finite4 := hPre_finite4)
    ∧ quiescent_MergeBwdRefIdeal (hMergeBwdRefIdeal := hMergeBwdRefIdeal)
    ∧ quiescent_MergeBwdRefIdeal_pre_finite4 (hMergeBwdRefIdeal := hMergeBwdRefIdeal) (hPre_finite4 := hPre_finite4)
    ∧ quiescent_InProjDz (hInProjDz := hInProjDz)
    ∧ quiescent_InProjDzIdeal (hInProjDzIdeal := hInProjDzIdeal)
    ∧ quiescent_InProjDzIdeal_pre_finite10 (hInProjDzIdeal := hInProjDzIdeal) (hPre_finite10 := hPre_finite10)
    ∧ quiescent_InProjDzRefIdeal (hInProjDzRefIdeal := hInProjDzRefIdeal)
    ∧ quiescent_InProjDzRefIdeal_pre_finite10 (hInProjDzRefIdeal := hInProjDzRefIdeal) (hPre_finite10 := hPre_finite10)
    ∧ quiescent_AttnPrepBwd (hAttnPrepBwd := hAttnPrepBwd)
    ∧ quiescent_AttnPrepBwdIdeal (hAttnPrepBwdIdeal := hAttnPrepBwdIdeal)
    ∧ quiescent_AttnPrepBwdIdeal_pre_finite8 (hAttnPrepBwdIdeal := hAttnPrepBwdIdeal) (hPre_finite8 := hPre_finite8)
    ∧ quiescent_AttnPrepBwdRefIdeal (hAttnPrepBwdRefIdeal := hAttnPrepBwdRefIdeal)
    ∧ quiescent_AttnPrepBwdRefIdeal_pre_finite8 (hAttnPrepBwdRefIdeal := hAttnPrepBwdRefIdeal) (hPre_finite8 := hPre_finite8)
    ∧ quiescent_NormFwd (hNormFwd := hNormFwd)
    ∧ quiescent_NormFwdIdeal (hNormFwdIdeal := hNormFwdIdeal)
    ∧ quiescent_NormFwdIdeal_pre_finite11 (hNormFwdIdeal := hNormFwdIdeal) (hPre_finite11 := hPre_finite11)
    ∧ quiescent_NormFwdRefIdeal (hNormFwdRefIdeal := hNormFwdRefIdeal)
    ∧ quiescent_NormFwdRefIdeal_pre_finite11 (hNormFwdRefIdeal := hNormFwdRefIdeal) (hPre_finite11 := hPre_finite11)
    ∧ quiescent_GlaOutFwd (hGlaOutFwd := hGlaOutFwd)
    ∧ quiescent_GlaOutFwdIdeal (hGlaOutFwdIdeal := hGlaOutFwdIdeal)
    ∧ quiescent_GlaOutFwdIdeal_pre_finite12 (hGlaOutFwdIdeal := hGlaOutFwdIdeal) (hPre_finite12 := hPre_finite12)
    ∧ quiescent_GlaOutFwdRefIdeal (hGlaOutFwdRefIdeal := hGlaOutFwdRefIdeal)
    ∧ quiescent_GlaOutFwdRefIdeal_pre_finite12 (hGlaOutFwdRefIdeal := hGlaOutFwdRefIdeal) (hPre_finite12 := hPre_finite12)
    ∧ quiescent_FfnUp (hFfnUp := hFfnUp)
    ∧ quiescent_FfnUpIdeal (hFfnUpIdeal := hFfnUpIdeal)
    ∧ quiescent_FfnUpIdeal_pre_finite13 (hFfnUpIdeal := hFfnUpIdeal) (hPre_finite13 := hPre_finite13)
    ∧ quiescent_FfnUpRefIdeal (hFfnUpRefIdeal := hFfnUpRefIdeal)
    ∧ quiescent_FfnUpRefIdeal_pre_finite13 (hFfnUpRefIdeal := hFfnUpRefIdeal) (hPre_finite13 := hPre_finite13)
    ∧ quiescent_MergeFwd (hMergeFwd := hMergeFwd)
    ∧ quiescent_MergeFwdIdeal (hMergeFwdIdeal := hMergeFwdIdeal)
    ∧ quiescent_MergeFwdIdeal_pre_finite14 (hMergeFwdIdeal := hMergeFwdIdeal) (hPre_finite14 := hPre_finite14)
    ∧ quiescent_MergeFwdRefIdeal (hMergeFwdRefIdeal := hMergeFwdRefIdeal)
    ∧ quiescent_MergeFwdRefIdeal_pre_finite14 (hMergeFwdRefIdeal := hMergeFwdRefIdeal) (hPre_finite14 := hPre_finite14)
    ∧ quiescent_FfnDown (hFfnDown := hFfnDown)
    ∧ quiescent_FfnDownIdeal (hFfnDownIdeal := hFfnDownIdeal)
    ∧ quiescent_FfnDownIdeal_pre_finite15 (hFfnDownIdeal := hFfnDownIdeal) (hPre_finite15 := hPre_finite15)
    ∧ quiescent_FfnDownRefIdeal (hFfnDownRefIdeal := hFfnDownRefIdeal)
    ∧ quiescent_FfnDownRefIdeal_pre_finite15 (hFfnDownRefIdeal := hFfnDownRefIdeal) (hPre_finite15 := hPre_finite15)
    ∧ quiescent_OutProj (hOutProj := hOutProj)
    ∧ quiescent_OutProjIdeal (hOutProjIdeal := hOutProjIdeal)
    ∧ quiescent_OutProjIdeal_pre_finite16 (hOutProjIdeal := hOutProjIdeal) (hPre_finite16 := hPre_finite16)
    ∧ quiescent_OutProjRefIdeal (hOutProjRefIdeal := hOutProjRefIdeal)
    ∧ quiescent_OutProjRefIdeal_pre_finite16 (hOutProjRefIdeal := hOutProjRefIdeal) (hPre_finite16 := hPre_finite16)
    ∧ quiescent_GlaInBwd (hGlaInBwd := hGlaInBwd)
    ∧ quiescent_GlaInBwdIdeal (hGlaInBwdIdeal := hGlaInBwdIdeal)
    ∧ quiescent_GlaInBwdRefIdeal (hGlaInBwdRefIdeal := hGlaInBwdRefIdeal)
    ∧ preserves_LossHead_LossHeadIdeal
    ∧ algebraic_LossHeadIdeal_LossHeadRefIdeal_pre_finite1 (hLossHeadIdeal := hLossHeadIdeal) (hLossHeadRefIdeal := hLossHeadRefIdeal) (hPre_finite1 := hPre_finite1)
    ∧ preserves_Attn_AttnIdeal
    ∧ algebraic_AttnIdeal_AttnRefIdeal_pre_finite7 (hAttnIdeal := hAttnIdeal) (hAttnRefIdeal := hAttnRefIdeal) (hPre_finite7 := hPre_finite7)
    ∧ preserves_GlaOutBwd_GlaOutBwdIdeal
    ∧ algebraic_GlaOutBwdIdeal_GlaOutBwdRefIdeal_pre_finite5 (hGlaOutBwdIdeal := hGlaOutBwdIdeal) (hGlaOutBwdRefIdeal := hGlaOutBwdRefIdeal) (hPre_finite5 := hPre_finite5)
    ∧ preserves_FfnDact_FfnDactIdeal
    ∧ algebraic_FfnDactIdeal_FfnDactRefIdeal_pre_finite2 (hFfnDactIdeal := hFfnDactIdeal) (hFfnDactRefIdeal := hFfnDactRefIdeal) (hPre_finite2 := hPre_finite2)
    ∧ preserves_FfnDz_FfnDzIdeal
    ∧ algebraic_FfnDzIdeal_FfnDzRefIdeal_pre_finite3 (hFfnDzIdeal := hFfnDzIdeal) (hFfnDzRefIdeal := hFfnDzRefIdeal) (hPre_finite3 := hPre_finite3)
    ∧ preserves_MergeBwd_MergeBwdIdeal
    ∧ algebraic_MergeBwdIdeal_MergeBwdRefIdeal_pre_finite4 (hMergeBwdIdeal := hMergeBwdIdeal) (hMergeBwdRefIdeal := hMergeBwdRefIdeal) (hPre_finite4 := hPre_finite4)
    ∧ preserves_InProjDz_InProjDzIdeal
    ∧ algebraic_InProjDzIdeal_InProjDzRefIdeal_pre_finite10 (hInProjDzIdeal := hInProjDzIdeal) (hInProjDzRefIdeal := hInProjDzRefIdeal) (hPre_finite10 := hPre_finite10)
    ∧ preserves_AttnPrepBwd_AttnPrepBwdIdeal
    ∧ algebraic_AttnPrepBwdIdeal_AttnPrepBwdRefIdeal_pre_finite8 (hAttnPrepBwdIdeal := hAttnPrepBwdIdeal) (hAttnPrepBwdRefIdeal := hAttnPrepBwdRefIdeal) (hPre_finite8 := hPre_finite8)
    ∧ preserves_NormFwd_NormFwdIdeal
    ∧ algebraic_NormFwdIdeal_NormFwdRefIdeal_pre_finite11 (hNormFwdIdeal := hNormFwdIdeal) (hNormFwdRefIdeal := hNormFwdRefIdeal) (hPre_finite11 := hPre_finite11)
    ∧ preserves_GlaOutFwd_GlaOutFwdIdeal
    ∧ algebraic_GlaOutFwdIdeal_GlaOutFwdRefIdeal_pre_finite12 (hGlaOutFwdIdeal := hGlaOutFwdIdeal) (hGlaOutFwdRefIdeal := hGlaOutFwdRefIdeal) (hPre_finite12 := hPre_finite12)
    ∧ preserves_FfnUp_FfnUpIdeal
    ∧ algebraic_FfnUpIdeal_FfnUpRefIdeal_pre_finite13 (hFfnUpIdeal := hFfnUpIdeal) (hFfnUpRefIdeal := hFfnUpRefIdeal) (hPre_finite13 := hPre_finite13)
    ∧ preserves_MergeFwd_MergeFwdIdeal
    ∧ algebraic_MergeFwdIdeal_MergeFwdRefIdeal_pre_finite14 (hMergeFwdIdeal := hMergeFwdIdeal) (hMergeFwdRefIdeal := hMergeFwdRefIdeal) (hPre_finite14 := hPre_finite14)
    ∧ preserves_FfnDown_FfnDownIdeal
    ∧ algebraic_FfnDownIdeal_FfnDownRefIdeal_pre_finite15 (hFfnDownIdeal := hFfnDownIdeal) (hFfnDownRefIdeal := hFfnDownRefIdeal) (hPre_finite15 := hPre_finite15)
    ∧ preserves_OutProj_OutProjIdeal
    ∧ algebraic_OutProjIdeal_OutProjRefIdeal_pre_finite16 (hOutProjIdeal := hOutProjIdeal) (hOutProjRefIdeal := hOutProjRefIdeal) (hPre_finite16 := hPre_finite16)
    ∧ preserves_GlaInBwd_GlaInBwdIdeal
-- ==== Pre_finite1.lean ====
abbrev S4112x1024 : Shape := ⟨2, ![4112, 1024]⟩
abbrev S4096x1024 : Shape := ⟨2, ![4096, 1024]⟩
abbrev S1024 : Shape := ⟨1, ![1024]⟩
abbrev S_ : Shape := ⟨0, ![]⟩

class Facts : Prop where
  bcast_S_S4112x1024 : S_.BroadcastsInDim S4112x1024 (![] : Fin 0 → Fin S4112x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4112x1024 .f32) (main_arg1 : FVec F S4096x1024 .f32) (main_arg2 : FVec F S1024 .f32) : IVec S4112x1024 1 × IVec S4096x1024 1 × IVec S1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite10.lean ====
abbrev S4112x1024 : Shape := ⟨2, ![4112, 1024]⟩
abbrev S1024 : Shape := ⟨1, ![1024]⟩
abbrev S1024x4384 : Shape := ⟨2, ![1024, 4384]⟩
abbrev S4112x4384 : Shape := ⟨2, ![4112, 4384]⟩
abbrev S_ : Shape := ⟨0, ![]⟩

class Facts : Prop where
  bcast_S_S4112x1024 : S_.BroadcastsInDim S4112x1024 (![] : Fin 0 → Fin S4112x1024.rank)
  bcast_S_S1024 : S_.BroadcastsInDim S1024 (![] : Fin 0 → Fin S1024.rank)
  bcast_S_S1024x4384 : S_.BroadcastsInDim S1024x4384 (![] : Fin 0 → Fin S1024x4384.rank)
  bcast_S_S4112x4384 : S_.BroadcastsInDim S4112x4384 (![] : Fin 0 → Fin S4112x4384.rank)

variable [Facts]

def fn {F : FTy → Type} [FloatOps F] (main_arg0 : FVec F S4112x1024 .f32) (main_arg1 : FVec F S1024 .f32) (main_arg2 : FVec F S1024x4384 .f32) (main_arg3 : FVec F S4112x4384 .f32) (main_arg4 : FVec F S4112x1024 .f32) : IVec S4112x1024 1 × IVec S1024 1 × IVec S1024x4384 1 × IVec S4112x4384 1 × IVec S4112x1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4384 .f32 := Host.absf main_arg2
  let main_cst_1 : FVec F S_ .f32 := constant S_ .f32 0x7F800000#32
  let main_v7 : FVec F S1024x4384 .f32 := broadcastInDim S1024x4384 ![] bcast_S_S1024x4384 main_cst_1
  let main_v8 : IVec S1024x4384 1 := cmpf .olt main_v6 main_v7
  let main_v9 : FVec F S4112x4384 .f32 := Host.absf main_arg3
  let main_cst_2 : FVec F S_ .f32 := constant S_ .f32 0x7F800000#32
  let main_v10 : FVec F S4112x4384 .f32 := broadcastInDim S4112x4384 ![] bcast_S_S4112x4384 main_cst_2
  let main_v11 : IVec S4112x4384 1 := cmpf .olt main_v9 main_v10
  let main_v12 : FVec F S4112x1024 .f32 := Host.absf main_arg4
  let main_cst_3 : FVec F S_ .f32 := constant S_ .f32 0x7F800000#32
  let main_v13 : FVec F S4112x1024 .f32 := broadcastInDim S4112x1024 ![] bcast_S_S4112x1024 main_cst_3
  let main_v14 : IVec S4112x1024 1 := cmpf .olt main_v12 main_v13
  (main_v2, main_v5, main_v8, main_v11, main_v14)
-- ==== Pre_finite11.lean ====
abbrev S4112x1024 : Shape := ⟨2, ![4112, 1024]⟩
abbrev S1024 : Shape := ⟨1, ![1024]⟩
abbrev S_ : Shape := ⟨0, ![]⟩

class Facts : Prop where
  bcast_S_S4112x1024 : S_.BroadcastsInDim S4112x1024 (![] : Fin 0 → Fin S4112x1024.rank)
  bcast_S_S1024 : S_.BroadcastsInDim S1024 (![] : Fin 0 → Fin S1024.rank)

variable [Facts]

def fn {F : FTy → Type} [FloatOps F] (main_arg0 : FVec F S4112x1024 .f32) (main_arg1 : FVec F S1024 .f32) : IVec S4112x1024 1 × IVec S1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Pre_finite12.lean ====
abbrev S4112x512 : Shape := ⟨2, ![4112, 512]⟩
abbrev S4112x4384 : Shape := ⟨2, ![4112, 4384]⟩
abbrev S512 : Shape := ⟨1, ![512]⟩
abbrev S_ : Shape := ⟨0, ![]⟩

class Facts : Prop where
  bcast_S_S4112x512 : S_.BroadcastsInDim S4112x512 (![] : Fin 0 → Fin S4112x512.rank)
  bcast_S_S4112x4384 : S_.BroadcastsInDim S4112x4384 (![] : Fin 0 → Fin S4112x4384.rank)
  bcast_S_S512 : S_.BroadcastsInDim S512 (![] : Fin 0 → Fin S512.rank)

variable [Facts]

def fn {F : FTy → Type} [FloatOps F] (main_arg0 : FVec F S4112x512 .f32) (main_arg1 : FVec F S4112x512 .f32) (main_arg2 : FVec F S4112x4384 .f32) (main_arg3 : FVec F S512 .f32) : IVec S4112x512 1 × IVec S4112x512 1 × IVec S4112x4384 1 × IVec S512 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_v3 : FVec F S4112x512 .f32 := Host.absf main_arg1
  let main_cst_0 : FVec F S_ .f32 := constant S_ .f32 0x7F800000#32
  let main_v4 : FVec F S4112x512 .f32 := broadcastInDim S4112x512 ![] bcast_S_S4112x512 main_cst_0
  let main_v5 : IVec S4112x512 1 := cmpf .olt main_v3 main_v4
  let main_v6 : FVec F S4112x4384 .f32 := Host.absf main_arg2
  let main_cst_1 : FVec F S_ .f32 := constant S_ .f32 0x7F800000#32
  let main_v7 : FVec F S4112x4384 .f32 := broadcastInDim S4112x4384 ![] bcast_S_S4112x4384 main_cst_1
  let main_v8 : IVec S4112x4384 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  (main_v2, main_v5, main_v8, main_v11)
-- ==== Pre_finite13.lean ====
abbrev S4112x1024 : Shape := ⟨2, ![4112, 1024]⟩
abbrev S1024x2816 : Shape := ⟨2, ![1024, 2816]⟩
abbrev S_ : Shape := ⟨0, ![]⟩

class Facts : Prop where
  bcast_S_S4112x1024 : S_.BroadcastsInDim S4112x1024 (![] : Fin 0 → Fin S4112x1024.rank)
  bcast_S_S1024x2816 : S_.BroadcastsInDim S1024x2816 (![] : Fin 0 → Fin S1024x2816.rank)

variable [Facts]

def fn {F : FTy → Type} [FloatOps F] (main_arg0 : FVec F S4112x1024 .f32) (main_arg1 : FVec F S1024x2816 .f32) (main_arg2 : FVec F S1024x2816 .f32) : IVec S4112x1024 1 × IVec S1024x2816 1 × IVec S1024x2816 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  (main_v2, main_v5, main_v8)
-- ==== Pre_finite14.lean ====
abbrev S4112x512 : Shape := ⟨2, ![4112, 512]⟩
abbrev S4112x4384 : Shape := ⟨2, ![4112, 4384]⟩
abbrev S512x1024 : Shape := ⟨2, ![512, 1024]⟩
abbrev S2x1024 : Shape := ⟨2, ![2, 1024]⟩
abbrev S_ : Shape := ⟨0, ![]⟩

class Facts : Prop where
  bcast_S_S4112x512 : S_.BroadcastsInDim S4112x512 (![] : Fin 0 → Fin S4112x512.rank)
  bcast_S_S4112x4384 : S_.BroadcastsInDim S4112x4384 (![] : Fin 0 → Fin S4112x4384.rank)
  bcast_S_S512x1024 : S_.BroadcastsInDim S512x1024 (![] : Fin 0 → Fin S512x1024.rank)
  bcast_S_S2x1024 : S_.BroadcastsInDim S2x1024 (![] : Fin 0 → Fin S2x1024.rank)

variable [Facts]

def fn {F : FTy → Type} [FloatOps F] (main_arg0 : FVec F S4112x512 .f32) (main_arg1 : FVec F S4112x512 .f32) (main_arg2 : FVec F S4112x4384 .f32) (main_arg3 : FVec F S512x1024 .f32) (main_arg4 : FVec F S512x1024 .f32) (main_arg5 : FVec F S2x1024 .f32) : IVec S4112x512 1 × IVec S4112x512 1 × IVec S4112x4384 1 × IVec S512x1024 1 × IVec S512x1024 1 × IVec S2x1024 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_v3 : FVec F S4112x512 .f32 := Host.absf main_arg1
  let main_cst_0 : FVec F S_ .f32 := constant S_ .f32 0x7F800000#32
  let main_v4 : FVec F S4112x512 .f32 := broadcastInDim S4112x512 ![] bcast_S_S4112x512 main_cst_0
  let main_v5 : IVec S4112x512 1 := cmpf .olt main_v3 main_v4
  let main_v6 : FVec F S4112x4384 .f32 := Host.absf main_arg2
  let main_cst_1 : FVec F S_ .f32 := constant S_ .f32 0x7F800000#32
  let main_v7 : FVec F S4112x4384 .f32 := broadcastInDim S4112x4384 ![] bcast_S_S4112x4384 main_cst_1
  let main_v8 : IVec S4112x4384 1 := cmpf .olt main_v6 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_v12 : FVec F S512x1024 .f32 := Host.absf main_arg4
  let main_cst_3 : FVec F S_ .f32 := constant S_ .f32 0x7F800000#32
  let main_v13 : FVec F S512x1024 .f32 := broadcastInDim S512x1024 ![] bcast_S_S512x1024 main_cst_3
  let main_v14 : IVec S512x1024 1 := cmpf .olt main_v12 main_v13
  let main_v15 : FVec F S2x1024 .f32 := Host.absf main_arg5
  let main_cst_4 : FVec F S_ .f32 := constant S_ .f32 0x7F800000#32
  let main_v16 : FVec F S2x1024 .f32 := broadcastInDim S2x1024 ![] bcast_S_S2x1024 main_cst_4
  let main_v17 : IVec S2x1024 1 := cmpf .olt main_v15 main_v16
  (main_v2, main_v5, main_v8, main_v11, main_v14, main_v17)
-- ==== Pre_finite15.lean ====
abbrev S4112x1024 : Shape := ⟨2, ![4112, 1024]⟩
abbrev S4112x2816 : Shape := ⟨2, ![4112, 2816]⟩
abbrev S2816x1024 : Shape := ⟨2, ![2816, 1024]⟩
abbrev S1024 : Shape := ⟨1, ![1024]⟩
abbrev S_ : Shape := ⟨0, ![]⟩

class Facts : Prop where
  bcast_S_S4112x1024 : S_.BroadcastsInDim S4112x1024 (![] : Fin 0 → Fin S4112x1024.rank)
  bcast_S_S4112x2816 : S_.BroadcastsInDim S4112x2816 (![] : Fin 0 → Fin S4112x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn {F : FTy → Type} [FloatOps F] (main_arg0 : FVec F S4112x1024 .f32) (main_arg1 : FVec F S4112x2816 .f32) (main_arg2 : FVec F S2816x1024 .f32) (main_arg3 : FVec F S1024 .f32) : IVec S4112x1024 1 × IVec S4112x2816 1 × IVec S2816x1024 1 × IVec S1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S4112x2816 .f32 := Host.absf main_arg1
  let main_cst_0 : FVec F S_ .f32 := constant S_ .f32 0x7F800000#32
  let main_v4 : FVec F S4112x2816 .f32 := broadcastInDim S4112x2816 ![] bcast_S_S4112x2816 main_cst_0
  let main_v5 : IVec S4112x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite16.lean ====
abbrev S4112x1024 : Shape := ⟨2, ![4112, 1024]⟩
abbrev S1024x1024 : Shape := ⟨2, ![1024, 1024]⟩
abbrev S1024 : Shape := ⟨1, ![1024]⟩
abbrev S_ : Shape := ⟨0, ![]⟩

class Facts : Prop where
  bcast_S_S4112x1024 : S_.BroadcastsInDim S4112x1024 (![] : Fin 0 → Fin S4112x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4112x1024 .f32) (main_arg1 : FVec F S4112x1024 .f32) (main_arg2 : FVec F S1024x1024 .f32) (main_arg3 : FVec F S1024 .f32) : IVec S4112x1024 1 × IVec S4112x1024 1 × IVec S1024x1024 1 × IVec S1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S4112x1024 .f32 := Host.absf main_arg1
  let main_cst_0 : FVec F S_ .f32 := constant S_ .f32 0x7F800000#32
  let main_v4 : FVec F S4112x1024 .f32 := broadcastInDim S4112x1024 ![] bcast_S_S4112x1024 main_cst_0
  let main_v5 : IVec S4112x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite2.lean ====
abbrev S4112x1024 : Shape := ⟨2, ![4112, 1024]⟩
abbrev S1024x2816 : Shape := ⟨2, ![1024, 2816]⟩
abbrev S2816x1024 : Shape := ⟨2, ![2816, 1024]⟩
abbrev S_ : Shape := ⟨0, ![]⟩

class Facts : Prop where
  bcast_S_S4112x1024 : S_.BroadcastsInDim S4112x1024 (![] : Fin 0 → Fin S4112x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4112x1024 .f32) (main_arg1 : FVec F S4112x1024 .f32) (main_arg2 : FVec F S1024x2816 .f32) (main_arg3 : FVec F S1024x2816 .f32) (main_arg4 : FVec F S2816x1024 .f32) : IVec S4112x1024 1 × IVec S4112x1024 1 × IVec S1024x2816 1 × IVec S1024x2816 1 × IVec S2816x1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S4112x1024 .f32 := Host.absf main_arg1
  let main_cst_0 : FVec F S_ .f32 := constant S_ .f32 0x7F800000#32
  let main_v4 : FVec F S4112x1024 .f32 := broadcastInDim S4112x1024 ![] bcast_S_S4112x1024 main_cst_0
  let main_v5 : IVec S4112x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite3.lean ====
abbrev S4112x1024 : Shape := ⟨2, ![4112, 1024]⟩
abbrev S1024 : Shape := ⟨1, ![1024]⟩
abbrev S1024x2816 : Shape := ⟨2, ![1024, 2816]⟩
abbrev S4112x2816 : Shape := ⟨2, ![4112, 2816]⟩
abbrev S_ : Shape := ⟨0, ![]⟩

class Facts : Prop where
  bcast_S_S4112x1024 : S_.BroadcastsInDim S4112x1024 (![] : Fin 0 → Fin S4112x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S4112x2816 : S_.BroadcastsInDim S4112x2816 (![] : Fin 0 → Fin S4112x2816.rank)

variable [Facts]

def fn_part1 {F : FTy → Type} [FloatOps F] (main_arg6 : FVec F S4112x1024 .f32) (main_v2 : IVec S4112x1024 1) (main_v5 : IVec S1024 1) (main_v8 : IVec S1024x2816 1) (main_v11 : IVec S1024x2816 1) (main_v14 : IVec S4112x2816 1) (main_v17 : IVec S4112x2816 1) : IVec S4112x1024 1 × IVec S1024 1 × IVec S1024x2816 1 × IVec S1024x2816 1 × IVec S4112x2816 1 × IVec S4112x2816 1 × IVec S4112x1024 1 :=
  let main_v18 : FVec F S4112x1024 .f32 := Host.absf main_arg6
  let main_cst_5 : FVec F S_ .f32 := constant S_ .f32 0x7F800000#32
  let main_v19 : FVec F S4112x1024 .f32 := broadcastInDim S4112x1024 ![] bcast_S_S4112x1024 main_cst_5
  let main_v20 : IVec S4112x1024 1 := cmpf .olt main_v18 main_v19
  (main_v2, main_v5, main_v8, main_v11, main_v14, main_v17, main_v20)

def fn {F : FTy → Type} [FloatOps F] (main_arg0 : FVec F S4112x1024 .f32) (main_arg1 : FVec F S1024 .f32) (main_arg2 : FVec F S1024x2816 .f32) (main_arg3 : FVec F S1024x2816 .f32) (main_arg4 : FVec F S4112x2816 .f32) (main_arg5 : FVec F S4112x2816 .f32) (main_arg6 : FVec F S4112x1024 .f32) : IVec S4112x1024 1 × IVec S1024 1 × IVec S1024x2816 1 × IVec S1024x2816 1 × IVec S4112x2816 1 × IVec S4112x2816 1 × IVec S4112x1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S4112x2816 .f32 := Host.absf main_arg4
  let main_cst_3 : FVec F S_ .f32 := constant S_ .f32 0x7F800000#32
  let main_v13 : FVec F S4112x2816 .f32 := broadcastInDim S4112x2816 ![] bcast_S_S4112x2816 main_cst_3
  let main_v14 : IVec S4112x2816 1 := cmpf .olt main_v12 main_v13
  let main_v15 : FVec F S4112x2816 .f32 := Host.absf main_arg5
  let main_cst_4 : FVec F S_ .f32 := constant S_ .f32 0x7F800000#32
  let main_v16 : FVec F S4112x2816 .f32 := broadcastInDim S4112x2816 ![] bcast_S_S4112x2816 main_cst_4
  let main_v17 : IVec S4112x2816 1 := cmpf .olt main_v15 main_v16
  fn_part1 (F := F) main_arg6 main_v2 main_v5 main_v8 main_v11 main_v14 main_v17
-- ==== Pre_finite4.lean ====
abbrev S4112x1024 : Shape := ⟨2, ![4112, 1024]⟩
abbrev S4112x512 : Shape := ⟨2, ![4112, 512]⟩
abbrev S4112x4384 : Shape := ⟨2, ![4112, 4384]⟩
abbrev S512x1024 : Shape := ⟨2, ![512, 1024]⟩
abbrev S2x1024 : Shape := ⟨2, ![2, 1024]⟩
abbrev S1024x1024 : Shape := ⟨2, ![1024, 1024]⟩
abbrev S_ : Shape := ⟨0, ![]⟩

class Facts : Prop where
  bcast_S_S4112x1024 : S_.BroadcastsInDim S4112x1024 (![] : Fin 0 → Fin S4112x1024.rank)
  bcast_S_S4112x512 : S_.BroadcastsInDim S4112x512 (![] : Fin 0 → Fin S4112x512.rank)
  bcast_S_S4112x4384 : S_.BroadcastsInDim S4112x4384 (![] : Fin 0 → Fin S4112x4384.rank)
  bcast_S_S512x1024 : S_.BroadcastsInDim S512x1024 (![] : Fin 0 → Fin S512x1024.rank)
  bcast_S_S2x1024 : S_.BroadcastsInDim S2x1024 (![] : Fin 0 → Fin S2x1024.rank)
  bcast_S_S1024x1024 : S_.BroadcastsInDim S1024x1024 (![] : Fin 0 → Fin S1024x1024.rank)

variable [Facts]

def fn_part1 {F : FTy → Type} [FloatOps F] (main_arg6 : FVec F S2x1024 .f32) (main_arg7 : FVec F S1024x1024 .f32) (main_v2 : IVec S4112x1024 1) (main_v5 : IVec S4112x512 1) (main_v8 : IVec S4112x512 1) (main_v11 : IVec S4112x4384 1) (main_v14 : IVec S512x1024 1) (main_v17 : IVec S512x1024 1) : IVec S4112x1024 1 × IVec S4112x512 1 × IVec S4112x512 1 × IVec S4112x4384 1 × IVec S512x1024 1 × IVec S512x1024 1 × IVec S2x1024 1 × IVec S1024x1024 1 :=
  let main_v18 : FVec F S2x1024 .f32 := Host.absf main_arg6
  let main_cst_5 : FVec F S_ .f32 := constant S_ .f32 0x7F800000#32
  let main_v19 : FVec F S2x1024 .f32 := broadcastInDim S2x1024 ![] bcast_S_S2x1024 main_cst_5
  let main_v20 : IVec S2x1024 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  (main_v2, main_v5, main_v8, main_v11, main_v14, main_v17, main_v20, main_v23)

def fn {F : FTy → Type} [FloatOps F] (main_arg0 : FVec F S4112x1024 .f32) (main_arg1 : FVec F S4112x512 .f32) (main_arg2 : FVec F S4112x512 .f32) (main_arg3 : FVec F S4112x4384 .f32) (main_arg4 : FVec F S512x1024 .f32) (main_arg5 : FVec F S512x1024 .f32) (main_arg6 : FVec F S2x1024 .f32) (main_arg7 : FVec F S1024x1024 .f32) : IVec S4112x1024 1 × IVec S4112x512 1 × IVec S4112x512 1 × IVec S4112x4384 1 × IVec S512x1024 1 × IVec S512x1024 1 × IVec S2x1024 1 × IVec S1024x1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S4112x512 .f32 := Host.absf main_arg1
  let main_cst_0 : FVec F S_ .f32 := constant S_ .f32 0x7F800000#32
  let main_v4 : FVec F S4112x512 .f32 := broadcastInDim S4112x512 ![] bcast_S_S4112x512 main_cst_0
  let main_v5 : IVec S4112x512 1 := cmpf .olt main_v3 main_v4
  let main_v6 : FVec F S4112x512 .f32 := Host.absf main_arg2
  let main_cst_1 : FVec F S_ .f32 := constant S_ .f32 0x7F800000#32
  let main_v7 : FVec F S4112x512 .f32 := broadcastInDim S4112x512 ![] bcast_S_S4112x512 main_cst_1
  let main_v8 : IVec S4112x512 1 := cmpf .olt main_v6 main_v7
  let main_v9 : FVec F S4112x4384 .f32 := Host.absf main_arg3
  let main_cst_2 : FVec F S_ .f32 := constant S_ .f32 0x7F800000#32
  let main_v10 : FVec F S4112x4384 .f32 := broadcastInDim S4112x4384 ![] bcast_S_S4112x4384 main_cst_2
  let main_v11 : IVec S4112x4384 1 := cmpf .olt main_v9 main_v10
  let main_v12 : FVec F S512x1024 .f32 := Host.absf main_arg4
  let main_cst_3 : FVec F S_ .f32 := constant S_ .f32 0x7F800000#32
  let main_v13 : FVec F S512x1024 .f32 := broadcastInDim S512x1024 ![] bcast_S_S512x1024 main_cst_3
  let main_v14 : IVec S512x1024 1 := cmpf .olt main_v12 main_v13
  let main_v15 : FVec F S512x1024 .f32 := Host.absf main_arg5
  let main_cst_4 : FVec F S_ .f32 := constant S_ .f32 0x7F800000#32
  let main_v16 : FVec F S512x1024 .f32 := broadcastInDim S512x1024 ![] bcast_S_S512x1024 main_cst_4
  let main_v17 : IVec S512x1024 1 := cmpf .olt main_v15 main_v16
  fn_part1 (F := F) main_arg6 main_arg7 main_v2 main_v5 main_v8 main_v11 main_v14 main_v17
-- ==== Pre_finite5.lean ====
abbrev S4112x512 : Shape := ⟨2, ![4112, 512]⟩
abbrev S4112x4384 : Shape := ⟨2, ![4112, 4384]⟩
abbrev S512 : Shape := ⟨1, ![512]⟩
abbrev S_ : Shape := ⟨0, ![]⟩

class Facts : Prop where
  bcast_S_S4112x512 : S_.BroadcastsInDim S4112x512 (![] : Fin 0 → Fin S4112x512.rank)
  bcast_S_S4112x4384 : S_.BroadcastsInDim S4112x4384 (![] : Fin 0 → Fin S4112x4384.rank)
  bcast_S_S512 : S_.BroadcastsInDim S512 (![] : Fin 0 → Fin S512.rank)

variable [Facts]

def fn {F : FTy → Type} [FloatOps F] (main_arg0 : FVec F S4112x512 .f32) (main_arg1 : FVec F S4112x512 .f32) (main_arg2 : FVec F S4112x512 .f32) (main_arg3 : FVec F S4112x4384 .f32) (main_arg4 : FVec F S512 .f32) : IVec S4112x512 1 × IVec S4112x512 1 × IVec S4112x512 1 × IVec S4112x4384 1 × IVec S512 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_v3 : FVec F S4112x512 .f32 := Host.absf main_arg1
  let main_cst_0 : FVec F S_ .f32 := constant S_ .f32 0x7F800000#32
  let main_v4 : FVec F S4112x512 .f32 := broadcastInDim S4112x512 ![] bcast_S_S4112x512 main_cst_0
  let main_v5 : IVec S4112x512 1 := cmpf .olt main_v3 main_v4
  let main_v6 : FVec F S4112x512 .f32 := Host.absf main_arg2
  let main_cst_1 : FVec F S_ .f32 := constant S_ .f32 0x7F800000#32
  let main_v7 : FVec F S4112x512 .f32 := broadcastInDim S4112x512 ![] bcast_S_S4112x512 main_cst_1
  let main_v8 : IVec S4112x512 1 := cmpf .olt main_v6 main_v7
  let main_v9 : FVec F S4112x4384 .f32 := Host.absf main_arg3
  let main_cst_2 : FVec F S_ .f32 := constant S_ .f32 0x7F800000#32
  let main_v10 : FVec F S4112x4384 .f32 := broadcastInDim S4112x4384 ![] bcast_S_S4112x4384 main_cst_2
  let main_v11 : IVec S4112x4384 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  (main_v2, main_v5, main_v8, main_v11, main_v14)
-- ==== Pre_finite7.lean ====
abbrev S4112x512 : Shape := ⟨2, ![4112, 512]⟩
abbrev S4112x128 : Shape := ⟨2, ![4112, 128]⟩
abbrev S_ : Shape := ⟨0, ![]⟩

class Facts : Prop where
  bcast_S_S4112x512 : S_.BroadcastsInDim S4112x512 (![] : Fin 0 → Fin S4112x512.rank)
  bcast_S_S4112x128 : S_.BroadcastsInDim S4112x128 (![] : Fin 0 → Fin S4112x128.rank)

variable [Facts]

def fn {F : FTy → Type} [FloatOps F] (main_arg0 : FVec F S4112x512 .f32) (main_arg1 : FVec F S4112x128 .f32) (main_arg2 : FVec F S4112x128 .f32) (main_arg3 : FVec F S4112x512 .f32) : IVec S4112x512 1 × IVec S4112x128 1 × IVec S4112x128 1 × IVec S4112x512 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_v3 : FVec F S4112x128 .f32 := Host.absf main_arg1
  let main_cst_0 : FVec F S_ .f32 := constant S_ .f32 0x7F800000#32
  let main_v4 : FVec F S4112x128 .f32 := broadcastInDim S4112x128 ![] bcast_S_S4112x128 main_cst_0
  let main_v5 : IVec S4112x128 1 := cmpf .olt main_v3 main_v4
  let main_v6 : FVec F S4112x128 .f32 := Host.absf main_arg2
  let main_cst_1 : FVec F S_ .f32 := constant S_ .f32 0x7F800000#32
  let main_v7 : FVec F S4112x128 .f32 := broadcastInDim S4112x128 ![] bcast_S_S4112x128 main_cst_1
  let main_v8 : IVec S4112x128 1 := cmpf .olt main_v6 main_v7
  let main_v9 : FVec F S4112x512 .f32 := Host.absf main_arg3
  let main_cst_2 : FVec F S_ .f32 := constant S_ .f32 0x7F800000#32
  let main_v10 : FVec F S4112x512 .f32 := broadcastInDim S4112x512 ![] bcast_S_S4112x512 main_cst_2
  let main_v11 : IVec S4112x512 1 := cmpf .olt main_v9 main_v10
  (main_v2, main_v5, main_v8, main_v11)
-- ==== Pre_finite8.lean ====
abbrev S4112x512 : Shape := ⟨2, ![4112, 512]⟩
abbrev S4112x128 : Shape := ⟨2, ![4112, 128]⟩
abbrev S4112x4384 : Shape := ⟨2, ![4112, 4384]⟩
abbrev S64 : Shape := ⟨1, ![64]⟩
abbrev S_ : Shape := ⟨0, ![]⟩

class Facts : Prop where
  bcast_S_S4112x512 : S_.BroadcastsInDim S4112x512 (![] : Fin 0 → Fin S4112x512.rank)
  bcast_S_S4112x128 : S_.BroadcastsInDim S4112x128 (![] : Fin 0 → Fin S4112x128.rank)
  bcast_S_S4112x4384 : S_.BroadcastsInDim S4112x4384 (![] : Fin 0 → Fin S4112x4384.rank)
  bcast_S_S64 : S_.BroadcastsInDim S64 (![] : Fin 0 → Fin S64.rank)

variable [Facts]

def fn {F : FTy → Type} [FloatOps F] (main_arg0 : FVec F S4112x512 .f32) (main_arg1 : FVec F S4112x128 .f32) (main_arg2 : FVec F S4112x4384 .f32) (main_arg3 : FVec F S64 .f32) (main_arg4 : FVec F S64 .f32) : IVec S4112x512 1 × IVec S4112x128 1 × IVec S4112x4384 1 × IVec S64 1 × IVec S64 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_v3 : FVec F S4112x128 .f32 := Host.absf main_arg1
  let main_cst_0 : FVec F S_ .f32 := constant S_ .f32 0x7F800000#32
  let main_v4 : FVec F S4112x128 .f32 := broadcastInDim S4112x128 ![] bcast_S_S4112x128 main_cst_0
  let main_v5 : IVec S4112x128 1 := cmpf .olt main_v3 main_v4
  let main_v6 : FVec F S4112x4384 .f32 := Host.absf main_arg2
  let main_cst_1 : FVec F S_ .f32 := constant S_ .f32 0x7F800000#32
  let main_v7 : FVec F S4112x4384 .f32 := broadcastInDim S4112x4384 ![] bcast_S_S4112x4384 main_cst_1
  let main_v8 : IVec S4112x4384 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== LossHead.lean ====
abbrev S4112x1024 : Shape := ⟨2, ![4112, 1024]⟩
abbrev S4096x1024 : Shape := ⟨2, ![4096, 1024]⟩
abbrev S1024 : Shape := ⟨1, ![1024]⟩
abbrev S_ : Shape := ⟨0, ![]⟩
abbrev S112x1024 : Shape := ⟨2, ![112, 1024]⟩
abbrev S4224x1024 : Shape := ⟨2, ![4224, 1024]⟩
abbrev S1x1024 : Shape := ⟨2, ![1, 1024]⟩
abbrev S1x1 : Shape := ⟨2, ![1, 1]⟩
abbrev S128x1024 : Shape := ⟨2, ![128, 1024]⟩
abbrev S128 : Shape := ⟨1, ![128]⟩
abbrev S128x1 : Shape := ⟨2, ![128, 1]⟩
abbrev S1 : Shape := ⟨1, ![1]⟩

abbrev nBuf : Space → Nat
  | .hbm => 11
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S112x1024, .f32⟩
  | .hbm, ⟨5, _⟩ => ⟨S4224x1024, .f32⟩
  | .hbm, ⟨6, _⟩ => ⟨S1x1024, .f32⟩
  | .hbm, ⟨7, _⟩ => ⟨S1x1, .f32⟩
  | .hbm, ⟨8, _⟩ => ⟨S4224x1024, .f32⟩
  | .hbm, ⟨9, _⟩ => ⟨S4224x1024, .bf16⟩
  | .hbm, ⟨10, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1, .f32⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4112x1024 : Shape := ⟨2, ![4112, 1024]⟩
abbrev S4096x1024 : Shape := ⟨2, ![4096, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4096 : Shape := ⟨1, ![4096]⟩
abbrev S4224x1024 : Shape := ⟨2, ![4224, 1024]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S1024, .f32⟩
  | .hbm, ⟨3, _⟩ => ⟨S4112x1024, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S1x1024, .f32⟩
  | .hbm, ⟨21, _⟩ => ⟨S4112x1024, .f32⟩
  | .hbm, ⟨22, _⟩ => ⟨S4112x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4112x1024, .f32⟩
  | .hbm, ⟨49, _⟩ => ⟨S4112x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4112x1024, .f32⟩
  | .hbm, ⟨54, _⟩ => ⟨S4112x1024, .f32⟩
  | .hbm, ⟨55, _⟩ => ⟨S_, .f32⟩
  | .hbm, ⟨56, _⟩ => ⟨S1024, .f32⟩
  | .hbm, ⟨57, _⟩ => ⟨S4112x1024, .f32⟩
  | .hbm, ⟨58, _⟩ => ⟨S_, .f32⟩
  | .hbm, ⟨59, _⟩ => ⟨S4112, .f32⟩
  | .hbm, ⟨60, _⟩ => ⟨S4112x1, .f32⟩
  | .hbm, ⟨61, _⟩ => ⟨S4112x1024, .f32⟩
  | .hbm, ⟨62, _⟩ => ⟨S4112x1024, .f32⟩
  | .hbm, ⟨63, _⟩ => ⟨S4112x1, .f32⟩
  | .hbm, ⟨64, _⟩ => ⟨S_, .f32⟩
  | .hbm, ⟨65, _⟩ => ⟨S4112x1, .f32⟩
  | .hbm, ⟨66, _⟩ => ⟨S4112x1, .f32⟩
  | .hbm, ⟨67, _⟩ => ⟨S_, .f32⟩
  | .hbm, ⟨68, _⟩ => ⟨S4112, .f32⟩
  | .hbm, ⟨69, _⟩ => ⟨S4112x1024, .f32⟩
  | .hbm, ⟨70, _⟩ => ⟨S4112x1024, .f32⟩
  | .hbm, ⟨71, _⟩ => ⟨S4112x1024, .f32⟩
  | .hbm, ⟨72, _⟩ => ⟨S4112x1024, .f32⟩
  | .hbm, ⟨73, _⟩ => ⟨S4112x1024, .f32⟩
  | .hbm, ⟨74, _⟩ => ⟨S_, .i32⟩
  | .hbm, ⟨75, _⟩ => ⟨S_, .f32⟩
  | .hbm, ⟨76, _⟩ => ⟨S4224x1024, .f32⟩
  | .hbm, ⟨77, _⟩ => ⟨S1x1, .f32⟩
  | .hbm, ⟨78, _⟩ => ⟨S4224x1024, .bf16⟩
  | .hbm, ⟨79, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Attn.lean ====
abbrev S4112x512 : Shape := ⟨2, ![4112, 512]⟩
abbrev S4112x128 : Shape := ⟨2, ![4112, 128]⟩
abbrev S_ : Shape := ⟨0, ![]⟩
abbrev S112x512 : Shape := ⟨2, ![112, 512]⟩
abbrev S4224x512 : Shape := ⟨2, ![4224, 512]⟩
abbrev S4224x8x64 : Shape := ⟨3, ![4224, 8, 64]⟩
abbrev S4224x8x128 : Shape := ⟨3, ![4224, 8, 128]⟩
abbrev S4224x1024 : Shape := ⟨2, ![4224, 1024]⟩
abbrev S112x128 : Shape := ⟨2, ![112, 128]⟩
abbrev S4224x128 : Shape := ⟨2, ![4224, 128]⟩
abbrev S4224x2x64 : Shape := ⟨3, ![4224, 2, 64]⟩
abbrev S4224x2x128 : Shape := ⟨3, ![4224, 2, 128]⟩
abbrev S4224x256 : Shape := ⟨2, ![4224, 256]⟩
abbrev S64 : Shape := ⟨1, ![64]⟩
abbrev S128x512 : Shape := ⟨2, ![128, 512]⟩
abbrev S1x4224 : Shape := ⟨2, ![1, 4224]⟩
abbrev S1x128 : Shape := ⟨2, ![1, 128]⟩
abbrev S128x1 : Shape := ⟨2, ![128, 1]⟩
abbrev S128x128 : Shape := ⟨2, ![128, 128]⟩
abbrev S256x128 : Shape := ⟨2, ![256, 128]⟩
abbrev S256x4224 : Shape := ⟨2, ![256, 4224]⟩
abbrev S256 : Shape := ⟨1, ![256]⟩
abbrev S256x1 : Shape := ⟨2, ![256, 1]⟩

abbrev nBuf : Space → Nat
  | .hbm => 52
  | .vmem => 28
  | .smem => 0
  | _ => 0

abbrev bufTy : (tb : Table) → Fin (tcTables nBuf tb) → BufTy
  | .hbm, ⟨0, _⟩ => ⟨S4112x512, .f32⟩
  | .hbm, ⟨1, _⟩ => ⟨S4112x128, .f32⟩
  | .hbm, ⟨2, _⟩ => ⟨S4112x128, .f32⟩
  | .hbm, ⟨3, _⟩ => ⟨S4112x512, .f32⟩
  | .hbm, ⟨4, _⟩ => ⟨S_, .f32⟩
  | .hbm, ⟨5, _⟩ => ⟨S_, .f32⟩
  | .hbm, ⟨6, _⟩ => ⟨S4112x512, .f32⟩
  | .hbm, ⟨7, _⟩ => ⟨S4112x512, .f32⟩
  | .hbm, ⟨8, _⟩ => ⟨S_, .f32⟩
  | .hbm, ⟨9, _⟩ => ⟨S112x512, .f32⟩
  | .hbm, ⟨10, _⟩ => ⟨S4224x512, .f32⟩
  | .hbm, ⟨11, _⟩ => ⟨S_, .f32⟩
  | .hbm, ⟨12, _⟩ => ⟨S4224x8x64, .f32⟩
  | .hbm, ⟨13, _⟩ => ⟨S4224x8x64, .f32⟩
  | .hbm, ⟨14, _⟩ => ⟨S4224x8x128, .f32⟩
  | .hbm, ⟨15, _⟩ => ⟨S4224x1024, .f32⟩
  | .hbm, ⟨16, _⟩ => ⟨S4224x1024, .bf16⟩
  | .hbm, ⟨17, _⟩ => ⟨S_, .f32⟩
  | .hbm, ⟨18, _⟩ => ⟨S112x128, .f32⟩
  | .hbm, ⟨19, _⟩ => ⟨S4224x128, .f32⟩
  | .hbm, ⟨20, _⟩ => ⟨S_, .f32⟩
  | .hbm, ⟨21, _⟩ => ⟨S4224x2x64, .f32⟩
  | .hbm, ⟨22, _⟩ => ⟨S4224x2x64, .f32⟩
  | .hbm, ⟨23, _⟩ => ⟨S4224x2x128, .f32⟩
  | .hbm, ⟨24, _⟩ => ⟨S4224x256, .f32⟩
  | .hbm, ⟨25, _⟩ => ⟨S4224x256, .bf16⟩
  | .hbm, ⟨26, _⟩ => ⟨S_, .f32⟩
  | .hbm, ⟨27, _⟩ => ⟨S112x128, .f32⟩
  | .hbm, ⟨28, _⟩ => ⟨S4224x128, .f32⟩
  | .hbm, ⟨29, _⟩ => ⟨S64, .i32⟩
  | .hbm, ⟨30, _⟩ => ⟨S_, .i32⟩
  | .hbm, ⟨31, _⟩ => ⟨S64, .i32⟩
  | .hbm, ⟨32, _⟩ => ⟨S64, .i1⟩
  | .hbm, ⟨33, _⟩ => ⟨S64, .f32⟩
  | .hbm, ⟨34, _⟩ => ⟨S4224x2x64, .f32⟩
  | .hbm, ⟨35, _⟩ => ⟨S4224x2x64, .f32⟩
  | .hbm, ⟨36, _⟩ => ⟨S4224x2x128, .f32⟩
  | .hbm, ⟨37, _⟩ => ⟨S4224x256, .f32⟩
  | .hbm, ⟨38, _⟩ => ⟨S4224x256, .bf16⟩
  | .hbm, ⟨39, _⟩ => ⟨S4224x1024, .bf16⟩
  | .hbm, ⟨40, _⟩ => ⟨S4224x1024, .f32⟩
  | .hbm, ⟨41, _⟩ => ⟨S_, .f32⟩
  | .hbm, ⟨42, _⟩ => ⟨S112x512, .f32⟩
  | .hbm, ⟨43, _⟩ => ⟨S4224x512, .f32⟩
  | .hbm, ⟨44, _⟩ => ⟨S_, .f32⟩
  | .hbm, ⟨45, _⟩ => ⟨S4224x8x64, .f32⟩
  | .hbm, ⟨46, _⟩ => ⟨S4224x8x64, .f32⟩
  | .hbm, ⟨47, _⟩ => ⟨S4224x8x128, .f32⟩
  | .hbm, ⟨48, _⟩ => ⟨S4224x1024, .f32⟩
  | .hbm, ⟨49, _⟩ => ⟨S4224x1024, .f32⟩
  | .hbm, ⟨50, _⟩ => ⟨S4224x256, .f32⟩
  | .hbm, ⟨51, _⟩ => ⟨S4224x256, .f32⟩
  | .local _ .vmem, ⟨0, _⟩ => ⟨S128x512, .bf16⟩
  | .local _ .vmem, ⟨1, _⟩ => ⟨S128x512, .bf16⟩
  | .local _ .vmem, ⟨2, _⟩ => ⟨S4224x128, .bf16⟩
  | .local _ .vmem, ⟨3, _⟩ => ⟨S4224x128, .bf16⟩
  | .local _ .vmem, ⟨4, _⟩ => ⟨S4224x128, .bf16⟩
  | .local _ .vmem, ⟨5, _⟩ => ⟨S4224x128, .bf16⟩
  | .local _ .vmem, ⟨6, _⟩ => ⟨S128x512, .bf16⟩
  | .local _ .vmem, ⟨7, _⟩ => ⟨S128x512, .bf16⟩
  | .local _ .vmem, ⟨8, _⟩ => ⟨S128x512, .f32⟩
  | .local _ .vmem, ⟨9, _⟩ => ⟨S128x512, .f32⟩
  | .local _ .vmem, ⟨10, _⟩ => ⟨S128x512, .bf16⟩
  | .local _ .vmem, ⟨11, _⟩ => ⟨S128x512, .bf16⟩
  | .local _ .vmem, ⟨12, _⟩ => ⟨S4224x128, .bf16⟩
  | .local _ .vmem, ⟨13, _⟩ => ⟨S4224x128, .bf16⟩
  | .local _ .vmem, ⟨14, _⟩ => ⟨S4224x128, .bf16⟩
  | .local _ .vmem, ⟨15, _⟩ => ⟨S4224x128, .bf16⟩
  | .local _ .vmem, ⟨16, _⟩ => ⟨S128x512, .bf16⟩
  | .local _ .vmem, ⟨17, _⟩ => ⟨S128x512, .bf16⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S4224x128, .f32⟩
  | .local _ .vmem, ⟨25, _⟩ => ⟨S4224x128, .f32⟩
  | .local _ .vmem, ⟨26, _⟩ => ⟨S4224x128, .f32⟩
  | .local _ .vmem, ⟨27, _⟩ => ⟨S4224x128, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 33], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4224x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4224x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4224x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4224x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== AttnIdeal.lean ====
variable {F : FTy → Type} [FloatOps F] [Named F]
def κ : String → Option EReal := fun
  | "inv_ln2" => some (((Real.log 2)⁻¹ : ℝ) : EReal)
  | "ln2" => some ((Real.log 2 : ℝ) : EReal)
  | "mask" => some ⊥
  | _ => none
-- ==== AttnRefIdeal.lean ====
abbrev S4112x512 : Shape := ⟨2, ![4112, 512]⟩
abbrev S4112x128 : Shape := ⟨2, ![4112, 128]⟩
abbrev S4112x2x4x64 : Shape := ⟨4, ![4112, 2, 4, 64]⟩
abbrev S2x4x4112x64 : Shape := ⟨4, ![2, 4, 4112, 64]⟩
abbrev S4112x2x64 : Shape := ⟨3, ![4112, 2, 64]⟩
abbrev S2x4112x64 : Shape := ⟨3, ![2, 4112, 64]⟩
abbrev S2x4x4112x4112 : Shape := ⟨4, ![2, 4, 4112, 4112]⟩
abbrev S_ : Shape := ⟨0, ![]⟩
abbrev S2x4x4112 : Shape := ⟨3, ![2, 4, 4112]⟩
abbrev S2x4x4112x1 : Shape := ⟨4, ![2, 4, 4112, 1]⟩
abbrev S2x64x4112 : Shape := ⟨3, ![2, 64, 4112]⟩
abbrev S4112x8x64 : Shape := ⟨3, ![4112, 8, 64]⟩
abbrev S4112x8x128 : Shape := ⟨3, ![4112, 8, 128]⟩
abbrev S4112x1024 : Shape := ⟨2, ![4112, 1024]⟩
abbrev S4224x1024 : Shape := ⟨2, ![4224, 1024]⟩
abbrev S4112x2x128 : Shape := ⟨3, ![4112, 2, 128]⟩
abbrev S4112x256 : Shape := ⟨2, ![4112, 256]⟩
abbrev S4224x256 : Shape := ⟨2, ![4224, 256]⟩

abbrev nBuf : Space → Nat
  | .hbm => 116
  | .vmem => 0
  | .smem => 0
  | _ => 0

abbrev bufTy : (tb : Table) → Fin (tcTables nBuf tb) → BufTy
  | .hbm, ⟨0, _⟩ => ⟨S4112x512, .f32⟩
  | .hbm, ⟨1, _⟩ => ⟨S4112x128, .f32⟩
  | .hbm, ⟨2, _⟩ => ⟨S4112x128, .f32⟩
  | .hbm, ⟨3, _⟩ => ⟨S4112x512, .f32⟩
  | .hbm, ⟨4, _⟩ => ⟨S4112x2x4x64, .f32⟩
  | .hbm, ⟨5, _⟩ => ⟨S2x4x4112x64, .f32⟩
  | .hbm, ⟨6, _⟩ => ⟨S4112x2x64, .f32⟩
  | .hbm, ⟨7, _⟩ => ⟨S2x4112x64, .f32⟩
  | .hbm, ⟨8, _⟩ => ⟨S4112x2x64, .f32⟩
  | .hbm, ⟨9, _⟩ => ⟨S2x4112x64, .f32⟩
  | .hbm, ⟨10, _⟩ => ⟨S2x4x4112x4112, .f32⟩
  | .hbm, ⟨11, _⟩ => ⟨S_, .f32⟩
  | .hbm, ⟨12, _⟩ => ⟨S2x4x4112, .f32⟩
  | .hbm, ⟨13, _⟩ => ⟨S2x4x4112x1, .f32⟩
  | .hbm, ⟨14, _⟩ => ⟨S2x4x4112x4112, .f32⟩
  | .hbm, ⟨15, _⟩ => ⟨S2x4x4112x4112, .i1⟩
  | .hbm, ⟨16, _⟩ => ⟨S2x4x4112x4112, .f32⟩
  | .hbm, ⟨17, _⟩ => ⟨S_, .f32⟩
  | .hbm, ⟨18, _⟩ => ⟨S2x4x4112, .f32⟩
  | .hbm, ⟨19, _⟩ => ⟨S_, .f32⟩
  | .hbm, ⟨20, _⟩ => ⟨S2x4x4112, .f32⟩
  | .hbm, ⟨21, _⟩ => ⟨S2x4x4112, .f32⟩
  | .hbm, ⟨22, _⟩ => ⟨S_, .f32⟩
  | .hbm, ⟨23, _⟩ => ⟨S2x4x4112, .f32⟩
  | .hbm, ⟨24, _⟩ => ⟨S2x4x4112, .i1⟩
  | .hbm, ⟨25, _⟩ => ⟨S_, .f32⟩
  | .hbm, ⟨26, _⟩ => ⟨S2x4x4112, .f32⟩
  | .hbm, ⟨27, _⟩ => ⟨S2x4x4112, .i1⟩
  | .hbm, ⟨28, _⟩ => ⟨S_, .f32⟩
  | .hbm, ⟨29, _⟩ => ⟨S2x4x4112, .f32⟩
  | .hbm, ⟨30, _⟩ => ⟨S_, .f32⟩
  | .hbm, ⟨31, _⟩ => ⟨S2x4x4112, .f32⟩
  | .hbm, ⟨32, _⟩ => ⟨S_, .f32⟩
  | .hbm, ⟨33, _⟩ => ⟨S2x4x4112, .f32⟩
  | .hbm, ⟨34, _⟩ => ⟨S2x4x4112, .f32⟩
  | .hbm, ⟨35, _⟩ => ⟨S2x4x4112, .f32⟩
  | .hbm, ⟨36, _⟩ => ⟨S2x4x4112x1, .f32⟩
  | .hbm, ⟨37, _⟩ => ⟨S2x4x4112x4112, .f32⟩
  | .hbm, ⟨38, _⟩ => ⟨S2x4x4112x4112, .f32⟩
  | .hbm, ⟨39, _⟩ => ⟨S2x4x4112x4112, .f32⟩
  | .hbm, ⟨40, _⟩ => ⟨S_, .f32⟩
  | .hbm, ⟨41, _⟩ => ⟨S2x4x4112, .f32⟩
  | .hbm, ⟨42, _⟩ => ⟨S2x4x4112x1, .f32⟩
  | .hbm, ⟨43, _⟩ => ⟨S2x4x4112x4112, .f32⟩
  | .hbm, ⟨44, _⟩ => ⟨S2x4x4112x4112, .f32⟩
  | .hbm, ⟨45, _⟩ => ⟨S2x4x4112x1, .f32⟩
  | .hbm, ⟨46, _⟩ => ⟨S_, .f32⟩
  | .hbm, ⟨47, _⟩ => ⟨S2x4x4112x1, .f32⟩
  | .hbm, ⟨48, _⟩ => ⟨S2x4x4112x1, .f32⟩
  | .hbm, ⟨49, _⟩ => ⟨S2x4x4112x64, .f32⟩
  | .hbm, ⟨50, _⟩ => ⟨S4112x2x4x64, .f32⟩
  | .hbm, ⟨51, _⟩ => ⟨S4112x512, .f32⟩
  | .hbm, ⟨52, _⟩ => ⟨S4112x2x4x64, .f32⟩
  | .hbm, ⟨53, _⟩ => ⟨S2x4x4112x64, .f32⟩
  | .hbm, ⟨54, _⟩ => ⟨S2x64x4112, .f32⟩
  | .hbm, ⟨55, _⟩ => ⟨S2x4112x64, .f32⟩
  | .hbm, ⟨56, _⟩ => ⟨S2x4x4112x4112, .f32⟩
  | .hbm, ⟨57, _⟩ => ⟨S2x4x4112x4112, .f32⟩
  | .hbm, ⟨58, _⟩ => ⟨S2x4x4112x4112, .f32⟩
  | .hbm, ⟨59, _⟩ => ⟨S2x4x4112x4112, .f32⟩
  | .hbm, ⟨60, _⟩ => ⟨S_, .f32⟩
  | .hbm, ⟨61, _⟩ => ⟨S2x4x4112, .f32⟩
  | .hbm, ⟨62, _⟩ => ⟨S2x4x4112x1, .f32⟩
  | .hbm, ⟨63, _⟩ => ⟨S2x4x4112x1, .f32⟩
  | .hbm, ⟨64, _⟩ => ⟨S2x4x4112x4112, .f32⟩
  | .hbm, ⟨65, _⟩ => ⟨S2x4x4112x4112, .f32⟩
  | .hbm, ⟨66, _⟩ => ⟨S_, .f32⟩
  | .hbm, ⟨67, _⟩ => ⟨S2x4x4112, .f32⟩
  | .hbm, ⟨68, _⟩ => ⟨S2x4x4112x4112, .f32⟩
  | .hbm, ⟨69, _⟩ => ⟨S2x4x4112x4112, .f32⟩
  | .hbm, ⟨70, _⟩ => ⟨S2x4x4112x4112, .f32⟩
  | .hbm, ⟨71, _⟩ => ⟨S2x4112x64, .f32⟩
  | .hbm, ⟨72, _⟩ => ⟨S2x4x4112x64, .f32⟩
  | .hbm, ⟨73, _⟩ => ⟨S4112x2x64, .f32⟩
  | .hbm, ⟨74, _⟩ => ⟨S4112x128, .f32⟩
  | .hbm, ⟨75, _⟩ => ⟨S4112x2x64, .f32⟩
  | .hbm, ⟨76, _⟩ => ⟨S4112x128, .f32⟩
  | .hbm, ⟨77, _⟩ => ⟨S4112x2x4x64, .f32⟩
  | .hbm, ⟨78, _⟩ => ⟨S4112x512, .f32⟩
  | .hbm, ⟨79, _⟩ => ⟨S4112x8x64, .f32⟩
  | .hbm, ⟨80, _⟩ => ⟨S_, .i32⟩
  | .hbm, ⟨81, _⟩ => ⟨S_, .f32⟩
  | .hbm, ⟨82, _⟩ => ⟨S4112x8x128, .f32⟩
  | .hbm, ⟨83, _⟩ => ⟨S4112x1024, .f32⟩
  | .hbm, ⟨84, _⟩ => ⟨S_, .i32⟩
  | .hbm, ⟨85, _⟩ => ⟨S_, .f32⟩
  | .hbm, ⟨86, _⟩ => ⟨S4224x1024, .f32⟩
  | .hbm, ⟨87, _⟩ => ⟨S4224x1024, .bf16⟩
  | .hbm, ⟨88, _⟩ => ⟨S_, .f32⟩
  | .hbm, ⟨89, _⟩ => ⟨S_, .f32⟩
  | .hbm, ⟨90, _⟩ => ⟨S4112x512, .f32⟩
  | .hbm, ⟨91, _⟩ => ⟨S4112x512, .f32⟩
  | .hbm, ⟨92, _⟩ => ⟨S4112x8x64, .f32⟩
  | .hbm, ⟨93, _⟩ => ⟨S_, .i32⟩
  | .hbm, ⟨94, _⟩ => ⟨S_, .f32⟩
  | .hbm, ⟨95, _⟩ => ⟨S4112x8x128, .f32⟩
  | .hbm, ⟨96, _⟩ => ⟨S4112x1024, .f32⟩
  | .hbm, ⟨97, _⟩ => ⟨S_, .i32⟩
  | .hbm, ⟨98, _⟩ => ⟨S_, .f32⟩
  | .hbm, ⟨99, _⟩ => ⟨S4224x1024, .f32⟩
  | .hbm, ⟨100, _⟩ => ⟨S4112x2x64, .f32⟩
  | .hbm, ⟨101, _⟩ => ⟨S_, .i32⟩
  | .hbm, ⟨102, _⟩ => ⟨S_, .f32⟩
  | .hbm, ⟨103, _⟩ => ⟨S4112x2x128, .f32⟩
  | .hbm, ⟨104, _⟩ => ⟨S4112x256, .f32⟩
  | .hbm, ⟨105, _⟩ => ⟨S_, .i32⟩
  | .hbm, ⟨106, _⟩ => ⟨S_, .f32⟩
  | .hbm, ⟨107, _⟩ => ⟨S4224x256, .f32⟩
  | .hbm, ⟨108, _⟩ => ⟨S4112x2x64, .f32⟩
  | .hbm, ⟨109, _⟩ => ⟨S_, .i32⟩
  | .hbm, ⟨110, _⟩ => ⟨S_, .f32⟩
  | .hbm, ⟨111, _⟩ => ⟨S4112x2x128, .f32⟩
  | .hbm, ⟨112, _⟩ => ⟨S4112x256, .f32⟩
  | .hbm, ⟨113, _⟩ => ⟨S_, .i32⟩
  | .hbm, ⟨114, _⟩ => ⟨S_, .f32⟩
  | .hbm, ⟨115, _⟩ => ⟨S4224x256, .f32⟩
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c : Ref sig .tc := ⟨.hbm, 80, rfl⟩
abbrev main_call0_v0 : Ref sig .tc := ⟨.hbm, 81, rfl⟩
abbrev main_v64 : Ref sig .tc := ⟨.hbm, 82, rfl⟩
abbrev main_v65 : Ref sig .tc := ⟨.hbm, 83, rfl⟩
abbrev main_c_11 : Ref sig .tc := ⟨.hbm, 84, rfl⟩
abbrev main_call1_v0 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_13 : Ref sig .tc := ⟨.hbm, 93, rfl⟩
abbrev main_call2_v0 : Ref sig .tc := ⟨.hbm, 94, rfl⟩
abbrev main_v72 : Ref sig .tc := ⟨.hbm, 95, rfl⟩
abbrev main_v73 : Ref sig .tc := ⟨.hbm, 96, rfl⟩
abbrev main_c_14 : Ref sig .tc := ⟨.hbm, 97, rfl⟩
abbrev main_call3_v0 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_call4_v0 : Ref sig .tc := ⟨.hbm, 102, rfl⟩
abbrev main_v76 : Ref sig .tc := ⟨.hbm, 103, rfl⟩
abbrev main_v77 : Ref sig .tc := ⟨.hbm, 104, rfl⟩
abbrev main_c_16 : Ref sig .tc := ⟨.hbm, 105, rfl⟩
abbrev main_call5_v0 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_call6_v0 : Ref sig .tc := ⟨.hbm, 110, rfl⟩
abbrev main_v80 : Ref sig .tc := ⟨.hbm, 111, rfl⟩
abbrev main_v81 : Ref sig .tc := ⟨.hbm, 112, rfl⟩
abbrev main_c_18 : Ref sig .tc := ⟨.hbm, 113, rfl⟩
abbrev main_call7_v0 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== GlaOutBwd.lean ====
abbrev S4112x512 : Shape := ⟨2, ![4112, 512]⟩
abbrev S4112x4384 : Shape := ⟨2, ![4112, 4384]⟩
abbrev S512 : Shape := ⟨1, ![512]⟩
abbrev S_ : Shape := ⟨0, ![]⟩
abbrev S112x512 : Shape := ⟨2, ![112, 512]⟩
abbrev S4224x512 : Shape := ⟨2, ![4224, 512]⟩
abbrev S4384x4112 : Shape := ⟨2, ![4384, 4112]⟩
abbrev S256x4112 : Shape := ⟨2, ![256, 4112]⟩
abbrev S512x4112 : Shape := ⟨2, ![512, 4112]⟩
abbrev S16x4112 : Shape := ⟨2, ![16, 4112]⟩
abbrev S128x4112 : Shape := ⟨2, ![128, 4112]⟩
abbrev S1024x4112 : Shape := ⟨2, ![1024, 4112]⟩
abbrev S8x64x4112 : Shape := ⟨3, ![8, 64, 4112]⟩
abbrev S8x128x4112 : Shape := ⟨3, ![8, 128, 4112]⟩
abbrev S4x64x4112 : Shape := ⟨3, ![4, 64, 4112]⟩
abbrev S4x128x4112 : Shape := ⟨3, ![4, 128, 4112]⟩
abbrev S2x64x4112 : Shape := ⟨3, ![2, 64, 4112]⟩
abbrev S2x128x4112 : Shape := ⟨3, ![2, 128, 4112]⟩
abbrev S1x16x4112 : Shape := ⟨3, ![1, 16, 4112]⟩
abbrev S1x128x4112 : Shape := ⟨3, ![1, 128, 4112]⟩
abbrev S5888x4112 : Shape := ⟨2, ![5888, 4112]⟩
abbrev S4112x5888 : Shape := ⟨2, ![4112, 5888]⟩
abbrev S112x5888 : Shape := ⟨2, ![112, 5888]⟩
abbrev S4224x5888 : Shape := ⟨2, ![4224, 5888]⟩
abbrev S1x512 : Shape := ⟨2, ![1, 512]⟩
abbrev S384x512 : Shape := ⟨2, ![384, 512]⟩
abbrev S384x128 : Shape := ⟨2, ![384, 128]⟩
abbrev S384 : Shape := ⟨1, ![384]⟩
abbrev S384x1 : Shape := ⟨2, ![384, 1]⟩
abbrev S1x128 : Shape := ⟨2, ![1, 128]⟩
abbrev S128 : Shape := ⟨1, ![128]⟩

abbrev nBuf : Space → Nat
  | .hbm => 71
  | .vmem => 14
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S4112x512, .f32⟩
  | .hbm, ⟨3, _⟩ => ⟨S4112x4384, .f32⟩
  | .hbm, ⟨4, _⟩ => ⟨S512, .f32⟩
  | .hbm, ⟨5, _⟩ => ⟨S_, .f32⟩
  | .hbm, ⟨6, _⟩ => ⟨S112x512, .f32⟩
  | .hbm, ⟨7, _⟩ => ⟨S4224x512, .f32⟩
  | .hbm, ⟨8, _⟩ => ⟨S_, .f32⟩
  | .hbm, ⟨9, _⟩ => ⟨S112x512, .f32⟩
  | .hbm, ⟨10, _⟩ => ⟨S4224x512, .f32⟩
  | .hbm, ⟨11, _⟩ => ⟨S_, .f32⟩
  | .hbm, ⟨12, _⟩ => ⟨S112x512, .f32⟩
  | .hbm, ⟨13, _⟩ => ⟨S4224x512, .f32⟩
  | .hbm, ⟨14, _⟩ => ⟨S4384x4112, .f32⟩
  | .hbm, ⟨15, _⟩ => ⟨S256x4112, .f32⟩
  | .hbm, ⟨16, _⟩ => ⟨S256x4112, .f32⟩
  | .hbm, ⟨17, _⟩ => ⟨S512x4112, .f32⟩
  | .hbm, ⟨18, _⟩ => ⟨S512x4112, .f32⟩
  | .hbm, ⟨19, _⟩ => ⟨S16x4112, .f32⟩
  | .hbm, ⟨20, _⟩ => ⟨S16x4112, .f32⟩
  | .hbm, ⟨21, _⟩ => ⟨S512x4112, .f32⟩
  | .hbm, ⟨22, _⟩ => ⟨S128x4112, .f32⟩
  | .hbm, ⟨23, _⟩ => ⟨S128x4112, .f32⟩
  | .hbm, ⟨24, _⟩ => ⟨S1024x4112, .f32⟩
  | .hbm, ⟨25, _⟩ => ⟨S1024x4112, .f32⟩
  | .hbm, ⟨26, _⟩ => ⟨S8x64x4112, .f32⟩
  | .hbm, ⟨27, _⟩ => ⟨S_, .i32⟩
  | .hbm, ⟨28, _⟩ => ⟨S_, .f32⟩
  | .hbm, ⟨29, _⟩ => ⟨S8x128x4112, .f32⟩
  | .hbm, ⟨30, _⟩ => ⟨S1024x4112, .f32⟩
  | .hbm, ⟨31, _⟩ => ⟨S4x64x4112, .f32⟩
  | .hbm, ⟨32, _⟩ => ⟨S_, .i32⟩
  | .hbm, ⟨33, _⟩ => ⟨S_, .f32⟩
  | .hbm, ⟨34, _⟩ => ⟨S4x128x4112, .f32⟩
  | .hbm, ⟨35, _⟩ => ⟨S512x4112, .f32⟩
  | .hbm, ⟨36, _⟩ => ⟨S4x64x4112, .f32⟩
  | .hbm, ⟨37, _⟩ => ⟨S_, .i32⟩
  | .hbm, ⟨38, _⟩ => ⟨S_, .f32⟩
  | .hbm, ⟨39, _⟩ => ⟨S4x128x4112, .f32⟩
  | .hbm, ⟨40, _⟩ => ⟨S512x4112, .f32⟩
  | .hbm, ⟨41, _⟩ => ⟨S2x64x4112, .f32⟩
  | .hbm, ⟨42, _⟩ => ⟨S_, .i32⟩
  | .hbm, ⟨43, _⟩ => ⟨S_, .f32⟩
  | .hbm, ⟨44, _⟩ => ⟨S2x128x4112, .f32⟩
  | .hbm, ⟨45, _⟩ => ⟨S256x4112, .f32⟩
  | .hbm, ⟨46, _⟩ => ⟨S2x64x4112, .f32⟩
  | .hbm, ⟨47, _⟩ => ⟨S_, .i32⟩
  | .hbm, ⟨48, _⟩ => ⟨S_, .f32⟩
  | .hbm, ⟨49, _⟩ => ⟨S2x128x4112, .f32⟩
  | .hbm, ⟨50, _⟩ => ⟨S256x4112, .f32⟩
  | .hbm, ⟨51, _⟩ => ⟨S1x16x4112, .f32⟩
  | .hbm, ⟨52, _⟩ => ⟨S_, .i32⟩
  | .hbm, ⟨53, _⟩ => ⟨S_, .f32⟩
  | .hbm, ⟨54, _⟩ => ⟨S1x128x4112, .f32⟩
  | .hbm, ⟨55, _⟩ => ⟨S128x4112, .f32⟩
  | .hbm, ⟨56, _⟩ => ⟨S1x16x4112, .f32⟩
  | .hbm, ⟨57, _⟩ => ⟨S_, .i32⟩
  | .hbm, ⟨58, _⟩ => ⟨S_, .f32⟩
  | .hbm, ⟨59, _⟩ => ⟨S1x128x4112, .f32⟩
  | .hbm, ⟨60, _⟩ => ⟨S128x4112, .f32⟩
  | .hbm, ⟨61, _⟩ => ⟨S5888x4112, .f32⟩
  | .hbm, ⟨62, _⟩ => ⟨S4112x5888, .f32⟩
  | .hbm, ⟨63, _⟩ => ⟨S_, .f32⟩
  | .hbm, ⟨64, _⟩ => ⟨S112x5888, .f32⟩
  | .hbm, ⟨65, _⟩ => ⟨S4224x5888, .f32⟩
  | .hbm, ⟨66, _⟩ => ⟨S4224x5888, .bf16⟩
  | .hbm, ⟨67, _⟩ => ⟨S1x512, .f32⟩
  | .hbm, ⟨68, _⟩ => ⟨S4224x512, .f32⟩
  | .hbm, ⟨69, _⟩ => ⟨S4224x512, .bf16⟩
  | .hbm, ⟨70, _⟩ => ⟨S1x512, .f32⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .bf16⟩
  | .local _ .vmem, ⟨7, _⟩ => ⟨S384x512, .bf16⟩
  | .local _ .vmem, ⟨8, _⟩ => ⟨S1x512, .f32⟩
  | .local _ .vmem, ⟨9, _⟩ => ⟨S384x512, .f32⟩
  | .local _ .vmem, ⟨10, _⟩ => ⟨S384x512, .f32⟩
  | .local _ .vmem, ⟨11, _⟩ => ⟨S384x512, .bf16⟩
  | .local _ .vmem, ⟨12, _⟩ => ⟨S384x512, .bf16⟩
  | .local _ .vmem, ⟨13, _⟩ => ⟨S1x512, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_call2_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_call3_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_call4_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_call5_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_call6_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45_0 : Ref sig .tc := ⟨.hbm, 68, rfl⟩
abbrev main_v45_1 : Ref sig .tc := ⟨.hbm, 69, rfl⟩
abbrev main_v45_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v192 : BitVec 1 := Scalar.cmpi .eq arg0 c0_i32
  let v193 : BitVec 32 := Scalar.extui v192
  let c0_i32_68 : BitVec 32 := 0#32
  let v194 : BitVec 1 := Scalar.cmpi .ne v193 c0_i32_68
  v194

def k0_cond2 (i : grid0.Coords) : BitVec 1 :=
  let arg0 : BitVec 32 := BitVec.ofNat 32 (i 0).val
  let c0_i32_69 : BitVec 32 := 0#32
  let v195 : BitVec 1 := Scalar.cmpi .ne arg0 c0_i32_69
  let v196 : BitVec 32 := Scalar.extui v195
  let c0_i32_70 : BitVec 32 := 0#32
  let v197 : BitVec 1 := Scalar.cmpi .ne v196 c0_i32_70
  v197

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GlaOutBwdRefIdeal.lean ====
abbrev S4112x512 : Shape := ⟨2, ![4112, 512]⟩
abbrev S4112x4384 : Shape := ⟨2, ![4112, 4384]⟩
abbrev S512 : Shape := ⟨1, ![512]⟩
abbrev S4112x256 : Shape := ⟨2, ![4112, 256]⟩
abbrev S4112x16 : Shape := ⟨2, ![4112, 16]⟩
abbrev S4112x128 : Shape := ⟨2, ![4112, 128]⟩
abbrev S4112x1024 : Shape := ⟨2, ![4112, 1024]⟩
abbrev S4112x4x128 : Shape := ⟨3, ![4112, 4, 128]⟩
abbrev S_ : Shape := ⟨0, ![]⟩
abbrev S4112x4 : Shape := ⟨2, ![4112, 4]⟩
abbrev S4112x4x1 : Shape := ⟨3, ![4112, 4, 1]⟩
abbrev S1x512 : Shape := ⟨2, ![1, 512]⟩
abbrev S4224x512 : Shape := ⟨2, ![4224, 512]⟩

abbrev nBuf : Space → Nat
  | .hbm => 94
  | .vmem => 0
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S4112x512, .f32⟩
  | .hbm, ⟨3, _⟩ => ⟨S4112x4384, .f32⟩
  | .hbm, ⟨4, _⟩ => ⟨S512, .f32⟩
  | .hbm, ⟨5, _⟩ => ⟨S4112x256, .f32⟩
  | .hbm, ⟨6, _⟩ => ⟨S4112x256, .f32⟩
  | .hbm, ⟨7, _⟩ => ⟨S4112x512, .f32⟩
  | .hbm, ⟨8, _⟩ => ⟨S4112x512, .f32⟩
  | .hbm, ⟨9, _⟩ => ⟨S4112x16, .f32⟩
  | .hbm, ⟨10, _⟩ => ⟨S4112x16, .f32⟩
  | .hbm, ⟨11, _⟩ => ⟨S4112x512, .f32⟩
  | .hbm, ⟨12, _⟩ => ⟨S4112x128, .f32⟩
  | .hbm, ⟨13, _⟩ => ⟨S4112x128, .f32⟩
  | .hbm, ⟨14, _⟩ => ⟨S4112x1024, .f32⟩
  | .hbm, ⟨15, _⟩ => ⟨S4112x1024, .f32⟩
  | .hbm, ⟨16, _⟩ => ⟨S4112x512, .f32⟩
  | .hbm, ⟨17, _⟩ => ⟨S4112x4x128, .f32⟩
  | .hbm, ⟨18, _⟩ => ⟨S4112x4x128, .f32⟩
  | .hbm, ⟨19, _⟩ => ⟨S_, .f32⟩
  | .hbm, ⟨20, _⟩ => ⟨S4112x4, .f32⟩
  | .hbm, ⟨21, _⟩ => ⟨S4112x4x1, .f32⟩
  | .hbm, ⟨22, _⟩ => ⟨S_, .f32⟩
  | .hbm, ⟨23, _⟩ => ⟨S4112x4x1, .f32⟩
  | .hbm, ⟨24, _⟩ => ⟨S4112x4x1, .f32⟩
  | .hbm, ⟨25, _⟩ => ⟨S_, .f32⟩
  | .hbm, ⟨26, _⟩ => ⟨S4112x4x1, .f32⟩
  | .hbm, ⟨27, _⟩ => ⟨S4112x4x1, .f32⟩
  | .hbm, ⟨28, _⟩ => ⟨S4112x4x1, .f32⟩
  | .hbm, ⟨29, _⟩ => ⟨S4112x4x1, .f32⟩
  | .hbm, ⟨30, _⟩ => ⟨S_, .f32⟩
  | .hbm, ⟨31, _⟩ => ⟨S4112x4x1, .f32⟩
  | .hbm, ⟨32, _⟩ => ⟨S4112x4x1, .f32⟩
  | .hbm, ⟨33, _⟩ => ⟨S4112x4x128, .f32⟩
  | .hbm, ⟨34, _⟩ => ⟨S4112x4x128, .f32⟩
  | .hbm, ⟨35, _⟩ => ⟨S4112x512, .f32⟩
  | .hbm, ⟨36, _⟩ => ⟨S1x512, .f32⟩
  | .hbm, ⟨37, _⟩ => ⟨S4112x512, .f32⟩
  | .hbm, ⟨38, _⟩ => ⟨S4112x512, .f32⟩
  | .hbm, ⟨39, _⟩ => ⟨S4112x512, .f32⟩
  | .hbm, ⟨40, _⟩ => ⟨S4112x512, .f32⟩
  | .hbm, ⟨41, _⟩ => ⟨S_, .f32⟩
  | .hbm, ⟨42, _⟩ => ⟨S4112x512, .f32⟩
  | .hbm, ⟨43, _⟩ => ⟨S4112x512, .f32⟩
  | .hbm, ⟨44, _⟩ => ⟨S_, .f32⟩
  | .hbm, ⟨45, _⟩ => ⟨S4112x512, .f32⟩
  | .hbm, ⟨46, _⟩ => ⟨S4112x512, .f32⟩
  | .hbm, ⟨47, _⟩ => ⟨S_, .f32⟩
  | .hbm, ⟨48, _⟩ => ⟨S4112x512, .f32⟩
  | .hbm, ⟨49, _⟩ => ⟨S4112x512, .f32⟩
  | .hbm, ⟨50, _⟩ => ⟨S4112x512, .f32⟩
  | .hbm, ⟨51, _⟩ => ⟨S4112x512, .f32⟩
  | .hbm, ⟨52, _⟩ => ⟨S4112x512, .f32⟩
  | .hbm, ⟨53, _⟩ => ⟨S4112x512, .f32⟩
  | .hbm, ⟨54, _⟩ => ⟨S4112x512, .f32⟩
  | .hbm, ⟨55, _⟩ => ⟨S4112x512, .f32⟩
  | .hbm, ⟨56, _⟩ => ⟨S4112x512, .f32⟩
  | .hbm, ⟨57, _⟩ => ⟨S4112x512, .f32⟩
  | .hbm, ⟨58, _⟩ => ⟨S4112x512, .f32⟩
  | .hbm, ⟨59, _⟩ => ⟨S4112x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S4112x512, .f32⟩
  | .hbm, ⟨64, _⟩ => ⟨S4112x512, .f32⟩
  | .hbm, ⟨65, _⟩ => ⟨S_, .f32⟩
  | .hbm, ⟨66, _⟩ => ⟨S512, .f32⟩
  | .hbm, ⟨67, _⟩ => ⟨S4112x4x128, .f32⟩
  | .hbm, ⟨68, _⟩ => ⟨S4112x4x128, .f32⟩
  | .hbm, ⟨69, _⟩ => ⟨S_, .f32⟩
  | .hbm, ⟨70, _⟩ => ⟨S4112x4, .f32⟩
  | .hbm, ⟨71, _⟩ => ⟨S4112x4x1, .f32⟩
  | .hbm, ⟨72, _⟩ => ⟨S4112x4x128, .f32⟩
  | .hbm, ⟨73, _⟩ => ⟨S4112x4x128, .f32⟩
  | .hbm, ⟨74, _⟩ => ⟨S4112x4x1, .f32⟩
  | .hbm, ⟨75, _⟩ => ⟨S_, .f32⟩
  | .hbm, ⟨76, _⟩ => ⟨S4112x4x1, .f32⟩
  | .hbm, ⟨77, _⟩ => ⟨S4112x4x1, .f32⟩
  | .hbm, ⟨78, _⟩ => ⟨S_, .f32⟩
  | .hbm, ⟨79, _⟩ => ⟨S4112x4, .f32⟩
  | .hbm, ⟨80, _⟩ => ⟨S4112x4x128, .f32⟩
  | .hbm, ⟨81, _⟩ => ⟨S4112x4x128, .f32⟩
  | .hbm, ⟨82, _⟩ => ⟨S4112x4x128, .f32⟩
  | .hbm, ⟨83, _⟩ => ⟨S4112x4x128, .f32⟩
  | .hbm, ⟨84, _⟩ => ⟨S4112x4x128, .f32⟩
  | .hbm, ⟨85, _⟩ => ⟨S4112x512, .f32⟩
  | .hbm, ⟨86, _⟩ => ⟨S_, .i32⟩
  | .hbm, ⟨87, _⟩ => ⟨S_, .f32⟩
  | .hbm, ⟨88, _⟩ => ⟨S4224x512, .f32⟩
  | .hbm, ⟨89, _⟩ => ⟨S_, .i32⟩
  | .hbm, ⟨90, _⟩ => ⟨S_, .f32⟩
  | .hbm, ⟨91, _⟩ => ⟨S4224x512, .f32⟩
  | .hbm, ⟨92, _⟩ => ⟨S4224x512, .bf16⟩
  | .hbm, ⟨93, _⟩ => ⟨S1x512, .f32⟩
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v30_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v30_1 : Ref sig .tc := ⟨.hbm, 50, rfl⟩
abbrev main_v30_0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c : Ref sig .tc := ⟨.hbm, 86, rfl⟩
abbrev main_call2_v0 : Ref sig .tc := ⟨.hbm, 87, rfl⟩
abbrev main_v57 : Ref sig .tc := ⟨.hbm, 88, rfl⟩
abbrev main_c_8 : Ref sig .tc := ⟨.hbm, 89, rfl⟩
abbrev main_call3_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]
-- ==== FfnDact.lean ====
abbrev S4112x1024 : Shape := ⟨2, ![4112, 1024]⟩
abbrev S1024x2816 : Shape := ⟨2, ![1024, 2816]⟩
abbrev S2816x1024 : Shape := ⟨2, ![2816, 1024]⟩
abbrev S4112x2816 : Shape := ⟨2, ![4112, 2816]⟩
abbrev S_ : Shape := ⟨0, ![]⟩
abbrev S112x2816 : Shape := ⟨2, ![112, 2816]⟩
abbrev S4224x2816 : Shape := ⟨2, ![4224, 2816]⟩
abbrev S112x1024 : Shape := ⟨2, ![112, 1024]⟩
abbrev S4224x1024 : Shape := ⟨2, ![4224, 1024]⟩
abbrev S528x1024 : Shape := ⟨2, ![528, 1024]⟩
abbrev S528x2816 : Shape := ⟨2, ![528, 2816]⟩
abbrev S256x1024 : Shape := ⟨2, ![256, 1024]⟩
abbrev S528x256 : Shape := ⟨2, ![528, 256]⟩

abbrev nBuf : Space → Nat
  | .hbm => 22
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4112x2816, .f32⟩
  | .hbm, ⟨6, _⟩ => ⟨S_, .f32⟩
  | .hbm, ⟨7, _⟩ => ⟨S112x2816, .f32⟩
  | .hbm, ⟨8, _⟩ => ⟨S4224x2816, .f32⟩
  | .hbm, ⟨9, _⟩ => ⟨S4224x2816, .bf16⟩
  | .hbm, ⟨10, _⟩ => ⟨S4112x2816, .f32⟩
  | .hbm, ⟨11, _⟩ => ⟨S_, .f32⟩
  | .hbm, ⟨12, _⟩ => ⟨S112x2816, .f32⟩
  | .hbm, ⟨13, _⟩ => ⟨S4224x2816, .f32⟩
  | .hbm, ⟨14, _⟩ => ⟨S4224x2816, .bf16⟩
  | .hbm, ⟨15, _⟩ => ⟨S_, .f32⟩
  | .hbm, ⟨16, _⟩ => ⟨S112x1024, .f32⟩
  | .hbm, ⟨17, _⟩ => ⟨S4224x1024, .f32⟩
  | .hbm, ⟨18, _⟩ => ⟨S4224x1024, .bf16⟩
  | .hbm, ⟨19, _⟩ => ⟨S2816x1024, .bf16⟩
  | .hbm, ⟨20, _⟩ => ⟨S4224x2816, .bf16⟩
  | .hbm, ⟨21, _⟩ => ⟨S4224x2816, .bf16⟩
  | .local _ .vmem, ⟨0, _⟩ => ⟨S528x1024, .bf16⟩
  | .local _ .vmem, ⟨1, _⟩ => ⟨S528x1024, .bf16⟩
  | .local _ .vmem, ⟨2, _⟩ => ⟨S2816x1024, .bf16⟩
  | .local _ .vmem, ⟨3, _⟩ => ⟨S528x2816, .bf16⟩
  | .local _ .vmem, ⟨4, _⟩ => ⟨S528x2816, .bf16⟩
  | .local _ .vmem, ⟨5, _⟩ => ⟨S528x2816, .bf16⟩
  | .local _ .vmem, ⟨6, _⟩ => ⟨S528x2816, .bf16⟩
  | .local _ .vmem, ⟨7, _⟩ => ⟨S528x2816, .bf16⟩
  | .local _ .vmem, ⟨8, _⟩ => ⟨S528x2816, .bf16⟩
  | .local _ .vmem, ⟨9, _⟩ => ⟨S528x2816, .bf16⟩
  | .local _ .vmem, ⟨10, _⟩ => ⟨S528x2816, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S528x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S528x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S528x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S528x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDactRefIdeal.lean ====
abbrev S4112x1024 : Shape := ⟨2, ![4112, 1024]⟩
abbrev S1024x2816 : Shape := ⟨2, ![1024, 2816]⟩
abbrev S2816x1024 : Shape := ⟨2, ![2816, 1024]⟩
abbrev S4112x2816 : Shape := ⟨2, ![4112, 2816]⟩
abbrev S_ : Shape := ⟨0, ![]⟩
abbrev S4224x2816 : Shape := ⟨2, ![4224, 2816]⟩

abbrev nBuf : Space → Nat
  | .hbm => 43
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4112x2816, .f32⟩
  | .hbm, ⟨6, _⟩ => ⟨S4112x2816, .f32⟩
  | .hbm, ⟨7, _⟩ => ⟨S4112x2816, .f32⟩
  | .hbm, ⟨8, _⟩ => ⟨S4112x2816, .f32⟩
  | .hbm, ⟨9, _⟩ => ⟨S_, .f32⟩
  | .hbm, ⟨10, _⟩ => ⟨S4112x2816, .f32⟩
  | .hbm, ⟨11, _⟩ => ⟨S4112x2816, .f32⟩
  | .hbm, ⟨12, _⟩ => ⟨S_, .f32⟩
  | .hbm, ⟨13, _⟩ => ⟨S4112x2816, .f32⟩
  | .hbm, ⟨14, _⟩ => ⟨S4112x2816, .f32⟩
  | .hbm, ⟨15, _⟩ => ⟨S_, .f32⟩
  | .hbm, ⟨16, _⟩ => ⟨S4112x2816, .f32⟩
  | .hbm, ⟨17, _⟩ => ⟨S4112x2816, .f32⟩
  | .hbm, ⟨18, _⟩ => ⟨S4112x2816, .f32⟩
  | .hbm, ⟨19, _⟩ => ⟨S4112x2816, .f32⟩
  | .hbm, ⟨20, _⟩ => ⟨S4112x2816, .f32⟩
  | .hbm, ⟨21, _⟩ => ⟨S4112x1024, .f32⟩
  | .hbm, ⟨22, _⟩ => ⟨S_, .f32⟩
  | .hbm, ⟨23, _⟩ => ⟨S4112x1024, .f32⟩
  | .hbm, ⟨24, _⟩ => ⟨S4112x1024, .f32⟩
  | .hbm, ⟨25, _⟩ => ⟨S_, .f32⟩
  | .hbm, ⟨26, _⟩ => ⟨S4112x1024, .f32⟩
  | .hbm, ⟨27, _⟩ => ⟨S4112x1024, .f32⟩
  | .hbm, ⟨28, _⟩ => ⟨S4112x2816, .f32⟩
  | .hbm, ⟨29, _⟩ => ⟨S4112x2816, .f32⟩
  | .hbm, ⟨30, _⟩ => ⟨S4112x2816, .f32⟩
  | .hbm, ⟨31, _⟩ => ⟨S4112x2816, .f32⟩
  | .hbm, ⟨32, _⟩ => ⟨S4112x2816, .f32⟩
  | .hbm, ⟨33, _⟩ => ⟨S4112x2816, .f32⟩
  | .hbm, ⟨34, _⟩ => ⟨S4112x2816, .f32⟩
  | .hbm, ⟨35, _⟩ => ⟨S_, .i32⟩
  | .hbm, ⟨36, _⟩ => ⟨S_, .f32⟩
  | .hbm, ⟨37, _⟩ => ⟨S4224x2816, .f32⟩
  | .hbm, ⟨38, _⟩ => ⟨S4224x2816, .bf16⟩
  | .hbm, ⟨39, _⟩ => ⟨S_, .i32⟩
  | .hbm, ⟨40, _⟩ => ⟨S_, .f32⟩
  | .hbm, ⟨41, _⟩ => ⟨S4224x2816, .f32⟩
  | .hbm, ⟨42, _⟩ => ⟨S4224x2816, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_c : Ref sig .tc := ⟨.hbm, 35, rfl⟩
abbrev main_call2_v0 : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_call3_v0 : Ref sig .tc := ⟨.hbm, 40, rfl⟩
abbrev main_v15 : Ref sig .tc := ⟨.hbm, 41, rfl⟩
abbrev main_v16 : Ref sig .tc := ⟨.hbm, 42, rfl⟩

abbrev nD : Nat := 1
abbrev τ : Topo := Topo.v7x

variable {F : FTy → Type} [FloatOps F]
-- ==== FfnDz.lean ====
abbrev S4112x1024 : Shape := ⟨2, ![4112, 1024]⟩
abbrev S1024 : Shape := ⟨1, ![1024]⟩
abbrev S1024x2816 : Shape := ⟨2, ![1024, 2816]⟩
abbrev S4112x2816 : Shape := ⟨2, ![4112, 2816]⟩
abbrev S_ : Shape := ⟨0, ![]⟩
abbrev S112x2816 : Shape := ⟨2, ![112, 2816]⟩
abbrev S4224x2816 : Shape := ⟨2, ![4224, 2816]⟩
abbrev S2816x1024 : Shape := ⟨2, ![2816, 1024]⟩
abbrev S112x1024 : Shape := ⟨2, ![112, 1024]⟩
abbrev S4224x1024 : Shape := ⟨2, ![4224, 1024]⟩
abbrev S1x1024 : Shape := ⟨2, ![1, 1024]⟩
abbrev S528x2816 : Shape := ⟨2, ![528, 2816]⟩
abbrev S528x1024 : Shape := ⟨2, ![528, 1024]⟩
abbrev S528 : Shape := ⟨1, ![528]⟩
abbrev S528x1 : Shape := ⟨2, ![528, 1]⟩

abbrev nBuf : Space → Nat
  | .hbm => 29
  | .vmem => 16
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4112x2816, .f32⟩
  | .hbm, ⟨5, _⟩ => ⟨S4112x2816, .f32⟩
  | .hbm, ⟨6, _⟩ => ⟨S4112x1024, .f32⟩
  | .hbm, ⟨7, _⟩ => ⟨S_, .f32⟩
  | .hbm, ⟨8, _⟩ => ⟨S112x2816, .f32⟩
  | .hbm, ⟨9, _⟩ => ⟨S4224x2816, .f32⟩
  | .hbm, ⟨10, _⟩ => ⟨S4224x2816, .bf16⟩
  | .hbm, ⟨11, _⟩ => ⟨S2816x1024, .f32⟩
  | .hbm, ⟨12, _⟩ => ⟨S2816x1024, .bf16⟩
  | .hbm, ⟨13, _⟩ => ⟨S_, .f32⟩
  | .hbm, ⟨14, _⟩ => ⟨S112x2816, .f32⟩
  | .hbm, ⟨15, _⟩ => ⟨S4224x2816, .f32⟩
  | .hbm, ⟨16, _⟩ => ⟨S4224x2816, .bf16⟩
  | .hbm, ⟨17, _⟩ => ⟨S2816x1024, .f32⟩
  | .hbm, ⟨18, _⟩ => ⟨S2816x1024, .bf16⟩
  | .hbm, ⟨19, _⟩ => ⟨S_, .f32⟩
  | .hbm, ⟨20, _⟩ => ⟨S112x1024, .f32⟩
  | .hbm, ⟨21, _⟩ => ⟨S4224x1024, .f32⟩
  | .hbm, ⟨22, _⟩ => ⟨S_, .f32⟩
  | .hbm, ⟨23, _⟩ => ⟨S112x1024, .f32⟩
  | .hbm, ⟨24, _⟩ => ⟨S4224x1024, .f32⟩
  | .hbm, ⟨25, _⟩ => ⟨S1x1024, .f32⟩
  | .hbm, ⟨26, _⟩ => ⟨S4224x1024, .f32⟩
  | .hbm, ⟨27, _⟩ => ⟨S4224x1024, .bf16⟩
  | .hbm, ⟨28, _⟩ => ⟨S1x1024, .f32⟩
  | .local _ .vmem, ⟨0, _⟩ => ⟨S528x2816, .bf16⟩
  | .local _ .vmem, ⟨1, _⟩ => ⟨S528x2816, .bf16⟩
  | .local _ .vmem, ⟨2, _⟩ => ⟨S2816x1024, .bf16⟩
  | .local _ .vmem, ⟨3, _⟩ => ⟨S528x2816, .bf16⟩
  | .local _ .vmem, ⟨4, _⟩ => ⟨S528x2816, .bf16⟩
  | .local _ .vmem, ⟨5, _⟩ => ⟨S2816x1024, .bf16⟩
  | .local _ .vmem, ⟨6, _⟩ => ⟨S528x1024, .f32⟩
  | .local _ .vmem, ⟨7, _⟩ => ⟨S528x1024, .f32⟩
  | .local _ .vmem, ⟨8, _⟩ => ⟨S528x1024, .f32⟩
  | .local _ .vmem, ⟨9, _⟩ => ⟨S528x1024, .f32⟩
  | .local _ .vmem, ⟨10, _⟩ => ⟨S1x1024, .f32⟩
  | .local _ .vmem, ⟨11, _⟩ => ⟨S528x1024, .f32⟩
  | .local _ .vmem, ⟨12, _⟩ => ⟨S528x1024, .f32⟩
  | .local _ .vmem, ⟨13, _⟩ => ⟨S528x1024, .bf16⟩
  | .local _ .vmem, ⟨14, _⟩ => ⟨S528x1024, .bf16⟩
  | .local _ .vmem, ⟨15, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v56 : BitVec 1 := Scalar.cmpi .eq arg1 c0_i32
  let v57 : BitVec 32 := Scalar.extui v56
  let c0_i32_25 : BitVec 32 := 0#32
  let v58 : BitVec 1 := Scalar.cmpi .ne v57 c0_i32_25
  v58

def k0_cond2 (i : grid0.Coords) : BitVec 1 :=
  let arg1 : BitVec 32 := BitVec.ofNat 32 (i 1).val
  let c0_i32_26 : BitVec 32 := 0#32
  let v59 : BitVec 1 := Scalar.cmpi .ne arg1 c0_i32_26
  let v60 : BitVec 32 := Scalar.extui v59
  let c0_i32_27 : BitVec 32 := 0#32
  let v61 : BitVec 1 := Scalar.cmpi .ne v60 c0_i32_27
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S528x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S528x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S528x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S528x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false, false]
-- ==== FfnDzRefIdeal.lean ====
abbrev S4112x1024 : Shape := ⟨2, ![4112, 1024]⟩
abbrev S1024 : Shape := ⟨1, ![1024]⟩
abbrev S1024x2816 : Shape := ⟨2, ![1024, 2816]⟩
abbrev S4112x2816 : Shape := ⟨2, ![4112, 2816]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4112x2816, .f32⟩
  | .hbm, ⟨5, _⟩ => ⟨S4112x2816, .f32⟩
  | .hbm, ⟨6, _⟩ => ⟨S4112x1024, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S4112x2816, .f32⟩
  | .hbm, ⟨28, _⟩ => ⟨S4112x2816, .f32⟩
  | .hbm, ⟨29, _⟩ => ⟨S4112x1024, .f32⟩
  | .hbm, ⟨30, _⟩ => ⟨S4112x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4112x1024, .f32⟩
  | .hbm, ⟨37, _⟩ => ⟨S4112x1024, .f32⟩
  | .hbm, ⟨38, _⟩ => ⟨S_, .f32⟩
  | .hbm, ⟨39, _⟩ => ⟨S1024, .f32⟩
  | .hbm, ⟨40, _⟩ => ⟨S4112x1024, .f32⟩
  | .hbm, ⟨41, _⟩ => ⟨S_, .f32⟩
  | .hbm, ⟨42, _⟩ => ⟨S4112, .f32⟩
  | .hbm, ⟨43, _⟩ => ⟨S4112x1, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S4112x1, .f32⟩
  | .hbm, ⟨48, _⟩ => ⟨S_, .f32⟩
  | .hbm, ⟨49, _⟩ => ⟨S4112x1, .f32⟩
  | .hbm, ⟨50, _⟩ => ⟨S4112x1, .f32⟩
  | .hbm, ⟨51, _⟩ => ⟨S_, .f32⟩
  | .hbm, ⟨52, _⟩ => ⟨S4112, .f32⟩
  | .hbm, ⟨53, _⟩ => ⟨S4112x1024, .f32⟩
  | .hbm, ⟨54, _⟩ => ⟨S4112x1024, .f32⟩
  | .hbm, ⟨55, _⟩ => ⟨S4112x1024, .f32⟩
  | .hbm, ⟨56, _⟩ => ⟨S4112x1024, .f32⟩
  | .hbm, ⟨57, _⟩ => ⟨S4112x1024, .f32⟩
  | .hbm, ⟨58, _⟩ => ⟨S_, .i32⟩
  | .hbm, ⟨59, _⟩ => ⟨S_, .f32⟩
  | .hbm, ⟨60, _⟩ => ⟨S4224x1024, .f32⟩
  | .hbm, ⟨61, _⟩ => ⟨S4224x1024, .bf16⟩
  | .hbm, ⟨62, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c : Ref sig .tc := ⟨.hbm, 58, rfl⟩
abbrev main_call0_v0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== MergeBwd.lean ====
abbrev S4112x1024 : Shape := ⟨2, ![4112, 1024]⟩
abbrev S4112x512 : Shape := ⟨2, ![4112, 512]⟩
abbrev S4112x4384 : Shape := ⟨2, ![4112, 4384]⟩
abbrev S512x1024 : Shape := ⟨2, ![512, 1024]⟩
abbrev S2x1024 : Shape := ⟨2, ![2, 1024]⟩
abbrev S1024x1024 : Shape := ⟨2, ![1024, 1024]⟩
abbrev S4384x4112 : Shape := ⟨2, ![4384, 4112]⟩
abbrev S256x4112 : Shape := ⟨2, ![256, 4112]⟩
abbrev S512x4112 : Shape := ⟨2, ![512, 4112]⟩
abbrev S16x4112 : Shape := ⟨2, ![16, 4112]⟩
abbrev S128x4112 : Shape := ⟨2, ![128, 4112]⟩
abbrev S1024x4112 : Shape := ⟨2, ![1024, 4112]⟩
abbrev S8x64x4112 : Shape := ⟨3, ![8, 64, 4112]⟩
abbrev S_ : Shape := ⟨0, ![]⟩
abbrev S8x128x4112 : Shape := ⟨3, ![8, 128, 4112]⟩
abbrev S4x64x4112 : Shape := ⟨3, ![4, 64, 4112]⟩
abbrev S4x128x4112 : Shape := ⟨3, ![4, 128, 4112]⟩
abbrev S2x64x4112 : Shape := ⟨3, ![2, 64, 4112]⟩
abbrev S2x128x4112 : Shape := ⟨3, ![2, 128, 4112]⟩
abbrev S1x16x4112 : Shape := ⟨3, ![1, 16, 4112]⟩
abbrev S1x128x4112 : Shape := ⟨3, ![1, 128, 4112]⟩
abbrev S5888x4112 : Shape := ⟨2, ![5888, 4112]⟩
abbrev S4112x5888 : Shape := ⟨2, ![4112, 5888]⟩
abbrev S112x5888 : Shape := ⟨2, ![112, 5888]⟩
abbrev S4224x5888 : Shape := ⟨2, ![4224, 5888]⟩
abbrev S112x1024 : Shape := ⟨2, ![112, 1024]⟩
abbrev S4224x1024 : Shape := ⟨2, ![4224, 1024]⟩
abbrev S1x1024x1024 : Shape := ⟨3, ![1, 1024, 1024]⟩
abbrev S1x2x1x1024 : Shape := ⟨4, ![1, 2, 1, 1024]⟩
abbrev S1x1024 : Shape := ⟨2, ![1, 1024]⟩
abbrev S528x1024 : Shape := ⟨2, ![528, 1024]⟩
abbrev S1x1x1x1024 : Shape := ⟨4, ![1, 1, 1, 1024]⟩
abbrev S1x256x1024 : Shape := ⟨3, ![1, 256, 1024]⟩
abbrev S256x1024 : Shape := ⟨2, ![256, 1024]⟩
abbrev S528x256 : Shape := ⟨2, ![528, 256]⟩
abbrev S1x1x1x256 : Shape := ⟨4, ![1, 1, 1, 256]⟩
abbrev S1x256 : Shape := ⟨2, ![1, 256]⟩
abbrev S256 : Shape := ⟨1, ![256]⟩

abbrev nBuf : Space → Nat
  | .hbm => 84
  | .vmem => 23
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S4112x4384, .f32⟩
  | .hbm, ⟨4, _⟩ => ⟨S512x1024, .f32⟩
  | .hbm, ⟨5, _⟩ => ⟨S512x1024, .f32⟩
  | .hbm, ⟨6, _⟩ => ⟨S2x1024, .f32⟩
  | .hbm, ⟨7, _⟩ => ⟨S1024x1024, .f32⟩
  | .hbm, ⟨8, _⟩ => ⟨S4384x4112, .f32⟩
  | .hbm, ⟨9, _⟩ => ⟨S256x4112, .f32⟩
  | .hbm, ⟨10, _⟩ => ⟨S256x4112, .f32⟩
  | .hbm, ⟨11, _⟩ => ⟨S512x4112, .f32⟩
  | .hbm, ⟨12, _⟩ => ⟨S512x4112, .f32⟩
  | .hbm, ⟨13, _⟩ => ⟨S16x4112, .f32⟩
  | .hbm, ⟨14, _⟩ => ⟨S16x4112, .f32⟩
  | .hbm, ⟨15, _⟩ => ⟨S512x4112, .f32⟩
  | .hbm, ⟨16, _⟩ => ⟨S128x4112, .f32⟩
  | .hbm, ⟨17, _⟩ => ⟨S128x4112, .f32⟩
  | .hbm, ⟨18, _⟩ => ⟨S1024x4112, .f32⟩
  | .hbm, ⟨19, _⟩ => ⟨S1024x4112, .f32⟩
  | .hbm, ⟨20, _⟩ => ⟨S8x64x4112, .f32⟩
  | .hbm, ⟨21, _⟩ => ⟨S_, .i32⟩
  | .hbm, ⟨22, _⟩ => ⟨S_, .f32⟩
  | .hbm, ⟨23, _⟩ => ⟨S8x128x4112, .f32⟩
  | .hbm, ⟨24, _⟩ => ⟨S1024x4112, .f32⟩
  | .hbm, ⟨25, _⟩ => ⟨S4x64x4112, .f32⟩
  | .hbm, ⟨26, _⟩ => ⟨S_, .i32⟩
  | .hbm, ⟨27, _⟩ => ⟨S_, .f32⟩
  | .hbm, ⟨28, _⟩ => ⟨S4x128x4112, .f32⟩
  | .hbm, ⟨29, _⟩ => ⟨S512x4112, .f32⟩
  | .hbm, ⟨30, _⟩ => ⟨S4x64x4112, .f32⟩
  | .hbm, ⟨31, _⟩ => ⟨S_, .i32⟩
  | .hbm, ⟨32, _⟩ => ⟨S_, .f32⟩
  | .hbm, ⟨33, _⟩ => ⟨S4x128x4112, .f32⟩
  | .hbm, ⟨34, _⟩ => ⟨S512x4112, .f32⟩
  | .hbm, ⟨35, _⟩ => ⟨S2x64x4112, .f32⟩
  | .hbm, ⟨36, _⟩ => ⟨S_, .i32⟩
  | .hbm, ⟨37, _⟩ => ⟨S_, .f32⟩
  | .hbm, ⟨38, _⟩ => ⟨S2x128x4112, .f32⟩
  | .hbm, ⟨39, _⟩ => ⟨S256x4112, .f32⟩
  | .hbm, ⟨40, _⟩ => ⟨S2x64x4112, .f32⟩
  | .hbm, ⟨41, _⟩ => ⟨S_, .i32⟩
  | .hbm, ⟨42, _⟩ => ⟨S_, .f32⟩
  | .hbm, ⟨43, _⟩ => ⟨S2x128x4112, .f32⟩
  | .hbm, ⟨44, _⟩ => ⟨S256x4112, .f32⟩
  | .hbm, ⟨45, _⟩ => ⟨S1x16x4112, .f32⟩
  | .hbm, ⟨46, _⟩ => ⟨S_, .i32⟩
  | .hbm, ⟨47, _⟩ => ⟨S_, .f32⟩
  | .hbm, ⟨48, _⟩ => ⟨S1x128x4112, .f32⟩
  | .hbm, ⟨49, _⟩ => ⟨S128x4112, .f32⟩
  | .hbm, ⟨50, _⟩ => ⟨S1x16x4112, .f32⟩
  | .hbm, ⟨51, _⟩ => ⟨S_, .i32⟩
  | .hbm, ⟨52, _⟩ => ⟨S_, .f32⟩
  | .hbm, ⟨53, _⟩ => ⟨S1x128x4112, .f32⟩
  | .hbm, ⟨54, _⟩ => ⟨S128x4112, .f32⟩
  | .hbm, ⟨55, _⟩ => ⟨S5888x4112, .f32⟩
  | .hbm, ⟨56, _⟩ => ⟨S4112x5888, .f32⟩
  | .hbm, ⟨57, _⟩ => ⟨S_, .f32⟩
  | .hbm, ⟨58, _⟩ => ⟨S112x5888, .f32⟩
  | .hbm, ⟨59, _⟩ => ⟨S4224x5888, .f32⟩
  | .hbm, ⟨60, _⟩ => ⟨S4224x5888, .bf16⟩
  | .hbm, ⟨61, _⟩ => ⟨S4112x1024, .f32⟩
  | .hbm, ⟨62, _⟩ => ⟨S_, .f32⟩
  | .hbm, ⟨63, _⟩ => ⟨S112x1024, .f32⟩
  | .hbm, ⟨64, _⟩ => ⟨S4224x1024, .f32⟩
  | .hbm, ⟨65, _⟩ => ⟨S4224x1024, .bf16⟩
  | .hbm, ⟨66, _⟩ => ⟨S4112x1024, .f32⟩
  | .hbm, ⟨67, _⟩ => ⟨S_, .f32⟩
  | .hbm, ⟨68, _⟩ => ⟨S112x1024, .f32⟩
  | .hbm, ⟨69, _⟩ => ⟨S4224x1024, .f32⟩
  | .hbm, ⟨70, _⟩ => ⟨S4224x1024, .bf16⟩
  | .hbm, ⟨71, _⟩ => ⟨S_, .f32⟩
  | .hbm, ⟨72, _⟩ => ⟨S112x1024, .f32⟩
  | .hbm, ⟨73, _⟩ => ⟨S4224x1024, .f32⟩
  | .hbm, ⟨74, _⟩ => ⟨S4224x1024, .bf16⟩
  | .hbm, ⟨75, _⟩ => ⟨S1024x1024, .bf16⟩
  | .hbm, ⟨76, _⟩ => ⟨S1x1024x1024, .bf16⟩
  | .hbm, ⟨77, _⟩ => ⟨S1x2x1x1024, .f32⟩
  | .hbm, ⟨78, _⟩ => ⟨S4224x1024, .bf16⟩
  | .hbm, ⟨79, _⟩ => ⟨S4224x1024, .bf16⟩
  | .hbm, ⟨80, _⟩ => ⟨S4224x1024, .bf16⟩
  | .hbm, ⟨81, _⟩ => ⟨S4224x1024, .bf16⟩
  | .hbm, ⟨82, _⟩ => ⟨S1x1024, .f32⟩
  | .hbm, ⟨83, _⟩ => ⟨S1x1024, .f32⟩
  | .local _ .vmem, ⟨0, _⟩ => ⟨S528x1024, .bf16⟩
  | .local _ .vmem, ⟨1, _⟩ => ⟨S528x1024, .bf16⟩
  | .local _ .vmem, ⟨2, _⟩ => ⟨S1x1024x1024, .bf16⟩
  | .local _ .vmem, ⟨3, _⟩ => ⟨S528x1024, .bf16⟩
  | .local _ .vmem, ⟨4, _⟩ => ⟨S528x1024, .bf16⟩
  | .local _ .vmem, ⟨5, _⟩ => ⟨S528x1024, .bf16⟩
  | .local _ .vmem, ⟨6, _⟩ => ⟨S528x1024, .bf16⟩
  | .local _ .vmem, ⟨7, _⟩ => ⟨S528x1024, .bf16⟩
  | .local _ .vmem, ⟨8, _⟩ => ⟨S528x1024, .bf16⟩
  | .local _ .vmem, ⟨9, _⟩ => ⟨S528x1024, .bf16⟩
  | .local _ .vmem, ⟨10, _⟩ => ⟨S528x1024, .bf16⟩
  | .local _ .vmem, ⟨11, _⟩ => ⟨S1x1x1x1024, .f32⟩
  | .local _ .vmem, ⟨12, _⟩ => ⟨S1x1x1x1024, .f32⟩
  | .local _ .vmem, ⟨13, _⟩ => ⟨S528x1024, .bf16⟩
  | .local _ .vmem, ⟨14, _⟩ => ⟨S528x1024, .bf16⟩
  | .local _ .vmem, ⟨15, _⟩ => ⟨S528x1024, .bf16⟩
  | .local _ .vmem, ⟨16, _⟩ => ⟨S528x1024, .bf16⟩
  | .local _ .vmem, ⟨17, _⟩ => ⟨S528x1024, .bf16⟩
  | .local _ .vmem, ⟨18, _⟩ => ⟨S528x1024, .bf16⟩
  | .local _ .vmem, ⟨19, _⟩ => ⟨S528x1024, .bf16⟩
  | .local _ .vmem, ⟨20, _⟩ => ⟨S528x1024, .bf16⟩
  | .local _ .vmem, ⟨21, _⟩ => ⟨S1x1024, .f32⟩
  | .local _ .vmem, ⟨22, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_call2_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_call3_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_call4_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_call5_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_call6_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52_0 : Ref sig .tc := ⟨.hbm, 78, rfl⟩
abbrev main_v52_1 : Ref sig .tc := ⟨.hbm, 79, rfl⟩
abbrev main_v52_2 : Ref sig .tc := ⟨.hbm, 80, rfl⟩
abbrev main_v52_3 : Ref sig .tc := ⟨.hbm, 81, rfl⟩
abbrev main_v52_4 : Ref sig .tc := ⟨.hbm, 82, rfl⟩
abbrev main_v52_5 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v63 : BitVec 1 := Scalar.cmpi .eq arg1 c0_i32
  let v64 : BitVec 32 := Scalar.extui v63
  let c0_i32_38 : BitVec 32 := 0#32
  let v65 : BitVec 1 := Scalar.cmpi .ne v64 c0_i32_38
  v65

def k0_cond2 (i : grid0.Coords) : BitVec 1 :=
  let arg1 : BitVec 32 := BitVec.ofNat 32 (i 1).val
  let c0_i32_39 : BitVec 32 := 0#32
  let v66 : BitVec 1 := Scalar.cmpi .ne arg1 c0_i32_39
  let v67 : BitVec 32 := Scalar.extui v66
  let c0_i32_40 : BitVec 32 := 0#32
  let v68 : BitVec 1 := Scalar.cmpi .ne v67 c0_i32_40
  v68

def k0_cond5 (i : grid0.Coords) : BitVec 1 :=
  let arg1 : BitVec 32 := BitVec.ofNat 32 (i 1).val
  let c0_i32_84 : BitVec 32 := 0#32
  let v138 : BitVec 1 := Scalar.cmpi .eq arg1 c0_i32_84
  let v139 : BitVec 32 := Scalar.extui v138
  let c0_i32_85 : BitVec 32 := 0#32
  let v140 : BitVec 1 := Scalar.cmpi .ne v139 c0_i32_85
  v140

def k0_cond6 (i : grid0.Coords) : BitVec 1 :=
  let arg1 : BitVec 32 := BitVec.ofNat 32 (i 1).val
  let c0_i32_86 : BitVec 32 := 0#32
  let v141 : BitVec 1 := Scalar.cmpi .ne arg1 c0_i32_86
  let v142 : BitVec 32 := Scalar.extui v141
  let c0_i32_87 : BitVec 32 := 0#32
  let v143 : BitVec 1 := Scalar.cmpi .ne v142 c0_i32_87
  v143

def k0_cond9 (i : grid0.Coords) : BitVec 1 :=
  let arg1 : BitVec 32 := BitVec.ofNat 32 (i 1).val
  let c0_i32_131 : BitVec 32 := 0#32
  let v213 : BitVec 1 := Scalar.cmpi .eq arg1 c0_i32_131
  let v214 : BitVec 32 := Scalar.extui v213
  let c0_i32_132 : BitVec 32 := 0#32
  let v215 : BitVec 1 := Scalar.cmpi .ne v214 c0_i32_132
  v215

def k0_cond10 (i : grid0.Coords) : BitVec 1 :=
  let arg1 : BitVec 32 := BitVec.ofNat 32 (i 1).val
  let c0_i32_133 : BitVec 32 := 0#32
  let v216 : BitVec 1 := Scalar.cmpi .ne arg1 c0_i32_133
  let v217 : BitVec 32 := Scalar.extui v216
  let c0_i32_134 : BitVec 32 := 0#32
  let v218 : BitVec 1 := Scalar.cmpi .ne v217 c0_i32_134
  v218

def k0_cond13 (i : grid0.Coords) : BitVec 1 :=
  let arg1 : BitVec 32 := BitVec.ofNat 32 (i 1).val
  let c0_i32_178 : BitVec 32 := 0#32
  let v288 : BitVec 1 := Scalar.cmpi .eq arg1 c0_i32_178
  let v289 : BitVec 32 := Scalar.extui v288
  let c0_i32_179 : BitVec 32 := 0#32
  let v290 : BitVec 1 := Scalar.cmpi .ne v289 c0_i32_179
  v290

def k0_cond14 (i : grid0.Coords) : BitVec 1 :=
  let arg1 : BitVec 32 := BitVec.ofNat 32 (i 1).val
  let c0_i32_180 : BitVec 32 := 0#32
  let v291 : BitVec 1 := Scalar.cmpi .ne arg1 c0_i32_180
  let v292 : BitVec 32 := Scalar.extui v291
  let c0_i32_181 : BitVec 32 := 0#32
  let v293 : BitVec 1 := Scalar.cmpi .ne v292 c0_i32_181
  v293

def k0_cond3 (i : grid0.Coords) : BitVec 1 :=
  let arg1 : BitVec 32 := BitVec.ofNat 32 (i 1).val
  let c0_i32_41 : BitVec 32 := 0#32
  let v69 : BitVec 1 := Scalar.cmpi .eq arg1 c0_i32_41
  let v70 : BitVec 32 := Scalar.extui v69
  let c0_i32_42 : BitVec 32 := 0#32
  let v71 : BitVec 1 := Scalar.cmpi .ne v70 c0_i32_42
  v71

def k0_cond4 (i : grid0.Coords) : BitVec 1 :=
  let arg1 : BitVec 32 := BitVec.ofNat 32 (i 1).val
  let c0_i32_43 : BitVec 32 := 0#32
  let v72 : BitVec 1 := Scalar.cmpi .ne arg1 c0_i32_43
  let v73 : BitVec 32 := Scalar.extui v72
  let c0_i32_44 : BitVec 32 := 0#32
  let v74 : BitVec 1 := Scalar.cmpi .ne v73 c0_i32_44
  v74

def k0_cond7 (i : grid0.Coords) : BitVec 1 :=
  let arg1 : BitVec 32 := BitVec.ofNat 32 (i 1).val
  let c0_i32_88 : BitVec 32 := 0#32
  let v144 : BitVec 1 := Scalar.cmpi .eq arg1 c0_i32_88
  let v145 : BitVec 32 := Scalar.extui v144
  let c0_i32_89 : BitVec 32 := 0#32
  let v146 : BitVec 1 := Scalar.cmpi .ne v145 c0_i32_89
  v146

def k0_cond8 (i : grid0.Coords) : BitVec 1 :=
  let arg1 : BitVec 32 := BitVec.ofNat 32 (i 1).val
  let c0_i32_90 : BitVec 32 := 0#32
  let v147 : BitVec 1 := Scalar.cmpi .ne arg1 c0_i32_90
  let v148 : BitVec 32 := Scalar.extui v147
  let c0_i32_91 : BitVec 32 := 0#32
  let v149 : BitVec 1 := Scalar.cmpi .ne v148 c0_i32_91
  v149

def k0_cond11 (i : grid0.Coords) : BitVec 1 :=
  let arg1 : BitVec 32 := BitVec.ofNat 32 (i 1).val
  let c0_i32_135 : BitVec 32 := 0#32
  let v219 : BitVec 1 := Scalar.cmpi .eq arg1 c0_i32_135
  let v220 : BitVec 32 := Scalar.extui v219
  let c0_i32_136 : BitVec 32 := 0#32
  let v221 : BitVec 1 := Scalar.cmpi .ne v220 c0_i32_136
  v221

def k0_cond12 (i : grid0.Coords) : BitVec 1 :=
  let arg1 : BitVec 32 := BitVec.ofNat 32 (i 1).val
  let c0_i32_137 : BitVec 32 := 0#32
  let v222 : BitVec 1 := Scalar.cmpi .ne arg1 c0_i32_137
  let v223 : BitVec 32 := Scalar.extui v222
  let c0_i32_138 : BitVec 32 := 0#32
  let v224 : BitVec 1 := Scalar.cmpi .ne v223 c0_i32_138
  v224

def k0_cond15 (i : grid0.Coords) : BitVec 1 :=
  let arg1 : BitVec 32 := BitVec.ofNat 32 (i 1).val
  let c0_i32_182 : BitVec 32 := 0#32
  let v294 : BitVec 1 := Scalar.cmpi .eq arg1 c0_i32_182
  let v295 : BitVec 32 := Scalar.extui v294
  let c0_i32_183 : BitVec 32 := 0#32
  let v296 : BitVec 1 := Scalar.cmpi .ne v295 c0_i32_183
  v296

def k0_cond16 (i : grid0.Coords) : BitVec 1 :=
  let arg1 : BitVec 32 := BitVec.ofNat 32 (i 1).val
  let c0_i32_184 : BitVec 32 := 0#32
  let v297 : BitVec 1 := Scalar.cmpi .ne arg1 c0_i32_184
  let v298 : BitVec 32 := Scalar.extui v297
  let c0_i32_185 : BitVec 32 := 0#32
  let v299 : BitVec 1 := Scalar.cmpi .ne v298 c0_i32_185
  v299

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c1_i32 : BitVec 32 := 1#32
  let c0_i32_1 : BitVec 32 := 0#32
  let c0_i32_2 : BitVec 32 := 0#32
  ![c0_i32_0.toNat, c1_i32.toNat, c0_i32_1.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S528x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S528x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S528x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]

abbrev stage0_8 : Fin 2 → Memref sig .tc .vmem S528x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S528x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S528x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S528x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false, false]
-- ==== MergeBwdRefIdeal.lean ====
abbrev S4112x1024 : Shape := ⟨2, ![4112, 1024]⟩
abbrev S4112x512 : Shape := ⟨2, ![4112, 512]⟩
abbrev S4112x4384 : Shape := ⟨2, ![4112, 4384]⟩
abbrev S512x1024 : Shape := ⟨2, ![512, 1024]⟩
abbrev S2x1024 : Shape := ⟨2, ![2, 1024]⟩
abbrev S1024x1024 : Shape := ⟨2, ![1024, 1024]⟩
abbrev S4112x256 : Shape := ⟨2, ![4112, 256]⟩
abbrev S4112x16 : Shape := ⟨2, ![4112, 16]⟩
abbrev S4112x128 : Shape := ⟨2, ![4112, 128]⟩
abbrev S1x1024 : Shape := ⟨2, ![1, 1024]⟩
abbrev S1024 : Shape := ⟨1, ![1024]⟩
abbrev S_ : Shape := ⟨0, ![]⟩
abbrev S4224x1024 : Shape := ⟨2, ![4224, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S4112x4384, .f32⟩
  | .hbm, ⟨4, _⟩ => ⟨S512x1024, .f32⟩
  | .hbm, ⟨5, _⟩ => ⟨S512x1024, .f32⟩
  | .hbm, ⟨6, _⟩ => ⟨S2x1024, .f32⟩
  | .hbm, ⟨7, _⟩ => ⟨S1024x1024, .f32⟩
  | .hbm, ⟨8, _⟩ => ⟨S4112x256, .f32⟩
  | .hbm, ⟨9, _⟩ => ⟨S4112x256, .f32⟩
  | .hbm, ⟨10, _⟩ => ⟨S4112x512, .f32⟩
  | .hbm, ⟨11, _⟩ => ⟨S4112x512, .f32⟩
  | .hbm, ⟨12, _⟩ => ⟨S4112x16, .f32⟩
  | .hbm, ⟨13, _⟩ => ⟨S4112x16, .f32⟩
  | .hbm, ⟨14, _⟩ => ⟨S4112x512, .f32⟩
  | .hbm, ⟨15, _⟩ => ⟨S4112x128, .f32⟩
  | .hbm, ⟨16, _⟩ => ⟨S4112x128, .f32⟩
  | .hbm, ⟨17, _⟩ => ⟨S4112x1024, .f32⟩
  | .hbm, ⟨18, _⟩ => ⟨S4112x1024, .f32⟩
  | .hbm, ⟨19, _⟩ => ⟨S4112x1024, .f32⟩
  | .hbm, ⟨20, _⟩ => ⟨S4112x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4112x1024, .f32⟩
  | .hbm, ⟨25, _⟩ => ⟨S4112x1024, .f32⟩
  | .hbm, ⟨26, _⟩ => ⟨S4112x1024, .f32⟩
  | .hbm, ⟨27, _⟩ => ⟨S4112x1024, .f32⟩
  | .hbm, ⟨28, _⟩ => ⟨S_, .f32⟩
  | .hbm, ⟨29, _⟩ => ⟨S4112x1024, .f32⟩
  | .hbm, ⟨30, _⟩ => ⟨S4112x1024, .f32⟩
  | .hbm, ⟨31, _⟩ => ⟨S_, .f32⟩
  | .hbm, ⟨32, _⟩ => ⟨S4112x1024, .f32⟩
  | .hbm, ⟨33, _⟩ => ⟨S4112x1024, .f32⟩
  | .hbm, ⟨34, _⟩ => ⟨S_, .f32⟩
  | .hbm, ⟨35, _⟩ => ⟨S4112x1024, .f32⟩
  | .hbm, ⟨36, _⟩ => ⟨S4112x1024, .f32⟩
  | .hbm, ⟨37, _⟩ => ⟨S4112x1024, .f32⟩
  | .hbm, ⟨38, _⟩ => ⟨S4112x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S4112x1024, .f32⟩
  | .hbm, ⟨43, _⟩ => ⟨S4112x1024, .f32⟩
  | .hbm, ⟨44, _⟩ => ⟨S4112x1024, .f32⟩
  | .hbm, ⟨45, _⟩ => ⟨S4112x1024, .f32⟩
  | .hbm, ⟨46, _⟩ => ⟨S_, .f32⟩
  | .hbm, ⟨47, _⟩ => ⟨S4112x1024, .f32⟩
  | .hbm, ⟨48, _⟩ => ⟨S4112x1024, .f32⟩
  | .hbm, ⟨49, _⟩ => ⟨S_, .f32⟩
  | .hbm, ⟨50, _⟩ => ⟨S4112x1024, .f32⟩
  | .hbm, ⟨51, _⟩ => ⟨S4112x1024, .f32⟩
  | .hbm, ⟨52, _⟩ => ⟨S_, .f32⟩
  | .hbm, ⟨53, _⟩ => ⟨S4112x1024, .f32⟩
  | .hbm, ⟨54, _⟩ => ⟨S4112x1024, .f32⟩
  | .hbm, ⟨55, _⟩ => ⟨S4112x1024, .f32⟩
  | .hbm, ⟨56, _⟩ => ⟨S4112x1024, .f32⟩
  | .hbm, ⟨57, _⟩ => ⟨S4112x1024, .f32⟩
  | .hbm, ⟨58, _⟩ => ⟨S4112x1024, .f32⟩
  | .hbm, ⟨59, _⟩ => ⟨S4112x1024, .f32⟩
  | .hbm, ⟨60, _⟩ => ⟨S4112x1024, .f32⟩
  | .hbm, ⟨61, _⟩ => ⟨S4112x1024, .f32⟩
  | .hbm, ⟨62, _⟩ => ⟨S4112x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S2x1024, .f32⟩
  | .hbm, ⟨71, _⟩ => ⟨S4112x1024, .f32⟩
  | .hbm, ⟨72, _⟩ => ⟨S4112x1024, .f32⟩
  | .hbm, ⟨73, _⟩ => ⟨S4112x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S2x1024, .f32⟩
  | .hbm, ⟨82, _⟩ => ⟨S2x1024, .f32⟩
  | .hbm, ⟨83, _⟩ => ⟨S_, .i32⟩
  | .hbm, ⟨84, _⟩ => ⟨S_, .f32⟩
  | .hbm, ⟨85, _⟩ => ⟨S4224x1024, .f32⟩
  | .hbm, ⟨86, _⟩ => ⟨S4224x1024, .bf16⟩
  | .hbm, ⟨87, _⟩ => ⟨S_, .i32⟩
  | .hbm, ⟨88, _⟩ => ⟨S_, .f32⟩
  | .hbm, ⟨89, _⟩ => ⟨S4224x1024, .f32⟩
  | .hbm, ⟨90, _⟩ => ⟨S4224x1024, .bf16⟩
  | .hbm, ⟨91, _⟩ => ⟨S_, .i32⟩
  | .hbm, ⟨92, _⟩ => ⟨S_, .f32⟩
  | .hbm, ⟨93, _⟩ => ⟨S4224x1024, .f32⟩
  | .hbm, ⟨94, _⟩ => ⟨S4224x1024, .bf16⟩
  | .hbm, ⟨95, _⟩ => ⟨S_, .i32⟩
  | .hbm, ⟨96, _⟩ => ⟨S_, .f32⟩
  | .hbm, ⟨97, _⟩ => ⟨S4224x1024, .f32⟩
  | .hbm, ⟨98, _⟩ => ⟨S4224x1024, .bf16⟩
  | .hbm, ⟨99, _⟩ => ⟨S1x1024, .f32⟩
  | .hbm, ⟨100, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_c : Ref sig .tc := ⟨.hbm, 83, rfl⟩
abbrev main_call0_v0 : Ref sig .tc := ⟨.hbm, 84, rfl⟩
abbrev main_v63 : Ref sig .tc := ⟨.hbm, 85, rfl⟩
abbrev main_v64 : Ref sig .tc := ⟨.hbm, 86, rfl⟩
abbrev main_c_11 : Ref sig .tc := ⟨.hbm, 87, rfl⟩
abbrev main_call1_v0 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_call2_v0 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_call3_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== InProjDz.lean ====
abbrev S4112x1024 : Shape := ⟨2, ![4112, 1024]⟩
abbrev S1024 : Shape := ⟨1, ![1024]⟩
abbrev S1024x4384 : Shape := ⟨2, ![1024, 4384]⟩
abbrev S4112x4384 : Shape := ⟨2, ![4112, 4384]⟩
abbrev S4384x1024 : Shape := ⟨2, ![4384, 1024]⟩
abbrev S1x4384x1024 : Shape := ⟨3, ![1, 4384, 1024]⟩
abbrev S1x256x1024 : Shape := ⟨3, ![1, 256, 1024]⟩
abbrev S1x512x1024 : Shape := ⟨3, ![1, 512, 1024]⟩
abbrev S1x16x1024 : Shape := ⟨3, ![1, 16, 1024]⟩
abbrev S1x128x1024 : Shape := ⟨3, ![1, 128, 1024]⟩
abbrev S1x1024x1024 : Shape := ⟨3, ![1, 1024, 1024]⟩
abbrev S1x8x64x1024 : Shape := ⟨4, ![1, 8, 64, 1024]⟩
abbrev S_ : Shape := ⟨0, ![]⟩
abbrev S1x8x128x1024 : Shape := ⟨4, ![1, 8, 128, 1024]⟩
abbrev S1x4x64x1024 : Shape := ⟨4, ![1, 4, 64, 1024]⟩
abbrev S1x4x128x1024 : Shape := ⟨4, ![1, 4, 128, 1024]⟩
abbrev S1x2x64x1024 : Shape := ⟨4, ![1, 2, 64, 1024]⟩
abbrev S1x2x128x1024 : Shape := ⟨4, ![1, 2, 128, 1024]⟩
abbrev S1x1x16x1024 : Shape := ⟨4, ![1, 1, 16, 1024]⟩
abbrev S1x1x128x1024 : Shape := ⟨4, ![1, 1, 128, 1024]⟩
abbrev S1x5888x1024 : Shape := ⟨3, ![1, 5888, 1024]⟩
abbrev S4384x4112 : Shape := ⟨2, ![4384, 4112]⟩
abbrev S256x4112 : Shape := ⟨2, ![256, 4112]⟩
abbrev S512x4112 : Shape := ⟨2, ![512, 4112]⟩
abbrev S16x4112 : Shape := ⟨2, ![16, 4112]⟩
abbrev S128x4112 : Shape := ⟨2, ![128, 4112]⟩
abbrev S1024x4112 : Shape := ⟨2, ![1024, 4112]⟩
abbrev S8x64x4112 : Shape := ⟨3, ![8, 64, 4112]⟩
abbrev S8x128x4112 : Shape := ⟨3, ![8, 128, 4112]⟩
abbrev S4x64x4112 : Shape := ⟨3, ![4, 64, 4112]⟩
abbrev S4x128x4112 : Shape := ⟨3, ![4, 128, 4112]⟩
abbrev S2x64x4112 : Shape := ⟨3, ![2, 64, 4112]⟩
abbrev S2x128x4112 : Shape := ⟨3, ![2, 128, 4112]⟩
abbrev S1x16x4112 : Shape := ⟨3, ![1, 16, 4112]⟩
abbrev S1x128x4112 : Shape := ⟨3, ![1, 128, 4112]⟩
abbrev S5888x4112 : Shape := ⟨2, ![5888, 4112]⟩
abbrev S4112x5888 : Shape := ⟨2, ![4112, 5888]⟩
abbrev S112x5888 : Shape := ⟨2, ![112, 5888]⟩
abbrev S4224x5888 : Shape := ⟨2, ![4224, 5888]⟩
abbrev S112x1024 : Shape := ⟨2, ![112, 1024]⟩
abbrev S4224x1024 : Shape := ⟨2, ![4224, 1024]⟩
abbrev S1x1024 : Shape := ⟨2, ![1, 1024]⟩
abbrev S528x5888 : Shape := ⟨2, ![528, 5888]⟩
abbrev S528x1024 : Shape := ⟨2, ![528, 1024]⟩
abbrev S5888x1024 : Shape := ⟨2, ![5888, 1024]⟩
abbrev S528 : Shape := ⟨1, ![528]⟩
abbrev S528x1 : Shape := ⟨2, ![528, 1]⟩

abbrev nBuf : Space → Nat
  | .hbm => 118
  | .vmem => 13
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4384, .f32⟩
  | .hbm, ⟨3, _⟩ => ⟨S4112x4384, .f32⟩
  | .hbm, ⟨4, _⟩ => ⟨S4112x1024, .f32⟩
  | .hbm, ⟨5, _⟩ => ⟨S4384x1024, .f32⟩
  | .hbm, ⟨6, _⟩ => ⟨S4384x1024, .bf16⟩
  | .hbm, ⟨7, _⟩ => ⟨S1x4384x1024, .bf16⟩
  | .hbm, ⟨8, _⟩ => ⟨S1x256x1024, .bf16⟩
  | .hbm, ⟨9, _⟩ => ⟨S1x256x1024, .bf16⟩
  | .hbm, ⟨10, _⟩ => ⟨S1x512x1024, .bf16⟩
  | .hbm, ⟨11, _⟩ => ⟨S1x512x1024, .bf16⟩
  | .hbm, ⟨12, _⟩ => ⟨S1x16x1024, .bf16⟩
  | .hbm, ⟨13, _⟩ => ⟨S1x16x1024, .bf16⟩
  | .hbm, ⟨14, _⟩ => ⟨S1x512x1024, .bf16⟩
  | .hbm, ⟨15, _⟩ => ⟨S1x128x1024, .bf16⟩
  | .hbm, ⟨16, _⟩ => ⟨S1x128x1024, .bf16⟩
  | .hbm, ⟨17, _⟩ => ⟨S1x1024x1024, .bf16⟩
  | .hbm, ⟨18, _⟩ => ⟨S1x1024x1024, .bf16⟩
  | .hbm, ⟨19, _⟩ => ⟨S1x8x64x1024, .bf16⟩
  | .hbm, ⟨20, _⟩ => ⟨S_, .i32⟩
  | .hbm, ⟨21, _⟩ => ⟨S_, .bf16⟩
  | .hbm, ⟨22, _⟩ => ⟨S1x8x128x1024, .bf16⟩
  | .hbm, ⟨23, _⟩ => ⟨S1x1024x1024, .bf16⟩
  | .hbm, ⟨24, _⟩ => ⟨S1x4x64x1024, .bf16⟩
  | .hbm, ⟨25, _⟩ => ⟨S_, .i32⟩
  | .hbm, ⟨26, _⟩ => ⟨S_, .bf16⟩
  | .hbm, ⟨27, _⟩ => ⟨S1x4x128x1024, .bf16⟩
  | .hbm, ⟨28, _⟩ => ⟨S1x512x1024, .bf16⟩
  | .hbm, ⟨29, _⟩ => ⟨S1x4x64x1024, .bf16⟩
  | .hbm, ⟨30, _⟩ => ⟨S_, .i32⟩
  | .hbm, ⟨31, _⟩ => ⟨S_, .bf16⟩
  | .hbm, ⟨32, _⟩ => ⟨S1x4x128x1024, .bf16⟩
  | .hbm, ⟨33, _⟩ => ⟨S1x512x1024, .bf16⟩
  | .hbm, ⟨34, _⟩ => ⟨S1x2x64x1024, .bf16⟩
  | .hbm, ⟨35, _⟩ => ⟨S_, .i32⟩
  | .hbm, ⟨36, _⟩ => ⟨S_, .bf16⟩
  | .hbm, ⟨37, _⟩ => ⟨S1x2x128x1024, .bf16⟩
  | .hbm, ⟨38, _⟩ => ⟨S1x256x1024, .bf16⟩
  | .hbm, ⟨39, _⟩ => ⟨S1x2x64x1024, .bf16⟩
  | .hbm, ⟨40, _⟩ => ⟨S_, .i32⟩
  | .hbm, ⟨41, _⟩ => ⟨S_, .bf16⟩
  | .hbm, ⟨42, _⟩ => ⟨S1x2x128x1024, .bf16⟩
  | .hbm, ⟨43, _⟩ => ⟨S1x256x1024, .bf16⟩
  | .hbm, ⟨44, _⟩ => ⟨S1x1x16x1024, .bf16⟩
  | .hbm, ⟨45, _⟩ => ⟨S_, .i32⟩
  | .hbm, ⟨46, _⟩ => ⟨S_, .bf16⟩
  | .hbm, ⟨47, _⟩ => ⟨S1x1x128x1024, .bf16⟩
  | .hbm, ⟨48, _⟩ => ⟨S1x128x1024, .bf16⟩
  | .hbm, ⟨49, _⟩ => ⟨S1x1x16x1024, .bf16⟩
  | .hbm, ⟨50, _⟩ => ⟨S_, .i32⟩
  | .hbm, ⟨51, _⟩ => ⟨S_, .bf16⟩
  | .hbm, ⟨52, _⟩ => ⟨S1x1x128x1024, .bf16⟩
  | .hbm, ⟨53, _⟩ => ⟨S1x128x1024, .bf16⟩
  | .hbm, ⟨54, _⟩ => ⟨S1x5888x1024, .bf16⟩
  | .hbm, ⟨55, _⟩ => ⟨S4384x4112, .f32⟩
  | .hbm, ⟨56, _⟩ => ⟨S256x4112, .f32⟩
  | .hbm, ⟨57, _⟩ => ⟨S256x4112, .f32⟩
  | .hbm, ⟨58, _⟩ => ⟨S512x4112, .f32⟩
  | .hbm, ⟨59, _⟩ => ⟨S512x4112, .f32⟩
  | .hbm, ⟨60, _⟩ => ⟨S16x4112, .f32⟩
  | .hbm, ⟨61, _⟩ => ⟨S16x4112, .f32⟩
  | .hbm, ⟨62, _⟩ => ⟨S512x4112, .f32⟩
  | .hbm, ⟨63, _⟩ => ⟨S128x4112, .f32⟩
  | .hbm, ⟨64, _⟩ => ⟨S128x4112, .f32⟩
  | .hbm, ⟨65, _⟩ => ⟨S1024x4112, .f32⟩
  | .hbm, ⟨66, _⟩ => ⟨S1024x4112, .f32⟩
  | .hbm, ⟨67, _⟩ => ⟨S8x64x4112, .f32⟩
  | .hbm, ⟨68, _⟩ => ⟨S_, .i32⟩
  | .hbm, ⟨69, _⟩ => ⟨S_, .f32⟩
  | .hbm, ⟨70, _⟩ => ⟨S8x128x4112, .f32⟩
  | .hbm, ⟨71, _⟩ => ⟨S1024x4112, .f32⟩
  | .hbm, ⟨72, _⟩ => ⟨S4x64x4112, .f32⟩
  | .hbm, ⟨73, _⟩ => ⟨S_, .i32⟩
  | .hbm, ⟨74, _⟩ => ⟨S_, .f32⟩
  | .hbm, ⟨75, _⟩ => ⟨S4x128x4112, .f32⟩
  | .hbm, ⟨76, _⟩ => ⟨S512x4112, .f32⟩
  | .hbm, ⟨77, _⟩ => ⟨S4x64x4112, .f32⟩
  | .hbm, ⟨78, _⟩ => ⟨S_, .i32⟩
  | .hbm, ⟨79, _⟩ => ⟨S_, .f32⟩
  | .hbm, ⟨80, _⟩ => ⟨S4x128x4112, .f32⟩
  | .hbm, ⟨81, _⟩ => ⟨S512x4112, .f32⟩
  | .hbm, ⟨82, _⟩ => ⟨S2x64x4112, .f32⟩
  | .hbm, ⟨83, _⟩ => ⟨S_, .i32⟩
  | .hbm, ⟨84, _⟩ => ⟨S_, .f32⟩
  | .hbm, ⟨85, _⟩ => ⟨S2x128x4112, .f32⟩
  | .hbm, ⟨86, _⟩ => ⟨S256x4112, .f32⟩
  | .hbm, ⟨87, _⟩ => ⟨S2x64x4112, .f32⟩
  | .hbm, ⟨88, _⟩ => ⟨S_, .i32⟩
  | .hbm, ⟨89, _⟩ => ⟨S_, .f32⟩
  | .hbm, ⟨90, _⟩ => ⟨S2x128x4112, .f32⟩
  | .hbm, ⟨91, _⟩ => ⟨S256x4112, .f32⟩
  | .hbm, ⟨92, _⟩ => ⟨S1x16x4112, .f32⟩
  | .hbm, ⟨93, _⟩ => ⟨S_, .i32⟩
  | .hbm, ⟨94, _⟩ => ⟨S_, .f32⟩
  | .hbm, ⟨95, _⟩ => ⟨S1x128x4112, .f32⟩
  | .hbm, ⟨96, _⟩ => ⟨S128x4112, .f32⟩
  | .hbm, ⟨97, _⟩ => ⟨S1x16x4112, .f32⟩
  | .hbm, ⟨98, _⟩ => ⟨S_, .i32⟩
  | .hbm, ⟨99, _⟩ => ⟨S_, .f32⟩
  | .hbm, ⟨100, _⟩ => ⟨S1x128x4112, .f32⟩
  | .hbm, ⟨101, _⟩ => ⟨S128x4112, .f32⟩
  | .hbm, ⟨102, _⟩ => ⟨S5888x4112, .f32⟩
  | .hbm, ⟨103, _⟩ => ⟨S4112x5888, .f32⟩
  | .hbm, ⟨104, _⟩ => ⟨S_, .f32⟩
  | .hbm, ⟨105, _⟩ => ⟨S112x5888, .f32⟩
  | .hbm, ⟨106, _⟩ => ⟨S4224x5888, .f32⟩
  | .hbm, ⟨107, _⟩ => ⟨S4224x5888, .bf16⟩
  | .hbm, ⟨108, _⟩ => ⟨S_, .f32⟩
  | .hbm, ⟨109, _⟩ => ⟨S112x1024, .f32⟩
  | .hbm, ⟨110, _⟩ => ⟨S4224x1024, .f32⟩
  | .hbm, ⟨111, _⟩ => ⟨S_, .f32⟩
  | .hbm, ⟨112, _⟩ => ⟨S112x1024, .f32⟩
  | .hbm, ⟨113, _⟩ => ⟨S4224x1024, .f32⟩
  | .hbm, ⟨114, _⟩ => ⟨S1x1024, .f32⟩
  | .hbm, ⟨115, _⟩ => ⟨S4224x1024, .f32⟩
  | .hbm, ⟨116, _⟩ => ⟨S4224x1024, .bf16⟩
  | .hbm, ⟨117, _⟩ => ⟨S1x1024, .f32⟩
  | .local _ .vmem, ⟨0, _⟩ => ⟨S528x5888, .bf16⟩
  | .local _ .vmem, ⟨1, _⟩ => ⟨S528x5888, .bf16⟩
  | .local _ .vmem, ⟨2, _⟩ => ⟨S1x5888x1024, .bf16⟩
  | .local _ .vmem, ⟨3, _⟩ => ⟨S528x1024, .f32⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | .local _ .vmem, ⟨7, _⟩ => ⟨S1x1024, .f32⟩
  | .local _ .vmem, ⟨8, _⟩ => ⟨S528x1024, .f32⟩
  | .local _ .vmem, ⟨9, _⟩ => ⟨S528x1024, .f32⟩
  | .local _ .vmem, ⟨10, _⟩ => ⟨S528x1024, .bf16⟩
  | .local _ .vmem, ⟨11, _⟩ => ⟨S528x1024, .bf16⟩
  | .local _ .vmem, ⟨12, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_call2_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_call3_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call4_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call5_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_call6_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_6 : Ref sig .tc := ⟨.hbm, 68, rfl⟩
abbrev main_call7_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_call8_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_call9_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_9 : Ref sig .tc := ⟨.hbm, 83, rfl⟩
abbrev main_call10_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_10 : Ref sig .tc := ⟨.hbm, 88, rfl⟩
abbrev main_call11_v0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_call12_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_call13_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_cst_14 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79_0 : Ref sig .tc := ⟨.hbm, 115, rfl⟩
abbrev main_v79_1 : Ref sig .tc := ⟨.hbm, 116, rfl⟩
abbrev main_v79_2 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v50 : BitVec 1 := Scalar.cmpi .eq arg1 c0_i32
  let v51 : BitVec 32 := Scalar.extui v50
  let c0_i32_21 : BitVec 32 := 0#32
  let v52 : BitVec 1 := Scalar.cmpi .ne v51 c0_i32_21
  v52

def k0_cond2 (i : grid0.Coords) : BitVec 1 :=
  let arg1 : BitVec 32 := BitVec.ofNat 32 (i 1).val
  let c0_i32_22 : BitVec 32 := 0#32
  let v53 : BitVec 1 := Scalar.cmpi .ne arg1 c0_i32_22
  let v54 : BitVec 32 := Scalar.extui v53
  let c0_i32_23 : BitVec 32 := 0#32
  let v55 : BitVec 1 := Scalar.cmpi .ne v54 c0_i32_23
  v55

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S528x5888 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x5888x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S528x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== InProjDzRefIdeal.lean ====
abbrev S4112x1024 : Shape := ⟨2, ![4112, 1024]⟩
abbrev S1024 : Shape := ⟨1, ![1024]⟩
abbrev S1024x4384 : Shape := ⟨2, ![1024, 4384]⟩
abbrev S4112x4384 : Shape := ⟨2, ![4112, 4384]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4384, .f32⟩
  | .hbm, ⟨3, _⟩ => ⟨S4112x4384, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x4384, .f32⟩
  | .hbm, ⟨26, _⟩ => ⟨S4112x1024, .f32⟩
  | .hbm, ⟨27, _⟩ => ⟨S4112x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S4112x1024, .f32⟩
  | .hbm, ⟨36, _⟩ => ⟨S_, .f32⟩
  | .hbm, ⟨37, _⟩ => ⟨S4112, .f32⟩
  | .hbm, ⟨38, _⟩ => ⟨S4112x1, .f32⟩
  | .hbm, ⟨39, _⟩ => ⟨S4112x1024, .f32⟩
  | .hbm, ⟨40, _⟩ => ⟨S4112x1024, .f32⟩
  | .hbm, ⟨41, _⟩ => ⟨S4112x1024, .f32⟩
  | .hbm, ⟨42, _⟩ => ⟨S4112x1, .f32⟩
  | .hbm, ⟨43, _⟩ => ⟨S_, .f32⟩
  | .hbm, ⟨44, _⟩ => ⟨S4112x1, .f32⟩
  | .hbm, ⟨45, _⟩ => ⟨S4112x1, .f32⟩
  | .hbm, ⟨46, _⟩ => ⟨S_, .f32⟩
  | .hbm, ⟨47, _⟩ => ⟨S4112, .f32⟩
  | .hbm, ⟨48, _⟩ => ⟨S4112x1024, .f32⟩
  | .hbm, ⟨49, _⟩ => ⟨S4112x1024, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S_, .i32⟩
  | .hbm, ⟨54, _⟩ => ⟨S_, .f32⟩
  | .hbm, ⟨55, _⟩ => ⟨S4224x1024, .f32⟩
  | .hbm, ⟨56, _⟩ => ⟨S4224x1024, .bf16⟩
  | .hbm, ⟨57, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== AttnPrepBwd.lean ====
abbrev S4112x512 : Shape := ⟨2, ![4112, 512]⟩
abbrev S4112x128 : Shape := ⟨2, ![4112, 128]⟩
abbrev S4112x4384 : Shape := ⟨2, ![4112, 4384]⟩
abbrev S64 : Shape := ⟨1, ![64]⟩
abbrev S_ : Shape := ⟨0, ![]⟩
abbrev S4112x8x64 : Shape := ⟨3, ![4112, 8, 64]⟩
abbrev S4112x8x128 : Shape := ⟨3, ![4112, 8, 128]⟩
abbrev S4112x1024 : Shape := ⟨2, ![4112, 1024]⟩
abbrev S112x1024 : Shape := ⟨2, ![112, 1024]⟩
abbrev S4224x1024 : Shape := ⟨2, ![4224, 1024]⟩
abbrev S4112x2x64 : Shape := ⟨3, ![4112, 2, 64]⟩
abbrev S4112x2x128 : Shape := ⟨3, ![4112, 2, 128]⟩
abbrev S4112x256 : Shape := ⟨2, ![4112, 256]⟩
abbrev S112x256 : Shape := ⟨2, ![112, 256]⟩
abbrev S4224x256 : Shape := ⟨2, ![4224, 256]⟩
abbrev S4384x4112 : Shape := ⟨2, ![4384, 4112]⟩
abbrev S256x4112 : Shape := ⟨2, ![256, 4112]⟩
abbrev S512x4112 : Shape := ⟨2, ![512, 4112]⟩
abbrev S16x4112 : Shape := ⟨2, ![16, 4112]⟩
abbrev S128x4112 : Shape := ⟨2, ![128, 4112]⟩
abbrev S1024x4112 : Shape := ⟨2, ![1024, 4112]⟩
abbrev S8x64x4112 : Shape := ⟨3, ![8, 64, 4112]⟩
abbrev S8x128x4112 : Shape := ⟨3, ![8, 128, 4112]⟩
abbrev S4x64x4112 : Shape := ⟨3, ![4, 64, 4112]⟩
abbrev S4x128x4112 : Shape := ⟨3, ![4, 128, 4112]⟩
abbrev S2x64x4112 : Shape := ⟨3, ![2, 64, 4112]⟩
abbrev S2x128x4112 : Shape := ⟨3, ![2, 128, 4112]⟩
abbrev S1x16x4112 : Shape := ⟨3, ![1, 16, 4112]⟩
abbrev S1x128x4112 : Shape := ⟨3, ![1, 128, 4112]⟩
abbrev S5888x4112 : Shape := ⟨2, ![5888, 4112]⟩
abbrev S4112x5888 : Shape := ⟨2, ![4112, 5888]⟩
abbrev S112x5888 : Shape := ⟨2, ![112, 5888]⟩
abbrev S4224x5888 : Shape := ⟨2, ![4224, 5888]⟩
abbrev S1x64 : Shape := ⟨2, ![1, 64]⟩
abbrev S1x128 : Shape := ⟨2, ![1, 128]⟩
abbrev S64x64 : Shape := ⟨2, ![64, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S128x32 : Shape := ⟨2, ![128, 32]⟩
abbrev S4224x32 : Shape := ⟨2, ![4224, 32]⟩
abbrev S4224x16 : Shape := ⟨2, ![4224, 16]⟩
abbrev S4224x64 : Shape := ⟨2, ![4224, 64]⟩
abbrev S4224x128 : Shape := ⟨2, ![4224, 128]⟩
abbrev S384x1024 : Shape := ⟨2, ![384, 1024]⟩
abbrev S384x256 : Shape := ⟨2, ![384, 256]⟩
abbrev S384x128 : Shape := ⟨2, ![384, 128]⟩
abbrev S384 : Shape := ⟨1, ![384]⟩
abbrev S384x1 : Shape := ⟨2, ![384, 1]⟩
abbrev S128 : Shape := ⟨1, ![128]⟩

abbrev nBuf : Space → Nat
  | .hbm => 146
  | .vmem => 22
  | .smem => 0
  | _ => 0

abbrev hbmTy0_0 (i : Nat) : BufTy := match i % 128 with
  | 0 => ⟨S4112x512, .f32⟩
  | 1 => ⟨S4112x128, .f32⟩
  | 2 => ⟨S4112x4384, .f32⟩
  | 3 => ⟨S64, .f32⟩
  | 4 => ⟨S64, .f32⟩
  | 5 => ⟨S_, .f32⟩
  | 6 => ⟨S_, .f32⟩
  | 7 => ⟨S4112x512, .f32⟩
  | 8 => ⟨S4112x512, .f32⟩
  | 9 => ⟨S_, .f32⟩
  | 10 => ⟨S4112x8x64, .f32⟩
  | 11 => ⟨S4112x8x64, .f32⟩
  | 12 => ⟨S4112x8x128, .f32⟩
  | 13 => ⟨S4112x1024, .f32⟩
  | 14 => ⟨S_, .f32⟩
  | 15 => ⟨S112x1024, .f32⟩
  | 16 => ⟨S4224x1024, .f32⟩
  | 17 => ⟨S_, .f32⟩
  | 18 => ⟨S4112x2x64, .f32⟩
  | 19 => ⟨S4112x2x64, .f32⟩
  | 20 => ⟨S4112x2x128, .f32⟩
  | 21 => ⟨S4112x256, .f32⟩
  | 22 => ⟨S_, .f32⟩
  | 23 => ⟨S112x256, .f32⟩
  | 24 => ⟨S4224x256, .f32⟩
  | 25 => ⟨S4384x4112, .f32⟩
  | 26 => ⟨S256x4112, .f32⟩
  | 27 => ⟨S256x4112, .f32⟩
  | 28 => ⟨S512x4112, .f32⟩
  | 29 => ⟨S512x4112, .f32⟩
  | 30 => ⟨S16x4112, .f32⟩
  | 31 => ⟨S16x4112, .f32⟩
  | 32 => ⟨S512x4112, .f32⟩
  | 33 => ⟨S128x4112, .f32⟩
  | 34 => ⟨S128x4112, .f32⟩
  | 35 => ⟨S1024x4112, .f32⟩
  | 36 => ⟨S1024x4112, .f32⟩
  | 37 => ⟨S8x64x4112, .f32⟩
  | 38 => ⟨S_, .i32⟩
  | 39 => ⟨S_, .f32⟩
  | 40 => ⟨S8x128x4112, .f32⟩
  | 41 => ⟨S1024x4112, .f32⟩
  | 42 => ⟨S4x64x4112, .f32⟩
  | 43 => ⟨S_, .i32⟩
  | 44 => ⟨S_, .f32⟩
  | 45 => ⟨S4x128x4112, .f32⟩
  | 46 => ⟨S512x4112, .f32⟩
  | 47 => ⟨S4x64x4112, .f32⟩
  | 48 => ⟨S_, .i32⟩
  | 49 => ⟨S_, .f32⟩
  | 50 => ⟨S4x128x4112, .f32⟩
  | 51 => ⟨S512x4112, .f32⟩
  | 52 => ⟨S2x64x4112, .f32⟩
  | 53 => ⟨S_, .i32⟩
  | 54 => ⟨S_, .f32⟩
  | 55 => ⟨S2x128x4112, .f32⟩
  | 56 => ⟨S256x4112, .f32⟩
  | 57 => ⟨S2x64x4112, .f32⟩
  | 58 => ⟨S_, .i32⟩
  | 59 => ⟨S_, .f32⟩
  | 60 => ⟨S2x128x4112, .f32⟩
  | 61 => ⟨S256x4112, .f32⟩
  | 62 => ⟨S1x16x4112, .f32⟩
  | 63 => ⟨S_, .i32⟩
  | 64 => ⟨S_, .f32⟩
  | 65 => ⟨S1x128x4112, .f32⟩
  | 66 => ⟨S128x4112, .f32⟩
  | 67 => ⟨S1x16x4112, .f32⟩
  | 68 => ⟨S_, .i32⟩
  | 69 => ⟨S_, .f32⟩
  | 70 => ⟨S1x128x4112, .f32⟩
  | 71 => ⟨S128x4112, .f32⟩
  | 72 => ⟨S5888x4112, .f32⟩
  | 73 => ⟨S4112x5888, .f32⟩
  | 74 => ⟨S_, .f32⟩
  | 75 => ⟨S112x5888, .f32⟩
  | 76 => ⟨S4224x5888, .f32⟩
  | 77 => ⟨S4224x5888, .bf16⟩
  | 78 => ⟨S1x64, .f32⟩
  | 79 => ⟨S_, .i32⟩
  | 80 => ⟨S_, .f32⟩
  | 81 => ⟨S1x128, .f32⟩
  | 82 => ⟨S1x64, .f32⟩
  | 83 => ⟨S_, .i32⟩
  | 84 => ⟨S_, .f32⟩
  | 85 => ⟨S1x128, .f32⟩
  | 86 => ⟨S64, .i32⟩
  | 87 => ⟨S64x64, .i32⟩
  | 88 => ⟨S4096, .i32⟩
  | 89 => ⟨S4096, .f32⟩
  | 90 => ⟨S64, .i32⟩
  | 91 => ⟨S1x64, .i32⟩
  | 92 => ⟨S64x64, .i32⟩
  | 93 => ⟨S4096, .i32⟩
  | 94 => ⟨S4096, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S4096x1, .f32⟩
  | 110 => ⟨S1x16, .f32⟩
  | 111 => ⟨S4096x16, .f32⟩
  | 112 => ⟨S4096x16, .f32⟩
  | 113 => ⟨S4096x16, .f32⟩
  | 114 => ⟨S4096x1, .f32⟩
  | 115 => ⟨S1x16, .f32⟩
  | 116 => ⟨S4096x16, .f32⟩
  | 117 => ⟨S4096x16, .f32⟩
  | 118 => ⟨S4096x16, .f32⟩
  | 119 => ⟨S4096x32, .f32⟩
  | 120 => ⟨S_, .f32⟩
  | 121 => ⟨S128x32, .f32⟩
  | 122 => ⟨S4224x32, .f32⟩
  | 123 => ⟨S4224x32, .f32⟩
  | 124 => ⟨S4224x32, .f32⟩
  | 125 => ⟨S_, .f32⟩
  | 126 => ⟨S4224x16, .f32⟩
  | 127 => ⟨S_, .f32⟩
  | _ => ⟨S4112x512, .f32⟩

abbrev hbmTy0_1 (i : Nat) : BufTy := match i % 128 with
  | 0 => ⟨S4224x64, .f32⟩
  | 1 => ⟨S4224x16, .f32⟩
  | 2 => ⟨S4224x16, .f32⟩
  | 3 => ⟨S4224x16, .f32⟩
  | 4 => ⟨S4224x16, .f32⟩
  | 5 => ⟨S4224x128, .f32⟩
  | 6 => ⟨S4224x16, .f32⟩
  | 7 => ⟨S4224x16, .f32⟩
  | 8 => ⟨S4224x16, .f32⟩
  | 9 => ⟨S4224x16, .f32⟩
  | 10 => ⟨S4224x128, .f32⟩
  | 11 => ⟨S4224x16, .f32⟩
  | 12 => ⟨S4224x16, .f32⟩
  | 13 => ⟨S4224x128, .f32⟩
  | 14 => ⟨S4224x1024, .bf16⟩
  | 15 => ⟨S4224x256, .bf16⟩
  | 16 => ⟨S1x128, .f32⟩
  | 17 => ⟨S1x128, .f32⟩
  | _ => ⟨S4112x512, .f32⟩

abbrev hbmTy (i : Nat) : BufTy := match i / 128 with
  | 0 => hbmTy0_0 i
  | 1 => hbmTy0_1 i
  | _ => ⟨S4112x512, .f32⟩

abbrev bufTy : (tb : Table) → Fin (tcTables nBuf tb) → BufTy
  | .hbm, ⟨i, _⟩ => hbmTy i
  | .local _ .vmem, ⟨0, _⟩ => ⟨S384x1024, .f32⟩
  | .local _ .vmem, ⟨1, _⟩ => ⟨S384x1024, .f32⟩
  | .local _ .vmem, ⟨2, _⟩ => ⟨S384x256, .f32⟩
  | .local _ .vmem, ⟨3, _⟩ => ⟨S384x256, .f32⟩
  | .local _ .vmem, ⟨4, _⟩ => ⟨S384x1024, .bf16⟩
  | .local _ .vmem, ⟨5, _⟩ => ⟨S384x1024, .bf16⟩
  | .local _ .vmem, ⟨6, _⟩ => ⟨S384x256, .bf16⟩
  | .local _ .vmem, ⟨7, _⟩ => ⟨S384x256, .bf16⟩
  | .local _ .vmem, ⟨8, _⟩ => ⟨S1x128, .f32⟩
  | .local _ .vmem, ⟨9, _⟩ => ⟨S1x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | .local _ .vmem, ⟨14, _⟩ => ⟨S384x128, .f32⟩
  | .local _ .vmem, ⟨15, _⟩ => ⟨S384x128, .f32⟩
  | .local _ .vmem, ⟨16, _⟩ => ⟨S384x1024, .bf16⟩
  | .local _ .vmem, ⟨17, _⟩ => ⟨S384x1024, .bf16⟩
  | .local _ .vmem, ⟨18, _⟩ => ⟨S384x256, .bf16⟩
  | .local _ .vmem, ⟨19, _⟩ => ⟨S384x256, .bf16⟩
  | .local _ .vmem, ⟨20, _⟩ => ⟨S1x128, .f32⟩
  | .local _ .vmem, ⟨21, _⟩ => ⟨S1x128, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_call2_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_call3_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_call4_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_call5_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_call6_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_call7_v0 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_call8_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_cst_19 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106_0 : Ref sig .tc := ⟨.hbm, 142, rfl⟩
abbrev main_v106_1 : Ref sig .tc := ⟨.hbm, 143, rfl⟩
abbrev main_v106_2 : Ref sig .tc := ⟨.hbm, 144, rfl⟩
abbrev main_v106_3 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v359 : BitVec 1 := Scalar.cmpi .eq arg0 c0_i32
  let v360 : BitVec 32 := Scalar.extui v359
  let c0_i32_132 : BitVec 32 := 0#32
  let v361 : BitVec 1 := Scalar.cmpi .ne v360 c0_i32_132
  v361

def k0_cond2 (i : grid0.Coords) : BitVec 1 :=
  let arg0 : BitVec 32 := BitVec.ofNat 32 (i 0).val
  let c0_i32_133 : BitVec 32 := 0#32
  let v362 : BitVec 1 := Scalar.cmpi .ne arg0 c0_i32_133
  let v363 : BitVec 32 := Scalar.extui v362
  let c0_i32_134 : BitVec 32 := 0#32
  let v364 : BitVec 1 := Scalar.cmpi .ne v363 c0_i32_134
  v364

def k0_cond3 (i : grid0.Coords) : BitVec 1 :=
  let arg0 : BitVec 32 := BitVec.ofNat 32 (i 0).val
  let c0_i32_170 : BitVec 32 := 0#32
  let v454 : BitVec 1 := Scalar.cmpi .eq arg0 c0_i32_170
  let v455 : BitVec 32 := Scalar.extui v454
  let c0_i32_171 : BitVec 32 := 0#32
  let v456 : BitVec 1 := Scalar.cmpi .ne v455 c0_i32_171
  v456

def k0_cond4 (i : grid0.Coords) : BitVec 1 :=
  let arg0 : BitVec 32 := BitVec.ofNat 32 (i 0).val
  let c0_i32_172 : BitVec 32 := 0#32
  let v457 : BitVec 1 := Scalar.cmpi .ne arg0 c0_i32_172
  let v458 : BitVec 32 := Scalar.extui v457
  let c0_i32_173 : BitVec 32 := 0#32
  let v459 : BitVec 1 := Scalar.cmpi .ne v458 c0_i32_173
  v459

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnPrepBwdIdeal.lean ====
variable {F : FTy → Type} [FloatOps F] [Named F]
def κ : String → Option EReal := fun
  | "q_scale" => some ((8⁻¹ * (Real.log 2)⁻¹ : ℝ) : EReal)
  | _ => none
-- ==== AttnPrepBwdRefIdeal.lean ====
abbrev S4112x512 : Shape := ⟨2, ![4112, 512]⟩
abbrev S4112x128 : Shape := ⟨2, ![4112, 128]⟩
abbrev S4112x4384 : Shape := ⟨2, ![4112, 4384]⟩
abbrev S64 : Shape := ⟨1, ![64]⟩
abbrev S4112x256 : Shape := ⟨2, ![4112, 256]⟩
abbrev S4112x16 : Shape := ⟨2, ![4112, 16]⟩
abbrev S4112x1024 : Shape := ⟨2, ![4112, 1024]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S16x32 : Shape := ⟨2, ![16, 32]⟩
abbrev S4112x32 : Shape := ⟨2, ![4112, 32]⟩
abbrev S4112x8x64 : Shape := ⟨3, ![4112, 8, 64]⟩
abbrev S8x4112x64 : Shape := ⟨3, ![8, 4112, 64]⟩
abbrev S4112x2x64 : Shape := ⟨3, ![4112, 2, 64]⟩
abbrev S2x4112x64 : Shape := ⟨3, ![2, 4112, 64]⟩
abbrev S8x4112 : Shape := ⟨2, ![8, 4112]⟩
abbrev S8x4112x1 : Shape := ⟨3, ![8, 4112, 1]⟩
abbrev S1x1x64 : Shape := ⟨3, ![1, 1, 64]⟩
abbrev S8x4112x2x2x16 : Shape := ⟨5, ![8, 4112, 2, 2, 16]⟩
abbrev S8x4112x2x1x16 : Shape := ⟨5, ![8, 4112, 2, 1, 16]⟩
abbrev S8x4112x2x16 : Shape := ⟨4, ![8, 4112, 2, 16]⟩
abbrev S4112x2x16 : Shape := ⟨3, ![4112, 2, 16]⟩
abbrev S1x4112x2x16 : Shape := ⟨4, ![1, 4112, 2, 16]⟩
abbrev S2x4112 : Shape := ⟨2, ![2, 4112]⟩
abbrev S2x4112x1 : Shape := ⟨3, ![2, 4112, 1]⟩
abbrev S2x4112x2x2x16 : Shape := ⟨5, ![2, 4112, 2, 2, 16]⟩
abbrev S2x4112x2x1x16 : Shape := ⟨5, ![2, 4112, 2, 1, 16]⟩
abbrev S2x4112x2x16 : Shape := ⟨4, ![2, 4112, 2, 16]⟩
abbrev S4112x8x128 : Shape := ⟨3, ![4112, 8, 128]⟩
abbrev S4224x1024 : Shape := ⟨2, ![4224, 1024]⟩
abbrev S4112x2x128 : Shape := ⟨3, ![4112, 2, 128]⟩
abbrev S4224x256 : Shape := ⟨2, ![4224, 256]⟩
abbrev S1x128 : Shape := ⟨2, ![1, 128]⟩

abbrev nBuf : Space → Nat
  | .hbm => 291
  | .vmem => 0
  | .smem => 0
  | _ => 0

abbrev hbmTy0_0 (i : Nat) : BufTy := match i % 128 with
  | 0 => ⟨S4112x512, .f32⟩
  | 1 => ⟨S4112x128, .f32⟩
  | 2 => ⟨S4112x4384, .f32⟩
  | 3 => ⟨S64, .f32⟩
  | 4 => ⟨S64, .f32⟩
  | 5 => ⟨S4112x256, .f32⟩
  | 6 => ⟨S4112x256, .f32⟩
  | 7 => ⟨S4112x512, .f32⟩
  | 8 => ⟨S4112x512, .f32⟩
  | 9 => ⟨S4112x16, .f32⟩
  | 10 => ⟨S4112x16, .f32⟩
  | 11 => ⟨S4112x512, .f32⟩
  | 12 => ⟨S4112x128, .f32⟩
  | 13 => ⟨S4112x128, .f32⟩
  | 14 => ⟨S4112x1024, .f32⟩
  | 15 => ⟨S4112x1024, .f32⟩
  | 16 => ⟨S64, .i32⟩
  | 17 => ⟨S64x64, .i32⟩
  | 18 => ⟨S4096, .i32⟩
  | 19 => ⟨S4096, .f32⟩
  | 20 => ⟨S64, .i32⟩
  | 21 => ⟨S1x64, .i32⟩
  | 22 => ⟨S64x64, .i32⟩
  | 23 => ⟨S4096, .i32⟩
  | 24 => ⟨S4096, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S4096x1, .f32⟩
  | 40 => ⟨S1x16, .f32⟩
  | 41 => ⟨S4096x16, .f32⟩
  | 42 => ⟨S4096x16, .f32⟩
  | 43 => ⟨S4096x16, .f32⟩
  | 44 => ⟨S4096x1, .f32⟩
  | 45 => ⟨S1x16, .f32⟩
  | 46 => ⟨S4096x16, .f32⟩
  | 47 => ⟨S4096x16, .f32⟩
  | 48 => ⟨S4096x16, .f32⟩
  | 49 => ⟨S4096x32, .f32⟩
  | 50 => ⟨S_, .f32⟩
  | 51 => ⟨S16x32, .f32⟩
  | 52 => ⟨S4112x32, .f32⟩
  | 53 => ⟨S4112x32, .f32⟩
  | 54 => ⟨S4112x32, .f32⟩
  | 55 => ⟨S4112x8x64, .f32⟩
  | 56 => ⟨S8x4112x64, .f32⟩
  | 57 => ⟨S4112x2x64, .f32⟩
  | 58 => ⟨S2x4112x64, .f32⟩
  | 59 => ⟨S8x4112x64, .f32⟩
  | 60 => ⟨S_, .f32⟩
  | 61 => ⟨S8x4112, .f32⟩
  | 62 => ⟨S8x4112x1, .f32⟩
  | 63 => ⟨S_, .f32⟩
  | 64 => ⟨S8x4112x1, .f32⟩
  | 65 => ⟨S8x4112x1, .f32⟩
  | 66 => ⟨S_, .f32⟩
  | 67 => ⟨S8x4112x1, .f32⟩
  | 68 => ⟨S8x4112x1, .f32⟩
  | 69 => ⟨S8x4112x1, .f32⟩
  | 70 => ⟨S8x4112x1, .f32⟩
  | 71 => ⟨S_, .f32⟩
  | 72 => ⟨S8x4112x1, .f32⟩
  | 73 => ⟨S8x4112x1, .f32⟩
  | 74 => ⟨S8x4112x64, .f32⟩
  | 75 => ⟨S8x4112x64, .f32⟩
  | 76 => ⟨S1x1x64, .f32⟩
  | 77 => ⟨S8x4112x64, .f32⟩
  | 78 => ⟨S8x4112x64, .f32⟩
  | 79 => ⟨S8x4112x2x2x16, .f32⟩
  | 80 => ⟨S8x4112x2x1x16, .f32⟩
  | 81 => ⟨S8x4112x2x16, .f32⟩
  | 82 => ⟨S8x4112x2x1x16, .f32⟩
  | 83 => ⟨S8x4112x2x16, .f32⟩
  | 84 => ⟨S4112x2x16, .f32⟩
  | 85 => ⟨S4112x2x16, .f32⟩
  | 86 => ⟨S1x4112x2x16, .f32⟩
  | 87 => ⟨S8x4112x2x16, .f32⟩
  | 88 => ⟨S8x4112x2x16, .f32⟩
  | 89 => ⟨S1x4112x2x16, .f32⟩
  | 90 => ⟨S8x4112x2x16, .f32⟩
  | 91 => ⟨S8x4112x2x16, .f32⟩
  | 92 => ⟨S8x4112x2x16, .f32⟩
  | 93 => ⟨S1x4112x2x16, .f32⟩
  | 94 => ⟨S8x4112x2x16, .f32⟩
  | 95 => ⟨S8x4112x2x16, .f32⟩
  | 96 => ⟨S1x4112x2x16, .f32⟩
  | 97 => ⟨S8x4112x2x16, .f32⟩
  | 98 => ⟨S8x4112x2x16, .f32⟩
  | 99 => ⟨S8x4112x2x16, .f32⟩
  | 100 => ⟨S8x4112x2x1x16, .f32⟩
  | 101 => ⟨S8x4112x2x1x16, .f32⟩
  | 102 => ⟨S8x4112x2x2x16, .f32⟩
  | 103 => ⟨S8x4112x64, .f32⟩
  | 104 => ⟨S_, .f32⟩
  | 105 => ⟨S8x4112x64, .f32⟩
  | 106 => ⟨S8x4112x64, .f32⟩
  | 107 => ⟨S2x4112x64, .f32⟩
  | 108 => ⟨S_, .f32⟩
  | 109 => ⟨S2x4112, .f32⟩
  | 110 => ⟨S2x4112x1, .f32⟩
  | 111 => ⟨S_, .f32⟩
  | 112 => ⟨S2x4112x1, .f32⟩
  | 113 => ⟨S2x4112x1, .f32⟩
  | 114 => ⟨S_, .f32⟩
  | 115 => ⟨S2x4112x1, .f32⟩
  | 116 => ⟨S2x4112x1, .f32⟩
  | 117 => ⟨S2x4112x1, .f32⟩
  | 118 => ⟨S2x4112x1, .f32⟩
  | 119 => ⟨S_, .f32⟩
  | 120 => ⟨S2x4112x1, .f32⟩
  | 121 => ⟨S2x4112x1, .f32⟩
  | 122 => ⟨S2x4112x64, .f32⟩
  | 123 => ⟨S2x4112x64, .f32⟩
  | 124 => ⟨S1x1x64, .f32⟩
  | 125 => ⟨S2x4112x64, .f32⟩
  | 126 => ⟨S2x4112x64, .f32⟩
  | 127 => ⟨S2x4112x2x2x16, .f32⟩
  | _ => ⟨S4112x512, .f32⟩

abbrev hbmTy0_1 (i : Nat) : BufTy := match i % 128 with
  | 0 => ⟨S2x4112x2x1x16, .f32⟩
  | 1 => ⟨S2x4112x2x16, .f32⟩
  | 2 => ⟨S2x4112x2x1x16, .f32⟩
  | 3 => ⟨S2x4112x2x16, .f32⟩
  | 4 => ⟨S4112x2x16, .f32⟩
  | 5 => ⟨S4112x2x16, .f32⟩
  | 6 => ⟨S1x4112x2x16, .f32⟩
  | 7 => ⟨S2x4112x2x16, .f32⟩
  | 8 => ⟨S2x4112x2x16, .f32⟩
  | 9 => ⟨S1x4112x2x16, .f32⟩
  | 10 => ⟨S2x4112x2x16, .f32⟩
  | 11 => ⟨S2x4112x2x16, .f32⟩
  | 12 => ⟨S2x4112x2x16, .f32⟩
  | 13 => ⟨S1x4112x2x16, .f32⟩
  | 14 => ⟨S2x4112x2x16, .f32⟩
  | 15 => ⟨S2x4112x2x16, .f32⟩
  | 16 => ⟨S1x4112x2x16, .f32⟩
  | 17 => ⟨S2x4112x2x16, .f32⟩
  | 18 => ⟨S2x4112x2x16, .f32⟩
  | 19 => ⟨S2x4112x2x16, .f32⟩
  | 20 => ⟨S2x4112x2x1x16, .f32⟩
  | 21 => ⟨S2x4112x2x1x16, .f32⟩
  | 22 => ⟨S2x4112x2x2x16, .f32⟩
  | 23 => ⟨S2x4112x64, .f32⟩
  | 24 => ⟨S4112x8x64, .f32⟩
  | 25 => ⟨S4112x512, .f32⟩
  | 26 => ⟨S4112x2x64, .f32⟩
  | 27 => ⟨S4112x128, .f32⟩
  | 28 => ⟨S4112x2x64, .f32⟩
  | 29 => ⟨S2x4112x64, .f32⟩
  | 30 => ⟨S4112x8x64, .f32⟩
  | 31 => ⟨S8x4112x64, .f32⟩
  | 32 => ⟨S2x4112x2x2x16, .f32⟩
  | 33 => ⟨S2x4112x2x1x16, .f32⟩
  | 34 => ⟨S2x4112x2x16, .f32⟩
  | 35 => ⟨S2x4112x2x1x16, .f32⟩
  | 36 => ⟨S2x4112x2x16, .f32⟩
  | 37 => ⟨S2x4112x2x16, .f32⟩
  | 38 => ⟨S2x4112x2x16, .f32⟩
  | 39 => ⟨S2x4112x2x16, .f32⟩
  | 40 => ⟨S2x4112x2x16, .f32⟩
  | 41 => ⟨S2x4112x2x16, .f32⟩
  | 42 => ⟨S2x4112x2x16, .f32⟩
  | 43 => ⟨S2x4112x2x16, .f32⟩
  | 44 => ⟨S2x4112x2x16, .f32⟩
  | 45 => ⟨S2x4112x2x16, .f32⟩
  | 46 => ⟨S2x4112x2x16, .f32⟩
  | 47 => ⟨S2x4112x2x16, .f32⟩
  | 48 => ⟨S2x4112x2x1x16, .f32⟩
  | 49 => ⟨S_, .f32⟩
  | 50 => ⟨S2x4112x2x2x16, .f32⟩
  | 51 => ⟨S2x4112x2x1x16, .f32⟩
  | 52 => ⟨S_, .f32⟩
  | 53 => ⟨S2x4112x2x2x16, .f32⟩
  | 54 => ⟨S2x4112x2x2x16, .f32⟩
  | 55 => ⟨S2x4112x64, .f32⟩
  | 56 => ⟨S2x4112x64, .f32⟩
  | 57 => ⟨S_, .f32⟩
  | 58 => ⟨S64, .f32⟩
  | 59 => ⟨S1x1x64, .f32⟩
  | 60 => ⟨S2x4112x64, .f32⟩
  | 61 => ⟨S2x4112x64, .f32⟩
  | 62 => ⟨S_, .f32⟩
  | 63 => ⟨S64, .f32⟩
  | 64 => ⟨S2x4112x64, .f32⟩
  | 65 => ⟨S_, .f32⟩
  | 66 => ⟨S2x4112, .f32⟩
  | 67 => ⟨S2x4112x1, .f32⟩
  | 68 => ⟨S2x4112x64, .f32⟩
  | 69 => ⟨S2x4112x64, .f32⟩
  | 70 => ⟨S2x4112x1, .f32⟩
  | 71 => ⟨S_, .f32⟩
  | 72 => ⟨S2x4112x1, .f32⟩
  | 73 => ⟨S2x4112x1, .f32⟩
  | 74 => ⟨S_, .f32⟩
  | 75 => ⟨S2x4112, .f32⟩
  | 76 => ⟨S2x4112x64, .f32⟩
  | 77 => ⟨S2x4112x64, .f32⟩
  | 78 => ⟨S2x4112x64, .f32⟩
  | 79 => ⟨S2x4112x64, .f32⟩
  | 80 => ⟨S2x4112x64, .f32⟩
  | 81 => ⟨S_, .f32⟩
  | 82 => ⟨S8x4112x64, .f32⟩
  | 83 => ⟨S8x4112x64, .f32⟩
  | 84 => ⟨S8x4112x2x2x16, .f32⟩
  | 85 => ⟨S8x4112x2x1x16, .f32⟩
  | 86 => ⟨S8x4112x2x16, .f32⟩
  | 87 => ⟨S8x4112x2x1x16, .f32⟩
  | 88 => ⟨S8x4112x2x16, .f32⟩
  | 89 => ⟨S8x4112x2x16, .f32⟩
  | 90 => ⟨S8x4112x2x16, .f32⟩
  | 91 => ⟨S8x4112x2x16, .f32⟩
  | 92 => ⟨S8x4112x2x16, .f32⟩
  | 93 => ⟨S8x4112x2x16, .f32⟩
  | 94 => ⟨S8x4112x2x16, .f32⟩
  | 95 => ⟨S8x4112x2x16, .f32⟩
  | 96 => ⟨S8x4112x2x16, .f32⟩
  | 97 => ⟨S8x4112x2x16, .f32⟩
  | 98 => ⟨S8x4112x2x16, .f32⟩
  | 99 => ⟨S8x4112x2x16, .f32⟩
  | 100 => ⟨S8x4112x2x1x16, .f32⟩
  | 101 => ⟨S_, .f32⟩
  | 102 => ⟨S8x4112x2x2x16, .f32⟩
  | 103 => ⟨S8x4112x2x1x16, .f32⟩
  | 104 => ⟨S_, .f32⟩
  | 105 => ⟨S8x4112x2x2x16, .f32⟩
  | 106 => ⟨S8x4112x2x2x16, .f32⟩
  | 107 => ⟨S8x4112x64, .f32⟩
  | 108 => ⟨S8x4112x64, .f32⟩
  | 109 => ⟨S_, .f32⟩
  | 110 => ⟨S64, .f32⟩
  | 111 => ⟨S1x1x64, .f32⟩
  | 112 => ⟨S8x4112x64, .f32⟩
  | 113 => ⟨S8x4112x64, .f32⟩
  | 114 => ⟨S_, .f32⟩
  | 115 => ⟨S64, .f32⟩
  | 116 => ⟨S8x4112x64, .f32⟩
  | 117 => ⟨S_, .f32⟩
  | 118 => ⟨S8x4112, .f32⟩
  | 119 => ⟨S8x4112x1, .f32⟩
  | 120 => ⟨S8x4112x64, .f32⟩
  | 121 => ⟨S8x4112x64, .f32⟩
  | 122 => ⟨S8x4112x1, .f32⟩
  | 123 => ⟨S_, .f32⟩
  | 124 => ⟨S8x4112x1, .f32⟩
  | 125 => ⟨S8x4112x1, .f32⟩
  | 126 => ⟨S_, .f32⟩
  | 127 => ⟨S8x4112, .f32⟩
  | _ => ⟨S4112x512, .f32⟩

abbrev hbmTy0_2 (i : Nat) : BufTy := match i % 128 with
  | 0 => ⟨S8x4112x64, .f32⟩
  | 1 => ⟨S8x4112x64, .f32⟩
  | 2 => ⟨S8x4112x64, .f32⟩
  | 3 => ⟨S8x4112x64, .f32⟩
  | 4 => ⟨S8x4112x64, .f32⟩
  | 5 => ⟨S4112x2x64, .f32⟩
  | 6 => ⟨S4112x128, .f32⟩
  | 7 => ⟨S4112x8x64, .f32⟩
  | 8 => ⟨S4112x512, .f32⟩
  | 9 => ⟨S4112x8x64, .f32⟩
  | 10 => ⟨S_, .i32⟩
  | 11 => ⟨S_, .f32⟩
  | 12 => ⟨S4112x8x128, .f32⟩
  | 13 => ⟨S4112x1024, .f32⟩
  | 14 => ⟨S_, .i32⟩
  | 15 => ⟨S_, .f32⟩
  | 16 => ⟨S4224x1024, .f32⟩
  | 17 => ⟨S4224x1024, .bf16⟩
  | 18 => ⟨S4112x2x64, .f32⟩
  | 19 => ⟨S_, .i32⟩
  | 20 => ⟨S_, .f32⟩
  | 21 => ⟨S4112x2x128, .f32⟩
  | 22 => ⟨S4112x256, .f32⟩
  | 23 => ⟨S_, .i32⟩
  | 24 => ⟨S_, .f32⟩
  | 25 => ⟨S4224x256, .f32⟩
  | 26 => ⟨S4224x256, .bf16⟩
  | 27 => ⟨S1x64, .f32⟩
  | 28 => ⟨S_, .i32⟩
  | 29 => ⟨S_, .f32⟩
  | 30 => ⟨S1x128, .f32⟩
  | 31 => ⟨S1x64, .f32⟩
  | 32 => ⟨S_, .i32⟩
  | 33 => ⟨S_, .f32⟩
  | 34 => ⟨S1x128, .f32⟩
  | _ => ⟨S4112x512, .f32⟩

abbrev hbmTy (i : Nat) : BufTy := match i / 128 with
  | 0 => hbmTy0_0 i
  | 1 => hbmTy0_1 i
  | 2 => hbmTy0_2 i
  | _ => ⟨S4112x512, .f32⟩

abbrev bufTy : (tb : Table) → Fin (tcTables nBuf tb) → BufTy
  | .hbm, ⟨i, _⟩ => hbmTy i
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_8 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_9 : Ref sig .tc := ⟨.hbm, 108, rfl⟩
abbrev main_v93 : Ref sig .tc := ⟨.hbm, 109, rfl⟩
abbrev main_v94 : Ref sig .tc := ⟨.hbm, 110, rfl⟩
abbrev main_cst_10 : Ref sig .tc := ⟨.hbm, 111, rfl⟩
abbrev main_v95 : Ref sig .tc := ⟨.hbm, 112, rfl⟩
abbrev main_v96 : Ref sig .tc := ⟨.hbm, 113, rfl⟩
abbrev main_cst_11 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_12 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_cst_13 : Ref sig .tc := ⟨.hbm, 177, rfl⟩
abbrev main_v158 : Ref sig .tc := ⟨.hbm, 178, rfl⟩
abbrev main_v159 : Ref sig .tc := ⟨.hbm, 179, rfl⟩
abbrev main_cst_14 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_cst_15 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_cst_16 : Ref sig .tc := ⟨.hbm, 190, rfl⟩
abbrev main_v168 : Ref sig .tc := ⟨.hbm, 191, rfl⟩
abbrev main_v169 : Ref sig .tc := ⟨.hbm, 192, rfl⟩
abbrev main_cst_17 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_cst_18 : Ref sig .tc := ⟨.hbm, 199, rfl⟩
abbrev main_v175 : Ref sig .tc := ⟨.hbm, 200, rfl⟩
abbrev main_v176 : Ref sig .tc := ⟨.hbm, 201, rfl⟩
abbrev main_cst_19 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_cst_20 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_cst_21 : Ref sig .tc := ⟨.hbm, 229, rfl⟩
abbrev main_v202 : Ref sig .tc := ⟨.hbm, 230, rfl⟩
abbrev main_v203 : Ref sig .tc := ⟨.hbm, 231, rfl⟩
abbrev main_cst_22 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_cst_23 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_cst_24 : Ref sig .tc := ⟨.hbm, 242, rfl⟩
abbrev main_v212 : Ref sig .tc := ⟨.hbm, 243, rfl⟩
abbrev main_v213 : Ref sig .tc := ⟨.hbm, 244, rfl⟩
abbrev main_cst_25 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_cst_26 : Ref sig .tc := ⟨.hbm, 251, rfl⟩
abbrev main_v219 : Ref sig .tc := ⟨.hbm, 252, rfl⟩
abbrev main_v220 : Ref sig .tc := ⟨.hbm, 253, rfl⟩
abbrev main_cst_27 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_c : Ref sig .tc := ⟨.hbm, 266, rfl⟩
abbrev main_call0_v0 : Ref sig .tc := ⟨.hbm, 267, rfl⟩
abbrev main_v232 : Ref sig .tc := ⟨.hbm, 268, rfl⟩
abbrev main_v233 : Ref sig .tc := ⟨.hbm, 269, rfl⟩
abbrev main_c_28 : Ref sig .tc := ⟨.hbm, 270, rfl⟩
abbrev main_call1_v0 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_c_29 : Ref sig .tc := ⟨.hbm, 275, rfl⟩
abbrev main_call2_v0 : Ref sig .tc := ⟨.hbm, 276, rfl⟩
abbrev main_v237 : Ref sig .tc := ⟨.hbm, 277, rfl⟩
abbrev main_v238 : Ref sig .tc := ⟨.hbm, 278, rfl⟩
abbrev main_c_30 : Ref sig .tc := ⟨.hbm, 279, rfl⟩
abbrev main_call3_v0 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_c_31 : Ref sig .tc := ⟨.hbm, 284, rfl⟩
abbrev main_call4_v0 : Ref sig .tc := ⟨.hbm, 285, rfl⟩
abbrev main_v242 : Ref sig .tc := ⟨.hbm, 286, rfl⟩
abbrev main_v243 : Ref sig .tc := ⟨.hbm, 287, rfl⟩
abbrev main_c_32 : Ref sig .tc := ⟨.hbm, 288, rfl⟩
abbrev main_call5_v0 : Ref sig .tc := ⟨.hbm, 289, rfl⟩
abbrev main_v244 : Ref sig .tc := ⟨.hbm, 290, rfl⟩

abbrev nD : Nat := 1
abbrev τ : Topo := Topo.v7x

variable {F : FTy → Type} [FloatOps F]
-- ==== NormFwd.lean ====
abbrev S4112x1024 : Shape := ⟨2, ![4112, 1024]⟩
abbrev S1024 : Shape := ⟨1, ![1024]⟩
abbrev S_ : Shape := ⟨0, ![]⟩
abbrev S112x1024 : Shape := ⟨2, ![112, 1024]⟩
abbrev S4224x1024 : Shape := ⟨2, ![4224, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 7
  | .vmem => 5
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S_, .f32⟩
  | .hbm, ⟨3, _⟩ => ⟨S112x1024, .f32⟩
  | .hbm, ⟨4, _⟩ => ⟨S4224x1024, .f32⟩
  | .hbm, ⟨5, _⟩ => ⟨S1x1024, .f32⟩
  | .hbm, ⟨6, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .bf16⟩
  | .local _ .vmem, ⟨4, _⟩ => ⟨S384x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4112x1024 : Shape := ⟨2, ![4112, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S4112x1024, .f32⟩
  | .hbm, ⟨3, _⟩ => ⟨S_, .f32⟩
  | .hbm, ⟨4, _⟩ => ⟨S4112, .f32⟩
  | .hbm, ⟨5, _⟩ => ⟨S4112x1, .f32⟩
  | .hbm, ⟨6, _⟩ => ⟨S_, .f32⟩
  | .hbm, ⟨7, _⟩ => ⟨S4112x1, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S4112x1, .f32⟩
  | .hbm, ⟨13, _⟩ => ⟨S4112x1024, .f32⟩
  | .hbm, ⟨14, _⟩ => ⟨S4112x1024, .f32⟩
  | .hbm, ⟨15, _⟩ => ⟨S1x1024, .f32⟩
  | .hbm, ⟨16, _⟩ => ⟨S4112x1024, .f32⟩
  | .hbm, ⟨17, _⟩ => ⟨S4112x1024, .f32⟩
  | .hbm, ⟨18, _⟩ => ⟨S_, .i32⟩
  | .hbm, ⟨19, _⟩ => ⟨S_, .f32⟩
  | .hbm, ⟨20, _⟩ => ⟨S4224x1024, .f32⟩
  | .hbm, ⟨21, _⟩ => ⟨S4224x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== GlaOutFwd.lean ====
abbrev S4112x512 : Shape := ⟨2, ![4112, 512]⟩
abbrev S4112x4384 : Shape := ⟨2, ![4112, 4384]⟩
abbrev S512 : Shape := ⟨1, ![512]⟩
abbrev S_ : Shape := ⟨0, ![]⟩
abbrev S112x512 : Shape := ⟨2, ![112, 512]⟩
abbrev S4224x512 : Shape := ⟨2, ![4224, 512]⟩
abbrev S4384x4112 : Shape := ⟨2, ![4384, 4112]⟩
abbrev S256x4112 : Shape := ⟨2, ![256, 4112]⟩
abbrev S512x4112 : Shape := ⟨2, ![512, 4112]⟩
abbrev S16x4112 : Shape := ⟨2, ![16, 4112]⟩
abbrev S128x4112 : Shape := ⟨2, ![128, 4112]⟩
abbrev S1024x4112 : Shape := ⟨2, ![1024, 4112]⟩
abbrev S8x64x4112 : Shape := ⟨3, ![8, 64, 4112]⟩
abbrev S8x128x4112 : Shape := ⟨3, ![8, 128, 4112]⟩
abbrev S4x64x4112 : Shape := ⟨3, ![4, 64, 4112]⟩
abbrev S4x128x4112 : Shape := ⟨3, ![4, 128, 4112]⟩
abbrev S2x64x4112 : Shape := ⟨3, ![2, 64, 4112]⟩
abbrev S2x128x4112 : Shape := ⟨3, ![2, 128, 4112]⟩
abbrev S1x16x4112 : Shape := ⟨3, ![1, 16, 4112]⟩
abbrev S1x128x4112 : Shape := ⟨3, ![1, 128, 4112]⟩
abbrev S5888x4112 : Shape := ⟨2, ![5888, 4112]⟩
abbrev S4112x5888 : Shape := ⟨2, ![4112, 5888]⟩
abbrev S112x5888 : Shape := ⟨2, ![112, 5888]⟩
abbrev S4224x5888 : Shape := ⟨2, ![4224, 5888]⟩
abbrev S1x512 : Shape := ⟨2, ![1, 512]⟩
abbrev S384x512 : Shape := ⟨2, ![384, 512]⟩
abbrev S384x128 : Shape := ⟨2, ![384, 128]⟩
abbrev S384 : Shape := ⟨1, ![384]⟩
abbrev S384x1 : Shape := ⟨2, ![384, 1]⟩
abbrev S1x128 : Shape := ⟨2, ![1, 128]⟩

abbrev nBuf : Space → Nat
  | .hbm => 65
  | .vmem => 9
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S4112x4384, .f32⟩
  | .hbm, ⟨3, _⟩ => ⟨S512, .f32⟩
  | .hbm, ⟨4, _⟩ => ⟨S_, .f32⟩
  | .hbm, ⟨5, _⟩ => ⟨S112x512, .f32⟩
  | .hbm, ⟨6, _⟩ => ⟨S4224x512, .f32⟩
  | .hbm, ⟨7, _⟩ => ⟨S_, .f32⟩
  | .hbm, ⟨8, _⟩ => ⟨S112x512, .f32⟩
  | .hbm, ⟨9, _⟩ => ⟨S4224x512, .f32⟩
  | .hbm, ⟨10, _⟩ => ⟨S4384x4112, .f32⟩
  | .hbm, ⟨11, _⟩ => ⟨S256x4112, .f32⟩
  | .hbm, ⟨12, _⟩ => ⟨S256x4112, .f32⟩
  | .hbm, ⟨13, _⟩ => ⟨S512x4112, .f32⟩
  | .hbm, ⟨14, _⟩ => ⟨S512x4112, .f32⟩
  | .hbm, ⟨15, _⟩ => ⟨S16x4112, .f32⟩
  | .hbm, ⟨16, _⟩ => ⟨S16x4112, .f32⟩
  | .hbm, ⟨17, _⟩ => ⟨S512x4112, .f32⟩
  | .hbm, ⟨18, _⟩ => ⟨S128x4112, .f32⟩
  | .hbm, ⟨19, _⟩ => ⟨S128x4112, .f32⟩
  | .hbm, ⟨20, _⟩ => ⟨S1024x4112, .f32⟩
  | .hbm, ⟨21, _⟩ => ⟨S1024x4112, .f32⟩
  | .hbm, ⟨22, _⟩ => ⟨S8x64x4112, .f32⟩
  | .hbm, ⟨23, _⟩ => ⟨S_, .i32⟩
  | .hbm, ⟨24, _⟩ => ⟨S_, .f32⟩
  | .hbm, ⟨25, _⟩ => ⟨S8x128x4112, .f32⟩
  | .hbm, ⟨26, _⟩ => ⟨S1024x4112, .f32⟩
  | .hbm, ⟨27, _⟩ => ⟨S4x64x4112, .f32⟩
  | .hbm, ⟨28, _⟩ => ⟨S_, .i32⟩
  | .hbm, ⟨29, _⟩ => ⟨S_, .f32⟩
  | .hbm, ⟨30, _⟩ => ⟨S4x128x4112, .f32⟩
  | .hbm, ⟨31, _⟩ => ⟨S512x4112, .f32⟩
  | .hbm, ⟨32, _⟩ => ⟨S4x64x4112, .f32⟩
  | .hbm, ⟨33, _⟩ => ⟨S_, .i32⟩
  | .hbm, ⟨34, _⟩ => ⟨S_, .f32⟩
  | .hbm, ⟨35, _⟩ => ⟨S4x128x4112, .f32⟩
  | .hbm, ⟨36, _⟩ => ⟨S512x4112, .f32⟩
  | .hbm, ⟨37, _⟩ => ⟨S2x64x4112, .f32⟩
  | .hbm, ⟨38, _⟩ => ⟨S_, .i32⟩
  | .hbm, ⟨39, _⟩ => ⟨S_, .f32⟩
  | .hbm, ⟨40, _⟩ => ⟨S2x128x4112, .f32⟩
  | .hbm, ⟨41, _⟩ => ⟨S256x4112, .f32⟩
  | .hbm, ⟨42, _⟩ => ⟨S2x64x4112, .f32⟩
  | .hbm, ⟨43, _⟩ => ⟨S_, .i32⟩
  | .hbm, ⟨44, _⟩ => ⟨S_, .f32⟩
  | .hbm, ⟨45, _⟩ => ⟨S2x128x4112, .f32⟩
  | .hbm, ⟨46, _⟩ => ⟨S256x4112, .f32⟩
  | .hbm, ⟨47, _⟩ => ⟨S1x16x4112, .f32⟩
  | .hbm, ⟨48, _⟩ => ⟨S_, .i32⟩
  | .hbm, ⟨49, _⟩ => ⟨S_, .f32⟩
  | .hbm, ⟨50, _⟩ => ⟨S1x128x4112, .f32⟩
  | .hbm, ⟨51, _⟩ => ⟨S128x4112, .f32⟩
  | .hbm, ⟨52, _⟩ => ⟨S1x16x4112, .f32⟩
  | .hbm, ⟨53, _⟩ => ⟨S_, .i32⟩
  | .hbm, ⟨54, _⟩ => ⟨S_, .f32⟩
  | .hbm, ⟨55, _⟩ => ⟨S1x128x4112, .f32⟩
  | .hbm, ⟨56, _⟩ => ⟨S128x4112, .f32⟩
  | .hbm, ⟨57, _⟩ => ⟨S5888x4112, .f32⟩
  | .hbm, ⟨58, _⟩ => ⟨S4112x5888, .f32⟩
  | .hbm, ⟨59, _⟩ => ⟨S_, .f32⟩
  | .hbm, ⟨60, _⟩ => ⟨S112x5888, .f32⟩
  | .hbm, ⟨61, _⟩ => ⟨S4224x5888, .f32⟩
  | .hbm, ⟨62, _⟩ => ⟨S4224x5888, .bf16⟩
  | .hbm, ⟨63, _⟩ => ⟨S1x512, .f32⟩
  | .hbm, ⟨64, _⟩ => ⟨S4224x512, .bf16⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x512, .bf16⟩
  | .local _ .vmem, ⟨5, _⟩ => ⟨S384x512, .bf16⟩
  | .local _ .vmem, ⟨6, _⟩ => ⟨S1x512, .f32⟩
  | .local _ .vmem, ⟨7, _⟩ => ⟨S384x512, .bf16⟩
  | .local _ .vmem, ⟨8, _⟩ => ⟨S384x512, .bf16⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_call3_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_call4_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_call5_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_call6_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GlaOutFwdRefIdeal.lean ====
abbrev S4112x512 : Shape := ⟨2, ![4112, 512]⟩
abbrev S4112x4384 : Shape := ⟨2, ![4112, 4384]⟩
abbrev S512 : Shape := ⟨1, ![512]⟩
abbrev S4112x256 : Shape := ⟨2, ![4112, 256]⟩
abbrev S4112x16 : Shape := ⟨2, ![4112, 16]⟩
abbrev S4112x128 : Shape := ⟨2, ![4112, 128]⟩
abbrev S4112x1024 : Shape := ⟨2, ![4112, 1024]⟩
abbrev S4112x4x128 : Shape := ⟨3, ![4112, 4, 128]⟩
abbrev S_ : Shape := ⟨0, ![]⟩
abbrev S4112x4 : Shape := ⟨2, ![4112, 4]⟩
abbrev S4112x4x1 : Shape := ⟨3, ![4112, 4, 1]⟩
abbrev S1x512 : Shape := ⟨2, ![1, 512]⟩
abbrev S4224x512 : Shape := ⟨2, ![4224, 512]⟩

abbrev nBuf : Space → Nat
  | .hbm => 48
  | .vmem => 0
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S4112x4384, .f32⟩
  | .hbm, ⟨3, _⟩ => ⟨S512, .f32⟩
  | .hbm, ⟨4, _⟩ => ⟨S4112x256, .f32⟩
  | .hbm, ⟨5, _⟩ => ⟨S4112x256, .f32⟩
  | .hbm, ⟨6, _⟩ => ⟨S4112x512, .f32⟩
  | .hbm, ⟨7, _⟩ => ⟨S4112x512, .f32⟩
  | .hbm, ⟨8, _⟩ => ⟨S4112x16, .f32⟩
  | .hbm, ⟨9, _⟩ => ⟨S4112x16, .f32⟩
  | .hbm, ⟨10, _⟩ => ⟨S4112x512, .f32⟩
  | .hbm, ⟨11, _⟩ => ⟨S4112x128, .f32⟩
  | .hbm, ⟨12, _⟩ => ⟨S4112x128, .f32⟩
  | .hbm, ⟨13, _⟩ => ⟨S4112x1024, .f32⟩
  | .hbm, ⟨14, _⟩ => ⟨S4112x1024, .f32⟩
  | .hbm, ⟨15, _⟩ => ⟨S4112x512, .f32⟩
  | .hbm, ⟨16, _⟩ => ⟨S4112x4x128, .f32⟩
  | .hbm, ⟨17, _⟩ => ⟨S4112x4x128, .f32⟩
  | .hbm, ⟨18, _⟩ => ⟨S_, .f32⟩
  | .hbm, ⟨19, _⟩ => ⟨S4112x4, .f32⟩
  | .hbm, ⟨20, _⟩ => ⟨S4112x4x1, .f32⟩
  | .hbm, ⟨21, _⟩ => ⟨S_, .f32⟩
  | .hbm, ⟨22, _⟩ => ⟨S4112x4x1, .f32⟩
  | .hbm, ⟨23, _⟩ => ⟨S4112x4x1, .f32⟩
  | .hbm, ⟨24, _⟩ => ⟨S_, .f32⟩
  | .hbm, ⟨25, _⟩ => ⟨S4112x4x1, .f32⟩
  | .hbm, ⟨26, _⟩ => ⟨S4112x4x1, .f32⟩
  | .hbm, ⟨27, _⟩ => ⟨S4112x4x1, .f32⟩
  | .hbm, ⟨28, _⟩ => ⟨S4112x4x128, .f32⟩
  | .hbm, ⟨29, _⟩ => ⟨S4112x4x128, .f32⟩
  | .hbm, ⟨30, _⟩ => ⟨S4112x512, .f32⟩
  | .hbm, ⟨31, _⟩ => ⟨S1x512, .f32⟩
  | .hbm, ⟨32, _⟩ => ⟨S4112x512, .f32⟩
  | .hbm, ⟨33, _⟩ => ⟨S4112x512, .f32⟩
  | .hbm, ⟨34, _⟩ => ⟨S4112x512, .f32⟩
  | .hbm, ⟨35, _⟩ => ⟨S4112x512, .f32⟩
  | .hbm, ⟨36, _⟩ => ⟨S_, .f32⟩
  | .hbm, ⟨37, _⟩ => ⟨S4112x512, .f32⟩
  | .hbm, ⟨38, _⟩ => ⟨S4112x512, .f32⟩
  | .hbm, ⟨39, _⟩ => ⟨S_, .f32⟩
  | .hbm, ⟨40, _⟩ => ⟨S4112x512, .f32⟩
  | .hbm, ⟨41, _⟩ => ⟨S4112x512, .f32⟩
  | .hbm, ⟨42, _⟩ => ⟨S4112x512, .f32⟩
  | .hbm, ⟨43, _⟩ => ⟨S4112x512, .f32⟩
  | .hbm, ⟨44, _⟩ => ⟨S_, .i32⟩
  | .hbm, ⟨45, _⟩ => ⟨S_, .f32⟩
  | .hbm, ⟨46, _⟩ => ⟨S4224x512, .f32⟩
  | .hbm, ⟨47, _⟩ => ⟨S4224x512, .bf16⟩
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== FfnUp.lean ====
abbrev S4112x1024 : Shape := ⟨2, ![4112, 1024]⟩
abbrev S1024x2816 : Shape := ⟨2, ![1024, 2816]⟩
abbrev S_ : Shape := ⟨0, ![]⟩
abbrev S112x1024 : Shape := ⟨2, ![112, 1024]⟩
abbrev S4224x1024 : Shape := ⟨2, ![4224, 1024]⟩
abbrev S2816x1024 : Shape := ⟨2, ![2816, 1024]⟩
abbrev S4224x2816 : Shape := ⟨2, ![4224, 2816]⟩
abbrev S528x1024 : Shape := ⟨2, ![528, 1024]⟩
abbrev S528x2816 : Shape := ⟨2, ![528, 2816]⟩
abbrev S256x1024 : Shape := ⟨2, ![256, 1024]⟩
abbrev S528x256 : Shape := ⟨2, ![528, 256]⟩

abbrev nBuf : Space → Nat
  | .hbm => 14
  | .vmem => 12
  | .smem => 0
  | _ => 0

abbrev bufTy : (tb : Table) → Fin (tcTables nBuf tb) → BufTy
  | .hbm, ⟨0, _⟩ => ⟨S4112x1024, .f32⟩
  | .hbm, ⟨1, _⟩ => ⟨S1024x2816, .f32⟩
  | .hbm, ⟨2, _⟩ => ⟨S1024x2816, .f32⟩
  | .hbm, ⟨3, _⟩ => ⟨S_, .f32⟩
  | .hbm, ⟨4, _⟩ => ⟨S112x1024, .f32⟩
  | .hbm, ⟨5, _⟩ => ⟨S4224x1024, .f32⟩
  | .hbm, ⟨6, _⟩ => ⟨S4224x1024, .bf16⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4224x2816, .bf16⟩
  | .hbm, ⟨12, _⟩ => ⟨S4224x2816, .bf16⟩
  | .hbm, ⟨13, _⟩ => ⟨S4224x2816, .bf16⟩
  | .local _ .vmem, ⟨0, _⟩ => ⟨S528x1024, .bf16⟩
  | .local _ .vmem, ⟨1, _⟩ => ⟨S528x1024, .bf16⟩
  | .local _ .vmem, ⟨2, _⟩ => ⟨S2816x1024, .bf16⟩
  | .local _ .vmem, ⟨3, _⟩ => ⟨S528x1024, .bf16⟩
  | .local _ .vmem, ⟨4, _⟩ => ⟨S528x1024, .bf16⟩
  | .local _ .vmem, ⟨5, _⟩ => ⟨S2816x1024, .bf16⟩
  | .local _ .vmem, ⟨6, _⟩ => ⟨S528x2816, .bf16⟩
  | .local _ .vmem, ⟨7, _⟩ => ⟨S528x2816, .bf16⟩
  | .local _ .vmem, ⟨8, _⟩ => ⟨S528x2816, .bf16⟩
  | .local _ .vmem, ⟨9, _⟩ => ⟨S528x2816, .bf16⟩
  | .local _ .vmem, ⟨10, _⟩ => ⟨S528x2816, .bf16⟩
  | .local _ .vmem, ⟨11, _⟩ => ⟨S528x2816, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S528x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S528x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S528x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FfnUpRefIdeal.lean ====
abbrev S4112x1024 : Shape := ⟨2, ![4112, 1024]⟩
abbrev S1024x2816 : Shape := ⟨2, ![1024, 2816]⟩
abbrev S4112x2816 : Shape := ⟨2, ![4112, 2816]⟩
abbrev S_ : Shape := ⟨0, ![]⟩
abbrev S4224x2816 : Shape := ⟨2, ![4224, 2816]⟩

abbrev nBuf : Space → Nat
  | .hbm => 27
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024x2816, .f32⟩
  | .hbm, ⟨2, _⟩ => ⟨S1024x2816, .f32⟩
  | .hbm, ⟨3, _⟩ => ⟨S4112x2816, .f32⟩
  | .hbm, ⟨4, _⟩ => ⟨S4112x2816, .f32⟩
  | .hbm, ⟨5, _⟩ => ⟨S4112x2816, .f32⟩
  | .hbm, ⟨6, _⟩ => ⟨S4112x2816, .f32⟩
  | .hbm, ⟨7, _⟩ => ⟨S_, .f32⟩
  | .hbm, ⟨8, _⟩ => ⟨S4112x2816, .f32⟩
  | .hbm, ⟨9, _⟩ => ⟨S4112x2816, .f32⟩
  | .hbm, ⟨10, _⟩ => ⟨S_, .f32⟩
  | .hbm, ⟨11, _⟩ => ⟨S4112x2816, .f32⟩
  | .hbm, ⟨12, _⟩ => ⟨S4112x2816, .f32⟩
  | .hbm, ⟨13, _⟩ => ⟨S4112x2816, .f32⟩
  | .hbm, ⟨14, _⟩ => ⟨S4112x2816, .f32⟩
  | .hbm, ⟨15, _⟩ => ⟨S_, .i32⟩
  | .hbm, ⟨16, _⟩ => ⟨S_, .f32⟩
  | .hbm, ⟨17, _⟩ => ⟨S4224x2816, .f32⟩
  | .hbm, ⟨18, _⟩ => ⟨S4224x2816, .bf16⟩
  | .hbm, ⟨19, _⟩ => ⟨S_, .i32⟩
  | .hbm, ⟨20, _⟩ => ⟨S_, .f32⟩
  | .hbm, ⟨21, _⟩ => ⟨S4224x2816, .f32⟩
  | .hbm, ⟨22, _⟩ => ⟨S4224x2816, .bf16⟩
  | .hbm, ⟨23, _⟩ => ⟨S_, .i32⟩
  | .hbm, ⟨24, _⟩ => ⟨S_, .f32⟩
  | .hbm, ⟨25, _⟩ => ⟨S4224x2816, .f32⟩
  | .hbm, ⟨26, _⟩ => ⟨S4224x2816, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call2_v0 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_call3_v0 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]
-- ==== MergeFwd.lean ====
abbrev S4112x512 : Shape := ⟨2, ![4112, 512]⟩
abbrev S4112x4384 : Shape := ⟨2, ![4112, 4384]⟩
abbrev S512x1024 : Shape := ⟨2, ![512, 1024]⟩
abbrev S2x1024 : Shape := ⟨2, ![2, 1024]⟩
abbrev S4384x4112 : Shape := ⟨2, ![4384, 4112]⟩
abbrev S256x4112 : Shape := ⟨2, ![256, 4112]⟩
abbrev S512x4112 : Shape := ⟨2, ![512, 4112]⟩
abbrev S16x4112 : Shape := ⟨2, ![16, 4112]⟩
abbrev S128x4112 : Shape := ⟨2, ![128, 4112]⟩
abbrev S1024x4112 : Shape := ⟨2, ![1024, 4112]⟩
abbrev S8x64x4112 : Shape := ⟨3, ![8, 64, 4112]⟩
abbrev S_ : Shape := ⟨0, ![]⟩
abbrev S8x128x4112 : Shape := ⟨3, ![8, 128, 4112]⟩
abbrev S4x64x4112 : Shape := ⟨3, ![4, 64, 4112]⟩
abbrev S4x128x4112 : Shape := ⟨3, ![4, 128, 4112]⟩
abbrev S2x64x4112 : Shape := ⟨3, ![2, 64, 4112]⟩
abbrev S2x128x4112 : Shape := ⟨3, ![2, 128, 4112]⟩
abbrev S1x16x4112 : Shape := ⟨3, ![1, 16, 4112]⟩
abbrev S1x128x4112 : Shape := ⟨3, ![1, 128, 4112]⟩
abbrev S5888x4112 : Shape := ⟨2, ![5888, 4112]⟩
abbrev S4112x5888 : Shape := ⟨2, ![4112, 5888]⟩
abbrev S112x5888 : Shape := ⟨2, ![112, 5888]⟩
abbrev S4224x5888 : Shape := ⟨2, ![4224, 5888]⟩
abbrev S112x512 : Shape := ⟨2, ![112, 512]⟩
abbrev S4224x512 : Shape := ⟨2, ![4224, 512]⟩
abbrev S1024x512 : Shape := ⟨2, ![1024, 512]⟩
abbrev S1x1024x512 : Shape := ⟨3, ![1, 1024, 512]⟩
abbrev S1x2x1x1024 : Shape := ⟨4, ![1, 2, 1, 1024]⟩
abbrev S4224x1024 : Shape := ⟨2, ![4224, 1024]⟩
abbrev S1056x512 : Shape := ⟨2, ![1056, 512]⟩
abbrev S1056x1024 : Shape := ⟨2, ![1056, 1024]⟩
abbrev S1x1x1x1024 : Shape := ⟨4, ![1, 1, 1, 1024]⟩
abbrev S1x256x512 : Shape := ⟨3, ![1, 256, 512]⟩
abbrev S256x512 : Shape := ⟨2, ![256, 512]⟩
abbrev S1056x256 : Shape := ⟨2, ![1056, 256]⟩
abbrev S1x1x1x256 : Shape := ⟨4, ![1, 1, 1, 256]⟩
abbrev S1x256 : Shape := ⟨2, ![1, 256]⟩

abbrev nBuf : Space → Nat
  | .hbm => 77
  | .vmem => 18
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S4112x4384, .f32⟩
  | .hbm, ⟨3, _⟩ => ⟨S512x1024, .f32⟩
  | .hbm, ⟨4, _⟩ => ⟨S512x1024, .f32⟩
  | .hbm, ⟨5, _⟩ => ⟨S2x1024, .f32⟩
  | .hbm, ⟨6, _⟩ => ⟨S4384x4112, .f32⟩
  | .hbm, ⟨7, _⟩ => ⟨S256x4112, .f32⟩
  | .hbm, ⟨8, _⟩ => ⟨S256x4112, .f32⟩
  | .hbm, ⟨9, _⟩ => ⟨S512x4112, .f32⟩
  | .hbm, ⟨10, _⟩ => ⟨S512x4112, .f32⟩
  | .hbm, ⟨11, _⟩ => ⟨S16x4112, .f32⟩
  | .hbm, ⟨12, _⟩ => ⟨S16x4112, .f32⟩
  | .hbm, ⟨13, _⟩ => ⟨S512x4112, .f32⟩
  | .hbm, ⟨14, _⟩ => ⟨S128x4112, .f32⟩
  | .hbm, ⟨15, _⟩ => ⟨S128x4112, .f32⟩
  | .hbm, ⟨16, _⟩ => ⟨S1024x4112, .f32⟩
  | .hbm, ⟨17, _⟩ => ⟨S1024x4112, .f32⟩
  | .hbm, ⟨18, _⟩ => ⟨S8x64x4112, .f32⟩
  | .hbm, ⟨19, _⟩ => ⟨S_, .i32⟩
  | .hbm, ⟨20, _⟩ => ⟨S_, .f32⟩
  | .hbm, ⟨21, _⟩ => ⟨S8x128x4112, .f32⟩
  | .hbm, ⟨22, _⟩ => ⟨S1024x4112, .f32⟩
  | .hbm, ⟨23, _⟩ => ⟨S4x64x4112, .f32⟩
  | .hbm, ⟨24, _⟩ => ⟨S_, .i32⟩
  | .hbm, ⟨25, _⟩ => ⟨S_, .f32⟩
  | .hbm, ⟨26, _⟩ => ⟨S4x128x4112, .f32⟩
  | .hbm, ⟨27, _⟩ => ⟨S512x4112, .f32⟩
  | .hbm, ⟨28, _⟩ => ⟨S4x64x4112, .f32⟩
  | .hbm, ⟨29, _⟩ => ⟨S_, .i32⟩
  | .hbm, ⟨30, _⟩ => ⟨S_, .f32⟩
  | .hbm, ⟨31, _⟩ => ⟨S4x128x4112, .f32⟩
  | .hbm, ⟨32, _⟩ => ⟨S512x4112, .f32⟩
  | .hbm, ⟨33, _⟩ => ⟨S2x64x4112, .f32⟩
  | .hbm, ⟨34, _⟩ => ⟨S_, .i32⟩
  | .hbm, ⟨35, _⟩ => ⟨S_, .f32⟩
  | .hbm, ⟨36, _⟩ => ⟨S2x128x4112, .f32⟩
  | .hbm, ⟨37, _⟩ => ⟨S256x4112, .f32⟩
  | .hbm, ⟨38, _⟩ => ⟨S2x64x4112, .f32⟩
  | .hbm, ⟨39, _⟩ => ⟨S_, .i32⟩
  | .hbm, ⟨40, _⟩ => ⟨S_, .f32⟩
  | .hbm, ⟨41, _⟩ => ⟨S2x128x4112, .f32⟩
  | .hbm, ⟨42, _⟩ => ⟨S256x4112, .f32⟩
  | .hbm, ⟨43, _⟩ => ⟨S1x16x4112, .f32⟩
  | .hbm, ⟨44, _⟩ => ⟨S_, .i32⟩
  | .hbm, ⟨45, _⟩ => ⟨S_, .f32⟩
  | .hbm, ⟨46, _⟩ => ⟨S1x128x4112, .f32⟩
  | .hbm, ⟨47, _⟩ => ⟨S128x4112, .f32⟩
  | .hbm, ⟨48, _⟩ => ⟨S1x16x4112, .f32⟩
  | .hbm, ⟨49, _⟩ => ⟨S_, .i32⟩
  | .hbm, ⟨50, _⟩ => ⟨S_, .f32⟩
  | .hbm, ⟨51, _⟩ => ⟨S1x128x4112, .f32⟩
  | .hbm, ⟨52, _⟩ => ⟨S128x4112, .f32⟩
  | .hbm, ⟨53, _⟩ => ⟨S5888x4112, .f32⟩
  | .hbm, ⟨54, _⟩ => ⟨S4112x5888, .f32⟩
  | .hbm, ⟨55, _⟩ => ⟨S_, .f32⟩
  | .hbm, ⟨56, _⟩ => ⟨S112x5888, .f32⟩
  | .hbm, ⟨57, _⟩ => ⟨S4224x5888, .f32⟩
  | .hbm, ⟨58, _⟩ => ⟨S4224x5888, .bf16⟩
  | .hbm, ⟨59, _⟩ => ⟨S_, .f32⟩
  | .hbm, ⟨60, _⟩ => ⟨S112x512, .f32⟩
  | .hbm, ⟨61, _⟩ => ⟨S4224x512, .f32⟩
  | .hbm, ⟨62, _⟩ => ⟨S4224x512, .bf16⟩
  | .hbm, ⟨63, _⟩ => ⟨S_, .f32⟩
  | .hbm, ⟨64, _⟩ => ⟨S112x512, .f32⟩
  | .hbm, ⟨65, _⟩ => ⟨S4224x512, .f32⟩
  | .hbm, ⟨66, _⟩ => ⟨S4224x512, .bf16⟩
  | .hbm, ⟨67, _⟩ => ⟨S1024x512, .f32⟩
  | .hbm, ⟨68, _⟩ => ⟨S1024x512, .bf16⟩
  | .hbm, ⟨69, _⟩ => ⟨S1x1024x512, .bf16⟩
  | .hbm, ⟨70, _⟩ => ⟨S1024x512, .f32⟩
  | .hbm, ⟨71, _⟩ => ⟨S1024x512, .bf16⟩
  | .hbm, ⟨72, _⟩ => ⟨S1x1024x512, .bf16⟩
  | .hbm, ⟨73, _⟩ => ⟨S1x2x1x1024, .f32⟩
  | .hbm, ⟨74, _⟩ => ⟨S4224x1024, .bf16⟩
  | .hbm, ⟨75, _⟩ => ⟨S4224x1024, .bf16⟩
  | .hbm, ⟨76, _⟩ => ⟨S4224x1024, .bf16⟩
  | .local _ .vmem, ⟨0, _⟩ => ⟨S1056x512, .bf16⟩
  | .local _ .vmem, ⟨1, _⟩ => ⟨S1056x512, .bf16⟩
  | .local _ .vmem, ⟨2, _⟩ => ⟨S1x1024x512, .bf16⟩
  | .local _ .vmem, ⟨3, _⟩ => ⟨S1056x512, .bf16⟩
  | .local _ .vmem, ⟨4, _⟩ => ⟨S1056x512, .bf16⟩
  | .local _ .vmem, ⟨5, _⟩ => ⟨S1x1024x512, .bf16⟩
  | .local _ .vmem, ⟨6, _⟩ => ⟨S1056x1024, .bf16⟩
  | .local _ .vmem, ⟨7, _⟩ => ⟨S1056x1024, .bf16⟩
  | .local _ .vmem, ⟨8, _⟩ => ⟨S1056x1024, .bf16⟩
  | .local _ .vmem, ⟨9, _⟩ => ⟨S1056x1024, .bf16⟩
  | .local _ .vmem, ⟨10, _⟩ => ⟨S1x1x1x1024, .f32⟩
  | .local _ .vmem, ⟨11, _⟩ => ⟨S1x1x1x1024, .f32⟩
  | .local _ .vmem, ⟨12, _⟩ => ⟨S1056x1024, .bf16⟩
  | .local _ .vmem, ⟨13, _⟩ => ⟨S1056x1024, .bf16⟩
  | .local _ .vmem, ⟨14, _⟩ => ⟨S1056x1024, .bf16⟩
  | .local _ .vmem, ⟨15, _⟩ => ⟨S1056x1024, .bf16⟩
  | .local _ .vmem, ⟨16, _⟩ => ⟨S1056x1024, .bf16⟩
  | .local _ .vmem, ⟨17, _⟩ => ⟨S1056x1024, .bf16⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_call2_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_call3_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_call4_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_call5_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_call6_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51_0 : Ref sig .tc := ⟨.hbm, 74, rfl⟩
abbrev main_v51_1 : Ref sig .tc := ⟨.hbm, 75, rfl⟩
abbrev main_v51_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c1_i32 : BitVec 32 := 1#32
  let c0_i32_1 : BitVec 32 := 0#32
  let c0_i32_2 : BitVec 32 := 0#32
  ![c0_i32_0.toNat, c1_i32.toNat, c0_i32_1.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1056x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1056x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1056x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== MergeFwdRefIdeal.lean ====
abbrev S4112x512 : Shape := ⟨2, ![4112, 512]⟩
abbrev S4112x4384 : Shape := ⟨2, ![4112, 4384]⟩
abbrev S512x1024 : Shape := ⟨2, ![512, 1024]⟩
abbrev S2x1024 : Shape := ⟨2, ![2, 1024]⟩
abbrev S4112x256 : Shape := ⟨2, ![4112, 256]⟩
abbrev S4112x16 : Shape := ⟨2, ![4112, 16]⟩
abbrev S4112x128 : Shape := ⟨2, ![4112, 128]⟩
abbrev S4112x1024 : Shape := ⟨2, ![4112, 1024]⟩
abbrev S1x1024 : Shape := ⟨2, ![1, 1024]⟩
abbrev S1024 : Shape := ⟨1, ![1024]⟩
abbrev S_ : Shape := ⟨0, ![]⟩
abbrev S4224x1024 : Shape := ⟨2, ![4224, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S4112x4384, .f32⟩
  | .hbm, ⟨3, _⟩ => ⟨S512x1024, .f32⟩
  | .hbm, ⟨4, _⟩ => ⟨S512x1024, .f32⟩
  | .hbm, ⟨5, _⟩ => ⟨S2x1024, .f32⟩
  | .hbm, ⟨6, _⟩ => ⟨S4112x256, .f32⟩
  | .hbm, ⟨7, _⟩ => ⟨S4112x256, .f32⟩
  | .hbm, ⟨8, _⟩ => ⟨S4112x512, .f32⟩
  | .hbm, ⟨9, _⟩ => ⟨S4112x512, .f32⟩
  | .hbm, ⟨10, _⟩ => ⟨S4112x16, .f32⟩
  | .hbm, ⟨11, _⟩ => ⟨S4112x16, .f32⟩
  | .hbm, ⟨12, _⟩ => ⟨S4112x512, .f32⟩
  | .hbm, ⟨13, _⟩ => ⟨S4112x128, .f32⟩
  | .hbm, ⟨14, _⟩ => ⟨S4112x128, .f32⟩
  | .hbm, ⟨15, _⟩ => ⟨S4112x1024, .f32⟩
  | .hbm, ⟨16, _⟩ => ⟨S4112x1024, .f32⟩
  | .hbm, ⟨17, _⟩ => ⟨S4112x1024, .f32⟩
  | .hbm, ⟨18, _⟩ => ⟨S4112x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4112x1024, .f32⟩
  | .hbm, ⟨23, _⟩ => ⟨S4112x1024, .f32⟩
  | .hbm, ⟨24, _⟩ => ⟨S4112x1024, .f32⟩
  | .hbm, ⟨25, _⟩ => ⟨S4112x1024, .f32⟩
  | .hbm, ⟨26, _⟩ => ⟨S_, .f32⟩
  | .hbm, ⟨27, _⟩ => ⟨S4112x1024, .f32⟩
  | .hbm, ⟨28, _⟩ => ⟨S4112x1024, .f32⟩
  | .hbm, ⟨29, _⟩ => ⟨S_, .f32⟩
  | .hbm, ⟨30, _⟩ => ⟨S4112x1024, .f32⟩
  | .hbm, ⟨31, _⟩ => ⟨S4112x1024, .f32⟩
  | .hbm, ⟨32, _⟩ => ⟨S4112x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S4112x1024, .f32⟩
  | .hbm, ⟨37, _⟩ => ⟨S4112x1024, .f32⟩
  | .hbm, ⟨38, _⟩ => ⟨S4112x1024, .f32⟩
  | .hbm, ⟨39, _⟩ => ⟨S4112x1024, .f32⟩
  | .hbm, ⟨40, _⟩ => ⟨S_, .f32⟩
  | .hbm, ⟨41, _⟩ => ⟨S4112x1024, .f32⟩
  | .hbm, ⟨42, _⟩ => ⟨S4112x1024, .f32⟩
  | .hbm, ⟨43, _⟩ => ⟨S_, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S4112x1024, .f32⟩
  | .hbm, ⟨48, _⟩ => ⟨S_, .i32⟩
  | .hbm, ⟨49, _⟩ => ⟨S_, .f32⟩
  | .hbm, ⟨50, _⟩ => ⟨S4224x1024, .f32⟩
  | .hbm, ⟨51, _⟩ => ⟨S4224x1024, .bf16⟩
  | .hbm, ⟨52, _⟩ => ⟨S_, .i32⟩
  | .hbm, ⟨53, _⟩ => ⟨S_, .f32⟩
  | .hbm, ⟨54, _⟩ => ⟨S4224x1024, .f32⟩
  | .hbm, ⟨55, _⟩ => ⟨S4224x1024, .bf16⟩
  | .hbm, ⟨56, _⟩ => ⟨S_, .i32⟩
  | .hbm, ⟨57, _⟩ => ⟨S_, .f32⟩
  | .hbm, ⟨58, _⟩ => ⟨S4224x1024, .f32⟩
  | .hbm, ⟨59, _⟩ => ⟨S4224x1024, .bf16⟩
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_call0_v0 : Ref sig .tc := ⟨.hbm, 49, rfl⟩
abbrev main_v38 : Ref sig .tc := ⟨.hbm, 50, rfl⟩
abbrev main_v39 : Ref sig .tc := ⟨.hbm, 51, rfl⟩
abbrev main_c_3 : Ref sig .tc := ⟨.hbm, 52, rfl⟩
abbrev main_call1_v0 : Ref sig .tc := ⟨.hbm, 53, rfl⟩
abbrev main_v40 : Ref sig .tc := ⟨.hbm, 54, rfl⟩
abbrev main_v41 : Ref sig .tc := ⟨.hbm, 55, rfl⟩
abbrev main_c_4 : Ref sig .tc := ⟨.hbm, 56, rfl⟩
abbrev main_call2_v0 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== FfnDown.lean ====
abbrev S4112x1024 : Shape := ⟨2, ![4112, 1024]⟩
abbrev S4112x2816 : Shape := ⟨2, ![4112, 2816]⟩
abbrev S2816x1024 : Shape := ⟨2, ![2816, 1024]⟩
abbrev S1024 : Shape := ⟨1, ![1024]⟩
abbrev S_ : Shape := ⟨0, ![]⟩
abbrev S112x2816 : Shape := ⟨2, ![112, 2816]⟩
abbrev S4224x2816 : Shape := ⟨2, ![4224, 2816]⟩
abbrev S112x1024 : Shape := ⟨2, ![112, 1024]⟩
abbrev S4224x1024 : Shape := ⟨2, ![4224, 1024]⟩
abbrev S1x1024 : Shape := ⟨2, ![1, 1024]⟩
abbrev S528x2816 : Shape := ⟨2, ![528, 2816]⟩
abbrev S528x1024 : Shape := ⟨2, ![528, 1024]⟩
abbrev S528 : Shape := ⟨1, ![528]⟩
abbrev S528x1 : Shape := ⟨2, ![528, 1]⟩

abbrev nBuf : Space → Nat
  | .hbm => 15
  | .vmem => 10
  | .smem => 0
  | _ => 0

abbrev bufTy : (tb : Table) → Fin (tcTables nBuf tb) → BufTy
  | .hbm, ⟨0, _⟩ => ⟨S4112x1024, .f32⟩
  | .hbm, ⟨1, _⟩ => ⟨S4112x2816, .f32⟩
  | .hbm, ⟨2, _⟩ => ⟨S2816x1024, .f32⟩
  | .hbm, ⟨3, _⟩ => ⟨S1024, .f32⟩
  | .hbm, ⟨4, _⟩ => ⟨S_, .f32⟩
  | .hbm, ⟨5, _⟩ => ⟨S112x2816, .f32⟩
  | .hbm, ⟨6, _⟩ => ⟨S4224x2816, .f32⟩
  | .hbm, ⟨7, _⟩ => ⟨S4224x2816, .bf16⟩
  | .hbm, ⟨8, _⟩ => ⟨S2816x1024, .bf16⟩
  | .hbm, ⟨9, _⟩ => ⟨S_, .f32⟩
  | .hbm, ⟨10, _⟩ => ⟨S112x1024, .f32⟩
  | .hbm, ⟨11, _⟩ => ⟨S4224x1024, .f32⟩
  | .hbm, ⟨12, _⟩ => ⟨S1x1024, .f32⟩
  | .hbm, ⟨13, _⟩ => ⟨S4224x1024, .f32⟩
  | .hbm, ⟨14, _⟩ => ⟨S4224x1024, .bf16⟩
  | .local _ .vmem, ⟨0, _⟩ => ⟨S528x2816, .bf16⟩
  | .local _ .vmem, ⟨1, _⟩ => ⟨S528x2816, .bf16⟩
  | .local _ .vmem, ⟨2, _⟩ => ⟨S2816x1024, .bf16⟩
  | .local _ .vmem, ⟨3, _⟩ => ⟨S528x1024, .f32⟩
  | .local _ .vmem, ⟨4, _⟩ => ⟨S528x1024, .f32⟩
  | .local _ .vmem, ⟨5, _⟩ => ⟨S1x1024, .f32⟩
  | .local _ .vmem, ⟨6, _⟩ => ⟨S528x1024, .f32⟩
  | .local _ .vmem, ⟨7, _⟩ => ⟨S528x1024, .f32⟩
  | .local _ .vmem, ⟨8, _⟩ => ⟨S528x1024, .bf16⟩
  | .local _ .vmem, ⟨9, _⟩ => ⟨S528x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S528x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S528x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDownRefIdeal.lean ====
abbrev S4112x1024 : Shape := ⟨2, ![4112, 1024]⟩
abbrev S4112x2816 : Shape := ⟨2, ![4112, 2816]⟩
abbrev S2816x1024 : Shape := ⟨2, ![2816, 1024]⟩
abbrev S1024 : Shape := ⟨1, ![1024]⟩
abbrev S_ : Shape := ⟨0, ![]⟩
abbrev S4224x1024 : Shape := ⟨2, ![4224, 1024]⟩
abbrev S4112 : Shape := ⟨1, ![4112]⟩
abbrev S4112x1 : Shape := ⟨2, ![4112, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x2816, .f32⟩
  | .hbm, ⟨2, _⟩ => ⟨S2816x1024, .f32⟩
  | .hbm, ⟨3, _⟩ => ⟨S1024, .f32⟩
  | .hbm, ⟨4, _⟩ => ⟨S4112x1024, .f32⟩
  | .hbm, ⟨5, _⟩ => ⟨S_, .f32⟩
  | .hbm, ⟨6, _⟩ => ⟨S4112x1024, .f32⟩
  | .hbm, ⟨7, _⟩ => ⟨S4112x1024, .f32⟩
  | .hbm, ⟨8, _⟩ => ⟨S4112x1024, .f32⟩
  | .hbm, ⟨9, _⟩ => ⟨S_, .i32⟩
  | .hbm, ⟨10, _⟩ => ⟨S_, .f32⟩
  | .hbm, ⟨11, _⟩ => ⟨S4224x1024, .f32⟩
  | .hbm, ⟨12, _⟩ => ⟨S4112x1024, .f32⟩
  | .hbm, ⟨13, _⟩ => ⟨S_, .f32⟩
  | .hbm, ⟨14, _⟩ => ⟨S4112, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1, .f32⟩
  | .hbm, ⟨23, _⟩ => ⟨S4112x1024, .f32⟩
  | .hbm, ⟨24, _⟩ => ⟨S4112x1024, .f32⟩
  | .hbm, ⟨25, _⟩ => ⟨S1x1024, .f32⟩
  | .hbm, ⟨26, _⟩ => ⟨S4112x1024, .f32⟩
  | .hbm, ⟨27, _⟩ => ⟨S4112x1024, .f32⟩
  | .hbm, ⟨28, _⟩ => ⟨S_, .i32⟩
  | .hbm, ⟨29, _⟩ => ⟨S_, .f32⟩
  | .hbm, ⟨30, _⟩ => ⟨S4224x1024, .f32⟩
  | .hbm, ⟨31, _⟩ => ⟨S4224x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== OutProj.lean ====
abbrev S4112x1024 : Shape := ⟨2, ![4112, 1024]⟩
abbrev S1024x1024 : Shape := ⟨2, ![1024, 1024]⟩
abbrev S1024 : Shape := ⟨1, ![1024]⟩
abbrev S_ : Shape := ⟨0, ![]⟩
abbrev S112x1024 : Shape := ⟨2, ![112, 1024]⟩
abbrev S4224x1024 : Shape := ⟨2, ![4224, 1024]⟩
abbrev S1x1024x1024 : Shape := ⟨3, ![1, 1024, 1024]⟩
abbrev S1x1024 : Shape := ⟨2, ![1, 1024]⟩
abbrev S1056x1024 : Shape := ⟨2, ![1056, 1024]⟩
abbrev S1056 : Shape := ⟨1, ![1056]⟩
abbrev S1056x1 : Shape := ⟨2, ![1056, 1]⟩

abbrev nBuf : Space → Nat
  | .hbm => 16
  | .vmem => 10
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1024x1024, .f32⟩
  | .hbm, ⟨3, _⟩ => ⟨S1024, .f32⟩
  | .hbm, ⟨4, _⟩ => ⟨S_, .f32⟩
  | .hbm, ⟨5, _⟩ => ⟨S112x1024, .f32⟩
  | .hbm, ⟨6, _⟩ => ⟨S4224x1024, .f32⟩
  | .hbm, ⟨7, _⟩ => ⟨S4224x1024, .bf16⟩
  | .hbm, ⟨8, _⟩ => ⟨S1024x1024, .bf16⟩
  | .hbm, ⟨9, _⟩ => ⟨S1x1024x1024, .bf16⟩
  | .hbm, ⟨10, _⟩ => ⟨S_, .f32⟩
  | .hbm, ⟨11, _⟩ => ⟨S112x1024, .f32⟩
  | .hbm, ⟨12, _⟩ => ⟨S4224x1024, .f32⟩
  | .hbm, ⟨13, _⟩ => ⟨S1x1024, .f32⟩
  | .hbm, ⟨14, _⟩ => ⟨S4224x1024, .f32⟩
  | .hbm, ⟨15, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1x1024x1024, .bf16⟩
  | .local _ .vmem, ⟨3, _⟩ => ⟨S1056x1024, .f32⟩
  | .local _ .vmem, ⟨4, _⟩ => ⟨S1056x1024, .f32⟩
  | .local _ .vmem, ⟨5, _⟩ => ⟨S1x1024, .f32⟩
  | .local _ .vmem, ⟨6, _⟩ => ⟨S1056x1024, .f32⟩
  | .local _ .vmem, ⟨7, _⟩ => ⟨S1056x1024, .f32⟩
  | .local _ .vmem, ⟨8, _⟩ => ⟨S1056x1024, .bf16⟩
  | .local _ .vmem, ⟨9, _⟩ => ⟨S1056x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S4112x1024 : Shape := ⟨2, ![4112, 1024]⟩
abbrev S1024x1024 : Shape := ⟨2, ![1024, 1024]⟩
abbrev S1024 : Shape := ⟨1, ![1024]⟩
abbrev S_ : Shape := ⟨0, ![]⟩
abbrev S4224x1024 : Shape := ⟨2, ![4224, 1024]⟩
abbrev S4112 : Shape := ⟨1, ![4112]⟩
abbrev S4112x1 : Shape := ⟨2, ![4112, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1024x1024, .f32⟩
  | .hbm, ⟨3, _⟩ => ⟨S1024, .f32⟩
  | .hbm, ⟨4, _⟩ => ⟨S4112x1024, .f32⟩
  | .hbm, ⟨5, _⟩ => ⟨S4112x1024, .f32⟩
  | .hbm, ⟨6, _⟩ => ⟨S_, .i32⟩
  | .hbm, ⟨7, _⟩ => ⟨S_, .f32⟩
  | .hbm, ⟨8, _⟩ => ⟨S4224x1024, .f32⟩
  | .hbm, ⟨9, _⟩ => ⟨S4112x1024, .f32⟩
  | .hbm, ⟨10, _⟩ => ⟨S_, .f32⟩
  | .hbm, ⟨11, _⟩ => ⟨S4112, .f32⟩
  | .hbm, ⟨12, _⟩ => ⟨S4112x1, .f32⟩
  | .hbm, ⟨13, _⟩ => ⟨S_, .f32⟩
  | .hbm, ⟨14, _⟩ => ⟨S4112x1, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S_, .i32⟩
  | .hbm, ⟨26, _⟩ => ⟨S_, .f32⟩
  | .hbm, ⟨27, _⟩ => ⟨S4224x1024, .f32⟩
  | .hbm, ⟨28, _⟩ => ⟨S4224x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== GlaInBwd.lean ====
abbrev S4112x4384 : Shape := ⟨2, ![4112, 4384]⟩
abbrev S2x16x256 : Shape := ⟨3, ![2, 16, 256]⟩
abbrev S2x256 : Shape := ⟨2, ![2, 256]⟩
abbrev S4112x256 : Shape := ⟨2, ![4112, 256]⟩
abbrev S4112x512 : Shape := ⟨2, ![4112, 512]⟩
abbrev S4160x256 : Shape := ⟨2, ![4160, 256]⟩
abbrev S4112x1024 : Shape := ⟨2, ![4112, 1024]⟩
abbrev S4112x128 : Shape := ⟨2, ![4112, 128]⟩
abbrev S4384x4112 : Shape := ⟨2, ![4384, 4112]⟩
abbrev S256x4112 : Shape := ⟨2, ![256, 4112]⟩
abbrev S512x4112 : Shape := ⟨2, ![512, 4112]⟩
abbrev S16x4112 : Shape := ⟨2, ![16, 4112]⟩
abbrev S128x4112 : Shape := ⟨2, ![128, 4112]⟩
abbrev S1024x4112 : Shape := ⟨2, ![1024, 4112]⟩
abbrev S8x64x4112 : Shape := ⟨3, ![8, 64, 4112]⟩
abbrev S_ : Shape := ⟨0, ![]⟩
abbrev S8x128x4112 : Shape := ⟨3, ![8, 128, 4112]⟩
abbrev S4x64x4112 : Shape := ⟨3, ![4, 64, 4112]⟩
abbrev S4x128x4112 : Shape := ⟨3, ![4, 128, 4112]⟩
abbrev S2x64x4112 : Shape := ⟨3, ![2, 64, 4112]⟩
abbrev S2x128x4112 : Shape := ⟨3, ![2, 128, 4112]⟩
abbrev S1x16x4112 : Shape := ⟨3, ![1, 16, 4112]⟩
abbrev S1x128x4112 : Shape := ⟨3, ![1, 128, 4112]⟩
abbrev S5888x4112 : Shape := ⟨2, ![5888, 4112]⟩
abbrev S4112x5888 : Shape := ⟨2, ![4112, 5888]⟩
abbrev S112x5888 : Shape := ⟨2, ![112, 5888]⟩
abbrev S4224x5888 : Shape := ⟨2, ![4224, 5888]⟩
abbrev S2x16x4x64 : Shape := ⟨4, ![2, 16, 4, 64]⟩
abbrev S2x128x4x128 : Shape := ⟨4, ![2, 128, 4, 128]⟩
abbrev S2x1x4x64 : Shape := ⟨4, ![2, 1, 4, 64]⟩
abbrev S2x1x4x128 : Shape := ⟨4, ![2, 1, 4, 128]⟩
abbrev S2x128x512 : Shape := ⟨3, ![2, 128, 512]⟩
abbrev S2x1x512 : Shape := ⟨3, ![2, 1, 512]⟩
abbrev S4224x1 : Shape := ⟨2, ![4224, 1]⟩
abbrev S4224x128 : Shape := ⟨2, ![4224, 128]⟩
abbrev S1x128x512 : Shape := ⟨3, ![1, 128, 512]⟩
abbrev S128x512 : Shape := ⟨2, ![128, 512]⟩
abbrev S4224x512 : Shape := ⟨2, ![4224, 512]⟩
abbrev S1x1x512 : Shape := ⟨3, ![1, 1, 512]⟩
abbrev S1x512 : Shape := ⟨2, ![1, 512]⟩
abbrev S1x4224x512 : Shape := ⟨3, ![1, 4224, 512]⟩
abbrev S2x4224x512 : Shape := ⟨3, ![2, 4224, 512]⟩
abbrev S112x512 : Shape := ⟨2, ![112, 512]⟩
abbrev S64x512 : Shape := ⟨2, ![64, 512]⟩
abbrev S256x4160 : Shape := ⟨2, ![256, 4160]⟩
abbrev S4x64x4160 : Shape := ⟨3, ![4, 64, 4160]⟩
abbrev S4x128x4160 : Shape := ⟨3, ![4, 128, 4160]⟩
abbrev S512x4160 : Shape := ⟨2, ![512, 4160]⟩
abbrev S4160x512 : Shape := ⟨2, ![4160, 512]⟩
abbrev S112x1024 : Shape := ⟨2, ![112, 1024]⟩
abbrev S4224x1024 : Shape := ⟨2, ![4224, 1024]⟩
abbrev S112x256 : Shape := ⟨2, ![112, 256]⟩
abbrev S4224x256 : Shape := ⟨2, ![4224, 256]⟩
abbrev S384x512 : Shape := ⟨2, ![384, 512]⟩
abbrev S2x384x512 : Shape := ⟨3, ![2, 384, 512]⟩
abbrev S384x128 : Shape := ⟨2, ![384, 128]⟩
abbrev S384x1024 : Shape := ⟨2, ![384, 1024]⟩
abbrev S384x256 : Shape := ⟨2, ![384, 256]⟩
abbrev S384x5888 : Shape := ⟨2, ![384, 5888]⟩
abbrev S384x1 : Shape := ⟨2, ![384, 1]⟩
abbrev S384x384 : Shape := ⟨2, ![384, 384]⟩
abbrev S1x384x512 : Shape := ⟨3, ![1, 384, 512]⟩
abbrev S512 : Shape := ⟨1, ![512]⟩

abbrev nBuf : Space → Nat
  | .hbm => 285
  | .vmem => 39
  | .smem => 0
  | _ => 0

abbrev hbmTy0_0 (i : Nat) : BufTy := match i % 128 with
  | 0 => ⟨S4112x4384, .f32⟩
  | 1 => ⟨S2x16x256, .f32⟩
  | 2 => ⟨S2x256, .f32⟩
  | 3 => ⟨S4112x256, .f32⟩
  | 4 => ⟨S4112x256, .f32⟩
  | 5 => ⟨S4112x512, .f32⟩
  | 6 => ⟨S4160x256, .f32⟩
  | 7 => ⟨S4112x256, .f32⟩
  | 8 => ⟨S4112x256, .f32⟩
  | 9 => ⟨S4112x512, .f32⟩
  | 10 => ⟨S4160x256, .f32⟩
  | 11 => ⟨S4112x512, .f32⟩
  | 12 => ⟨S4112x1024, .f32⟩
  | 13 => ⟨S4112x1024, .f32⟩
  | 14 => ⟨S4112x512, .f32⟩
  | 15 => ⟨S4112x128, .f32⟩
  | 16 => ⟨S4112x128, .f32⟩
  | 17 => ⟨S4384x4112, .f32⟩
  | 18 => ⟨S256x4112, .f32⟩
  | 19 => ⟨S256x4112, .f32⟩
  | 20 => ⟨S512x4112, .f32⟩
  | 21 => ⟨S512x4112, .f32⟩
  | 22 => ⟨S16x4112, .f32⟩
  | 23 => ⟨S16x4112, .f32⟩
  | 24 => ⟨S512x4112, .f32⟩
  | 25 => ⟨S128x4112, .f32⟩
  | 26 => ⟨S128x4112, .f32⟩
  | 27 => ⟨S1024x4112, .f32⟩
  | 28 => ⟨S1024x4112, .f32⟩
  | 29 => ⟨S8x64x4112, .f32⟩
  | 30 => ⟨S_, .i32⟩
  | 31 => ⟨S_, .f32⟩
  | 32 => ⟨S8x128x4112, .f32⟩
  | 33 => ⟨S1024x4112, .f32⟩
  | 34 => ⟨S4x64x4112, .f32⟩
  | 35 => ⟨S_, .i32⟩
  | 36 => ⟨S_, .f32⟩
  | 37 => ⟨S4x128x4112, .f32⟩
  | 38 => ⟨S512x4112, .f32⟩
  | 39 => ⟨S4x64x4112, .f32⟩
  | 40 => ⟨S_, .i32⟩
  | 41 => ⟨S_, .f32⟩
  | 42 => ⟨S4x128x4112, .f32⟩
  | 43 => ⟨S512x4112, .f32⟩
  | 44 => ⟨S2x64x4112, .f32⟩
  | 45 => ⟨S_, .i32⟩
  | 46 => ⟨S_, .f32⟩
  | 47 => ⟨S2x128x4112, .f32⟩
  | 48 => ⟨S256x4112, .f32⟩
  | 49 => ⟨S2x64x4112, .f32⟩
  | 50 => ⟨S_, .i32⟩
  | 51 => ⟨S_, .f32⟩
  | 52 => ⟨S2x128x4112, .f32⟩
  | 53 => ⟨S256x4112, .f32⟩
  | 54 => ⟨S1x16x4112, .f32⟩
  | 55 => ⟨S_, .i32⟩
  | 56 => ⟨S_, .f32⟩
  | 57 => ⟨S1x128x4112, .f32⟩
  | 58 => ⟨S128x4112, .f32⟩
  | 59 => ⟨S1x16x4112, .f32⟩
  | 60 => ⟨S_, .i32⟩
  | 61 => ⟨S_, .f32⟩
  | 62 => ⟨S1x128x4112, .f32⟩
  | 63 => ⟨S128x4112, .f32⟩
  | 64 => ⟨S5888x4112, .f32⟩
  | 65 => ⟨S4112x5888, .f32⟩
  | 66 => ⟨S_, .f32⟩
  | 67 => ⟨S112x5888, .f32⟩
  | 68 => ⟨S4224x5888, .f32⟩
  | 69 => ⟨S4224x5888, .bf16⟩
  | 70 => ⟨S2x16x4x64, .f32⟩
  | 71 => ⟨S_, .i32⟩
  | 72 => ⟨S_, .f32⟩
  | 73 => ⟨S2x128x4x128, .f32⟩
  | 74 => ⟨S2x1x4x64, .f32⟩
  | 75 => ⟨S_, .i32⟩
  | 76 => ⟨S_, .f32⟩
  | 77 => ⟨S2x1x4x128, .f32⟩
  | 78 => ⟨S2x128x512, .f32⟩
  | 79 => ⟨S2x1x512, .f32⟩
  | 80 => ⟨S4224x1, .i32⟩
  | 81 => ⟨S4224x128, .bf16⟩
  | 82 => ⟨S4224x128, .f32⟩
  | 83 => ⟨S_, .i32⟩
  | 84 => ⟨S4224x1, .i32⟩
  | 85 => ⟨S4224x1, .i1⟩
  | 86 => ⟨S1x128x512, .f32⟩
  | 87 => ⟨S128x512, .f32⟩
  | 88 => ⟨S4224x512, .f32⟩
  | 89 => ⟨S1x1x512, .f32⟩
  | 90 => ⟨S1x512, .f32⟩
  | 91 => ⟨S4224x512, .f32⟩
  | 92 => ⟨S4224x512, .f32⟩
  | 93 => ⟨S4224x512, .f32⟩
  | 94 => ⟨S_, .f32⟩
  | 95 => ⟨S4224x512, .f32⟩
  | 96 => ⟨S4224x512, .f32⟩
  | 97 => ⟨S4224x512, .f32⟩
  | 98 => ⟨S4224x512, .f32⟩
  | 99 => ⟨S4224x512, .i1⟩
  | 100 => ⟨S4224x512, .f32⟩
  | 101 => ⟨S4224x512, .f32⟩
  | 102 => ⟨S4224x512, .f32⟩
  | 103 => ⟨S4224x512, .f32⟩
  | 104 => ⟨S4224x512, .f32⟩
  | 105 => ⟨S4224x512, .f32⟩
  | 106 => ⟨S4224x512, .f32⟩
  | 107 => ⟨S4224x512, .f32⟩
  | 108 => ⟨S4224x512, .f32⟩
  | 109 => ⟨S_, .f32⟩
  | 110 => ⟨S4224x512, .f32⟩
  | 111 => ⟨S4224x512, .f32⟩
  | 112 => ⟨S_, .f32⟩
  | 113 => ⟨S_, .f32⟩
  | 114 => ⟨S4224x512, .i1⟩
  | 115 => ⟨S4224x512, .f32⟩
  | 116 => ⟨S4224x512, .f32⟩
  | 117 => ⟨S4224x128, .bf16⟩
  | 118 => ⟨S4224x128, .f32⟩
  | 119 => ⟨S_, .i32⟩
  | 120 => ⟨S4224x1, .i32⟩
  | 121 => ⟨S4224x1, .i1⟩
  | 122 => ⟨S1x128x512, .f32⟩
  | 123 => ⟨S128x512, .f32⟩
  | 124 => ⟨S4224x512, .f32⟩
  | 125 => ⟨S1x1x512, .f32⟩
  | 126 => ⟨S1x512, .f32⟩
  | 127 => ⟨S4224x512, .f32⟩
  | _ => ⟨S4112x4384, .f32⟩

abbrev hbmTy0_1 (i : Nat) : BufTy := match i % 128 with
  | 0 => ⟨S4224x512, .f32⟩
  | 1 => ⟨S4224x512, .f32⟩
  | 2 => ⟨S_, .f32⟩
  | 3 => ⟨S4224x512, .f32⟩
  | 4 => ⟨S4224x512, .f32⟩
  | 5 => ⟨S4224x512, .f32⟩
  | 6 => ⟨S4224x512, .f32⟩
  | 7 => ⟨S4224x512, .i1⟩
  | 8 => ⟨S4224x512, .f32⟩
  | 9 => ⟨S4224x512, .f32⟩
  | 10 => ⟨S4224x512, .f32⟩
  | 11 => ⟨S4224x512, .f32⟩
  | 12 => ⟨S4224x512, .f32⟩
  | 13 => ⟨S4224x512, .f32⟩
  | 14 => ⟨S4224x512, .f32⟩
  | 15 => ⟨S4224x512, .f32⟩
  | 16 => ⟨S4224x512, .f32⟩
  | 17 => ⟨S_, .f32⟩
  | 18 => ⟨S4224x512, .f32⟩
  | 19 => ⟨S4224x512, .f32⟩
  | 20 => ⟨S_, .f32⟩
  | 21 => ⟨S_, .f32⟩
  | 22 => ⟨S4224x512, .i1⟩
  | 23 => ⟨S4224x512, .f32⟩
  | 24 => ⟨S4224x512, .f32⟩
  | 25 => ⟨S1x4224x512, .f32⟩
  | 26 => ⟨S1x4224x512, .f32⟩
  | 27 => ⟨S2x4224x512, .f32⟩
  | 28 => ⟨S256x4112, .f32⟩
  | 29 => ⟨S4x64x4112, .f32⟩
  | 30 => ⟨S_, .i32⟩
  | 31 => ⟨S_, .f32⟩
  | 32 => ⟨S4x128x4112, .f32⟩
  | 33 => ⟨S512x4112, .f32⟩
  | 34 => ⟨S4112x512, .f32⟩
  | 35 => ⟨S_, .f32⟩
  | 36 => ⟨S112x512, .f32⟩
  | 37 => ⟨S4224x512, .f32⟩
  | 38 => ⟨S4224x512, .bf16⟩
  | 39 => ⟨S256x4112, .f32⟩
  | 40 => ⟨S4x64x4112, .f32⟩
  | 41 => ⟨S_, .i32⟩
  | 42 => ⟨S_, .f32⟩
  | 43 => ⟨S4x128x4112, .f32⟩
  | 44 => ⟨S512x4112, .f32⟩
  | 45 => ⟨S4112x512, .f32⟩
  | 46 => ⟨S_, .f32⟩
  | 47 => ⟨S112x512, .f32⟩
  | 48 => ⟨S4224x512, .f32⟩
  | 49 => ⟨S4224x512, .bf16⟩
  | 50 => ⟨S512x4112, .f32⟩
  | 51 => ⟨S4112x512, .f32⟩
  | 52 => ⟨S_, .f32⟩
  | 53 => ⟨S112x512, .f32⟩
  | 54 => ⟨S4224x512, .f32⟩
  | 55 => ⟨S4224x512, .bf16⟩
  | 56 => ⟨S_, .f32⟩
  | 57 => ⟨S64x512, .f32⟩
  | 58 => ⟨S256x4160, .f32⟩
  | 59 => ⟨S4x64x4160, .f32⟩
  | 60 => ⟨S_, .i32⟩
  | 61 => ⟨S_, .f32⟩
  | 62 => ⟨S4x128x4160, .f32⟩
  | 63 => ⟨S512x4160, .f32⟩
  | 64 => ⟨S4160x512, .f32⟩
  | 65 => ⟨S4224x512, .f32⟩
  | 66 => ⟨S256x4112, .f32⟩
  | 67 => ⟨S4x64x4112, .f32⟩
  | 68 => ⟨S_, .i32⟩
  | 69 => ⟨S_, .f32⟩
  | 70 => ⟨S4x128x4112, .f32⟩
  | 71 => ⟨S512x4112, .f32⟩
  | 72 => ⟨S4112x512, .f32⟩
  | 73 => ⟨S_, .f32⟩
  | 74 => ⟨S112x512, .f32⟩
  | 75 => ⟨S4224x512, .f32⟩
  | 76 => ⟨S4224x512, .bf16⟩
  | 77 => ⟨S256x4112, .f32⟩
  | 78 => ⟨S4x64x4112, .f32⟩
  | 79 => ⟨S_, .i32⟩
  | 80 => ⟨S_, .f32⟩
  | 81 => ⟨S4x128x4112, .f32⟩
  | 82 => ⟨S512x4112, .f32⟩
  | 83 => ⟨S4112x512, .f32⟩
  | 84 => ⟨S_, .f32⟩
  | 85 => ⟨S112x512, .f32⟩
  | 86 => ⟨S4224x512, .f32⟩
  | 87 => ⟨S4224x512, .bf16⟩
  | 88 => ⟨S512x4112, .f32⟩
  | 89 => ⟨S4112x512, .f32⟩
  | 90 => ⟨S_, .f32⟩
  | 91 => ⟨S112x512, .f32⟩
  | 92 => ⟨S4224x512, .f32⟩
  | 93 => ⟨S4224x512, .bf16⟩
  | 94 => ⟨S_, .f32⟩
  | 95 => ⟨S64x512, .f32⟩
  | 96 => ⟨S256x4160, .f32⟩
  | 97 => ⟨S4x64x4160, .f32⟩
  | 98 => ⟨S_, .i32⟩
  | 99 => ⟨S_, .f32⟩
  | 100 => ⟨S4x128x4160, .f32⟩
  | 101 => ⟨S512x4160, .f32⟩
  | 102 => ⟨S4160x512, .f32⟩
  | 103 => ⟨S4224x512, .f32⟩
  | 104 => ⟨S512x4112, .f32⟩
  | 105 => ⟨S8x64x4112, .f32⟩
  | 106 => ⟨S_, .i32⟩
  | 107 => ⟨S_, .f32⟩
  | 108 => ⟨S8x128x4112, .f32⟩
  | 109 => ⟨S1024x4112, .f32⟩
  | 110 => ⟨S4112x1024, .f32⟩
  | 111 => ⟨S_, .f32⟩
  | 112 => ⟨S112x1024, .f32⟩
  | 113 => ⟨S4224x1024, .f32⟩
  | 114 => ⟨S4224x1024, .bf16⟩
  | 115 => ⟨S1024x4112, .f32⟩
  | 116 => ⟨S4112x1024, .f32⟩
  | 117 => ⟨S_, .f32⟩
  | 118 => ⟨S112x1024, .f32⟩
  | 119 => ⟨S4224x1024, .f32⟩
  | 120 => ⟨S4224x1024, .bf16⟩
  | 121 => ⟨S1024x4112, .f32⟩
  | 122 => ⟨S4112x1024, .f32⟩
  | 123 => ⟨S_, .f32⟩
  | 124 => ⟨S112x1024, .f32⟩
  | 125 => ⟨S4224x1024, .f32⟩
  | 126 => ⟨S4224x1024, .bf16⟩
  | 127 => ⟨S512x4112, .f32⟩
  | _ => ⟨S4112x4384, .f32⟩

abbrev hbmTy0_2 (i : Nat) : BufTy := match i % 128 with
  | 0 => ⟨S4112x512, .f32⟩
  | 1 => ⟨S_, .f32⟩
  | 2 => ⟨S112x512, .f32⟩
  | 3 => ⟨S4224x512, .f32⟩
  | 4 => ⟨S4224x512, .bf16⟩
  | 5 => ⟨S128x4112, .f32⟩
  | 6 => ⟨S2x64x4112, .f32⟩
  | 7 => ⟨S_, .i32⟩
  | 8 => ⟨S_, .f32⟩
  | 9 => ⟨S2x128x4112, .f32⟩
  | 10 => ⟨S256x4112, .f32⟩
  | 11 => ⟨S4112x256, .f32⟩
  | 12 => ⟨S_, .f32⟩
  | 13 => ⟨S112x256, .f32⟩
  | 14 => ⟨S4224x256, .f32⟩
  | 15 => ⟨S4224x256, .bf16⟩
  | 16 => ⟨S128x4112, .f32⟩
  | 17 => ⟨S2x64x4112, .f32⟩
  | 18 => ⟨S_, .i32⟩
  | 19 => ⟨S_, .f32⟩
  | 20 => ⟨S2x128x4112, .f32⟩
  | 21 => ⟨S256x4112, .f32⟩
  | 22 => ⟨S4112x256, .f32⟩
  | 23 => ⟨S_, .f32⟩
  | 24 => ⟨S112x256, .f32⟩
  | 25 => ⟨S4224x256, .f32⟩
  | 26 => ⟨S4224x5888, .bf16⟩
  | 27 => ⟨S2x128x512, .f32⟩
  | 28 => ⟨S2x1x512, .f32⟩
  | _ => ⟨S4112x4384, .f32⟩

abbrev hbmTy (i : Nat) : BufTy := match i / 128 with
  | 0 => hbmTy0_0 i
  | 1 => hbmTy0_1 i
  | 2 => hbmTy0_2 i
  | _ => ⟨S4112x4384, .f32⟩

abbrev bufTy : (tb : Table) → Fin (tcTables nBuf tb) → BufTy
  | .hbm, ⟨i, _⟩ => hbmTy i
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x512, .f32⟩
  | .local _ .vmem, ⟨7, _⟩ => ⟨S384x512, .f32⟩
  | .local _ .vmem, ⟨8, _⟩ => ⟨S384x512, .bf16⟩
  | .local _ .vmem, ⟨9, _⟩ => ⟨S384x512, .bf16⟩
  | .local _ .vmem, ⟨10, _⟩ => ⟨S384x512, .bf16⟩
  | .local _ .vmem, ⟨11, _⟩ => ⟨S384x512, .bf16⟩
  | .local _ .vmem, ⟨12, _⟩ => ⟨S384x512, .bf16⟩
  | .local _ .vmem, ⟨13, _⟩ => ⟨S384x512, .bf16⟩
  | .local _ .vmem, ⟨14, _⟩ => ⟨S384x512, .f32⟩
  | .local _ .vmem, ⟨15, _⟩ => ⟨S384x512, .f32⟩
  | .local _ .vmem, ⟨16, _⟩ => ⟨S2x384x512, .f32⟩
  | .local _ .vmem, ⟨17, _⟩ => ⟨S2x384x512, .f32⟩
  | .local _ .vmem, ⟨18, _⟩ => ⟨S384x128, .bf16⟩
  | .local _ .vmem, ⟨19, _⟩ => ⟨S384x128, .bf16⟩
  | .local _ .vmem, ⟨20, _⟩ => ⟨S384x128, .bf16⟩
  | .local _ .vmem, ⟨21, _⟩ => ⟨S384x128, .bf16⟩
  | .local _ .vmem, ⟨22, _⟩ => ⟨S2x128x512, .f32⟩
  | .local _ .vmem, ⟨23, _⟩ => ⟨S384x1024, .bf16⟩
  | .local _ .vmem, ⟨24, _⟩ => ⟨S384x1024, .bf16⟩
  | .local _ .vmem, ⟨25, _⟩ => ⟨S384x1024, .bf16⟩
  | .local _ .vmem, ⟨26, _⟩ => ⟨S384x1024, .bf16⟩
  | .local _ .vmem, ⟨27, _⟩ => ⟨S384x1024, .bf16⟩
  | .local _ .vmem, ⟨28, _⟩ => ⟨S384x1024, .bf16⟩
  | .local _ .vmem, ⟨29, _⟩ => ⟨S384x512, .bf16⟩
  | .local _ .vmem, ⟨30, _⟩ => ⟨S384x512, .bf16⟩
  | .local _ .vmem, ⟨31, _⟩ => ⟨S384x256, .bf16⟩
  | .local _ .vmem, ⟨32, _⟩ => ⟨S384x256, .bf16⟩
  | .local _ .vmem, ⟨33, _⟩ => ⟨S384x256, .f32⟩
  | .local _ .vmem, ⟨34, _⟩ => ⟨S384x256, .f32⟩
  | .local _ .vmem, ⟨35, _⟩ => ⟨S384x5888, .bf16⟩
  | .local _ .vmem, ⟨36, _⟩ => ⟨S384x5888, .bf16⟩
  | .local _ .vmem, ⟨37, _⟩ => ⟨S2x128x512, .f32⟩
  | .local _ .vmem, ⟨38, _⟩ => ⟨S2x1x512, .f32⟩
  | _, _ => ⟨S4112x4384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_call0_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_0 : Ref sig .tc := ⟨.hbm, 35, rfl⟩
abbrev main_call1_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_call3_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_3 : Ref sig .tc := ⟨.hbm, 50, rfl⟩
abbrev main_call4_v0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_call5_v0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_5 : Ref sig .tc := ⟨.hbm, 60, rfl⟩
abbrev main_call6_v0 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_6 : Ref sig .tc := ⟨.hbm, 71, rfl⟩
abbrev main_call7_v0 : Ref sig .tc := ⟨.hbm, 72, rfl⟩
abbrev main_v39 : Ref sig .tc := ⟨.hbm, 73, rfl⟩
abbrev main_v40 : Ref sig .tc := ⟨.hbm, 74, rfl⟩
abbrev main_c_7 : Ref sig .tc := ⟨.hbm, 75, rfl⟩
abbrev main_call8_v0 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_8 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call9_v0 : Ref sig .tc := ⟨.hbm, 93, rfl⟩
abbrev main_call9_call0_cst : Ref sig .tc := ⟨.hbm, 94, rfl⟩
abbrev main_call9_call0_v0 : Ref sig .tc := ⟨.hbm, 95, rfl⟩
abbrev main_call9_call0_v1 : Ref sig .tc := ⟨.hbm, 96, rfl⟩
abbrev main_call9_call0_v2 : Ref sig .tc := ⟨.hbm, 97, rfl⟩
abbrev main_call9_call0_v3 : Ref sig .tc := ⟨.hbm, 98, rfl⟩
abbrev main_call9_call0_v4 : Ref sig .tc := ⟨.hbm, 99, rfl⟩
abbrev main_call9_call0_v5 : Ref sig .tc := ⟨.hbm, 100, rfl⟩
abbrev main_call9_call0_v6 : Ref sig .tc := ⟨.hbm, 101, rfl⟩
abbrev main_call9_call0_v7 : Ref sig .tc := ⟨.hbm, 102, rfl⟩
abbrev main_call9_call0_v8 : Ref sig .tc := ⟨.hbm, 103, rfl⟩
abbrev main_call9_call0_v9 : Ref sig .tc := ⟨.hbm, 104, rfl⟩
abbrev main_call9_call0_v10 : Ref sig .tc := ⟨.hbm, 105, rfl⟩
abbrev main_call9_call0_v11 : Ref sig .tc := ⟨.hbm, 106, rfl⟩
abbrev main_call9_v1 : Ref sig .tc := ⟨.hbm, 107, rfl⟩
abbrev main_v56 : Ref sig .tc := ⟨.hbm, 108, rfl⟩
abbrev main_cst_9 : Ref sig .tc := ⟨.hbm, 109, rfl⟩
abbrev main_v57 : Ref sig .tc := ⟨.hbm, 110, rfl⟩
abbrev main_v58 : Ref sig .tc := ⟨.hbm, 111, rfl⟩
abbrev main_cst_10 : Ref sig .tc := ⟨.hbm, 112, rfl⟩
abbrev main_call10_v0 : Ref sig .tc := ⟨.hbm, 113, rfl⟩
abbrev main_call10_v1 : Ref sig .tc := ⟨.hbm, 114, rfl⟩
abbrev main_call10_v2 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_c_11 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_call11_v0 : Ref sig .tc := ⟨.hbm, 129, rfl⟩
abbrev main_call11_call0_cst : Ref sig .tc := ⟨.hbm, 130, rfl⟩
abbrev main_call11_call0_v0 : Ref sig .tc := ⟨.hbm, 131, rfl⟩
abbrev main_call11_call0_v1 : Ref sig .tc := ⟨.hbm, 132, rfl⟩
abbrev main_call11_call0_v2 : Ref sig .tc := ⟨.hbm, 133, rfl⟩
abbrev main_call11_call0_v3 : Ref sig .tc := ⟨.hbm, 134, rfl⟩
abbrev main_call11_call0_v4 : Ref sig .tc := ⟨.hbm, 135, rfl⟩
abbrev main_call11_call0_v5 : Ref sig .tc := ⟨.hbm, 136, rfl⟩
abbrev main_call11_call0_v6 : Ref sig .tc := ⟨.hbm, 137, rfl⟩
abbrev main_call11_call0_v7 : Ref sig .tc := ⟨.hbm, 138, rfl⟩
abbrev main_call11_call0_v8 : Ref sig .tc := ⟨.hbm, 139, rfl⟩
abbrev main_call11_call0_v9 : Ref sig .tc := ⟨.hbm, 140, rfl⟩
abbrev main_call11_call0_v10 : Ref sig .tc := ⟨.hbm, 141, rfl⟩
abbrev main_call11_call0_v11 : Ref sig .tc := ⟨.hbm, 142, rfl⟩
abbrev main_call11_v1 : Ref sig .tc := ⟨.hbm, 143, rfl⟩
abbrev main_v71 : Ref sig .tc := ⟨.hbm, 144, rfl⟩
abbrev main_cst_12 : Ref sig .tc := ⟨.hbm, 145, rfl⟩
abbrev main_v72 : Ref sig .tc := ⟨.hbm, 146, rfl⟩
abbrev main_v73 : Ref sig .tc := ⟨.hbm, 147, rfl⟩
abbrev main_cst_13 : Ref sig .tc := ⟨.hbm, 148, rfl⟩
abbrev main_call12_v0 : Ref sig .tc := ⟨.hbm, 149, rfl⟩
abbrev main_call12_v1 : Ref sig .tc := ⟨.hbm, 150, rfl⟩
abbrev main_call12_v2 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_c_14 : Ref sig .tc := ⟨.hbm, 158, rfl⟩
abbrev main_call13_v0 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_cst_15 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_c_16 : Ref sig .tc := ⟨.hbm, 169, rfl⟩
abbrev main_call14_v0 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_cst_17 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_cst_18 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_cst_19 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_c_20 : Ref sig .tc := ⟨.hbm, 188, rfl⟩
abbrev main_call15_v0 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_c_21 : Ref sig .tc := ⟨.hbm, 196, rfl⟩
abbrev main_call16_v0 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_cst_22 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_c_23 : Ref sig .tc := ⟨.hbm, 207, rfl⟩
abbrev main_call17_v0 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_cst_24 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_cst_25 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_cst_26 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_c_27 : Ref sig .tc := ⟨.hbm, 226, rfl⟩
abbrev main_call18_v0 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_c_28 : Ref sig .tc := ⟨.hbm, 234, rfl⟩
abbrev main_call19_v0 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_29 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_cst_30 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_cst_31 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_cst_32 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_c_33 : Ref sig .tc := ⟨.hbm, 263, rfl⟩
abbrev main_call20_v0 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_cst_34 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_c_35 : Ref sig .tc := ⟨.hbm, 274, rfl⟩
abbrev main_call21_v0 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_cst_36 : Ref sig .tc := ⟨.hbm, 279, rfl⟩
abbrev main_v170 : Ref sig .tc := ⟨.hbm, 280, rfl⟩
abbrev main_v171 : Ref sig .tc := ⟨.hbm, 281, rfl⟩
abbrev main_v172_0 : Ref sig .tc := ⟨.hbm, 282, rfl⟩
abbrev main_v172_1 : Ref sig .tc := ⟨.hbm, 283, rfl⟩
abbrev main_v172_2 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg20_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem20_0 : DmaSem sig := 38

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32_71 : BitVec 32 := 0#32
  let v168 : BitVec 1 := Scalar.cmpi .eq arg0 c0_i32_71
  let v169 : BitVec 32 := Scalar.extui v168
  let c0_i32_72 : BitVec 32 := 0#32
  let v170 : BitVec 1 := Scalar.cmpi .ne v169 c0_i32_72
  v170

def k0_cond2 (i : grid0.Coords) : BitVec 1 :=
  let arg0 : BitVec 32 := BitVec.ofNat 32 (i 0).val
  let c0_i32_73 : BitVec 32 := 0#32
  let v171 : BitVec 1 := Scalar.cmpi .ne arg0 c0_i32_73
  let v172 : BitVec 32 := Scalar.extui v171
  let c0_i32_74 : BitVec 32 := 0#32
  let v173 : BitVec 1 := Scalar.cmpi .ne v172 c0_i32_74
  v173

def k0_cond3 (i : grid0.Coords) : BitVec 1 :=
  let arg0 : BitVec 32 := BitVec.ofNat 32 (i 0).val
  let c0_i32_103 : BitVec 32 := 0#32
  let v241 : BitVec 1 := Scalar.cmpi .eq arg0 c0_i32_103
  let v242 : BitVec 32 := Scalar.extui v241
  let c0_i32_104 : BitVec 32 := 0#32
  let v243 : BitVec 1 := Scalar.cmpi .ne v242 c0_i32_104
  v243

def k0_cond4 (i : grid0.Coords) : BitVec 1 :=
  let arg0 : BitVec 32 := BitVec.ofNat 32 (i 0).val
  let c0_i32_105 : BitVec 32 := 0#32
  let v244 : BitVec 1 := Scalar.cmpi .ne arg0 c0_i32_105
  let v245 : BitVec 32 := Scalar.extui v244
  let c0_i32_106 : BitVec 32 := 0#32
  let v246 : BitVec 1 := Scalar.cmpi .ne v245 c0_i32_106
  v246

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_10 (i : grid0.Coords) : Fin 2 → Nat :=
  let arg0 : BitVec 32 := BitVec.ofNat 32 (i 0).val
  let c45_i32 : BitVec 32 := 45#32
  let c0_i32 : BitVec 32 := 0#32
  ![arg0.toNat, c45_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S384x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S384x5888 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S2x128x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== GlaInBwdRefIdeal.lean ====
abbrev S4112x4384 : Shape := ⟨2, ![4112, 4384]⟩
abbrev S2x16x256 : Shape := ⟨3, ![2, 16, 256]⟩
abbrev S2x256 : Shape := ⟨2, ![2, 256]⟩
abbrev S4112x256 : Shape := ⟨2, ![4112, 256]⟩
abbrev S4112x512 : Shape := ⟨2, ![4112, 512]⟩
abbrev S4160x256 : Shape := ⟨2, ![4160, 256]⟩
abbrev S4112x1024 : Shape := ⟨2, ![4112, 1024]⟩
abbrev S4112x128 : Shape := ⟨2, ![4112, 128]⟩
abbrev S4112x16 : Shape := ⟨2, ![4112, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S_ : Shape := ⟨0, ![]⟩
abbrev S48x256 : Shape := ⟨2, ![48, 256]⟩
abbrev S65x64x256 : Shape := ⟨3, ![65, 64, 256]⟩
abbrev S256x16 : Shape := ⟨2, ![256, 16]⟩
abbrev S4112x8x64 : Shape := ⟨3, ![4112, 8, 64]⟩
abbrev S4112x8x128 : Shape := ⟨3, ![4112, 8, 128]⟩
abbrev S4112x4x64 : Shape := ⟨3, ![4112, 4, 64]⟩
abbrev S4112x4x128 : Shape := ⟨3, ![4112, 4, 128]⟩
abbrev S4112x2x64 : Shape := ⟨3, ![4112, 2, 64]⟩
abbrev S4112x2x128 : Shape := ⟨3, ![4112, 2, 128]⟩
abbrev S4112x1x16 : Shape := ⟨3, ![4112, 1, 16]⟩
abbrev S4112x1x128 : Shape := ⟨3, ![4112, 1, 128]⟩
abbrev S4112x5888 : Shape := ⟨2, ![4112, 5888]⟩
abbrev S2x16x4x64 : Shape := ⟨4, ![2, 16, 4, 64]⟩
abbrev S2x128x4x128 : Shape := ⟨4, ![2, 128, 4, 128]⟩
abbrev S2x128x512 : Shape := ⟨3, ![2, 128, 512]⟩
abbrev S2x1x4x64 : Shape := ⟨4, ![2, 1, 4, 64]⟩
abbrev S2x1x4x128 : Shape := ⟨4, ![2, 1, 4, 128]⟩
abbrev S2x1x512 : Shape := ⟨3, ![2, 1, 512]⟩
abbrev S4224x5888 : Shape := ⟨2, ![4224, 5888]⟩

abbrev nBuf : Space → Nat
  | .hbm => 279
  | .vmem => 0
  | .smem => 0
  | _ => 0

abbrev hbmTy0_0 (i : Nat) : BufTy := match i % 128 with
  | 0 => ⟨S4112x4384, .f32⟩
  | 1 => ⟨S2x16x256, .f32⟩
  | 2 => ⟨S2x256, .f32⟩
  | 3 => ⟨S4112x256, .f32⟩
  | 4 => ⟨S4112x256, .f32⟩
  | 5 => ⟨S4112x512, .f32⟩
  | 6 => ⟨S4160x256, .f32⟩
  | 7 => ⟨S4112x256, .f32⟩
  | 8 => ⟨S4112x256, .f32⟩
  | 9 => ⟨S4112x512, .f32⟩
  | 10 => ⟨S4160x256, .f32⟩
  | 11 => ⟨S4112x512, .f32⟩
  | 12 => ⟨S4112x1024, .f32⟩
  | 13 => ⟨S4112x1024, .f32⟩
  | 14 => ⟨S4112x512, .f32⟩
  | 15 => ⟨S4112x128, .f32⟩
  | 16 => ⟨S4112x128, .f32⟩
  | 17 => ⟨S4112x256, .f32⟩
  | 18 => ⟨S4112x256, .f32⟩
  | 19 => ⟨S4112x512, .f32⟩
  | 20 => ⟨S4112x512, .f32⟩
  | 21 => ⟨S4112x16, .f32⟩
  | 22 => ⟨S4112x16, .f32⟩
  | 23 => ⟨S4112x512, .f32⟩
  | 24 => ⟨S4112x128, .f32⟩
  | 25 => ⟨S4112x128, .f32⟩
  | 26 => ⟨S4112x1024, .f32⟩
  | 27 => ⟨S4112x1024, .f32⟩
  | 28 => ⟨S1x16x256, .f32⟩
  | 29 => ⟨S16x256, .f32⟩
  | 30 => ⟨S1x256, .f32⟩
  | 31 => ⟨S256, .f32⟩
  | 32 => ⟨S4112x256, .f32⟩
  | 33 => ⟨S1x256, .f32⟩
  | 34 => ⟨S4112x256, .f32⟩
  | 35 => ⟨S4112x256, .f32⟩
  | 36 => ⟨S4112x256, .f32⟩
  | 37 => ⟨S_, .f32⟩
  | 38 => ⟨S4112x256, .f32⟩
  | 39 => ⟨S4112x256, .f32⟩
  | 40 => ⟨S4112x256, .f32⟩
  | 41 => ⟨S4112x256, .f32⟩
  | 42 => ⟨S4112x256, .i1⟩
  | 43 => ⟨S4112x256, .f32⟩
  | 44 => ⟨S4112x256, .f32⟩
  | 45 => ⟨S4112x256, .f32⟩
  | 46 => ⟨S4112x256, .f32⟩
  | 47 => ⟨S4112x256, .f32⟩
  | 48 => ⟨S4112x256, .f32⟩
  | 49 => ⟨S4112x256, .f32⟩
  | 50 => ⟨S4112x256, .f32⟩
  | 51 => ⟨S_, .f32⟩
  | 52 => ⟨S4112x256, .f32⟩
  | 53 => ⟨S4112x256, .i1⟩
  | 54 => ⟨S_, .f32⟩
  | 55 => ⟨S4112x256, .f32⟩
  | 56 => ⟨S4112x256, .f32⟩
  | 57 => ⟨S_, .f32⟩
  | 58 => ⟨S4112x256, .f32⟩
  | 59 => ⟨S4112x256, .i1⟩
  | 60 => ⟨S_, .f32⟩
  | 61 => ⟨S4112x256, .f32⟩
  | 62 => ⟨S4112x256, .f32⟩
  | 63 => ⟨S4112x256, .f32⟩
  | 64 => ⟨S4112x256, .f32⟩
  | 65 => ⟨S_, .f32⟩
  | 66 => ⟨S_, .f32⟩
  | 67 => ⟨S_, .i1⟩
  | 68 => ⟨S_, .f32⟩
  | 69 => ⟨S_, .f32⟩
  | 70 => ⟨S_, .f32⟩
  | 71 => ⟨S_, .f32⟩
  | 72 => ⟨S4112x256, .f32⟩
  | 73 => ⟨S4112x256, .i1⟩
  | 74 => ⟨S_, .f32⟩
  | 75 => ⟨S4112x256, .f32⟩
  | 76 => ⟨S4112x256, .f32⟩
  | 77 => ⟨S4112x256, .f32⟩
  | 78 => ⟨S4112x256, .f32⟩
  | 79 => ⟨S4112x256, .f32⟩
  | 80 => ⟨S_, .f32⟩
  | 81 => ⟨S4112x256, .f32⟩
  | 82 => ⟨S4112x256, .f32⟩
  | 83 => ⟨S4112x256, .f32⟩
  | 84 => ⟨S_, .f32⟩
  | 85 => ⟨S4112x256, .f32⟩
  | 86 => ⟨S4112x256, .f32⟩
  | 87 => ⟨S_, .f32⟩
  | 88 => ⟨S48x256, .f32⟩
  | 89 => ⟨S4160x256, .f32⟩
  | 90 => ⟨S_, .f32⟩
  | 91 => ⟨S48x256, .f32⟩
  | 92 => ⟨S1x16x256, .f32⟩
  | 93 => ⟨S16x256, .f32⟩
  | 94 => ⟨S1x256, .f32⟩
  | 95 => ⟨S256, .f32⟩
  | 96 => ⟨S4112x256, .f32⟩
  | 97 => ⟨S1x256, .f32⟩
  | 98 => ⟨S4112x256, .f32⟩
  | 99 => ⟨S4112x256, .f32⟩
  | 100 => ⟨S4112x256, .f32⟩
  | 101 => ⟨S_, .f32⟩
  | 102 => ⟨S4112x256, .f32⟩
  | 103 => ⟨S4112x256, .f32⟩
  | 104 => ⟨S4112x256, .f32⟩
  | 105 => ⟨S4112x256, .f32⟩
  | 106 => ⟨S4112x256, .i1⟩
  | 107 => ⟨S4112x256, .f32⟩
  | 108 => ⟨S4112x256, .f32⟩
  | 109 => ⟨S4112x256, .f32⟩
  | 110 => ⟨S4112x256, .f32⟩
  | 111 => ⟨S4112x256, .f32⟩
  | 112 => ⟨S4112x256, .f32⟩
  | 113 => ⟨S4112x256, .f32⟩
  | 114 => ⟨S4112x256, .f32⟩
  | 115 => ⟨S_, .f32⟩
  | 116 => ⟨S4112x256, .f32⟩
  | 117 => ⟨S4112x256, .i1⟩
  | 118 => ⟨S_, .f32⟩
  | 119 => ⟨S4112x256, .f32⟩
  | 120 => ⟨S4112x256, .f32⟩
  | 121 => ⟨S_, .f32⟩
  | 122 => ⟨S4112x256, .f32⟩
  | 123 => ⟨S4112x256, .i1⟩
  | 124 => ⟨S_, .f32⟩
  | 125 => ⟨S4112x256, .f32⟩
  | 126 => ⟨S4112x256, .f32⟩
  | 127 => ⟨S4112x256, .f32⟩
  | _ => ⟨S4112x4384, .f32⟩

abbrev hbmTy0_1 (i : Nat) : BufTy := match i % 128 with
  | 0 => ⟨S4112x256, .f32⟩
  | 1 => ⟨S_, .f32⟩
  | 2 => ⟨S_, .f32⟩
  | 3 => ⟨S_, .i1⟩
  | 4 => ⟨S_, .f32⟩
  | 5 => ⟨S_, .f32⟩
  | 6 => ⟨S_, .f32⟩
  | 7 => ⟨S_, .f32⟩
  | 8 => ⟨S4112x256, .f32⟩
  | 9 => ⟨S4112x256, .i1⟩
  | 10 => ⟨S_, .f32⟩
  | 11 => ⟨S4112x256, .f32⟩
  | 12 => ⟨S4112x256, .f32⟩
  | 13 => ⟨S4112x256, .f32⟩
  | 14 => ⟨S4112x256, .f32⟩
  | 15 => ⟨S4112x256, .f32⟩
  | 16 => ⟨S_, .f32⟩
  | 17 => ⟨S4112x256, .f32⟩
  | 18 => ⟨S4112x256, .f32⟩
  | 19 => ⟨S4112x256, .f32⟩
  | 20 => ⟨S_, .f32⟩
  | 21 => ⟨S4112x256, .f32⟩
  | 22 => ⟨S4112x256, .f32⟩
  | 23 => ⟨S_, .f32⟩
  | 24 => ⟨S48x256, .f32⟩
  | 25 => ⟨S4160x256, .f32⟩
  | 26 => ⟨S_, .f32⟩
  | 27 => ⟨S48x256, .f32⟩
  | 28 => ⟨S65x64x256, .f32⟩
  | 29 => ⟨S_, .f32⟩
  | 30 => ⟨S_, .f32⟩
  | 31 => ⟨S65x64x256, .f32⟩
  | 32 => ⟨S4160x256, .f32⟩
  | 33 => ⟨S4160x256, .f32⟩
  | 34 => ⟨S65x64x256, .f32⟩
  | 35 => ⟨S_, .f32⟩
  | 36 => ⟨S_, .f32⟩
  | 37 => ⟨S65x64x256, .f32⟩
  | 38 => ⟨S4160x256, .f32⟩
  | 39 => ⟨S4160x256, .f32⟩
  | 40 => ⟨S4112x256, .f32⟩
  | 41 => ⟨S4112x256, .f32⟩
  | 42 => ⟨S4112x512, .f32⟩
  | 43 => ⟨S4160x256, .f32⟩
  | 44 => ⟨S65x64x256, .f32⟩
  | 45 => ⟨S_, .f32⟩
  | 46 => ⟨S_, .f32⟩
  | 47 => ⟨S65x64x256, .f32⟩
  | 48 => ⟨S4160x256, .f32⟩
  | 49 => ⟨S4160x256, .f32⟩
  | 50 => ⟨S65x64x256, .f32⟩
  | 51 => ⟨S_, .f32⟩
  | 52 => ⟨S_, .f32⟩
  | 53 => ⟨S65x64x256, .f32⟩
  | 54 => ⟨S4160x256, .f32⟩
  | 55 => ⟨S48x256, .f32⟩
  | 56 => ⟨S4112x256, .f32⟩
  | 57 => ⟨S_, .f32⟩
  | 58 => ⟨S4112x256, .f32⟩
  | 59 => ⟨S4112x256, .f32⟩
  | 60 => ⟨S4112x256, .f32⟩
  | 61 => ⟨S4112x256, .f32⟩
  | 62 => ⟨S4112x256, .f32⟩
  | 63 => ⟨S_, .f32⟩
  | 64 => ⟨S256, .f32⟩
  | 65 => ⟨S1x256, .f32⟩
  | 66 => ⟨S_, .f32⟩
  | 67 => ⟨S256, .f32⟩
  | 68 => ⟨S256x16, .f32⟩
  | 69 => ⟨S16x256, .f32⟩
  | 70 => ⟨S4112x16, .f32⟩
  | 71 => ⟨S1x256, .f32⟩
  | 72 => ⟨S_, .f32⟩
  | 73 => ⟨S2x256, .f32⟩
  | 74 => ⟨S1x16x256, .f32⟩
  | 75 => ⟨S_, .f32⟩
  | 76 => ⟨S2x16x256, .f32⟩
  | 77 => ⟨S48x256, .f32⟩
  | 78 => ⟨S4112x256, .f32⟩
  | 79 => ⟨S_, .f32⟩
  | 80 => ⟨S4112x256, .f32⟩
  | 81 => ⟨S4112x256, .f32⟩
  | 82 => ⟨S4112x256, .f32⟩
  | 83 => ⟨S4112x256, .f32⟩
  | 84 => ⟨S4112x256, .f32⟩
  | 85 => ⟨S_, .f32⟩
  | 86 => ⟨S256, .f32⟩
  | 87 => ⟨S1x256, .f32⟩
  | 88 => ⟨S_, .f32⟩
  | 89 => ⟨S256, .f32⟩
  | 90 => ⟨S256x16, .f32⟩
  | 91 => ⟨S16x256, .f32⟩
  | 92 => ⟨S4112x16, .f32⟩
  | 93 => ⟨S1x256, .f32⟩
  | 94 => ⟨S_, .f32⟩
  | 95 => ⟨S2x256, .f32⟩
  | 96 => ⟨S2x256, .f32⟩
  | 97 => ⟨S1x16x256, .f32⟩
  | 98 => ⟨S_, .f32⟩
  | 99 => ⟨S2x16x256, .f32⟩
  | 100 => ⟨S2x16x256, .f32⟩
  | 101 => ⟨S4112x8x64, .f32⟩
  | 102 => ⟨S_, .i32⟩
  | 103 => ⟨S_, .f32⟩
  | 104 => ⟨S4112x8x128, .f32⟩
  | 105 => ⟨S4112x1024, .f32⟩
  | 106 => ⟨S4112x4x64, .f32⟩
  | 107 => ⟨S_, .i32⟩
  | 108 => ⟨S_, .f32⟩
  | 109 => ⟨S4112x4x128, .f32⟩
  | 110 => ⟨S4112x512, .f32⟩
  | 111 => ⟨S4112x4x64, .f32⟩
  | 112 => ⟨S_, .i32⟩
  | 113 => ⟨S_, .f32⟩
  | 114 => ⟨S4112x4x128, .f32⟩
  | 115 => ⟨S4112x512, .f32⟩
  | 116 => ⟨S4112x2x64, .f32⟩
  | 117 => ⟨S_, .i32⟩
  | 118 => ⟨S_, .f32⟩
  | 119 => ⟨S4112x2x128, .f32⟩
  | 120 => ⟨S4112x256, .f32⟩
  | 121 => ⟨S4112x2x64, .f32⟩
  | 122 => ⟨S_, .i32⟩
  | 123 => ⟨S_, .f32⟩
  | 124 => ⟨S4112x2x128, .f32⟩
  | 125 => ⟨S4112x256, .f32⟩
  | 126 => ⟨S4112x1x16, .f32⟩
  | 127 => ⟨S_, .i32⟩
  | _ => ⟨S4112x4384, .f32⟩

abbrev hbmTy0_2 (i : Nat) : BufTy := match i % 128 with
  | 0 => ⟨S_, .f32⟩
  | 1 => ⟨S4112x1x128, .f32⟩
  | 2 => ⟨S4112x128, .f32⟩
  | 3 => ⟨S4112x1x16, .f32⟩
  | 4 => ⟨S_, .i32⟩
  | 5 => ⟨S_, .f32⟩
  | 6 => ⟨S4112x1x128, .f32⟩
  | 7 => ⟨S4112x128, .f32⟩
  | 8 => ⟨S4112x5888, .f32⟩
  | 9 => ⟨S2x16x4x64, .f32⟩
  | 10 => ⟨S_, .i32⟩
  | 11 => ⟨S_, .f32⟩
  | 12 => ⟨S2x128x4x128, .f32⟩
  | 13 => ⟨S2x128x512, .f32⟩
  | 14 => ⟨S2x1x4x64, .f32⟩
  | 15 => ⟨S_, .i32⟩
  | 16 => ⟨S_, .f32⟩
  | 17 => ⟨S2x1x4x128, .f32⟩
  | 18 => ⟨S2x1x512, .f32⟩
  | 19 => ⟨S_, .i32⟩
  | 20 => ⟨S_, .f32⟩
  | 21 => ⟨S4224x5888, .f32⟩
  | 22 => ⟨S4224x5888, .bf16⟩
  | _ => ⟨S4112x4384, .f32⟩

abbrev hbmTy (i : Nat) : BufTy := match i / 128 with
  | 0 => hbmTy0_0 i
  | 1 => hbmTy0_1 i
  | 2 => hbmTy0_2 i
  | _ => ⟨S4112x4384, .f32⟩

abbrev bufTy : (tb : Table) → Fin (tcTables nBuf tb) → BufTy
  | .hbm, ⟨i, _⟩ => hbmTy i
  | _, _ => ⟨S4112x4384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1_0 : Ref sig .tc := ⟨.hbm, 50, rfl⟩
abbrev main_call0_call0_cst_0 : Ref sig .tc := ⟨.hbm, 51, rfl⟩
abbrev main_call0_call0_v13 : Ref sig .tc := ⟨.hbm, 52, rfl⟩
abbrev main_call0_call0_v14 : Ref sig .tc := ⟨.hbm, 53, rfl⟩
abbrev main_call0_call0_cst_1 : Ref sig .tc := ⟨.hbm, 54, rfl⟩
abbrev main_call0_call0_v15 : Ref sig .tc := ⟨.hbm, 55, rfl⟩
abbrev main_call0_call0_v16 : Ref sig .tc := ⟨.hbm, 56, rfl⟩
abbrev main_call0_call0_cst_2 : Ref sig .tc := ⟨.hbm, 57, rfl⟩
abbrev main_call0_call0_v17 : Ref sig .tc := ⟨.hbm, 58, rfl⟩
abbrev main_call0_call0_v18 : Ref sig .tc := ⟨.hbm, 59, rfl⟩
abbrev main_call0_call0_cst_3 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_v21 : Ref sig .tc := ⟨.hbm, 63, rfl⟩
abbrev main_v19_1 : Ref sig .tc := ⟨.hbm, 64, rfl⟩
abbrev main_call0_call0_cst_4 : Ref sig .tc := ⟨.hbm, 65, rfl⟩
abbrev main_call0_call0_cst_5 : Ref sig .tc := ⟨.hbm, 66, rfl⟩
abbrev main_call0_call0_v23 : Ref sig .tc := ⟨.hbm, 67, rfl⟩
abbrev main_call0_call0_cst_6 : Ref sig .tc := ⟨.hbm, 68, rfl⟩
abbrev main_call0_call0_cst_7 : Ref sig .tc := ⟨.hbm, 69, rfl⟩
abbrev main_call0_call0_v24 : Ref sig .tc := ⟨.hbm, 70, rfl⟩
abbrev main_call0_call0_cst_8 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_cst_9 : Ref sig .tc := ⟨.hbm, 74, rfl⟩
abbrev main_call0_call0_v27 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_cst_10 : Ref sig .tc := ⟨.hbm, 80, rfl⟩
abbrev main_call0_call0_v32 : Ref sig .tc := ⟨.hbm, 81, rfl⟩
abbrev main_v19_2 : Ref sig .tc := ⟨.hbm, 82, rfl⟩
abbrev main_v19_0 : Ref sig .tc := ⟨.hbm, 83, rfl⟩
abbrev main_cst : Ref sig .tc := ⟨.hbm, 84, rfl⟩
abbrev main_v20 : Ref sig .tc := ⟨.hbm, 85, rfl⟩
abbrev main_v21 : Ref sig .tc := ⟨.hbm, 86, rfl⟩
abbrev main_cst_0 : Ref sig .tc := ⟨.hbm, 87, rfl⟩
abbrev main_v22 : Ref sig .tc := ⟨.hbm, 88, rfl⟩
abbrev main_v23 : Ref sig .tc := ⟨.hbm, 89, rfl⟩
abbrev main_cst_1 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_call1_v0 : Ref sig .tc := ⟨.hbm, 100, rfl⟩
abbrev main_call1_call0_cst : Ref sig .tc := ⟨.hbm, 101, rfl⟩
abbrev main_call1_call0_v0 : Ref sig .tc := ⟨.hbm, 102, rfl⟩
abbrev main_call1_call0_v1 : Ref sig .tc := ⟨.hbm, 103, rfl⟩
abbrev main_call1_call0_v2 : Ref sig .tc := ⟨.hbm, 104, rfl⟩
abbrev main_call1_call0_v3 : Ref sig .tc := ⟨.hbm, 105, rfl⟩
abbrev main_call1_call0_v4 : Ref sig .tc := ⟨.hbm, 106, rfl⟩
abbrev main_call1_call0_v5 : Ref sig .tc := ⟨.hbm, 107, rfl⟩
abbrev main_call1_call0_v6 : Ref sig .tc := ⟨.hbm, 108, rfl⟩
abbrev main_call1_call0_v7 : Ref sig .tc := ⟨.hbm, 109, rfl⟩
abbrev main_call1_call0_v8 : Ref sig .tc := ⟨.hbm, 110, rfl⟩
abbrev main_call1_call0_v9 : Ref sig .tc := ⟨.hbm, 111, rfl⟩
abbrev main_call1_call0_v10 : Ref sig .tc := ⟨.hbm, 112, rfl⟩
abbrev main_call1_call0_v11 : Ref sig .tc := ⟨.hbm, 113, rfl⟩
abbrev main_call1_v1_0 : Ref sig .tc := ⟨.hbm, 114, rfl⟩
abbrev main_call1_call0_cst_0 : Ref sig .tc := ⟨.hbm, 115, rfl⟩
abbrev main_call1_call0_v13 : Ref sig .tc := ⟨.hbm, 116, rfl⟩
abbrev main_call1_call0_v14 : Ref sig .tc := ⟨.hbm, 117, rfl⟩
abbrev main_call1_call0_cst_1 : Ref sig .tc := ⟨.hbm, 118, rfl⟩
abbrev main_call1_call0_v15 : Ref sig .tc := ⟨.hbm, 119, rfl⟩
abbrev main_call1_call0_v16 : Ref sig .tc := ⟨.hbm, 120, rfl⟩
abbrev main_call1_call0_cst_2 : Ref sig .tc := ⟨.hbm, 121, rfl⟩
abbrev main_call1_call0_v17 : Ref sig .tc := ⟨.hbm, 122, rfl⟩
abbrev main_call1_call0_v18 : Ref sig .tc := ⟨.hbm, 123, rfl⟩
abbrev main_call1_call0_cst_3 : Ref sig .tc := ⟨.hbm, 124, rfl⟩
abbrev main_call1_call0_v19 : Ref sig .tc := ⟨.hbm, 125, rfl⟩
abbrev main_call1_call0_v20 : Ref sig .tc := ⟨.hbm, 126, rfl⟩
abbrev main_call1_call0_v21 : Ref sig .tc := ⟨.hbm, 127, rfl⟩
abbrev main_v33_1 : Ref sig .tc := ⟨.hbm, 128, rfl⟩
abbrev main_call1_call0_cst_4 : Ref sig .tc := ⟨.hbm, 129, rfl⟩
abbrev main_call1_call0_cst_5 : Ref sig .tc := ⟨.hbm, 130, rfl⟩
abbrev main_call1_call0_v23 : Ref sig .tc := ⟨.hbm, 131, rfl⟩
abbrev main_call1_call0_cst_6 : Ref sig .tc := ⟨.hbm, 132, rfl⟩
abbrev main_call1_call0_cst_7 : Ref sig .tc := ⟨.hbm, 133, rfl⟩
abbrev main_call1_call0_v24 : Ref sig .tc := ⟨.hbm, 134, rfl⟩
abbrev main_call1_call0_cst_8 : Ref sig .tc := ⟨.hbm, 135, rfl⟩
abbrev main_call1_call0_v25 : Ref sig .tc := ⟨.hbm, 136, rfl⟩
abbrev main_call1_call0_v26 : Ref sig .tc := ⟨.hbm, 137, rfl⟩
abbrev main_call1_call0_cst_9 : Ref sig .tc := ⟨.hbm, 138, rfl⟩
abbrev main_call1_call0_v27 : Ref sig .tc := ⟨.hbm, 139, rfl⟩
abbrev main_call1_call0_v28 : Ref sig .tc := ⟨.hbm, 140, rfl⟩
abbrev main_call1_call0_v29 : Ref sig .tc := ⟨.hbm, 141, rfl⟩
abbrev main_call1_call0_v30 : Ref sig .tc := ⟨.hbm, 142, rfl⟩
abbrev main_call1_call0_v31 : Ref sig .tc := ⟨.hbm, 143, rfl⟩
abbrev main_call1_call0_cst_10 : Ref sig .tc := ⟨.hbm, 144, rfl⟩
abbrev main_call1_call0_v32 : Ref sig .tc := ⟨.hbm, 145, rfl⟩
abbrev main_v33_2 : Ref sig .tc := ⟨.hbm, 146, rfl⟩
abbrev main_v33_0 : Ref sig .tc := ⟨.hbm, 147, rfl⟩
abbrev main_cst_2 : Ref sig .tc := ⟨.hbm, 148, rfl⟩
abbrev main_v34 : Ref sig .tc := ⟨.hbm, 149, rfl⟩
abbrev main_v35 : Ref sig .tc := ⟨.hbm, 150, rfl⟩
abbrev main_cst_3 : Ref sig .tc := ⟨.hbm, 151, rfl⟩
abbrev main_v36 : Ref sig .tc := ⟨.hbm, 152, rfl⟩
abbrev main_v37 : Ref sig .tc := ⟨.hbm, 153, rfl⟩
abbrev main_cst_4 : Ref sig .tc := ⟨.hbm, 154, rfl⟩
abbrev main_v38 : Ref sig .tc := ⟨.hbm, 155, rfl⟩
abbrev main_v39 : Ref sig .tc := ⟨.hbm, 156, rfl⟩
abbrev main_call2_call0_cst : Ref sig .tc := ⟨.hbm, 157, rfl⟩
abbrev main_call2_call0_v0 : Ref sig .tc := ⟨.hbm, 158, rfl⟩
abbrev main_v40 : Ref sig .tc := ⟨.hbm, 159, rfl⟩
abbrev main_v41 : Ref sig .tc := ⟨.hbm, 160, rfl⟩
abbrev main_v42 : Ref sig .tc := ⟨.hbm, 161, rfl⟩
abbrev main_v43 : Ref sig .tc := ⟨.hbm, 162, rfl⟩
abbrev main_call4_call0_cst : Ref sig .tc := ⟨.hbm, 163, rfl⟩
abbrev main_call4_call0_v0 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_call7_call0_cst : Ref sig .tc := ⟨.hbm, 173, rfl⟩
abbrev main_call7_call0_v0 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_call9_call0_cst : Ref sig .tc := ⟨.hbm, 179, rfl⟩
abbrev main_call9_call0_v0 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_cst_5 : Ref sig .tc := ⟨.hbm, 185, rfl⟩
abbrev main_v60 : Ref sig .tc := ⟨.hbm, 186, rfl⟩
abbrev main_v61 : Ref sig .tc := ⟨.hbm, 187, rfl⟩
abbrev main_call10_v0 : Ref sig .tc := ⟨.hbm, 188, rfl⟩
abbrev main_call10_v1 : Ref sig .tc := ⟨.hbm, 189, rfl⟩
abbrev main_v62 : Ref sig .tc := ⟨.hbm, 190, rfl⟩
abbrev main_cst_6 : Ref sig .tc := ⟨.hbm, 191, rfl⟩
abbrev main_v63 : Ref sig .tc := ⟨.hbm, 192, rfl⟩
abbrev main_v64 : Ref sig .tc := ⟨.hbm, 193, rfl⟩
abbrev main_cst_7 : Ref sig .tc := ⟨.hbm, 194, rfl⟩
abbrev main_v65 : Ref sig .tc := ⟨.hbm, 195, rfl⟩
abbrev main_v66 : Ref sig .tc := ⟨.hbm, 196, rfl⟩
abbrev main_v67 : Ref sig .tc := ⟨.hbm, 197, rfl⟩
abbrev main_v68 : Ref sig .tc := ⟨.hbm, 198, rfl⟩
abbrev main_v69 : Ref sig .tc := ⟨.hbm, 199, rfl⟩
abbrev main_cst_8 : Ref sig .tc := ⟨.hbm, 200, rfl⟩
abbrev main_v70 : Ref sig .tc := ⟨.hbm, 201, rfl⟩
abbrev main_v71 : Ref sig .tc := ⟨.hbm, 202, rfl⟩
abbrev main_cst_9 : Ref sig .tc := ⟨.hbm, 203, rfl⟩
abbrev main_v72 : Ref sig .tc := ⟨.hbm, 204, rfl⟩
abbrev main_v73 : Ref sig .tc := ⟨.hbm, 205, rfl⟩
abbrev main_v74 : Ref sig .tc := ⟨.hbm, 206, rfl⟩
abbrev main_cst_10 : Ref sig .tc := ⟨.hbm, 207, rfl⟩
abbrev main_v75 : Ref sig .tc := ⟨.hbm, 208, rfl⟩
abbrev main_v76 : Ref sig .tc := ⟨.hbm, 209, rfl⟩
abbrev main_call11_v0 : Ref sig .tc := ⟨.hbm, 210, rfl⟩
abbrev main_call11_v1 : Ref sig .tc := ⟨.hbm, 211, rfl⟩
abbrev main_v77 : Ref sig .tc := ⟨.hbm, 212, rfl⟩
abbrev main_cst_11 : Ref sig .tc := ⟨.hbm, 213, rfl⟩
abbrev main_v78 : Ref sig .tc := ⟨.hbm, 214, rfl⟩
abbrev main_v79 : Ref sig .tc := ⟨.hbm, 215, rfl⟩
abbrev main_cst_12 : Ref sig .tc := ⟨.hbm, 216, rfl⟩
abbrev main_v80 : Ref sig .tc := ⟨.hbm, 217, rfl⟩
abbrev main_v81 : Ref sig .tc := ⟨.hbm, 218, rfl⟩
abbrev main_v82 : Ref sig .tc := ⟨.hbm, 219, rfl⟩
abbrev main_v83 : Ref sig .tc := ⟨.hbm, 220, rfl⟩
abbrev main_v84 : Ref sig .tc := ⟨.hbm, 221, rfl⟩
abbrev main_cst_13 : Ref sig .tc := ⟨.hbm, 222, rfl⟩
abbrev main_v85 : Ref sig .tc := ⟨.hbm, 223, rfl⟩
abbrev main_v86 : Ref sig .tc := ⟨.hbm, 224, rfl⟩
abbrev main_v87 : Ref sig .tc := ⟨.hbm, 225, rfl⟩
abbrev main_cst_14 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_c : Ref sig .tc := ⟨.hbm, 230, rfl⟩
abbrev main_call12_v0 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_c_15 : Ref sig .tc := ⟨.hbm, 235, rfl⟩
abbrev main_call13_v0 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_c_16 : Ref sig .tc := ⟨.hbm, 240, rfl⟩
abbrev main_call14_v0 : Ref sig .tc := ⟨.hbm, 241, rfl⟩
abbrev main_v97 : Ref sig .tc := ⟨.hbm, 242, rfl⟩
abbrev main_v98 : Ref sig .tc := ⟨.hbm, 243, rfl⟩
abbrev main_v99 : Ref sig .tc := ⟨.hbm, 244, rfl⟩
abbrev main_c_17 : Ref sig .tc := ⟨.hbm, 245, rfl⟩
abbrev main_call15_v0 : Ref sig .tc := ⟨.hbm, 246, rfl⟩
abbrev main_v100 : Ref sig .tc := ⟨.hbm, 247, rfl⟩
abbrev main_v101 : Ref sig .tc := ⟨.hbm, 248, rfl⟩
abbrev main_v102 : Ref sig .tc := ⟨.hbm, 249, rfl⟩
abbrev main_c_18 : Ref sig .tc := ⟨.hbm, 250, rfl⟩
abbrev main_call16_v0 : Ref sig .tc := ⟨.hbm, 251, rfl⟩
abbrev main_v103 : Ref sig .tc := ⟨.hbm, 252, rfl⟩
abbrev main_v104 : Ref sig .tc := ⟨.hbm, 253, rfl⟩
abbrev main_v105 : Ref sig .tc := ⟨.hbm, 254, rfl⟩
abbrev main_c_19 : Ref sig .tc := ⟨.hbm, 255, rfl⟩
abbrev main_call17_v0 : Ref sig .tc := ⟨.hbm, 256, rfl⟩
abbrev main_v106 : Ref sig .tc := ⟨.hbm, 257, rfl⟩
abbrev main_v107 : Ref sig .tc := ⟨.hbm, 258, rfl⟩
abbrev main_v108 : Ref sig .tc := ⟨.hbm, 259, rfl⟩
abbrev main_c_20 : Ref sig .tc := ⟨.hbm, 260, rfl⟩
abbrev main_call18_v0 : Ref sig .tc := ⟨.hbm, 261, rfl⟩
abbrev main_v109 : Ref sig .tc := ⟨.hbm, 262, rfl⟩
abbrev main_v110 : Ref sig .tc := ⟨.hbm, 263, rfl⟩
abbrev main_v111 : Ref sig .tc := ⟨.hbm, 264, rfl⟩
abbrev main_v112 : Ref sig .tc := ⟨.hbm, 265, rfl⟩
abbrev main_c_21 : Ref sig .tc := ⟨.hbm, 266, rfl⟩
abbrev main_call19_v0 : Ref sig .tc := ⟨.hbm, 267, rfl⟩
abbrev main_v113 : Ref sig .tc := ⟨.hbm, 268, rfl⟩
abbrev main_v114 : Ref sig .tc := ⟨.hbm, 269, rfl⟩
abbrev main_v115 : Ref sig .tc := ⟨.hbm, 270, rfl⟩
abbrev main_c_22 : Ref sig .tc := ⟨.hbm, 271, rfl⟩
abbrev main_call20_v0 : Ref sig .tc := ⟨.hbm, 272, rfl⟩
abbrev main_v116 : Ref sig .tc := ⟨.hbm, 273, rfl⟩
abbrev main_v117 : Ref sig .tc := ⟨.hbm, 274, rfl⟩
abbrev main_c_23 : Ref sig .tc := ⟨.hbm, 275, rfl⟩
abbrev main_call21_v0 : Ref sig .tc := ⟨.hbm, 276, rfl⟩
abbrev main_v118 : Ref sig .tc := ⟨.hbm, 277, rfl⟩
abbrev main_v119 : Ref sig .tc := ⟨.hbm, 278, rfl⟩

abbrev nD : Nat := 1
abbrev τ : Topo := Topo.v7x

variable {F : FTy → Type} [FloatOps F]
-- ==== Proof.Reals.lean ====
/- Extended reals that are real numbers: what the operations of the idealized programs do to them, the float
   words these programs name, and the precondition that an array holds real numbers only. -/
module

public import Idealize.ShloMosaic.Lib.Pipeline.ValueKit
public import Idealize.ShloMosaic.Lib.Pointwise
public import Idealize.ShloMosaic.Lib.Claim
public import Idealize.ShloMosaic.Lib.IdealHost

@[expose] public section

noncomputable section

namespace Cert.Reals

open Idealize.ShloMosaic

/-- A finite sum of real numbers, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of two real numbers, the lower one not zero. -/
theorem div_coe_coe {y : ℝ} (h : y ≠ 0) (x : ℝ) : Ideal.div (x : EReal) (y : EReal) = ((x / y : ℝ) : EReal) := by
  rw [Ideal.div_coe h, ← EReal.coe_mul, mul_one_div]

/-- The reciprocal root of a positive real number. -/
theorem rsqrt_pos {x : ℝ} (h : 0 < x) : Ideal.rsqrt (x : EReal) = (((Real.sqrt x)⁻¹ : ℝ) : EReal) := by
  rw [Ideal.rsqrt_coe, if_neg h.le.not_gt, if_neg h.ne']

theorem half_f32 : Ideal.ofBits .f32 0x3F000000#32 = ((1 / 2 : ℝ) : EReal) := by
  simp [Ideal.ofBits, Ideal.ieee, -EReal.coe_mul]; norm_num

theorem neg_half_f32 : Ideal.ofBits .f32 0xBF000000#32 = ((-(1 / 2) : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

theorem k_f32 : Ideal.ofBits .f32 0x44800000#32 = ((1024 : ℝ) : EReal) := by
  simp [Ideal.ofBits, Ideal.ieee, -EReal.coe_mul]; norm_num

theorem inv_k_f32 : Ideal.ofBits .f32 0x3A800000#32 = ((1 / 1024 : ℝ) : EReal) := by
  simp [Ideal.ofBits, Ideal.ieee, -EReal.coe_mul]; norm_num

theorem zero_f32 : Ideal.ofBits .f32 0x00000000#32 = ((0 : ℝ) : EReal) := by
  simp [Ideal.ofBits, Ideal.ieee]

theorem zero_bf16 : Ideal.ofBits .bf16 0x0000#16 = ((0 : ℝ) : EReal) := by
  simp [Ideal.ofBits, Ideal.ieee]

/-- The number that the programs add under the root of a norm. -/
def eps : ℝ := 8796093 / 8796093022208

theorem eps_f32 : Ideal.ofBits .f32 0x358637BD#32 = ((eps : ℝ) : EReal) := by
  simp [Ideal.ofBits, Ideal.ieee, -EReal.coe_mul, eps]; norm_num

theorem eps_pos : 0 < eps := by norm_num [eps]

theorem neg_inf_f32 : Ideal.ofBits .f32 0xFF800000#32 = ⊥ := by
  simp [Ideal.ofBits, Ideal.ieee]

/-- The largest of finitely many numbers, each real or −∞ and one real, is real. -/
theorem fold_max_real {ι : Type} (s : Finset ι) (f : ι → EReal) (h : ∀ x ∈ s, f x < ⊤) (h' : ∃ x ∈ s, ⊥ < f x) :
    ∃ M : ℝ, Finset.fold max ⊥ f s = ((M : ℝ) : EReal) := by
  have lt : Finset.fold max ⊥ f s < ⊤ := (Finset.fold_max_lt _).mpr ⟨bot_lt_top, h⟩
  have gt : ⊥ < Finset.fold max ⊥ f s := (Finset.lt_fold_max _).mpr (Or.inr h')
  exact ⟨_, (EReal.coe_toReal lt.ne gt.ne').symm⟩

theorem inf_f32 : Ideal.ofBits .f32 0x7F800000#32 = ⊤ := by
  simp [Ideal.ofBits, Ideal.ieee]

/-- An array whose every entry is below infinity in absolute value is an array of real numbers. -/
theorem exists_real {s : Shape} {h : (⟨0, ![]⟩ : Shape).BroadcastsInDim s (![] : Fin 0 → Fin s.rank)} {x : FVec Ideal s .f32}
    (hx : cmpf .olt (Host.absf x) (broadcastInDim s ![] h (constant ⟨0, ![]⟩ .f32 0x7F800000#32)) = fun _ => 1#1) :
    ∃ r : s.Idx → ℝ, x = fun i => ((r i : ℝ) : EReal) := by
  have key : ∀ i, ∃ r : ℝ, x i = ((r : ℝ) : EReal) := fun i => by
    have hi := congrFun hx i
    have hi' : Ideal.cmp .olt (max (x i) (-(x i))) (Ideal.ofBits .f32 0x7F800000#32) = 1#1 := hi
    rw [inf_f32] at hi'
    have lt : max (x i) (-(x i)) < ⊤ := by
      by_contra hn
      simp [Ideal.cmp, hn] at hi'
    rw [max_lt_iff] at lt
    induction h : x i using EReal.rec with
    | bot => rw [h] at lt; simp at lt
    | top => rw [h] at lt; simp at lt
    | coe r => exact ⟨r, rfl⟩
  choose r hr using key
  exact ⟨r, funext hr⟩

/-! ### Norms -/

/-- The mean square of a row (of `d` entries) and the number added to it. -/
def ms (d : ℝ) {n : ℕ} (x : Fin n → ℝ) : ℝ := (∑ k, x k * x k) / d + eps

theorem ms_pos {d : ℝ} (hd : 0 < d) {n : ℕ} (x : Fin n → ℝ) : 0 < ms d x :=
  add_pos_of_nonneg_of_pos (div_nonneg (Finset.sum_nonneg fun k _ => mul_self_nonneg (x k)) hd.le) eps_pos

/-- The reciprocal of a row's root mean square. -/
def rt (d : ℝ) {n : ℕ} (x : Fin n → ℝ) : ℝ := (Real.sqrt (ms d x))⁻¹

/-- The derivative of the reciprocal root, as it is written with a quotient and with a cube. -/
theorem rt_div_ms {d : ℝ} (hd : 0 < d) {n : ℕ} (x : Fin n → ℝ) : rt d x / ms d x = rt d x * rt d x * rt d x := by
  have h := Real.mul_self_sqrt (ms_pos hd x).le
  have h0 : Real.sqrt (ms d x) ≠ 0 := (Real.sqrt_pos.mpr (ms_pos hd x)).ne'
  rw [rt]
  nth_rewrite 2 [← h]
  field_simp

/-- A sum over blocks of equal length is the sum over all positions. -/
theorem sum_blocks {M : Type*} [AddCommMonoid M] (b : ℕ) (f : ℕ → M) : ∀ n : ℕ,
    ∑ p ∈ Finset.range n, ∑ r : Fin b, f (b * p + r.val) = ∑ q ∈ Finset.range (b * n), f q
  | 0 => by simp
  | n + 1 => by
    rw [Finset.sum_range_succ, sum_blocks b f n, Nat.mul_succ, Finset.sum_range_add, Finset.sum_range (n := b)]

/-- A sum whose first `a` terms vanish. -/
theorem sum_drop {M : Type*} [AddCommMonoid M] (a n : ℕ) (f : ℕ → M) (h : ∀ q < a, f q = 0) :
    ∑ q ∈ Finset.range (a + n), f q = ∑ q ∈ Finset.range n, f (a + q) := by
  rw [Finset.sum_range_add, Finset.sum_eq_zero (fun q hq => h q (Finset.mem_range.mp hq)), zero_add]

/-- A two-dimensional array of reals, its rows by number. -/
def rowsOf {n d : ℕ} (r : (⟨2, ![n, d]⟩ : Shape).Idx → ℝ) (p : ℕ) (k : Fin d) : ℝ :=
  if h : p < n then r (ix2 ⟨p, h⟩ k) else 0

theorem rowsOf_spec {n d : ℕ} (r : (⟨2, ![n, d]⟩ : Shape).Idx → ℝ) :
    (fun i => ((r i : ℝ) : EReal)) = fun i : (⟨2, ![n, d]⟩ : Shape).Idx => ((rowsOf r (i 0).val (i 1) : ℝ) : EReal) := by
  funext i
  have h : (i 0).val < n := (i 0).isLt
  simp only [rowsOf]
  rw [dif_pos h]
  exact congrArg (fun j => ((r j : ℝ) : EReal)) (by
    funext a
    match a with
    | 0 => rfl
    | 1 => rfl)

/-- A one-dimensional array of reals. -/
theorem lanesOf_spec {d : ℕ} (r : (⟨1, ![d]⟩ : Shape).Idx → ℝ) :
    (fun i => ((r i : ℝ) : EReal)) = fun i : (⟨1, ![d]⟩ : Shape).Idx => ((r (ix1 (i 0)) : ℝ) : EReal) := by
  funext i
  exact congrArg (fun j => ((r j : ℝ) : EReal)) (by
    funext a
    match a with
    | 0 => rfl)

/-- A real array by its two coordinates. -/
def byCoords {n d : ℕ} (r : (⟨2, ![n, d]⟩ : Shape).Idx → ℝ) (i j : ℕ) : ℝ :=
  if h : i < n ∧ j < d then r (ix2 ⟨i, h.1⟩ ⟨j, h.2⟩) else 0

theorem byCoords_spec {n d : ℕ} (r : (⟨2, ![n, d]⟩ : Shape).Idx → ℝ) :
    (fun i => ((r i : ℝ) : EReal)) = fun i : (⟨2, ![n, d]⟩ : Shape).Idx => ((byCoords r (i 0).val (i 1).val : ℝ) : EReal) := by
  funext i
  have h : (i 0).val < n ∧ (i 1).val < d := ⟨(i 0).isLt, (i 1).isLt⟩
  refine congrArg (fun r : ℝ => (r : EReal)) (Eq.trans ?_ (dif_pos h).symm)
  refine congrArg r ?_
  funext a
  match a with
  | ⟨0, _⟩ => rfl
  | ⟨1, _⟩ => rfl

/-- A real list by its coordinate. -/
def byCoord {n : ℕ} (r : (⟨1, ![n]⟩ : Shape).Idx → ℝ) (i : ℕ) : ℝ := if h : i < n then r (ix1 ⟨i, h⟩) else 0

theorem byCoord_spec {n : ℕ} (r : (⟨1, ![n]⟩ : Shape).Idx → ℝ) :
    (fun i => ((r i : ℝ) : EReal)) = fun i : (⟨1, ![n]⟩ : Shape).Idx => ((byCoord r (i 0).val : ℝ) : EReal) := by
  funext i
  have h : (i 0).val < n := (i 0).isLt
  refine congrArg (fun r : ℝ => (r : EReal)) (Eq.trans ?_ (dif_pos h).symm)
  refine congrArg r ?_
  funext a
  match a with
  | ⟨0, _⟩ => rfl

end Cert.Reals

end
-- ==== Proof.LossHead.Row.lean ====
/- One block of rows of the loss head: what its body computes from rows of real numbers. -/
module

public import proofs.«01_k».proof.Proof.Reals
public import proofs.«01_k».proof.Proof.Gen.LossHeadIdeal.Value

@[expose] public section

set_option maxRecDepth 16384

noncomputable section

namespace Cert.LossHeadIdeal.Mine

open Idealize.ShloMosaic Idealize.ShloMosaic.TcCoe Idealize.SL.Sem
open Cert.LossHeadIdeal Cert.LossHeadIdeal.Gen Cert.Reals

/-- The error of one row: normed, weighted, the target taken away. -/
def err (x t g : Fin 1024 → ℝ) (k : Fin 1024) : ℝ := x k * rt 1024 x * g k - t k

/-- The loss of one row. -/
def lossRow (x t g : Fin 1024 → ℝ) : ℝ := ∑ k, err x t g k * err x t g k

/-- One row's part of the gradient of the gain. -/
def dgRow (x t g : Fin 1024 → ℝ) (k : Fin 1024) : ℝ := err x t g k * (1 / 1024) * (x k * rt 1024 x)

/-- The gradient of one row. -/
def dxRow (x t g : Fin 1024 → ℝ) (k : Fin 1024) : ℝ :=
  rt 1024 x * (err x t g k * (1 / 1024) * g k
    - x k * rt 1024 x * ((∑ l, err x t g l * (1 / 1024) * g l * (x l * rt 1024 x)) / 1024))

variable (x t : Fin 128 → Fin 1024 → ℝ) (g : Fin 1024 → ℝ)

/-- A block of real rows as an array. -/
def rows (x : Fin 128 → Fin 1024 → ℝ) : Vec Ideal S128x1024 .f32 := fun i => ((x (i 0) (i 1) : ℝ) : EReal)

/-- A real row as an array. -/
def row (g : Fin 1024 → ℝ) : Vec Ideal S1x1024 .f32 := fun i => ((g (i 1) : ℝ) : EReal)

theorem pay10 (i : S128x1.Idx) : k0_pay10 (rows x) i = ((rt 1024 (x (i 0)) : ℝ) : EReal) := by
  have h : k0_pay10 (rows x) i = Ideal.rsqrt ((ms 1024 (x (i 0)) : ℝ) : EReal) := by
    pointwise [k0_pay10, k0_pay8, rows]
    rw [k_f32, eps_f32]
    simp only [← EReal.coe_mul, coe_sum]
    rw [div_coe_coe (by norm_num), ← EReal.coe_add]
    rfl
  rw [h, rsqrt_pos (ms_pos (by norm_num) _)]
  rfl

theorem pay11 (i : S128x1024.Idx) : k0_pay11 (rows x) i = ((x (i 0) (i 1) * rt 1024 (x (i 0)) : ℝ) : EReal) := by
  pointwise [k0_pay11, k0_pay8]
  rw [pay10, rows, ← EReal.coe_mul]
  rfl

theorem pay12 (i : S128x1024.Idx) :
    k0_pay12 (rows x) (row g) (rows t) i = ((err (x (i 0)) (t (i 0)) g (i 1) : ℝ) : EReal) := by
  pointwise [k0_pay12, k0_pay9]
  simp only [pay11]
  simp only [rows, row, ← EReal.coe_mul, ← EReal.coe_sub]
  rfl

theorem pay13 (l : ℝ) (i : S1x1.Idx) : k0_pay13 (rows x) (row g) (rows t) (fun _ => ((l : ℝ) : EReal)) i
    = ((l + 1 / 2 * (∑ p, lossRow (x p) (t p) g) / 1024 : ℝ) : EReal) := by
  pointwise [k0_pay13]
  simp only [pay12]
  rw [k_f32, half_f32]
  simp only [← EReal.coe_mul, coe_sum]
  rw [div_coe_coe (by norm_num), ← EReal.coe_add]
  rfl

theorem pay14 (i : S128x1024.Idx) :
    k0_pay14 (rows x) (row g) (rows t) i = ((err (x (i 0)) (t (i 0)) g (i 1) * (1 / 1024) : ℝ) : EReal) := by
  pointwise [k0_pay14]
  rw [pay12, inv_k_f32, ← EReal.coe_mul]

theorem pay5 (d : Fin 1024 → ℝ) (i : S1x1024.Idx) :
    k0_pay5 (k0_pay15 (row d)) (k0_pay16 (rows x) (row g) (rows t)) i
      = ((d (i 1) + ∑ p, dgRow (x p) (t p) g (i 1) : ℝ) : EReal) := by
  pointwise [k0_pay5, k0_pay15, k0_pay16]
  simp only [pay14, pay11]
  simp only [row, ← EReal.coe_mul, coe_sum, ← EReal.coe_add]
  rfl

theorem pay6 (i : S128x1024.Idx) :
    k0_pay6 (k0_pay9 (row g)) (k0_pay10 (rows x)) (k0_pay11 (rows x)) (k0_pay14 (rows x) (row g) (rows t)) i
      = ((dxRow (x (i 0)) (t (i 0)) g (i 1) : ℝ) : EReal) := by
  pointwise [k0_pay6, k0_pay9]
  simp only [pay14, pay11, pay10]
  rw [k_f32]
  simp only [row, ← EReal.coe_mul, coe_sum]
  rw [div_coe_coe (by norm_num), ← EReal.coe_mul, ← EReal.coe_sub, ← EReal.coe_mul]
  rfl

theorem pay7 (i : S128x1024.Idx) :
    k0_pay7 (k0_pay9 (row g)) (k0_pay10 (rows x)) (k0_pay11 (rows x)) (k0_pay14 (rows x) (row g) (rows t)) i
      = ((dxRow (x (i 0)) (t (i 0)) g (i 1) : ℝ) : EReal) := by
  pointwise [k0_pay7]
  exact pay6 x t g i

end Cert.LossHeadIdeal.Mine

end
-- ==== Proof.LossHead.Blocks.lean ====
/- The loss head's arrays: each block of rows it reads, and what each grid point leaves in each result. -/
module

public import proofs.«01_k».proof.Proof.LossHead.Row

@[expose] public section

set_option maxRecDepth 16384

noncomputable section

namespace Cert.LossHeadIdeal.Mine

open Idealize.ShloMosaic Idealize.ShloMosaic.TcCoe Idealize.SL.Sem
open Idealize.ShloMosaic.Pipeline (Dat)
open Cert.LossHeadIdeal Cert.LossHeadIdeal.Gen Cert.Reals

variable (m : (ℓ : Loc nD τ sig) → Buf (Elt Ideal) ℓ)

/-- The arguments are real arrays: rows `x` of the stream, rows `t` of the target, the gain `g`. -/
structure Args (c : Dev nD) (x t : ℕ → Fin 1024 → ℝ) (g : Fin 1024 → ℝ) : Prop where
  x : m ((c.tc : Thread nD τ).loc main_arg0) = fun i : S4112x1024.Idx => ((x (i 0).val (i 1) : ℝ) : EReal)
  t : m ((c.tc : Thread nD τ).loc main_arg1) = fun i : S4096x1024.Idx => ((t (i 0).val (i 1) : ℝ) : EReal)
  g : m ((c.tc : Thread nD τ).loc main_arg2) = fun i : S1024.Idx => ((g (i 0) : ℝ) : EReal)

variable {m}
variable {c : Dev nD} {x t : ℕ → Fin 1024 → ℝ} {g : Fin 1024 → ℝ} (A : Args m c x t g)

theorem idx : ∀ t : Fin cfg0.N, win0_0.index t = ![t.val, 0] ∧ win0_1.index t = ![t.val - 1, 0] ∧ win0_2.index t = ![0, 0]
    ∧ win0_3.index t = ![0, 0] ∧ win0_4.index t = ![t.val, 0] ∧ win0_5.index t = ![t.val, 0] ∧ win0_6.index t = ![0, 0] :=
  (by decide +kernel : ∀ t : Fin grid0.N, _)

include A in
/-- The stream as the region reads it: 112 rows of zeros in front. -/
theorem V1 : V m c main_v1 = fun i : S4224x1024.Idx =>
    if (i 0).val < 112 then (0 : EReal) else ((x ((i 0).val - 112) (i 1) : ℝ) : EReal) := by
  funext i
  entry_read
  pointwise
  split
  · rfl
  · exact congrFun A.x _

include A in
/-- The gain as the region reads it: one row. -/
theorem V2 : V m c main_v2 = row g := by
  funext i
  entry_read
  pointwise
  exact congrFun A.g _

include A in
theorem blk0 (p : Fin cfg0.N) (hp : 1 ≤ p.val) : iblk m c 0 p = rows (fun i k => x (128 * p.val + i.val - 112) k) := by
  funext y
  blk_simp [iblk]
  rw [V1 A]
  blk_simp [idx p]
  idx_bounds
  rw [if_neg (by omega)]
  exact congrArg₂ (fun a b => ((x a b : ℝ) : EReal)) (by rw [mul_comm]) (Fin.ext (by blk_simp [idx p]))

include A in
theorem blk1 (p : Fin cfg0.N) (hp : 1 ≤ p.val) : iblk m c 1 p = rows (fun i k => t (128 * (p.val - 1) + i.val) k) := by
  funext y
  blk_simp [iblk]
  rw [V_main_arg1, A.t]
  blk_simp [rows, idx p]
  exact congrArg₂ (fun a b => ((t a b : ℝ) : EReal)) (by rw [mul_comm]) (Fin.ext (by blk_simp [idx p]))

include A in
theorem blk2 (p : Fin cfg0.N) : iblk m c 2 p = row g := by
  funext y
  blk_simp [iblk]
  rw [V2 A]
  blk_simp [row, idx p]
  exact congrArg (fun b => ((g b : ℝ) : EReal)) (Fin.ext (by blk_simp [idx p]))

include A in
/-- The gradient of the stream, as the region leaves it. -/
theorem final4 : (dats m 0 c).arrAt 4 cfg0.N = fun i : S4224x1024.Idx =>
    if (i 0).val < 128 then (0 : EReal)
    else ((dxRow (x ((i 0).val - 112)) (t ((i 0).val - 128)) g (i 1) : ℝ) : EReal) := by
  refine (dats m 0 c).arrAt_eq_of_covers 4 _ (by decide +kernel) fun p _ y => ?_
  blk_simp
  rw [after0_4]
  have hN : p.val < 33 := p.isLt
  by_cases h : 1 ≤ p.val
  · rw [outsAt0_B m c p (by omega) h]
    frame_out
    rw [blk0 A p h, blk1 A p h, blk2 A p, pay6]
    blk_simp [idx p]
    idx_bounds
    rw [if_neg (by omega), show p.val * 128 + (y 0).val - 112 = 128 * p.val + (y 0).val - 112 by omega,
      show p.val * 128 + (y 0).val - 128 = 128 * (p.val - 1) + (y 0).val by omega]
    exact congrArg (fun b => ((dxRow _ _ g b : ℝ) : EReal)) (Fin.ext (by blk_simp [idx p]))
  · rw [outsAt0_A m c p (by omega) h]
    frame_out
    blk_simp [idx p]
    idx_bounds
    rw [if_pos (by omega)]
    pointwise [k0_pay3]

include A in
/-- The same gradient, cast. -/
theorem final5 : (dats m 0 c).arrAt 5 cfg0.N = fun i : S4224x1024.Idx =>
    if (i 0).val < 128 then (0 : EReal)
    else ((dxRow (x ((i 0).val - 112)) (t ((i 0).val - 128)) g (i 1) : ℝ) : EReal) := by
  refine (dats m 0 c).arrAt_eq_of_covers 5 _ (by decide +kernel) fun p _ y => ?_
  blk_simp
  rw [after0_5]
  have hN : p.val < 33 := p.isLt
  by_cases h : 1 ≤ p.val
  · rw [outsAt0_B m c p (by omega) h]
    frame_out
    rw [blk0 A p h, blk1 A p h, blk2 A p, pay7]
    blk_simp [idx p]
    idx_bounds
    rw [if_neg (by omega), show p.val * 128 + (y 0).val - 112 = 128 * p.val + (y 0).val - 112 by omega,
      show p.val * 128 + (y 0).val - 128 = 128 * (p.val - 1) + (y 0).val by omega]
    exact congrArg (fun b => ((dxRow _ _ g b : ℝ) : EReal)) (Fin.ext (by blk_simp [idx p]))
  · rw [outsAt0_A m c p (by omega) h]
    frame_out
    blk_simp [idx p]
    idx_bounds
    rw [if_pos (by omega)]
    pointwise [k0_pay4]

/-- What the block of point `p + 1` adds to the loss. -/
def lossBlk (x t : ℕ → Fin 1024 → ℝ) (g : Fin 1024 → ℝ) (p : ℕ) : ℝ :=
  1 / 2 * (∑ r : Fin 128, lossRow (x (128 * (p + 1) + r.val - 112)) (t (128 * p + r.val)) g) / 1024

/-- What the block of point `p + 1` adds to the gain's gradient. -/
def dgBlk (x t : ℕ → Fin 1024 → ℝ) (g : Fin 1024 → ℝ) (p : ℕ) (k : Fin 1024) : ℝ :=
  ∑ r : Fin 128, dgRow (x (128 * (p + 1) + r.val - 112)) (t (128 * p + r.val)) g k

include A in
/-- The two running sums after each point. -/
theorem acc : ∀ (n : ℕ) (hn : n < cfg0.N),
    (outsAt0 m c n hn).1 = (fun _ => ((∑ p ∈ Finset.range n, lossBlk x t g p : ℝ) : EReal))
    ∧ (outsAt0 m c n hn).2.2.2 = row (fun k => ∑ p ∈ Finset.range n, dgBlk x t g p k) := by
  intro n
  induction n with
  | zero =>
    intro hn
    rw [show outsAt0 m c 0 hn = _ from outsAt0_A m c ⟨0, hn⟩ (by simp) (by simp)]
    constructor
    · funext j
      frame_out
      pointwise [k0_pay1]
      simp
    · funext j
      frame_out
      pointwise [k0_pay2]
      simp [row]
  | succ n ih =>
    intro hn
    have hN : n + 1 < 33 := hn
    have h1 : 1 ≤ (⟨n + 1, hn⟩ : Fin cfg0.N).val := by simp
    obtain ⟨ih1, ih2⟩ := ih (Nat.lt_of_succ_lt hn)
    rw [show outsAt0 m c (n + 1) hn = _ from outsAt0_B m c ⟨n + 1, hn⟩ (by simp; omega) h1]
    constructor
    · funext j
      frame_out
      simp only [Nat.add_sub_cancel]
      rw [blk0 A _ h1, blk1 A _ h1, blk2 A, ih1, pay13, Finset.sum_range_succ]
      rfl
    · funext j
      frame_out
      simp only [Nat.add_sub_cancel]
      rw [blk0 A _ h1, blk1 A _ h1, blk2 A, ih2, pay5]
      simp only [row, Finset.sum_range_succ]
      rfl

theorem flush3 : ∀ t : Fin cfg0.N, (cfg0.win 3).flush t = true → t.val = 32 :=
  (by decide +kernel : ∀ t : Fin grid0.N, _)

theorem flush6 : ∀ t : Fin cfg0.N, (cfg0.win 6).flush t = true → t.val = 32 :=
  (by decide +kernel : ∀ t : Fin grid0.N, _)

include A in
/-- The loss, as the region leaves it. -/
theorem final3 : (dats m 0 c).arrAt 3 cfg0.N = fun _ : S1x1.Idx =>
    ((∑ p ∈ Finset.range 32, lossBlk x t g p : ℝ) : EReal) := by
  refine (dats m 0 c).arrAt_eq_of_covers 3 _ (by decide +kernel) fun p hp y => ?_
  blk_simp
  rw [after0_3, (acc A p.val p.isLt).1, flush3 p hp]

include A in
/-- The gain's gradient, as the region leaves it. -/
theorem final6 : (dats m 0 c).arrAt 6 cfg0.N = row (fun k => ∑ p ∈ Finset.range 32, dgBlk x t g p k) := by
  refine (dats m 0 c).arrAt_eq_of_covers 6 _ (by decide +kernel) fun p hp y => ?_
  blk_simp
  rw [after0_6, (acc A p.val p.isLt).2, flush6 p hp]
  blk_simp [row, idx p]
  exact congrArg (fun b => ((∑ p ∈ Finset.range 32, dgBlk x t g p b : ℝ) : EReal)) (Fin.ext (by blk_simp [idx p]))

end Cert.LossHeadIdeal.Mine

end
-- ==== Proof.LossHead.Ref.lean ====
/- The reference of the loss head, stage by stage, at arrays of real numbers. -/
module

public import proofs.«01_k».proof.Proof.LossHead.Row
public import proofs.«01_k».proof.Proof.Gen.LossHeadRefIdeal.Read

@[expose] public section

set_option maxRecDepth 16384

noncomputable section

namespace Cert.LossHeadRefIdeal.Mine

open Idealize.ShloMosaic Idealize.ShloMosaic.TcCoe Idealize.SL.Sem
open Cert.LossHeadRefIdeal Cert.LossHeadRefIdeal.Gen Cert.LossHeadRefIdeal.Read Cert.Reals
open Cert.LossHeadIdeal.Mine (err lossRow dgRow dxRow)

variable (x t : ℕ → Fin 1024 → ℝ) (g : Fin 1024 → ℝ)

/-- The three arguments as arrays. -/
def X : (⟨S4112x1024, .f32⟩ : BufTy).Contents (Elt Ideal) := fun i : S4112x1024.Idx => ((x (i 0).val (i 1) : ℝ) : EReal)
def T : (⟨S4096x1024, .f32⟩ : BufTy).Contents (Elt Ideal) := fun i : S4096x1024.Idx => ((t (i 0).val (i 1) : ℝ) : EReal)
def G : (⟨S1024, .f32⟩ : BufTy).Contents (Elt Ideal) := fun i : S1024.Idx => ((g (i 0) : ℝ) : EReal)

theorem v6 (i : S4112x1.Idx) : val_main_v6 (F := Ideal) (X x) i = ((ms 1024 (x (i 0).val) : ℝ) : EReal) := by
  simp only [val_main_v6_apply, val_main_v5_apply, val_main_cst_1_apply, val_main_v4_apply, val_main_v3_apply,
    val_main_cst_0_apply, val_main_v2_apply, val_main_v1_apply, val_main_cst_apply, val_main_v0_apply]
  pointwise [X]
  rw [k_f32, eps_f32]
  simp only [← EReal.coe_mul, coe_sum]
  rw [div_coe_coe (by norm_num), ← EReal.coe_add]
  rfl

theorem v7 (i : S4112x1.Idx) : val_main_v7 (F := Ideal) (X x) i = ((rt 1024 (x (i 0).val) : ℝ) : EReal) := by
  rw [val_main_v7_apply, v6]
  exact rsqrt_pos (ms_pos (by norm_num) _)

theorem v10 (i : S4112x1.Idx) : val_main_v10 (F := Ideal) (X x) i
    = ((-(1 / 2) * (rt 1024 (x (i 0).val) * rt 1024 (x (i 0).val) * rt 1024 (x (i 0).val)) : ℝ) : EReal) := by
  simp only [val_main_v10_apply, val_main_v9_apply, val_main_cst_2_apply, val_main_v8_apply, v6, v7]
  pointwise
  rw [neg_half_f32, div_coe_coe (ms_pos (by norm_num) _).ne', ← EReal.coe_mul, rt_div_ms (by norm_num)]

theorem v12 (i : S4112x1024.Idx) :
    val_main_v12 (F := Ideal) (X x) i = ((x (i 0).val (i 1) * rt 1024 (x (i 0).val) : ℝ) : EReal) := by
  simp only [val_main_v12_apply, val_main_v11_apply, v7]
  pointwise [X]
  rw [← EReal.coe_mul]

theorem v17 (i : S4096x1024.Idx) :
    val_main_v17 (F := Ideal) (X x) (T t) (G g) i = ((err (x (16 + (i 0).val)) (t (i 0).val) g (i 1) : ℝ) : EReal) := by
  simp only [val_main_v17_apply, val_main_v16_apply, val_main_v15_apply, v12, val_main_v14_apply, val_main_v13_apply]
  pointwise [T, G]
  rw [← EReal.coe_mul, ← EReal.coe_sub]
  rfl

theorem v54 (i : S1x1.Idx) : val_main_v54 (F := Ideal) (X x) (T t) (G g) i
    = ((1 / 2 * ∑ p : Fin 4096, lossRow (x (16 + p.val)) (t p.val) g / 1024 : ℝ) : EReal) := by
  have h : ∀ j : S4096.Idx, val_main_v23 (F := Ideal) (X x) (T t) (G g) j
      = ((lossRow (x (16 + (j 0).val)) (t (j 0).val) g / 1024 : ℝ) : EReal) := fun j => by
    simp only [val_main_v23_apply, val_main_v22_apply, val_main_cst_5_apply, val_main_v21_apply, val_main_cst_4_apply,
      val_main_v18_apply, v17]
    pointwise
    rw [k_f32]
    simp only [← EReal.coe_mul, coe_sum]
    rw [div_coe_coe (by norm_num)]
    rfl
  have h25 : ∀ j : S_.Idx, val_main_v25 (F := Ideal) (X x) (T t) (G g) j
      = ((1 / 2 * ∑ p : Fin 4096, lossRow (x (16 + p.val)) (t p.val) g / 1024 : ℝ) : EReal) := fun j => by
    simp only [val_main_v25_apply, val_main_cst_7_apply, val_main_v24_apply, val_main_cst_6_apply, h]
    pointwise
    rw [half_f32, Fin.sum_idx1 ![4096] fun p => ((lossRow (x (16 + p.val)) (t p.val) g / 1024 : ℝ) : EReal), coe_sum,
      ← EReal.coe_mul]
    rfl
  unfold val_main_v54
  pointwise
  exact h25 _

/-- The cotangent of the weighted rows: nothing in the first 16 rows, which the loss does not read. -/
def cot (x t : ℕ → Fin 1024 → ℝ) (g : Fin 1024 → ℝ) (n : ℕ) (k : Fin 1024) : ℝ :=
  if n < 16 then 0 else err (x n) (t (n - 16)) g k * (1 / 1024)

theorem v32 (i : S4112x1024.Idx) :
    val_main_v32 (F := Ideal) (X x) (T t) (G g) i = ((cot x t g (i 0).val (i 1) : ℝ) : EReal) := by
  have h : ∀ j : S4096x1024.Idx, val_main_v31 (F := Ideal) (X x) (T t) (G g) j
      = ((err (x (16 + (j 0).val)) (t (j 0).val) g (j 1) * (1 / 1024) : ℝ) : EReal) := fun j => by
    simp only [val_main_v31_apply, val_main_v30_apply, val_main_v29_apply, val_main_v28_apply, val_main_v27_apply,
      val_main_v26_apply, val_main_v20_apply, val_main_v19_apply, val_main_cst_3_apply, val_main_cst_8_apply,
      val_main_cst_9_apply, val_main_cst_10_apply, v17]
    pointwise
    rw [half_f32, k_f32, two_f32]
    try rw [one_f32]
    try simp only [← EReal.coe_mul]
    rw [div_coe_coe (by norm_num), ← EReal.coe_mul]
    congr 1
    ring
  unfold val_main_v32
  pointwise
  simp only [h, val_main_cst_11_apply, cot]
  idx_bounds
  by_cases hi : (i 0).val < 16
  · rw [dif_neg (by omega), if_pos hi]
    exact zero_f32
  · rw [dif_pos (by omega), if_neg hi]
    have e : 16 + ((i 0).val - 16) = (i 0).val := by omega
    show ((err (x (16 + ((i 0).val - 16))) (t ((i 0).val - 16)) g (i 1) * (1 / 1024) : ℝ) : EReal) = _
    rw [e]

theorem v37 (i : S4112x1024.Idx) :
    val_main_v37 (F := Ideal) (X x) (T t) (G g) i = ((cot x t g (i 0).val (i 1) * g (i 1) : ℝ) : EReal) := by
  simp only [val_main_v37_apply, v32, val_main_v36_apply, val_main_v13_apply]
  pointwise [G]
  rw [← EReal.coe_mul]
  rfl

/-- The gain's gradient. -/
theorem v56 (i : S1x1024.Idx) : val_main_v56 (F := Ideal) (X x) (T t) (G g) i
    = ((∑ n : Fin 4112, x n.val (i 1) * rt 1024 (x n.val) * cot x t g n.val (i 1) : ℝ) : EReal) := by
  simp only [val_main_v56_apply, val_main_v38_apply, val_main_cst_13_apply, val_main_v35_apply, val_main_v34_apply,
    val_main_cst_12_apply, val_main_v33_apply, v12, v32]
  pointwise
  simp only [Finset.univ_unique, Finset.sum_singleton, ← EReal.coe_mul, coe_sum]
  rw [show idx_main_v34 (idx_main_v35 (idx_main_v38 (idx_main_v56 i) default)) = fun k => ix2 k (i 1) from ?_]
  · rfl
  · funext k a
    match a with
    | 0 => rfl
    | 1 => exact Fin.ext (by blk_simp [idx_main_v34, idx_main_v35, idx_main_v38, idx_main_v56])

/-- The gradient of a row of the stream with the cotangent `w`. -/
def dxCot (x w g : Fin 1024 → ℝ) (k : Fin 1024) : ℝ :=
  w k * g k * rt 1024 x
    + x k * ((∑ l, x l * (w l * g l)) * (-(1 / 2) * (rt 1024 x * rt 1024 x * rt 1024 x)) / 1024)
    + (∑ l, x l * (w l * g l)) * (-(1 / 2) * (rt 1024 x * rt 1024 x * rt 1024 x)) / 1024 * x k

theorem v52 (i : S4112x1024.Idx) : val_main_v52 (F := Ideal) (X x) (T t) (G g) i
    = ((dxCot (x (i 0).val) (cot x t g (i 0).val) g (i 1) : ℝ) : EReal) := by
  have h : ∀ j : S4112x1.Idx, val_main_v46 (F := Ideal) (X x) (T t) (G g) j
      = (((∑ l, x (j 0).val l * (cot x t g (j 0).val l * g l))
          * (-(1 / 2) * (rt 1024 (x (j 0).val) * rt 1024 (x (j 0).val) * rt 1024 (x (j 0).val))) / 1024 : ℝ) : EReal) := fun j => by
    simp only [val_main_v46_apply, val_main_v45_apply, val_main_cst_15_apply, val_main_v44_apply, v10, val_main_v41_apply,
      val_main_v40_apply, val_main_cst_14_apply, val_main_v39_apply, v37]
    pointwise [X]
    rw [k_f32]
    simp only [← EReal.coe_mul, coe_sum]
    rw [div_coe_coe (by norm_num)]
    rfl
  simp only [val_main_v52_apply, val_main_v51_apply, val_main_v50_apply, val_main_v49_apply, val_main_v48_apply,
    val_main_v47_apply, val_main_cst_16_apply, h, val_main_v43_apply, v37, val_main_v42_apply, v7]
  pointwise [X]
  simp only [Finset.univ_unique, Finset.sum_singleton, ← EReal.coe_mul, ← EReal.coe_add]
  rfl

/-- The gradient of the rows, behind 112 rows of zeros. -/
theorem v53 (i : S4224x1024.Idx) : val_main_v53 (F := Ideal) (X x) (T t) (G g) i
    = ((if (i 0).val < 112 then 0 else
        dxCot (x ((i 0).val - 112)) (cot x t g ((i 0).val - 112)) g (i 1) : ℝ) : EReal) := by
  unfold val_main_v53
  pointwise
  idx_bounds
  by_cases hi : (i 0).val < 112
  · rw [dif_neg (by omega), if_pos hi]
    unfold val_main_call0_v0
    pointwise
    show (((0#32 : BitVec 32).toInt : ℝ) : EReal) = _
    norm_num
  · rw [dif_pos (by omega), if_neg hi, v52]
    rfl

theorem v55 (i : S4224x1024.Idx) : val_main_v55 (F := Ideal) (X x) (T t) (G g) i
    = ((if (i 0).val < 112 then 0 else
        dxCot (x ((i 0).val - 112)) (cot x t g ((i 0).val - 112)) g (i 1) : ℝ) : EReal) := by
  rw [← v53 x t g i]
  rfl

end Cert.LossHeadRefIdeal.Mine

end
-- ==== Proof.LossHead.Equation.lean ====
/- The real equations between the blocks of the loss head and the derivative of the loss. -/
module

public import proofs.«01_k».proof.Proof.LossHead.Blocks
public import proofs.«01_k».proof.Proof.LossHead.Ref

@[expose] public section

noncomputable section

namespace Cert.LossHeadRefIdeal.Mine

open Cert.LossHeadIdeal.Mine Cert.Reals

variable (x t : ℕ → Fin 1024 → ℝ) (g : Fin 1024 → ℝ)

/-- The blocks' losses add up to the loss. -/
theorem loss_eq : ∑ p ∈ Finset.range 32, lossBlk x t g p
    = 1 / 2 * ∑ p : Fin 4096, lossRow (x (16 + p.val)) (t p.val) g / 1024 := by
  have h := sum_blocks 128 (fun q => lossRow (x (16 + q)) (t q) g / 1024) 32
  rw [Finset.sum_range (n := 128 * 32)] at h
  rw [show (∑ p : Fin 4096, lossRow (x (16 + p.val)) (t p.val) g / 1024)
    = ∑ p : Fin (128 * 32), lossRow (x (16 + p.val)) (t p.val) g / 1024 from rfl, ← h, Finset.mul_sum]
  refine Finset.sum_congr rfl fun p _ => ?_
  rw [lossBlk, mul_div_assoc, Finset.sum_div]
  refine congrArg _ (Finset.sum_congr rfl fun r _ => ?_)
  rw [show 128 * (p + 1) + r.val - 112 = 16 + (128 * p + r.val) by omega]

/-- The blocks' parts of the gain's gradient add up to it. -/
theorem dgain_eq (k : Fin 1024) : ∑ p ∈ Finset.range 32, dgBlk x t g p k
    = ∑ n : Fin 4112, x n.val k * rt 1024 (x n.val) * cot x t g n.val k := by
  have h := sum_blocks 128 (fun q => dgRow (x (16 + q)) (t q) g k) 32
  rw [← Finset.sum_range (n := 4112) (fun n => x n k * rt 1024 (x n) * cot x t g n k)]
  rw [sum_drop 16 4096 _ (fun q hq => by simp [cot, hq])]
  refine Eq.trans (Finset.sum_congr rfl fun p _ => Finset.sum_congr rfl fun r _ => ?_) (h.trans
    (Finset.sum_congr rfl fun q _ => ?_))
  · rw [show 128 * (p + 1) + r.val - 112 = 16 + (128 * p + r.val) by omega]
  · simp only [cot, dgRow, if_neg (show ¬16 + q < 16 by omega), Nat.add_sub_cancel_left]
    ring

/-- The gradient of a row that the loss reads. -/
theorem dx_eq (n : ℕ) (hn : 16 ≤ n) (k : Fin 1024) :
    dxRow (x n) (t (n - 16)) g k = dxCot (x n) (cot x t g n) g k := by
  have hc : ∀ l, cot x t g n l = err (x n) (t (n - 16)) g l * (1 / 1024) := fun l => by
    rw [cot, if_neg (by omega)]
  have hs : ∑ l, err (x n) (t (n - 16)) g l * (1 / 1024) * g l * (x n l * rt 1024 (x n))
      = rt 1024 (x n) * ∑ l, x n l * (err (x n) (t (n - 16)) g l * (1 / 1024) * g l) := by
    rw [Finset.mul_sum]
    exact Finset.sum_congr rfl fun l _ => by ring
  simp only [dxRow, dxCot, hc, hs]
  ring

/-- A row that the loss does not read has no gradient. -/
theorem dx_zero (n : ℕ) (hn : n < 16) (k : Fin 1024) : dxCot (x n) (cot x t g n) g k = 0 := by
  have hc : ∀ l, cot x t g n l = 0 := fun l => by rw [cot, if_pos hn]
  simp [dxCot, hc]

/-- The padded gradient of the rows, as the kernel stores it. -/
theorem dh_eq (i : LossHeadIdeal.S4224x1024.Idx) :
    ((if (i 0).val < 112 then 0 else
      dxCot (x ((i 0).val - 112)) (cot x t g ((i 0).val - 112)) g (i 1) : ℝ) : EReal)
    = if (i 0).val < 128 then (0 : EReal) else ((dxRow (x ((i 0).val - 112)) (t ((i 0).val - 128)) g (i 1) : ℝ) : EReal) := by
  by_cases h1 : (i 0).val < 112
  · rw [if_pos h1, if_pos (by omega), EReal.coe_zero]
  · rw [if_neg h1]
    by_cases h2 : (i 0).val < 128
    · rw [if_pos h2]
      exact congrArg _ (dx_zero x t g _ (by omega) (i 1))
    · rw [if_neg h2]
      have h := dx_eq x t g ((i 0).val - 112) (by omega) (i 1)
      rw [show (i 0).val - 112 - 16 = (i 0).val - 128 by omega] at h
      exact congrArg _ h.symm

end Cert.LossHeadRefIdeal.Mine

end
-- ==== Proof.LossHead.Claims.lean ====
/- The claims about the loss head: under real arguments the blocks of the kernel and the derivative of the loss are the
   same arrays. -/
module

public import proofs.«01_k».proof.Defs
public import proofs.«01_k».proof.Proof.LossHead.Equation
public import proofs.«01_k».proof.Proof.Gen.LossHead.Frame
public import proofs.«01_k».proof.Proof.Gen.LossHeadRefIdeal.Run
public import proofs.«01_k».proof.Proof.Gen.Pre_finite1

@[expose] public section

set_option maxRecDepth 16384

noncomputable section

namespace Cert.LossHeadClaims

open Idealize.ShloMosaic Idealize.ShloMosaic.TcCoe Idealize.SL.Sem
open Cert.LossHeadIdeal.Mine Cert.LossHeadRefIdeal.Mine Cert.Reals

theorem frame_p : Cert.quiescent_LossHead := fun m ρ _ => Cert.LossHead.Gen.frame m ρ

theorem frame_pi : Cert.quiescent_LossHeadIdeal := fun m ρ _ => Cert.LossHeadIdeal.Gen.frame m ρ

theorem frame_pi_pre : Cert.quiescent_LossHeadIdeal_pre_finite1 := fun m ρ _ => Cert.LossHeadIdeal.Gen.frame m ρ

theorem frame_ri : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

theorem frame_ri_pre : Cert.quiescent_LossHeadRefIdeal_pre_finite1 := fun m ρ _ => frame_ri m ρ trivial

/-- Under the precondition the arguments are arrays of real numbers. -/
theorem args (m : (ℓ : Loc LossHeadIdeal.nD LossHeadIdeal.τ LossHeadIdeal.sig) → Buf (Elt Ideal) ℓ)
    (h : Pre_LossHeadIdeal_finite1 m) (c : Dev LossHeadIdeal.nD) : ∃ x t g, Args m c x t g := by
  obtain ⟨h0, h1, h2⟩ := h c
  obtain ⟨x, hx⟩ := exists_real h0
  obtain ⟨t, ht⟩ := exists_real h1
  obtain ⟨g, hg⟩ := exists_real h2
  exact ⟨rowsOf x, rowsOf t, fun k => g (ix1 k), hx.trans (rowsOf_spec x), ht.trans (rowsOf_spec t), hg.trans (lanesOf_spec g)⟩

theorem algebraic : Cert.algebraic_LossHeadIdeal_LossHeadRefIdeal_pre_finite1 := by
  intro m g m' g' hpre hargs
  refine ⟨fun c => (Cert.LossHeadIdeal.Gen.dats m 0 c).arrAt 3 Cert.LossHeadIdeal.cfg0.N,
    fun c => (Cert.LossHeadIdeal.Gen.dats m 0 c).arrAt 4 Cert.LossHeadIdeal.cfg0.N,
    fun c => (Cert.LossHeadIdeal.Gen.dats m 0 c).arrAt 5 Cert.LossHeadIdeal.cfg0.N,
    fun c => (Cert.LossHeadIdeal.Gen.dats m 0 c).arrAt 6 Cert.LossHeadIdeal.cfg0.N,
    Cert.LossHeadIdeal.Value.run_blocks m g,
    (θ_run Cert.LossHeadRefIdeal.defs _ _).mono (fun r h c => ?_) (Cert.LossHeadRefIdeal.Value.run (F := Ideal) m' g')⟩
  obtain ⟨h54, h53, h55, h56, hr⟩ := h c
  obtain ⟨x, t, gn, A⟩ := args m hpre c
  obtain ⟨a0, a1, a2⟩ := hargs c
  have b0 := a0.trans A.x
  have b1 := a1.trans A.t
  have b2 := a2.trans A.g
  refine ⟨?_, ?_, ?_, ?_, hr⟩
  · refine h54.trans ((Cert.LossHeadRefIdeal.Read.val_main_v54_eq _ _ _).trans (Eq.trans ?_ (final3 A).symm))
    rw [b0, b1, b2]
    funext i
    exact (v54 x t gn i).trans (congrArg (fun r : ℝ => (r : EReal)) (loss_eq x t gn).symm)
  · refine h53.trans ((Cert.LossHeadRefIdeal.Read.val_main_v53_eq _ _).trans (Eq.trans ?_ (final4 A).symm))
    rw [b0, b1, b2]
    funext i
    exact (v53 x t gn i).trans (dh_eq x t gn i)
  · refine h55.trans ((Cert.LossHeadRefIdeal.Read.val_main_v55_eq _ _).trans (Eq.trans ?_ (final5 A).symm))
    rw [b0, b1, b2]
    funext i
    exact (v55 x t gn i).trans (dh_eq x t gn i)
  · refine h56.trans ((Cert.LossHeadRefIdeal.Read.val_main_v56_eq _ _ _).trans (Eq.trans ?_ (final6 A).symm))
    rw [b0, b1, b2]
    funext i
    exact (v56 x t gn i).trans (congrArg (fun r : ℝ => (r : EReal)) (dgain_eq x t gn (i 1)).symm)

end Cert.LossHeadClaims

end
-- ==== Proof.Attn.Plain.lean ====
/- Attention and its gradients over arrays of real numbers, as the mathematics writes them: `u` is a key head, `g` one
   of its four query heads, `n` a query row, `j` a key row. -/
module

public import proofs.«01_k».proof.Proof.Reals

@[expose] public section

noncomputable section

namespace Cert.Attention

variable (q k v w : ℕ → ℕ → ℝ)

/-- A score. -/
def score (u g n j : ℕ) : ℝ := ∑ d : Fin 64, q n ((u * 4 + g) * 64 + d.val) * k j (u * 64 + d.val)
/-- The sum of a row's exponentials. -/
def total (u g n : ℕ) : ℝ := ∑ s : Fin 4112, Real.exp (score q k u g n s.val)
/-- An attention weight. -/
def prob (u g n j : ℕ) : ℝ := Real.exp (score q k u g n j) / total q k u g n
/-- The mixed values. -/
def mixture (u g n d : ℕ) : ℝ := ∑ s : Fin 4112, prob q k u g n s.val * v s.val (u * 64 + d)
/-- The gradient of a weight. -/
def dprob (u g n j : ℕ) : ℝ := ∑ d : Fin 64, w n ((u * 4 + g) * 64 + d.val) * v j (u * 64 + d.val)
/-- The gradient of a score. -/
def dscore (u g n j : ℕ) : ℝ :=
  prob q k u g n j * (dprob v w u g n j - ∑ s : Fin 4112, prob q k u g n s.val * dprob v w u g n s.val)
/-- The gradients of the values, the keys and the queries. -/
def dvalue (u j d : ℕ) : ℝ := ∑ g : Fin 4, ∑ n : Fin 4112, w n.val ((u * 4 + g.val) * 64 + d) * prob q k u g.val n.val j
def dkey (u j d : ℕ) : ℝ := ∑ g : Fin 4, ∑ n : Fin 4112, dscore q k v w u g.val n.val j * q n.val ((u * 4 + g.val) * 64 + d)
def dquery (u g n d : ℕ) : ℝ := ∑ s : Fin 4112, dscore q k v w u g n s.val * k s.val (u * 64 + d)

theorem total_pos (u g n : ℕ) : 0 < total q k u g n := Finset.sum_pos (fun s _ => Real.exp_pos _) ⟨⟨0, by norm_num⟩, Finset.mem_univ _⟩

/-- A weight does not depend on what a row's scores are lowered by. -/
theorem prob_lower (M : ℝ) (u g n j : ℕ) :
    Real.exp (score q k u g n j - M) / ∑ s : Fin 4112, Real.exp (score q k u g n s.val - M) = prob q k u g n j := by
  simp only [Real.exp_sub]
  rw [← Finset.sum_div, div_div_div_cancel_right₀ (Real.exp_ne_zero M)]
  rfl

theorem lowered_pos (M : ℝ) (u g n : ℕ) : 0 < ∑ s : Fin 4112, Real.exp (score q k u g n s.val - M) :=
  Finset.sum_pos (fun s _ => Real.exp_pos _) ⟨⟨0, by norm_num⟩, Finset.mem_univ _⟩

/-- An array of heads of 64 columns, each widened to 128 by zeros, below 112 rows of zeros. -/
def wide (a : ℕ → ℕ → ℝ) (n p : ℕ) : ℝ := if n < 112 then 0 else if p % 128 < 64 then a (n - 112) (p / 128 * 64 + p % 128) else 0

end Cert.Attention

end
-- ==== Proof.Attn.Core.lean ====
/- Softmax attention of one query row over 4224 key rows, the first 112 of them left out: its weights, its mixed
   value, and the gradients, as real numbers. -/
module

public import proofs.«01_k».proof.Proof.Reals

@[expose] public section

noncomputable section

namespace Cert.Attention

open Cert.Reals

/-- The score of a query row against key row `j`, in powers of two. -/
def sc (q : Fin 128 → ℝ) (K : Fin 4224 → Fin 128 → ℝ) (j : Fin 4224) : ℝ := ∑ d, q d * K j d

/-- The weight of key row `j` before it is normed. -/
def wt (q : Fin 128 → ℝ) (K : Fin 4224 → Fin 128 → ℝ) (j : Fin 4224) : ℝ :=
  if j.val < 112 then 0 else Real.rpow 2 (sc q K j)

/-- The sum of the weights. -/
def tot (q : Fin 128 → ℝ) (K : Fin 4224 → Fin 128 → ℝ) : ℝ := ∑ j, wt q K j

/-- The normed weight of key row `j`. -/
def pr (q : Fin 128 → ℝ) (K : Fin 4224 → Fin 128 → ℝ) (j : Fin 4224) : ℝ := wt q K j / tot q K

/-- The mixed value. -/
def mix (q : Fin 128 → ℝ) (K V : Fin 4224 → Fin 128 → ℝ) (d : Fin 128) : ℝ := ∑ j, pr q K j * V j d

/-- The gradient `w` of a row's result against the result `o`, in the unit of the scores. -/
def dl (w o : Fin 128 → ℝ) : ℝ := (∑ d, w d * o d) * Real.log 2

/-- The gradient of a score. -/
def ds (q : Fin 128 → ℝ) (K V : Fin 4224 → Fin 128 → ℝ) (w o : Fin 128 → ℝ) (j : Fin 4224) : ℝ :=
  pr q K j * ((∑ d, w d * Real.log 2 * V j d) - dl w o)

theorem wt_nonneg (q : Fin 128 → ℝ) (K : Fin 4224 → Fin 128 → ℝ) (j : Fin 4224) : 0 ≤ wt q K j := by
  unfold wt
  split
  · exact le_rfl
  · exact (Real.rpow_pos_of_pos two_pos _).le

theorem tot_pos (q : Fin 128 → ℝ) (K : Fin 4224 → Fin 128 → ℝ) : 0 < tot q K := by
  refine Finset.sum_pos' (fun j _ => wt_nonneg q K j) ⟨⟨112, by norm_num⟩, Finset.mem_univ _, ?_⟩
  unfold wt
  rw [if_neg (by simp)]
  exact Real.rpow_pos_of_pos two_pos _

/-- A weight taken from a shifted score. -/
def wts (M : ℝ) (q : Fin 128 → ℝ) (K : Fin 4224 → Fin 128 → ℝ) (j : Fin 4224) : ℝ :=
  if j.val < 112 then 0 else Real.rpow 2 (sc q K j - M)

theorem wts_eq (M : ℝ) (q : Fin 128 → ℝ) (K : Fin 4224 → Fin 128 → ℝ) (j : Fin 4224) :
    wts M q K j = Real.rpow 2 (-M) * wt q K j := by
  unfold wts wt
  split
  · rw [mul_zero]
  · rw [sub_eq_neg_add]
    exact Real.rpow_add two_pos _ _

theorem sum_wts (M : ℝ) (q : Fin 128 → ℝ) (K : Fin 4224 → Fin 128 → ℝ) :
    ∑ j, wts M q K j = Real.rpow 2 (-M) * tot q K := by
  rw [tot, Finset.mul_sum]
  exact Finset.sum_congr rfl fun j _ => wts_eq M q K j

theorem sum_wts_pos (M : ℝ) (q : Fin 128 → ℝ) (K : Fin 4224 → Fin 128 → ℝ) : 0 < ∑ j, wts M q K j := by
  rw [sum_wts]
  exact mul_pos (Real.rpow_pos_of_pos two_pos _) (tot_pos q K)

/-- The shift cancels in the mixed value. -/
theorem mix_shift (M : ℝ) (q : Fin 128 → ℝ) (K V : Fin 4224 → Fin 128 → ℝ) (d : Fin 128) :
    (∑ j, wts M q K j * V j d) / ∑ j, wts M q K j = mix q K V d := by
  have h : Real.rpow 2 (-M) ≠ 0 := (Real.rpow_pos_of_pos two_pos _).ne'
  simp only [sum_wts, wts_eq, mix, pr, mul_assoc, ← Finset.mul_sum]
  rw [mul_div_mul_left _ _ h, Finset.sum_div]
  exact Finset.sum_congr rfl fun j _ => by rw [tot]; ring

/-- The shift cancels in the logarithm of the sum. -/
theorem lse_shift (M : ℝ) (q : Fin 128 → ℝ) (K : Fin 4224 → Fin 128 → ℝ) :
    M + Real.log (∑ j, wts M q K j) * (Real.log 2)⁻¹ = Real.log (tot q K) * (Real.log 2)⁻¹ := by
  have h2 : Real.log 2 ≠ 0 := (Real.log_pos one_lt_two).ne'
  rw [sum_wts]
  show M + Real.log ((2 : ℝ) ^ (-M) * tot q K) * _ = _
  rw [Real.log_mul (Real.rpow_pos_of_pos two_pos _).ne' (tot_pos q K).ne', Real.log_rpow two_pos]
  field_simp
  ring

/-- The normed weight from the logarithm of the sum. -/
theorem pr_lse (q : Fin 128 → ℝ) (K : Fin 4224 → Fin 128 → ℝ) (j : Fin 4224) :
    wts (Real.log (tot q K) * (Real.log 2)⁻¹) q K j = pr q K j := by
  have h2 : Real.log 2 ≠ 0 := (Real.log_pos one_lt_two).ne'
  rw [wts_eq, pr, div_eq_inv_mul]
  congr 1
  show (2 : ℝ) ^ (-(Real.log (tot q K) * (Real.log 2)⁻¹)) = _
  rw [Real.rpow_def_of_pos two_pos, show Real.log 2 * -(Real.log (tot q K) * (Real.log 2)⁻¹) = -Real.log (tot q K) by field_simp,
    Real.exp_neg, Real.exp_log (tot_pos q K)]

end Cert.Attention

end
-- ==== Proof.Attn.Chunk.lean ====
/- The attention's forward body on one pair of heads: from real query, key and value rows, the mixed values and the
   logarithms of the sums. -/
module

public import proofs.«01_k».proof.Proof.Attn.Core
public import proofs.«01_k».proof.Proof.Gen.AttnIdeal.Frame

@[expose] public section

set_option maxRecDepth 16384

noncomputable section

namespace Cert.AttnIdeal.Mine

open Idealize.ShloMosaic Idealize.ShloMosaic.TcCoe Idealize.SL.Sem
open Cert.AttnIdeal Cert.AttnIdeal.Gen Cert.Reals Cert.Attention

/-- Two heads' rows, one head's after the other's. -/
def two (a b : Fin 128 → Fin 128 → ℝ) (r : Fin 256) (d : Fin 128) : ℝ :=
  if h : r.val < 128 then a ⟨r.val, h⟩ d else b ⟨r.val - 128, by have := r.isLt; omega⟩ d

abbrev head (a : Fin 128 → Fin 128 → ℝ) : S128x128.Idx → EReal := fun i => ((a (i 0) (i 1) : ℝ) : EReal)
abbrev full (a : Fin 4224 → Fin 128 → ℝ) : S4224x128.Idx → EReal := fun i => ((a (i 0) (i 1) : ℝ) : EReal)

variable (a b : Fin 128 → Fin 128 → ℝ) (K V : Fin 4224 → Fin 128 → ℝ)

/-- A choice by a comparison of a small number. -/
theorem pick_ge {α : Type} (n k : ℕ) (hn : n < 2 ^ 31) (hk : k < 2 ^ 31) (x y : α) :
    Scalar.select (IntOp.cmpi .sge (BitVec.ofNat 32 n) (BitVec.ofNat 32 k)) x y = if n < k then y else x := by
  rw [WordCmp.cmpi_sge_ofNat hn hk]
  by_cases h : n < k
  · rw [if_pos h, decide_eq_false (by omega)]; rfl
  · rw [if_neg h, decide_eq_true (by omega)]; rfl

theorem pick_lt {α : Type} (n k : ℕ) (hn : n < 2 ^ 31) (hk : k < 2 ^ 31) (x y : α) :
    Scalar.select (IntOp.cmpi .slt (BitVec.ofNat 32 n) (BitVec.ofNat 32 k)) x y = if n < k then x else y := by
  rw [WordCmp.cmpi_slt_ofNat hn hk]
  by_cases h : n < k
  · rw [if_pos h, decide_eq_true h]; rfl
  · rw [if_neg h, decide_eq_false h]; rfl

theorem pick_eq {α : Type} (n k : ℕ) (hn : n < 2 ^ 31) (hk : k < 2 ^ 31) (x y : α) :
    Scalar.select (IntOp.cmpi .eq (BitVec.ofNat 32 n) (BitVec.ofNat 32 k)) x y = if n = k then x else y := by
  have e := WordCmp.ofNat_eq_ofNat_iff (w := 32) (a := n) (b := k) (by omega) (by omega)
  rw [WordCmp.cmpi_eq_eq]
  by_cases h : n = k
  · rw [if_pos h, decide_eq_true (e.mpr h)]; rfl
  · rw [if_neg h, decide_eq_false fun c => h (e.mp c)]; rfl

theorem mask_val : Named.named (F := Ideal) κ "mask" (φ := .f32) 0xF149F2CA#32 = (⊥ : EReal) :=
  IdealRules.named_const.ideal_named_scalar _ _ _ _ rfl

theorem ln2_val : Named.named (F := Ideal) κ "ln2" (φ := .f32) 0x3F317218#32 = ((Real.log 2 : ℝ) : EReal) :=
  IdealRules.named_const.ideal_named_scalar _ _ _ _ rfl

theorem inv_ln2_val : Named.named (F := Ideal) κ "inv_ln2" (φ := .f32) 0x3FB8AA3B#32 = (((Real.log 2)⁻¹ : ℝ) : EReal) :=
  IdealRules.named_const.ideal_named_scalar _ _ _ _ rfl

/-- An entry of two heads stacked. -/
theorem two_apply (r : Fin 256) (x : Fin 128) :
    (if h : r.val < 128 then head a (ix2 ⟨r.val, h⟩ x) else head b (ix2 ⟨r.val - 128, by have := r.isLt; omega⟩ x))
      = ((two a b r x : ℝ) : EReal) := by
  unfold two
  split <;> rfl

theorem pay6 (r : Fin 256) (j : Fin 4224) : k0_pay6 (F := Ideal) (head a) (head b) (full K) (ix2 r j)
    = if j.val < 112 then ⊥ else ((sc (two a b r) K j : ℝ) : EReal) := by
  have hj := j.isLt
  pointwise [k0_pay6]
  rw [pick_ge _ _ (by omega) (by omega), mask_val]
  refine if_congr Iff.rfl rfl ?_
  unfold sc
  rw [← coe_sum]
  refine Finset.sum_congr rfl fun x _ => ?_
  rw [EReal.coe_mul]
  exact congrArg₂ (· * ·) (two_apply a b r x) rfl

theorem pay7 : ∃ M : Fin 256 → ℝ, ∀ r : Fin 256, k0_pay7 (F := Ideal) (head a) (head b) (full K) (ix2 r 0)
    = ((M r : ℝ) : EReal) := by
  have h : ∀ r : Fin 256, ∃ M : ℝ, k0_pay7 (F := Ideal) (head a) (head b) (full K) (ix2 r 0) = ((M : ℝ) : EReal) := by
    intro r
    pointwise [k0_pay7]
    rw [neg_inf_f32]
    refine fold_max_real _ _ (fun j _ => ?_) ⟨⟨112, by norm_num⟩, Finset.mem_univ _, ?_⟩
    · rw [pay6]
      split
      · exact bot_lt_top
      · exact EReal.coe_lt_top _
    · rw [pay6, if_neg (by simp)]
      exact EReal.bot_lt_coe _
  choose M hM using h
  exact ⟨M, hM⟩

variable {M : Fin 256 → ℝ} (hM : ∀ r : Fin 256, k0_pay7 (F := Ideal) (head a) (head b) (full K) (ix2 r 0) = ((M r : ℝ) : EReal))

/-- Two to the power of a shifted score, −∞ giving zero. -/
theorem exp2_shift (p : Prop) [Decidable p] (x y : ℝ) :
    Ideal.exp2 ((if p then ⊥ else (x : EReal)) - (y : EReal)) = (((if p then 0 else Real.rpow 2 (x - y)) : ℝ) : EReal) := by
  split
  · rw [EReal.bot_sub, Ideal.exp2_bot]; rfl
  · rw [← EReal.coe_sub, Ideal.exp2_coe]

include hM in
theorem pay8 (r : Fin 256) (d : Fin 128) : k0_pay8 (F := Ideal) (head a) (head b) (full K) (full V) (ix2 r d)
    = ((∑ j, wts (M r) (two a b r) K j * V j d : ℝ) : EReal) := by
  pointwise [k0_pay8]
  rw [← coe_sum]
  refine Finset.sum_congr rfl fun j _ => ?_
  rw [EReal.coe_mul]
  refine congrArg₂ (· * ·) ?_ rfl
  rw [pay6, hM]
  exact exp2_shift _ _ _

include hM in
theorem pay9 (h1 : ∀ j, V j 64 = 1) (r : Fin 256) : k0_pay9 (F := Ideal) (head a) (head b) (full K) (full V) (ix2 r 0)
    = ((∑ j, wts (M r) (two a b r) K j : ℝ) : EReal) := by
  pointwise [k0_pay9]
  rw [Finset.sum_eq_single (64 : Fin 128)]
  · rw [pick_eq _ _ (by norm_num) (by norm_num), if_pos (by rfl), pay8 a b K V hM]
    simp only [h1, mul_one]
  · intro x _ hx
    have hx' := x.isLt
    rw [pick_eq _ _ (by omega) (by norm_num), if_neg fun e : x.val = 64 => hx (Fin.ext e)]
  · exact fun h => absurd (Finset.mem_univ _) h

include hM in
theorem pay12 (h1 : ∀ j, V j 64 = 1) (r : Fin 256) (d : Fin 128) :
    k0_pay12 (F := Ideal) (k0_pay8 (head a) (head b) (full K) (full V)) k0_pay10 (k0_pay11 (head a) (head b) (full K) (full V)) (ix2 r d)
    = ((if d.val < 64 then mix (two a b r) K V d else 0 : ℝ) : EReal) := by
  have hd := d.isLt
  pointwise [k0_pay12, k0_pay10, k0_pay11]
  rw [pick_lt _ _ (by omega) (by norm_num), pay8 a b K V hM, pay9 a b K V hM h1, div_coe_coe (sum_wts_pos _ _ _).ne', mix_shift]
  split <;> rfl

theorem pay13_apply (x y : FVec Ideal S256x1 .f32) (i : S256x1.Idx) :
    k0_pay13 x y i = x i + Ideal.log (y i) * Named.named (F := Ideal) κ "inv_ln2" (φ := .f32) 0x3FB8AA3B#32 := rfl

include hM in
theorem pay13 (h1 : ∀ j, V j 64 = 1) (r : Fin 256) :
    k0_pay13 (F := Ideal) (k0_pay7 (head a) (head b) (full K)) (k0_pay9 (head a) (head b) (full K) (full V)) (ix2 r 0)
    = ((Real.log (tot (two a b r) K) * (Real.log 2)⁻¹ : ℝ) : EReal) := by
  rw [pay13_apply, hM, pay9 a b K V hM h1, inv_ln2_val, ← lse_shift (M r), Ideal.log_coe, if_neg (sum_wts_pos _ _ _).not_ge, ← EReal.coe_mul, ← EReal.coe_add]

end Cert.AttnIdeal.Mine

end
-- ==== Proof.Attn.Fwd.lean ====
/- What a point of the forward region leaves in its block: four heads' mixed values and logarithms of sums. -/
module

public import proofs.«01_k».proof.Proof.Attn.Chunk

@[expose] public section

set_option maxRecDepth 16384

noncomputable section

namespace Cert.AttnIdeal.Mine

open Idealize.ShloMosaic Idealize.ShloMosaic.TcCoe Idealize.SL.Sem
open Cert.AttnIdeal Cert.AttnIdeal.Gen Cert.Reals Cert.Attention

/-- A block of query rows: four heads side by side. -/
abbrev quad (Q : ℕ → ℕ → ℝ) : S128x512.Idx → EReal := fun i => ((Q (i 0).val (i 1).val : ℝ) : EReal)

/-- Head `k` of a block. -/
def slice (Q : ℕ → ℕ → ℝ) (k : ℕ) (r d : Fin 128) : ℝ := Q r.val (128 * k + d.val)

variable (a b : Fin 128 → Fin 128 → ℝ) (K V : Fin 4224 → Fin 128 → ℝ) (i : grid0.Coords)

theorem two_fst (r : Fin 128) : two a b ⟨r.val, by omega⟩ = a r := by
  funext d
  simp only [two, dif_pos r.isLt]

theorem two_snd (r : Fin 128) : two a b ⟨128 + r.val, by omega⟩ = b r := by
  funext d
  rw [two, dif_neg (by simp)]
  exact congrArg (fun z => b z d) (Fin.ext (by simp))

/-- A row's choice: the first 112 rows are blank. -/
theorem row_mask (r : Fin 128) (x y : EReal) :
    Scalar.select (IntOp.cmpi .sge (k0_pay5 i (ix2 r 0)) 112#32) x y = if 128 * (i 1).val + r.val < 112 then y else x := by
  have h : (i 1).val < 33 := (i 1).isLt
  have hr := r.isLt
  have e : k0_pay5 i (ix2 r 0) = BitVec.ofNat 32 (128 * (i 1).val + r.val) := by
    pointwise [k0_pay5]
    show BitVec.ofNat 32 (i 1).val * 128#32 + BitVec.ofNat 32 r.val = _
    rw [BitVec.ofNat_add, BitVec.ofNat_mul]
    exact congrArg (· + _) (BitVec.mul_comm _ _)
  rw [e]
  exact pick_ge _ _ (by omega) (by norm_num) _ _

/-- The mixed value at column `d` of a head: nothing in the blank rows and columns. -/
def mixed (n : ℕ) (q : Fin 128 → ℝ) (d : Fin 128) : ℝ :=
  if n < 112 then 0 else if d.val < 64 then mix q K V d else 0

theorem pay14_apply (v5 : IVec S128x1 32) (v28 : FVec Ideal S256x128 .f32) (v38 : IVec S1x128 1) (v39 : FVec Ideal S256x128 .f32)
    (r d : Fin 128) : k0_pay14 v5 v28 v38 v39 (ix2 r d)
      = Scalar.select (IntOp.cmpi .sge (v5 (ix2 r 0)) 112#32) (k0_pay12 v28 v38 v39 (ix2 ⟨r.val, by omega⟩ d)) (Ideal.ofBits .f32 0#32) := by
  pointwise [k0_pay14]

theorem pay16_apply (v5 : IVec S128x1 32) (v28 : FVec Ideal S256x128 .f32) (v38 : IVec S1x128 1) (v39 : FVec Ideal S256x128 .f32)
    (r d : Fin 128) : k0_pay16 v5 v28 v38 v39 (ix2 r d)
      = Scalar.select (IntOp.cmpi .sge (v5 (ix2 r 0)) 112#32) (k0_pay12 v28 v38 v39 (ix2 ⟨128 + r.val, by omega⟩ d)) (Ideal.ofBits .f32 0#32) := by
  pointwise [k0_pay16]

/-- The second pair of heads is treated as the first. -/
theorem pay1_pay14 (v5 : IVec S128x1 32) (x y : Vec Ideal S128x128 .bf16) (k v : Vec Ideal S4224x128 .bf16) :
    k0_pay1 (F := Ideal) (k0_pay25 v5) (k0_pay26 (iota .tc S1x4224 32 [1] iota_S1x4224_d1_w32) (iota .tc S1x128 32 [1] iota_S1x128_d1_w32) (k0_pay18 x) y k v)
      (Scalar.ofBits .f32 0x00000000#32) = k0_pay14 v5 (k0_pay8 x y k v) k0_pay10 (k0_pay11 x y k v) := rfl

theorem pay3_pay16 (v5 : IVec S128x1 32) (x y : Vec Ideal S128x128 .bf16) (k v : Vec Ideal S4224x128 .bf16) :
    k0_pay3 (F := Ideal) v5 (k0_pay23 (iota .tc S1x4224 32 [1] iota_S1x4224_d1_w32) (iota .tc S1x128 32 [1] iota_S1x128_d1_w32) (k0_pay18 x) y k v)
      = k0_pay16 v5 (k0_pay8 x y k v) k0_pay10 (k0_pay11 x y k v) := rfl

theorem pay15_apply (x y : FVec Ideal S256x1 .f32) (r d : Fin 128) :
    k0_pay15 x y (ix2 r d) = k0_pay13 x y (ix2 ⟨r.val, by omega⟩ 0) := by
  pointwise [k0_pay15]

theorem pay17_apply (x y : FVec Ideal S256x1 .f32) (r d : Fin 128) :
    k0_pay17 x y (ix2 r d) = k0_pay13 x y (ix2 ⟨128 + r.val, by omega⟩ 0) := by
  pointwise [k0_pay17]

theorem pay2_pay15 (x y : Vec Ideal S128x128 .bf16) (k v : Vec Ideal S4224x128 .bf16) :
    k0_pay2 (F := Ideal) (k0_pay24 (iota .tc S1x4224 32 [1] iota_S1x4224_d1_w32) (iota .tc S1x128 32 [1] iota_S1x128_d1_w32) (k0_pay18 x) y k v)
      = k0_pay15 (k0_pay7 x y k) (k0_pay9 x y k v) := rfl

theorem pay4_pay17 (x y : Vec Ideal S128x128 .bf16) (k v : Vec Ideal S4224x128 .bf16) :
    k0_pay4 (F := Ideal) (k0_pay24 (iota .tc S1x4224 32 [1] iota_S1x4224_d1_w32) (iota .tc S1x128 32 [1] iota_S1x128_d1_w32) (k0_pay18 x) y k v)
      = k0_pay17 (k0_pay7 x y k) (k0_pay9 x y k v) := rfl

variable (hV : ∀ j, V j 64 = 1)

include hV in
theorem first_o (r d : Fin 128) :
    k0_pay14 (F := Ideal) (k0_pay5 i) (k0_pay8 (head a) (head b) (full K) (full V)) k0_pay10 (k0_pay11 (head a) (head b) (full K) (full V)) (ix2 r d)
      = ((mixed K V (128 * (i 1).val + r.val) (a r) d : ℝ) : EReal) := by
  obtain ⟨M, hM⟩ := pay7 a b K
  rw [pay14_apply, row_mask, pay12 a b K V hM hV, two_fst, zero_f32, mixed]
  split <;> rfl

include hV in
theorem second_o (r d : Fin 128) :
    k0_pay16 (F := Ideal) (k0_pay5 i) (k0_pay8 (head a) (head b) (full K) (full V)) k0_pay10 (k0_pay11 (head a) (head b) (full K) (full V)) (ix2 r d)
      = ((mixed K V (128 * (i 1).val + r.val) (b r) d : ℝ) : EReal) := by
  obtain ⟨M, hM⟩ := pay7 a b K
  rw [pay16_apply, row_mask, pay12 a b K V hM hV, two_snd, zero_f32, mixed]
  split <;> rfl

/-- The logarithm of a row's sum, to base two. -/
def lse (q : Fin 128 → ℝ) : ℝ := Real.log (tot q K) * (Real.log 2)⁻¹

include hV in
theorem first_lse (r d : Fin 128) :
    k0_pay15 (F := Ideal) (k0_pay7 (head a) (head b) (full K)) (k0_pay9 (head a) (head b) (full K) (full V)) (ix2 r d) = ((lse K (a r) : ℝ) : EReal) := by
  obtain ⟨M, hM⟩ := pay7 a b K
  rw [pay15_apply, pay13 a b K V hM hV, two_fst, lse]

include hV in
theorem second_lse (r d : Fin 128) :
    k0_pay17 (F := Ideal) (k0_pay7 (head a) (head b) (full K)) (k0_pay9 (head a) (head b) (full K) (full V)) (ix2 r d) = ((lse K (b r) : ℝ) : EReal) := by
  obtain ⟨M, hM⟩ := pay7 a b K
  rw [pay17_apply, pay13 a b K V hM hV, two_snd, lse]

variable (Q : ℕ → ℕ → ℝ)

/-- What a load of head `k` of a block reads. -/
theorem ld_head (o k : ℕ) (ho : o = 128 * k) (inb) :
    View.ld (Val := Elt Ideal) (e' := .bf16) (quad Q) (Rect.unit (s := S128x512) ![0, o] S128x128.size inb) = head (slice Q k) := by
  funext x
  refine congrArg₂ (fun m n => ((Q m n : ℝ) : EReal)) ?_ ?_
  · rw [Rect.idx_unit_val]; exact Nat.zero_add _
  · rw [Rect.idx_unit_val, ← ho]; rfl

theorem ld_full (inb) :
    View.ld (Val := Elt Ideal) (e' := .bf16) (full K) (Rect.unit (s := S4224x128) ![0, 0] S4224x128.size inb) = full K :=
  View.ld_unit_lit _ _ (by decide)

/-- The row of head `k` that a block's row and column name. -/
theorem slice_of {k : ℕ} {r d : Fin 128} {n p : ℕ} (hn : n = r.val) (hp : p = 128 * k + d.val) :
    slice Q k r = fun e => Q n (128 * (p / 128) + e.val) := by
  funext e
  have := d.isLt
  rw [slice, hn, show p / 128 = k by omega]

theorem mixed_of {k : ℕ} {r d : Fin 128} {n p s : ℕ} (hn : n = r.val) (hp : p = 128 * k + d.val) (h : p % 128 < 128) :
    mixed K V (s + r.val) (slice Q k r) d = mixed K V (s + n) (fun e => Q n (128 * (p / 128) + e.val)) ⟨p % 128, h⟩ := by
  have := d.isLt
  rw [← slice_of Q hn hp, hn]
  exact congrArg _ (Fin.ext (by show _ = p % 128; omega))

theorem eta2 (x : S128x128.Idx) : x = ix2 (x 0) (x 1) := by
  funext a; match a with | 0 => rfl | 1 => rfl

include hV in
theorem out_o (y : S128x512.Idx) : out0_3 (F := Ideal) i (quad Q) (full K) (full V) y
    = ((mixed K V (128 * (i 1).val + (y 0).val) (fun d => Q (y 0).val (128 * ((y 1).val / 128) + d.val)) ⟨(y 1).val % 128, by omega⟩ : ℝ) : Elt Ideal .bf16) := by
  unfold out0_3 k0_pay27 k0_pay28 k0_pay29 k0_pay31 k0_pay33 k0_pay34 k0_pay35
  rw [ld_head Q 0 0 rfl, ld_head Q 128 1 rfl, ld_head Q 256 2 rfl, ld_head Q 384 3 rfl, ld_full, ld_full, pay3_pay16, pay1_pay14]
  canon_tiles x h
  · rw [eta2 x]
    exact (second_o _ _ K V i hV (x 0) (x 1)).trans (congrArg _ (mixed_of K V Q h0 h1 _))
  · rw [eta2 x]
    exact (first_o _ _ K V i hV (x 0) (x 1)).trans (congrArg _ (mixed_of K V Q h0 h1 _))
  · rw [eta2 x]
    exact (second_o _ _ K V i hV (x 0) (x 1)).trans (congrArg _ (mixed_of K V Q h0 h1 _))
  · rw [eta2 x]
    exact (first_o _ _ K V i hV (x 0) (x 1)).trans (congrArg _ (mixed_of K V Q h0 (h1.trans (Nat.zero_add _).symm) _))

include hV in
theorem out_lse (y : S128x512.Idx) : out0_4 (F := Ideal) i (quad Q) (full K) (full V) y
    = ((lse K (fun d => Q (y 0).val (128 * ((y 1).val / 128) + d.val)) : ℝ) : Elt Ideal .f32) := by
  unfold out0_4 k0_pay36 k0_pay27 k0_pay28 k0_pay30 k0_pay32 k0_pay35
  rw [ld_head Q 0 0 rfl, ld_head Q 128 1 rfl, ld_head Q 256 2 rfl, ld_head Q 384 3 rfl, ld_full, ld_full, pay4_pay17, pay2_pay15]
  canon_tiles x h
  · rw [eta2 x]
    exact (second_lse _ _ K V hV (x 0) (x 1)).trans (congrArg (fun z => ((lse K z : ℝ) : EReal)) (slice_of Q h0 h1))
  · rw [eta2 x]
    exact (first_lse _ _ K V hV (x 0) (x 1)).trans (congrArg (fun z => ((lse K z : ℝ) : EReal)) (slice_of Q h0 h1))
  · rw [eta2 x]
    exact (second_lse _ _ K V hV (x 0) (x 1)).trans (congrArg (fun z => ((lse K z : ℝ) : EReal)) (slice_of Q h0 h1))
  · rw [eta2 x]
    exact (first_lse _ _ K V hV (x 0) (x 1)).trans (congrArg (fun z => ((lse K z : ℝ) : EReal)) (slice_of Q h0 (h1.trans (Nat.zero_add _).symm)))

end Cert.AttnIdeal.Mine

end
-- ==== Proof.Attn.Host.lean ====
/- The attention's operands as the two regions find them: heads side by side, each padded with columns, the rows
   padded in front. -/
module

public import proofs.«01_k».proof.Proof.Attn.Chunk

@[expose] public section

set_option maxRecDepth 16384

noncomputable section

namespace Cert.AttnIdeal.Mine

open Idealize.ShloMosaic Idealize.ShloMosaic.TcCoe Idealize.SL.Sem
open Idealize.ShloMosaic.Pipeline (Dat)
open Cert.AttnIdeal Cert.AttnIdeal.Gen Cert.Reals Cert.Attention

variable (m : (ℓ : Loc nD τ sig) → Buf (Elt Ideal) ℓ) (ρ : Dev nD → PrngReg)

/-- The arguments are real arrays: queries, keys, values, and the gradient of the mixed values. -/
structure Args (c : Dev nD) (q k v w : ℕ → ℕ → ℝ) : Prop where
  q : m ((c.tc : Thread nD τ).loc main_arg0) = fun i : S4112x512.Idx => ((q (i 0).val (i 1).val : ℝ) : EReal)
  k : m ((c.tc : Thread nD τ).loc main_arg1) = fun i : S4112x128.Idx => ((k (i 0).val (i 1).val : ℝ) : EReal)
  v : m ((c.tc : Thread nD τ).loc main_arg2) = fun i : S4112x128.Idx => ((v (i 0).val (i 1).val : ℝ) : EReal)
  w : m ((c.tc : Thread nD τ).loc main_arg3) = fun i : S4112x512.Idx => ((w (i 0).val (i 1).val : ℝ) : EReal)

variable {m ρ}
variable {c : Dev nD} {q k v w : ℕ → ℕ → ℝ} (A : Args m c q k v w)

/-- A padded array: zero in the first 112 rows and in the last 64 columns of each head. -/
def pad (a : ℕ → ℕ → ℝ) (n p : ℕ) : ℝ :=
  if p % 128 < 64 then if n < 112 then 0 else a (n - 112) (p / 128 * 64 + p % 128) else 0

/-- The values' padded array has ones in the first of a head's last 64 columns. -/
def padOnes (a : ℕ → ℕ → ℝ) (n p : ℕ) : ℝ := if p % 128 = 64 then 1 else pad a n p

/-- The queries are taken in the unit of powers of two. -/
def scaled (q : ℕ → ℕ → ℝ) (n p : ℕ) : ℝ := q n p / Real.log 2

theorem pad_in (a : ℕ → ℕ → ℝ) (n p : ℕ) (hp : p % 128 < 64) (hn : ¬ n < 112) :
    pad a n p = a (n - 112) (p / 128 * 64 + p % 128) := by rw [pad, if_pos hp, if_neg hn]
theorem pad_top (a : ℕ → ℕ → ℝ) (n p : ℕ) (hn : n < 112) : pad a n p = 0 := by simp [pad, hn]
theorem pad_out (a : ℕ → ℕ → ℝ) (n p : ℕ) (hp : ¬ p % 128 < 64) : pad a n p = 0 := if_neg hp

include A in
theorem W0_q (r : Fin 4112) (s : Fin 512) :
    W0 m ρ c (Proc.devRef .tc main_arg0) (ix2 r s) = ((q r.val s.val : ℝ) : EReal) := congrFun A.q (ix2 r s)
include A in
theorem W0_k (r : Fin 4112) (s : Fin 128) :
    W0 m ρ c (Proc.devRef .tc main_arg1) (ix2 r s) = ((k r.val s.val : ℝ) : EReal) := congrFun A.k (ix2 r s)
include A in
theorem W0_v (r : Fin 4112) (s : Fin 128) :
    W0 m ρ c (Proc.devRef .tc main_arg2) (ix2 r s) = ((v r.val s.val : ℝ) : EReal) := congrFun A.v (ix2 r s)
include A in
theorem W2_w (r : Fin 4112) (s : Fin 512) : W2 m ρ c (Proc.devRef .tc main_arg3) (ix2 r s) = ((w r.val s.val : ℝ) : EReal) :=
  congrFun ((W2_args m ρ c main_arg3 (by decide)).trans A.w) (ix2 r s)

/-- A padded array's entry, written as the layout lines find it. -/
theorem pad_layout (a : ℕ → ℕ → ℝ) {n p : ℕ} {X : p % 128 < 64 → ¬ n < 112 → EReal}
    (hX : ∀ e f, X e f = ((a (n - 112) (p / 128 * 64 + p % 128) : ℝ) : EReal)) :
    (if e : p % 128 < 64 then if f : n < 112 then (0 : EReal) else X e f else 0) = ((pad a n p : ℝ) : EReal) := by
  by_cases e : p % 128 < 64
  · rw [dif_pos e]
    by_cases f : n < 112
    · rw [dif_pos f, pad_top _ _ _ f]; rfl
    · rw [dif_neg f, pad_in _ _ _ e f, hX]
  · rw [dif_neg e, pad_out _ _ _ e]; rfl

include A in
theorem V1_k : V1 m ρ c main_v16 = fun i : S4224x256.Idx => ((pad k (i 0).val (i 1).val : ℝ) : EReal) := by
  refine funext fun (i : S4224x256.Idx) => ?_
  show StableHlo.after hostOps0 (W0 m ρ c) (Proc.devRef .tc main_v16) i = _
  entry_read
  pointwise
  have h0 : (i 0).val < 4224 := (i 0).isLt
  have h1 : (i 1).val < 256 := (i 1).isLt
  exact pad_layout k fun e f => W0_k A ⟨_, by omega⟩ ⟨_, by omega⟩

include A in
theorem V3_w : V3 m ρ c main_v34 = fun i : S4224x1024.Idx => ((pad w (i 0).val (i 1).val : ℝ) : EReal) := by
  refine funext fun (i : S4224x1024.Idx) => ?_
  show StableHlo.after hostOps1 (W2 m ρ c) (Proc.devRef .tc main_v34) i = _
  entry_read
  pointwise
  have h0 : (i 0).val < 4224 := (i 0).isLt
  have h1 : (i 1).val < 1024 := (i 1).isLt
  exact pad_layout w fun e f => W2_w A ⟨_, by omega⟩ ⟨_, by omega⟩

theorem log_two : Ideal.log ((2 : ℝ) : EReal) = ((Real.log 2 : ℝ) : EReal) := by
  rw [Ideal.log_coe, if_neg (by norm_num)]

/-- The queries' entry: a division by the logarithm of two. -/
theorem scaled_apply (q : ℕ → ℕ → ℝ) (n p : ℕ) {x : EReal} (hx : x = ((q n p : ℝ) : EReal)) :
    Ideal.div x (Ideal.log (Ideal.ofBits FTy.f32 0x40000000#32)) = ((scaled q n p : ℝ) : EReal) := by
  rw [hx, two_f32, log_two, div_coe_coe (Real.log_pos one_lt_two).ne']
  rfl

include A in
theorem V1_q : V1 m ρ c main_v9 = fun i : S4224x1024.Idx => ((pad (scaled q) (i 0).val (i 1).val : ℝ) : EReal) := by
  refine funext fun (i : S4224x1024.Idx) => ?_
  show StableHlo.after hostOps0 (W0 m ρ c) (Proc.devRef .tc main_v9) i = _
  entry_read
  pointwise
  have h0 : (i 0).val < 4224 := (i 0).isLt
  have h1 : (i 1).val < 1024 := (i 1).isLt
  exact pad_layout (scaled q) fun e f => scaled_apply q _ _ (W0_q A ⟨_, by omega⟩ ⟨_, by omega⟩)

/-- What follows a value head: a one, then zeros. -/
theorem ones_apply (x : ℕ) (h : x < 2 ^ 31) :
    (FloatOps.uitofp (F := Ideal) FTy.f32 (IntOp.cmpi CmpIPredicate.eq (BitVec.ofNat 32 x) 0#32) : EReal)
      = (((if x = 0 then 1 else 0 : ℝ)) : EReal) := by
  have e := WordCmp.ofNat_eq_ofNat_iff (w := 32) (a := x) (b := 0) (by omega) (by omega)
  rw [WordCmp.cmpi_eq_eq]
  by_cases h : x = 0
  · rw [if_pos h, decide_eq_true (e.mpr h)]
    show (((1#1 : BitVec 1).toNat : ℝ) : EReal) = _
    norm_num
  · rw [if_neg h, decide_eq_false fun c => h (e.mp c)]
    show (((0#1 : BitVec 1).toNat : ℝ) : EReal) = _
    norm_num

theorem ones_layout (a : ℕ → ℕ → ℝ) {n p : ℕ} {X : p % 128 < 64 → ¬ n < 112 → EReal} {z : EReal}
    (hX : ∀ e f, X e f = ((a (n - 112) (p / 128 * 64 + p % 128) : ℝ) : EReal))
    (hz : z = (((if p % 128 - 64 = 0 then 1 else 0 : ℝ)) : EReal)) :
    (if e : p % 128 < 64 then if f : n < 112 then (0 : EReal) else X e f else z) = ((padOnes a n p : ℝ) : EReal) := by
  by_cases e : p % 128 < 64
  · have := pad_layout a hX
    rw [dif_pos e] at this ⊢
    rw [this, padOnes, if_neg (by omega)]
  · rw [dif_neg e, hz, padOnes, pad_out _ _ _ e]
    congr 2
    simp only [eq_iff_iff]; omega

include A in
theorem V1_v : V1 m ρ c main_v27 = fun i : S4224x256.Idx => ((padOnes v (i 0).val (i 1).val : ℝ) : EReal) := by
  refine funext fun (i : S4224x256.Idx) => ?_
  show StableHlo.after hostOps0 (W0 m ρ c) (Proc.devRef .tc main_v27) i = _
  entry_read
  pointwise
  have h0 : (i 0).val < 4224 := (i 0).isLt
  have h1 : (i 1).val < 256 := (i 1).isLt
  exact ones_layout v (fun e f => W0_v A ⟨_, by omega⟩ ⟨_, by omega⟩) (ones_apply _ (by omega))

theorem V3_q : V3 m ρ c main_v9 = V1 m ρ c main_v9 :=
  (W3_of m ρ c main_v9 (by decide)).trans (W2_of m ρ c main_v9 (by decide))
theorem V3_k : V3 m ρ c main_v16 = V1 m ρ c main_v16 :=
  (W3_of m ρ c main_v16 (by decide)).trans (W2_of m ρ c main_v16 (by decide))
theorem V3_v : V3 m ρ c main_v27 = V1 m ρ c main_v27 :=
  (W3_of m ρ c main_v27 (by decide)).trans (W2_of m ρ c main_v27 (by decide))
theorem V3_o : V3 m ρ c main_v28_0 = (dat0 (V1 m ρ) c).arrAt 3 cfg0.N :=
  (W3_of m ρ c main_v28_0 (by decide)).trans (W2_arr m ρ c 3)
theorem V3_lse : V3 m ρ c main_v28_1 = (dat0 (V1 m ρ) c).arrAt 4 cfg0.N :=
  (W3_of m ρ c main_v28_1 (by decide)).trans (W2_arr m ρ c 4)

end Cert.AttnIdeal.Mine

end
-- ==== Proof.Attn.Ends.lean ====
/- What the forward region leaves in its two arrays. -/
module

public import proofs.«01_k».proof.Proof.Attn.Fwd
public import proofs.«01_k».proof.Proof.Attn.Host

@[expose] public section

set_option maxRecDepth 16384

noncomputable section

namespace Cert.AttnIdeal.Mine

open Idealize.ShloMosaic Idealize.ShloMosaic.TcCoe Idealize.SL.Sem
open Idealize.ShloMosaic.Pipeline (Dat)
open Cert.AttnIdeal Cert.AttnIdeal.Gen Cert.Reals Cert.Attention

variable {m : (ℓ : Loc nD τ sig) → Buf (Elt Ideal) ℓ} {ρ : Dev nD → PrngReg}
variable {c : Dev nD} {q k v w : ℕ → ℕ → ℝ} (A : Args m c q k v w)

/-- Head `h` of the padded keys, and of the padded values. -/
def keys (k : ℕ → ℕ → ℝ) (h : ℕ) (j : Fin 4224) (d : Fin 128) : ℝ := pad k j.val (128 * h + d.val)
def vals (v : ℕ → ℕ → ℝ) (h : ℕ) (j : Fin 4224) (d : Fin 128) : ℝ := padOnes v j.val (128 * h + d.val)
/-- Row `n` of head `h` of a padded array. -/
def rowOf (a : ℕ → ℕ → ℝ) (n h : ℕ) (d : Fin 128) : ℝ := pad a n (128 * h + d.val)

theorem vals_one (v : ℕ → ℕ → ℝ) (h : ℕ) (j : Fin 4224) : vals v h j 64 = 1 := if_pos (by show (128 * h + 64) % 128 = 64; omega)

theorem idx0 : ∀ t : Fin cfg0.N, win0_0.index t = ![t.val % 33, t.val / 33] ∧ win0_1.index t = ![0, t.val / 33] ∧ win0_2.index t = ![0, t.val / 33]
    ∧ win0_3.index t = ![t.val % 33, t.val / 33] ∧ win0_4.index t = ![t.val % 33, t.val / 33] ∧ (grid0.coords t 1).val = t.val % 33 :=
  (by decide +kernel : ∀ t : Fin grid0.N, _)

include A in
theorem blk0_q (p : Fin cfg0.N) : iblk0 (V1 m ρ) c 0 p = quad (fun n s => pad (scaled q) (128 * (p.val % 33) + n) (512 * (p.val / 33) + s)) := by
  funext y
  blk_simp [iblk0]
  rw [V1_q A]
  refine congrArg₂ (fun a b => ((pad (scaled q) a b : ℝ) : EReal)) ?_ ?_ <;> blk_simp [idx0 p, mul_comm]

include A in
theorem blk0_k (p : Fin cfg0.N) : iblk0 (V1 m ρ) c 1 p = full (keys k (p.val / 33)) := by
  funext y
  blk_simp [iblk0]
  rw [V1_k A]
  refine congrArg₂ (fun a b => ((pad k a b : ℝ) : EReal)) ?_ ?_ <;> blk_simp [idx0 p, mul_comm]

include A in
theorem blk0_v (p : Fin cfg0.N) : iblk0 (V1 m ρ) c 2 p = full (vals v (p.val / 33)) := by
  funext y
  blk_simp [iblk0]
  rw [V1_v A]
  refine congrArg₂ (fun a b => ((padOnes v a b : ℝ) : EReal)) ?_ ?_ <;> blk_simp [idx0 p, mul_comm]

/-- The mixed values at row `n` and column `p` of the padded array. -/
def mixedAt (q k v : ℕ → ℕ → ℝ) (n p : ℕ) : ℝ :=
  mixed (keys k (p / 512)) (vals v (p / 512)) n (rowOf (scaled q) n (p / 128)) ⟨p % 128, by omega⟩

/-- The logarithm of the sum, to base two, of row `n` of the head of column `p`. -/
def lseAt (q k : ℕ → ℕ → ℝ) (n p : ℕ) : ℝ := lse (keys k (p / 512)) (rowOf (scaled q) n (p / 128))

theorem rowOf_block (a : ℕ → ℕ → ℝ) (s n u z : ℕ) :
    (fun d : Fin 128 => pad a (128 * s + n) (512 * u + (128 * (z / 128) + d.val))) = rowOf a (s * 128 + n) ((u * 512 + z) / 128) := by
  funext d
  rw [rowOf, mul_comm s, show 128 * ((u * 512 + z) / 128) = 512 * u + 128 * (z / 128) by omega, add_assoc]

theorem mixedAt_block (q k v : ℕ → ℕ → ℝ) (s n u z : ℕ) (hz : z < 512) (h : z % 128 < 128) :
    mixed (keys k u) (vals v u) (128 * s + n) (fun d => pad (scaled q) (128 * s + n) (512 * u + (128 * (z / 128) + d.val))) ⟨z % 128, h⟩
      = mixedAt q k v (s * 128 + n) (u * 512 + z) := by
  rw [mixedAt, rowOf_block, show (u * 512 + z) / 512 = u by omega, mul_comm s]
  exact congrArg _ (Fin.ext (by show z % 128 = (u * 512 + z) % 128; omega))

theorem lseAt_block (q k : ℕ → ℕ → ℝ) (s n u z : ℕ) (hz : z < 512) :
    lse (keys k u) (fun d => pad (scaled q) (128 * s + n) (512 * u + (128 * (z / 128) + d.val)))
      = lseAt q k (s * 128 + n) (u * 512 + z) := by
  rw [lseAt, rowOf_block, show (u * 512 + z) / 512 = u by omega]

include A in
theorem arr_o : (dat0 (V1 m ρ) c).arrAt 3 cfg0.N = fun i : S4224x1024.Idx => ((mixedAt q k v (i 0).val (i 1).val : ℝ) : EReal) := by
  refine (dat0 (V1 m ρ) c).arrAt_eq_of_covers 3 _ (by decide +kernel) fun p _ y => ?_
  blk_simp
  rw [after0_3, blk0_q A, blk0_k A, blk0_v A, out_o _ _ _ (vals_one v _), (idx0 p).2.2.2.2.2]
  have hy : (y 1).val < 512 := (y 1).isLt
  refine congrArg (fun r : ℝ => (r : EReal)) ((mixedAt_block q k v _ _ _ _ hy _).trans ?_)
  blk_simp [idx0 p]

include A in
theorem arr_lse : (dat0 (V1 m ρ) c).arrAt 4 cfg0.N = fun i : S4224x1024.Idx => ((lseAt q k (i 0).val (i 1).val : ℝ) : EReal) := by
  refine (dat0 (V1 m ρ) c).arrAt_eq_of_covers 4 _ (by decide +kernel) fun p _ y => ?_
  blk_simp
  rw [after0_4, blk0_q A, blk0_k A, blk0_v A, out_lse _ _ _ (vals_one v _)]
  have hy : (y 1).val < 512 := (y 1).isLt
  refine congrArg (fun r : ℝ => (r : EReal)) ((lseAt_block q k _ _ _ _ hy).trans ?_)
  blk_simp [idx0 p]

end Cert.AttnIdeal.Mine

end
-- ==== Proof.Attn.Back.lean ====
/- The attention's backward body on one pair of heads: from real rows and the forward's logarithms of sums, the three
   gradients. -/
module

public import proofs.«01_k».proof.Proof.Attn.Fwd

@[expose] public section

set_option maxRecDepth 16384

noncomputable section

namespace Cert.AttnIdeal.Mine

open Idealize.ShloMosaic Idealize.ShloMosaic.TcCoe Idealize.SL.Sem
open Cert.AttnIdeal Cert.AttnIdeal.Gen Cert.Reals Cert.Attention

/-- Two heads' row numbers, one head's after the other's. -/
def twos (a b : Fin 128 → ℝ) (r : Fin 256) : ℝ :=
  if h : r.val < 128 then a ⟨r.val, h⟩ else b ⟨r.val - 128, by have := r.isLt; omega⟩

abbrev col (a : Fin 128 → ℝ) : S128x1.Idx → EReal := fun i => ((a (i 0) : ℝ) : EReal)

theorem twos_apply (a b : Fin 128 → ℝ) (r : Fin 256) (x : Fin 1) :
    (if h : r.val < 128 then col a (ix2 ⟨r.val, h⟩ x) else col b (ix2 ⟨r.val - 128, by have := r.isLt; omega⟩ x))
      = ((twos a b r : ℝ) : EReal) := by
  unfold twos
  split <;> rfl

/-- The columns' numbers. -/
abbrev cols : IVec S1x4224 32 := iota .tc S1x4224 32 [1] iota_S1x4224_d1_w32

variable (qa qb oa ob wa wb : Fin 128 → Fin 128 → ℝ) (la lb : Fin 128 → ℝ) (K V : Fin 4224 → Fin 128 → ℝ)
variable (hl : ∀ r, twos la lb r = lse K (two qa qb r))

theorem b11 (r : Fin 256) (j : Fin 4224) : k1_pay11 (F := Ideal) (full K) (head qa) (head qb) (ix2 r j) = ((sc (two qa qb r) K j : ℝ) : EReal) := by
  pointwise [k1_pay11, k1_pay7, k1_pay6]
  unfold sc
  rw [← coe_sum]
  refine Finset.sum_congr rfl fun d _ => ?_
  rw [two_apply qa qb r d, EReal.coe_mul]
  rfl

theorem b9 (r : Fin 256) (x : Fin 1) : k1_pay9 (F := Ideal) (col la) (col lb) (ix2 r x) = ((twos la lb r : ℝ) : EReal) := by
  pointwise [k1_pay9]
  exact twos_apply la lb r 0

theorem b8 (r : Fin 256) (d : Fin 128) : k1_pay8 (F := Ideal) (head wa) (head wb) (ix2 r d) = ((two wa wb r d : ℝ) : EReal) := by
  pointwise [k1_pay8]
  exact two_apply wa wb r d

theorem b12_apply (v26 : FVec Ideal S256x1 .f32) (v32 : FVec Ideal S256x4224 .f32) (r : Fin 256) (j : Fin 4224) :
    k1_pay12 cols v26 v32 112#32 (ix2 r j) = if j.val < 112 then 0 else Ideal.exp2 (v32 (ix2 r j) - v26 (ix2 r 0)) := by
  have hj := j.isLt
  pointwise [k1_pay12]
  rw [pick_ge _ _ (by omega) (by omega)]
  rfl

theorem b10_apply (v11 v13 : Vec Ideal S128x128 .f32) (v16 v18 : Vec Ideal S128x128 .bf16) (i : S256x1.Idx) :
    k1_pay10 v11 v13 v16 v18 i = (shapeCast S256x1 (multiReduction .add [1] S256 (mulf (k1_pay8 v11 v13) (extf .f32 (concatenate S256x128 0
      [⟨S128x128, shapeCast S128x128 v16 shapeCasts_S128x128_S128x128⟩, ⟨S128x128, shapeCast S128x128 v18 shapeCasts_S128x128_S128x128⟩]
      concatenates_S128x128_S128x128_S256x128_d0) bitsLt_bf16_f32)) 0x00000000#32 reduces_S256x128_S256 (.inl rfl) rfl) shapeCasts_S256_S256x1) i
      * Named.named (F := Ideal) κ "ln2" (φ := .f32) 0x3F317218#32 := rfl

theorem b10 (r : Fin 256) : k1_pay10 (F := Ideal) (head wa) (head wb) (head oa) (head ob) (ix2 r 0) = ((dl (two wa wb r) (two oa ob r) : ℝ) : EReal) := by
  rw [b10_apply, ln2_val, dl, EReal.coe_mul]
  refine congrArg (· * _) ?_
  pointwise
  rw [← coe_sum]
  refine Finset.sum_congr rfl fun d _ => ?_
  rw [two_apply oa ob r d, b8, EReal.coe_mul]

/-- The products of the gradient's rows with the values' rows, the gradient scaled by `x`. -/
def prods (x : EReal) (v15 : FVec Ideal S256x128 .f32) (v46 : Vec Ideal S4224x128 .bf16) : FVec Ideal S256x4224 .f32 :=
  matmul (φ₂ := .bf16) dot_S256x128_S4224x128_S256x4224_1_1_0_0_n_n none (truncf .bf16 (mulf v15 (broadcast S256x128 x)) bitsLt_bf16_f32)
    (shapeCast S4224x128 v46 shapeCasts_S4224x128_S4224x128) (constant S256x4224 .f32 0x00000000#32)

theorem prods_apply (x : EReal) (v15 : FVec Ideal S256x128 .f32) (v46 : Vec Ideal S4224x128 .bf16) (r : Fin 256) (j : Fin 4224) :
    prods x v15 v46 (ix2 r j) = ∑ d : Fin 128, v15 (ix2 r d) * x * v46 (ix2 j d) := by
  pointwise [prods]

theorem b13_apply (v15 : FVec Ideal S256x128 .f32) (v26 v31 : FVec Ideal S256x1 .f32) (v32 : FVec Ideal S256x4224 .f32)
    (v46 : Vec Ideal S4224x128 .bf16) (r : Fin 256) (j : Fin 4224) :
    k1_pay13 cols v15 v26 v31 v32 112#32 v46 (ix2 r j) = k1_pay12 cols v26 v32 112#32 (ix2 r j)
      * (prods (Named.named (F := Ideal) κ "ln2" (φ := .f32) 0x3F317218#32) v15 v46 (ix2 r j) - broadcastTo S256x4224 v31 broadcasts_S256x1_S256x4224 (ix2 r j)) := rfl

theorem b14_apply (v5 : FVec Ideal S4224x128 .bf16) (v15 : FVec Ideal S256x128 .f32) (v26 v31 : FVec Ideal S256x1 .f32) (v32 : FVec Ideal S256x4224 .f32)
    (v46 : Vec Ideal S4224x128 .bf16) (r : Fin 256) (d : Fin 128) :
    k1_pay14 cols v5 v15 v26 v31 v32 112#32 v46 (ix2 r d) = ∑ j : Fin 4224, k1_pay13 cols v15 v26 v31 v32 112#32 v46 (ix2 r j) * v5 (ix2 j d) := by
  pointwise [k1_pay14]

theorem b17_apply (v15 : FVec Ideal S256x128 .f32) (v26 : FVec Ideal S256x1 .f32) (v32 : FVec Ideal S256x4224 .f32) (j : Fin 4224) (d : Fin 128) :
    k1_pay17 cols v15 v26 v32 112#32 (ix2 j d) = ∑ r : Fin 256, k1_pay12 cols v26 v32 112#32 (ix2 r j) * v15 (ix2 r d) := by
  pointwise [k1_pay17]

theorem b18_apply (v10 : FVec Ideal S256x128 .bf16) (v15 : FVec Ideal S256x128 .f32) (v26 v31 : FVec Ideal S256x1 .f32) (v32 : FVec Ideal S256x4224 .f32)
    (v46 : Vec Ideal S4224x128 .bf16) (j : Fin 4224) (d : Fin 128) :
    k1_pay18 cols v10 v15 v26 v31 v32 112#32 v46 (ix2 j d) = ∑ r : Fin 256, k1_pay13 cols v15 v26 v31 v32 112#32 v46 (ix2 r j) * v10 (ix2 r d) := by
  pointwise [k1_pay18]

include hl in
/-- The normed weights. -/
theorem b12 (r : Fin 256) (j : Fin 4224) :
    k1_pay12 (F := Ideal) cols (k1_pay9 (col la) (col lb)) (k1_pay11 (full K) (head qa) (head qb)) 112#32 (ix2 r j)
      = ((pr (two qa qb r) K j : ℝ) : EReal) := by
  rw [b12_apply, b11, b9, hl, ← pr_lse, lse, wts]
  split
  · rfl
  · rw [← EReal.coe_sub, Ideal.exp2_coe]

include hl in
/-- The scores' gradients. -/
theorem b13 (r : Fin 256) (j : Fin 4224) :
    k1_pay13 (F := Ideal) cols (k1_pay8 (head wa) (head wb)) (k1_pay9 (col la) (col lb)) (k1_pay10 (head wa) (head wb) (head oa) (head ob))
      (k1_pay11 (full K) (head qa) (head qb)) 112#32 (full V) (ix2 r j)
      = ((ds (two qa qb r) K V (two wa wb r) (two oa ob r) j : ℝ) : EReal) := by
  have e : broadcastTo S256x4224 (k1_pay10 (F := Ideal) (head wa) (head wb) (head oa) (head ob)) broadcasts_S256x1_S256x4224 (ix2 r j)
      = k1_pay10 (F := Ideal) (head wa) (head wb) (head oa) (head ob) (ix2 r 0) := by pointwise
  rw [b13_apply, b12 qa qb la lb K hl, e, b10, prods_apply, ln2_val, ds, EReal.coe_mul, EReal.coe_sub, ← coe_sum]
  refine congrArg (_ * ·) (congrArg (· - _) (Finset.sum_congr rfl fun d _ => ?_))
  rw [b8, EReal.coe_mul, EReal.coe_mul]
  rfl

include hl in
/-- The queries' gradient. -/
theorem b14 (r : Fin 256) (d : Fin 128) :
    k1_pay14 (F := Ideal) cols (k1_pay6 (full K)) (k1_pay8 (head wa) (head wb)) (k1_pay9 (col la) (col lb)) (k1_pay10 (head wa) (head wb) (head oa) (head ob))
      (k1_pay11 (full K) (head qa) (head qb)) 112#32 (full V) (ix2 r d)
      = ((∑ j, ds (two qa qb r) K V (two wa wb r) (two oa ob r) j * K j d : ℝ) : EReal) := by
  rw [b14_apply, ← coe_sum]
  refine Finset.sum_congr rfl fun j _ => ?_
  rw [b13 qa qb oa ob wa wb la lb K V hl, EReal.coe_mul]
  refine congrArg (_ * ·) ?_
  pointwise [k1_pay6]
  rfl

include hl in
/-- A pair's part of the values' gradient. -/
theorem b17 (j : Fin 4224) (d : Fin 128) :
    k1_pay17 (F := Ideal) cols (k1_pay8 (head wa) (head wb)) (k1_pay9 (col la) (col lb)) (k1_pay11 (full K) (head qa) (head qb)) 112#32 (ix2 j d)
      = ((∑ r, pr (two qa qb r) K j * two wa wb r d : ℝ) : EReal) := by
  rw [b17_apply, ← coe_sum]
  refine Finset.sum_congr rfl fun r _ => ?_
  rw [b12 qa qb la lb K hl, b8, EReal.coe_mul]

include hl in
/-- A pair's part of the keys' gradient. -/
theorem b18 (j : Fin 4224) (d : Fin 128) :
    k1_pay18 (F := Ideal) cols (k1_pay7 (head qa) (head qb)) (k1_pay8 (head wa) (head wb)) (k1_pay9 (col la) (col lb))
      (k1_pay10 (head wa) (head wb) (head oa) (head ob)) (k1_pay11 (full K) (head qa) (head qb)) 112#32 (full V) (ix2 j d)
      = ((∑ r, ds (two qa qb r) K V (two wa wb r) (two oa ob r) j * two qa qb r d : ℝ) : EReal) := by
  rw [b18_apply, ← coe_sum]
  refine Finset.sum_congr rfl fun r _ => ?_
  rw [b13 qa qb oa ob wa wb la lb K V hl, EReal.coe_mul]
  refine congrArg (_ * ·) ?_
  pointwise [k1_pay7]
  exact two_apply qa qb r d

end Cert.AttnIdeal.Mine

end
-- ==== Proof.Attn.Point.lean ====
/- What a point of the backward region leaves: its block of the queries' gradient, and its part of the keys' and the
   values' gradients, added to what the point before left. -/
module

public import proofs.«01_k».proof.Proof.Attn.Back

@[expose] public section

set_option maxRecDepth 16384

noncomputable section

namespace Cert.AttnIdeal.Mine

open Idealize.ShloMosaic Idealize.ShloMosaic.TcCoe Idealize.SL.Sem
open Idealize.ShloMosaic.Pipeline (Dat)
open Cert.AttnIdeal Cert.AttnIdeal.Gen Cert.Reals Cert.Attention

/-- A sum over two heads' rows, one head's after the other's. -/
theorem sum_two (f : Fin 256 → ℝ) : ∑ r, f r = (∑ r : Fin 128, f ⟨r.val, by omega⟩) + ∑ r : Fin 128, f ⟨128 + r.val, by omega⟩ :=
  Fin.sum_univ_add (a := 128) (b := 128) f

variable (Q O L W : ℕ → ℕ → ℝ) (K V : Fin 4224 → Fin 128 → ℝ)

theorem twos_lse (hL : ∀ n p, p < 512 → L n p = lse K (fun d => Q n (128 * (p / 128) + d.val))) (a b : ℕ) (ha : 128 * a < 512) (hb : 128 * b < 512) (r : Fin 256) :
    twos (fun r => L r.val (128 * a)) (fun r => L r.val (128 * b)) r = lse K (two (slice Q a) (slice Q b) r) := by
  unfold twos
  split
  · rename_i h
    refine (hL _ _ ha).trans ?_
    rw [Nat.mul_div_cancel_left _ (by norm_num)]
    exact congrArg (lse K) (by funext d; rw [two, dif_pos h]; rfl)
  · rename_i h
    refine (hL _ _ hb).trans ?_
    rw [Nat.mul_div_cancel_left _ (by norm_num)]
    exact congrArg (lse K) (by funext d; rw [two, dif_neg h]; rfl)

/-- What a load of a column of numbers reads. -/
theorem ld_col (o : ℕ) (inb) :
    View.ld (Val := Elt Ideal) (e' := .f32) (quad L) (Rect.unit (s := S128x512) ![0, o] S128x1.size inb) = col (fun r => L r.val o) := by
  funext x
  have h1 : (x 1).val = 0 := by have : (x 1).val < 1 := (x 1).isLt; omega
  refine congrArg₂ (fun m n => ((L m n : ℝ) : EReal)) ?_ ?_
  · rw [Rect.idx_unit_val]; exact Nat.zero_add _
  · rw [Rect.idx_unit_val, h1]; rfl

theorem ld_head32 (o k : ℕ) (ho : o = 128 * k) (inb) :
    View.ld (Val := Elt Ideal) (e' := .f32) (quad Q) (Rect.unit (s := S128x512) ![0, o] S128x128.size inb) = head (slice Q k) :=
  ld_head Q o k ho inb

/-- The second pair of heads is treated as the first. -/
theorem c21 (k : Vec Ideal S4224x128 .bf16) (x y : Vec Ideal S128x128 .bf16) (l l' : Vec Ideal S128x1 .f32) :
    k1_pay21 (F := Ideal) cols (k1_pay6 k) (k1_pay19 x y) l l' = k1_pay12 cols (k1_pay9 l l') (k1_pay11 k x y) 112#32 := rfl

theorem c23 (k v : Vec Ideal S4224x128 .bf16) (x y o o' : Vec Ideal S128x128 .bf16) (w w' : Vec Ideal S128x128 .f32) (l l' : Vec Ideal S128x1 .f32) :
    k1_pay23 (F := Ideal) cols (k1_pay6 k) (k1_pay19 x y) (k1_pay20 w w') o o' l l' v
      = k1_pay13 cols (k1_pay8 w w') (k1_pay9 l l') (k1_pay10 w w' o o') (k1_pay11 k x y) 112#32 v := rfl

theorem c2 (a acc : FVec Ideal S4224x128 .f32) (w w' : Vec Ideal S128x128 .f32) (v26 : FVec Ideal S256x1 .f32) (v32 : FVec Ideal S256x4224 .f32)
    (j : Fin 4224) (d : Fin 128) :
    k1_pay2 (F := Ideal) a (k1_pay12 cols v26 v32 112#32) (k1_pay22 (k1_pay20 w w')) acc (ix2 j d)
      = acc (ix2 j d) + (a (ix2 j d) + k1_pay17 cols (k1_pay8 w w') v26 v32 112#32 (ix2 j d)) := by
  rw [b17_apply]
  pointwise [k1_pay2, k1_pay22, k1_pay20, k1_pay8]

theorem c3 (a acc : FVec Ideal S4224x128 .f32) (x y : Vec Ideal S128x128 .bf16) (v15 : FVec Ideal S256x128 .f32) (v26 v31 : FVec Ideal S256x1 .f32)
    (v32 : FVec Ideal S256x4224 .f32) (v : Vec Ideal S4224x128 .bf16) (j : Fin 4224) (d : Fin 128) :
    k1_pay3 (F := Ideal) a (k1_pay19 x y) (k1_pay13 cols v15 v26 v31 v32 112#32 v) acc (ix2 j d)
      = acc (ix2 j d) + (a (ix2 j d) + k1_pay18 cols (k1_pay7 x y) v15 v26 v31 v32 112#32 v (ix2 j d)) := by
  rw [b18_apply]
  pointwise [k1_pay3, k1_pay19, k1_pay7]

/-- A pair's part of the values' gradient, heads apart. -/
theorem dv_two (qa qb wa wb : Fin 128 → Fin 128 → ℝ) (j : Fin 4224) (d : Fin 128) :
    (∑ r, pr (two qa qb r) K j * two wa wb r d) = (∑ r, pr (qa r) K j * wa r d) + ∑ r, pr (qb r) K j * wb r d := by
  rw [sum_two]
  simp only [two_fst, two_snd]

theorem dk_two (qa qb oa ob wa wb : Fin 128 → Fin 128 → ℝ) (j : Fin 4224) (d : Fin 128) :
    (∑ r, ds (two qa qb r) K V (two wa wb r) (two oa ob r) j * two qa qb r d)
      = (∑ r, ds (qa r) K V (wa r) (oa r) j * qa r d) + ∑ r, ds (qb r) K V (wb r) (ob r) j * qb r d := by
  rw [sum_two]
  simp only [two_fst, two_snd]

/-- A block's part of the values' gradient, and of the keys'. -/
def dvPart (j : Fin 4224) (d : Fin 128) : ℝ := ∑ k : Fin 4, ∑ r : Fin 128, pr (slice Q k r) K j * slice W k r d
def dkPart (j : Fin 4224) (d : Fin 128) : ℝ :=
  ∑ k : Fin 4, ∑ r : Fin 128, ds (slice Q k r) K V (slice W k r) (slice O k r) j * slice Q k r d

variable (X : (c : Dev nD) → (b : Ref sig .tc) → Buf (Elt Ideal) ((c : Thread nD τ).loc b)) (c : Dev nD) (t : Fin cfg1.N)

/-- The blocks a point reads are real. -/
structure Reads : Prop where
  q : iblk1 X c 0 t = quad Q
  k : iblk1 X c 1 t = full K
  v : iblk1 X c 2 t = full V
  o : iblk1 X c 3 t = quad O
  l : iblk1 X c 4 t = quad L
  w : iblk1 X c 5 t = quad W
  lse : ∀ n p, p < 512 → L n p = lse K (fun d => Q n (128 * (p / 128) + d.val))

variable {Q O L W K V X c t} (R : Reads Q O L W K V X c t)

include R in
theorem lse01 (r : Fin 256) : twos (fun r => L r.val 0) (fun r => L r.val 128) r = lse K (two (slice Q 0) (slice Q 1) r) :=
  twos_lse Q L K R.lse 0 1 (by norm_num) (by norm_num) r
include R in
theorem lse23 (r : Fin 256) : twos (fun r => L r.val 256) (fun r => L r.val 384) r = lse K (two (slice Q 2) (slice Q 3) r) :=
  twos_lse Q L K R.lse 2 3 (by norm_num) (by norm_num) r

include R in
/-- A point adds its part to the values' gradient. -/
theorem dv_pay (acc : FVec Ideal S4224x128 .f32) (j : Fin 4224) (d : Fin 128) :
    k1_pay2 (F := Ideal) (k1_pay17 cols (k1_pay8 (head (slice W 0)) (head (slice W 1))) (k1_pay9 (col fun r => L r.val 0) (col fun r => L r.val 128))
        (k1_pay11 (full K) (head (slice Q 0)) (head (slice Q 1))) 112#32)
      (k1_pay21 cols (k1_pay6 (full K)) (k1_pay19 (head (slice Q 2)) (head (slice Q 3))) (col fun r => L r.val 256) (col fun r => L r.val 384))
      (k1_pay22 (k1_pay20 (head (slice W 2)) (head (slice W 3)))) acc (ix2 j d) = acc (ix2 j d) + ((dvPart Q W K j d : ℝ) : EReal) := by
  rw [c21, c2, b17 _ _ _ _ _ _ _ (lse01 R), b17 _ _ _ _ _ _ _ (lse23 R), dv_two, dv_two, ← EReal.coe_add, dvPart, Fin.sum_univ_four, ← add_assoc]
  rfl

include R in
/-- A point adds its part to the keys' gradient. -/
theorem dk_pay (acc : FVec Ideal S4224x128 .f32) (j : Fin 4224) (d : Fin 128) :
    k1_pay3 (F := Ideal) (k1_pay18 cols (k1_pay7 (head (slice Q 0)) (head (slice Q 1))) (k1_pay8 (head (slice W 0)) (head (slice W 1)))
        (k1_pay9 (col fun r => L r.val 0) (col fun r => L r.val 128))
        (k1_pay10 (head (slice W 0)) (head (slice W 1)) (head (slice O 0)) (head (slice O 1)))
        (k1_pay11 (full K) (head (slice Q 0)) (head (slice Q 1))) 112#32 (full V))
      (k1_pay19 (head (slice Q 2)) (head (slice Q 3)))
      (k1_pay23 cols (k1_pay6 (full K)) (k1_pay19 (head (slice Q 2)) (head (slice Q 3))) (k1_pay20 (head (slice W 2)) (head (slice W 3)))
        (head (slice O 2)) (head (slice O 3)) (col fun r => L r.val 256) (col fun r => L r.val 384) (full V)) acc (ix2 j d)
      = acc (ix2 j d) + ((dkPart Q O W K V j d : ℝ) : EReal) := by
  rw [c23, c3, b18 _ _ _ _ _ _ _ _ _ _ (lse01 R), b18 _ _ _ _ _ _ _ _ _ _ (lse23 R), dk_two, dk_two, ← EReal.coe_add, dkPart, Fin.sum_univ_four, ← add_assoc]
  rfl

theorem zero5 (j : Fin 4224) (d : Fin 128) : k1_pay5 (F := Ideal) (ix2 j d) = 0 := by pointwise [k1_pay5]
theorem zero4 (j : Fin 4224) (d : Fin 128) : k1_pay4 (F := Ideal) (ix2 j d) = 0 := by pointwise [k1_pay4]

include R in
theorem dv_A (h : t.val % 33 = 0) (j : Fin 4224) (d : Fin 128) :
    (outsAt1 X c t.val t.isLt).2.2 (ix2 j d) = ((dvPart Q W K j d : ℝ) : Elt Ideal .f32) := by
  rw [outsAt1_A X c t h]
  frame_out
  rw [R.q, R.k, R.l, R.w, ld_head Q 0 0 rfl, ld_head Q 128 1 rfl, ld_head Q 256 2 rfl, ld_head Q 384 3 rfl,
    ld_head32 W 0 0 rfl, ld_head32 W 128 1 rfl, ld_head32 W 256 2 rfl, ld_head32 W 384 3 rfl, ld_col, ld_col, ld_col, ld_col]
  refine (dv_pay R k1_pay5 j d).trans ?_
  rw [zero5, zero_add]

include R in
theorem dv_B (h : ¬ t.val % 33 = 0) (j : Fin 4224) (d : Fin 128) :
    (outsAt1 X c t.val t.isLt).2.2 (ix2 j d)
      = ((outsAt1 X c (t.val - 1) (Nat.lt_of_le_of_lt (Nat.sub_le _ _) t.isLt)).2.2 (ix2 j d) + ((dvPart Q W K j d : ℝ) : EReal) : EReal) := by
  rw [outsAt1_B X c t h]
  frame_out
  rw [R.q, R.k, R.l, R.w, ld_head Q 0 0 rfl, ld_head Q 128 1 rfl, ld_head Q 256 2 rfl, ld_head Q 384 3 rfl,
    ld_head32 W 0 0 rfl, ld_head32 W 128 1 rfl, ld_head32 W 256 2 rfl, ld_head32 W 384 3 rfl, ld_col, ld_col, ld_col, ld_col]
  exact dv_pay R _ j d

include R in
theorem dk_A (h : t.val % 33 = 0) (j : Fin 4224) (d : Fin 128) :
    (outsAt1 X c t.val t.isLt).2.1 (ix2 j d) = ((dkPart Q O W K V j d : ℝ) : Elt Ideal .f32) := by
  rw [outsAt1_A X c t h]
  frame_out
  rw [R.q, R.k, R.v, R.o, R.l, R.w, ld_head Q 0 0 rfl, ld_head Q 128 1 rfl, ld_head Q 256 2 rfl, ld_head Q 384 3 rfl,
    ld_head32 W 0 0 rfl, ld_head32 W 128 1 rfl, ld_head32 W 256 2 rfl, ld_head32 W 384 3 rfl, ld_col, ld_col, ld_col, ld_col,
    ld_head O 0 0 rfl, ld_head O 128 1 rfl, ld_head O 256 2 rfl, ld_head O 384 3 rfl]
  refine (dk_pay R k1_pay4 j d).trans ?_
  rw [zero4, zero_add]

include R in
theorem dk_B (h : ¬ t.val % 33 = 0) (j : Fin 4224) (d : Fin 128) :
    (outsAt1 X c t.val t.isLt).2.1 (ix2 j d)
      = ((outsAt1 X c (t.val - 1) (Nat.lt_of_le_of_lt (Nat.sub_le _ _) t.isLt)).2.1 (ix2 j d) + ((dkPart Q O W K V j d : ℝ) : EReal) : EReal) := by
  rw [outsAt1_B X c t h]
  frame_out
  rw [R.q, R.k, R.v, R.o, R.l, R.w, ld_head Q 0 0 rfl, ld_head Q 128 1 rfl, ld_head Q 256 2 rfl, ld_head Q 384 3 rfl,
    ld_head32 W 0 0 rfl, ld_head32 W 128 1 rfl, ld_head32 W 256 2 rfl, ld_head32 W 384 3 rfl, ld_col, ld_col, ld_col, ld_col,
    ld_head O 0 0 rfl, ld_head O 128 1 rfl, ld_head O 256 2 rfl, ld_head O 384 3 rfl]
  exact dk_pay R _ j d

/-- The queries' gradient at row `n` and column `p` of a block. -/
def dqPart (Q O W : ℕ → ℕ → ℝ) (K V : Fin 4224 → Fin 128 → ℝ) (n p : ℕ) : ℝ :=
  ∑ j, ds (fun d => Q n (128 * (p / 128) + d.val)) K V (fun d => W n (128 * (p / 128) + d.val)) (fun d => O n (128 * (p / 128) + d.val)) j * K j ⟨p % 128, by omega⟩

theorem dqPart_of {k : ℕ} {r d : Fin 128} {n p : ℕ} (hn : n = r.val) (hp : p = 128 * k + d.val) :
    (∑ j, ds (slice Q k r) K V (slice W k r) (slice O k r) j * K j d) = dqPart Q O W K V n p := by
  have := d.isLt
  rw [dqPart, ← slice_of Q hn hp, ← slice_of W hn hp, ← slice_of O hn hp]
  refine Finset.sum_congr rfl fun j _ => congrArg (fun z => _ * K j z) (Fin.ext (by show _ = p % 128; omega))

theorem p15_apply (v5 : FVec Ideal S4224x128 .bf16) (v15 : FVec Ideal S256x128 .f32) (v26 v31 : FVec Ideal S256x1 .f32) (v32 : FVec Ideal S256x4224 .f32)
    (v46 : Vec Ideal S4224x128 .bf16) (r d : Fin 128) :
    k1_pay15 cols v5 v15 v26 v31 v32 112#32 v46 (ix2 r d) = k1_pay14 cols v5 v15 v26 v31 v32 112#32 v46 (ix2 ⟨r.val, by omega⟩ d) := by
  pointwise [k1_pay15]

theorem p16_apply (v5 : FVec Ideal S4224x128 .bf16) (v15 : FVec Ideal S256x128 .f32) (v26 v31 : FVec Ideal S256x1 .f32) (v32 : FVec Ideal S256x4224 .f32)
    (v46 : Vec Ideal S4224x128 .bf16) (r d : Fin 128) :
    k1_pay16 cols v5 v15 v26 v31 v32 112#32 v46 (ix2 r d) = k1_pay14 cols v5 v15 v26 v31 v32 112#32 v46 (ix2 ⟨128 + r.val, by omega⟩ d) := by
  pointwise [k1_pay16]

theorem c25 (k v : Vec Ideal S4224x128 .bf16) (x y o o' : Vec Ideal S128x128 .bf16) (w w' : Vec Ideal S128x128 .f32) (l l' : Vec Ideal S128x1 .f32) :
    k1_pay25 (F := Ideal) cols (k1_pay6 k) (k1_pay19 x y) (k1_pay20 w w') o o' l l' v
      = k1_pay15 cols (k1_pay6 k) (k1_pay8 w w') (k1_pay9 l l') (k1_pay10 w w' o o') (k1_pay11 k x y) 112#32 v := rfl

theorem c1 (k v : Vec Ideal S4224x128 .bf16) (x y o o' : Vec Ideal S128x128 .bf16) (w w' : Vec Ideal S128x128 .f32) (l l' : Vec Ideal S128x1 .f32) :
    k1_pay1 (k1_pay24 (F := Ideal) cols (k1_pay6 k) (k1_pay19 x y) (k1_pay20 w w') o o' l l' v)
      = k1_pay16 cols (k1_pay6 k) (k1_pay8 w w') (k1_pay9 l l') (k1_pay10 w w' o o') (k1_pay11 k x y) 112#32 v := rfl

variable (qa qb oa ob wa wb : Fin 128 → Fin 128 → ℝ) (la lb : Fin 128 → ℝ) (hl : ∀ r, twos la lb r = lse K (two qa qb r))

include hl in
theorem first_dq (r d : Fin 128) :
    k1_pay15 (F := Ideal) cols (k1_pay6 (full K)) (k1_pay8 (head wa) (head wb)) (k1_pay9 (col la) (col lb)) (k1_pay10 (head wa) (head wb) (head oa) (head ob))
      (k1_pay11 (full K) (head qa) (head qb)) 112#32 (full V) (ix2 r d) = ((∑ j, ds (qa r) K V (wa r) (oa r) j * K j d : ℝ) : EReal) := by
  rw [p15_apply, b14 _ _ _ _ _ _ _ _ _ _ hl, two_fst, two_fst, two_fst]

include hl in
theorem second_dq (r d : Fin 128) :
    k1_pay16 (F := Ideal) cols (k1_pay6 (full K)) (k1_pay8 (head wa) (head wb)) (k1_pay9 (col la) (col lb)) (k1_pay10 (head wa) (head wb) (head oa) (head ob))
      (k1_pay11 (full K) (head qa) (head qb)) 112#32 (full V) (ix2 r d) = ((∑ j, ds (qb r) K V (wb r) (ob r) j * K j d : ℝ) : EReal) := by
  rw [p16_apply, b14 _ _ _ _ _ _ _ _ _ _ hl, two_snd, two_snd, two_snd]

include R in
/-- A point's block of the queries' gradient. -/
theorem dq_at (y : S128x512.Idx) :
    (outsAt1 X c t.val t.isLt).1 y = ((dqPart Q O W K V (y 0).val (y 1).val : ℝ) : Elt Ideal .f32) := by
  by_cases h : t.val % 33 = 0
  on_goal 1 => rw [outsAt1_A X c t h]
  on_goal 2 => rw [outsAt1_B X c t h]
  all_goals
    frame_out
    rw [R.q, R.k, R.v, R.o, R.l, R.w, ld_head Q 0 0 rfl, ld_head Q 128 1 rfl, ld_head Q 256 2 rfl, ld_head Q 384 3 rfl,
    ld_head32 W 0 0 rfl, ld_head32 W 128 1 rfl, ld_head32 W 256 2 rfl, ld_head32 W 384 3 rfl, ld_col, ld_col, ld_col, ld_col,
      ld_head O 0 0 rfl, ld_head O 128 1 rfl, ld_head O 256 2 rfl, ld_head O 384 3 rfl, c25, c1]
    canon_tiles x h
    · rw [eta2 x]
      exact (second_dq _ _ _ _ _ _ _ _ (lse23 R) (x 0) (x 1)).trans (congrArg _ (dqPart_of h0 h1))
    · rw [eta2 x]
      exact (first_dq _ _ _ _ _ _ _ _ (lse23 R) (x 0) (x 1)).trans (congrArg _ (dqPart_of h0 h1))
    · rw [eta2 x]
      exact (second_dq _ _ _ _ _ _ _ _ (lse01 R) (x 0) (x 1)).trans (congrArg _ (dqPart_of h0 h1))
    · rw [eta2 x]
      exact (first_dq _ _ _ _ _ _ _ _ (lse01 R) (x 0) (x 1)).trans (congrArg _ (dqPart_of h0 (h1.trans (Nat.zero_add _).symm)))

end Cert.AttnIdeal.Mine

end
-- ==== Proof.Attn.Sums.lean ====
/- What the backward region leaves in its three arrays. -/
module

public import proofs.«01_k».proof.Proof.Attn.Ends
public import proofs.«01_k».proof.Proof.Attn.Point

@[expose] public section

set_option maxRecDepth 16384

noncomputable section

namespace Cert.AttnIdeal.Mine

open Idealize.ShloMosaic Idealize.ShloMosaic.TcCoe Idealize.SL.Sem
open Idealize.ShloMosaic.Pipeline (Dat)
open Cert.AttnIdeal Cert.AttnIdeal.Gen Cert.Reals Cert.Attention

variable {m : (ℓ : Loc nD τ sig) → Buf (Elt Ideal) ℓ} {ρ : Dev nD → PrngReg}
variable {c : Dev nD} {q k v w : ℕ → ℕ → ℝ} (A : Args m c q k v w)

theorem idx1 : ∀ t : Fin cfg1.N, (win1_0.index t = ![t.val % 33, t.val / 33] ∧ win1_1.index t = ![0, t.val / 33] ∧ win1_2.index t = ![0, t.val / 33])
    ∧ (win1_3.index t = ![t.val % 33, t.val / 33] ∧ win1_4.index t = ![t.val % 33, t.val / 33] ∧ win1_5.index t = ![t.val % 33, t.val / 33])
    ∧ win1_6.index t = ![t.val % 33, t.val / 33] ∧ win1_7.index t = ![0, t.val / 33] ∧ win1_8.index t = ![0, t.val / 33] :=
  (by decide +kernel : ∀ t : Fin grid1.N, _)

/-- A block of an array: 128 rows from the `s`-th block of rows, 512 columns from the `u`-th. -/
def blk (a : ℕ → ℕ → ℝ) (s u n z : ℕ) : ℝ := a (128 * s + n) (512 * u + z)

include A in
/-- Every point reads real blocks. -/
theorem reads (t : Fin cfg1.N) : Reads (blk (pad (scaled q)) (t.val % 33) (t.val / 33)) (blk (mixedAt q k v) (t.val % 33) (t.val / 33))
    (blk (lseAt q k) (t.val % 33) (t.val / 33)) (blk (pad w) (t.val % 33) (t.val / 33)) (keys k (t.val / 33)) (vals v (t.val / 33)) (V3 m ρ) c t where
  q := by
    funext y
    blk_simp [iblk1]
    rw [V3_q, V1_q A]
    refine congrArg₂ (fun a b => ((pad (scaled q) a b : ℝ) : EReal)) ?_ ?_ <;> blk_simp [idx1 t, mul_comm]
  k := by
    funext y
    blk_simp [iblk1]
    rw [V3_k, V1_k A]
    refine congrArg₂ (fun a b => ((pad k a b : ℝ) : EReal)) ?_ ?_ <;> blk_simp [idx1 t, mul_comm]
  v := by
    funext y
    blk_simp [iblk1]
    rw [V3_v, V1_v A]
    refine congrArg₂ (fun a b => ((padOnes v a b : ℝ) : EReal)) ?_ ?_ <;> blk_simp [idx1 t, mul_comm]
  o := by
    funext y
    blk_simp [iblk1]
    rw [V3_o, arr_o A]
    refine congrArg₂ (fun a b => ((mixedAt q k v a b : ℝ) : EReal)) ?_ ?_ <;> blk_simp [idx1 t, mul_comm]
  l := by
    funext y
    blk_simp [iblk1]
    rw [V3_lse, arr_lse A]
    refine congrArg₂ (fun a b => ((lseAt q k a b : ℝ) : EReal)) ?_ ?_ <;> blk_simp [idx1 t, mul_comm]
  w := by
    funext y
    blk_simp [iblk1]
    rw [V3_w A]
    refine congrArg₂ (fun a b => ((pad w a b : ℝ) : EReal)) ?_ ?_ <;> blk_simp [idx1 t, mul_comm]
  lse := by
    intro n p hp
    rw [blk, lseAt, show (512 * (t.val / 33) + p) / 512 = t.val / 33 by omega]
    refine congrArg (Mine.lse _) ?_
    funext d
    rw [rowOf, blk, show 128 * ((512 * (t.val / 33) + p) / 128) = 512 * (t.val / 33) + 128 * (p / 128) by omega, add_assoc]

/-- The parts of point `s` of key head `u`. -/
def dvPt (q k w : ℕ → ℕ → ℝ) (u s : ℕ) (j : Fin 4224) (d : Fin 128) : ℝ := dvPart (blk (pad (scaled q)) s u) (blk (pad w) s u) (keys k u) j d
def dkPt (q k v w : ℕ → ℕ → ℝ) (u s : ℕ) (j : Fin 4224) (d : Fin 128) : ℝ :=
  dkPart (blk (pad (scaled q)) s u) (blk (mixedAt q k v) s u) (blk (pad w) s u) (keys k u) (vals v u) j d

include A in
/-- After a point the values' gradient holds the parts of its key head so far. -/
theorem dv_sum (j : Fin 4224) (d : Fin 128) : ∀ (n : ℕ) (hn : n < cfg1.N),
    (outsAt1 (V3 m ρ) c n hn).2.2 (ix2 j d) = ((∑ s ∈ Finset.range (n % 33 + 1), dvPt q k w (n / 33) s j d : ℝ) : Elt Ideal .f32) := by
  intro n
  induction n with
  | zero =>
    intro hn
    refine (dv_A (reads A ⟨0, hn⟩) rfl j d).trans (congrArg (fun r : ℝ => (r : EReal)) ?_)
    show dvPt q k w (0 / 33) (0 % 33) j d = _
    rw [Nat.zero_mod, zero_add, Finset.sum_range_one]
  | succ n ih =>
    intro hn
    by_cases h : (n + 1) % 33 = 0
    · refine (dv_A (reads A ⟨n + 1, hn⟩) h j d).trans (congrArg (fun r : ℝ => (r : EReal)) ?_)
      show dvPt q k w ((n + 1) / 33) ((n + 1) % 33) j d = _
      rw [h, Finset.sum_range_one]
    · refine (dv_B (reads A ⟨n + 1, hn⟩) h j d).trans ?_
      refine (congrArg (· + _) (ih (Nat.lt_of_succ_lt hn))).trans ((EReal.coe_add _ _).symm.trans (congrArg (fun r : ℝ => (r : EReal)) ?_))
      show _ + dvPt q k w ((n + 1) / 33) ((n + 1) % 33) j d = _
      rw [show n / 33 = (n + 1) / 33 by omega, show n % 33 + 1 = (n + 1) % 33 by omega, Finset.sum_range_succ]

include A in
/-- After a point the keys' gradient holds the parts of its key head so far. -/
theorem dk_sum (j : Fin 4224) (d : Fin 128) : ∀ (n : ℕ) (hn : n < cfg1.N),
    (outsAt1 (V3 m ρ) c n hn).2.1 (ix2 j d) = ((∑ s ∈ Finset.range (n % 33 + 1), dkPt q k v w (n / 33) s j d : ℝ) : Elt Ideal .f32) := by
  intro n
  induction n with
  | zero =>
    intro hn
    refine (dk_A (reads A ⟨0, hn⟩) rfl j d).trans (congrArg (fun r : ℝ => (r : EReal)) ?_)
    show dkPt q k v w (0 / 33) (0 % 33) j d = _
    rw [Nat.zero_mod, zero_add, Finset.sum_range_one]
  | succ n ih =>
    intro hn
    by_cases h : (n + 1) % 33 = 0
    · refine (dk_A (reads A ⟨n + 1, hn⟩) h j d).trans (congrArg (fun r : ℝ => (r : EReal)) ?_)
      show dkPt q k v w ((n + 1) / 33) ((n + 1) % 33) j d = _
      rw [h, Finset.sum_range_one]
    · refine (dk_B (reads A ⟨n + 1, hn⟩) h j d).trans ?_
      refine (congrArg (· + _) (ih (Nat.lt_of_succ_lt hn))).trans ((EReal.coe_add _ _).symm.trans (congrArg (fun r : ℝ => (r : EReal)) ?_))
      show _ + dkPt q k v w ((n + 1) / 33) ((n + 1) % 33) j d = _
      rw [show n / 33 = (n + 1) / 33 by omega, show n % 33 + 1 = (n + 1) % 33 by omega, Finset.sum_range_succ]

theorem last7 : ∀ t : Fin cfg1.N, (cfg1.win 7).flush t = true → t.val % 33 = 32 := (by decide +kernel : ∀ t : Fin grid1.N, _)
theorem last8 : ∀ t : Fin cfg1.N, (cfg1.win 8).flush t = true → t.val % 33 = 32 := (by decide +kernel : ∀ t : Fin grid1.N, _)

theorem eta4224 (x : S4224x128.Idx) : x = ix2 (x 0) (x 1) := by
  funext a; match a with | 0 => rfl | 1 => rfl

/-- The three gradients, by the coordinates of the arrays. -/
def dvAt (q k w : ℕ → ℕ → ℝ) (j : Fin 4224) (p : ℕ) : ℝ := ∑ s ∈ Finset.range 33, dvPt q k w (p / 128) s j ⟨p % 128, by omega⟩
def dkAt (q k v w : ℕ → ℕ → ℝ) (j : Fin 4224) (p : ℕ) : ℝ := ∑ s ∈ Finset.range 33, dkPt q k v w (p / 128) s j ⟨p % 128, by omega⟩
def dqAt (q k v w : ℕ → ℕ → ℝ) (n p : ℕ) : ℝ :=
  ∑ j, ds (rowOf (scaled q) n (p / 128)) (keys k (p / 512)) (vals v (p / 512)) (rowOf w n (p / 128)) (fun d => mixedAt q k v n (128 * (p / 128) + d.val)) j
    * keys k (p / 512) j ⟨p % 128, by omega⟩

theorem dvAt_mk {u p : ℕ} {j : Fin 4224} {d : Fin 128} (h : p = 128 * u + d.val) : dvAt q k w j p = ∑ s ∈ Finset.range 33, dvPt q k w u s j d := by
  have := d.isLt
  rw [dvAt, show p / 128 = u by omega]
  exact Finset.sum_congr rfl fun s _ => congrArg (dvPt q k w _ s _) (Fin.ext (by show p % 128 = _; omega))

theorem dkAt_mk {u p : ℕ} {j : Fin 4224} {d : Fin 128} (h : p = 128 * u + d.val) : dkAt q k v w j p = ∑ s ∈ Finset.range 33, dkPt q k v w u s j d := by
  have := d.isLt
  rw [dkAt, show p / 128 = u by omega]
  exact Finset.sum_congr rfl fun s _ => congrArg (dkPt q k v w _ s _) (Fin.ext (by show p % 128 = _; omega))

theorem dv_end {u p : ℕ} {j j' : Fin 4224} {d : Fin 128} (h : j' = j) (h' : p = 128 * u + d.val) :
    (∑ s ∈ Finset.range (32 + 1), dvPt q k w u s j d) = dvAt q k w j' p := by
  subst h
  exact (dvAt_mk h').symm

include A in
theorem arr_dv : (dat1 (V3 m ρ) c).arrAt 8 cfg1.N = fun i : S4224x256.Idx => ((dvAt q k w (i 0) (i 1).val : ℝ) : EReal) := by
  refine (dat1 (V3 m ρ) c).arrAt_eq_of_covers 8 _ (by decide +kernel) fun p hp (y : S4224x128.Idx) => ?_
  rw [after1_8]
  have hy : (y 1).val < 128 := (y 1).isLt
  refine (congrArg _ (eta4224 y)).trans ((dv_sum A (y 0) (y 1) p.val p.isLt).trans (congrArg (fun r : ℝ => (r : EReal)) ?_))
  have e0 : (win1_8.blk p).view.emb y 0 = y 0 := Fin.ext (by blk_simp [idx1 p])
  have e1 : ((win1_8.blk p).view.emb y 1).val = 128 * (p.val / 33) + (y 1).val := by blk_simp [idx1 p, mul_comm]
  show _ = dvAt q k w ((win1_8.blk p).view.emb y 0) ((win1_8.blk p).view.emb y 1).val
  rw [last8 p hp]
  exact dv_end e0 e1

theorem dk_end {u p : ℕ} {j j' : Fin 4224} {d : Fin 128} (h : j' = j) (h' : p = 128 * u + d.val) :
    (∑ s ∈ Finset.range (32 + 1), dkPt q k v w u s j d) = dkAt q k v w j' p := by
  subst h
  exact (dkAt_mk h').symm

include A in
theorem arr_dk : (dat1 (V3 m ρ) c).arrAt 7 cfg1.N = fun i : S4224x256.Idx => ((dkAt q k v w (i 0) (i 1).val : ℝ) : EReal) := by
  refine (dat1 (V3 m ρ) c).arrAt_eq_of_covers 7 _ (by decide +kernel) fun p hp (y : S4224x128.Idx) => ?_
  rw [after1_7]
  have hy : (y 1).val < 128 := (y 1).isLt
  refine (congrArg _ (eta4224 y)).trans ((dk_sum A (y 0) (y 1) p.val p.isLt).trans (congrArg (fun r : ℝ => (r : EReal)) ?_))
  have e0 : (win1_7.blk p).view.emb y 0 = y 0 := Fin.ext (by blk_simp [idx1 p])
  have e1 : ((win1_7.blk p).view.emb y 1).val = 128 * (p.val / 33) + (y 1).val := by blk_simp [idx1 p, mul_comm]
  show _ = dkAt q k v w ((win1_7.blk p).view.emb y 0) ((win1_7.blk p).view.emb y 1).val
  rw [last7 p hp]
  exact dk_end e0 e1

include A in
theorem arr_dq : (dat1 (V3 m ρ) c).arrAt 6 cfg1.N = fun i : S4224x1024.Idx => ((dqAt q k v w (i 0).val (i 1).val : ℝ) : EReal) := by
  refine (dat1 (V3 m ρ) c).arrAt_eq_of_covers 6 _ (by decide +kernel) fun p hp (y : S128x512.Idx) => ?_
  rw [after1_6]
  have hy : (y 1).val < 512 := (y 1).isLt
  refine (dq_at (reads A p) y).trans (congrArg (fun r : ℝ => (r : EReal)) ?_)
  have e0 : ((win1_6.blk p).view.emb y 0).val = 128 * (p.val % 33) + (y 0).val := by blk_simp [idx1 p, mul_comm]
  have e1 : ((win1_6.blk p).view.emb y 1).val = 512 * (p.val / 33) + (y 1).val := by blk_simp [idx1 p, mul_comm]
  show _ = dqAt q k v w ((win1_6.blk p).view.emb y 0).val ((win1_6.blk p).view.emb y 1).val
  rw [e0, e1, dqAt, dqPart, show (512 * (p.val / 33) + (y 1).val) / 512 = p.val / 33 by omega]
  have h (a : ℕ → ℕ → ℝ) : (fun d : Fin 128 => blk a (p.val % 33) (p.val / 33) (y 0).val (128 * ((y 1).val / 128) + d.val))
      = fun d : Fin 128 => a (128 * (p.val % 33) + (y 0).val) (128 * ((512 * (p.val / 33) + (y 1).val) / 128) + d.val) := by
    funext d
    rw [blk]
    exact congrArg (a _) (by omega)
  rw [h, h, h]
  exact Finset.sum_congr rfl fun j _ => congrArg (fun z => _ * keys k (p.val / 33) j z) (Fin.ext (by show (y 1).val % 128 = (512 * (p.val / 33) + (y 1).val) % 128; omega))

end Cert.AttnIdeal.Mine

end
-- ==== Proof.Attn.Math.lean ====
/- The padded attention, in powers of two, is the plain one in exponentials: weights, mixed values, scores' gradients. -/
module

public import proofs.«01_k».proof.Proof.Attn.Plain
public import proofs.«01_k».proof.Proof.Attn.Sums

@[expose] public section

set_option maxRecDepth 16384

noncomputable section

namespace Cert.AttnIdeal.Mine

open Cert.Reals Cert.Attention

variable (q k v w : ℕ → ℕ → ℝ) (u g n : ℕ)

/-- The last 64 columns of a head add nothing. -/
theorem sum_cols (f : Fin 128 → ℝ) (h : ∀ d : Fin 64, f (Fin.natAdd 64 d) = 0) : ∑ d, f d = ∑ d : Fin 64, f (Fin.castAdd 64 d) := by
  rw [Fin.sum_univ_add (a := 64) (b := 64) f, Finset.sum_eq_zero (fun d _ => h d), add_zero]

/-- The first 112 key rows add nothing. -/
theorem sum_rows (f : Fin 4224 → ℝ) (h : ∀ j : Fin 112, f (Fin.castAdd 4112 j) = 0) : ∑ j, f j = ∑ s : Fin 4112, f (Fin.natAdd 112 s) := by
  rw [Fin.sum_univ_add (a := 112) (b := 4112) f, Finset.sum_eq_zero (fun d _ => h d), zero_add]

theorem rowOf_in (a : ℕ → ℕ → ℝ) (h : ℕ) (d : Fin 64) : rowOf a (112 + n) h (Fin.castAdd 64 d) = a n (h * 64 + d.val) := by
  have := d.isLt
  rw [rowOf, pad_in _ _ _ (by show (128 * h + d.val) % 128 < 64; omega) (by omega)]
  exact congrArg₂ a (by omega) (by show (128 * h + d.val) / 128 * 64 + (128 * h + d.val) % 128 = _; omega)
theorem rowOf_out (a : ℕ → ℕ → ℝ) (n h : ℕ) (d : Fin 64) : rowOf a n h (Fin.natAdd 64 d) = 0 :=
  pad_out _ _ _ (by have := d.isLt; show ¬ (128 * h + (64 + d.val)) % 128 < 64; omega)
theorem rowOf_top (a : ℕ → ℕ → ℝ) {n : ℕ} (hn : n < 112) (h : ℕ) (d : Fin 128) : rowOf a n h d = 0 := pad_top _ _ _ hn
theorem keys_in (s : Fin 4112) (d : Fin 64) : keys k u (Fin.natAdd 112 s) (Fin.castAdd 64 d) = k s.val (u * 64 + d.val) :=
  rowOf_in s.val k u d
theorem keys_out (j : Fin 4224) (d : Fin 64) : keys k u j (Fin.natAdd 64 d) = 0 := rowOf_out k j.val u d
theorem vals_in (s : Fin 4112) (d : Fin 64) : vals v u (Fin.natAdd 112 s) (Fin.castAdd 64 d) = v s.val (u * 64 + d.val) := by
  have := d.isLt
  rw [vals, padOnes, if_neg (by show ¬ (128 * u + d.val) % 128 = 64; omega)]
  exact rowOf_in s.val v u d

theorem sc_eq (s : Fin 4112) : sc (rowOf (scaled q) (112 + n) (u * 4 + g)) (keys k u) (Fin.natAdd 112 s) = score q k u g n s.val / Real.log 2 := by
  rw [sc, sum_cols _ (fun d => by rw [keys_out, mul_zero]), score, Finset.sum_div]
  refine Finset.sum_congr rfl fun d _ => ?_
  rw [rowOf_in, keys_in, scaled]
  ring

theorem wt_in (s : Fin 4112) : wt (rowOf (scaled q) (112 + n) (u * 4 + g)) (keys k u) (Fin.natAdd 112 s) = Real.exp (score q k u g n s.val) := by
  have h := (Real.log_pos one_lt_two).ne'
  rw [wt, if_neg (by show ¬ 112 + s.val < 112; omega), sc_eq]
  show (2 : ℝ) ^ (score q k u g n s.val / Real.log 2) = _
  rw [Real.rpow_def_of_pos two_pos, mul_div_cancel₀ _ h]

theorem wt_top (r : Fin 128 → ℝ) (K : Fin 4224 → Fin 128 → ℝ) (j : Fin 112) : wt r K (Fin.castAdd 4112 j) = 0 := if_pos j.isLt
theorem pr_top (r : Fin 128 → ℝ) (K : Fin 4224 → Fin 128 → ℝ) (j : Fin 112) : pr r K (Fin.castAdd 4112 j) = 0 := by rw [pr, wt_top, zero_div]
theorem ds_top (r : Fin 128 → ℝ) (K V : Fin 4224 → Fin 128 → ℝ) (W O : Fin 128 → ℝ) (j : Fin 112) : ds r K V W O (Fin.castAdd 4112 j) = 0 := by
  rw [ds, pr_top, zero_mul]

theorem pr_in (s : Fin 4112) : pr (rowOf (scaled q) (112 + n) (u * 4 + g)) (keys k u) (Fin.natAdd 112 s) = prob q k u g n s.val := by
  rw [pr, wt_in, tot, sum_rows _ (fun j => wt_top _ _ j), prob, total]
  exact congrArg (_ / ·) (Finset.sum_congr rfl fun s _ => wt_in q k u g n s)

theorem mix_in (d : Fin 64) : mix (rowOf (scaled q) (112 + n) (u * 4 + g)) (keys k u) (vals v u) (Fin.castAdd 64 d) = mixture q k v u g n d.val := by
  rw [mix, sum_rows _ (fun j => by rw [pr_top, zero_mul]), mixture]
  refine Finset.sum_congr rfl fun s _ => ?_
  rw [pr_in, vals_in]

/-- A row of mixed values, as the backward region reads it. -/
def rowO (n h : ℕ) (d : Fin 128) : ℝ := mixedAt q k v n (128 * h + d.val)

theorem rowO_in (hg : g < 4) (d : Fin 64) : rowO q k v (112 + n) (u * 4 + g) (Fin.castAdd 64 d) = mixture q k v u g n d.val := by
  have := d.isLt
  have h : (⟨(128 * (u * 4 + g) + d.val) % 128, by omega⟩ : Fin 128) = Fin.castAdd 64 d := Fin.ext (by show (128 * (u * 4 + g) + d.val) % 128 = d.val; omega)
  rw [rowO, mixedAt, mixed, if_neg (by omega)]
  show (if (128 * (u * 4 + g) + d.val) % 128 < 64 then mix _ _ _ ⟨(128 * (u * 4 + g) + d.val) % 128, _⟩ else 0) = _
  rw [if_pos (by omega), h, ← mix_in]
  show mix (rowOf (scaled q) (112 + n) ((128 * (u * 4 + g) + d.val) / 128)) (keys k ((128 * (u * 4 + g) + d.val) / 512)) (vals v ((128 * (u * 4 + g) + d.val) / 512)) _ = _
  rw [show (128 * (u * 4 + g) + d.val) / 128 = u * 4 + g by omega, show (128 * (u * 4 + g) + d.val) / 512 = u by omega]

theorem dp_in (s : Fin 4112) : (∑ d, rowOf w (112 + n) (u * 4 + g) d * Real.log 2 * vals v u (Fin.natAdd 112 s) d) = dprob v w u g n s.val * Real.log 2 := by
  rw [sum_cols _ (fun d => by rw [rowOf_out, zero_mul, zero_mul]), dprob, Finset.sum_mul]
  refine Finset.sum_congr rfl fun d _ => ?_
  rw [rowOf_in, vals_in]
  ring

theorem dl_in (hg : g < 4) : dl (rowOf w (112 + n) (u * 4 + g)) (rowO q k v (112 + n) (u * 4 + g))
    = (∑ s : Fin 4112, prob q k u g n s.val * dprob v w u g n s.val) * Real.log 2 := by
  rw [dl, sum_cols _ (fun d => by rw [rowOf_out, zero_mul])]
  refine congrArg (· * _) ?_
  simp only [rowOf_in, rowO_in _ _ _ _ _ _ hg, mixture, dprob, Finset.mul_sum]
  rw [Finset.sum_comm]
  refine Finset.sum_congr rfl fun s _ => Finset.sum_congr rfl fun d _ => ?_
  ring

theorem ds_in (hg : g < 4) (s : Fin 4112) : ds (rowOf (scaled q) (112 + n) (u * 4 + g)) (keys k u) (vals v u) (rowOf w (112 + n) (u * 4 + g))
    (rowO q k v (112 + n) (u * 4 + g)) (Fin.natAdd 112 s) = dscore q k v w u g n s.val * Real.log 2 := by
  rw [ds, pr_in, dp_in, dl_in _ _ _ _ _ _ _ hg, dscore]
  ring

/-- A row of zeros gives no gradient. -/
theorem ds_zero {n : ℕ} (hn : n < 112) (h : ℕ) (r : Fin 128 → ℝ) (K V : Fin 4224 → Fin 128 → ℝ) (O : Fin 128 → ℝ) (j : Fin 4224) :
    ds r K V (rowOf w n h) O j = 0 := by
  simp only [ds, dl, rowOf_top w hn, zero_mul, Finset.sum_const_zero, sub_zero, mul_zero]

end Cert.AttnIdeal.Mine

end
-- ==== Proof.Attn.Ref.lean ====
/- The reference's attention and its gradients, stage by stage, at arrays of real numbers. -/
module

public import Idealize.ShloMosaic.Lib.TwoAxisContraction
public import proofs.«01_k».proof.Proof.Attn.Plain
public import proofs.«01_k».proof.Proof.Gen.AttnRefIdeal.Read

@[expose] public section

set_option maxRecDepth 16384

noncomputable section

namespace Cert.AttnRefIdeal.Mine

open Idealize.ShloMosaic Idealize.ShloMosaic.TcCoe Idealize.SL.Sem
open Idealize.ShloMosaic.ValueIdx (contrEquiv2 contrEquiv2_symm_val0 contrEquiv2_symm_val1)
open Cert.AttnRefIdeal Cert.AttnRefIdeal.Gen Cert.AttnRefIdeal.Read Cert.Reals Cert.Attention

variable (q k v w : ℕ → ℕ → ℝ)

/-- The arguments as arrays: 512 columns of queries and of the gradient, 128 of keys and of values. -/
def Q : (⟨S4112x512, .f32⟩ : BufTy).Contents (Elt Ideal) := fun i : S4112x512.Idx => ((q (i 0).val (i 1).val : ℝ) : EReal)
def K : (⟨S4112x128, .f32⟩ : BufTy).Contents (Elt Ideal) := fun i : S4112x128.Idx => ((k (i 0).val (i 1).val : ℝ) : EReal)

theorem v1 (i : S2x4x4112x64.Idx) : val_main_v1 (F := Ideal) (Q q) i
    = ((q (i 2).val (((i 0).val * 4 + (i 1).val) * 64 + (i 3).val) : ℝ) : EReal) := by
  rw [val_main_v1_apply, val_main_v0_apply]
  have h0 : (i 0).val < 2 := (i 0).isLt
  have h1 : (i 1).val < 4 := (i 1).isLt
  have h2 : (i 2).val < 4112 := (i 2).isLt
  have h3 : (i 3).val < 64 := (i 3).isLt
  refine congrArg₂ (fun a b => ((q a b : ℝ) : EReal)) ?_ ?_
  · show (((((i 2).val * 2 + (i 0).val) * 4 + (i 1).val) * 64 + (i 3).val) / 512) = _; omega
  · show (((((i 2).val * 2 + (i 0).val) * 4 + (i 1).val) * 64 + (i 3).val) % 512) = _; omega

theorem v39 (i : S2x4x4112x64.Idx) : val_main_v39 (F := Ideal) (Q w) i
    = ((w (i 2).val (((i 0).val * 4 + (i 1).val) * 64 + (i 3).val) : ℝ) : EReal) := v1 w i

theorem v3 (i : S2x4112x64.Idx) : val_main_v3 (F := Ideal) (K k) i = ((k (i 1).val ((i 0).val * 64 + (i 2).val) : ℝ) : EReal) := by
  rw [val_main_v3_apply, val_main_v2_apply]
  have h0 : (i 0).val < 2 := (i 0).isLt
  have h1 : (i 1).val < 4112 := (i 1).isLt
  have h2 : (i 2).val < 64 := (i 2).isLt
  refine congrArg₂ (fun a b => ((k a b : ℝ) : EReal)) ?_ ?_
  · show ((((i 1).val * 2 + (i 0).val) * 64 + (i 2).val) / 128) = _; omega
  · show ((((i 1).val * 2 + (i 0).val) * 64 + (i 2).val) % 128) = _; omega

theorem v5 (i : S2x4112x64.Idx) : val_main_v5 (F := Ideal) (K v) i = ((v (i 1).val ((i 0).val * 64 + (i 2).val) : ℝ) : EReal) := v3 v i

theorem v6 (i : S2x4x4112x4112.Idx) : val_main_v6 (F := Ideal) (Q q) (K k) i
    = ((score q k (i 0).val (i 1).val (i 2).val (i 3).val : ℝ) : EReal) := by
  rw [val_main_v6_apply]
  simp only [v1, v3, ← EReal.coe_mul, coe_sum]
  rfl

theorem v42 (i : S2x4x4112x4112.Idx) : val_main_v42 (F := Ideal) (K v) (Q w) i
    = ((dprob v w (i 0).val (i 1).val (i 2).val (i 3).val : ℝ) : EReal) := v6 w v i

/-- The largest score of a row is real. -/
theorem v7 (i : S2x4x4112.Idx) : ∃ M : ℝ, val_main_v7 (F := Ideal) (Q q) (K k) i = ((M : ℝ) : EReal) := by
  unfold val_main_v7
  rw [Host.reduce_eq_fold, show val_main_cst (F := Ideal) (Shape.Idx.first h_S_) = ⊥ from neg_inf_f32]
  refine fold_max_real _ _ (fun j _ => ?_) ⟨ix4 (i 0) (i 1) (i 2) 0, Finset.mem_filter.mpr ⟨Finset.mem_univ _, ?_⟩, ?_⟩
  · rw [v6]; exact EReal.coe_lt_top _
  · funext a
    match a with
    | ⟨0, _⟩ => rfl
    | ⟨1, _⟩ => rfl
    | ⟨2, _⟩ => rfl
  · rw [v6]; exact EReal.bot_lt_coe _

/-- A row's largest score. -/
def top (i : S2x4x4112.Idx) : ℝ := (v7 q k i).choose
theorem top_spec (i : S2x4x4112.Idx) : val_main_v7 (F := Ideal) (Q q) (K k) i = ((top q k i : ℝ) : EReal) := (v7 q k i).choose_spec

/-- A row's coordinates. -/
def row4 (i : S2x4x4112x4112.Idx) : S2x4x4112.Idx := ix3 (i 0) (i 1) (i 2)

theorem v27 (i : S2x4x4112x4112.Idx) : val_main_v27 (F := Ideal) (Q q) (K k) i
    = ((Real.exp (score q k (i 0).val (i 1).val (i 2).val (i 3).val - top q k (row4 i)) : ℝ) : EReal) := by
  have h : val_main_v25 (F := Ideal) (Q q) (K k) i = ((top q k (row4 i) : ℝ) : EReal) := by
    rw [val_main_v25_apply, val_main_v24_apply, val_main_v14_apply, top_spec, val_main_v13_apply]
    refine (congrArg (max · _) neg_inf_f32).trans ((max_eq_right bot_le).trans ?_)
    refine congrArg (fun z => ((top q k z : ℝ) : EReal)) ?_
    funext a
    match a with
    | ⟨0, _⟩ => rfl
    | ⟨1, _⟩ => rfl
    | ⟨2, _⟩ => rfl
  rw [val_main_v27_apply, val_main_v26_apply, h, v6]
  exact (congrArg Ideal.exp (EReal.coe_sub _ _).symm).trans rfl

/-- The sum of a row's lowered exponentials. -/
def low (i : S2x4x4112.Idx) : ℝ := ∑ s : Fin 4112, Real.exp (score q k (i 0).val (i 1).val (i 2).val s.val - top q k i)
theorem low_pos (i : S2x4x4112.Idx) : 0 < low q k i := lowered_pos q k _ _ _ _

theorem v28 (i : S2x4x4112.Idx) : val_main_v28 (F := Ideal) (Q q) (K k) i = ((low q k i : ℝ) : EReal) := by
  rw [val_main_v28_apply]
  refine (congrArg₂ (· + ·) zero_f32 (Finset.sum_congr rfl fun s _ => v27 q k _)).trans ?_
  rw [coe_sum, ← EReal.coe_add, zero_add]
  refine congrArg (fun r : ℝ => (r : EReal)) (Finset.sum_congr rfl fun s _ => congrArg (fun z => Real.exp (_ - top q k z)) ?_)
  funext a
  match a with
  | ⟨0, _⟩ => rfl
  | ⟨1, _⟩ => rfl
  | ⟨2, _⟩ => rfl

theorem v29 (i : S2x4x4112x1.Idx) : val_main_v29 (F := Ideal) (Q q) (K k) i = ((low q k (ix3 (i 0) (i 1) (i 2)) : ℝ) : EReal) := by
  rw [val_main_v29_apply, v28]
  refine congrArg (fun z => ((low q k z : ℝ) : EReal)) ?_
  funext a
  match a with
  | ⟨0, _⟩ => rfl
  | ⟨1, _⟩ => rfl
  | ⟨2, _⟩ => rfl

theorem low_prob (i : S2x4x4112x4112.Idx) : Real.exp (score q k (i 0).val (i 1).val (i 2).val (i 3).val - top q k (row4 i)) / low q k (row4 i)
    = prob q k (i 0).val (i 1).val (i 2).val (i 3).val := prob_lower q k _ _ _ _ _

theorem v31 (i : S2x4x4112x4112.Idx) : val_main_v31 (F := Ideal) (Q q) (K k) i
    = ((prob q k (i 0).val (i 1).val (i 2).val (i 3).val : ℝ) : EReal) := by
  rw [val_main_v31_apply, v27, val_main_v30_apply, v29]
  refine (div_coe_coe (low_pos q k _).ne' _).trans (congrArg (fun r : ℝ => (r : EReal)) ?_)
  exact low_prob q k i

theorem v35 (i : S2x4x4112x64.Idx) : val_main_v35 (F := Ideal) (Q q) (K k) (K v) i
    = ((mixture q k v (i 0).val (i 1).val (i 2).val (i 3).val : ℝ) : EReal) := by
  rw [val_main_v35_apply]
  simp only [v31, v5, ← EReal.coe_mul, coe_sum]
  rfl

theorem v34 (i : S2x4x4112x1.Idx) : val_main_v34 (F := Ideal) (Q q) (K k) i
    = ((1 / (low q k (ix3 (i 0) (i 1) (i 2)) * low q k (ix3 (i 0) (i 1) (i 2))) : ℝ) : EReal) := by
  rw [val_main_v34_apply, val_main_v32_apply, v29, val_main_v33_apply]
  refine (congrArg₂ Ideal.div one_f32 (EReal.coe_mul _ _).symm).trans (div_coe_coe ?_ _)
  exact mul_ne_zero (low_pos q k _).ne' (low_pos q k _).ne'

theorem v45 (i : S2x4x4112x4112.Idx) : val_main_v45 (F := Ideal) (Q q) (K k) (K v) (Q w) i
    = ((prob q k (i 0).val (i 1).val (i 2).val (i 3).val * dprob v w (i 0).val (i 1).val (i 2).val (i 3).val / low q k (row4 i) : ℝ) : EReal) := by
  rw [val_main_v45_apply, val_main_v44_apply, v42, val_main_v43_apply, v34, v27]
  refine (congrArg (· * _) (EReal.coe_mul _ _).symm).trans ((EReal.coe_mul _ _).symm.trans (congrArg (fun r : ℝ => (r : EReal)) ?_))
  rw [← low_prob]
  show dprob v w (i 0).val (i 1).val (i 2).val (i 3).val * (1 / (low q k (row4 i) * low q k (row4 i))) * _ = _
  have := (low_pos q k (row4 i)).ne'
  field_simp

theorem v51 (i : S2x4x4112.Idx) : val_main_v51 (F := Ideal) (Q q) (K k) (K v) (Q w) i
    = ((-((∑ s : Fin 4112, prob q k (i 0).val (i 1).val (i 2).val s.val * dprob v w (i 0).val (i 1).val (i 2).val s.val) / low q k i) : ℝ) : EReal) := by
  have h (j : S2x4x4112.Idx) : val_main_v46 (F := Ideal) (Q q) (K k) (K v) (Q w) j
      = (((∑ s : Fin 4112, prob q k (j 0).val (j 1).val (j 2).val s.val * dprob v w (j 0).val (j 1).val (j 2).val s.val) / low q k j : ℝ) : EReal) := by
    rw [val_main_v46_apply]
    refine (congrArg₂ (· + ·) zero_f32 (Finset.sum_congr rfl fun s _ => v45 q k v w _)).trans ?_
    rw [coe_sum, ← EReal.coe_add, zero_add, Finset.sum_div]
    refine congrArg (fun r : ℝ => (r : EReal)) (Finset.sum_congr rfl fun s _ => congrArg (fun z => _ / low q k z) ?_)
    funext a
    match a with
    | ⟨0, _⟩ => rfl
    | ⟨1, _⟩ => rfl
    | ⟨2, _⟩ => rfl
  rw [val_main_v51_apply, Fin.sum_univ_one, val_main_v48_apply, val_main_v47_apply, h]
  refine (congrArg₂ (· + ·) zero_f32 (EReal.coe_neg _).symm).trans ?_
  rw [← EReal.coe_add, zero_add]
  have e : idx_main_v47 (idx_main_v51 i 0) = i := by
    have h0 : (i 0).val < 2 := (i 0).isLt
    have h1 : (i 1).val < 4 := (i 1).isLt
    have h2 : (i 2).val < 4112 := (i 2).isLt
    funext a
    match a with
    | ⟨0, _⟩ => exact Fin.ext (by show ((((i 0).val * 4 + (i 1).val) * 4112 + (i 2).val) * 1 + 0) / 16448 = (i 0).val; omega)
    | ⟨1, _⟩ => exact Fin.ext (by show ((((i 0).val * 4 + (i 1).val) * 4112 + (i 2).val) * 1 + 0) / 4112 % 4 = (i 1).val; omega)
    | ⟨2, _⟩ => exact Fin.ext (by show ((((i 0).val * 4 + (i 1).val) * 4112 + (i 2).val) * 1 + 0) % 4112 = (i 2).val; omega)
  rw [e]

theorem v54 (i : S2x4x4112x4112.Idx) : val_main_v54 (F := Ideal) (Q q) (K k) (K v) (Q w) i
    = ((dscore q k v w (i 0).val (i 1).val (i 2).val (i 3).val : ℝ) : EReal) := by
  rw [val_main_v54_apply, val_main_v53_apply, val_main_v50_apply, v42, val_main_v49_apply, v29, val_main_v52_apply, v51, v27]
  refine (congrArg₂ (fun a b => (a + b) * _) (div_coe_coe (low_pos q k _).ne' _) rfl).trans ?_
  refine (congrArg (· * _) (EReal.coe_add _ _).symm).trans ((EReal.coe_mul _ _).symm.trans (congrArg (fun r : ℝ => (r : EReal)) ?_))
  have e : idx_main_v52 i = row4 i := by
    funext a
    match a with
    | ⟨0, _⟩ => rfl
    | ⟨1, _⟩ => rfl
    | ⟨2, _⟩ => rfl
  rw [dscore, ← low_prob, e]
  show (dprob v w (i 0).val (i 1).val (i 2).val (i 3).val / low q k (row4 i)
    + -((∑ s : Fin 4112, prob q k (i 0).val (i 1).val (i 2).val s.val * dprob v w (i 0).val (i 1).val (i 2).val s.val) / low q k (row4 i))) * _ = _
  ring

theorem v56 (i : S2x4x4112x64.Idx) : val_main_v56 (F := Ideal) (Q q) (K k) (K v) (Q w) i
    = ((dquery q k v w (i 0).val (i 1).val (i 2).val (i 3).val : ℝ) : EReal) := by
  rw [val_main_v56_apply]
  simp only [v54, v3, ← EReal.coe_mul, coe_sum]
  rfl

theorem v40 (u : Fin 2) (d : Fin 64) (j : Fin 4112) : val_main_v40 (F := Ideal) (Q q) (K k) (Q w) (ix3 u d j)
    = ((dvalue q k w u.val j.val d.val : ℝ) : EReal) := by
  unfold val_main_v40
  simp only [Host.dotGeneral]
  have hr : dot_S2x4x4112x64_S2x4x4112x4112_S2x64x4112_12_12_3_3_0_0.contr.rank = 2 := rfl
  rw [Ideal.dotGeneral_apply, ← Equiv.sum_comp (contrEquiv2 dot_S2x4x4112x64_S2x4x4112x4112_S2x64x4112_12_12_3_3_0_0 4 4112 hr rfl rfl).symm,
    Fintype.sum_prod_type, dvalue, ← coe_sum]
  refine Finset.sum_congr rfl fun g _ => ?_
  rw [← coe_sum]
  refine Finset.sum_congr rfl fun n _ => ?_
  have h0 := contrEquiv2_symm_val0 dot_S2x4x4112x64_S2x4x4112x4112_S2x64x4112_12_12_3_3_0_0 4 4112 hr rfl rfl (g, n)
  have h1 := contrEquiv2_symm_val1 dot_S2x4x4112x64_S2x4x4112x4112_S2x64x4112_12_12_3_3_0_0 4 4112 hr rfl rfl (g, n)
  have el : dot_S2x4x4112x64_S2x4x4112x4112_S2x64x4112_12_12_3_3_0_0.lhsIdx (ix3 u d j) ((contrEquiv2 _ 4 4112 hr rfl rfl).symm (g, n)) = ix4 u g n d := by
    funext a; apply Fin.ext
    match a with
    | ⟨0, _⟩ => rfl
    | ⟨1, _⟩ => exact h0
    | ⟨2, _⟩ => exact h1
    | ⟨3, _⟩ => rfl
  have er : dot_S2x4x4112x64_S2x4x4112x4112_S2x64x4112_12_12_3_3_0_0.rhsIdx (ix3 u d j) ((contrEquiv2 _ 4 4112 hr rfl rfl).symm (g, n)) = ix4 u g n j := by
    funext a; apply Fin.ext
    match a with
    | ⟨0, _⟩ => rfl
    | ⟨1, _⟩ => exact h0
    | ⟨2, _⟩ => exact h1
    | ⟨3, _⟩ => rfl
  rw [el, er, v39, v31, EReal.coe_mul]
  rfl

theorem v55 (u : Fin 2) (j : Fin 4112) (d : Fin 64) : val_main_v55 (F := Ideal) (Q q) (K k) (K v) (Q w) (ix3 u j d)
    = ((dkey q k v w u.val j.val d.val : ℝ) : EReal) := by
  unfold val_main_v55
  simp only [Host.dotGeneral]
  have hr : dot_S2x4x4112x4112_S2x4x4112x64_S2x4112x64_12_12_3_3_0_0.contr.rank = 2 := rfl
  rw [Ideal.dotGeneral_apply, ← Equiv.sum_comp (contrEquiv2 dot_S2x4x4112x4112_S2x4x4112x64_S2x4112x64_12_12_3_3_0_0 4 4112 hr rfl rfl).symm,
    Fintype.sum_prod_type, dkey, ← coe_sum]
  refine Finset.sum_congr rfl fun g _ => ?_
  rw [← coe_sum]
  refine Finset.sum_congr rfl fun n _ => ?_
  have h0 := contrEquiv2_symm_val0 dot_S2x4x4112x4112_S2x4x4112x64_S2x4112x64_12_12_3_3_0_0 4 4112 hr rfl rfl (g, n)
  have h1 := contrEquiv2_symm_val1 dot_S2x4x4112x4112_S2x4x4112x64_S2x4112x64_12_12_3_3_0_0 4 4112 hr rfl rfl (g, n)
  have el : dot_S2x4x4112x4112_S2x4x4112x64_S2x4112x64_12_12_3_3_0_0.lhsIdx (ix3 u j d) ((contrEquiv2 _ 4 4112 hr rfl rfl).symm (g, n)) = ix4 u g n j := by
    funext a; apply Fin.ext
    match a with
    | ⟨0, _⟩ => rfl
    | ⟨1, _⟩ => exact h0
    | ⟨2, _⟩ => exact h1
    | ⟨3, _⟩ => rfl
  have er : dot_S2x4x4112x4112_S2x4x4112x64_S2x4112x64_12_12_3_3_0_0.rhsIdx (ix3 u j d) ((contrEquiv2 _ 4 4112 hr rfl rfl).symm (g, n)) = ix4 u g n d := by
    funext a; apply Fin.ext
    match a with
    | ⟨0, _⟩ => rfl
    | ⟨1, _⟩ => exact h0
    | ⟨2, _⟩ => exact h1
    | ⟨3, _⟩ => rfl
  rw [el, er, v54, v1, EReal.coe_mul]
  rfl

end Cert.AttnRefIdeal.Mine

end
-- ==== Proof.Attn.Wide.lean ====
/- The reference's four results: the stages' arrays with heads widened and rows of zeros above. -/
module

public import proofs.«01_k».proof.Proof.Attn.Ref

@[expose] public section

set_option maxRecDepth 16384

noncomputable section

namespace Cert.AttnRefIdeal.Mine

open Idealize.ShloMosaic Idealize.ShloMosaic.TcCoe Idealize.SL.Sem
open Cert.AttnRefIdeal Cert.AttnRefIdeal.Gen Cert.AttnRefIdeal.Read Cert.Reals Cert.Attention

/-- The constant the layout lines pad with. -/
def zero : (⟨S_, .f32⟩ : BufTy).Contents (Elt Ideal) := sitofp (F := Ideal) .f32 (constantI S_ 32 0#32)

theorem zero_at (i : S_.Idx) : zero i = 0 := by
  show (((0#32 : BitVec 32).toInt : ℝ) : EReal) = _
  norm_num

/-- Eight heads of 64 columns in the kernel's layout. -/
def widen8 (X : (⟨S4112x512, .f32⟩ : BufTy).Contents (Elt Ideal)) : (⟨S4224x1024, .f32⟩ : BufTy).Contents (Elt Ideal) :=
  pad S4224x1024 ![112, 0] ![0, 0] ![0, 0] (shapeCast _ (pad S4112x8x128 ![0, 0, 0] ![0, 0, 64] ![0, 0, 0]
    (shapeCast _ X shapeCasts_S4112x512_S4112x8x64) zero pads_S4112x8x64_S4112x8x128_000_000_0640 h_S_) shapeCasts_S4112x8x128_S4112x1024) zero
    pads_S4112x1024_S4224x1024_11200_000 h_S_

theorem wide_layout (a : ℕ → ℕ → ℝ) {n p : ℕ} {P R : Prop} [Decidable P] [Decidable R] {X : P → R → EReal} (hP : P ↔ ¬ n < 112)
    (hR : ¬ n < 112 → (R ↔ p % 128 < 64)) (hX : ∀ e f, X e f = ((a (n - 112) (p / 128 * 64 + p % 128) : ℝ) : EReal)) :
    (if e : P then if f : R then X e f else 0 else (0 : EReal)) = ((wide a n p : ℝ) : EReal) := by
  rw [wide]
  by_cases e : n < 112
  · rw [dif_neg (fun h => hP.mp h e), if_pos e]; rfl
  · rw [dif_pos (hP.mpr e), if_neg e]
    by_cases f : p % 128 < 64
    · rw [dif_pos ((hR e).mpr f), if_pos f, hX]
    · rw [dif_neg (fun h => f ((hR e).mp h)), if_neg f]; rfl

theorem widen8_apply (a : ℕ → ℕ → ℝ) : widen8 (Q a) = fun i : S4224x1024.Idx => ((wide a (i 0).val (i 1).val : ℝ) : EReal) := by
  refine funext fun (i : S4224x1024.Idx) => ?_
  have h0 : (i 0).val < 4224 := (i 0).isLt
  have h1 : (i 1).val < 1024 := (i 1).isLt
  pointwise [widen8, zero_at]
  exact wide_layout a (by omega) (fun _ => by omega) fun e f => rfl

/-- Two heads of 64 columns in the kernel's layout. -/
def widen2 (X : (⟨S4112x128, .f32⟩ : BufTy).Contents (Elt Ideal)) : (⟨S4224x256, .f32⟩ : BufTy).Contents (Elt Ideal) :=
  pad S4224x256 ![112, 0] ![0, 0] ![0, 0] (shapeCast _ (pad S4112x2x128 ![0, 0, 0] ![0, 0, 64] ![0, 0, 0]
    (shapeCast _ X shapeCasts_S4112x128_S4112x2x64) zero pads_S4112x2x64_S4112x2x128_000_000_0640 h_S_) shapeCasts_S4112x2x128_S4112x256) zero
    pads_S4112x256_S4224x256_11200_000 h_S_

theorem widen2_apply (a : ℕ → ℕ → ℝ) : widen2 (K a) = fun i : S4224x256.Idx => ((wide a (i 0).val (i 1).val : ℝ) : EReal) := by
  refine funext fun (i : S4224x256.Idx) => ?_
  have h0 : (i 0).val < 4224 := (i 0).isLt
  have h1 : (i 1).val < 256 := (i 1).isLt
  pointwise [widen2, zero_at]
  exact wide_layout a (by omega) (fun _ => by omega) fun e f => rfl

variable (q k v w : ℕ → ℕ → ℝ)

/-- Eight query heads, and two key heads, side by side. -/
def flat8 (f : ℕ → ℕ → ℕ → ℕ → ℝ) (n c : ℕ) : ℝ := f (c / 256) (c / 64 % 4) n (c % 64)
def flat2 (f : ℕ → ℕ → ℕ → ℝ) (n c : ℕ) : ℝ := f (c / 64) n (c % 64)

theorem v37 : val_main_v37 (F := Ideal) (Q q) (K k) (K v) = Q (flat8 (mixture q k v)) := by
  refine funext fun (i : S4112x512.Idx) => ?_
  rw [val_main_v37_apply, val_main_v36_apply, v35]
  have h0 : (i 0).val < 4112 := (i 0).isLt
  have h1 : (i 1).val < 512 := (i 1).isLt
  refine congrArg (fun r : ℝ => (r : EReal)) ?_
  show mixture q k v (((i 0).val * 512 + (i 1).val) / 256 % 2) (((i 0).val * 512 + (i 1).val) / 64 % 4) (((i 0).val * 512 + (i 1).val) / 512)
    (((i 0).val * 512 + (i 1).val) % 64) = mixture q k v ((i 1).val / 256) ((i 1).val / 64 % 4) (i 0).val ((i 1).val % 64)
  congr 1 <;> omega

theorem v62 : val_main_v62 (F := Ideal) (Q q) (K k) (K v) (Q w) = Q (flat8 (dquery q k v w)) := by
  refine funext fun (i : S4112x512.Idx) => ?_
  rw [val_main_v62_apply, val_main_v61_apply, v56]
  have h0 : (i 0).val < 4112 := (i 0).isLt
  have h1 : (i 1).val < 512 := (i 1).isLt
  refine congrArg (fun r : ℝ => (r : EReal)) ?_
  show dquery q k v w (((i 0).val * 512 + (i 1).val) / 256 % 2) (((i 0).val * 512 + (i 1).val) / 64 % 4) (((i 0).val * 512 + (i 1).val) / 512)
    (((i 0).val * 512 + (i 1).val) % 64) = dquery q k v w ((i 1).val / 256) ((i 1).val / 64 % 4) (i 0).val ((i 1).val % 64)
  congr 1 <;> omega

theorem v70 : val_main_v70 (F := Ideal) (Q q) (K k) (K v) (Q w) = Q (fun n c => flat8 (dquery q k v w) n c * Real.log 2) := by
  refine funext fun (i : S4112x512.Idx) => ?_
  rw [val_main_v70_apply, v62, val_main_v69_apply, val_main_v68_apply]
  refine (congrArg (fun z => Q (flat8 (dquery q k v w)) i * Ideal.log z) two_f32).trans ?_
  rw [Ideal.log_coe, if_neg (by norm_num)]
  exact (EReal.coe_mul _ _).symm

theorem v58 : val_main_v58 (F := Ideal) (Q q) (K k) (Q w) = K (flat2 (dvalue q k w)) := by
  refine funext fun (i : S4112x128.Idx) => ?_
  rw [val_main_v58_apply, val_main_v57_apply, val_main_v41_apply]
  have h0 : (i 0).val < 4112 := (i 0).isLt
  have h1 : (i 1).val < 128 := (i 1).isLt
  have e : idx_main_v41 (idx_main_v57 (idx_main_v58 i)) = ix3 ⟨(i 1).val / 64, by omega⟩ ⟨(i 1).val % 64, by omega⟩ (i 0) := by
    funext a
    match a with
    | ⟨0, _⟩ => exact Fin.ext (by show ((i 0).val * 128 + (i 1).val) / 64 % 2 = (i 1).val / 64; omega)
    | ⟨1, _⟩ => exact Fin.ext (by show ((i 0).val * 128 + (i 1).val) % 64 = (i 1).val % 64; omega)
    | ⟨2, _⟩ => exact Fin.ext (by show ((i 0).val * 128 + (i 1).val) / 128 = (i 0).val; omega)
  rw [e]
  exact v40 q k w _ _ _

theorem v60 : val_main_v60 (F := Ideal) (Q q) (K k) (K v) (Q w) = K (flat2 (dkey q k v w)) := by
  refine funext fun (i : S4112x128.Idx) => ?_
  rw [val_main_v60_apply, val_main_v59_apply]
  have h0 : (i 0).val < 4112 := (i 0).isLt
  have h1 : (i 1).val < 128 := (i 1).isLt
  have e : idx_main_v59 (idx_main_v60 i) = ix3 ⟨(i 1).val / 64, by omega⟩ (i 0) ⟨(i 1).val % 64, by omega⟩ := by
    funext a
    match a with
    | ⟨0, _⟩ => exact Fin.ext (by show ((i 0).val * 128 + (i 1).val) / 64 % 2 = (i 1).val / 64; omega)
    | ⟨1, _⟩ => exact Fin.ext (by show ((i 0).val * 128 + (i 1).val) / 128 = (i 0).val; omega)
    | ⟨2, _⟩ => exact Fin.ext (by show ((i 0).val * 128 + (i 1).val) % 64 = (i 1).val % 64; omega)
  rw [e]
  exact v55 q k v w _ _ _

/-- The four results. -/
theorem v67 : val_main_v67 (F := Ideal) (Q q) (K k) (K v)
    = fun i : S4224x1024.Idx => ((wide (flat8 (mixture q k v)) (i 0).val (i 1).val : ℝ) : EReal) :=
  Eq.trans (congrArg widen8 (v37 q k v)) (widen8_apply _)

theorem v74 : val_main_v74 (F := Ideal) (Q q) (K k) (K v) (Q w)
    = fun i : S4224x1024.Idx => ((wide (fun n c => flat8 (dquery q k v w) n c * Real.log 2) (i 0).val (i 1).val : ℝ) : EReal) :=
  Eq.trans (congrArg widen8 (v70 q k v w)) (widen8_apply _)

theorem v78 : val_main_v78 (F := Ideal) (Q q) (K k) (K v) (Q w)
    = fun i : S4224x256.Idx => ((wide (flat2 (dkey q k v w)) (i 0).val (i 1).val : ℝ) : EReal) :=
  Eq.trans (congrArg widen2 (v60 q k v w)) (widen2_apply _)

theorem v82 : val_main_v82 (F := Ideal) (Q q) (K k) (Q w)
    = fun i : S4224x256.Idx => ((wide (flat2 (dvalue q k w)) (i 0).val (i 1).val : ℝ) : EReal) :=
  Eq.trans (congrArg widen2 (v58 q k w)) (widen2_apply _)

end Cert.AttnRefIdeal.Mine

end
-- ==== Proof.Attn.Equation.lean ====
/- The kernel's four arrays are the reference's. -/
module

public import proofs.«01_k».proof.Proof.Attn.Math
public import proofs.«01_k».proof.Proof.Attn.Wide

@[expose] public section

set_option maxRecDepth 16384

noncomputable section

namespace Cert.AttnIdeal.Mine

open Cert.Reals Cert.Attention
open Cert.AttnRefIdeal.Mine (flat8 flat2)

variable (q k v w : ℕ → ℕ → ℝ)

/-- A row below the first 112, a column of a head: the coordinates' parts. -/
theorem wide_in (a : ℕ → ℕ → ℝ) {n p : ℕ} (hn : ¬ n < 112) (hp : p % 128 < 64) : wide a n p = a (n - 112) (p / 128 * 64 + p % 128) := by
  rw [wide, if_neg hn, if_pos hp]
theorem wide_top (a : ℕ → ℕ → ℝ) {n p : ℕ} (hn : n < 112) : wide a n p = 0 := if_pos hn
theorem wide_out (a : ℕ → ℕ → ℝ) {n p : ℕ} (hp : ¬ p % 128 < 64) : wide a n p = 0 := by
  rw [wide, if_neg hp, ite_self]

theorem flat8_in (f : ℕ → ℕ → ℕ → ℕ → ℝ) (n p : ℕ) (hp : p % 128 < 64) :
    flat8 f n (p / 128 * 64 + p % 128) = f (p / 512) (p / 128 % 4) n (p % 128) := by
  rw [flat8, show (p / 128 * 64 + p % 128) / 256 = p / 512 by omega, show (p / 128 * 64 + p % 128) / 64 = p / 128 by omega,
    show (p / 128 * 64 + p % 128) % 64 = p % 128 by omega]
theorem flat2_in (f : ℕ → ℕ → ℕ → ℝ) (n p : ℕ) (hp : p % 128 < 64) :
    flat2 f n (p / 128 * 64 + p % 128) = f (p / 128) n (p % 128) := by
  rw [flat2, show (p / 128 * 64 + p % 128) / 64 = p / 128 by omega, show (p / 128 * 64 + p % 128) % 64 = p % 128 by omega]

theorem rowO_at (n p : ℕ) : mixedAt q k v n p = rowO q k v n (p / 128) ⟨p % 128, by omega⟩ := by
  rw [rowO]
  exact congrArg (mixedAt q k v n) (by show p = 128 * (p / 128) + p % 128; omega)

theorem hi_col {x : Fin 128} (h : ¬ x.val < 64) : ∃ d : Fin 64, x = Fin.natAdd 64 d :=
  ⟨⟨x.val - 64, by omega⟩, Fin.ext (by show x.val = 64 + (x.val - 64); omega)⟩
theorem low_row {j : Fin 4224} (h : ¬ j.val < 112) : ∃ s : Fin 4112, j = Fin.natAdd 112 s :=
  ⟨⟨j.val - 112, by omega⟩, Fin.ext (by show j.val = 112 + (j.val - 112); omega)⟩

theorem head_parts (p : ℕ) : p / 128 = p / 512 * 4 + p / 128 % 4 := by omega

theorem o_eq (n p : ℕ) : mixedAt q k v n p = wide (flat8 (mixture q k v)) n p := by
  by_cases hn : n < 112
  · rw [wide_top _ hn, mixedAt, mixed, if_pos hn]
  by_cases hp : p % 128 < 64
  · obtain ⟨n, rfl⟩ : ∃ n', n = 112 + n' := ⟨n - 112, by omega⟩
    rw [wide_in _ hn hp, flat8_in _ _ _ hp, rowO_at, Nat.add_sub_cancel_left]
    refine (congrArg (fun h => rowO q k v (112 + n) h _) (head_parts p)).trans ?_
    exact rowO_in q k v (p / 512) (p / 128 % 4) n (by omega) ⟨p % 128, hp⟩
  · rw [wide_out _ hp, mixedAt, mixed, if_neg hn, if_neg hp]

theorem dq_eq (n p : ℕ) : dqAt q k v w n p = wide (fun n c => flat8 (dquery q k v w) n c * Real.log 2) n p := by
  by_cases hn : n < 112
  · rw [wide_top _ hn, dqAt]
    refine Finset.sum_eq_zero fun j _ => ?_
    rw [ds_zero w hn, zero_mul]
  by_cases hp : p % 128 < 64
  · obtain ⟨n, rfl⟩ : ∃ n', n = 112 + n' := ⟨n - 112, by omega⟩
    have e : dqAt q k v w (112 + n) p = ∑ j, ds (rowOf (scaled q) (112 + n) (p / 512 * 4 + p / 128 % 4)) (keys k (p / 512)) (vals v (p / 512))
        (rowOf w (112 + n) (p / 512 * 4 + p / 128 % 4)) (rowO q k v (112 + n) (p / 512 * 4 + p / 128 % 4)) j * keys k (p / 512) j ⟨p % 128, by omega⟩ := by
      rw [← head_parts]
      rfl
    rw [wide_in _ hn hp, flat8_in _ _ _ hp, e, sum_rows _ (fun j => by rw [ds_top, zero_mul]), Nat.add_sub_cancel_left, dquery, Finset.sum_mul]
    refine Finset.sum_congr rfl fun s _ => ?_
    refine (congrArg₂ (· * ·) (ds_in q k v w (p / 512) (p / 128 % 4) n (by omega) s) (keys_in k (p / 512) s ⟨p % 128, hp⟩)).trans ?_
    show _ = dscore q k v w (p / 512) (p / 128 % 4) n s.val * k s.val (p / 512 * 64 + p % 128) * Real.log 2
    ring
  · rw [wide_out _ hp, dqAt]
    refine Finset.sum_eq_zero fun j _ => ?_
    obtain ⟨d, hd⟩ := hi_col (x := ⟨p % 128, by omega⟩) hp
    rw [hd, keys_out, mul_zero]

/-- A key head's blocks of rows, summed over its four query heads. -/
theorem sum_points (F : ℕ → ℕ → ℝ) (h : ∀ g n, n < 112 → F g n = 0) :
    (∑ s ∈ Finset.range 33, ∑ g : Fin 4, ∑ r : Fin 128, F g.val (128 * s + r.val)) = ∑ g : Fin 4, ∑ n : Fin 4112, F g.val (112 + n.val) := by
  rw [Finset.sum_comm]
  refine Finset.sum_congr rfl fun g _ => ?_
  rw [sum_blocks 128 (F g.val) 33, show 128 * 33 = 112 + 4112 by norm_num, sum_drop 112 4112 (F g.val) (h g.val), Finset.sum_range]

theorem slice_blk (a : ℕ → ℕ → ℝ) (s u g : ℕ) (r : Fin 128) : slice (blk (pad a) s u) g r = rowOf a (128 * s + r.val) (u * 4 + g) := by
  funext d
  rw [slice, blk, rowOf]
  exact congrArg (pad a _) (by omega)
theorem slice_o (s u g : ℕ) (r : Fin 128) : slice (blk (mixedAt q k v) s u) g r = rowO q k v (128 * s + r.val) (u * 4 + g) := by
  funext d
  rw [slice, blk, rowO]
  exact congrArg (mixedAt q k v _) (by omega)

theorem dv_eq (j : Fin 4224) (p : ℕ) : dvAt q k w j p = wide (flat2 (dvalue q k w)) j.val p := by
  have e : dvAt q k w j p = ∑ g : Fin 4, ∑ n : Fin 4112, pr (rowOf (scaled q) (112 + n.val) (p / 128 * 4 + g.val)) (keys k (p / 128)) j
      * rowOf w (112 + n.val) (p / 128 * 4 + g.val) ⟨p % 128, by omega⟩ := by
    rw [← sum_points (fun g n => pr (rowOf (scaled q) n (p / 128 * 4 + g)) (keys k (p / 128)) j * rowOf w n (p / 128 * 4 + g) ⟨p % 128, by omega⟩)
      (fun g n hn => by rw [rowOf_top w hn, mul_zero])]
    simp only [dvAt, dvPt, dvPart, slice_blk]
  rw [e]
  by_cases hp : p % 128 < 64
  · by_cases hj : j.val < 112
    · rw [wide_top _ hj]
      refine Finset.sum_eq_zero fun g _ => Finset.sum_eq_zero fun n _ => ?_
      rw [show j = Fin.castAdd 4112 ⟨j.val, hj⟩ from rfl, pr_top, zero_mul]
    · obtain ⟨s, rfl⟩ := low_row hj
      have hs : (Fin.natAdd 112 s).val - 112 = s.val := Nat.add_sub_cancel_left 112 s.val
      rw [wide_in _ hj hp, hs, flat2_in _ _ _ hp, dvalue]
      refine Finset.sum_congr rfl fun g _ => Finset.sum_congr rfl fun n _ => ?_
      refine (congrArg₂ (· * ·) (pr_in q k _ _ _ s) (rowOf_in n.val w (p / 128 * 4 + g.val) ⟨p % 128, hp⟩)).trans (mul_comm _ _)
  · rw [wide_out _ hp]
    refine Finset.sum_eq_zero fun g _ => Finset.sum_eq_zero fun n _ => ?_
    obtain ⟨d, hd⟩ := hi_col (x := ⟨p % 128, by omega⟩) hp
    rw [hd, rowOf_out, mul_zero]

theorem dk_eq (j : Fin 4224) (p : ℕ) : dkAt q k v w j p = wide (flat2 (dkey q k v w)) j.val p := by
  have h2 := (Real.log_pos one_lt_two).ne'
  have e : dkAt q k v w j p = ∑ g : Fin 4, ∑ n : Fin 4112, ds (rowOf (scaled q) (112 + n.val) (p / 128 * 4 + g.val)) (keys k (p / 128)) (vals v (p / 128))
      (rowOf w (112 + n.val) (p / 128 * 4 + g.val)) (rowO q k v (112 + n.val) (p / 128 * 4 + g.val)) j
      * rowOf (scaled q) (112 + n.val) (p / 128 * 4 + g.val) ⟨p % 128, by omega⟩ := by
    rw [← sum_points (fun g n => ds (rowOf (scaled q) n (p / 128 * 4 + g)) (keys k (p / 128)) (vals v (p / 128))
      (rowOf w n (p / 128 * 4 + g)) (rowO q k v n (p / 128 * 4 + g)) j * rowOf (scaled q) n (p / 128 * 4 + g) ⟨p % 128, by omega⟩)
      (fun g n hn => by rw [rowOf_top (scaled q) hn _ ⟨p % 128, _⟩, mul_zero])]
    simp only [dkAt, dkPt, dkPart, slice_blk, slice_o]
  rw [e]
  by_cases hp : p % 128 < 64
  · by_cases hj : j.val < 112
    · rw [wide_top _ hj]
      refine Finset.sum_eq_zero fun g _ => Finset.sum_eq_zero fun n _ => ?_
      rw [show j = Fin.castAdd 4112 ⟨j.val, hj⟩ from rfl, ds_top, zero_mul]
    · obtain ⟨s, rfl⟩ := low_row hj
      have hs : (Fin.natAdd 112 s).val - 112 = s.val := Nat.add_sub_cancel_left 112 s.val
      rw [wide_in _ hj hp, hs, flat2_in _ _ _ hp, dkey]
      refine Finset.sum_congr rfl fun g _ => Finset.sum_congr rfl fun n _ => ?_
      refine (congrArg₂ (· * ·) (ds_in q k v w _ _ _ g.isLt s) (rowOf_in n.val (scaled q) (p / 128 * 4 + g.val) ⟨p % 128, hp⟩)).trans ?_
      show dscore q k v w (p / 128) g.val n.val s.val * Real.log 2 * (q n.val ((p / 128 * 4 + g.val) * 64 + p % 128) / Real.log 2) = _
      field_simp
  · rw [wide_out _ hp]
    refine Finset.sum_eq_zero fun g _ => Finset.sum_eq_zero fun n _ => ?_
    obtain ⟨d, hd⟩ := hi_col (x := ⟨p % 128, by omega⟩) hp
    rw [hd, rowOf_out, mul_zero]

end Cert.AttnIdeal.Mine

end
-- ==== Proof.Attn.Run.lean ====
/- The run of the two attention regions: what each result's array holds at the end. The launch follows the one
   of the frame claim; only what is read off the last state differs. -/
module

public import proofs.«01_k».proof.Proof.Gen.AttnIdeal.Frame
public import Idealize.ShloMosaic.Lib.Pipeline.ValueKit
public import Idealize.ShloMosaic.Lib.Claim

@[expose] public section

set_option maxRecDepth 16384

noncomputable section

namespace Cert.AttnIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

/-- The machine's resources. -/
abbrev Res : Type := MT nD τ sig Unit (Elt Ideal) ℕ (UR sig nD τ) ℕ

variable (m : (ℓ : Loc nD τ sig) → Buf (Elt Ideal) ℓ) (ρ : Dev nD → PrngReg)

/-- The mixed values end as the first region leaves them. -/
theorem end_o (c : Dev nD) : W4 m ρ c (Proc.devRef .tc main_v28_0) = (dat0 (V1 m ρ) c).arrAt 3 cfg0.N :=
  (W4_of m ρ c main_v28_0 (by decide)).trans <| (W3_of m ρ c main_v28_0 (by decide)).trans (W2_arr m ρ c 3)

theorem end_dq (c : Dev nD) : W4 m ρ c (Proc.devRef .tc main_v35_0) = (dat1 (V3 m ρ) c).arrAt 6 cfg1.N := W4_arr m ρ c 6
theorem end_dk (c : Dev nD) : W4 m ρ c (Proc.devRef .tc main_v35_1) = (dat1 (V3 m ρ) c).arrAt 7 cfg1.N := W4_arr m ρ c 7
theorem end_dv (c : Dev nD) : W4 m ρ c (Proc.devRef .tc main_v35_2) = (dat1 (V3 m ρ) c).arrAt 8 cfg1.N := W4_arr m ρ c 8

-- the launch rule's implicit arguments are found by unification, which has to unfold plain definitions
set_option backward.isDefEq.respectTransparency.types false in
/-- Every run ends with the results as the regions leave them and the arguments as they were. -/
theorem run_main : θ_run defs (onTc (τ := τ) (main (F := Ideal))) ⟨m, fun _ => 0, ρ⟩ (fun r => ∀ c : Dev nD,
      r.2.mem ((c.tc : Thread nD τ).loc main_v28_0) = (dat0 (V1 m ρ) c).arrAt 3 cfg0.N
      ∧ r.2.mem ((c.tc : Thread nD τ).loc main_v35_0) = (dat1 (V3 m ρ) c).arrAt 6 cfg1.N
      ∧ r.2.mem ((c.tc : Thread nD τ).loc main_v35_1) = (dat1 (V3 m ρ) c).arrAt 7 cfg1.N
      ∧ r.2.mem ((c.tc : Thread nD τ).loc main_v35_2) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v28_0 (by decide))).trans (end_o m ρ c),
       (h c _ (mem_uc main_v35_0 (by decide))).trans (end_dq m ρ c),
       (h c _ (mem_uc main_v35_1 (by decide))).trans (end_dk m ρ c),
       (h c _ (mem_uc main_v35_2 (by decide))).trans (end_dv m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.AttnIdeal.Mine

end
-- ==== Proof.Attn.Claims.lean ====
/- The claims about the attention: under real arguments the mixed values and the three gradients of the kernel are those
   of the reference. -/
module

public import proofs.«01_k».proof.Defs
public import proofs.«01_k».proof.Proof.Attn.Equation
public import proofs.«01_k».proof.Proof.Attn.Run
public import proofs.«01_k».proof.Proof.Gen.Attn.Frame
public import proofs.«01_k».proof.Proof.Gen.AttnRefIdeal.Run
public import proofs.«01_k».proof.Proof.Gen.Pre_finite7

@[expose] public section

set_option maxRecDepth 16384

noncomputable section

namespace Cert.AttnClaims

open Idealize.ShloMosaic Idealize.ShloMosaic.TcCoe Idealize.SL.Sem
open Cert.AttnIdeal.Mine Cert.Reals
open Cert.AttnIdeal.Gen (V1 V3)
open Cert.AttnRefIdeal.Mine (v67 v74 v78 v82)

theorem frame_p : Cert.quiescent_Attn := fun m ρ _ => Cert.Attn.Gen.frame m ρ

theorem frame_pi : Cert.quiescent_AttnIdeal := fun m ρ _ => Cert.AttnIdeal.Gen.frame m ρ

theorem frame_pi_pre : Cert.quiescent_AttnIdeal_pre_finite7 := fun m ρ _ => Cert.AttnIdeal.Gen.frame m ρ

theorem frame_ri : Cert.quiescent_AttnRefIdeal := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)

theorem frame_ri_pre : Cert.quiescent_AttnRefIdeal_pre_finite7 := fun m ρ _ => frame_ri m ρ trivial

theorem preserves : Cert.preserves_Attn_AttnIdeal :=
  ⟨IdealRules.named_const.statement Cert.AttnIdeal.κ "mask" .f32 0xF149F2CA#32 ⊥ rfl,
    IdealRules.named_const.statement Cert.AttnIdeal.κ "inv_ln2" .f32 0x3FB8AA3B#32 (((Real.log 2)⁻¹ : ℝ) : EReal) rfl,
    IdealRules.named_const.statement Cert.AttnIdeal.κ "ln2" .f32 0x3F317218#32 ((Real.log 2 : ℝ) : EReal) rfl⟩

/-- Under the precondition the arguments are arrays of real numbers. -/
theorem args (m : (ℓ : Loc AttnIdeal.nD AttnIdeal.τ AttnIdeal.sig) → Buf (Elt Ideal) ℓ)
    (h : Pre_AttnIdeal_finite7 m) (c : Dev AttnIdeal.nD) : ∃ q k v w, Args m c q k v w := by
  obtain ⟨h0, h1, h2, h3⟩ := h c
  obtain ⟨q, hq⟩ := exists_real h0
  obtain ⟨k, hk⟩ := exists_real h1
  obtain ⟨v, hv⟩ := exists_real h2
  obtain ⟨w, hw⟩ := exists_real h3
  exact ⟨byCoords q, byCoords k, byCoords v, byCoords w, hq.trans (byCoords_spec q), hk.trans (byCoords_spec k), hv.trans (byCoords_spec v),
    hw.trans (byCoords_spec w)⟩

theorem algebraic : Cert.algebraic_AttnIdeal_AttnRefIdeal_pre_finite7 := by
  intro m g m' g' hpre hargs
  refine ⟨fun c => (Cert.AttnIdeal.Gen.dat0 (V1 m g) c).arrAt 3 Cert.AttnIdeal.cfg0.N,
    fun c => (Cert.AttnIdeal.Gen.dat1 (V3 m g) c).arrAt 6 Cert.AttnIdeal.cfg1.N,
    fun c => (Cert.AttnIdeal.Gen.dat1 (V3 m g) c).arrAt 7 Cert.AttnIdeal.cfg1.N,
    fun c => (Cert.AttnIdeal.Gen.dat1 (V3 m g) c).arrAt 8 Cert.AttnIdeal.cfg1.N,
    run_main m g,
    (θ_run Cert.AttnRefIdeal.defs _ _).mono (fun r h c => ?_) (Cert.AttnRefIdeal.Value.run (F := Ideal) m' g')⟩
  obtain ⟨h67, h74, h78, h82, hr⟩ := h c
  obtain ⟨q, k, v, w, A⟩ := args m hpre c
  obtain ⟨a0, a1, a2, a3⟩ := hargs c
  have b0 := a0.trans A.q
  have b1 := a1.trans A.k
  have b2 := a2.trans A.v
  have b3 := a3.trans A.w
  refine ⟨?_, ?_, ?_, ?_, hr⟩
  · refine h67.trans ((Cert.AttnRefIdeal.Read.val_main_v67_eq _ _ _).trans (Eq.trans ?_ (arr_o A).symm))
    rw [b0, b1, b2]
    refine (v67 q k v).trans ?_
    funext i
    exact congrArg (fun r : ℝ => (r : EReal)) (o_eq q k v _ _).symm
  · refine h74.trans ((Cert.AttnRefIdeal.Read.val_main_v74_eq m' c).trans (Eq.trans ?_ (arr_dq A).symm))
    rw [b0, b1, b2, b3]
    refine (v74 q k v w).trans ?_
    funext i
    exact congrArg (fun r : ℝ => (r : EReal)) (dq_eq q k v w _ _).symm
  · refine h78.trans ((Cert.AttnRefIdeal.Read.val_main_v78_eq m' c).trans (Eq.trans ?_ (arr_dk A).symm))
    rw [b0, b1, b2, b3]
    refine (v78 q k v w).trans ?_
    funext i
    exact congrArg (fun r : ℝ => (r : EReal)) (dk_eq q k v w _ _).symm
  · refine h82.trans ((Cert.AttnRefIdeal.Read.val_main_v82_eq _ _ _).trans (Eq.trans ?_ (arr_dv A).symm))
    rw [b0, b1, b3]
    refine (v82 q k w).trans ?_
    funext i
    exact congrArg (fun r : ℝ => (r : EReal)) (dv_eq q k w _ _).symm

end Cert.AttnClaims

end
-- ==== Proof.Gates.lean ====
/- The logistic gate over the reals, as it is written with the hyperbolic tangent and with the exponential. -/
module

public import proofs.«01_k».proof.Proof.Reals
public import Mathlib.Analysis.SpecialFunctions.Trigonometric.DerivHyp

@[expose] public section

noncomputable section

namespace Cert.Reals

open Idealize.ShloMosaic

/-- The logistic function. -/
def sg (x : ℝ) : ℝ := 1 / (1 + Real.exp (-x))

/-- The derivative of `x * sg x`. -/
def dsilu (x : ℝ) : ℝ := sg x * (1 + x * (1 - sg x))

theorem one_add_exp_pos (x : ℝ) : 0 < 1 + Real.exp (-x) := add_pos one_pos (Real.exp_pos _)

theorem half_tanh (x : ℝ) : 1 / 2 * Real.tanh (1 / 2 * x) + 1 / 2 = sg x := by
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have p := Real.exp_pos (1 / 2 * x)
  have q := Real.exp_pos (-(1 / 2 * x))
  rw [sg, h, Real.tanh_eq_sinh_div_cosh, Real.sinh_eq, Real.cosh_eq]
  generalize Real.exp (1 / 2 * x) = a at *
  generalize Real.exp (-(1 / 2 * x)) = b at *
  field_simp
  linear_combination 2 * b * h1

theorem tanh_coe (x : ℝ) : Ideal.tanh (x : EReal) = ((Real.tanh x : ℝ) : EReal) := rfl

/-- The logistic function by its quotient. -/
theorem logistic (x : ℝ) : Ideal.div ((1 : ℝ) : EReal) (((1 : ℝ) : EReal) + Ideal.exp (-(x : EReal))) = ((sg x : ℝ) : EReal) := by
  rw [← EReal.coe_neg, Ideal.exp_coe, ← EReal.coe_add, div_coe_coe (one_add_exp_pos x).ne']
  rfl

theorem c128_f32 : Ideal.ofBits .f32 0x43000000#32 = ((128 : ℝ) : EReal) := by
  simp [Ideal.ofBits, Ideal.ieee, -EReal.coe_mul]; norm_num

end Cert.Reals

end
-- ==== Proof.GlaOutBwd.Strip.lean ====
/- One head's strip of a block: what the body computes from rows of real numbers. -/
module

public import proofs.«01_k».proof.Proof.Gates
public import proofs.«01_k».proof.Proof.Gen.GlaOutBwdIdeal.Value

@[expose] public section

set_option maxRecDepth 16384

noncomputable section

namespace Cert.GlaOutBwdIdeal.Mine

open Idealize.ShloMosaic Idealize.ShloMosaic.TcCoe Idealize.SL.Sem
open Cert.GlaOutBwdIdeal Cert.GlaOutBwdIdeal.Gen Cert.Reals

/-- A block of rows, a strip of one head, a column of numbers, a row of weights. -/
def blk (a : ℕ → ℕ → ℝ) : FVec Ideal S384x512 .f32 := fun i => ((a (i 0).val (i 1).val : ℝ) : EReal)
def strip (a : ℕ → Fin 128 → ℝ) : FVec Ideal S384x128 .f32 := fun i => ((a (i 0).val (i 1) : ℝ) : EReal)
def col (a : ℕ → ℝ) : FVec Ideal S384x1 .f32 := fun i => ((a (i 0).val : ℝ) : EReal)
def lane (a : Fin 128 → ℝ) : FVec Ideal S1x128 .f32 := fun i => ((a (i 1) : ℝ) : EReal)

/-- The columns of head `h`. -/
def at_ (h : ℕ) (a : ℕ → ℕ → ℝ) (n : ℕ) (k : Fin 128) : ℝ := a n (128 * h + k.val)

/-- The gradient of a row before its norm, from the cotangent `w` of the normed row. -/
def normBack (x w : Fin 128 → ℝ) (k : Fin 128) : ℝ :=
  rt 128 x * (w k - x k * rt 128 x * ((∑ l, w l * (x l * rt 128 x)) / 128))

variable (r o : ℕ → ℕ → ℝ) (x y s t u : ℕ → Fin 128 → ℝ) (g : Fin 128 → ℝ)

theorem gate_s : k0_pay8 (F := Ideal) (blk r) = blk fun n p => r n p * sg (r n p) := by
  funext i
  pointwise [k0_pay8, k0_pay7, k0_pay6, blk]
  rw [half_f32]
  simp only [← EReal.coe_mul, ← EReal.coe_add, tanh_coe, half_tanh]

theorem gate_d : k0_pay9 (F := Ideal) (blk r) = blk fun n p => dsilu (r n p) := by
  funext i
  pointwise [k0_pay9, k0_pay7, k0_pay6, blk]
  rw [half_f32]
  simp only [← EReal.coe_one, ← EReal.coe_mul, ← EReal.coe_add, tanh_coe, half_tanh, ← EReal.coe_sub]
  rfl

theorem whole : k0_pay10 (F := Ideal) (blk o) = blk o := by
  funext i
  pointwise [k0_pay10]

theorem sum_ : k0_pay11 (F := Ideal) (strip x) (strip y) = strip fun n k => x n k + y n k := by
  funext i
  pointwise [k0_pay11, strip]
  rw [← EReal.coe_add]

theorem root : k0_pay12 (F := Ideal) (strip x) (strip y) = col fun n => rt 128 fun k => x n k + y n k := by
  funext i
  have h : k0_pay12 (F := Ideal) (strip x) (strip y) i = Ideal.rsqrt ((ms 128 (fun k => x (i 0).val k + y (i 0).val k) : ℝ) : EReal) := by
    pointwise [k0_pay12, sum_, strip]
    rw [c128_f32, eps_f32]
    simp only [← EReal.coe_mul, coe_sum]
    rw [div_coe_coe (by norm_num), ← EReal.coe_add]
    rfl
  rw [h, rsqrt_pos (ms_pos (by norm_num) _)]
  rfl

/-- The normed row. -/
def unit (x : ℕ → Fin 128 → ℝ) (n : ℕ) (k : Fin 128) : ℝ := x n k * rt 128 (x n)

theorem normed : k0_pay13 (F := Ideal) (strip x) (strip y) = strip (unit fun n k => x n k + y n k) := by
  funext i
  pointwise [k0_pay13]
  rw [sum_, root]
  simp only [strip, col, ← EReal.coe_mul]
  rfl

/-- The part of a block that a head's strip is. -/
theorem cut0 : k0_pay15 (F := Ideal) (blk o) = strip (at_ 0 o) := by
  funext i
  pointwise [k0_pay15, whole, blk, strip, at_]

theorem cut1 : k0_pay26 (F := Ideal) (blk o) = strip (at_ 1 o) := by
  funext i
  pointwise [k0_pay26, blk, strip, at_]

theorem cut2 : k0_pay36 (F := Ideal) (blk o) = strip (at_ 2 o) := by
  funext i
  pointwise [k0_pay36, blk, strip, at_]

theorem cut3 : k0_pay47 (F := Ideal) (blk o) = strip (at_ 3 o) := by
  funext i
  pointwise [k0_pay47, blk, strip, at_]

theorem weight : k0_pay14 (F := Ideal) (lane g) = lane g := by
  funext i
  pointwise [k0_pay14]

/-- The product of a strip with a column of the block of numbers that the gate gives. -/
theorem times0 : k0_pay19 (F := Ideal) (blk r) (strip x) = strip fun n k => x n k * at_ 0 r n k := by
  funext i
  pointwise [k0_pay19, blk, strip, at_]
  rw [← EReal.coe_mul]

theorem times1 : k0_pay29 (F := Ideal) (blk r) (strip x) = strip fun n k => x n k * at_ 1 r n k := by
  funext i
  pointwise [k0_pay29, blk, strip, at_]
  rw [← EReal.coe_mul]

theorem times2 : k0_pay40 (F := Ideal) (blk r) (strip x) = strip fun n k => x n k * at_ 2 r n k := by
  funext i
  pointwise [k0_pay40, blk, strip, at_]
  rw [← EReal.coe_mul]

theorem times3 : k0_pay2 (F := Ideal) (blk r) (strip x) = strip fun n k => x n k * at_ 3 r n k := by
  funext i
  pointwise [k0_pay2, blk, strip, at_]
  rw [← EReal.coe_mul]

/-- The body treats every head alike. -/
theorem norms : k0_pay24 (F := Ideal) = k0_pay13 ∧ k0_pay34 (F := Ideal) = k0_pay13 ∧ k0_pay45 (F := Ideal) = k0_pay13 :=
  ⟨rfl, rfl, rfl⟩

theorem roots : k0_pay23 (F := Ideal) = k0_pay12 ∧ k0_pay33 (F := Ideal) = k0_pay12 ∧ k0_pay44 (F := Ideal) = k0_pay12 :=
  ⟨rfl, rfl, rfl⟩

theorem weights : k0_pay25 (F := Ideal) = k0_pay14 ∧ k0_pay35 (F := Ideal) = k0_pay14 ∧ k0_pay46 (F := Ideal) = k0_pay14 :=
  ⟨rfl, rfl, rfl⟩

/-- A head's part of the gain's gradient, from the cotangent of the gained rows. -/
def gainOf (a b : FVec Ideal S384x128 .f32) : FVec Ideal S1x128 .f32 :=
  shapeCast S1x128 (multiReduction .add [0] S128 (mulf a b) 0x00000000#32 reduces_S384x128_S128 (.inl rfl) rfl) shapeCasts_S128_S1x128

theorem gainOf_apply : gainOf (strip y) (strip x) = lane fun k => ∑ n : Fin 384, y n.val k * x n.val k := by
  funext i
  pointwise [gainOf]
  simp only [strip, lane, ← EReal.coe_mul, coe_sum]
  rfl

variable (z a b : FVec Ideal S384x128 .f32) (v : FVec Ideal S384x512 .f32) (q : FVec Ideal S384x1 .f32) (w : FVec Ideal S1x128 .f32)

theorem gains : k0_pay20 v a b = gainOf (k0_pay19 v b) a ∧ k0_pay30 v a b = gainOf (k0_pay29 v b) a
    ∧ k0_pay41 v a b = gainOf (k0_pay40 v b) a :=
  ⟨rfl, rfl, rfl⟩

/-- A head's gradient before its norm, from the cotangent of the gained rows. -/
def backOf (z a : FVec Ideal S384x128 .f32) (q : FVec Ideal S384x1 .f32) (w : FVec Ideal S1x128 .f32) : FVec Ideal S384x128 .f32 :=
  have u := mulf z (broadcastTo S384x128 w broadcasts_S1x128_S384x128)
  have t := shapeCast S384x1 (multiReduction .add [1] S384 (mulf u a) 0x00000000#32 reduces_S384x128_S384 (.inl rfl) rfl) shapeCasts_S384_S384x1
  have d := divf t (broadcast S384x1 (Scalar.ofBits .f32 0x43000000#32))
  mulf (broadcastTo S384x128 q broadcasts_S384x1_S384x128) (subf u (mulf a (broadcastTo S384x128 d broadcasts_S384x1_S384x128)))

theorem backs : k0_pay21 v q a w b = backOf (k0_pay19 v b) a q w ∧ k0_pay31 v q a w b = backOf (k0_pay29 v b) a q w
    ∧ k0_pay42 v q a w b = backOf (k0_pay40 v b) a q w ∧ k0_pay3 v q a w b = backOf (k0_pay2 v b) a q w :=
  ⟨rfl, rfl, rfl, rfl⟩

theorem backOf_apply : backOf (strip y) (strip (unit x)) (col fun n => rt 128 (x n)) (lane g)
    = strip fun n => normBack (x n) fun k => y n k * g k := by
  funext i
  pointwise [backOf]
  simp only [strip, lane, col, ← EReal.coe_mul, coe_sum, c128_f32]
  rw [div_coe_coe (by norm_num)]
  simp only [← EReal.coe_mul, ← EReal.coe_sub]
  rfl

/-- A head's gradient of the gate. -/
def thin (a : ℕ → Fin 128 → ℝ) : FVec Ideal S384x128 .bf16 := fun i => ((a (i 0).val (i 1) : ℝ) : EReal)

theorem gate0 : k0_pay18 (k0_pay16 (blk o) (strip x) (strip y) (lane g)) (k0_pay17 (blk r))
    = thin fun n k => at_ 0 o n k * unit (fun n k => x n k + y n k) n k * g k * dsilu (at_ 0 r n k) := by
  funext i
  have e : ∀ n (k : Fin 128), at_ 0 r n k = r n k.val := fun n k => congrArg (r n) (Nat.zero_add _)
  pointwise [k0_pay18, k0_pay16, k0_pay17, cut0, normed, weight, gate_d]
  simp only [strip, lane, blk, thin, ← EReal.coe_mul]
  exact congrArg (fun s : ℝ => ((at_ 0 o (i 0).val (i 1) * unit (fun n k => x n k + y n k) (i 0).val (i 1) * g (i 1) * dsilu s : ℝ) : EReal))
    (e (i 0).val (i 1)).symm

theorem gate1 : k0_pay28 (k0_pay9 (blk r)) (k0_pay27 (blk o) (strip x) (strip y) (lane g))
    = thin fun n k => at_ 1 o n k * unit (fun n k => x n k + y n k) n k * g k * dsilu (at_ 1 r n k) := by
  funext i
  pointwise [k0_pay28, k0_pay27, cut1, norms, weights, normed, weight, gate_d]
  simp only [strip, lane, blk, thin, ← EReal.coe_mul]
  rfl

theorem gate2 : k0_pay39 (k0_pay9 (blk r)) (k0_pay37 (blk o) (strip x) (strip y)) (k0_pay38 (lane g))
    = thin fun n k => at_ 2 o n k * unit (fun n k => x n k + y n k) n k * g k * dsilu (at_ 2 r n k) := by
  funext i
  pointwise [k0_pay39, k0_pay37, k0_pay38, cut2, norms, weights, normed, weight, gate_d]
  simp only [strip, lane, blk, thin, ← EReal.coe_mul]
  rfl

theorem gate3 : k0_pay1 (k0_pay9 (blk r)) (k0_pay46 (lane g)) (k0_pay48 (blk o) (strip x) (strip y))
    = thin fun n k => at_ 3 o n k * unit (fun n k => x n k + y n k) n k * g k * dsilu (at_ 3 r n k) := by
  funext i
  pointwise [k0_pay1, k0_pay48, cut3, norms, weights, normed, weight, gate_d]
  simp only [strip, lane, blk, thin, ← EReal.coe_mul]
  rfl

end Cert.GlaOutBwdIdeal.Mine

end
-- ==== Proof.GlaOutBwd.Point.lean ====
/- What a point of the region leaves, from blocks of real numbers. -/
module

public import proofs.«01_k».proof.Proof.GlaOutBwd.Strip

@[expose] public section

set_option maxRecDepth 16384

noncomputable section

namespace Cert.GlaOutBwdIdeal.Mine

open Idealize.ShloMosaic Idealize.ShloMosaic.TcCoe Idealize.SL.Sem
open Idealize.ShloMosaic.Pipeline (Dat)
open Cert.GlaOutBwdIdeal Cert.GlaOutBwdIdeal.Gen Cert.Reals

/-- The gradients, at a row and a column: of the heads' outputs, of the gate, and a row's part of the gain's. -/
def dOut (w o r : ℕ → ℕ → ℝ) (g : ℕ → ℝ) (n p : ℕ) : ℝ :=
  normBack (at_ (p / 128) o n) (fun k => at_ (p / 128) w n k * (at_ (p / 128) r n k * sg (at_ (p / 128) r n k)) * g (128 * (p / 128) + k.val))
    ⟨p % 128, Nat.mod_lt _ (by norm_num)⟩

def dGate (w o r : ℕ → ℕ → ℝ) (g : ℕ → ℝ) (n p : ℕ) : ℝ := w n p * (o n p * rt 128 (at_ (p / 128) o n)) * g p * dsilu (r n p)

def dGain (w o r : ℕ → ℕ → ℝ) (n p : ℕ) : ℝ := w n p * (r n p * sg (r n p)) * (o n p * rt 128 (at_ (p / 128) o n))

/-- Blocks of the gate, a row of gains. -/
def thinBlk (a : ℕ → ℕ → ℝ) : Vec Ideal S384x512 .bf16 := fun i => ((a (i 0).val (i 1).val : ℝ) : EReal)
def row (g : ℕ → ℝ) : Vec Ideal S1x512 .f32 := fun i => ((g (i 1).val : ℝ) : EReal)

variable (w a b r : ℕ → ℕ → ℝ) (g : ℕ → ℝ)

theorem ld_strip (p h : ℕ) (hp : p = 128 * h) (inb) :
    View.ld (Val := Elt Ideal) (e' := .f32) (blk a) (Rect.unit (s := S384x512) ![0, p] S384x128.size inb) = strip (at_ h a) := by
  funext x
  refine congrArg₂ (fun m n => ((a m n : ℝ) : EReal)) ?_ ?_
  · rw [Rect.idx_unit_val]; exact Nat.zero_add _
  · rw [Rect.idx_unit_val, ← hp]; rfl

theorem ld_lane (p h : ℕ) (hp : p = 128 * h) (inb) :
    View.ld (Val := Elt Ideal) (e' := .f32) (row g) (Rect.unit (s := S1x512) ![0, p] S1x128.size inb) = lane fun k => g (128 * h + k.val) := by
  funext x
  refine congrArg (fun n => ((g n : ℝ) : EReal)) ?_
  rw [Rect.idx_unit_val, ← hp]; rfl

/-- The heads' strips, put back into rows and columns. -/
theorem dOut_of {h : ℕ} {n : ℕ} {k : Fin 128} {n' p : ℕ} (hn : n' = n) (hp : p = 128 * h + k.val) (o : ℕ → ℕ → ℝ) :
    normBack (at_ h o n) (fun k => at_ h w n k * (at_ h r n k * sg (at_ h r n k)) * g (128 * h + k.val)) k = dOut w o r g n' p := by
  have := k.isLt
  have e : p / 128 = h := by omega
  have e' : k = ⟨p % 128, Nat.mod_lt _ (by norm_num)⟩ := Fin.ext (by show k.val = p % 128; omega)
  rw [dOut, e, hn, ← e']

theorem dGate_of {h : ℕ} {n : ℕ} {k : Fin 128} {n' p : ℕ} (hn : n' = n) (hp : p = 128 * h + k.val) (o : ℕ → ℕ → ℝ) :
    at_ h w n k * unit (at_ h o) n k * g (128 * h + k.val) * dsilu (at_ h r n k) = dGate w o r g n' p := by
  have := k.isLt
  have e : p / 128 = h := by omega
  rw [dGate, e, hn, hp]
  rfl

variable {m : (ℓ : Loc nD τ sig) → Buf (Elt Ideal) ℓ} {c : Dev nD} {t : Fin cfg0.N}

/-- What the point reads. -/
structure Reads (m : (ℓ : Loc nD τ sig) → Buf (Elt Ideal) ℓ) (c : Dev nD) (t : Fin cfg0.N) (w a b r : ℕ → ℕ → ℝ) (g : ℕ → ℝ) : Prop where
  w : iblk m c 0 t = blk w
  a : iblk m c 1 t = blk a
  b : iblk m c 2 t = blk b
  r : X0_3 m c t = thinBlk r
  g : iblk m c 4 t = row g

variable {w a b r g} (R : Reads m c t w a b r g)

theorem at_add (h : ℕ) : (fun n k => at_ h a n k + at_ h b n k) = at_ h fun n p => a n p + b n p := rfl

theorem add_at (h n : ℕ) : (fun k => at_ h a n k + at_ h b n k) = at_ h (fun n p => a n p + b n p) n := rfl

theorem thin_blk : thinBlk r = blk r := rfl

include R in
theorem out_at (y : S384x512.Idx) : (outsAt0 m c t.val t.isLt).1 y = ((dOut w (fun n p => a n p + b n p) r g (y 0).val (y 1).val : ℝ) : EReal) := by
  by_cases h : 1 ≤ t.val
  on_goal 1 =>
    have hN : t.val < 11 := t.isLt
    rw [outsAt0_B m c t (by omega) h]
  on_goal 2 => rw [outsAt0_A m c t (by omega) h]
  all_goals
    frame_out
    rw [R.w, R.a, R.b, R.r, R.g, thin_blk, (backs _ _ _ _ _).1, (backs _ _ _ _ _).2.1, (backs _ _ _ _ _).2.2.1, (backs _ _ _ _ _).2.2.2,
      roots.1, roots.2.1, roots.2.2, norms.1, norms.2.1, norms.2.2, weights.1, weights.2.1, weights.2.2, whole, gate_s,
      ld_strip a 0 0 rfl, ld_strip a 128 1 rfl, ld_strip a 256 2 rfl, ld_strip a 384 3 rfl,
      ld_strip b 0 0 rfl, ld_strip b 128 1 rfl, ld_strip b 256 2 rfl, ld_strip b 384 3 rfl,
      ld_lane g 0 0 rfl, ld_lane g 128 1 rfl, ld_lane g 256 2 rfl, ld_lane g 384 3 rfl, cut0, cut1, cut2, cut3]
    simp only [times0, times1, times2, times3, normed, root, weight, at_add, add_at, backOf_apply]
    canon_tiles x h
    · exact congrArg (fun r : ℝ => (r : EReal)) (dOut_of (h := 3) (k := x 1) w r g h0 h1 _)
    · exact congrArg (fun r : ℝ => (r : EReal)) (dOut_of (h := 2) (k := x 1) w r g h0 h1 _)
    · exact congrArg (fun r : ℝ => (r : EReal)) (dOut_of (h := 1) (k := x 1) w r g h0 h1 _)
    · exact congrArg (fun r : ℝ => (r : EReal)) (dOut_of (h := 0) (k := x 1) w r g h0 (h1.trans (Nat.zero_add _).symm) _)

include R in
theorem gate_at (y : S384x512.Idx) : (outsAt0 m c t.val t.isLt).2.1 y = ((dGate w (fun n p => a n p + b n p) r g (y 0).val (y 1).val : ℝ) : EReal) := by
  by_cases h : 1 ≤ t.val
  on_goal 1 =>
    have hN : t.val < 11 := t.isLt
    rw [outsAt0_B m c t (by omega) h]
  on_goal 2 => rw [outsAt0_A m c t (by omega) h]
  all_goals
    frame_out
    rw [R.w, R.a, R.b, R.r, R.g, thin_blk, whole,
      ld_strip a 0 0 rfl, ld_strip a 128 1 rfl, ld_strip a 256 2 rfl, ld_strip a 384 3 rfl,
      ld_strip b 0 0 rfl, ld_strip b 128 1 rfl, ld_strip b 256 2 rfl, ld_strip b 384 3 rfl,
      ld_lane g 0 0 rfl, ld_lane g 128 1 rfl, ld_lane g 256 2 rfl, ld_lane g 384 3 rfl, gate0, gate1, gate2, gate3]
    simp only [at_add]
    canon_tiles x h
    · exact congrArg (fun r : ℝ => (r : EReal)) (dGate_of (h := 3) (k := x 1) w r g h0 h1 _)
    · exact congrArg (fun r : ℝ => (r : EReal)) (dGate_of (h := 2) (k := x 1) w r g h0 h1 _)
    · exact congrArg (fun r : ℝ => (r : EReal)) (dGate_of (h := 1) (k := x 1) w r g h0 h1 _)
    · exact congrArg (fun r : ℝ => (r : EReal)) (dGate_of (h := 0) (k := x 1) w r g h0 (h1.trans (Nat.zero_add _).symm) _)

/-- Four heads' lanes, side by side. -/
def side (q0 q1 q2 q3 : FVec Ideal S1x128 .f32) : FVec Ideal S1x512 .f32 :=
  concatenate S1x512 1 [⟨S1x128, q0⟩, ⟨S1x128, q1⟩, ⟨S1x128, q2⟩, ⟨S1x128, q3⟩] concatenates_S1x128_S1x128_S1x128_S1x128_S1x512_d1

theorem side_apply (f : ℕ → ℝ) (q0 q1 q2 q3 : Fin 128 → ℝ) (e0 : ∀ k, q0 k = f (128 * 0 + k.val)) (e1 : ∀ k, q1 k = f (128 * 1 + k.val))
    (e2 : ∀ k, q2 k = f (128 * 2 + k.val)) (e3 : ∀ k, q3 k = f (128 * 3 + k.val)) :
    side (lane q0) (lane q1) (lane q2) (lane q3) = row f := by
  funext y
  have hy := (y 1).isLt
  have hy : (y 1).val < 512 := hy
  have at_lane : ∀ (q : Fin 128 → ℝ) (h : ℕ) (k : Fin 128), (∀ k, q k = f (128 * h + k.val)) → (y 1).val = 128 * h + k.val →
      lane q (ix2 0 k) = row f y := fun q h k e hk => congrArg (fun s : ℝ => (s : EReal)) ((e k).trans (congrArg f hk.symm))
  pointwise [side]
  split
  · exact at_lane q0 0 _ e0 (Nat.zero_add _).symm
  · split
    · exact at_lane q1 1 _ e1 (by show (y 1).val = 128 * 1 + ((y 1).val - 128); omega)
    · split
      · exact at_lane q2 2 _ e2 (by show (y 1).val = 128 * 2 + ((y 1).val - 128 - 128); omega)
      · exact at_lane q3 3 _ e3 (by show (y 1).val = 128 * 3 + ((y 1).val - 128 - 128 - 128); omega)

theorem whole_gain (v : FVec Ideal S384x512 .f32) (q0 q1 q2 : FVec Ideal S1x128 .f32) (x y : FVec Ideal S384x128 .f32) :
    k0_pay4 v q0 q1 q2 x y = side q0 q1 q2 (gainOf (k0_pay2 v y) x) :=
  rfl

theorem gain_of (w o r : ℕ → ℕ → ℝ) (h : ℕ) (k : Fin 128) :
    ∑ n : Fin 384, (at_ h w n.val k * at_ h (fun n p => r n p * sg (r n p)) n.val k) * unit (at_ h o) n.val k
      = ∑ n : Fin 384, dGain w o r n.val (128 * h + k.val) := by
  have e : (128 * h + k.val) / 128 = h := by have := k.isLt; omega
  refine Finset.sum_congr rfl fun n _ => ?_
  rw [dGain, e]
  rfl

include R in
theorem gain_at0 (h : ¬ 1 ≤ t.val) (y : S1x512.Idx) : (outsAt0 m c t.val t.isLt).2.2 y
    = ((∑ n : Fin 384, dGain w (fun n p => a n p + b n p) r n.val (y 1).val : ℝ) : EReal) := by
  rw [outsAt0_A m c t (by omega) h]
  frame_out
  rw [R.w, R.a, R.b, R.r, thin_blk, (gains _ _ _).1, (gains _ _ _).2.1, (gains _ _ _).2.2, whole_gain,
    norms.1, norms.2.1, norms.2.2, whole, gate_s,
      ld_strip a 0 0 rfl, ld_strip a 128 1 rfl, ld_strip a 256 2 rfl, ld_strip a 384 3 rfl,
      ld_strip b 0 0 rfl, ld_strip b 128 1 rfl, ld_strip b 256 2 rfl, ld_strip b 384 3 rfl, cut0, cut1, cut2, cut3]
  simp only [times0, times1, times2, times3, normed, at_add, gainOf_apply]
  rw [side_apply (fun p => ∑ n : Fin 384, dGain w (fun n p => a n p + b n p) r n.val p) _ _ _ _
    (gain_of _ _ _ 0) (gain_of _ _ _ 1) (gain_of _ _ _ 2) (gain_of _ _ _ 3)]
  rfl

include R in
theorem gain_at1 (h : 1 ≤ t.val) (y : S1x512.Idx) : (outsAt0 m c t.val t.isLt).2.2 y
    = (outsAt0 m c (t.val - 1) (Nat.lt_of_le_of_lt (Nat.sub_le _ _) t.isLt)).2.2 y
      + ((∑ n : Fin 384, dGain w (fun n p => a n p + b n p) r n.val (y 1).val : ℝ) : EReal) := by
  have hN : t.val < 11 := t.isLt
  rw [outsAt0_B m c t (by omega) h]
  frame_out
  rw [R.w, R.a, R.b, R.r, thin_blk, (gains _ _ _).1, (gains _ _ _).2.1, (gains _ _ _).2.2,
    norms.1, norms.2.1, norms.2.2, whole, gate_s,
      ld_strip a 0 0 rfl, ld_strip a 128 1 rfl, ld_strip a 256 2 rfl, ld_strip a 384 3 rfl,
      ld_strip b 0 0 rfl, ld_strip b 128 1 rfl, ld_strip b 256 2 rfl, ld_strip b 384 3 rfl, cut0, cut1, cut2, cut3]
  pointwise [k0_pay5, whole_gain]
  simp only [times0, times1, times2, times3, normed, at_add, gainOf_apply]
  rw [side_apply (fun p => ∑ n : Fin 384, dGain w (fun n p => a n p + b n p) r n.val p) _ _ _ _
    (gain_of _ _ _ 0) (gain_of _ _ _ 1) (gain_of _ _ _ 2) (gain_of _ _ _ 3)]
  rfl

end Cert.GlaOutBwdIdeal.Mine

end
-- ==== Proof.GlaOutBwd.Blocks.lean ====
/- The arrays of the gated output's backward: each block of rows it reads, and what each point leaves in each result. -/
module

public import proofs.«01_k».proof.Proof.GlaOutBwd.Point

@[expose] public section

set_option maxRecDepth 16384

noncomputable section

namespace Cert.GlaOutBwdIdeal.Mine

open Idealize.ShloMosaic Idealize.ShloMosaic.TcCoe Idealize.SL.Sem
open Idealize.ShloMosaic.Pipeline (Dat)
open Cert.GlaOutBwdIdeal Cert.GlaOutBwdIdeal.Gen Cert.Reals

variable (m : (ℓ : Loc nD τ sig) → Buf (Elt Ideal) ℓ)

/-- The arguments are real arrays: the gradient `w`, the two directions' outputs `a` and `b`, the packed projection `h`,
    the gain `g`. -/
structure Args (c : Dev nD) (w a b h : ℕ → ℕ → ℝ) (g : ℕ → ℝ) : Prop where
  w : m ((c.tc : Thread nD τ).loc main_arg0) = fun i : S4112x512.Idx => ((w (i 0).val (i 1).val : ℝ) : EReal)
  a : m ((c.tc : Thread nD τ).loc main_arg1) = fun i : S4112x512.Idx => ((a (i 0).val (i 1).val : ℝ) : EReal)
  b : m ((c.tc : Thread nD τ).loc main_arg2) = fun i : S4112x512.Idx => ((b (i 0).val (i 1).val : ℝ) : EReal)
  h : m ((c.tc : Thread nD τ).loc main_arg3) = fun i : S4112x4384.Idx => ((h (i 0).val (i 1).val : ℝ) : EReal)
  g : m ((c.tc : Thread nD τ).loc main_arg4) = fun i : S512.Idx => ((g (i 0).val : ℝ) : EReal)

variable {m}
variable {c : Dev nD} {w a b h : ℕ → ℕ → ℝ} {g : ℕ → ℝ} (A : Args m c w a b h g)

/-- A padded array: zero in the first 112 rows. -/
def nul (a : ℕ → ℕ → ℝ) (n p : ℕ) : ℝ := if n < 112 then 0 else a (n - 112) p

theorem nul_layout (a : ℕ → ℕ → ℝ) {n p : ℕ} {X : ¬ n < 112 → EReal} (hX : ∀ e, X e = ((a (n - 112) p : ℝ) : EReal)) :
    (if e : n < 112 then (0 : EReal) else X e) = ((nul a n p : ℝ) : EReal) := by
  by_cases e : n < 112
  · rw [dif_pos e, nul, if_pos e]; rfl
  · rw [dif_neg e, nul, if_neg e, hX]

theorem idx : ∀ t : Fin cfg0.N, win0_0.index t = ![t.val, 0] ∧ win0_1.index t = ![t.val, 0] ∧ win0_2.index t = ![t.val, 0]
    ∧ win0_3.index t = ![t.val, 9] ∧ win0_4.index t = ![0, 0] ∧ win0_5.index t = ![t.val, 0] ∧ win0_6.index t = ![t.val, 0]
    ∧ win0_7.index t = ![0, 0] :=
  (by decide +kernel : ∀ t : Fin grid0.N, _)

theorem V_ops (b : Ref sig .tc) : V m c b = StableHlo.after (hostOps0 ++ hostOps0_1 ++ hostOps0_2 ++ hostOps0_3 ++ hostOps0_4 ++ hostOps0_5
    ++ hostOps0_6 ++ hostOps0_7 ++ hostOps0_8 ++ hostOps0_9 ++ hostOps0_10 ++ hostOps0_11 ++ hostOps0_12 ++ hostOps0_13 ++ hostOps0_14)
    (fun b => m (c, b)) (Proc.devRef .tc b) := rfl

include A in
theorem V_w : V m c main_v1 = fun i : S4224x512.Idx => ((nul w (i 0).val (i 1).val : ℝ) : EReal) := by
  funext i
  rw [V_ops]
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.cons_append, List.nil_append]
  entry_read
  pointwise
  exact nul_layout w fun e => congrFun A.w _

include A in
theorem V_a : V m c main_v3 = fun i : S4224x512.Idx => ((nul a (i 0).val (i 1).val : ℝ) : EReal) := by
  funext i
  rw [V_ops]
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.cons_append, List.nil_append]
  entry_read
  pointwise
  exact nul_layout a fun e => congrFun A.a _

include A in
theorem V_b : V m c main_v5 = fun i : S4224x512.Idx => ((nul b (i 0).val (i 1).val : ℝ) : EReal) := by
  funext i
  rw [V_ops]
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.cons_append, List.nil_append]
  entry_read
  pointwise
  exact nul_layout b fun e => congrFun A.b _

include A in
theorem V_g : V m c main_v44 = row g := by
  funext i
  rw [V_ops]
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.cons_append, List.nil_append]
  entry_read
  pointwise
  exact congrFun A.g _

/-- What the last stretch of host lines starts from. -/
def before (m : (ℓ : Loc nD τ sig) → Buf (Elt Ideal) ℓ) (c : Dev nD) :=
  StableHlo.after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12 ++ hostOps0_13) (fun b => m (c, b))

include A in
/-- The gate before the parts are put together. -/
theorem before_r (r : Fin 512) (s : Fin 4112) : before m c (Proc.devRef .tc main_v10) (ix2 r s) = ((h s.val (1024 + r.val) : ℝ) : EReal) := by
  rw [before]
  simp only [hostOps0, hostOps0_1, hostOps0_2, hostOps0_3, hostOps0_4, hostOps0_5, hostOps0_6, hostOps0_7, hostOps0_8, hostOps0_9, hostOps0_10,
    hostOps0_11, hostOps0_12, hostOps0_13, List.cons_append, List.nil_append]
  entry_read
  pointwise
  exact congrFun A.h _

theorem V_before (b : Ref sig .tc) : V m c b = StableHlo.after hostOps0_14 (before m c) (Proc.devRef .tc b) :=
  (V_ops b).trans (congrFun (StableHlo.after_append _ _ _) _)

/-- The parts under one another. -/
def stackOf (u0 u1 u2 : FVec Ideal S1024x4112 .f32) (u3 u4 u5 u6 : FVec Ideal S512x4112 .f32) (u7 u8 : FVec Ideal S256x4112 .f32)
    (u9 u10 : FVec Ideal S128x4112 .f32) : FVec Ideal S5888x4112 .f32 :=
  concatenate S5888x4112 0 [⟨S1024x4112, u0⟩, ⟨S1024x4112, u1⟩, ⟨S1024x4112, u2⟩, ⟨S512x4112, u3⟩, ⟨S512x4112, u4⟩, ⟨S512x4112, u5⟩,
    ⟨S512x4112, u6⟩, ⟨S256x4112, u7⟩, ⟨S256x4112, u8⟩, ⟨S128x4112, u9⟩, ⟨S128x4112, u10⟩]
    concatenates_S1024x4112_S1024x4112_S1024x4112_S512x4112_S512x4112_S512x4112_S512x4112_S256x4112_S256x4112_S128x4112_S128x4112_S5888x4112_d0

theorem stackOf_r (u0 u1 u2 u3 u4 u5 u6 u7 u8 u9 u10) (p : Fin 5888) (s : Fin 4112) (h0 : 4608 ≤ p.val) (h1 : p.val < 5120) :
    stackOf u0 u1 u2 u3 u4 u5 u6 u7 u8 u9 u10 (ix2 p s) = u6 (ix2 ⟨p.val - 4608, by omega⟩ s) := by
  pointwise [stackOf]
  rw [dif_neg (by omega), dif_neg (by omega), dif_neg (by omega), dif_neg (by omega), dif_neg (by omega), dif_neg (by omega), dif_pos (by omega)]
  exact congrArg (fun q : Fin 512 => u6 (ix2 q s)) (Fin.ext (by show p.val - 1024 - 1024 - 1024 - 512 - 512 - 512 = p.val - 4608; omega))

/-- The stack, as the last stretch makes it. -/
theorem stack (σ : Valuation τ sig (Elt Ideal)) : ∃ σ', StableHlo.after (hostOps0_14 (F := Ideal)) σ = StableHlo.after (hostOps0_14.drop 2) σ'
    ∧ ∃ u0 u1 u2 u3 u4 u5 u6 u7 u8 u9 u10, σ' (Proc.devRef .tc main_v39) = stackOf u0 u1 u2 u3 u4 u5 u6 u7 u8 u9 u10
      ∧ u6 = σ (Proc.devRef .tc main_v10) := by
  refine ⟨StableHlo.after (hostOps0_14.take 2) σ, ?_, ?_⟩
  · rw [← StableHlo.after_append, List.take_append_drop]
  · simp only [hostOps0_14, List.take, StableHlo.after_cons, StableHlo.after_nil]
    rw [StableHlo.nary_result]
    refine ⟨_, _, _, _, _, _, _, _, _, _, _, rfl, ?_⟩
    exact StableHlo.reshape_result_ne (y := main_v38) (r := main_v10) (h := by decide) ..

/-- The stack turned, padded with rows in front and cast. -/
theorem turned (σ : Valuation τ sig (Elt Ideal)) {u0 u1 u2 u3 u4 u5 u6 u7 u8 u9 u10}
    (hu : σ (Proc.devRef .tc main_v39) = stackOf u0 u1 u2 u3 u4 u5 u6 u7 u8 u9 u10) (h : ℕ → ℕ → ℝ)
    (hr : ∀ (r : Fin 512) (s : Fin 4112), u6 (ix2 r s) = ((h s.val (1024 + r.val) : ℝ) : EReal))
    (i : S4224x5888.Idx) (h0 : 4608 ≤ (i 1).val) (h1 : (i 1).val < 5120) :
    StableHlo.after (hostOps0_14.drop 2) σ (Proc.devRef .tc main_v43) i = ((nul (fun n p => h n (p - 3584)) (i 0).val (i 1).val : ℝ) : EReal) := by
  simp only [hostOps0_14, List.drop]
  entry_read
  pointwise
  refine nul_layout (fun n p => h n (p - 3584)) fun e => ?_
  rw [hu]
  refine (stackOf_r _ _ _ _ _ _ _ _ _ _ _ _ _ h0 h1).trans ((hr _ _).trans ?_)
  exact congrArg (fun p => ((h ((i 0).val - 112) p : ℝ) : EReal)) (by show 1024 + ((i 1).val - 4608) = _; omega)

include A in
/-- The gate among the packed columns. -/
theorem V_r (i : S4224x5888.Idx) (h0 : 4608 ≤ (i 1).val) (h1 : (i 1).val < 5120) :
    V m c main_v43 i = ((nul (fun n p => h n (p - 3584)) (i 0).val (i 1).val : ℝ) : EReal) := by
  obtain ⟨σ', e, _, _, _, _, _, _, _, _, _, _, _, hu, h6⟩ := stack (before m c)
  rw [V_before, e]
  exact turned σ' hu h (fun r s => (congrFun h6 _).trans (before_r A r s)) i h0 h1

include A in
theorem reads (t : Fin cfg0.N) : Reads m c t (fun n p => nul w (384 * t.val + n) p) (fun n p => nul a (384 * t.val + n) p)
    (fun n p => nul b (384 * t.val + n) p) (fun n p => nul (fun n p => h n (1024 + p)) (384 * t.val + n) p) g := by
  constructor
  · funext y
    blk_simp [iblk]
    rw [V_w A]
    blk_simp [blk, idx t]
    exact congrArg₂ (fun m n => ((nul w m n : ℝ) : EReal)) (by rw [mul_comm]) rfl
  · funext y
    blk_simp [iblk]
    rw [V_a A]
    blk_simp [blk, idx t]
    exact congrArg₂ (fun m n => ((nul a m n : ℝ) : EReal)) (by rw [mul_comm]) rfl
  · funext y
    blk_simp [iblk]
    rw [V_b A]
    blk_simp [blk, idx t]
    exact congrArg₂ (fun m n => ((nul b m n : ℝ) : EReal)) (by rw [mul_comm]) rfl
  · funext y
    rw [show X0_3 m c t y = _ from dif_pos (moved0_3 t y)]
    blk_simp [iblk]
    have h0 : (y 0).val < 384 := (y 0).isLt
    have h1 : (y 1).val < 512 := (y 1).isLt
    refine (V_r A _ (by blk_simp [idx t]; omega) (by blk_simp [idx t]; exact Nat.add_lt_add_left h1 _)).trans ?_
    refine congrArg (fun s : ℝ => (s : EReal)) ?_
    have e1 : 9 * 512 + (y 1).val - 3584 = 1024 + (y 1).val := by omega
    blk_simp [idx t]
    show nul _ (t.val * 384 + (y 0).val) (9 * 512 + (y 1).val) = nul _ _ _
    rw [mul_comm t.val, nul, nul, e1]
  · funext y
    blk_simp [iblk]
    rw [V_g A]
    blk_simp [row, idx t]

/-- The two directions' outputs together, and the gate, padded. -/
def both (a b : ℕ → ℕ → ℝ) (n p : ℕ) : ℝ := nul a n p + nul b n p
def gate (h : ℕ → ℕ → ℝ) : ℕ → ℕ → ℝ := nul fun n p => h n (1024 + p)

include A in
/-- The gradient of the heads' outputs, as the region leaves it. -/
theorem final5 : (dats m 0 c).arrAt 5 cfg0.N = fun i : S4224x512.Idx =>
    ((dOut (nul w) (both a b) (gate h) g (i 0).val (i 1).val : ℝ) : EReal) := by
  refine (dats m 0 c).arrAt_eq_of_covers 5 _ (by decide +kernel) fun t _ y => ?_
  blk_simp
  rw [after0_5]
  refine (out_at (reads A t) y).trans ?_
  refine congrArg (fun s : ℝ => (s : EReal)) ?_
  show dOut (nul w) (both a b) (gate h) g (384 * t.val + (y 0).val) (y 1).val = _
  blk_simp [idx t]
  rw [mul_comm]

include A in
/-- The gradient of the gate, as the region leaves it. -/
theorem final6 : (dats m 0 c).arrAt 6 cfg0.N = fun i : S4224x512.Idx =>
    ((dGate (nul w) (both a b) (gate h) g (i 0).val (i 1).val : ℝ) : EReal) := by
  refine (dats m 0 c).arrAt_eq_of_covers 6 _ (by decide +kernel) fun t _ y => ?_
  blk_simp
  rw [after0_6]
  refine (gate_at (reads A t) y).trans ?_
  refine congrArg (fun s : ℝ => (s : EReal)) ?_
  show dGate (nul w) (both a b) (gate h) g (384 * t.val + (y 0).val) (y 1).val = _
  blk_simp [idx t]
  rw [mul_comm]

include A in
/-- The running sum of the gain's gradient after each point. -/
theorem acc : ∀ (n : ℕ) (hn : n < cfg0.N) (y : S1x512.Idx), (outsAt0 m c n hn).2.2 y
    = ((∑ p ∈ Finset.range (n + 1), ∑ r : Fin 384, dGain (nul w) (both a b) (gate h) (384 * p + r.val) (y 1).val : ℝ) : EReal) := by
  intro n
  induction n with
  | zero =>
    intro hn y
    refine (gain_at0 (reads A ⟨0, hn⟩) (by simp) y).trans ?_
    rw [zero_add, Finset.sum_range_one]
    rfl
  | succ n ih =>
    intro hn y
    refine (gain_at1 (reads A ⟨n + 1, hn⟩) (by simp) y).trans ?_
    rw [Finset.sum_range_succ, EReal.coe_add]
    exact congrArg₂ (· + ·) (ih (Nat.lt_of_succ_lt hn) y) rfl

theorem flush7 : ∀ t : Fin cfg0.N, (cfg0.win 7).flush t = true → t.val = 10 :=
  (by decide +kernel : ∀ t : Fin grid0.N, _)

include A in
/-- The gain's gradient, as the region leaves it. -/
theorem final7 : (dats m 0 c).arrAt 7 cfg0.N = row fun p =>
    ∑ q ∈ Finset.range 11, ∑ r : Fin 384, dGain (nul w) (both a b) (gate h) (384 * q + r.val) p := by
  refine (dats m 0 c).arrAt_eq_of_covers 7 _ (by decide +kernel) fun t ht y => ?_
  blk_simp
  rw [after0_7]
  refine (acc A t.val t.isLt y).trans ?_
  rw [flush7 t ht]
  blk_simp [row, idx t]

end Cert.GlaOutBwdIdeal.Mine

end
-- ==== Proof.GlaOutBwd.Ref.lean ====
/- The reference of the gated output's backward, stage by stage, at arrays of real numbers. -/
module

public import proofs.«01_k».proof.Proof.GlaOutBwd.Blocks
public import proofs.«01_k».proof.Proof.Gen.GlaOutBwdRefIdeal.Read

@[expose] public section

set_option maxRecDepth 16384

noncomputable section

namespace Cert.GlaOutBwdRefIdeal.Mine

open Idealize.ShloMosaic Idealize.ShloMosaic.TcCoe Idealize.SL.Sem
open Cert.GlaOutBwdRefIdeal Cert.GlaOutBwdRefIdeal.Gen Cert.GlaOutBwdRefIdeal.Read Cert.Reals
open Cert.GlaOutBwdIdeal.Mine (at_)

variable (w a b h : ℕ → ℕ → ℝ) (g : ℕ → ℝ)

/-- The arguments as arrays. -/
def R2 (a : ℕ → ℕ → ℝ) : (⟨S4112x512, .f32⟩ : BufTy).Contents (Elt Ideal) := fun i : S4112x512.Idx => ((a (i 0).val (i 1).val : ℝ) : EReal)
def H : (⟨S4112x4384, .f32⟩ : BufTy).Contents (Elt Ideal) := fun i : S4112x4384.Idx => ((h (i 0).val (i 1).val : ℝ) : EReal)
def G : (⟨S512, .f32⟩ : BufTy).Contents (Elt Ideal) := fun i : S512.Idx => ((g (i 0).val : ℝ) : EReal)

/-- The two directions' outputs together; the gate. -/
def sum (a b : ℕ → ℕ → ℝ) (n p : ℕ) : ℝ := a n p + b n p
def gate (h : ℕ → ℕ → ℝ) (n p : ℕ) : ℝ := h n (1024 + p)

theorem v12 (i : S4112x4x128.Idx) : val_main_v12 (F := Ideal) (R2 a) (R2 b) i = ((at_ (i 1).val (sum a b) (i 0).val (i 2) : ℝ) : EReal) := by
  unfold val_main_v12
  pointwise
  simp only [val_main_v11_apply]
  pointwise [R2]
  rw [← EReal.coe_add, mul_comm (i 1).val]
  rfl

theorem v19 (i : S4112x4x1.Idx) : val_main_v19 (F := Ideal) (R2 a) (R2 b) i = ((ms 128 (at_ (i 1).val (sum a b) (i 0).val) : ℝ) : EReal) := by
  simp only [val_main_v19_apply, val_main_v18_apply, val_main_cst_1_apply, val_main_v17_apply, val_main_v16_apply, val_main_cst_0_apply,
    val_main_v15_apply, val_main_v14_apply, val_main_cst_apply, val_main_v13_apply, v12]
  pointwise
  rw [c128_f32, eps_f32]
  simp only [← EReal.coe_mul, coe_sum]
  rw [div_coe_coe (by norm_num), ← EReal.coe_add]
  rfl

theorem v20 (i : S4112x4x1.Idx) : val_main_v20 (F := Ideal) (R2 a) (R2 b) i = ((rt 128 (at_ (i 1).val (sum a b) (i 0).val) : ℝ) : EReal) := by
  rw [val_main_v20_apply, v19]
  exact rsqrt_pos (ms_pos (by norm_num) _)

theorem v23 (i : S4112x4x1.Idx) : val_main_v23 (F := Ideal) (R2 a) (R2 b) i
    = ((-(1 / 2) * (rt 128 (at_ (i 1).val (sum a b) (i 0).val) * rt 128 (at_ (i 1).val (sum a b) (i 0).val)
      * rt 128 (at_ (i 1).val (sum a b) (i 0).val)) : ℝ) : EReal) := by
  simp only [val_main_v23_apply, val_main_v22_apply, val_main_cst_2_apply, val_main_v21_apply, v19, v20]
  pointwise
  rw [neg_half_f32, div_coe_coe (ms_pos (by norm_num) _).ne', ← EReal.coe_mul, rt_div_ms (by norm_num)]

/-- The normed outputs. -/
def normed (a b : ℕ → ℕ → ℝ) (n p : ℕ) : ℝ := sum a b n p * rt 128 (at_ (p / 128) (sum a b) n)

theorem v26 (i : S4112x512.Idx) : val_main_v26 (F := Ideal) (R2 a) (R2 b) i = ((normed a b (i 0).val (i 1).val : ℝ) : EReal) := by
  unfold val_main_v26
  pointwise
  simp only [val_main_v25_apply, v12, val_main_v24_apply, v20]
  pointwise
  rw [← EReal.coe_mul]
  have e : at_ ((i 1).val / 128) (sum a b) (i 0).val ⟨(i 1).val % 128, Nat.mod_lt _ (by norm_num)⟩ = sum a b (i 0).val (i 1).val :=
    congrArg (sum a b (i 0).val) (Nat.div_add_mod _ _)
  exact congrArg (fun s : ℝ => ((s * rt 128 (at_ ((i 1).val / 128) (sum a b) (i 0).val) : ℝ) : EReal)) e

theorem v29 (i : S4112x512.Idx) : val_main_v29 (F := Ideal) (R2 a) (R2 b) (G g) i = ((normed a b (i 0).val (i 1).val * g (i 1).val : ℝ) : EReal) := by
  simp only [val_main_v29_apply, v26, val_main_v28_apply, val_main_v27_apply]
  pointwise [G]
  rw [← EReal.coe_mul]

theorem v3 (i : S4112x512.Idx) : val_main_v3 (F := Ideal) (H h) i = ((gate h (i 0).val (i 1).val : ℝ) : EReal) := by
  simp only [val_main_v3_apply]
  pointwise [H]
  rfl

theorem v30_2 (i : S4112x512.Idx) : val_main_v30_2 (F := Ideal) (H h) i = ((sg (gate h (i 0).val (i 1).val) : ℝ) : EReal) := by
  simp only [val_main_v30_2_apply, val_main_call0_v4_apply, val_main_call0_cst_0_apply, val_main_call0_v3_apply, val_main_call0_v2_apply,
    val_main_call0_cst_apply, val_main_call0_v1_apply, val_main_call0_v0_apply, v3]
  pointwise
  try rw [one_f32]
  try simp only [← EReal.coe_one]
  exact logistic _

theorem v34 (i : S4112x512.Idx) : val_main_v34 (F := Ideal) (R2 w) (R2 a) (R2 b) (H h) (G g) i
    = ((w (i 0).val (i 1).val * normed a b (i 0).val (i 1).val * g (i 1).val * dsilu (gate h (i 0).val (i 1).val) : ℝ) : EReal) := by
  simp only [val_main_v34_apply, val_main_call1_v1_apply, val_main_call1_v2_apply, val_main_call1_v0_apply, val_main_v32_apply, v29, v3, v30_2,
    val_main_v30_1_apply, val_main_call0_v7_apply, val_main_call0_v6_apply, val_main_call0_cst_1_apply]
  pointwise [R2]
  try rw [one_f32]
  simp only [← EReal.coe_one, ← EReal.coe_mul, ← EReal.coe_sub, ← EReal.coe_add]
  refine congrArg (fun s : ℝ => (s : EReal)) ?_
  rw [dsilu]
  ring

/-- The cotangent of the gained rows. -/
def cot (w h : ℕ → ℕ → ℝ) (n p : ℕ) : ℝ := w n p * (gate h n p * sg (gate h n p))

theorem v33 (i : S4112x512.Idx) : val_main_v33 (F := Ideal) (R2 w) (H h) i = ((cot w h (i 0).val (i 1).val : ℝ) : EReal) := by
  simp only [val_main_v33_apply, val_main_v30_0_apply, v3, v30_2]
  pointwise [R2]
  simp only [← EReal.coe_mul]
  rfl

theorem v60 (i : S1x512.Idx) : val_main_v60 (F := Ideal) (R2 w) (R2 a) (R2 b) (H h) i
    = ((∑ n : Fin 4112, normed a b n.val (i 1).val * cot w h n.val (i 1).val : ℝ) : EReal) := by
  simp only [val_main_v60_apply, val_main_v40_apply, val_main_cst_4_apply, val_main_v37_apply, val_main_v36_apply, val_main_cst_3_apply,
    val_main_v35_apply, v26, v33]
  pointwise
  simp only [Finset.univ_unique, Finset.sum_singleton, ← EReal.coe_mul, coe_sum]

theorem v41 (i : S4112x4x128.Idx) : val_main_v41 (F := Ideal) (R2 w) (H h) (G g) i
    = ((at_ (i 1).val (cot w h) (i 0).val (i 2) * g (128 * (i 1).val + (i 2).val) : ℝ) : EReal) := by
  unfold val_main_v41
  pointwise
  simp only [val_main_v39_apply, v33, val_main_v38_apply, val_main_v27_apply]
  pointwise [G]
  rw [← EReal.coe_mul, mul_comm (i 1).val]
  rfl

/-- A head's gradient of its outputs' row `x`, with the cotangent `w` of the normed row. -/
def back (x w : Fin 128 → ℝ) (k : Fin 128) : ℝ :=
  w k * rt 128 x
    + x k * ((∑ l, x l * w l) * (-(1 / 2) * (rt 128 x * rt 128 x * rt 128 x)) / 128)
    + (∑ l, x l * w l) * (-(1 / 2) * (rt 128 x * rt 128 x * rt 128 x)) / 128 * x k

/-- The cotangent of a head's normed row. -/
def cotRow (w h : ℕ → ℕ → ℝ) (g : ℕ → ℝ) (q n : ℕ) (k : Fin 128) : ℝ := at_ q (cot w h) n k * g (128 * q + k.val)

theorem v49 (i : S4112x4x1.Idx) : val_main_v49 (F := Ideal) (R2 w) (R2 a) (R2 b) (H h) (G g) i
    = (((∑ l, at_ (i 1).val (sum a b) (i 0).val l * cotRow w h g (i 1).val (i 0).val l)
      * (-(1 / 2) * (rt 128 (at_ (i 1).val (sum a b) (i 0).val) * rt 128 (at_ (i 1).val (sum a b) (i 0).val)
        * rt 128 (at_ (i 1).val (sum a b) (i 0).val))) / 128 : ℝ) : EReal) := by
  simp only [val_main_v49_apply, val_main_v48_apply, val_main_cst_6_apply, val_main_v47_apply, v23, val_main_v44_apply, val_main_v43_apply,
    val_main_cst_5_apply, val_main_v42_apply, v12, v41]
  pointwise
  rw [c128_f32]
  simp only [← EReal.coe_mul, coe_sum]
  have hi : (i 1).val < 4 := (i 1).isLt
  have e1 : ((i 0).val * 4 + (i 1).val) % 4 = (i 1).val := by omega
  have e0 : ((i 0).val * 4 + (i 1).val) / 4 = (i 0).val := by omega
  rw [div_coe_coe (by norm_num), e1, e0]
  rfl

theorem v55 (i : S4112x4x128.Idx) : val_main_v55 (F := Ideal) (R2 w) (R2 a) (R2 b) (H h) (G g) i
    = ((back (at_ (i 1).val (sum a b) (i 0).val) (cotRow w h g (i 1).val (i 0).val) (i 2) : ℝ) : EReal) := by
  simp only [val_main_v55_apply, val_main_v54_apply, val_main_v53_apply, val_main_v52_apply, val_main_v51_apply, val_main_v50_apply,
    val_main_cst_7_apply, val_main_v46_apply, val_main_v45_apply, v20, v41, v12, v49]
  pointwise
  simp only [Finset.univ_unique, Finset.sum_singleton, ← EReal.coe_mul, ← EReal.coe_add]
  rfl

theorem v56 (i : S4112x512.Idx) : val_main_v56 (F := Ideal) (R2 w) (R2 a) (R2 b) (H h) (G g) i
    = ((back (at_ ((i 1).val / 128) (sum a b) (i 0).val) (cotRow w h g ((i 1).val / 128) (i 0).val)
      ⟨(i 1).val % 128, Nat.mod_lt _ (by norm_num)⟩ : ℝ) : EReal) := by
  unfold val_main_v56
  pointwise
  simp only [v55]
  pointwise

theorem v57 : val_main_v57 (F := Ideal) (R2 w) (R2 a) (R2 b) (H h) (G g) = fun i : S4224x512.Idx =>
    (((if (i 0).val < 112 then 0 else back (at_ ((i 1).val / 128) (sum a b) ((i 0).val - 112))
      (cotRow w h g ((i 1).val / 128) ((i 0).val - 112)) ⟨(i 1).val % 128, Nat.mod_lt _ (by norm_num)⟩ : ℝ)) : EReal) := by
  funext i
  unfold val_main_v57
  pointwise
  idx_bounds
  by_cases e : (i 0).val < 112
  · rw [dif_neg (by omega), if_pos e]
    unfold val_main_call2_v0
    pointwise
    show (((0#32 : BitVec 32).toInt : ℝ) : EReal) = _
    norm_num
  · rw [dif_pos (by omega), if_neg e]
    exact v56 w a b h g _

theorem v59 : val_main_v59 (F := Ideal) (R2 w) (R2 a) (R2 b) (H h) (G g) = fun i : S4224x512.Idx =>
    (((if (i 0).val < 112 then 0 else w ((i 0).val - 112) (i 1).val * normed a b ((i 0).val - 112) (i 1).val * g (i 1).val
      * dsilu (gate h ((i 0).val - 112) (i 1).val) : ℝ)) : EReal) := by
  funext i
  rw [val_main_v59_apply]
  unfold val_main_v58
  pointwise
  idx_bounds
  by_cases e : (i 0).val < 112
  · rw [dif_neg (by omega), if_pos e]
    unfold val_main_call3_v0
    pointwise
    show (((0#32 : BitVec 32).toInt : ℝ) : EReal) = _
    norm_num
  · rw [dif_pos (by omega), if_neg e]
    exact v34 w a b h g _

end Cert.GlaOutBwdRefIdeal.Mine

end
-- ==== Proof.GlaOutBwd.Equation.lean ====
/- The kernel's numbers and the reference's are the same. -/
module

public import proofs.«01_k».proof.Proof.GlaOutBwd.Ref

@[expose] public section

set_option maxRecDepth 16384

noncomputable section

namespace Cert.GlaOutBwdEquation

open Cert.Reals
open Cert.GlaOutBwdIdeal.Mine (at_ normBack dOut dGate dGain nul both)
open Cert.GlaOutBwdRefIdeal.Mine (sum normed cot back cotRow)

variable (w a b h : ℕ → ℕ → ℝ) (g : ℕ → ℝ)

theorem normBack_eq (x w : Fin 128 → ℝ) (k : Fin 128) : normBack x w k = back x w k := by
  have e : ∑ l, w l * (x l * rt 128 x) = (∑ l, x l * w l) * rt 128 x := by
    rw [Finset.sum_mul]
    exact Finset.sum_congr rfl fun l _ => by ring
  rw [normBack, back, e]
  ring

theorem zero_row (x : Fin 128 → ℝ) (k : Fin 128) : normBack x (fun _ => 0) k = 0 := by
  rw [normBack]
  simp

/-- The heads' outputs. -/
theorem out_eq (n p : ℕ) : dOut (nul w) (both a b) (Cert.GlaOutBwdIdeal.Mine.gate h) g n p
    = if n < 112 then 0 else back (at_ (p / 128) (sum a b) (n - 112)) (cotRow w h g (p / 128) (n - 112)) ⟨p % 128, Nat.mod_lt _ (by norm_num)⟩ := by
  by_cases e : n < 112
  · rw [if_pos e, dOut]
    have z : ∀ q (k : Fin 128), at_ q (nul w) n k = 0 := fun q k => if_pos e
    simp only [z, zero_mul]
    exact zero_row _ _
  · rw [if_neg e, ← normBack_eq, dOut]
    have z : ∀ (a : ℕ → ℕ → ℝ) q (k : Fin 128), at_ q (nul a) n k = at_ q a (n - 112) k := fun a q k => if_neg e
    have y : ∀ q, at_ q (both a b) n = at_ q (sum a b) (n - 112) := fun q => funext fun k => congrArg₂ (· + ·) (z a q k) (z b q k)
    simp only [z, y, Cert.GlaOutBwdIdeal.Mine.gate]
    rfl

/-- The gate. -/
theorem gate_eq (n p : ℕ) : dGate (nul w) (both a b) (Cert.GlaOutBwdIdeal.Mine.gate h) g n p
    = if n < 112 then 0 else w (n - 112) p * normed a b (n - 112) p * g p * dsilu (Cert.GlaOutBwdRefIdeal.Mine.gate h (n - 112) p) := by
  by_cases e : n < 112
  · rw [if_pos e, dGate, nul, if_pos e]
    ring
  · have z : ∀ (a : ℕ → ℕ → ℝ) p, nul a n p = a (n - 112) p := fun a p => if_neg e
    have y : ∀ q, at_ q (both a b) n = at_ q (sum a b) (n - 112) := fun q => funext fun k => congrArg₂ (· + ·) (z a _) (z b _)
    rw [if_neg e, dGate, y, both, Cert.GlaOutBwdIdeal.Mine.gate, z, z, z, z]
    rfl

/-- The gain. -/
theorem gain_eq (p : ℕ) : ∑ q ∈ Finset.range 11, ∑ r : Fin 384, dGain (nul w) (both a b) (Cert.GlaOutBwdIdeal.Mine.gate h) (384 * q + r.val) p
    = ∑ n : Fin 4112, normed a b n.val p * cot w h n.val p := by
  have z : ∀ n, n < 112 → dGain (nul w) (both a b) (Cert.GlaOutBwdIdeal.Mine.gate h) n p = 0 := fun n e => by
    rw [dGain, nul, if_pos e]
    ring
  have y : ∀ n, dGain (nul w) (both a b) (Cert.GlaOutBwdIdeal.Mine.gate h) (112 + n) p = normed a b n p * cot w h n p := fun n => by
    have e : ¬ 112 + n < 112 := by omega
    have z : ∀ (a : ℕ → ℕ → ℝ) p, nul a (112 + n) p = a n p := fun a p => by rw [nul, if_neg e, Nat.add_sub_cancel_left]
    have y : ∀ q, at_ q (both a b) (112 + n) = at_ q (sum a b) n := fun q => funext fun k => congrArg₂ (· + ·) (z a _) (z b _)
    rw [dGain, y, both, Cert.GlaOutBwdIdeal.Mine.gate, z, z, z, z]
    exact mul_comm _ _
  rw [sum_blocks 384 (fun n => dGain (nul w) (both a b) (Cert.GlaOutBwdIdeal.Mine.gate h) n p) 11]
  refine (sum_drop 112 4112 _ z).trans ?_
  rw [Finset.sum_range]
  exact Finset.sum_congr rfl fun n _ => y n.val

end Cert.GlaOutBwdEquation

end
-- ==== Proof.GlaOutBwd.Claims.lean ====
/- The claims about the gated output's backward: under real arguments the three gradients of the kernel are those of the
   reference. -/
module

public import proofs.«01_k».proof.Defs
public import proofs.«01_k».proof.Proof.GlaOutBwd.Equation
public import proofs.«01_k».proof.Proof.Gen.GlaOutBwd.Frame
public import proofs.«01_k».proof.Proof.Gen.GlaOutBwdIdeal.Value
public import proofs.«01_k».proof.Proof.Gen.GlaOutBwdRefIdeal.Run
public import proofs.«01_k».proof.Proof.Gen.Pre_finite5

@[expose] public section

set_option maxRecDepth 16384

noncomputable section

namespace Cert.GlaOutBwdClaims

open Idealize.ShloMosaic Idealize.ShloMosaic.TcCoe Idealize.SL.Sem
open Cert.GlaOutBwdIdeal.Mine Cert.Reals
open Cert.GlaOutBwdRefIdeal.Mine (v57 v59 v60)
open Cert.GlaOutBwdEquation

theorem frame_p : Cert.quiescent_GlaOutBwd := fun m ρ _ => Cert.GlaOutBwd.Gen.frame m ρ

theorem frame_pi : Cert.quiescent_GlaOutBwdIdeal := fun m ρ _ => Cert.GlaOutBwdIdeal.Gen.frame m ρ

theorem frame_pi_pre : Cert.quiescent_GlaOutBwdIdeal_pre_finite5 := fun m ρ _ => Cert.GlaOutBwdIdeal.Gen.frame m ρ

theorem frame_ri : Cert.quiescent_GlaOutBwdRefIdeal := fun m ρ _ =>
  (θ_run Cert.GlaOutBwdRefIdeal.defs _ _).mono (fun r h => ⟨fun c => (h c).2.2.2, sem_eq_zero_of_no_sems (by decide) r.2⟩)
    (Cert.GlaOutBwdRefIdeal.Value.run (F := Ideal) m ρ)

theorem frame_ri_pre : Cert.quiescent_GlaOutBwdRefIdeal_pre_finite5 := fun m ρ _ => frame_ri m ρ trivial

theorem preserves : Cert.preserves_GlaOutBwd_GlaOutBwdIdeal := trivial

/-- Under the precondition the arguments are arrays of real numbers. -/
theorem args (m : (ℓ : Loc GlaOutBwdIdeal.nD GlaOutBwdIdeal.τ GlaOutBwdIdeal.sig) → Buf (Elt Ideal) ℓ)
    (h : Pre_GlaOutBwdIdeal_finite5 m) (c : Dev GlaOutBwdIdeal.nD) : ∃ w a b r g, Args m c w a b r g := by
  obtain ⟨h0, h1, h2, h3, h4⟩ := h c
  obtain ⟨w, hw⟩ := exists_real h0
  obtain ⟨a, ha⟩ := exists_real h1
  obtain ⟨b, hb⟩ := exists_real h2
  obtain ⟨r, hr⟩ := exists_real h3
  obtain ⟨g, hg⟩ := exists_real h4
  exact ⟨byCoords w, byCoords a, byCoords b, byCoords r, byCoord g, hw.trans (byCoords_spec w), ha.trans (byCoords_spec a),
    hb.trans (byCoords_spec b), hr.trans (byCoords_spec r), hg.trans (byCoord_spec g)⟩

theorem algebraic : Cert.algebraic_GlaOutBwdIdeal_GlaOutBwdRefIdeal_pre_finite5 := by
  intro m g m' g' hpre hargs
  refine ⟨fun c => (Cert.GlaOutBwdIdeal.Gen.dats m 0 c).arrAt 5 Cert.GlaOutBwdIdeal.cfg0.N,
    fun c => (Cert.GlaOutBwdIdeal.Gen.dats m 0 c).arrAt 6 Cert.GlaOutBwdIdeal.cfg0.N,
    fun c => (Cert.GlaOutBwdIdeal.Gen.dats m 0 c).arrAt 7 Cert.GlaOutBwdIdeal.cfg0.N,
    Cert.GlaOutBwdIdeal.Value.run_blocks m g,
    (θ_run Cert.GlaOutBwdRefIdeal.defs _ _).mono (fun r h c => ?_) (Cert.GlaOutBwdRefIdeal.Value.run (F := Ideal) m' g')⟩
  obtain ⟨h57, h59, h60, hr⟩ := h c
  obtain ⟨w, a, b, h, gn, A⟩ := args m hpre c
  obtain ⟨a0, a1, a2, a3, a4⟩ := hargs c
  have b0 := a0.trans A.w
  have b1 := a1.trans A.a
  have b2 := a2.trans A.b
  have b3 := a3.trans A.h
  have b4 := a4.trans A.g
  refine ⟨?_, ?_, ?_, hr⟩
  · refine h57.trans ((Cert.GlaOutBwdRefIdeal.Read.val_main_v57_eq ..).trans (Eq.trans ?_ (final5 A).symm))
    rw [b0, b1, b2, b3, b4]
    refine (v57 w a b h gn).trans ?_
    funext i
    exact congrArg (fun r : ℝ => (r : EReal)) (out_eq w a b h gn _ _).symm
  · refine h59.trans ((Cert.GlaOutBwdRefIdeal.Read.val_main_v59_eq ..).trans (Eq.trans ?_ (final6 A).symm))
    rw [b0, b1, b2, b3, b4]
    refine (v59 w a b h gn).trans ?_
    funext i
    exact congrArg (fun r : ℝ => (r : EReal)) (gate_eq w a b h gn _ _).symm
  · refine h60.trans ((Cert.GlaOutBwdRefIdeal.Read.val_main_v60_eq ..).trans (Eq.trans ?_ (final7 A).symm))
    rw [b0, b1, b2, b3]
    funext i
    exact (v60 w a b h i).trans (congrArg (fun r : ℝ => (r : EReal)) (gain_eq w a b h (i 1).val).symm)

end Cert.GlaOutBwdClaims

end
-- ==== Proof.FfnDact.Point.lean ====
/- What a grid point of the feed-forward's inner backward computes from blocks of real numbers. -/
module

public import proofs.«01_k».proof.Proof.Gates
public import proofs.«01_k».proof.Proof.Gen.FfnDactIdeal.Value

@[expose] public section

set_option maxRecDepth 16384

noncomputable section

namespace Cert.FfnDactIdeal.Mine

open Idealize.ShloMosaic Idealize.ShloMosaic.TcCoe Idealize.SL.Sem
open Cert.FfnDactIdeal Cert.FfnDactIdeal.Gen Cert.Reals

/-- A block of rows of the gradient, the whole of the weights, a block of rows of an inner array; strips of the last two. -/
def rows (a : ℕ → ℕ → ℝ) : Vec Ideal S528x1024 .bf16 := fun i => ((a (i 0).val (i 1).val : ℝ) : EReal)
def weights (a : ℕ → ℕ → ℝ) : Vec Ideal S2816x1024 .bf16 := fun i => ((a (i 0).val (i 1).val : ℝ) : EReal)
def inner (a : ℕ → ℕ → ℝ) : Vec Ideal S528x2816 .bf16 := fun i => ((a (i 0).val (i 1).val : ℝ) : EReal)
def wStrip (q : ℕ) (a : ℕ → ℕ → ℝ) : Vec Ideal S256x1024 .bf16 := fun i => ((a (256 * q + (i 0).val) (i 1).val : ℝ) : EReal)
def strip (q : ℕ) (a : ℕ → ℕ → ℝ) : Vec Ideal S528x256 .bf16 := fun i => ((a (i 0).val (256 * q + (i 1).val) : ℝ) : EReal)

/-- The cotangent of the activation, and the two gradients. -/
def dAct (d w : ℕ → ℕ → ℝ) (n p : ℕ) : ℝ := 1 / 2 * ∑ l : Fin 1024, d n l.val * w p l.val
def dGate (d w g u : ℕ → ℕ → ℝ) (n p : ℕ) : ℝ := dAct d w n p * u n p * dsilu (g n p)
def dUp (d w g : ℕ → ℕ → ℝ) (n p : ℕ) : ℝ := dAct d w n p * (g n p * sg (g n p))

variable (d w g u : ℕ → ℕ → ℝ) (q : ℕ)

theorem act (i : S528x256.Idx) : k0_pay3 (F := Ideal) (wStrip q w) (rows d) i = ((dAct d w (i 0).val (256 * q + (i 1).val) : ℝ) : EReal) := by
  pointwise [k0_pay3, wStrip, rows]
  rw [half_f32]
  simp only [← EReal.coe_mul, coe_sum]
  rfl

theorem wide (i : S528x256.Idx) : k0_pay2 (F := Ideal) (strip q g) i = ((g (i 0).val (256 * q + (i 1).val) : ℝ) : EReal) := by
  pointwise [k0_pay2, strip]

theorem gated (i : S528x256.Idx) : k0_pay4 (F := Ideal) (strip q g) i = ((sg (g (i 0).val (256 * q + (i 1).val)) : ℝ) : EReal) := by
  pointwise [k0_pay4]
  rw [half_f32, wide]
  simp only [← EReal.coe_mul, ← EReal.coe_add, tanh_coe, half_tanh]

theorem gate_strip : k0_pay5 (F := Ideal) (wStrip q w) (rows d) (strip q g) (strip q u) = strip q (dGate d w g u) := by
  funext i
  pointwise [k0_pay5]
  rw [act, wide, gated]
  pointwise [strip]
  simp only [← EReal.coe_one, ← EReal.coe_mul, ← EReal.coe_add, ← EReal.coe_sub]
  rfl

theorem up_strip : k0_pay6 (F := Ideal) (wStrip q w) (rows d) (strip q g) = strip q (dUp d w g) := by
  funext i
  pointwise [k0_pay6]
  rw [act, wide, gated]
  simp only [← EReal.coe_mul]
  rfl

theorem ld_w (p q : ℕ) (hp : p = 256 * q) (inb) :
    View.ld (Val := Elt Ideal) (e' := .bf16) (weights w) (Rect.unit (s := S2816x1024) ![p, 0] S256x1024.size inb) = wStrip q w := by
  funext x
  refine congrArg₂ (fun m n => ((w m n : ℝ) : EReal)) ?_ ?_
  · rw [Rect.idx_unit_val, ← hp]; rfl
  · rw [Rect.idx_unit_val]; exact Nat.zero_add _

theorem ld_s (p q : ℕ) (hp : p = 256 * q) (inb) :
    View.ld (Val := Elt Ideal) (e' := .bf16) (inner g) (Rect.unit (s := S528x2816) ![0, p] S528x256.size inb) = strip q g := by
  funext x
  refine congrArg₂ (fun m n => ((g m n : ℝ) : EReal)) ?_ ?_
  · rw [Rect.idx_unit_val]; exact Nat.zero_add _
  · rw [Rect.idx_unit_val, ← hp]; rfl

theorem ld_d (inb) : View.ld (Val := Elt Ideal) (e' := .bf16) (rows d) (Rect.unit (s := S528x1024) ![0, 0] S528x1024.size inb) = rows d := by
  funext x
  refine congrArg₂ (fun m n => ((d m n : ℝ) : EReal)) ?_ ?_ <;> (rw [Rect.idx_unit_val]; exact Nat.zero_add _)

theorem strip_at {q : ℕ} {i : S528x256.Idx} {n p : ℕ} (hn : n = (i 0).val) (hp : p = 256 * q + (i 1).val) :
    strip q g i = ((g n p : ℝ) : EReal) := by
  rw [hn, hp]; rfl

set_option maxHeartbeats 4000000 in
theorem gates : out0_4 (F := Ideal) (rows d) (weights w) (inner g) (inner u) = inner (dGate d w g u) := by
  have e : ∀ (q p : ℕ) a b (h : p = 256 * q), k0_pay5 (F := Ideal) (View.ld (weights w) (Rect.unit (s := S2816x1024) ![p, 0] S256x1024.size a))
      (View.ld (rows d) r0_1) (View.ld (inner g) (Rect.unit (s := S528x2816) ![0, p] S528x256.size b))
      (View.ld (inner u) (Rect.unit (s := S528x2816) ![0, p] S528x256.size b)) = strip q (dGate d w g u) := fun q p _ _ h => by
    rw [ld_w w p q h, ld_d, ld_s g p q h, ld_s u p q h, gate_strip]
  funext y
  show View.canon ([⟨r0_22, k0_pay5 (View.ld (weights w) r0_21) (View.ld (rows d) r0_1) (View.ld (inner g) r0_22) (View.ld (inner u) r0_22)⟩,
    ⟨r0_20, k0_pay5 (View.ld (weights w) r0_19) (View.ld (rows d) r0_1) (View.ld (inner g) r0_20) (View.ld (inner u) r0_20)⟩,
    ⟨r0_18, k0_pay5 (View.ld (weights w) r0_17) (View.ld (rows d) r0_1) (View.ld (inner g) r0_18) (View.ld (inner u) r0_18)⟩,
    ⟨r0_16, k0_pay5 (View.ld (weights w) r0_15) (View.ld (rows d) r0_1) (View.ld (inner g) r0_16) (View.ld (inner u) r0_16)⟩,
    ⟨r0_14, k0_pay5 (View.ld (weights w) r0_13) (View.ld (rows d) r0_1) (View.ld (inner g) r0_14) (View.ld (inner u) r0_14)⟩,
    ⟨r0_12, k0_pay5 (View.ld (weights w) r0_11) (View.ld (rows d) r0_1) (View.ld (inner g) r0_12) (View.ld (inner u) r0_12)⟩,
    ⟨r0_10, k0_pay5 (View.ld (weights w) r0_9) (View.ld (rows d) r0_1) (View.ld (inner g) r0_10) (View.ld (inner u) r0_10)⟩,
    ⟨r0_8, k0_pay5 (View.ld (weights w) r0_7) (View.ld (rows d) r0_1) (View.ld (inner g) r0_8) (View.ld (inner u) r0_8)⟩,
    ⟨r0_6, k0_pay5 (View.ld (weights w) r0_5) (View.ld (rows d) r0_1) (View.ld (inner g) r0_6) (View.ld (inner u) r0_6)⟩,
    ⟨r0_4, k0_pay5 (View.ld (weights w) r0_3) (View.ld (rows d) r0_1) (View.ld (inner g) r0_4) (View.ld (inner u) r0_4)⟩,
    ⟨r0_2, k0_pay5 (View.ld (weights w) r0_0) (View.ld (rows d) r0_1) (View.ld (inner g) r0_2) (View.ld (inner u) r0_2)⟩] : List (View.Piece (Elt Ideal) S528x2816 .bf16)) y = _
  rw [e 10 2560 _ _ rfl, e 9 2304 _ _ rfl, e 8 2048 _ _ rfl, e 7 1792 _ _ rfl, e 6 1536 _ _ rfl, e 5 1280 _ _ rfl, e 4 1024 _ _ rfl,
    e 3 768 _ _ rfl, e 2 512 _ _ rfl, e 1 256 _ _ rfl, e 0 0 _ _ rfl]
  canon_tiles x h
  · exact strip_at _ h0 h1
  · exact strip_at _ h0 h1
  · exact strip_at _ h0 h1
  · exact strip_at _ h0 h1
  · exact strip_at _ h0 h1
  · exact strip_at _ h0 h1
  · exact strip_at _ h0 h1
  · exact strip_at _ h0 h1
  · exact strip_at _ h0 h1
  · exact strip_at _ h0 h1
  · exact strip_at _ h0 (h1.trans (Nat.zero_add _).symm)

set_option maxHeartbeats 4000000 in
theorem ups : out0_5 (F := Ideal) (rows d) (weights w) (inner g) (inner u) = inner (dUp d w g) := by
  have e : ∀ (q p : ℕ) a b (h : p = 256 * q), k0_pay6 (F := Ideal) (View.ld (weights w) (Rect.unit (s := S2816x1024) ![p, 0] S256x1024.size a))
      (View.ld (rows d) r0_1) (View.ld (inner g) (Rect.unit (s := S528x2816) ![0, p] S528x256.size b)) = strip q (dUp d w g) := fun q p _ _ h => by
    rw [ld_w w p q h, ld_d, ld_s g p q h, up_strip]
  funext y
  show View.canon ([⟨r0_22, k0_pay6 (View.ld (weights w) r0_21) (View.ld (rows d) r0_1) (View.ld (inner g) r0_22)⟩,
    ⟨r0_20, k0_pay6 (View.ld (weights w) r0_19) (View.ld (rows d) r0_1) (View.ld (inner g) r0_20)⟩,
    ⟨r0_18, k0_pay6 (View.ld (weights w) r0_17) (View.ld (rows d) r0_1) (View.ld (inner g) r0_18)⟩,
    ⟨r0_16, k0_pay6 (View.ld (weights w) r0_15) (View.ld (rows d) r0_1) (View.ld (inner g) r0_16)⟩,
    ⟨r0_14, k0_pay6 (View.ld (weights w) r0_13) (View.ld (rows d) r0_1) (View.ld (inner g) r0_14)⟩,
    ⟨r0_12, k0_pay6 (View.ld (weights w) r0_11) (View.ld (rows d) r0_1) (View.ld (inner g) r0_12)⟩,
    ⟨r0_10, k0_pay6 (View.ld (weights w) r0_9) (View.ld (rows d) r0_1) (View.ld (inner g) r0_10)⟩,
    ⟨r0_8, k0_pay6 (View.ld (weights w) r0_7) (View.ld (rows d) r0_1) (View.ld (inner g) r0_8)⟩,
    ⟨r0_6, k0_pay6 (View.ld (weights w) r0_5) (View.ld (rows d) r0_1) (View.ld (inner g) r0_6)⟩,
    ⟨r0_4, k0_pay6 (View.ld (weights w) r0_3) (View.ld (rows d) r0_1) (View.ld (inner g) r0_4)⟩,
    ⟨r0_2, k0_pay6 (View.ld (weights w) r0_0) (View.ld (rows d) r0_1) (View.ld (inner g) r0_2)⟩] : List (View.Piece (Elt Ideal) S528x2816 .bf16)) y = _
  rw [e 10 2560 _ _ rfl, e 9 2304 _ _ rfl, e 8 2048 _ _ rfl, e 7 1792 _ _ rfl, e 6 1536 _ _ rfl, e 5 1280 _ _ rfl, e 4 1024 _ _ rfl,
    e 3 768 _ _ rfl, e 2 512 _ _ rfl, e 1 256 _ _ rfl, e 0 0 _ _ rfl]
  canon_tiles x h
  · exact strip_at _ h0 h1
  · exact strip_at _ h0 h1
  · exact strip_at _ h0 h1
  · exact strip_at _ h0 h1
  · exact strip_at _ h0 h1
  · exact strip_at _ h0 h1
  · exact strip_at _ h0 h1
  · exact strip_at _ h0 h1
  · exact strip_at _ h0 h1
  · exact strip_at _ h0 h1
  · exact strip_at _ h0 (h1.trans (Nat.zero_add _).symm)

end Cert.FfnDactIdeal.Mine

end
-- ==== Proof.Padded.lean ====
/- Arrays of 4112 rows with 112 rows of zeros in front, and products of real arrays, as the programs write them. -/
module

public import proofs.«01_k».proof.Proof.Reals

@[expose] public section

noncomputable section

namespace Cert.Reals

open Idealize.ShloMosaic

/-- A padded array: zero in the first 112 rows. -/
def nul (a : ℕ → ℕ → ℝ) (n p : ℕ) : ℝ := if n < 112 then 0 else a (n - 112) p

/-- Zeros put in front. -/
theorem nul_layout (a : ℕ → ℕ → ℝ) {n p : ℕ} {X : ¬ n < 112 → EReal} (hX : ∀ e, X e = ((a (n - 112) p : ℝ) : EReal)) :
    (if e : n < 112 then (0 : EReal) else X e) = ((nul a n p : ℝ) : EReal) := by
  by_cases e : n < 112
  · rw [dif_pos e, nul, if_pos e]; rfl
  · rw [dif_neg e, nul, if_neg e, hX]

/-- The same, written as padding. -/
theorem nul_pad (a : ℕ → ℕ → ℝ) {n p : ℕ} {X : 112 ≤ n ∧ n - 112 < 4112 → EReal} {Z : EReal} (hn : n < 4224)
    (hX : ∀ e, X e = ((a (n - 112) p : ℝ) : EReal)) (hZ : Z = (((0#32 : BitVec 32).toInt : ℝ) : EReal)) :
    (if e : 112 ≤ n ∧ n - 112 < 4112 then X e else Z) = ((nul a n p : ℝ) : EReal) := by
  by_cases e : n < 112
  · rw [dif_neg (by omega), nul, if_pos e, hZ]; norm_num
  · rw [dif_pos (by omega), nul, if_neg e, hX]

/-- A product of two real arrays, entry by entry. -/
theorem sum_mul_coe {N : ℕ} {f g : Fin N → ℝ} {X Y : Fin N → EReal} (hX : ∀ l, X l = ((f l : ℝ) : EReal))
    (hY : ∀ l, Y l = ((g l : ℝ) : EReal)) : ∑ l, X l * Y l = ((∑ l, f l * g l : ℝ) : EReal) := by
  simp only [hX, hY, ← EReal.coe_mul, coe_sum]

end Cert.Reals

end
-- ==== Proof.FfnDact.Blocks.lean ====
/- The arrays of the feed-forward's inner backward: each block of rows it reads, and what each point leaves in each result. -/
module

public import proofs.«01_k».proof.Proof.FfnDact.Point
public import proofs.«01_k».proof.Proof.Padded

@[expose] public section

set_option maxRecDepth 16384

noncomputable section

namespace Cert.FfnDactIdeal.Mine

open Idealize.ShloMosaic Idealize.ShloMosaic.TcCoe Idealize.SL.Sem
open Idealize.ShloMosaic.Pipeline (Dat)
open Cert.FfnDactIdeal Cert.FfnDactIdeal.Gen Cert.Reals

variable (m : (ℓ : Loc nD τ sig) → Buf (Elt Ideal) ℓ)

/-- The arguments are real arrays: the normed rows `z`, the gradient `d`, the gate's, the upper and the lower weights. -/
structure Args (c : Dev nD) (z d wg wu wd : ℕ → ℕ → ℝ) : Prop where
  z : m ((c.tc : Thread nD τ).loc main_arg0) = fun i : S4112x1024.Idx => ((z (i 0).val (i 1).val : ℝ) : EReal)
  d : m ((c.tc : Thread nD τ).loc main_arg1) = fun i : S4112x1024.Idx => ((d (i 0).val (i 1).val : ℝ) : EReal)
  wg : m ((c.tc : Thread nD τ).loc main_arg2) = fun i : S1024x2816.Idx => ((wg (i 0).val (i 1).val : ℝ) : EReal)
  wu : m ((c.tc : Thread nD τ).loc main_arg3) = fun i : S1024x2816.Idx => ((wu (i 0).val (i 1).val : ℝ) : EReal)
  wd : m ((c.tc : Thread nD τ).loc main_arg4) = fun i : S2816x1024.Idx => ((wd (i 0).val (i 1).val : ℝ) : EReal)

variable {m}
variable {c : Dev nD} {z d wg wu wd : ℕ → ℕ → ℝ} (A : Args m c z d wg wu wd)

/-- The product of the rows and a weight. -/
def times (z w : ℕ → ℕ → ℝ) (n p : ℕ) : ℝ := ∑ l : Fin 1024, z n l.val * w l.val p

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

include A in
theorem V_g : V m c main_v3 = fun i : S4224x2816.Idx => ((nul (times z wg) (i 0).val (i 1).val : ℝ) : EReal) := by
  funext i
  simp only [V, hostOps0]
  entry_read
  pointwise
  exact nul_layout (times z wg) fun e => sum_mul_coe (fun l => congrFun A.z _) fun l => congrFun A.wg _

include A in
theorem V_u : V m c main_v7 = fun i : S4224x2816.Idx => ((nul (times z wu) (i 0).val (i 1).val : ℝ) : EReal) := by
  funext i
  simp only [V, hostOps0]
  entry_read
  pointwise
  exact nul_layout (times z wu) fun e => sum_mul_coe (fun l => congrFun A.z _) fun l => congrFun A.wu _

include A in
theorem V_d : V m c main_v10 = fun i : S4224x1024.Idx => ((nul d (i 0).val (i 1).val : ℝ) : EReal) := by
  funext i
  simp only [V, hostOps0]
  entry_read
  pointwise
  exact nul_layout d fun e => congrFun A.d _

include A in
theorem V_w : V m c main_v11 = weights wd := by
  funext i
  simp only [V, hostOps0]
  entry_read
  pointwise
  exact congrFun A.wd _

include A in
theorem block_d (t : Fin cfg0.N) : iblk m c 0 t = rows fun n p => nul d (528 * t.val + n) p := by
  funext y
  blk_simp [iblk]
  rw [V_d A]
  blk_simp [rows, idx t]
  exact congrArg₂ (fun m n => ((nul d m n : ℝ) : EReal)) (by rw [mul_comm]) rfl

include A in
theorem block_w (t : Fin cfg0.N) : iblk m c 1 t = weights wd := by
  funext y
  blk_simp [iblk]
  rw [V_w A]
  blk_simp [weights, idx t]

include A in
theorem block_g (t : Fin cfg0.N) : iblk m c 2 t = inner fun n p => nul (times z wg) (528 * t.val + n) p := by
  funext y
  blk_simp [iblk]
  rw [V_g A]
  blk_simp [inner, idx t]
  exact congrArg₂ (fun m n => ((nul (times z wg) m n : ℝ) : EReal)) (by rw [mul_comm]) rfl

include A in
theorem block_u (t : Fin cfg0.N) : iblk m c 3 t = inner fun n p => nul (times z wu) (528 * t.val + n) p := by
  funext y
  blk_simp [iblk]
  rw [V_u A]
  blk_simp [inner, idx t]
  exact congrArg₂ (fun m n => ((nul (times z wu) m n : ℝ) : EReal)) (by rw [mul_comm]) rfl

include A in
/-- The gate's gradient, as the region leaves it. -/
theorem final4 : (dats m 0 c).arrAt 4 cfg0.N = fun i : S4224x2816.Idx =>
    ((dGate (nul d) wd (nul (times z wg)) (nul (times z wu)) (i 0).val (i 1).val : ℝ) : EReal) := by
  refine (dats m 0 c).arrAt_eq_of_covers 4 _ (by decide +kernel) fun t _ y => ?_
  blk_simp
  rw [after0_4, block_d A, block_w A, block_g A, block_u A, gates]
  refine congrArg (fun s : ℝ => (s : EReal)) ?_
  show dGate (nul d) wd (nul (times z wg)) (nul (times z wu)) (528 * t.val + (y 0).val) (y 1).val = _
  blk_simp [idx t]
  rw [mul_comm]

include A in
/-- The upper gradient, as the region leaves it. -/
theorem final5 : (dats m 0 c).arrAt 5 cfg0.N = fun i : S4224x2816.Idx =>
    ((dUp (nul d) wd (nul (times z wg)) (i 0).val (i 1).val : ℝ) : EReal) := by
  refine (dats m 0 c).arrAt_eq_of_covers 5 _ (by decide +kernel) fun t _ y => ?_
  blk_simp
  rw [after0_5, block_d A, block_w A, block_g A, block_u A, ups]
  refine congrArg (fun s : ℝ => (s : EReal)) ?_
  show dUp (nul d) wd (nul (times z wg)) (528 * t.val + (y 0).val) (y 1).val = _
  blk_simp [idx t]
  rw [mul_comm]

end Cert.FfnDactIdeal.Mine

end
-- ==== Proof.FfnDact.Ref.lean ====
/- The reference of the feed-forward's inner backward, stage by stage, at arrays of real numbers. -/
module

public import proofs.«01_k».proof.Proof.FfnDact.Blocks
public import proofs.«01_k».proof.Proof.Gen.FfnDactRefIdeal.Read

@[expose] public section

set_option maxRecDepth 16384

noncomputable section

namespace Cert.FfnDactRefIdeal.Mine

open Idealize.ShloMosaic Idealize.ShloMosaic.TcCoe Idealize.SL.Sem
open Cert.FfnDactRefIdeal Cert.FfnDactRefIdeal.Gen Cert.FfnDactRefIdeal.Read Cert.Reals
open Cert.FfnDactIdeal.Mine (times dAct dGate dUp)

variable (z d wg wu wd : ℕ → ℕ → ℝ)

/-- The arguments as arrays. -/
def R2 (a : ℕ → ℕ → ℝ) : (⟨S4112x1024, .f32⟩ : BufTy).Contents (Elt Ideal) := fun i : S4112x1024.Idx => ((a (i 0).val (i 1).val : ℝ) : EReal)
def U (a : ℕ → ℕ → ℝ) : (⟨S1024x2816, .f32⟩ : BufTy).Contents (Elt Ideal) := fun i : S1024x2816.Idx => ((a (i 0).val (i 1).val : ℝ) : EReal)
def W (a : ℕ → ℕ → ℝ) : (⟨S2816x1024, .f32⟩ : BufTy).Contents (Elt Ideal) := fun i : S2816x1024.Idx => ((a (i 0).val (i 1).val : ℝ) : EReal)

theorem v0 (i : S4112x2816.Idx) : val_main_v0 (F := Ideal) (R2 z) (U wg) i = ((times z wg (i 0).val (i 1).val : ℝ) : EReal) := by
  rw [val_main_v0_apply]
  exact sum_mul_coe (fun l => rfl) fun l => rfl

theorem v1 (i : S4112x2816.Idx) : val_main_v1 (F := Ideal) (R2 z) (U wu) i = ((times z wu (i 0).val (i 1).val : ℝ) : EReal) := by
  rw [val_main_v1_apply]
  exact sum_mul_coe (fun l => rfl) fun l => rfl

theorem v8 (i : S4112x1024.Idx) : val_main_v8 (F := Ideal) (R2 d) i = ((1 / 2 * d (i 0).val (i 1).val : ℝ) : EReal) := by
  simp only [val_main_v8_apply, val_main_v7_apply, val_main_cst_0_apply]
  pointwise [R2]
  rw [half_f32, ← EReal.coe_mul]

theorem v9 (i : S4112x2816.Idx) : val_main_v9 (F := Ideal) (R2 d) (W wd) i = ((dAct d wd (i 0).val (i 1).val : ℝ) : EReal) := by
  rw [val_main_v9_apply]
  refine (sum_mul_coe (fun l => v8 d _) fun l => rfl).trans ?_
  refine congrArg (fun s : ℝ => (s : EReal)) ?_
  rw [dAct, Finset.mul_sum]
  exact Finset.sum_congr rfl fun l _ => mul_assoc _ _ _

theorem v2_2 (i : S4112x2816.Idx) : val_main_v2_2 (F := Ideal) (R2 z) (U wg) i = ((sg (times z wg (i 0).val (i 1).val) : ℝ) : EReal) := by
  simp only [val_main_v2_2_apply, val_main_call0_v4_apply, val_main_call0_cst_0_apply, val_main_call0_v3_apply, val_main_call0_v2_apply,
    val_main_call0_cst_apply, val_main_call0_v1_apply, val_main_call0_v0_apply, v0]
  pointwise
  simp only [← EReal.coe_one]
  exact logistic _

theorem v12 (i : S4112x2816.Idx) : val_main_v12 (F := Ideal) (R2 z) (R2 d) (U wg) (U wu) (W wd) i
    = ((dGate d wd (times z wg) (times z wu) (i 0).val (i 1).val : ℝ) : EReal) := by
  simp only [val_main_v12_apply, val_main_call1_v1_apply, val_main_call1_v2_apply, val_main_call1_v0_apply, val_main_v11_apply, v9, v0, v1, v2_2,
    val_main_v2_1_apply, val_main_call0_v7_apply, val_main_call0_v6_apply, val_main_call0_cst_1_apply]
  pointwise
  simp only [← EReal.coe_one, ← EReal.coe_mul, ← EReal.coe_sub, ← EReal.coe_add]
  refine congrArg (fun s : ℝ => (s : EReal)) ?_
  rw [dGate, dsilu]
  ring

theorem v10 (i : S4112x2816.Idx) : val_main_v10 (F := Ideal) (R2 z) (R2 d) (U wg) (W wd) i
    = ((dUp d wd (times z wg) (i 0).val (i 1).val : ℝ) : EReal) := by
  simp only [val_main_v10_apply, val_main_v2_0_apply, v9, v0, v2_2]
  pointwise
  simp only [← EReal.coe_mul]
  refine congrArg (fun s : ℝ => (s : EReal)) ?_
  rw [dUp]
  ring

theorem nul_gate (n p : ℕ) : nul (dGate d wd (times z wg) (times z wu)) n p = dGate (nul d) wd (nul (times z wg)) (nul (times z wu)) n p := by
  by_cases e : n < 112
  · have h : nul (times z wu) n p = 0 := if_pos e
    rw [nul, if_pos e, dGate, h]
    ring
  · simp only [nul, dGate, dAct, if_neg e]

theorem nul_up (n p : ℕ) : nul (dUp d wd (times z wg)) n p = dUp (nul d) wd (nul (times z wg)) n p := by
  by_cases e : n < 112
  · have h : nul (times z wg) n p = 0 := if_pos e
    rw [nul, if_pos e, dUp, h]
    ring
  · simp only [nul, dUp, dAct, if_neg e]

theorem v14 : val_main_v14 (F := Ideal) (R2 z) (R2 d) (U wg) (U wu) (W wd) = fun i : S4224x2816.Idx =>
    ((dGate (nul d) wd (nul (times z wg)) (nul (times z wu)) (i 0).val (i 1).val : ℝ) : EReal) := by
  funext i
  rw [← nul_gate]
  rw [val_main_v14_apply]
  unfold val_main_v13
  pointwise
  idx_bounds
  exact nul_pad _ (by omega) (fun e => v12 z d wg wu wd _) (by unfold val_main_call2_v0; pointwise; rfl)

theorem v16 : val_main_v16 (F := Ideal) (R2 z) (R2 d) (U wg) (W wd) = fun i : S4224x2816.Idx =>
    ((dUp (nul d) wd (nul (times z wg)) (i 0).val (i 1).val : ℝ) : EReal) := by
  funext i
  rw [← nul_up]
  rw [val_main_v16_apply]
  unfold val_main_v15
  pointwise
  idx_bounds
  exact nul_pad _ (by omega) (fun e => v10 z d wg wd _) (by unfold val_main_call3_v0; pointwise; rfl)

end Cert.FfnDactRefIdeal.Mine

end
-- ==== Proof.FfnDact.Claims.lean ====
/- The claims about the feed-forward's inner backward: under real arguments the gradients of the gate and of the upper projection
   are those of the reference. -/
module

public import proofs.«01_k».proof.Defs
public import proofs.«01_k».proof.Proof.FfnDact.Ref
public import proofs.«01_k».proof.Proof.Gen.FfnDact.Frame
public import proofs.«01_k».proof.Proof.Gen.FfnDactIdeal.Value
public import proofs.«01_k».proof.Proof.Gen.FfnDactRefIdeal.Run
public import proofs.«01_k».proof.Proof.Gen.Pre_finite2

@[expose] public section

set_option maxRecDepth 16384

noncomputable section

namespace Cert.FfnDactClaims

open Idealize.ShloMosaic Idealize.ShloMosaic.TcCoe Idealize.SL.Sem
open Cert.FfnDactIdeal.Mine Cert.Reals
open Cert.FfnDactRefIdeal.Mine (v14 v16)

theorem frame_p : Cert.quiescent_FfnDact := fun m ρ _ => Cert.FfnDact.Gen.frame m ρ

theorem frame_pi : Cert.quiescent_FfnDactIdeal := fun m ρ _ => Cert.FfnDactIdeal.Gen.frame m ρ

theorem frame_pi_pre : Cert.quiescent_FfnDactIdeal_pre_finite2 := fun m ρ _ => Cert.FfnDactIdeal.Gen.frame m ρ

theorem frame_ri : Cert.quiescent_FfnDactRefIdeal := fun m ρ _ =>
  (θ_run Cert.FfnDactRefIdeal.defs _ _).mono (fun r h => ⟨fun c => (h c).2.2, sem_eq_zero_of_no_sems (by decide) r.2⟩)
    (Cert.FfnDactRefIdeal.Value.run (F := Ideal) m ρ)

theorem frame_ri_pre : Cert.quiescent_FfnDactRefIdeal_pre_finite2 := fun m ρ _ => frame_ri m ρ trivial

theorem preserves : Cert.preserves_FfnDact_FfnDactIdeal := trivial

/-- Under the precondition the arguments are arrays of real numbers. -/
theorem args (m : (ℓ : Loc FfnDactIdeal.nD FfnDactIdeal.τ FfnDactIdeal.sig) → Buf (Elt Ideal) ℓ)
    (h : Pre_FfnDactIdeal_finite2 m) (c : Dev FfnDactIdeal.nD) : ∃ z d wg wu wd, Args m c z d wg wu wd := by
  obtain ⟨h0, h1, h2, h3, h4⟩ := h c
  obtain ⟨z, hz⟩ := exists_real h0
  obtain ⟨d, hd⟩ := exists_real h1
  obtain ⟨wg, hg⟩ := exists_real h2
  obtain ⟨wu, hu⟩ := exists_real h3
  obtain ⟨wd, hw⟩ := exists_real h4
  exact ⟨byCoords z, byCoords d, byCoords wg, byCoords wu, byCoords wd, hz.trans (byCoords_spec z), hd.trans (byCoords_spec d),
    hg.trans (byCoords_spec wg), hu.trans (byCoords_spec wu), hw.trans (byCoords_spec wd)⟩

theorem algebraic : Cert.algebraic_FfnDactIdeal_FfnDactRefIdeal_pre_finite2 := by
  intro m g m' g' hpre hargs
  refine ⟨fun c => (Cert.FfnDactIdeal.Gen.dats m 0 c).arrAt 4 Cert.FfnDactIdeal.cfg0.N,
    fun c => (Cert.FfnDactIdeal.Gen.dats m 0 c).arrAt 5 Cert.FfnDactIdeal.cfg0.N,
    Cert.FfnDactIdeal.Value.run_blocks m g,
    (θ_run Cert.FfnDactRefIdeal.defs _ _).mono (fun r h c => ?_) (Cert.FfnDactRefIdeal.Value.run (F := Ideal) m' g')⟩
  obtain ⟨h14, h16, hr⟩ := h c
  obtain ⟨z, d, wg, wu, wd, A⟩ := args m hpre c
  obtain ⟨a0, a1, a2, a3, a4⟩ := hargs c
  have b0 := a0.trans A.z
  have b1 := a1.trans A.d
  have b2 := a2.trans A.wg
  have b3 := a3.trans A.wu
  have b4 := a4.trans A.wd
  refine ⟨?_, ?_, hr⟩
  · refine h14.trans ((Cert.FfnDactRefIdeal.Read.val_main_v14_eq ..).trans (Eq.trans ?_ (final4 A).symm))
    rw [b0, b1, b2, b3, b4]
    exact v14 z d wg wu wd
  · refine h16.trans ((Cert.FfnDactRefIdeal.Read.val_main_v16_eq ..).trans (Eq.trans ?_ (final5 A).symm))
    rw [b0, b1, b2, b4]
    exact v16 z d wg wd

end Cert.FfnDactClaims

end
-- ==== Proof.Norm.lean ====
/- A norm of rows of 1024 numbers, differentiated: as the kernels write it, and as the derivative of the reference does. -/
module

public import proofs.«01_k».proof.Proof.Padded
public import Idealize.ShloMosaic.Lib.WordCmp

@[expose] public section

noncomputable section

namespace Cert.Reals

open Idealize.ShloMosaic

/-- The reciprocal root mean square of row `n`. -/
def rn (x : ℕ → ℕ → ℝ) (n : ℕ) : ℝ := rt 1024 fun k : Fin 1024 => x n k.val

/-- The mean of a normed row times the cotangent `w` of the row with its gain `g`. -/
def meanDot (x w : ℕ → ℕ → ℝ) (g : ℕ → ℝ) (n : ℕ) : ℝ := (∑ l : Fin 1024, w n l.val * g l.val * (x n l.val * rn x n)) / 1024

/-- The gradient before the norm, as the kernels write it. -/
def dNorm (x w : ℕ → ℕ → ℝ) (g : ℕ → ℝ) (n p : ℕ) : ℝ := rn x n * (w n p * g p - x n p * rn x n * meanDot x w g n)

/-- The derivative through the reciprocal root of a row. -/
def rootBack (x w : ℕ → ℕ → ℝ) (g : ℕ → ℝ) (n : ℕ) : ℝ :=
  (∑ l : Fin 1024, x n l.val * (w n l.val * g l.val)) * (-(1 / 2) * (rn x n * rn x n * rn x n)) / 1024

/-- The gradient before the norm and what `d` hands on, as the reference's derivative writes it. -/
theorem dNorm_eq (x w d : ℕ → ℕ → ℝ) (g : ℕ → ℝ) (n p : ℕ) :
    d n p + w n p * g p * rn x n + x n p * rootBack x w g n + rootBack x w g n * x n p = d n p + dNorm x w g n p := by
  have e : ∑ l : Fin 1024, w n l.val * g l.val * (x n l.val * rn x n) = (∑ l : Fin 1024, x n l.val * (w n l.val * g l.val)) * rn x n := by
    rw [Finset.sum_mul]
    exact Finset.sum_congr rfl fun l _ => by ring
  rw [dNorm, meanDot, rootBack, e]
  ring

/-- The gradient of the gain, one row's part. -/
def dGainAt (x w : ℕ → ℕ → ℝ) (n p : ℕ) : ℝ := x n p * rn x n * w n p

/-- Padding rows add nothing to the gain's gradient. -/
theorem dGain_sum (x w : ℕ → ℕ → ℝ) (p : ℕ) : ∑ q ∈ Finset.range 8, ∑ r : Fin 528, dGainAt (nul x) (nul w) (528 * q + r.val) p
    = ∑ n : Fin 4112, dGainAt x w n.val p := by
  have z : ∀ n, n < 112 → dGainAt (nul x) (nul w) n p = 0 := fun n e => by
    rw [dGainAt, nul, if_pos e]
    ring
  have y : ∀ n, dGainAt (nul x) (nul w) (112 + n) p = dGainAt x w n p := fun n => by
    have e : ∀ (a : ℕ → ℕ → ℝ) p, nul a (112 + n) p = a n p := fun a p => by rw [nul, if_neg (by omega), Nat.add_sub_cancel_left]
    simp only [dGainAt, rn, e]
  rw [sum_blocks 528 (fun n => dGainAt (nul x) (nul w) n p) 8]
  refine (sum_drop 112 4112 _ z).trans ?_
  rw [Finset.sum_range]
  exact Finset.sum_congr rfl fun n _ => y n.val

/-- The mask of the first 112 rows, as a kernel computes it from a block's first row `s`. -/
theorem pick_row (s r : ℕ) (h : s + r < 2 ^ 31) (a : ℝ) :
    Scalar.select (IntOp.cmpi .sge (IntOp.addi (BitVec.ofNat 32 s) (BitVec.ofNat 32 r)) 112#32) (a : EReal) 0
      = ((if 112 ≤ s + r then a else 0 : ℝ) : EReal) := by
  have e : IntOp.addi (BitVec.ofNat 32 s) (BitVec.ofNat 32 r) = BitVec.ofNat 32 (s + r) := (BitVec.ofNat_add ..).symm
  rw [e, WordCmp.cmpi_sge_ofNat h (by norm_num : 112 < 2 ^ 31)]
  by_cases h : 112 ≤ s + r
  · rw [if_pos h, decide_eq_true h]; rfl
  · rw [if_neg h, decide_eq_false h]; rfl

/-- The padded rows of a gradient that the mask of the first 112 rows makes zero. -/
theorem nul_dNorm (x w d : ℕ → ℕ → ℝ) (g : ℕ → ℝ) (n p : ℕ) :
    (if 112 ≤ n then nul d n p + dNorm (nul x) (nul w) g n p else 0) = nul (fun n p => d n p + dNorm x w g n p) n p := by
  by_cases e : n < 112
  · rw [if_neg (by omega), nul, if_pos e]
  · simp only [if_pos (Nat.le_of_not_lt e), nul, if_neg e, dNorm, meanDot, rn]

end Cert.Reals

end
-- ==== Proof.FfnDz.Point.lean ====
/- What a grid point of the backward through the feed-forward's norm computes from blocks of real numbers. -/
module

public import proofs.«01_k».proof.Proof.Norm
public import proofs.«01_k».proof.Proof.Gen.FfnDzIdeal.Value

@[expose] public section

set_option maxRecDepth 16384

noncomputable section

namespace Cert.FfnDzIdeal.Mine

open Idealize.ShloMosaic Idealize.ShloMosaic.TcCoe Idealize.SL.Sem
open Cert.FfnDzIdeal Cert.FfnDzIdeal.Gen Cert.Reals

/-- A block of rows of the stream, of the inner gradients, a whole weight turned, a row of gains, a column of numbers. -/
def rows (a : ℕ → ℕ → ℝ) : Vec Ideal S528x1024 .f32 := fun i => ((a (i 0).val (i 1).val : ℝ) : EReal)
def inner (a : ℕ → ℕ → ℝ) : Vec Ideal S528x2816 .bf16 := fun i => ((a (i 0).val (i 1).val : ℝ) : EReal)
def turned (a : ℕ → ℕ → ℝ) : Vec Ideal S2816x1024 .bf16 := fun i => ((a (i 1).val (i 0).val : ℝ) : EReal)
def row (g : ℕ → ℝ) : Vec Ideal S1x1024 .f32 := fun i => ((g (i 1).val : ℝ) : EReal)
def col (a : ℕ → ℝ) : FVec Ideal S528x1 .f32 := fun i => ((a (i 0).val : ℝ) : EReal)

/-- The cotangent of the normed rows. -/
def dz (dg du wg wu : ℕ → ℕ → ℝ) (n p : ℕ) : ℝ := ∑ l : Fin 2816, dg n l.val * wg p l.val + ∑ l : Fin 2816, du n l.val * wu p l.val

variable (dg du wg wu x w d : ℕ → ℕ → ℝ) (g : ℕ → ℝ)

theorem pay5 : k0_pay5 (F := Ideal) (turned wg) (inner dg) (turned wu) (inner du) = rows (dz dg du wg wu) := by
  funext i
  pointwise [k0_pay5, turned, inner, rows]
  simp only [← EReal.coe_mul, coe_sum, ← EReal.coe_add]
  rfl

theorem pay7 : k0_pay7 (F := Ideal) (rows d) = rows d := by
  funext i
  pointwise [k0_pay7]

theorem pay8 : k0_pay8 (F := Ideal) (rows x) = col (rn x) := by
  funext i
  have h : k0_pay8 (F := Ideal) (rows x) i = Ideal.rsqrt ((ms 1024 (fun k : Fin 1024 => x (i 0).val k.val) : ℝ) : EReal) := by
    pointwise [k0_pay8, k0_pay6, rows]
    rw [k_f32, eps_f32]
    simp only [← EReal.coe_mul, coe_sum]
    rw [div_coe_coe (by norm_num), ← EReal.coe_add]
    rfl
  rw [h, rsqrt_pos (ms_pos (by norm_num) _)]
  rfl

theorem pay9 : k0_pay9 (F := Ideal) (rows x) = rows fun n p => x n p * rn x n := by
  funext i
  pointwise [k0_pay9, k0_pay6]
  rw [pay8]
  simp only [rows, col, ← EReal.coe_mul]
  rfl

theorem pay10 : k0_pay10 (F := Ideal) (turned wg) (inner dg) (turned wu) (inner du) (row g) = rows fun n p => dz dg du wg wu n p * g p := by
  funext i
  pointwise [k0_pay10]
  rw [pay5]
  simp only [rows, row, ← EReal.coe_mul]
  rfl

theorem pay11 : k0_pay11 (F := Ideal) (turned wg) (inner dg) (turned wu) (inner du) (rows x) (row g)
    = col (meanDot x (dz dg du wg wu) g) := by
  funext i
  pointwise [k0_pay11]
  rw [pay10, pay9]
  simp only [rows, ← EReal.coe_mul, coe_sum]
  rw [k_f32, div_coe_coe (by norm_num)]
  rfl

theorem pay1 (v : BitVec 32) {s : ℕ} (hs : v = BitVec.ofNat 32 s) (hs' : s < 4224) :
    k0_pay1 (F := Ideal) (rows d) v (col (rn x)) (rows fun n p => x n p * rn x n) (rows fun n p => w n p * g p) (col (meanDot x w g))
      = rows fun n p => if 112 ≤ s + n then d n p + dNorm x w g n p else 0 := by
  funext i
  pointwise [k0_pay1]
  subst hs
  have := (i 0).isLt
  simp only [rows, col, ← EReal.coe_mul, ← EReal.coe_add, ← EReal.coe_sub]
  exact pick_row s (i 0).val (by have h : (i 0).val < 528 := this; omega) _

theorem pay3 (a q : FVec Ideal S528x1024 .f32) (v : BitVec 32) (b e : FVec Ideal S528x1 .f32) (f : FVec Ideal S528x1024 .f32) (y : S528x1024.Idx) :
    k0_pay3 (F := Ideal) a v b q f e y = k0_pay1 (F := Ideal) a v b q f e y := by
  rfl

theorem pay2 : k0_pay2 (F := Ideal) (rows w) (rows fun n p => x n p * rn x n) = row fun p => ∑ n : Fin 528, dGainAt x w n.val p := by
  funext i
  pointwise [k0_pay2, rows, row]
  simp only [← EReal.coe_mul, coe_sum]
  refine congrArg (fun s : ℝ => (s : EReal)) (Finset.sum_congr rfl fun n _ => ?_)
  exact mul_comm _ _

variable {m : (ℓ : Loc nD τ sig) → Buf (Elt Ideal) ℓ} {c : Dev nD} {t : Fin cfg0.N}

/-- What the point reads. -/
structure Reads (m : (ℓ : Loc nD τ sig) → Buf (Elt Ideal) ℓ) (c : Dev nD) (t : Fin cfg0.N) (dg du wg wu x d : ℕ → ℕ → ℝ) (g : ℕ → ℝ) : Prop where
  dg : iblk m c 0 t = inner dg
  wg : iblk m c 1 t = turned wg
  du : iblk m c 2 t = inner du
  wu : iblk m c 3 t = turned wu
  x : iblk m c 4 t = rows x
  d : iblk m c 5 t = rows d
  g : iblk m c 6 t = row g

variable {dg du wg wu x w d g} (R : Reads m c t dg du wg wu x d g)

theorem start : ∀ t : Fin cfg0.N, Scalar.muli (BitVec.ofNat 32 (grid0.coords t 1).val) 528#32 = BitVec.ofNat 32 (528 * t.val) :=
  (by decide +kernel : ∀ t : Fin grid0.N, _)

include R in
theorem res_at (y : S528x1024.Idx) : (outsAt0 m c t.val t.isLt).1 y
    = (((if 112 ≤ 528 * t.val + (y 0).val then d (y 0).val (y 1).val + dNorm x (dz dg du wg wu) g (y 0).val (y 1).val else 0 : ℝ)) : EReal) := by
  have hN : t.val < 8 := t.isLt
  by_cases h : 1 ≤ t.val
  on_goal 1 => rw [outsAt0_B m c t (by omega) h]
  on_goal 2 => rw [outsAt0_A m c t (by omega) h]
  all_goals
    frame_out
    rw [R.dg, R.wg, R.du, R.wu, R.x, R.d, R.g, pay10, pay11, pay9, pay8, pay7]
    rw [pay1 x (dz dg du wg wu) d g _ (start t) (by omega)]
    rfl

theorem cast_at (y : S528x1024.Idx) : (outsAt0 m c t.val t.isLt).2.1 y = (outsAt0 m c t.val t.isLt).1 y := by
  have hN : t.val < 8 := t.isLt
  by_cases h : 1 ≤ t.val
  on_goal 1 => rw [outsAt0_B m c t (by omega) h]
  on_goal 2 => rw [outsAt0_A m c t (by omega) h]
  all_goals
    frame_out
    rfl

include R in
theorem gain_at0 (h : ¬ 1 ≤ t.val) (y : S1x1024.Idx) : (outsAt0 m c t.val t.isLt).2.2 y
    = ((∑ n : Fin 528, dGainAt x (dz dg du wg wu) n.val (y 1).val : ℝ) : EReal) := by
  have hN : t.val < 8 := t.isLt
  rw [outsAt0_A m c t (by omega) h]
  frame_out
  rw [R.dg, R.wg, R.du, R.wu, R.x, pay9, pay5, pay2]
  rfl

include R in
theorem gain_at1 (h : 1 ≤ t.val) (y : S1x1024.Idx) : (outsAt0 m c t.val t.isLt).2.2 y
    = (outsAt0 m c (t.val - 1) (Nat.lt_of_le_of_lt (Nat.sub_le _ _) t.isLt)).2.2 y
      + ((∑ n : Fin 528, dGainAt x (dz dg du wg wu) n.val (y 1).val : ℝ) : EReal) := by
  have hN : t.val < 8 := t.isLt
  rw [outsAt0_B m c t (by omega) h]
  frame_out
  rw [R.dg, R.wg, R.du, R.wu, R.x, pay9, pay5]
  pointwise [k0_pay4]
  rw [pay2]
  rfl

end Cert.FfnDzIdeal.Mine

end
-- ==== Proof.FfnDz.Blocks.lean ====
/- The arrays of the backward through the feed-forward's norm: each block it reads, and what each point leaves in each
   result. -/
module

public import proofs.«01_k».proof.Proof.FfnDz.Point

@[expose] public section

set_option maxRecDepth 16384

noncomputable section

namespace Cert.FfnDzIdeal.Mine

open Idealize.ShloMosaic Idealize.ShloMosaic.TcCoe Idealize.SL.Sem
open Idealize.ShloMosaic.Pipeline (Dat)
open Cert.FfnDzIdeal Cert.FfnDzIdeal.Gen Cert.Reals

variable (m : (ℓ : Loc nD τ sig) → Buf (Elt Ideal) ℓ)

/-- The arguments are real arrays: the stream `x`, the gain `g`, the two weights, the two inner gradients, the gradient `d`. -/
structure Args (c : Dev nD) (x : ℕ → ℕ → ℝ) (g : ℕ → ℝ) (wg wu dg du d : ℕ → ℕ → ℝ) : Prop where
  x : m ((c.tc : Thread nD τ).loc main_arg0) = fun i : S4112x1024.Idx => ((x (i 0).val (i 1).val : ℝ) : EReal)
  g : m ((c.tc : Thread nD τ).loc main_arg1) = fun i : S1024.Idx => ((g (i 0).val : ℝ) : EReal)
  wg : m ((c.tc : Thread nD τ).loc main_arg2) = fun i : S1024x2816.Idx => ((wg (i 0).val (i 1).val : ℝ) : EReal)
  wu : m ((c.tc : Thread nD τ).loc main_arg3) = fun i : S1024x2816.Idx => ((wu (i 0).val (i 1).val : ℝ) : EReal)
  dg : m ((c.tc : Thread nD τ).loc main_arg4) = fun i : S4112x2816.Idx => ((dg (i 0).val (i 1).val : ℝ) : EReal)
  du : m ((c.tc : Thread nD τ).loc main_arg5) = fun i : S4112x2816.Idx => ((du (i 0).val (i 1).val : ℝ) : EReal)
  d : m ((c.tc : Thread nD τ).loc main_arg6) = fun i : S4112x1024.Idx => ((d (i 0).val (i 1).val : ℝ) : EReal)

variable {m}
variable {c : Dev nD} {x : ℕ → ℕ → ℝ} {g : ℕ → ℝ} {wg wu dg du d : ℕ → ℕ → ℝ} (A : Args m c x g wg wu dg du d)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

include A in
theorem V_dg : V m c main_v2 = fun i : S4224x2816.Idx => ((nul dg (i 0).val (i 1).val : ℝ) : EReal) := by
  funext i
  simp only [V, hostOps0]
  entry_read
  pointwise
  exact nul_layout dg fun e => congrFun A.dg _

include A in
theorem V_wg : V m c main_v4 = turned wg := by
  funext i
  simp only [V, hostOps0]
  entry_read
  pointwise
  exact congrFun A.wg _

include A in
theorem V_du : V m c main_v7 = fun i : S4224x2816.Idx => ((nul du (i 0).val (i 1).val : ℝ) : EReal) := by
  funext i
  simp only [V, hostOps0]
  entry_read
  pointwise
  exact nul_layout du fun e => congrFun A.du _

include A in
theorem V_wu : V m c main_v9 = turned wu := by
  funext i
  simp only [V, hostOps0]
  entry_read
  pointwise
  exact congrFun A.wu _

include A in
theorem V_x : V m c main_v11 = fun i : S4224x1024.Idx => ((nul x (i 0).val (i 1).val : ℝ) : EReal) := by
  funext i
  simp only [V, hostOps0]
  entry_read
  pointwise
  exact nul_layout x fun e => congrFun A.x _

include A in
theorem V_d : V m c main_v13 = fun i : S4224x1024.Idx => ((nul d (i 0).val (i 1).val : ℝ) : EReal) := by
  funext i
  simp only [V, hostOps0]
  entry_read
  pointwise
  exact nul_layout d fun e => congrFun A.d _

include A in
theorem V_g : V m c main_v14 = row g := by
  funext i
  simp only [V, hostOps0]
  entry_read
  pointwise
  exact congrFun A.g _

include A in
theorem reads (t : Fin cfg0.N) : Reads m c t (fun n p => nul dg (528 * t.val + n) p) (fun n p => nul du (528 * t.val + n) p) wg wu
    (fun n p => nul x (528 * t.val + n) p) (fun n p => nul d (528 * t.val + n) p) g := by
  constructor
  · funext y
    blk_simp [iblk]
    rw [V_dg A]
    blk_simp [inner, idx t]
    exact congrArg₂ (fun m n => ((nul dg m n : ℝ) : EReal)) (by rw [mul_comm]) rfl
  · funext y
    blk_simp [iblk]
    rw [V_wg A]
    blk_simp [turned, idx t]
  · funext y
    blk_simp [iblk]
    rw [V_du A]
    blk_simp [inner, idx t]
    exact congrArg₂ (fun m n => ((nul du m n : ℝ) : EReal)) (by rw [mul_comm]) rfl
  · funext y
    blk_simp [iblk]
    rw [V_wu A]
    blk_simp [turned, idx t]
  · funext y
    blk_simp [iblk]
    rw [V_x A]
    blk_simp [rows, idx t]
    exact congrArg₂ (fun m n => ((nul x m n : ℝ) : EReal)) (by rw [mul_comm]) rfl
  · funext y
    blk_simp [iblk]
    rw [V_d A]
    blk_simp [rows, idx t]
    exact congrArg₂ (fun m n => ((nul d m n : ℝ) : EReal)) (by rw [mul_comm]) rfl
  · funext y
    blk_simp [iblk]
    rw [V_g A]
    blk_simp [row, idx t]

/-- The padded cotangent. -/
theorem dz_nul (n p : ℕ) : dz (nul dg) (nul du) wg wu n p = nul (dz dg du wg wu) n p := by
  by_cases e : n < 112
  · simp only [dz, nul, if_pos e, zero_mul, Finset.sum_const_zero, add_zero]
  · simp only [dz, nul, if_neg e]

/-- The stream's gradient. -/
def dRes (x : ℕ → ℕ → ℝ) (g : ℕ → ℝ) (wg wu dg du d : ℕ → ℕ → ℝ) (n p : ℕ) : ℝ := d n p + dNorm x (dz dg du wg wu) g n p

include A in
theorem point (t : Fin cfg0.N) (y : S528x1024.Idx) : (outsAt0 m c t.val t.isLt).1 y
    = ((nul (dRes x g wg wu dg du d) (528 * t.val + (y 0).val) (y 1).val : ℝ) : EReal) := by
  refine (res_at (reads A t) y).trans (congrArg (fun s : ℝ => (s : EReal)) ?_)
  refine Eq.trans ?_ (nul_dNorm x (dz dg du wg wu) d g _ _)
  rw [← show dz (nul dg) (nul du) wg wu = nul (dz dg du wg wu) from funext fun n => funext fun p => dz_nul n p]
  rfl

include A in
/-- The stream's gradient, as the region leaves it. -/
theorem final7 : (dats m 0 c).arrAt 7 cfg0.N = fun i : S4224x1024.Idx => ((nul (dRes x g wg wu dg du d) (i 0).val (i 1).val : ℝ) : EReal) := by
  refine (dats m 0 c).arrAt_eq_of_covers 7 _ (by decide +kernel) fun t _ y => ?_
  blk_simp
  rw [after0_7]
  refine (point A t y).trans ?_
  blk_simp [idx t]
  rw [mul_comm]

include A in
/-- The same in bfloat16. -/
theorem final8 : (dats m 0 c).arrAt 8 cfg0.N = fun i : S4224x1024.Idx => ((nul (dRes x g wg wu dg du d) (i 0).val (i 1).val : ℝ) : EReal) := by
  refine (dats m 0 c).arrAt_eq_of_covers 8 _ (by decide +kernel) fun t _ y => ?_
  blk_simp
  rw [after0_8]
  refine (cast_at y).trans ((point A t y).trans ?_)
  blk_simp [idx t]
  rw [mul_comm]

include A in
/-- The running sum of the gain's gradient after each point. -/
theorem acc : ∀ (n : ℕ) (hn : n < cfg0.N) (y : S1x1024.Idx), (outsAt0 m c n hn).2.2 y
    = ((∑ p ∈ Finset.range (n + 1), ∑ r : Fin 528, dGainAt (nul x) (dz (nul dg) (nul du) wg wu) (528 * p + r.val) (y 1).val : ℝ) : EReal) := by
  intro n
  induction n with
  | zero =>
    intro hn y
    refine (gain_at0 (reads A ⟨0, hn⟩) (by simp) y).trans ?_
    rw [zero_add, Finset.sum_range_one]
    rfl
  | succ n ih =>
    intro hn y
    refine (gain_at1 (reads A ⟨n + 1, hn⟩) (by simp) y).trans ?_
    rw [Finset.sum_range_succ, EReal.coe_add]
    exact congrArg₂ (· + ·) (ih (Nat.lt_of_succ_lt hn) y) rfl

theorem flush9 : ∀ t : Fin cfg0.N, (cfg0.win 9).flush t = true → t.val = 7 :=
  (by decide +kernel : ∀ t : Fin grid0.N, _)

include A in
/-- The gain's gradient, as the region leaves it. -/
theorem final9 : (dats m 0 c).arrAt 9 cfg0.N = row fun p => ∑ n : Fin 4112, dGainAt x (dz dg du wg wu) n.val p := by
  refine (dats m 0 c).arrAt_eq_of_covers 9 _ (by decide +kernel) fun t ht y => ?_
  blk_simp
  rw [after0_9]
  refine (acc A t.val t.isLt y).trans ?_
  rw [flush9 t ht, show dz (nul dg) (nul du) wg wu = nul (dz dg du wg wu) from funext fun n => funext fun p => dz_nul n p, dGain_sum]
  blk_simp [row, idx t]

end Cert.FfnDzIdeal.Mine

end
-- ==== Proof.FfnDz.Ref.lean ====
/- The reference of the backward through the feed-forward's norm, stage by stage, at arrays of real numbers. -/
module

public import proofs.«01_k».proof.Proof.FfnDz.Blocks
public import proofs.«01_k».proof.Proof.Gen.FfnDzRefIdeal.Read

@[expose] public section

set_option maxRecDepth 16384

noncomputable section

namespace Cert.FfnDzRefIdeal.Mine

open Idealize.ShloMosaic Idealize.ShloMosaic.TcCoe Idealize.SL.Sem
open Cert.FfnDzRefIdeal Cert.FfnDzRefIdeal.Gen Cert.FfnDzRefIdeal.Read Cert.Reals
open Cert.FfnDzIdeal.Mine (dz dRes)

variable (x : ℕ → ℕ → ℝ) (g : ℕ → ℝ) (wg wu dg du d : ℕ → ℕ → ℝ)

/-- The arguments as arrays. -/
def R2 (a : ℕ → ℕ → ℝ) : (⟨S4112x1024, .f32⟩ : BufTy).Contents (Elt Ideal) := fun i : S4112x1024.Idx => ((a (i 0).val (i 1).val : ℝ) : EReal)
def D2 (a : ℕ → ℕ → ℝ) : (⟨S4112x2816, .f32⟩ : BufTy).Contents (Elt Ideal) := fun i : S4112x2816.Idx => ((a (i 0).val (i 1).val : ℝ) : EReal)
def W (a : ℕ → ℕ → ℝ) : (⟨S1024x2816, .f32⟩ : BufTy).Contents (Elt Ideal) := fun i : S1024x2816.Idx => ((a (i 0).val (i 1).val : ℝ) : EReal)
def G (g : ℕ → ℝ) : (⟨S1024, .f32⟩ : BufTy).Contents (Elt Ideal) := fun i : S1024.Idx => ((g (i 0).val : ℝ) : EReal)

theorem v6 (i : S4112x1.Idx) : val_main_v6 (F := Ideal) (R2 x) i = ((ms 1024 (fun k : Fin 1024 => x (i 0).val k.val) : ℝ) : EReal) := by
  simp only [val_main_v6_apply, val_main_v5_apply, val_main_cst_1_apply, val_main_v4_apply, val_main_v3_apply, val_main_cst_0_apply,
    val_main_v2_apply, val_main_v1_apply, val_main_cst_apply, val_main_v0_apply]
  pointwise [R2]
  rw [k_f32, eps_f32]
  simp only [← EReal.coe_mul, coe_sum]
  rw [div_coe_coe (by norm_num), ← EReal.coe_add]
  rfl

theorem v7 (i : S4112x1.Idx) : val_main_v7 (F := Ideal) (R2 x) i = ((rn x (i 0).val : ℝ) : EReal) := by
  rw [val_main_v7_apply, v6]
  exact rsqrt_pos (ms_pos (by norm_num) _)

theorem v10 (i : S4112x1.Idx) : val_main_v10 (F := Ideal) (R2 x) i
    = ((-(1 / 2) * (rn x (i 0).val * rn x (i 0).val * rn x (i 0).val) : ℝ) : EReal) := by
  simp only [val_main_v10_apply, val_main_v9_apply, val_main_cst_2_apply, val_main_v8_apply, v6, v7]
  pointwise
  rw [neg_half_f32, div_coe_coe (ms_pos (by norm_num) _).ne', ← EReal.coe_mul]
  exact congrArg (fun s : ℝ => ((-(1 / 2) * s : ℝ) : EReal)) (rt_div_ms (by norm_num) _)

theorem v18 (i : S4112x1024.Idx) : val_main_v18 (F := Ideal) (W wu) (D2 du) i = ((∑ l : Fin 2816, du (i 0).val l.val * wu (i 1).val l.val : ℝ) : EReal) := by
  rw [val_main_v18_apply]
  exact sum_mul_coe (fun l => rfl) fun l => rfl

theorem v19 (i : S4112x1024.Idx) : val_main_v19 (F := Ideal) (W wg) (D2 dg) i = ((∑ l : Fin 2816, dg (i 0).val l.val * wg (i 1).val l.val : ℝ) : EReal) := by
  rw [val_main_v19_apply]
  exact sum_mul_coe (fun l => rfl) fun l => rfl

theorem v20 (i : S4112x1024.Idx) : val_main_v20 (F := Ideal) (W wg) (W wu) (D2 dg) (D2 du) i
    = ((dz dg du wg wu (i 0).val (i 1).val : ℝ) : EReal) := by
  rw [val_main_v20_apply, v18, v19]
  exact congrArg (fun s : ℝ => (s : EReal)) (add_comm _ _)

theorem v25 (i : S4112x1024.Idx) : val_main_v25 (F := Ideal) (G g) (W wg) (W wu) (D2 dg) (D2 du) i
    = ((dz dg du wg wu (i 0).val (i 1).val * g (i 1).val : ℝ) : EReal) := by
  simp only [val_main_v25_apply, v20, val_main_v24_apply, val_main_v13_apply]
  pointwise [G]
  rw [← EReal.coe_mul]

theorem v44 : val_main_v44 (F := Ideal) (R2 x) (W wg) (W wu) (D2 dg) (D2 du) = fun i : S1x1024.Idx =>
    ((∑ n : Fin 4112, dGainAt x (dz dg du wg wu) n.val (i 1).val : ℝ) : EReal) := by
  funext i
  simp only [val_main_v44_apply, val_main_v26_apply, val_main_cst_4_apply, val_main_v23_apply, val_main_v22_apply, val_main_cst_3_apply,
    val_main_v21_apply, v20, val_main_v12_apply, val_main_v11_apply, v7]
  pointwise [R2]
  simp only [Finset.univ_unique, Finset.sum_singleton, ← EReal.coe_mul, coe_sum]
  rfl

theorem v35 (i : S4112x1.Idx) : val_main_v35 (F := Ideal) (R2 x) (G g) (W wg) (W wu) (D2 dg) (D2 du) i
    = ((rootBack x (dz dg du wg wu) g (i 0).val : ℝ) : EReal) := by
  simp only [val_main_v35_apply, val_main_v34_apply, val_main_cst_6_apply, val_main_v33_apply, v10, val_main_v29_apply, val_main_v28_apply,
    val_main_cst_5_apply, val_main_v27_apply, v25]
  pointwise [R2]
  rw [k_f32]
  simp only [← EReal.coe_mul, coe_sum]
  rw [div_coe_coe (by norm_num)]
  rfl

theorem v41 (i : S4112x1024.Idx) : val_main_v41 (F := Ideal) (R2 x) (G g) (W wg) (W wu) (D2 dg) (D2 du) (R2 d) i
    = ((dRes x g wg wu dg du d (i 0).val (i 1).val : ℝ) : EReal) := by
  simp only [val_main_v41_apply, val_main_v40_apply, val_main_v39_apply, val_main_v38_apply, val_main_v37_apply, val_main_v36_apply,
    val_main_cst_7_apply, val_main_v32_apply, val_main_v31_apply, val_main_v30_apply, v7, v25, v35]
  pointwise [R2]
  simp only [Finset.univ_unique, Finset.sum_singleton, ← EReal.coe_mul, ← EReal.coe_add]
  exact congrArg (fun s : ℝ => (s : EReal)) (dNorm_eq x (dz dg du wg wu) d g _ _)

theorem v42 : val_main_v42 (F := Ideal) (R2 x) (G g) (W wg) (W wu) (D2 dg) (D2 du) (R2 d) = fun i : S4224x1024.Idx =>
    ((nul (dRes x g wg wu dg du d) (i 0).val (i 1).val : ℝ) : EReal) := by
  funext i
  unfold val_main_v42
  pointwise
  idx_bounds
  exact nul_pad _ (by omega) (fun e => v41 x g wg wu dg du d _) (by unfold val_main_call0_v0; pointwise; rfl)

theorem v43 : val_main_v43 (F := Ideal) (R2 x) (G g) (W wg) (W wu) (D2 dg) (D2 du) (R2 d) = fun i : S4224x1024.Idx =>
    ((nul (dRes x g wg wu dg du d) (i 0).val (i 1).val : ℝ) : EReal) :=
  v42 x g wg wu dg du d

end Cert.FfnDzRefIdeal.Mine

end
-- ==== Proof.FfnDz.Claims.lean ====
/- The claims about the backward through the feed-forward's norm: under real arguments the three gradients of the kernel are
   those of the reference. -/
module

public import proofs.«01_k».proof.Defs
public import proofs.«01_k».proof.Proof.FfnDz.Ref
public import proofs.«01_k».proof.Proof.Gen.FfnDz.Frame
public import proofs.«01_k».proof.Proof.Gen.FfnDzIdeal.Value
public import proofs.«01_k».proof.Proof.Gen.FfnDzRefIdeal.Run
public import proofs.«01_k».proof.Proof.Gen.Pre_finite3

@[expose] public section

set_option maxRecDepth 16384

noncomputable section

namespace Cert.FfnDzClaims

open Idealize.ShloMosaic Idealize.ShloMosaic.TcCoe Idealize.SL.Sem
open Cert.FfnDzIdeal.Mine Cert.Reals
open Cert.FfnDzRefIdeal.Mine (v42 v43 v44)

theorem frame_p : Cert.quiescent_FfnDz := fun m ρ _ => Cert.FfnDz.Gen.frame m ρ

theorem frame_pi : Cert.quiescent_FfnDzIdeal := fun m ρ _ => Cert.FfnDzIdeal.Gen.frame m ρ

theorem frame_pi_pre : Cert.quiescent_FfnDzIdeal_pre_finite3 := fun m ρ _ => Cert.FfnDzIdeal.Gen.frame m ρ

theorem frame_ri : Cert.quiescent_FfnDzRefIdeal := fun m ρ _ =>
  (θ_run Cert.FfnDzRefIdeal.defs _ _).mono (fun r h => ⟨fun c => (h c).2.2.2, sem_eq_zero_of_no_sems (by decide) r.2⟩)
    (Cert.FfnDzRefIdeal.Value.run (F := Ideal) m ρ)

theorem frame_ri_pre : Cert.quiescent_FfnDzRefIdeal_pre_finite3 := fun m ρ _ => frame_ri m ρ trivial

theorem preserves : Cert.preserves_FfnDz_FfnDzIdeal := trivial

/-- Under the precondition the arguments are arrays of real numbers. -/
theorem args (m : (ℓ : Loc FfnDzIdeal.nD FfnDzIdeal.τ FfnDzIdeal.sig) → Buf (Elt Ideal) ℓ)
    (h : Pre_FfnDzIdeal_finite3 m) (c : Dev FfnDzIdeal.nD) : ∃ x g wg wu dg du d, Args m c x g wg wu dg du d := by
  obtain ⟨h0, h1, h2, h3, h4, h5, h6⟩ := h c
  obtain ⟨x, hx⟩ := exists_real h0
  obtain ⟨g, hg⟩ := exists_real h1
  obtain ⟨wg, hwg⟩ := exists_real h2
  obtain ⟨wu, hwu⟩ := exists_real h3
  obtain ⟨dg, hdg⟩ := exists_real h4
  obtain ⟨du, hdu⟩ := exists_real h5
  obtain ⟨d, hd⟩ := exists_real h6
  exact ⟨byCoords x, byCoord g, byCoords wg, byCoords wu, byCoords dg, byCoords du, byCoords d, hx.trans (byCoords_spec x),
    hg.trans (byCoord_spec g), hwg.trans (byCoords_spec wg), hwu.trans (byCoords_spec wu), hdg.trans (byCoords_spec dg),
    hdu.trans (byCoords_spec du), hd.trans (byCoords_spec d)⟩

theorem algebraic : Cert.algebraic_FfnDzIdeal_FfnDzRefIdeal_pre_finite3 := by
  intro m g m' g' hpre hargs
  refine ⟨fun c => (Cert.FfnDzIdeal.Gen.dats m 0 c).arrAt 7 Cert.FfnDzIdeal.cfg0.N,
    fun c => (Cert.FfnDzIdeal.Gen.dats m 0 c).arrAt 8 Cert.FfnDzIdeal.cfg0.N,
    fun c => (Cert.FfnDzIdeal.Gen.dats m 0 c).arrAt 9 Cert.FfnDzIdeal.cfg0.N,
    Cert.FfnDzIdeal.Value.run_blocks m g,
    (θ_run Cert.FfnDzRefIdeal.defs _ _).mono (fun r h c => ?_) (Cert.FfnDzRefIdeal.Value.run (F := Ideal) m' g')⟩
  obtain ⟨h42, h43, h44, hr⟩ := h c
  obtain ⟨x, gn, wg, wu, dg, du, d, A⟩ := args m hpre c
  obtain ⟨a0, a1, a2, a3, a4, a5, a6⟩ := hargs c
  have b0 := a0.trans A.x
  have b1 := a1.trans A.g
  have b2 := a2.trans A.wg
  have b3 := a3.trans A.wu
  have b4 := a4.trans A.dg
  have b5 := a5.trans A.du
  have b6 := a6.trans A.d
  refine ⟨?_, ?_, ?_, hr⟩
  · refine h42.trans ((Cert.FfnDzRefIdeal.Read.val_main_v42_eq ..).trans (Eq.trans ?_ (final7 A).symm))
    rw [b0, b1, b2, b3, b4, b5, b6]
    exact v42 x gn wg wu dg du d
  · refine h43.trans ((Cert.FfnDzRefIdeal.Read.val_main_v43_eq ..).trans (Eq.trans ?_ (final8 A).symm))
    rw [b0, b1, b2, b3, b4, b5, b6]
    exact v43 x gn wg wu dg du d
  · refine h44.trans ((Cert.FfnDzRefIdeal.Read.val_main_v44_eq ..).trans (Eq.trans ?_ (final9 A).symm))
    rw [b0, b2, b3, b4, b5]
    exact v44 x wg wu dg du

end Cert.FfnDzClaims

end
-- ==== Proof.MergeBwd.Strip.lean ====
/- The merge's backward: what the body computes from a strip of 256 columns of real numbers. -/
module

public import proofs.«01_k».proof.Proof.Gates
public import proofs.«01_k».proof.Proof.Padded
public import proofs.«01_k».proof.Proof.Gen.MergeBwdIdeal.Value

@[expose] public section

set_option maxRecDepth 16384

noncomputable section

namespace Cert.MergeBwdIdeal.Mine

open Idealize.ShloMosaic Idealize.ShloMosaic.TcCoe Idealize.SL.Sem
open Cert.MergeBwdIdeal Cert.MergeBwdIdeal.Gen Cert.Reals

/-- A block of rows, the weights, a bias; strips of 256 columns of them, with the weights' rows for columns. -/
def blk (a : ℕ → ℕ → ℝ) : Vec Ideal S528x1024 .bf16 := fun i => ((a (i 0).val (i 1).val : ℝ) : EReal)
def wts (a : ℕ → ℕ → ℝ) : Vec Ideal S1x1024x1024 .bf16 := fun i => ((a (i 1).val (i 2).val : ℝ) : EReal)
def bias (a : ℕ → ℝ) : Vec Ideal S1x1x1x1024 .f32 := fun i => ((a (i 3).val : ℝ) : EReal)
def row (a : ℕ → ℝ) : Vec Ideal S1x1024 .f32 := fun i => ((a (i 1).val : ℝ) : EReal)
def strip (q : ℕ) (a : ℕ → ℕ → ℝ) : Vec Ideal S528x256 .bf16 := fun i => ((a (i 0).val (256 * q + (i 1).val) : ℝ) : EReal)
def wide (q : ℕ) (a : ℕ → ℕ → ℝ) : FVec Ideal S528x256 .f32 := fun i => ((a (i 0).val (256 * q + (i 1).val) : ℝ) : EReal)
def wStrip (q : ℕ) (a : ℕ → ℕ → ℝ) : Vec Ideal S1x256x1024 .bf16 := fun i => ((a (256 * q + (i 1).val) (i 2).val : ℝ) : EReal)
def bStrip (q : ℕ) (a : ℕ → ℝ) : Vec Ideal S1x1x1x256 .f32 := fun i => ((a (256 * q + (i 3).val) : ℝ) : EReal)
def part (q : ℕ) (a : ℕ → ℝ) : FVec Ideal S1x256 .f32 := fun i => ((a (256 * q + (i 1).val) : ℝ) : EReal)

/-- The cotangent of the merged rows, a gate, and the gradients of what it gates and of the gate. -/
def cot (d w : ℕ → ℕ → ℝ) (n p : ℕ) : ℝ := ∑ l : Fin 1024, d n l.val * w p l.val
def gate (g : ℕ → ℕ → ℝ) (b : ℕ → ℝ) (n p : ℕ) : ℝ := sg (g n p + b p)
def dOut (d w g : ℕ → ℕ → ℝ) (b : ℕ → ℝ) (n p : ℕ) : ℝ := cot d w n p * gate g b n p
def dGate (d w g a : ℕ → ℕ → ℝ) (b : ℕ → ℝ) (n p : ℕ) : ℝ := cot d w n p * a n p * gate g b n p * (1 - gate g b n p)

variable (d w g a : ℕ → ℕ → ℝ) (b s : ℕ → ℝ) (q : ℕ)

theorem cot_strip : k0_pay8 (F := Ideal) (wStrip q w) (blk d) = wide q (cot d w) := by
  funext i
  pointwise [k0_pay8, wStrip, blk]
  exact sum_mul_coe (fun l => rfl) fun l => rfl

theorem gate_strip : k0_pay11 (F := Ideal) (strip q g) (bStrip q b) = wide q (gate g b) := by
  funext i
  pointwise [k0_pay11, strip, bStrip]
  rw [half_f32]
  simp only [← EReal.coe_mul, ← EReal.coe_add, tanh_coe, half_tanh]
  rfl

theorem out_strip : k0_pay19 (F := Ideal) (wide q (cot d w)) (wide q (gate g b)) = strip q (dOut d w g b) := by
  funext i
  pointwise [k0_pay19, wide]
  rw [← EReal.coe_mul]
  rfl

theorem dgate_wide : k0_pay15 (F := Ideal) (wide q (cot d w)) (strip q a) (wide q (gate g b)) = wide q (dGate d w g a b) := by
  funext i
  pointwise [k0_pay15, wide, strip]
  simp only [← EReal.coe_one, ← EReal.coe_mul, ← EReal.coe_sub]
  rfl

theorem dgate_strip : k0_pay21 (F := Ideal) (wide q (cot d w)) (strip q a) (wide q (gate g b)) = strip q (dGate d w g a b) := by
  funext i
  pointwise [k0_pay21]
  rw [dgate_wide]
  rfl

theorem sum_strip : k0_pay17 (F := Ideal) (wide q (cot d w)) (strip q a) (wide q (gate g b))
    = part q fun p => ∑ n : Fin 528, dGate d w g a b n.val p := by
  funext i
  pointwise [k0_pay17]
  rw [dgate_wide]
  simp only [wide, coe_sum]
  rfl

theorem add_strip (t : ℕ → ℝ) : k0_pay23 (F := Ideal) (part q s) (part q t) = part q fun p => t p + s p := by
  funext i
  pointwise [k0_pay23, part]
  rw [← EReal.coe_add]

theorem keep : k0_pay9 (F := Ideal) (strip q a) = strip q a := by
  funext i
  pointwise [k0_pay9]

theorem ld_w (p q : ℕ) (hp : p = 256 * q) (inb) :
    View.ld (Val := Elt Ideal) (e' := .bf16) (wts w) (Rect.unit (s := S1x1024x1024) ![0, p, 0] S1x256x1024.size inb) = wStrip q w := by
  funext x
  refine congrArg₂ (fun m n => ((w m n : ℝ) : EReal)) ?_ ?_
  · rw [Rect.idx_unit_val, ← hp]; rfl
  · rw [Rect.idx_unit_val]; exact Nat.zero_add _

theorem ld_s (p q : ℕ) (hp : p = 256 * q) (inb) :
    View.ld (Val := Elt Ideal) (e' := .bf16) (blk g) (Rect.unit (s := S528x1024) ![0, p] S528x256.size inb) = strip q g := by
  funext x
  refine congrArg₂ (fun m n => ((g m n : ℝ) : EReal)) ?_ ?_
  · rw [Rect.idx_unit_val]; exact Nat.zero_add _
  · rw [Rect.idx_unit_val, ← hp]; rfl

theorem ld_b (p q : ℕ) (hp : p = 256 * q) (inb) :
    View.ld (Val := Elt Ideal) (e' := .f32) (bias b) (Rect.unit (s := S1x1x1x1024) ![0, 0, 0, p] S1x1x1x256.size inb) = bStrip q b := by
  funext x
  refine congrArg (fun n => ((b n : ℝ) : EReal)) ?_
  rw [Rect.idx_unit_val, ← hp]; rfl

theorem ld_r (p q : ℕ) (hp : p = 256 * q) (inb) :
    View.ld (Val := Elt Ideal) (e' := .f32) (row b) (Rect.unit (s := S1x1024) ![0, p] S1x256.size inb) = part q b := by
  funext x
  refine congrArg (fun n => ((b n : ℝ) : EReal)) ?_
  rw [Rect.idx_unit_val, ← hp]; rfl

theorem strip_at {q : ℕ} {i : S528x256.Idx} {n p : ℕ} (hn : n = (i 0).val) (hp : p = 256 * q + (i 1).val) :
    strip q g i = ((g n p : ℝ) : EReal) := by
  rw [hn, hp]; rfl

theorem part_at {q : ℕ} {i : S1x256.Idx} {p : ℕ} (hp : p = 256 * q + (i 1).val) : part q b i = ((b p : ℝ) : EReal) := by
  rw [hp]; rfl

/-- Four strips side by side. -/
theorem four (T0 T1 T2 T3 : Vec Ideal S528x256 .bf16) (e0 : T0 = strip 0 g) (e1 : T1 = strip 1 g) (e2 : T2 = strip 2 g) (e3 : T3 = strip 3 g)
    (y : S528x1024.Idx) :
    View.canon ([⟨Rect.unit (s := S528x1024) ![0, 768] S528x256.size inb_S528x1024_S528x256_0_768, T3⟩,
      ⟨Rect.unit (s := S528x1024) ![0, 512] S528x256.size inb_S528x1024_S528x256_0_512, T2⟩,
      ⟨Rect.unit (s := S528x1024) ![0, 256] S528x256.size inb_S528x1024_S528x256_0_256, T1⟩,
      ⟨Rect.unit (s := S528x1024) ![0, 0] S528x256.size inb_S528x1024_S528x256_0_0, T0⟩] : List (View.Piece (Elt Ideal) S528x1024 .bf16)) y
      = ((g (y 0).val (y 1).val : ℝ) : EReal) := by
  subst e0 e1 e2 e3
  canon_tiles x h
  · exact strip_at _ h0 h1
  · exact strip_at _ h0 h1
  · exact strip_at _ h0 h1
  · exact strip_at _ h0 (h1.trans (Nat.zero_add _).symm)

theorem fourRow (T0 T1 T2 T3 : Vec Ideal S1x256 .f32) (e0 : T0 = part 0 b) (e1 : T1 = part 1 b) (e2 : T2 = part 2 b) (e3 : T3 = part 3 b)
    (y : S1x1024.Idx) :
    View.canon ([⟨Rect.unit (s := S1x1024) ![0, 768] S1x256.size inb_S1x1024_S1x256_0_768, T3⟩,
      ⟨Rect.unit (s := S1x1024) ![0, 512] S1x256.size inb_S1x1024_S1x256_0_512, T2⟩,
      ⟨Rect.unit (s := S1x1024) ![0, 256] S1x256.size inb_S1x1024_S1x256_0_256, T1⟩,
      ⟨Rect.unit (s := S1x1024) ![0, 0] S1x256.size inb_S1x1024_S1x256_0_0, T0⟩] : List (View.Piece (Elt Ideal) S1x1024 .f32)) y
      = ((b (y 1).val : ℝ) : EReal) := by
  subst e0 e1 e2 e3
  canon_tiles x h
  · exact part_at _ h1
  · exact part_at _ h1
  · exact part_at _ h1
  · exact part_at _ (h1.trans (Nat.zero_add _).symm)

end Cert.MergeBwdIdeal.Mine

end
-- ==== Proof.MergeBwd.Point.lean ====
/- What a point of the merge's backward leaves, from blocks of real numbers. -/
module

public import proofs.«01_k».proof.Proof.MergeBwd.Strip

@[expose] public section

set_option maxRecDepth 16384

noncomputable section

namespace Cert.MergeBwdIdeal.Mine

open Idealize.ShloMosaic Idealize.ShloMosaic.TcCoe Idealize.SL.Sem
open Idealize.ShloMosaic.Pipeline (Dat)
open Cert.MergeBwdIdeal Cert.MergeBwdIdeal.Gen Cert.Reals

section pieces

variable (d w g a : ℕ → ℕ → ℝ) (b s : ℕ → ℝ) (p q : ℕ) (hp : p = 256 * q)

/-- The cotangent and a gate, as a strip's loads give them. -/
abbrev cotL (i1) := k0_pay8 (F := Ideal) (View.ld (Val := Elt Ideal) (e' := .bf16) (wts w) (Rect.unit (s := S1x1024x1024) ![0, p, 0] S1x256x1024.size i1))
  (blk d)

abbrev gateL (i1 i2) := k0_pay11 (F := Ideal) (View.ld (Val := Elt Ideal) (e' := .bf16) (blk g) (Rect.unit (s := S528x1024) ![0, p] S528x256.size i1))
  (View.ld (Val := Elt Ideal) (e' := .f32) (bias b) (Rect.unit (s := S1x1x1x1024) ![0, 0, 0, p] S1x1x1x256.size i2))

abbrev heldL (i1) := k0_pay9 (F := Ideal) (View.ld (Val := Elt Ideal) (e' := .bf16) (blk a) (Rect.unit (s := S528x1024) ![0, p] S528x256.size i1))

abbrev rowL (i1) := View.ld (Val := Elt Ideal) (e' := .f32) (row s) (Rect.unit (s := S1x1024) ![0, p] S1x256.size i1)

include hp

theorem cotL_eq (i1) : cotL d w p i1 = wide q (cot d w) := by
  rw [cotL, ld_w w p q hp, cot_strip]

theorem gateL_eq (i1 i2) : gateL g b p i1 i2 = wide q (gate g b) := by
  rw [gateL, ld_s g p q hp, ld_b b p q hp, gate_strip]

theorem heldL_eq (i1) : heldL a p i1 = strip q a := by
  rw [heldL, ld_s a p q hp, keep]

theorem out_piece (i1 i3 i4) : k0_pay19 (cotL d w p i1) (gateL g b p i3 i4) = strip q (dOut d w g b) := by
  rw [cotL_eq d w p q hp, gateL_eq g b p q hp, out_strip]

theorem dgate_piece (i1 i3 i4 i5) : k0_pay21 (cotL d w p i1) (heldL a p i5) (gateL g b p i3 i4) = strip q (dGate d w g a b) := by
  rw [cotL_eq d w p q hp, gateL_eq g b p q hp, heldL_eq a p q hp, dgate_strip]

theorem sum_piece (i1 i3 i4 i5) : k0_pay17 (cotL d w p i1) (heldL a p i5) (gateL g b p i3 i4)
    = part q fun p => ∑ n : Fin 528, dGate d w g a b n.val p := by
  rw [cotL_eq d w p q hp, gateL_eq g b p q hp, heldL_eq a p q hp, sum_strip]

theorem add_piece (i1 i3 i4 i5 i6) : k0_pay23 (k0_pay17 (cotL d w p i1) (heldL a p i5) (gateL g b p i3 i4)) (rowL s p i6)
    = part q fun p => s p + ∑ n : Fin 528, dGate d w g a b n.val p := by
  rw [sum_piece d w g a b p q hp, rowL, ld_r s p q hp, add_strip]

end pieces

variable {m : (ℓ : Loc nD τ sig) → Buf (Elt Ideal) ℓ} {c : Dev nD} {t : Fin cfg0.N}

/-- What the point reads. -/
structure Reads (m : (ℓ : Loc nD τ sig) → Buf (Elt Ideal) ℓ) (c : Dev nD) (t : Fin cfg0.N) (d w ga gb pa pb : ℕ → ℕ → ℝ) (ba bb : ℕ → ℝ) : Prop where
  d : iblk m c 0 t = blk d
  w : iblk m c 1 t = wts w
  ga : X0_2 m c t = blk ga
  gb : X0_3 m c t = blk gb
  pa : iblk m c 4 t = blk pa
  pb : iblk m c 5 t = blk pb
  ba : iblk m c 6 t = bias ba
  bb : iblk m c 7 t = bias bb

variable {d w ga gb pa pb : ℕ → ℕ → ℝ} {ba bb : ℕ → ℝ} (R : Reads m c t d w ga gb pa pb ba bb)

include R in
theorem outA_at (y : S528x1024.Idx) : (outsAt0 m c t.val t.isLt).1 y = ((dOut d w ga ba (y 0).val (y 1).val : ℝ) : EReal) := by
  have hN : t.val < 8 := t.isLt
  by_cases h : 1 ≤ t.val
  on_goal 1 => rw [outsAt0_B m c t (by omega) h (by omega) h (by omega) h (by omega) h (by omega) h (by omega) h (by omega) h (by omega) h]
  on_goal 2 => rw [outsAt0_A m c t (by omega) h (by omega) h (by omega) h (by omega) h (by omega) h (by omega) h (by omega) h (by omega) h]
  all_goals
    frame_out
    rw [R.d, R.w, R.ga, R.ba]
    exact four _ _ _ _ _ (out_piece d w ga ba 0 0 rfl _ _ _) (out_piece d w ga ba 256 1 rfl _ _ _) (out_piece d w ga ba 512 2 rfl _ _ _)
      (out_piece d w ga ba 768 3 rfl _ _ _) y

include R in
theorem outB_at (y : S528x1024.Idx) : (outsAt0 m c t.val t.isLt).2.1 y = ((dOut d w gb bb (y 0).val (y 1).val : ℝ) : EReal) := by
  have hN : t.val < 8 := t.isLt
  by_cases h : 1 ≤ t.val
  on_goal 1 => rw [outsAt0_B m c t (by omega) h (by omega) h (by omega) h (by omega) h (by omega) h (by omega) h (by omega) h (by omega) h]
  on_goal 2 => rw [outsAt0_A m c t (by omega) h (by omega) h (by omega) h (by omega) h (by omega) h (by omega) h (by omega) h (by omega) h]
  all_goals
    frame_out
    rw [R.d, R.w, R.gb, R.bb]
    exact four _ _ _ _ _ (out_piece d w gb bb 0 0 rfl _ _ _) (out_piece d w gb bb 256 1 rfl _ _ _) (out_piece d w gb bb 512 2 rfl _ _ _)
      (out_piece d w gb bb 768 3 rfl _ _ _) y

include R in
theorem gateA_at (y : S528x1024.Idx) : (outsAt0 m c t.val t.isLt).2.2.1 y = ((dGate d w ga pa ba (y 0).val (y 1).val : ℝ) : EReal) := by
  have hN : t.val < 8 := t.isLt
  by_cases h : 1 ≤ t.val
  on_goal 1 => rw [outsAt0_B m c t (by omega) h (by omega) h (by omega) h (by omega) h (by omega) h (by omega) h (by omega) h (by omega) h]
  on_goal 2 => rw [outsAt0_A m c t (by omega) h (by omega) h (by omega) h (by omega) h (by omega) h (by omega) h (by omega) h (by omega) h]
  all_goals
    frame_out
    rw [R.d, R.w, R.ga, R.ba, R.pa]
    exact four _ _ _ _ _ (dgate_piece d w ga pa ba 0 0 rfl _ _ _ _) (dgate_piece d w ga pa ba 256 1 rfl _ _ _ _)
      (dgate_piece d w ga pa ba 512 2 rfl _ _ _ _) (dgate_piece d w ga pa ba 768 3 rfl _ _ _ _) y

include R in
theorem gateB_at (y : S528x1024.Idx) : (outsAt0 m c t.val t.isLt).2.2.2.1 y = ((dGate d w gb pb bb (y 0).val (y 1).val : ℝ) : EReal) := by
  have hN : t.val < 8 := t.isLt
  by_cases h : 1 ≤ t.val
  on_goal 1 => rw [outsAt0_B m c t (by omega) h (by omega) h (by omega) h (by omega) h (by omega) h (by omega) h (by omega) h (by omega) h]
  on_goal 2 => rw [outsAt0_A m c t (by omega) h (by omega) h (by omega) h (by omega) h (by omega) h (by omega) h (by omega) h (by omega) h]
  all_goals
    frame_out
    rw [R.d, R.w, R.gb, R.bb, R.pb]
    exact four _ _ _ _ _ (dgate_piece d w gb pb bb 0 0 rfl _ _ _ _) (dgate_piece d w gb pb bb 256 1 rfl _ _ _ _)
      (dgate_piece d w gb pb bb 512 2 rfl _ _ _ _) (dgate_piece d w gb pb bb 768 3 rfl _ _ _ _) y

include R in
theorem biasA_at0 (h : ¬ 1 ≤ t.val) : (outsAt0 m c t.val t.isLt).2.2.2.2.1 = row fun p => ∑ n : Fin 528, dGate d w ga pa ba n.val p := by
  have hN : t.val < 8 := t.isLt
  funext y
  rw [outsAt0_A m c t (by omega) h (by omega) h (by omega) h (by omega) h (by omega) h (by omega) h (by omega) h (by omega) h]
  frame_out
  rw [R.d, R.w, R.ga, R.ba, R.pa]
  exact fourRow _ _ _ _ _ (sum_piece d w ga pa ba 0 0 rfl _ _ _ _) (sum_piece d w ga pa ba 256 1 rfl _ _ _ _)
    (sum_piece d w ga pa ba 512 2 rfl _ _ _ _) (sum_piece d w ga pa ba 768 3 rfl _ _ _ _) y

include R in
theorem biasB_at0 (h : ¬ 1 ≤ t.val) : (outsAt0 m c t.val t.isLt).2.2.2.2.2 = row fun p => ∑ n : Fin 528, dGate d w gb pb bb n.val p := by
  have hN : t.val < 8 := t.isLt
  funext y
  rw [outsAt0_A m c t (by omega) h (by omega) h (by omega) h (by omega) h (by omega) h (by omega) h (by omega) h (by omega) h]
  frame_out
  rw [R.d, R.w, R.gb, R.bb, R.pb]
  exact fourRow _ _ _ _ _ (sum_piece d w gb pb bb 0 0 rfl _ _ _ _) (sum_piece d w gb pb bb 256 1 rfl _ _ _ _)
    (sum_piece d w gb pb bb 512 2 rfl _ _ _ _) (sum_piece d w gb pb bb 768 3 rfl _ _ _ _) y

include R in
theorem biasA_at1 (h : 1 ≤ t.val) (s : ℕ → ℝ) (hs : (outsAt0 m c (t.val - 1) (Nat.lt_of_le_of_lt (Nat.sub_le _ _) t.isLt)).2.2.2.2.1 = row s) :
    (outsAt0 m c t.val t.isLt).2.2.2.2.1 = row fun p => s p + ∑ n : Fin 528, dGate d w ga pa ba n.val p := by
  have hN : t.val < 8 := t.isLt
  funext y
  rw [outsAt0_B m c t (by omega) h (by omega) h (by omega) h (by omega) h (by omega) h (by omega) h (by omega) h (by omega) h]
  frame_out
  rw [R.d, R.w, R.ga, R.ba, R.pa, hs]
  exact fourRow _ _ _ _ _ (add_piece d w ga pa ba s 0 0 rfl _ _ _ _ _) (add_piece d w ga pa ba s 256 1 rfl _ _ _ _ _)
    (add_piece d w ga pa ba s 512 2 rfl _ _ _ _ _) (add_piece d w ga pa ba s 768 3 rfl _ _ _ _ _) y

include R in
theorem biasB_at1 (h : 1 ≤ t.val) (s : ℕ → ℝ) (hs : (outsAt0 m c (t.val - 1) (Nat.lt_of_le_of_lt (Nat.sub_le _ _) t.isLt)).2.2.2.2.2 = row s) :
    (outsAt0 m c t.val t.isLt).2.2.2.2.2 = row fun p => s p + ∑ n : Fin 528, dGate d w gb pb bb n.val p := by
  have hN : t.val < 8 := t.isLt
  funext y
  rw [outsAt0_B m c t (by omega) h (by omega) h (by omega) h (by omega) h (by omega) h (by omega) h (by omega) h (by omega) h]
  frame_out
  rw [R.d, R.w, R.gb, R.bb, R.pb, hs]
  exact fourRow _ _ _ _ _ (add_piece d w gb pb bb s 0 0 rfl _ _ _ _ _) (add_piece d w gb pb bb s 256 1 rfl _ _ _ _ _)
    (add_piece d w gb pb bb s 512 2 rfl _ _ _ _ _) (add_piece d w gb pb bb s 768 3 rfl _ _ _ _ _) y

end Cert.MergeBwdIdeal.Mine

end
-- ==== Proof.MergeBwd.Blocks.lean ====
/- The arrays of the merge's backward: each block of rows it reads, and what the points leave in each result. -/
module

public import proofs.«01_k».proof.Proof.MergeBwd.Point

@[expose] public section

set_option maxRecDepth 16384

noncomputable section

namespace Cert.MergeBwdIdeal.Mine

open Idealize.ShloMosaic Idealize.ShloMosaic.TcCoe Idealize.SL.Sem
open Idealize.ShloMosaic.Pipeline (Dat)
open Cert.MergeBwdIdeal Cert.MergeBwdIdeal.Gen Cert.Reals

variable (m : (ℓ : Loc nD τ sig) → Buf (Elt Ideal) ℓ)

/-- The arguments are real arrays: the gradient `d`, the two branches' outputs `a` and `b`, the packed projection `h`, the
    branches' weights `wa` and `wb`, the biases `bm` of the gates, the output's weights `w`. -/
structure Args (c : Dev nD) (d a b h wa wb bm w : ℕ → ℕ → ℝ) : Prop where
  d : m ((c.tc : Thread nD τ).loc main_arg0) = fun i : S4112x1024.Idx => ((d (i 0).val (i 1).val : ℝ) : EReal)
  a : m ((c.tc : Thread nD τ).loc main_arg1) = fun i : S4112x512.Idx => ((a (i 0).val (i 1).val : ℝ) : EReal)
  b : m ((c.tc : Thread nD τ).loc main_arg2) = fun i : S4112x512.Idx => ((b (i 0).val (i 1).val : ℝ) : EReal)
  h : m ((c.tc : Thread nD τ).loc main_arg3) = fun i : S4112x4384.Idx => ((h (i 0).val (i 1).val : ℝ) : EReal)
  wa : m ((c.tc : Thread nD τ).loc main_arg4) = fun i : S512x1024.Idx => ((wa (i 0).val (i 1).val : ℝ) : EReal)
  wb : m ((c.tc : Thread nD τ).loc main_arg5) = fun i : S512x1024.Idx => ((wb (i 0).val (i 1).val : ℝ) : EReal)
  bm : m ((c.tc : Thread nD τ).loc main_arg6) = fun i : S2x1024.Idx => ((bm (i 0).val (i 1).val : ℝ) : EReal)
  w : m ((c.tc : Thread nD τ).loc main_arg7) = fun i : S1024x1024.Idx => ((w (i 0).val (i 1).val : ℝ) : EReal)

variable {m}
variable {c : Dev nD} {d a b h wa wb bm w : ℕ → ℕ → ℝ} (A : Args m c d a b h wa wb bm w)

/-- The product of a branch's rows and its weights. -/
def times (a w : ℕ → ℕ → ℝ) (n p : ℕ) : ℝ := ∑ l : Fin 512, a n l.val * w l.val p

theorem idx : ∀ t : Fin cfg0.N, win0_0.index t = ![t.val, 0] ∧ win0_1.index t = ![0, 0, 0] ∧ win0_2.index t = ![t.val, 1]
    ∧ win0_3.index t = ![t.val, 2] ∧ win0_4.index t = ![t.val, 0] ∧ win0_5.index t = ![t.val, 0] ∧ win0_6.index t = ![0, 0, 0, 0]
    ∧ win0_7.index t = ![0, 1, 0, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

theorem V_ops (b : Ref sig .tc) : V m c b = StableHlo.after (hostOps0 ++ hostOps0_1 ++ hostOps0_2 ++ hostOps0_3 ++ hostOps0_4 ++ hostOps0_5
    ++ hostOps0_6 ++ hostOps0_7 ++ hostOps0_8 ++ hostOps0_9 ++ hostOps0_10 ++ hostOps0_11 ++ hostOps0_12 ++ hostOps0_13 ++ hostOps0_14)
    (fun b => m (c, b)) (Proc.devRef .tc b) := rfl

include A in
theorem V_d : V m c main_v48 = fun i : S4224x1024.Idx => ((nul d (i 0).val (i 1).val : ℝ) : EReal) := by
  funext i
  rw [V_ops]
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.cons_append, List.nil_append]
  entry_read
  pointwise
  exact nul_layout d fun e => congrFun A.d _

include A in
theorem V_pa : V m c main_v41 = fun i : S4224x1024.Idx => ((nul (times a wa) (i 0).val (i 1).val : ℝ) : EReal) := by
  funext i
  rw [V_ops]
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.cons_append, List.nil_append]
  entry_read
  pointwise
  exact nul_layout (times a wa) fun e => sum_mul_coe (fun l => congrFun A.a _) fun l => congrFun A.wa _

include A in
theorem V_pb : V m c main_v45 = fun i : S4224x1024.Idx => ((nul (times b wb) (i 0).val (i 1).val : ℝ) : EReal) := by
  funext i
  rw [V_ops]
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.cons_append, List.nil_append]
  entry_read
  pointwise
  exact nul_layout (times b wb) fun e => sum_mul_coe (fun l => congrFun A.b _) fun l => congrFun A.wb _

include A in
theorem V_w : V m c main_v50 = wts w := by
  funext i
  rw [V_ops]
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.cons_append, List.nil_append]
  entry_read
  pointwise
  exact congrFun A.w _

include A in
theorem V_bm : V m c main_v51 = fun i : S1x2x1x1024.Idx => ((bm (i 1).val (i 3).val : ℝ) : EReal) := by
  funext i
  rw [V_ops]
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.cons_append, List.nil_append]
  entry_read
  pointwise
  exact congrFun A.bm _

/-- What the last stretch of host lines starts from. -/
def before (m : (ℓ : Loc nD τ sig) → Buf (Elt Ideal) ℓ) (c : Dev nD) :=
  StableHlo.after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12 ++ hostOps0_13) (fun b => m (c, b))

include A in
/-- The two gates before the parts are put together. -/
theorem before_ga (r : Fin 1024) (s : Fin 4112) : before m c (Proc.devRef .tc main_v10) (ix2 r s) = ((h s.val (2336 + r.val) : ℝ) : EReal) := by
  rw [before]
  simp only [hostOps0, hostOps0_1, hostOps0_2, hostOps0_3, hostOps0_4, hostOps0_5, hostOps0_6, hostOps0_7, hostOps0_8, hostOps0_9, hostOps0_10,
    hostOps0_11, hostOps0_12, hostOps0_13, List.cons_append, List.nil_append]
  entry_read
  pointwise
  exact congrFun A.h _

include A in
theorem before_gb (r : Fin 1024) (s : Fin 4112) : before m c (Proc.devRef .tc main_v11) (ix2 r s) = ((h s.val (3360 + r.val) : ℝ) : EReal) := by
  rw [before]
  simp only [hostOps0, hostOps0_1, hostOps0_2, hostOps0_3, hostOps0_4, hostOps0_5, hostOps0_6, hostOps0_7, hostOps0_8, hostOps0_9, hostOps0_10,
    hostOps0_11, hostOps0_12, hostOps0_13, List.cons_append, List.nil_append]
  entry_read
  pointwise
  exact congrFun A.h _

theorem V_before (b : Ref sig .tc) : V m c b = StableHlo.after hostOps0_14 (before m c) (Proc.devRef .tc b) :=
  (V_ops b).trans (congrFun (StableHlo.after_append _ _ _) _)

/-- The parts under one another. -/
def stackOf (u0 u1 u2 : FVec Ideal S1024x4112 .f32) (u3 u4 u5 u6 : FVec Ideal S512x4112 .f32) (u7 u8 : FVec Ideal S256x4112 .f32)
    (u9 u10 : FVec Ideal S128x4112 .f32) : FVec Ideal S5888x4112 .f32 :=
  concatenate S5888x4112 0 [⟨S1024x4112, u0⟩, ⟨S1024x4112, u1⟩, ⟨S1024x4112, u2⟩, ⟨S512x4112, u3⟩, ⟨S512x4112, u4⟩, ⟨S512x4112, u5⟩,
    ⟨S512x4112, u6⟩, ⟨S256x4112, u7⟩, ⟨S256x4112, u8⟩, ⟨S128x4112, u9⟩, ⟨S128x4112, u10⟩]
    concatenates_S1024x4112_S1024x4112_S1024x4112_S512x4112_S512x4112_S512x4112_S512x4112_S256x4112_S256x4112_S128x4112_S128x4112_S5888x4112_d0

theorem stackOf_ga (u0 u1 u2 u3 u4 u5 u6 u7 u8 u9 u10) (p : Fin 5888) (s : Fin 4112) (h0 : 1024 ≤ p.val) (h1 : p.val < 2048) :
    stackOf u0 u1 u2 u3 u4 u5 u6 u7 u8 u9 u10 (ix2 p s) = u1 (ix2 ⟨p.val - 1024, by omega⟩ s) := by
  pointwise [stackOf]
  rw [dif_neg (by omega), dif_pos (by omega)]

theorem stackOf_gb (u0 u1 u2 u3 u4 u5 u6 u7 u8 u9 u10) (p : Fin 5888) (s : Fin 4112) (h0 : 2048 ≤ p.val) (h1 : p.val < 3072) :
    stackOf u0 u1 u2 u3 u4 u5 u6 u7 u8 u9 u10 (ix2 p s) = u2 (ix2 ⟨p.val - 2048, by omega⟩ s) := by
  pointwise [stackOf]
  rw [dif_neg (by omega), dif_neg (by omega), dif_pos (by omega)]
  exact congrArg (fun q : Fin 1024 => u2 (ix2 q s)) (Fin.ext (by show p.val - 1024 - 1024 = p.val - 2048; omega))

/-- The stack, as the last stretch makes it. -/
theorem stack (σ : Valuation τ sig (Elt Ideal)) : ∃ σ', StableHlo.after (hostOps0_14 (F := Ideal)) σ = StableHlo.after (hostOps0_14.drop 2) σ'
    ∧ ∃ u0 u1 u2 u3 u4 u5 u6 u7 u8 u9 u10, σ' (Proc.devRef .tc main_v33) = stackOf u0 u1 u2 u3 u4 u5 u6 u7 u8 u9 u10
      ∧ u1 = σ (Proc.devRef .tc main_v10) ∧ u2 = σ (Proc.devRef .tc main_v11) := by
  refine ⟨StableHlo.after (hostOps0_14.take 2) σ, ?_, ?_⟩
  · rw [← StableHlo.after_append, List.take_append_drop]
  · simp only [hostOps0_14, List.take, StableHlo.after_cons, StableHlo.after_nil]
    rw [StableHlo.nary_result]
    refine ⟨_, _, _, _, _, _, _, _, _, _, _, rfl, ?_, ?_⟩
    · exact StableHlo.reshape_result_ne (y := main_v32) (r := main_v10) (h := by decide) ..
    · exact StableHlo.reshape_result_ne (y := main_v32) (r := main_v11) (h := by decide) ..

/-- The stack turned, padded with rows in front and cast. -/
theorem turned (σ : Valuation τ sig (Elt Ideal)) {u0 u1 u2 u3 u4 u5 u6 u7 u8 u9 u10}
    (hu : σ (Proc.devRef .tc main_v33) = stackOf u0 u1 u2 u3 u4 u5 u6 u7 u8 u9 u10) (g : ℕ → ℕ → ℝ) (i : S4224x5888.Idx)
    (hg : ∀ s : Fin 4112, stackOf u0 u1 u2 u3 u4 u5 u6 u7 u8 u9 u10 (ix2 (i 1) s) = ((g s.val (i 1).val : ℝ) : EReal)) :
    StableHlo.after (hostOps0_14.drop 2) σ (Proc.devRef .tc main_v37) i = ((nul g (i 0).val (i 1).val : ℝ) : EReal) := by
  simp only [hostOps0_14, List.drop]
  entry_read
  pointwise
  refine nul_layout g fun e => ?_
  rw [hu]
  exact hg _

include A in
/-- The gates among the packed columns. -/
theorem V_ga (i : S4224x5888.Idx) (h0 : 1024 ≤ (i 1).val) (h1 : (i 1).val < 2048) :
    V m c main_v37 i = ((nul (fun n p => h n (1312 + p)) (i 0).val (i 1).val : ℝ) : EReal) := by
  obtain ⟨σ', e, _, _, _, _, _, _, _, _, _, _, _, hu, e1, e2⟩ := stack (before m c)
  rw [V_before, e]
  refine turned σ' hu _ i fun s => (stackOf_ga _ _ _ _ _ _ _ _ _ _ _ _ s h0 h1).trans ((congrFun e1 _).trans ((before_ga A _ s).trans ?_))
  exact congrArg (fun p => ((h s.val p : ℝ) : EReal)) (by show 2336 + ((i 1).val - 1024) = _; omega)

include A in
theorem V_gb (i : S4224x5888.Idx) (h0 : 2048 ≤ (i 1).val) (h1 : (i 1).val < 3072) :
    V m c main_v37 i = ((nul (fun n p => h n (1312 + p)) (i 0).val (i 1).val : ℝ) : EReal) := by
  obtain ⟨σ', e, _, _, _, _, _, _, _, _, _, _, _, hu, e1, e2⟩ := stack (before m c)
  rw [V_before, e]
  refine turned σ' hu _ i fun s => (stackOf_gb _ _ _ _ _ _ _ _ _ _ _ _ s h0 h1).trans ((congrFun e2 _).trans ((before_gb A _ s).trans ?_))
  exact congrArg (fun p => ((h s.val p : ℝ) : EReal)) (by show 3360 + ((i 1).val - 2048) = _; omega)

/-- The two gates' columns of the projection. -/
def colsA (h : ℕ → ℕ → ℝ) (n p : ℕ) : ℝ := h n (2336 + p)
def colsB (h : ℕ → ℕ → ℝ) (n p : ℕ) : ℝ := h n (3360 + p)

set_option maxHeartbeats 4000000 in
include A in
theorem reads (t : Fin cfg0.N) : Reads m c t (fun n p => nul d (528 * t.val + n) p) w (fun n p => nul (colsA h) (528 * t.val + n) p)
    (fun n p => nul (colsB h) (528 * t.val + n) p) (fun n p => nul (times a wa) (528 * t.val + n) p)
    (fun n p => nul (times b wb) (528 * t.val + n) p) (bm 0) (bm 1) := by
  constructor
  · funext y
    blk_simp [iblk]
    rw [V_d A]
    blk_simp [blk, idx t]
    exact congrArg₂ (fun m n => ((nul d m n : ℝ) : EReal)) (by rw [mul_comm]) rfl
  · funext y
    blk_simp [iblk]
    rw [V_w A]
    blk_simp [wts, idx t]
  · funext y
    rw [show X0_2 m c t y = _ from dif_pos (moved0_2 t y)]
    blk_simp [iblk]
    have h0 : (y 0).val < 528 := (y 0).isLt
    have h1 : (y 1).val < 1024 := (y 1).isLt
    refine (V_ga A _ (by blk_simp [idx t]; omega) (by blk_simp [idx t]; exact Nat.add_lt_add_left h1 _)).trans ?_
    refine congrArg (fun s : ℝ => (s : EReal)) ?_
    have e1 : 1312 + (1 * 1024 + (y 1).val) = 2336 + (y 1).val := by omega
    blk_simp [idx t]
    show nul _ (t.val * 528 + (y 0).val) (1 * 1024 + (y 1).val) = nul _ _ _
    rw [mul_comm t.val, nul, nul, e1, colsA]
  · funext y
    rw [show X0_3 m c t y = _ from dif_pos (moved0_3 t y)]
    blk_simp [iblk]
    have h0 : (y 0).val < 528 := (y 0).isLt
    have h1 : (y 1).val < 1024 := (y 1).isLt
    refine (V_gb A _ (by blk_simp [idx t]; omega) (by blk_simp [idx t]; exact Nat.add_lt_add_left h1 _)).trans ?_
    refine congrArg (fun s : ℝ => (s : EReal)) ?_
    have e1 : 1312 + (2 * 1024 + (y 1).val) = 3360 + (y 1).val := by omega
    blk_simp [idx t]
    show nul _ (t.val * 528 + (y 0).val) (2 * 1024 + (y 1).val) = nul _ _ _
    rw [mul_comm t.val, nul, nul, e1, colsB]
  · funext y
    blk_simp [iblk]
    rw [V_pa A]
    blk_simp [blk, idx t]
    exact congrArg₂ (fun m n => ((nul (times a wa) m n : ℝ) : EReal)) (by rw [mul_comm]) rfl
  · funext y
    blk_simp [iblk]
    rw [V_pb A]
    blk_simp [blk, idx t]
    exact congrArg₂ (fun m n => ((nul (times b wb) m n : ℝ) : EReal)) (by rw [mul_comm]) rfl
  · funext y
    blk_simp [iblk]
    rw [V_bm A]
    blk_simp [bias, idx t]
  · funext y
    blk_simp [iblk]
    rw [V_bm A]
    blk_simp [bias, idx t]

include A in
/-- The gradients of the branches, as the region leaves them. -/
theorem final8 : (dats m 0 c).arrAt 8 cfg0.N = fun i : S4224x1024.Idx => ((dOut (nul d) w (nul (colsA h)) (bm 0) (i 0).val (i 1).val : ℝ) : EReal) := by
  refine (dats m 0 c).arrAt_eq_of_covers 8 _ (by decide +kernel) fun t _ y => ?_
  blk_simp
  rw [after0_8]
  refine (outA_at (reads A t) y).trans ?_
  refine congrArg (fun s : ℝ => (s : EReal)) ?_
  show dOut (nul d) w (nul (colsA h)) (bm 0) (528 * t.val + (y 0).val) (y 1).val = _
  blk_simp [idx t]
  rw [mul_comm]

include A in
theorem final9 : (dats m 0 c).arrAt 9 cfg0.N = fun i : S4224x1024.Idx => ((dOut (nul d) w (nul (colsB h)) (bm 1) (i 0).val (i 1).val : ℝ) : EReal) := by
  refine (dats m 0 c).arrAt_eq_of_covers 9 _ (by decide +kernel) fun t _ y => ?_
  blk_simp
  rw [after0_9]
  refine (outB_at (reads A t) y).trans ?_
  refine congrArg (fun s : ℝ => (s : EReal)) ?_
  show dOut (nul d) w (nul (colsB h)) (bm 1) (528 * t.val + (y 0).val) (y 1).val = _
  blk_simp [idx t]
  rw [mul_comm]

include A in
/-- The gradients of the gates, as the region leaves them. -/
theorem final10 : (dats m 0 c).arrAt 10 cfg0.N = fun i : S4224x1024.Idx =>
    ((dGate (nul d) w (nul (colsA h)) (nul (times a wa)) (bm 0) (i 0).val (i 1).val : ℝ) : EReal) := by
  refine (dats m 0 c).arrAt_eq_of_covers 10 _ (by decide +kernel) fun t _ y => ?_
  blk_simp
  rw [after0_10]
  refine (gateA_at (reads A t) y).trans ?_
  refine congrArg (fun s : ℝ => (s : EReal)) ?_
  show dGate (nul d) w (nul (colsA h)) (nul (times a wa)) (bm 0) (528 * t.val + (y 0).val) (y 1).val = _
  blk_simp [idx t]
  rw [mul_comm]

include A in
theorem final11 : (dats m 0 c).arrAt 11 cfg0.N = fun i : S4224x1024.Idx =>
    ((dGate (nul d) w (nul (colsB h)) (nul (times b wb)) (bm 1) (i 0).val (i 1).val : ℝ) : EReal) := by
  refine (dats m 0 c).arrAt_eq_of_covers 11 _ (by decide +kernel) fun t _ y => ?_
  blk_simp
  rw [after0_11]
  refine (gateB_at (reads A t) y).trans ?_
  refine congrArg (fun s : ℝ => (s : EReal)) ?_
  show dGate (nul d) w (nul (colsB h)) (nul (times b wb)) (bm 1) (528 * t.val + (y 0).val) (y 1).val = _
  blk_simp [idx t]
  rw [mul_comm]

include A in
/-- The running sums of the biases' gradients after each point. -/
theorem accA : ∀ (n : ℕ) (hn : n < cfg0.N), (outsAt0 m c n hn).2.2.2.2.1 = row fun p =>
    ∑ q ∈ Finset.range (n + 1), ∑ r : Fin 528, dGate (nul d) w (nul (colsA h)) (nul (times a wa)) (bm 0) (528 * q + r.val) p := by
  intro n
  induction n with
  | zero =>
    intro hn
    refine (biasA_at0 (reads A ⟨0, hn⟩) (by simp)).trans ?_
    refine congrArg row (funext fun p => ?_)
    rw [zero_add, Finset.sum_range_one]
    rfl
  | succ n ih =>
    intro hn
    refine (biasA_at1 (reads A ⟨n + 1, hn⟩) (by simp) _ (ih (Nat.lt_of_succ_lt hn))).trans ?_
    refine congrArg row (funext fun p => ?_)
    rw [Finset.sum_range_succ _ (n + 1)]
    rfl

include A in
theorem accB : ∀ (n : ℕ) (hn : n < cfg0.N), (outsAt0 m c n hn).2.2.2.2.2 = row fun p =>
    ∑ q ∈ Finset.range (n + 1), ∑ r : Fin 528, dGate (nul d) w (nul (colsB h)) (nul (times b wb)) (bm 1) (528 * q + r.val) p := by
  intro n
  induction n with
  | zero =>
    intro hn
    refine (biasB_at0 (reads A ⟨0, hn⟩) (by simp)).trans ?_
    refine congrArg row (funext fun p => ?_)
    rw [zero_add, Finset.sum_range_one]
    rfl
  | succ n ih =>
    intro hn
    refine (biasB_at1 (reads A ⟨n + 1, hn⟩) (by simp) _ (ih (Nat.lt_of_succ_lt hn))).trans ?_
    refine congrArg row (funext fun p => ?_)
    rw [Finset.sum_range_succ _ (n + 1)]
    rfl

theorem flush12 : ∀ t : Fin cfg0.N, (cfg0.win 12).flush t = true → t.val = 7 := (by decide +kernel : ∀ t : Fin grid0.N, _)
theorem flush13 : ∀ t : Fin cfg0.N, (cfg0.win 13).flush t = true → t.val = 7 := (by decide +kernel : ∀ t : Fin grid0.N, _)

include A in
/-- The biases' gradients, as the region leaves them. -/
theorem final12 : (dats m 0 c).arrAt 12 cfg0.N = row fun p =>
    ∑ q ∈ Finset.range 8, ∑ r : Fin 528, dGate (nul d) w (nul (colsA h)) (nul (times a wa)) (bm 0) (528 * q + r.val) p := by
  refine (dats m 0 c).arrAt_eq_of_covers 12 _ (by decide +kernel) fun t ht y => ?_
  blk_simp
  rw [after0_12, accA A t.val t.isLt, flush12 t ht]
  blk_simp [row, idx t]

include A in
theorem final13 : (dats m 0 c).arrAt 13 cfg0.N = row fun p =>
    ∑ q ∈ Finset.range 8, ∑ r : Fin 528, dGate (nul d) w (nul (colsB h)) (nul (times b wb)) (bm 1) (528 * q + r.val) p := by
  refine (dats m 0 c).arrAt_eq_of_covers 13 _ (by decide +kernel) fun t ht y => ?_
  blk_simp
  rw [after0_13, accB A t.val t.isLt, flush13 t ht]
  blk_simp [row, idx t]

end Cert.MergeBwdIdeal.Mine

end
-- ==== Proof.MergeBwd.Ref.lean ====
/- The reference of the merge's backward, stage by stage, at arrays of real numbers. -/
module

public import proofs.«01_k».proof.Proof.MergeBwd.Blocks
public import proofs.«01_k».proof.Proof.Gen.MergeBwdRefIdeal.Read

@[expose] public section

set_option maxRecDepth 16384

noncomputable section

namespace Cert.MergeBwdRefIdeal.Mine

open Idealize.ShloMosaic Idealize.ShloMosaic.TcCoe Idealize.SL.Sem
open Cert.MergeBwdRefIdeal Cert.MergeBwdRefIdeal.Gen Cert.MergeBwdRefIdeal.Read Cert.Reals
open Cert.MergeBwdIdeal.Mine (times cot gate dOut dGate colsA colsB)

variable (d a b h wa wb bm w : ℕ → ℕ → ℝ)

/-- The arguments as arrays. -/
def R2 (a : ℕ → ℕ → ℝ) : (⟨S4112x1024, .f32⟩ : BufTy).Contents (Elt Ideal) := fun i : S4112x1024.Idx => ((a (i 0).val (i 1).val : ℝ) : EReal)
def O (a : ℕ → ℕ → ℝ) : (⟨S4112x512, .f32⟩ : BufTy).Contents (Elt Ideal) := fun i : S4112x512.Idx => ((a (i 0).val (i 1).val : ℝ) : EReal)
def H (a : ℕ → ℕ → ℝ) : (⟨S4112x4384, .f32⟩ : BufTy).Contents (Elt Ideal) := fun i : S4112x4384.Idx => ((a (i 0).val (i 1).val : ℝ) : EReal)
def P (a : ℕ → ℕ → ℝ) : (⟨S512x1024, .f32⟩ : BufTy).Contents (Elt Ideal) := fun i : S512x1024.Idx => ((a (i 0).val (i 1).val : ℝ) : EReal)
def B (a : ℕ → ℕ → ℝ) : (⟨S2x1024, .f32⟩ : BufTy).Contents (Elt Ideal) := fun i : S2x1024.Idx => ((a (i 0).val (i 1).val : ℝ) : EReal)
def W (a : ℕ → ℕ → ℝ) : (⟨S1024x1024, .f32⟩ : BufTy).Contents (Elt Ideal) := fun i : S1024x1024.Idx => ((a (i 0).val (i 1).val : ℝ) : EReal)

theorem v11 (i : S4112x1024.Idx) : val_main_v11 (F := Ideal) (O a) (P wa) i = ((times a wa (i 0).val (i 1).val : ℝ) : EReal) := by
  rw [val_main_v11_apply]
  exact sum_mul_coe (fun l => rfl) fun l => rfl

theorem v12 (i : S4112x1024.Idx) : val_main_v12 (F := Ideal) (O b) (P wb) i = ((times b wb (i 0).val (i 1).val : ℝ) : EReal) := by
  rw [val_main_v12_apply]
  exact sum_mul_coe (fun l => rfl) fun l => rfl

theorem v45 (i : S4112x1024.Idx) : val_main_v45 (F := Ideal) (R2 d) (W w) i = ((cot d w (i 0).val (i 1).val : ℝ) : EReal) := by
  rw [val_main_v45_apply]
  exact sum_mul_coe (fun l => rfl) fun l => rfl

theorem v17 (i : S4112x1024.Idx) : val_main_v17 (F := Ideal) (H h) (B bm) i = ((colsA h (i 0).val (i 1).val + bm 0 (i 1).val : ℝ) : EReal) := by
  simp only [val_main_v17_apply, val_main_v16_apply, val_main_v15_apply, val_main_v14_apply, val_main_v13_apply, val_main_v9_apply]
  pointwise [H, B]
  have h1 : (i 1).val < 1024 := (i 1).isLt
  rw [← EReal.coe_add, Nat.mod_eq_of_lt h1]
  rfl

theorem v32 (i : S4112x1024.Idx) : val_main_v32 (F := Ideal) (H h) (B bm) i = ((colsB h (i 0).val (i 1).val + bm 1 (i 1).val : ℝ) : EReal) := by
  simp only [val_main_v32_apply, val_main_v31_apply, val_main_v30_apply, val_main_v29_apply, val_main_v28_apply, val_main_v10_apply]
  pointwise [H, B]
  have h1 : (i 1).val < 1024 := (i 1).isLt
  rw [← EReal.coe_add, Nat.mod_eq_of_lt h1]
  rfl

theorem v23 (i : S4112x1024.Idx) : val_main_v23 (F := Ideal) (H h) (B bm) i = ((gate (colsA h) (bm 0) (i 0).val (i 1).val : ℝ) : EReal) := by
  simp only [val_main_v23_apply, val_main_v22_apply, val_main_cst_0_apply, val_main_v21_apply, val_main_v20_apply, val_main_cst_apply,
    val_main_v19_apply, val_main_v18_apply, v17]
  pointwise
  simp only [← EReal.coe_one]
  exact logistic _

theorem v38 (i : S4112x1024.Idx) : val_main_v38 (F := Ideal) (H h) (B bm) i = ((gate (colsB h) (bm 1) (i 0).val (i 1).val : ℝ) : EReal) := by
  simp only [val_main_v38_apply, val_main_v37_apply, val_main_cst_3_apply, val_main_v36_apply, val_main_v35_apply, val_main_cst_2_apply,
    val_main_v34_apply, val_main_v33_apply, v32]
  pointwise
  simp only [← EReal.coe_one]
  exact logistic _

theorem v54 (i : S4112x1024.Idx) : val_main_v54 (F := Ideal) (R2 d) (H h) (B bm) (W w) i
    = ((dOut d w (colsA h) (bm 0) (i 0).val (i 1).val : ℝ) : EReal) := by
  rw [val_main_v54_apply, v23, v45]
  pointwise
  rw [← EReal.coe_mul]
  exact congrArg (fun s : ℝ => (s : EReal)) (mul_comm _ _)

theorem v46 (i : S4112x1024.Idx) : val_main_v46 (F := Ideal) (R2 d) (H h) (B bm) (W w) i
    = ((dOut d w (colsB h) (bm 1) (i 0).val (i 1).val : ℝ) : EReal) := by
  rw [val_main_v46_apply, v38, v45]
  pointwise
  rw [← EReal.coe_mul]
  exact congrArg (fun s : ℝ => (s : EReal)) (mul_comm _ _)

theorem v56 (i : S4112x1024.Idx) : val_main_v56 (F := Ideal) (R2 d) (O a) (H h) (P wa) (B bm) (W w) i
    = ((dGate d w (colsA h) (times a wa) (bm 0) (i 0).val (i 1).val : ℝ) : EReal) := by
  simp only [val_main_v56_apply, val_main_v55_apply, val_main_v26_apply, val_main_v25_apply, val_main_v24_apply, val_main_cst_1_apply, v23, v45, v11]
  pointwise
  simp only [← EReal.coe_one, ← EReal.coe_mul, ← EReal.coe_sub]
  exact congrArg (fun s : ℝ => (s : EReal)) (mul_assoc _ _ _).symm

theorem v48 (i : S4112x1024.Idx) : val_main_v48 (F := Ideal) (R2 d) (O b) (H h) (P wb) (B bm) (W w) i
    = ((dGate d w (colsB h) (times b wb) (bm 1) (i 0).val (i 1).val : ℝ) : EReal) := by
  simp only [val_main_v48_apply, val_main_v47_apply, val_main_v41_apply, val_main_v40_apply, val_main_v39_apply, val_main_cst_4_apply, v38, v45, v12]
  pointwise
  simp only [← EReal.coe_one, ← EReal.coe_mul, ← EReal.coe_sub]
  exact congrArg (fun s : ℝ => (s : EReal)) (mul_assoc _ _ _).symm

/-- The padding rows have no gradient. -/
theorem nul_out (g : ℕ → ℕ → ℝ) (b : ℕ → ℝ) (n p : ℕ) : nul (dOut d w g b) n p = dOut (nul d) w (nul g) b n p := by
  by_cases e : n < 112
  · have z : cot (nul d) w n p = 0 := Finset.sum_eq_zero fun l _ => by rw [nul, if_pos e, zero_mul]
    rw [nul, if_pos e, dOut, z, zero_mul]
  · simp only [nul, dOut, cot, gate, if_neg e]

theorem nul_gate (g a : ℕ → ℕ → ℝ) (b : ℕ → ℝ) (n p : ℕ) : nul (dGate d w g a b) n p = dGate (nul d) w (nul g) (nul a) b n p := by
  by_cases e : n < 112
  · have z : cot (nul d) w n p = 0 := Finset.sum_eq_zero fun l _ => by rw [nul, if_pos e, zero_mul]
    rw [nul, if_pos e, dGate, z]
    ring
  · simp only [nul, dGate, cot, gate, if_neg e]

theorem v64 : val_main_v64 (F := Ideal) (R2 d) (H h) (B bm) (W w) = fun i : S4224x1024.Idx =>
    ((dOut (nul d) w (nul (colsA h)) (bm 0) (i 0).val (i 1).val : ℝ) : EReal) := by
  funext i
  rw [← nul_out, val_main_v64_apply]
  unfold val_main_v63
  pointwise
  idx_bounds
  exact nul_pad _ (by omega) (fun e => v54 d h bm w _) (by unfold val_main_call0_v0; pointwise; rfl)

theorem v66 : val_main_v66 (F := Ideal) (R2 d) (H h) (B bm) (W w) = fun i : S4224x1024.Idx =>
    ((dOut (nul d) w (nul (colsB h)) (bm 1) (i 0).val (i 1).val : ℝ) : EReal) := by
  funext i
  rw [← nul_out, val_main_v66_apply]
  unfold val_main_v65
  pointwise
  idx_bounds
  exact nul_pad _ (by omega) (fun e => v46 d h bm w _) (by unfold val_main_call1_v0; pointwise; rfl)

theorem v68 : val_main_v68 (F := Ideal) (R2 d) (O a) (H h) (P wa) (B bm) (W w) = fun i : S4224x1024.Idx =>
    ((dGate (nul d) w (nul (colsA h)) (nul (times a wa)) (bm 0) (i 0).val (i 1).val : ℝ) : EReal) := by
  funext i
  rw [← nul_gate, val_main_v68_apply]
  unfold val_main_v67
  pointwise
  idx_bounds
  exact nul_pad _ (by omega) (fun e => v56 d a h wa bm w _) (by unfold val_main_call2_v0; pointwise; rfl)

theorem v70 : val_main_v70 (F := Ideal) (R2 d) (O b) (H h) (P wb) (B bm) (W w) = fun i : S4224x1024.Idx =>
    ((dGate (nul d) w (nul (colsB h)) (nul (times b wb)) (bm 1) (i 0).val (i 1).val : ℝ) : EReal) := by
  funext i
  rw [← nul_gate, val_main_v70_apply]
  unfold val_main_v69
  pointwise
  idx_bounds
  exact nul_pad _ (by omega) (fun e => v48 d b h wb bm w _) (by unfold val_main_call3_v0; pointwise; rfl)

/-- The biases' gradients before they are put under one another. -/
theorem v60 (i : S1x1024.Idx) : val_main_v60 (F := Ideal) (R2 d) (O a) (H h) (P wa) (B bm) (W w) i
    = ((∑ n : Fin 4112, dGate d w (colsA h) (times a wa) (bm 0) n.val (i 1).val : ℝ) : EReal) := by
  simp only [val_main_v60_apply, val_main_v59_apply, val_main_v58_apply, val_main_v57_apply, val_main_cst_9_apply, val_main_cst_8_apply, v56]
  pointwise
  simp only [coe_sum, zero_add, Fin.sum_univ_one, Finset.univ_unique, Finset.sum_singleton]

theorem v52 (i : S1x1024.Idx) : val_main_v52 (F := Ideal) (R2 d) (O b) (H h) (P wb) (B bm) (W w) i
    = ((∑ n : Fin 4112, dGate d w (colsB h) (times b wb) (bm 1) n.val (i 1).val : ℝ) : EReal) := by
  simp only [val_main_v52_apply, val_main_v51_apply, val_main_v50_apply, val_main_v49_apply, val_main_cst_6_apply, val_main_cst_5_apply, v48]
  pointwise
  simp only [coe_sum, zero_add, Fin.sum_univ_one, Finset.univ_unique, Finset.sum_singleton]

theorem v71 (i : S1x1024.Idx) : val_main_v71 (F := Ideal) (R2 d) (O a) (O b) (H h) (P wa) (P wb) (B bm) (W w) i
    = ((∑ n : Fin 4112, dGate d w (colsA h) (times a wa) (bm 0) n.val (i 1).val : ℝ) : EReal) := by
  rw [val_main_v71_apply, val_main_v62_apply]
  unfold val_main_v53 val_main_v61
  have h0 : (i 0).val = 0 := by have h : (i 0).val < 1 := (i 0).isLt; omega
  have h1 : (i 1).val < 1024 := (i 1).isLt
  pointwise
  simp only [val_main_cst_7_apply, v60]
  pointwise

theorem v72 (i : S1x1024.Idx) : val_main_v72 (F := Ideal) (R2 d) (O a) (O b) (H h) (P wa) (P wb) (B bm) (W w) i
    = ((∑ n : Fin 4112, dGate d w (colsB h) (times b wb) (bm 1) n.val (i 1).val : ℝ) : EReal) := by
  rw [val_main_v72_apply, val_main_v62_apply]
  unfold val_main_v53 val_main_v61
  have h0 : (i 0).val = 0 := by have h : (i 0).val < 1 := (i 0).isLt; omega
  have h1 : (i 1).val < 1024 := (i 1).isLt
  pointwise
  simp only [val_main_cst_10_apply, v52]
  pointwise

/-- A bias's gradient, summed over blocks of padded rows or over the rows. -/
theorem bias_eq (g a : ℕ → ℕ → ℝ) (b : ℕ → ℝ) (p : ℕ) :
    ∑ q ∈ Finset.range 8, ∑ r : Fin 528, dGate (nul d) w (nul g) (nul a) b (528 * q + r.val) p = ∑ n : Fin 4112, dGate d w g a b n.val p := by
  simp only [← nul_gate]
  rw [sum_blocks 528 (fun n => nul (dGate d w g a b) n p) 8]
  refine (sum_drop 112 4112 _ fun n e => if_pos e).trans ?_
  rw [Finset.sum_range]
  refine Finset.sum_congr rfl fun n _ => ?_
  show nul (dGate d w g a b) (112 + n.val) p = _
  rw [nul, if_neg (by omega), Nat.add_sub_cancel_left]

end Cert.MergeBwdRefIdeal.Mine

end
-- ==== Proof.MergeBwd.Claims.lean ====
/- The claims about the merge's backward: under real arguments the gradients of the merged branches, of the gates' inputs and of the
   gates' biases are those of the reference. -/
module

public import proofs.«01_k».proof.Defs
public import proofs.«01_k».proof.Proof.MergeBwd.Ref
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.Pre_finite4

@[expose] public section

set_option maxRecDepth 16384

noncomputable section

namespace Cert.MergeBwdClaims

open Idealize.ShloMosaic Idealize.ShloMosaic.TcCoe Idealize.SL.Sem
open Cert.MergeBwdIdeal.Mine Cert.Reals
open Cert.MergeBwdRefIdeal.Mine (v64 v66 v68 v70 v71 v72 bias_eq)

theorem frame_p : Cert.quiescent_MergeBwd := fun m ρ _ => Cert.MergeBwd.Gen.frame m ρ

theorem frame_pi : Cert.quiescent_MergeBwdIdeal := fun m ρ _ => Cert.MergeBwdIdeal.Gen.frame m ρ

theorem frame_pi_pre : Cert.quiescent_MergeBwdIdeal_pre_finite4 := fun m ρ _ => Cert.MergeBwdIdeal.Gen.frame m ρ

theorem frame_ri : Cert.quiescent_MergeBwdRefIdeal := fun m ρ _ =>
  (θ_run Cert.MergeBwdRefIdeal.defs _ _).mono (fun r h => ⟨fun c => (h c).2.2.2.2.2.2, sem_eq_zero_of_no_sems (by decide) r.2⟩)
    (Cert.MergeBwdRefIdeal.Value.run (F := Ideal) m ρ)

theorem frame_ri_pre : Cert.quiescent_MergeBwdRefIdeal_pre_finite4 := fun m ρ _ => frame_ri m ρ trivial

theorem preserves : Cert.preserves_MergeBwd_MergeBwdIdeal := trivial

/-- Under the precondition the arguments are arrays of real numbers. -/
theorem args (m : (ℓ : Loc MergeBwdIdeal.nD MergeBwdIdeal.τ MergeBwdIdeal.sig) → Buf (Elt Ideal) ℓ)
    (h : Pre_MergeBwdIdeal_finite4 m) (c : Dev MergeBwdIdeal.nD) : ∃ d a b h wa wb bm w, Args m c d a b h wa wb bm w := by
  obtain ⟨h0, h1, h2, h3, h4, h5, h6, h7⟩ := h c
  obtain ⟨d, hd⟩ := exists_real h0
  obtain ⟨a, ha⟩ := exists_real h1
  obtain ⟨b, hb⟩ := exists_real h2
  obtain ⟨h, hh⟩ := exists_real h3
  obtain ⟨wa, hwa⟩ := exists_real h4
  obtain ⟨wb, hwb⟩ := exists_real h5
  obtain ⟨bm, hbm⟩ := exists_real h6
  obtain ⟨w, hw⟩ := exists_real h7
  exact ⟨byCoords d, byCoords a, byCoords b, byCoords h, byCoords wa, byCoords wb, byCoords bm, byCoords w,
    hd.trans (byCoords_spec d), ha.trans (byCoords_spec a), hb.trans (byCoords_spec b), hh.trans (byCoords_spec h),
    hwa.trans (byCoords_spec wa), hwb.trans (byCoords_spec wb), hbm.trans (byCoords_spec bm), hw.trans (byCoords_spec w)⟩

set_option maxHeartbeats 2000000 in
theorem algebraic : Cert.algebraic_MergeBwdIdeal_MergeBwdRefIdeal_pre_finite4 := by
  intro m g m' g' hpre hargs
  refine ⟨fun c => (Cert.MergeBwdIdeal.Gen.dats m 0 c).arrAt 8 Cert.MergeBwdIdeal.cfg0.N,
    fun c => (Cert.MergeBwdIdeal.Gen.dats m 0 c).arrAt 9 Cert.MergeBwdIdeal.cfg0.N,
    fun c => (Cert.MergeBwdIdeal.Gen.dats m 0 c).arrAt 10 Cert.MergeBwdIdeal.cfg0.N,
    fun c => (Cert.MergeBwdIdeal.Gen.dats m 0 c).arrAt 11 Cert.MergeBwdIdeal.cfg0.N,
    fun c => (Cert.MergeBwdIdeal.Gen.dats m 0 c).arrAt 12 Cert.MergeBwdIdeal.cfg0.N,
    fun c => (Cert.MergeBwdIdeal.Gen.dats m 0 c).arrAt 13 Cert.MergeBwdIdeal.cfg0.N,
    Cert.MergeBwdIdeal.Value.run_blocks m g,
    (θ_run Cert.MergeBwdRefIdeal.defs _ _).mono (fun r h c => ?_) (Cert.MergeBwdRefIdeal.Value.run (F := Ideal) m' g')⟩
  obtain ⟨h0, h1, h2, h3, h4, h5, hr⟩ := h c
  obtain ⟨d, a, b, h, wa, wb, bm, w, A⟩ := args m hpre c
  obtain ⟨a0, a1, a2, a3, a4, a5, a6, a7⟩ := hargs c
  have b0 := a0.trans A.d
  have b1 := a1.trans A.a
  have b2 := a2.trans A.b
  have b3 := a3.trans A.h
  have b4 := a4.trans A.wa
  have b5 := a5.trans A.wb
  have b6 := a6.trans A.bm
  have b7 := a7.trans A.w
  refine ⟨?_, ?_, ?_, ?_, ?_, ?_, hr⟩
  · refine h0.trans ((Cert.MergeBwdRefIdeal.Read.val_main_v64_eq ..).trans (Eq.trans ?_ (final8 A).symm))
    rw [b0, b3, b6, b7]
    exact v64 d h bm w
  · refine h1.trans ((Cert.MergeBwdRefIdeal.Read.val_main_v66_eq ..).trans (Eq.trans ?_ (final9 A).symm))
    rw [b0, b3, b6, b7]
    exact v66 d h bm w
  · refine h2.trans ((Cert.MergeBwdRefIdeal.Read.val_main_v68_eq ..).trans (Eq.trans ?_ (final10 A).symm))
    rw [b0, b1, b3, b4, b6, b7]
    exact v68 d a h wa bm w
  · refine h3.trans ((Cert.MergeBwdRefIdeal.Read.val_main_v70_eq ..).trans (Eq.trans ?_ (final11 A).symm))
    rw [b0, b2, b3, b5, b6, b7]
    exact v70 d b h wb bm w
  · refine h4.trans ((Cert.MergeBwdRefIdeal.Read.val_main_v71_eq ..).trans (Eq.trans ?_ (final12 A).symm))
    rw [b0, b1, b2, b3, b4, b5, b6, b7]
    refine funext fun i => (v71 d a b h wa wb bm w i).trans (congrArg (fun s : ℝ => (s : EReal)) (bias_eq ..).symm)
  · refine h5.trans ((Cert.MergeBwdRefIdeal.Read.val_main_v72_eq ..).trans (Eq.trans ?_ (final13 A).symm))
    rw [b0, b1, b2, b3, b4, b5, b6, b7]
    refine funext fun i => (v72 d a b h wa wb bm w i).trans (congrArg (fun s : ℝ => (s : EReal)) (bias_eq ..).symm)

end Cert.MergeBwdClaims

end
-- ==== Proof.InProjDz.Pack.lean ====
/- The packed columns of the input projection: eleven parts behind one another, the heads' parts each in 128 lanes. -/
module

public import proofs.«01_k».proof.Proof.Padded

@[expose] public section

noncomputable section

namespace Cert.Reals

open Idealize.ShloMosaic

/-- Parts behind one another, each with its length. -/
def joined : List (ℕ × (ℕ → ℝ)) → ℕ → ℝ
  | [], _ => 0
  | (n, f) :: l, j => if j < n then f j else joined l (j - n)

theorem joined_sum : ∀ (l : List (ℕ × (ℕ → ℝ))) (N : ℕ), (l.map Prod.fst).sum = N →
    ∑ j ∈ Finset.range N, joined l j = (l.map fun x => ∑ r ∈ Finset.range x.1, x.2 r).sum
  | [], _, rfl => rfl
  | (n, f) :: l, _, rfl => by
    simp only [List.map_cons, List.sum_cons]
    rw [Finset.sum_range_add, ← joined_sum l _ rfl]
    refine congrArg₂ (· + ·) (Finset.sum_congr rfl fun j h => ?_) (Finset.sum_congr rfl fun j _ => ?_)
    · rw [joined, if_pos (Finset.mem_range.mp h)]
    · rw [joined, if_neg (by omega), Nat.add_sub_cancel_left]

/-- Heads of `w` columns from column `a` on, each in 128 lanes. -/
def lanes (a w : ℕ) (f : ℕ → ℝ) (r : ℕ) : ℝ := if r % 128 < w then f (a + (r / 128 * w + r % 128)) else 0

theorem lanes_sum (a w : ℕ) (hw : w ≤ 128) (f : ℕ → ℝ) : ∀ k : ℕ,
    ∑ r ∈ Finset.range (128 * k), lanes a w f r = ∑ r ∈ Finset.range (w * k), f (a + r)
  | 0 => by simp
  | k + 1 => by
    rw [Nat.mul_succ, Nat.mul_succ, Finset.sum_range_add, Finset.sum_range_add, lanes_sum a w hw f k]
    refine congrArg₂ (· + ·) rfl ?_
    obtain ⟨u, hu⟩ := Nat.exists_eq_add_of_le hw
    have e : ∀ x, x < 128 → lanes a w f (128 * k + x) = if x < w then f (a + (w * k + x)) else 0 := fun x h => by
      rw [lanes, show (128 * k + x) % 128 = x by omega, show (128 * k + x) / 128 = k by omega, mul_comm k w]
    have z : ∑ x ∈ Finset.range 128, lanes a w f (128 * k + x) = ∑ x ∈ Finset.range 128, if x < w then f (a + (w * k + x)) else 0 :=
      Finset.sum_congr rfl fun x h => e x (Finset.mem_range.mp h)
    rw [z, hu, Finset.sum_range_add, Finset.sum_eq_zero (s := Finset.range u) fun x _ => if_neg (by omega), add_zero]
    exact Finset.sum_congr rfl fun x h => if_pos (Finset.mem_range.mp h)

theorem lanes_mul (a w : ℕ) (f g : ℕ → ℝ) (r : ℕ) : lanes a w f r * lanes a w g r = lanes a w (fun l => f l * g l) r := by
  unfold lanes
  split_ifs
  · rfl
  · exact zero_mul _

/-- The packed columns. -/
def pack (f : ℕ → ℝ) : ℕ → ℝ :=
  joined [(1024, lanes 1568 64 f), (1024, fun r => f (2336 + r)), (1024, fun r => f (3360 + r)), (512, lanes 0 64 f), (512, lanes 256 64 f),
    (512, fun r => f (512 + r)), (512, fun r => f (1024 + r)), (256, lanes 2080 64 f), (256, lanes 2208 64 f), (128, lanes 1536 16 f),
    (128, lanes 1552 16 f)]

theorem ite_mul_ite {p : Prop} [Decidable p] {a b c d e f : ℝ} (h : a * b = e) (h' : c * d = f) :
    (if p then a else c) * (if p then b else d) = if p then e else f := by
  by_cases q : p
  · simp only [if_pos q, h]
  · simp only [if_neg q, h']

theorem pack_mul (f g : ℕ → ℝ) (j : ℕ) : pack f j * pack g j = pack (fun l => f l * g l) j := by
  simp only [pack, joined]
  repeat refine ite_mul_ite (by first | exact lanes_mul .. | rfl) ?_
  exact zero_mul _

theorem pack_zero (j : ℕ) : pack (fun _ => 0) j = 0 := by
  simp only [pack, joined, lanes, ite_self]

/-- Every column of the projection is packed once. -/
theorem pack_sum (f : ℕ → ℝ) : ∑ j ∈ Finset.range 5888, pack f j = ∑ l ∈ Finset.range 4384, f l := by
  unfold pack
  rw [joined_sum _ 5888 (by simp)]
  have h8 := lanes_sum 1568 64 (by norm_num) f 8
  have h4 := lanes_sum 0 64 (by norm_num) f 4
  have h4' := lanes_sum 256 64 (by norm_num) f 4
  have h2 := lanes_sum 2080 64 (by norm_num) f 2
  have h2' := lanes_sum 2208 64 (by norm_num) f 2
  have h1 := lanes_sum 1536 16 (by norm_num) f 1
  have h1' := lanes_sum 1552 16 (by norm_num) f 1
  norm_num only [zero_add] at h8 h4 h4' h2 h2' h1 h1'
  simp only [List.map_cons, List.map_nil, List.sum_cons, List.sum_nil, h8, h4, h4', h2, h2', h1, h1']
  rw [show 4384 = 256 + 256 + 512 + 512 + 16 + 16 + 512 + 128 + 128 + 1024 + 1024 by norm_num]
  iterate 10 rw [Finset.sum_range_add]
  norm_num only
  ring

/-- The product over the packed columns. -/
theorem pack_dot (f g : ℕ → ℝ) : ∑ l : Fin 5888, pack f l.val * pack g l.val = ∑ l : Fin 4384, f l.val * g l.val := by
  simp only [pack_mul]
  rw [← Finset.sum_range (fun l => pack (fun l => f l * g l) l), pack_sum, Finset.sum_range]

theorem nul_pack (a : ℕ → ℕ → ℝ) (n j : ℕ) : nul (fun n => pack (a n)) n j = pack (nul a n) j := by
  by_cases e : n < 112
  · rw [nul, if_pos e, show nul a n = fun _ => 0 from funext fun p => if_pos e, pack_zero]
  · rw [nul, if_neg e, show nul a n = a (n - 112) from funext fun p => if_neg e]

/-- A part or the parts after it. -/
theorem join {n j : ℕ} {x y : ℝ} {X : j < n → EReal} {Y : ¬ j < n → EReal} (hX : ∀ e, X e = (x : EReal)) (hY : ∀ e, Y e = (y : EReal)) :
    (if e : j < n then X e else Y e) = ((if j < n then x else y : ℝ) : EReal) := by
  by_cases e : j < n
  · rw [dif_pos e, if_pos e, hX]
  · rw [dif_neg e, if_neg e, hY]

end Cert.Reals

end
-- ==== Proof.InProjDz.Point.lean ====
/- What a grid point of the backward through the mixer's norm computes from blocks of real numbers. -/
module

public import proofs.«01_k».proof.Proof.Norm
public import proofs.«01_k».proof.Proof.InProjDz.Pack
public import proofs.«01_k».proof.Proof.Gen.InProjDzIdeal.Value

@[expose] public section

set_option maxRecDepth 16384

noncomputable section

namespace Cert.InProjDzIdeal.Mine

open Idealize.ShloMosaic Idealize.ShloMosaic.TcCoe Idealize.SL.Sem
open Cert.InProjDzIdeal Cert.InProjDzIdeal.Gen Cert.Reals

/-- A block of rows of the stream, of the packed projection's gradient, the packed weight turned, a row of gains, a column of numbers. -/
def rows (a : ℕ → ℕ → ℝ) : Vec Ideal S528x1024 .f32 := fun i => ((a (i 0).val (i 1).val : ℝ) : EReal)
def packed (a : ℕ → ℕ → ℝ) : Vec Ideal S528x5888 .bf16 := fun i => ((pack (a (i 0).val) (i 1).val : ℝ) : EReal)
def turned (a : ℕ → ℕ → ℝ) : Vec Ideal S1x5888x1024 .bf16 := fun i => ((pack (a (i 2).val) (i 1).val : ℝ) : EReal)
def row (g : ℕ → ℝ) : Vec Ideal S1x1024 .f32 := fun i => ((g (i 1).val : ℝ) : EReal)
def col (a : ℕ → ℝ) : FVec Ideal S528x1 .f32 := fun i => ((a (i 0).val : ℝ) : EReal)

/-- The cotangent of the normed rows. -/
def dz (dh wi : ℕ → ℕ → ℝ) (n p : ℕ) : ℝ := ∑ l : Fin 4384, dh n l.val * wi p l.val

variable (dh wi x w d : ℕ → ℕ → ℝ) (g : ℕ → ℝ)

theorem pay5 : k0_pay5 (F := Ideal) (turned wi) (packed dh) = rows (dz dh wi) := by
  funext i
  pointwise [k0_pay5]
  refine (sum_mul_coe (f := fun l : Fin 5888 => pack (dh (i 0).val) l.val) (g := fun l => pack (wi (i 1).val) l.val) (fun l => rfl) fun l => rfl).trans ?_
  rw [pack_dot]
  rfl

theorem pay7 : k0_pay7 (F := Ideal) (rows d) = rows d := by
  funext i
  pointwise [k0_pay7]

theorem pay8 : k0_pay8 (F := Ideal) (rows x) = col (rn x) := by
  funext i
  have h : k0_pay8 (F := Ideal) (rows x) i = Ideal.rsqrt ((ms 1024 (fun k : Fin 1024 => x (i 0).val k.val) : ℝ) : EReal) := by
    pointwise [k0_pay8, k0_pay6, rows]
    rw [k_f32, eps_f32]
    simp only [← EReal.coe_mul, coe_sum]
    rw [div_coe_coe (by norm_num), ← EReal.coe_add]
    rfl
  rw [h, rsqrt_pos (ms_pos (by norm_num) _)]
  rfl

theorem pay9 : k0_pay9 (F := Ideal) (rows x) = rows fun n p => x n p * rn x n := by
  funext i
  pointwise [k0_pay9, k0_pay6]
  rw [pay8]
  simp only [rows, col, ← EReal.coe_mul]
  rfl

theorem pay10 : k0_pay10 (F := Ideal) (turned wi) (packed dh) (rows x) (row g) = rows (dNorm x (dz dh wi) g) := by
  funext i
  pointwise [k0_pay10]
  rw [pay5, pay8, pay9]
  simp only [rows, row, col, ← EReal.coe_mul, coe_sum]
  rw [k_f32, div_coe_coe (by norm_num), ← EReal.coe_mul, ← EReal.coe_sub, ← EReal.coe_mul]
  rfl

theorem pay1 (i : grid0.Coords) {s : ℕ} (hs : Scalar.muli (BitVec.ofNat 32 (i 1).val) 528#32 = BitVec.ofNat 32 s) (hs' : s < 4224) :
    k0_pay1 (F := Ideal) (rows d) (rows w) (k0_pay11 i) k0_pay12 = rows fun n p => if 112 ≤ s + n then d n p + w n p else 0 := by
  funext y
  pointwise [k0_pay1, k0_pay11, k0_pay12]
  rw [hs]
  have := (y 0).isLt
  simp only [rows, ← EReal.coe_add]
  exact pick_row s (y 0).val (by have h : (y 0).val < 528 := this; omega) _

theorem pay2 : k0_pay2 (F := Ideal) (rows w) (rows fun n p => x n p * rn x n) = row fun p => ∑ n : Fin 528, dGainAt x w n.val p := by
  funext i
  pointwise [k0_pay2, rows, row]
  simp only [← EReal.coe_mul, coe_sum]
  refine congrArg (fun s : ℝ => (s : EReal)) (Finset.sum_congr rfl fun n _ => ?_)
  exact mul_comm _ _

variable {m : (ℓ : Loc nD τ sig) → Buf (Elt Ideal) ℓ} {c : Dev nD} {t : Fin cfg0.N}

/-- What the point reads. -/
structure Reads (m : (ℓ : Loc nD τ sig) → Buf (Elt Ideal) ℓ) (c : Dev nD) (t : Fin cfg0.N) (dh wi x d : ℕ → ℕ → ℝ) (g : ℕ → ℝ) : Prop where
  dh : iblk m c 0 t = packed dh
  wi : iblk m c 1 t = turned wi
  x : iblk m c 2 t = rows x
  d : iblk m c 3 t = rows d
  g : iblk m c 4 t = row g

variable {dh wi x w d g} (R : Reads m c t dh wi x d g)

theorem start : ∀ t : Fin cfg0.N, Scalar.muli (BitVec.ofNat 32 (grid0.coords t 1).val) 528#32 = BitVec.ofNat 32 (528 * t.val) :=
  (by decide +kernel : ∀ t : Fin grid0.N, _)

include R in
theorem res_at (y : S528x1024.Idx) : (outsAt0 m c t.val t.isLt).1 y
    = (((if 112 ≤ 528 * t.val + (y 0).val then d (y 0).val (y 1).val + dNorm x (dz dh wi) g (y 0).val (y 1).val else 0 : ℝ)) : EReal) := by
  have hN : t.val < 8 := t.isLt
  by_cases h : 1 ≤ t.val
  on_goal 1 => rw [outsAt0_B m c t (by omega) h]
  on_goal 2 => rw [outsAt0_A m c t (by omega) h]
  all_goals
    frame_out
    rw [R.dh, R.wi, R.x, R.d, R.g, pay10, pay7]
    rw [pay1 _ d _ (start t) (by omega)]
    rfl

theorem cast_at (y : S528x1024.Idx) : (outsAt0 m c t.val t.isLt).2.1 y = (outsAt0 m c t.val t.isLt).1 y := by
  have hN : t.val < 8 := t.isLt
  by_cases h : 1 ≤ t.val
  on_goal 1 => rw [outsAt0_B m c t (by omega) h]
  on_goal 2 => rw [outsAt0_A m c t (by omega) h]
  all_goals
    frame_out
    rfl

include R in
theorem gain_at0 (h : ¬ 1 ≤ t.val) (y : S1x1024.Idx) : (outsAt0 m c t.val t.isLt).2.2 y
    = ((∑ n : Fin 528, dGainAt x (dz dh wi) n.val (y 1).val : ℝ) : EReal) := by
  have hN : t.val < 8 := t.isLt
  rw [outsAt0_A m c t (by omega) h]
  frame_out
  rw [R.dh, R.wi, R.x, pay9, pay5, pay2]
  rfl

include R in
theorem gain_at1 (h : 1 ≤ t.val) (y : S1x1024.Idx) : (outsAt0 m c t.val t.isLt).2.2 y
    = (outsAt0 m c (t.val - 1) (Nat.lt_of_le_of_lt (Nat.sub_le _ _) t.isLt)).2.2 y
      + ((∑ n : Fin 528, dGainAt x (dz dh wi) n.val (y 1).val : ℝ) : EReal) := by
  have hN : t.val < 8 := t.isLt
  rw [outsAt0_B m c t (by omega) h]
  frame_out
  rw [R.dh, R.wi, R.x, pay9, pay5]
  pointwise [k0_pay4]
  rw [pay2]
  rfl

end Cert.InProjDzIdeal.Mine

end
-- ==== Proof.InProjDz.Packed.lean ====
/- The packed weight and the packed gradient of the backward through the mixer's norm, column by column. Eleven parts of the
   projection's columns go behind one another; `Parts` says once what each of them holds, for a row `f` of columns. -/
module

public import proofs.«01_k».proof.Proof.InProjDz.Point

@[expose] public section

set_option maxRecDepth 16384

noncomputable section

namespace Cert.InProjDzIdeal.Mine

open Idealize.ShloMosaic Idealize.ShloMosaic.TcCoe Idealize.SL.Sem
open Idealize.ShloMosaic.Pipeline (Dat)
open Cert.InProjDzIdeal Cert.InProjDzIdeal.Gen Cert.Reals

/-- A part of `n` numbers that holds `f`. -/
def Holds {n : ℕ} (u : Fin n → EReal) (f : ℕ → ℝ) : Prop := ∀ r : Fin n, u r = ((f r.val : ℝ) : EReal)

structure Parts (f : ℕ → ℝ) (attnQ gateA gateB : Fin 1024 → EReal) (glaQ glaK glaV glaGate : Fin 512 → EReal) (attnK attnV : Fin 256 → EReal)
    (low low' : Fin 128 → EReal) : Prop where
  attnQ : Holds attnQ (lanes 1568 64 f)
  gateA : Holds gateA fun r => f (2336 + r)
  gateB : Holds gateB fun r => f (3360 + r)
  glaQ : Holds glaQ (lanes 0 64 f)
  glaK : Holds glaK (lanes 256 64 f)
  glaV : Holds glaV fun r => f (512 + r)
  glaGate : Holds glaGate fun r => f (1024 + r)
  attnK : Holds attnK (lanes 2080 64 f)
  attnV : Holds attnV (lanes 2208 64 f)
  low : Holds low (lanes 1536 16 f)
  low' : Holds low' (lanes 1552 16 f)

/-- The host's lines in three stretches: before the parts are put together, that line, and the lines after it. -/
abbrev lines : List (List (HloOp τ sig (Elt Ideal))) :=
  [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, hostOps0_18, hostOps0_19, hostOps0_20, hostOps0_21, hostOps0_22,
    hostOps0_23, hostOps0_24, hostOps0_25, hostOps0_26, hostOps0_27, hostOps0_28]

abbrev opsW : List (HloOp τ sig (Elt Ideal)) := List.flatten (lines.take 14) ++ hostOps0_14.take 1
abbrev putW : List (HloOp τ sig (Elt Ideal)) := (hostOps0_14.drop 1).take 1
abbrev restW : List (HloOp τ sig (Elt Ideal)) := hostOps0_14.drop 2 ++ List.flatten (lines.drop 15)

abbrev opsG : List (HloOp τ sig (Elt Ideal)) := List.flatten (lines.take 28) ++ hostOps0_28.take 1
abbrev putG : List (HloOp τ sig (Elt Ideal)) := (hostOps0_28.drop 1).take 1
abbrev restG : List (HloOp τ sig (Elt Ideal)) := hostOps0_28.drop 2

variable {wi dh : ℕ → ℕ → ℝ} {σ : Valuation τ sig (Elt Ideal)}

/-- Heads of 64 or 16 columns, padded to 128 lanes; the columns may be named with or without their offset. -/
theorem lanes_at (f : ℕ → ℝ) {a w r : ℕ} {p : Prop} [Decidable p] {X : p → EReal} {Z : EReal} (hp : p ↔ r % 128 < w) (l : p → ℕ)
    (hX : ∀ e, X e = ((f (l e) : ℝ) : EReal)) (hl : ∀ e, l e = a + (r / 128 * w + r % 128)) (hZ : Z = (((0#32 : BitVec 32).toInt : ℝ) : EReal)) :
    (if e : p then X e else Z) = ((lanes a w f r : ℝ) : EReal) := by
  by_cases e : p
  · rw [dif_pos e, lanes, if_pos (hp.mp e), hX, hl]
  · rw [dif_neg e, lanes, if_neg fun h => e (hp.mpr h), hZ]; norm_num

/-- What the first stretch leaves, of the weight and of the gradient. -/
theorem partsW (h : σ (Proc.devRef .tc main_arg2) = fun i : S1024x4384.Idx => ((wi (i 0).val (i 1).val : ℝ) : EReal)) (k : Fin 1024) :
    Parts (wi k.val) (fun r => StableHlo.after opsW σ (Proc.devRef .tc main_v16) (ix3 0 r k))
      (fun r => StableHlo.after opsW σ (Proc.devRef .tc main_v12) (ix3 0 r k)) (fun r => StableHlo.after opsW σ (Proc.devRef .tc main_v13) (ix3 0 r k))
      (fun r => StableHlo.after opsW σ (Proc.devRef .tc main_v19) (ix3 0 r k)) (fun r => StableHlo.after opsW σ (Proc.devRef .tc main_v22) (ix3 0 r k))
      (fun r => StableHlo.after opsW σ (Proc.devRef .tc main_v5) (ix3 0 r k)) (fun r => StableHlo.after opsW σ (Proc.devRef .tc main_v6) (ix3 0 r k))
      (fun r => StableHlo.after opsW σ (Proc.devRef .tc main_v25) (ix3 0 r k)) (fun r => StableHlo.after opsW σ (Proc.devRef .tc main_v28) (ix3 0 r k))
      (fun r => StableHlo.after opsW σ (Proc.devRef .tc main_v31) (ix3 0 r k)) fun r => StableHlo.after opsW σ (Proc.devRef .tc main_v34) (ix3 0 r k) := by
  constructor
  all_goals
    intro r
    simp only [opsW, lines, hostOps0, hostOps0_1, hostOps0_2, hostOps0_3, hostOps0_4, hostOps0_5, hostOps0_6, hostOps0_7, hostOps0_8, hostOps0_9,
      hostOps0_10, hostOps0_11, hostOps0_12, hostOps0_13, hostOps0_14, List.flatten, List.append_eq, List.take, List.cons_append, List.nil_append,
      List.append_nil]
    entry_read
    pointwise
    idx_bounds
    try simp only [StableHlo.TRef.toBuf, StableHlo.TRef.ofBuf, cast_eq]
    try pointwise
    first
      | exact congrFun h _
      | exact lanes_at (wi k.val) (by omega) _ (fun e => congrFun h _) (fun e => by first | rfl | exact (Nat.zero_add _).symm | (show _ + r.val = _; omega)) rfl

theorem partsG (h : σ (Proc.devRef .tc main_arg3) = fun i : S4112x4384.Idx => ((dh (i 0).val (i 1).val : ℝ) : EReal)) (k : Fin 4112) :
    Parts (dh k.val) (fun r => StableHlo.after opsG σ (Proc.devRef .tc main_v50) (ix2 r k))
      (fun r => StableHlo.after opsG σ (Proc.devRef .tc main_v46) (ix2 r k)) (fun r => StableHlo.after opsG σ (Proc.devRef .tc main_v47) (ix2 r k))
      (fun r => StableHlo.after opsG σ (Proc.devRef .tc main_v53) (ix2 r k)) (fun r => StableHlo.after opsG σ (Proc.devRef .tc main_v56) (ix2 r k))
      (fun r => StableHlo.after opsG σ (Proc.devRef .tc main_v39) (ix2 r k)) (fun r => StableHlo.after opsG σ (Proc.devRef .tc main_v40) (ix2 r k))
      (fun r => StableHlo.after opsG σ (Proc.devRef .tc main_v59) (ix2 r k)) (fun r => StableHlo.after opsG σ (Proc.devRef .tc main_v62) (ix2 r k))
      (fun r => StableHlo.after opsG σ (Proc.devRef .tc main_v65) (ix2 r k)) fun r => StableHlo.after opsG σ (Proc.devRef .tc main_v68) (ix2 r k) := by
  constructor
  all_goals
    intro r
    simp only [opsG, lines, hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18, hostOps0_19, hostOps0_20,
      hostOps0_21, hostOps0_22, hostOps0_23, hostOps0_24, hostOps0_25, hostOps0_26, hostOps0_27, hostOps0_28, List.flatten, List.append_eq, List.take,
      List.cons_append, List.nil_append, List.append_nil]
    entry_read
    pointwise
    idx_bounds
    try simp only [StableHlo.TRef.toBuf, StableHlo.TRef.ofBuf, cast_eq]
    try pointwise
    first
      | exact congrFun h _
      | exact lanes_at (dh k.val) (by omega) _ (fun e => congrFun h _) (fun e => by first | rfl | exact (Nat.zero_add _).symm | (show _ + r.val = _; omega)) rfl

/-- The line that puts the parts together, at any values. -/
theorem put_w (σ : Valuation τ sig (Elt Ideal)) : ∃ hc, StableHlo.after putW σ (Proc.devRef .tc main_v35) =
    concatenate S1x5888x1024 1 [⟨S1x1024x1024, σ (Proc.devRef .tc main_v16)⟩, ⟨S1x1024x1024, σ (Proc.devRef .tc main_v12)⟩,
      ⟨S1x1024x1024, σ (Proc.devRef .tc main_v13)⟩, ⟨S1x512x1024, σ (Proc.devRef .tc main_v19)⟩, ⟨S1x512x1024, σ (Proc.devRef .tc main_v22)⟩,
      ⟨S1x512x1024, σ (Proc.devRef .tc main_v5)⟩, ⟨S1x512x1024, σ (Proc.devRef .tc main_v6)⟩, ⟨S1x256x1024, σ (Proc.devRef .tc main_v25)⟩,
      ⟨S1x256x1024, σ (Proc.devRef .tc main_v28)⟩, ⟨S1x128x1024, σ (Proc.devRef .tc main_v31)⟩, ⟨S1x128x1024, σ (Proc.devRef .tc main_v34)⟩] hc := by
  simp only [putW, hostOps0_14, List.drop, List.take, StableHlo.after_cons, StableHlo.after_nil]
  rw [StableHlo.nary_result]
  exact ⟨concatenates_S1x1024x1024_S1x1024x1024_S1x1024x1024_S1x512x1024_S1x512x1024_S1x512x1024_S1x512x1024_S1x256x1024_S1x256x1024_S1x128x1024_S1x128x1024_S1x5888x1024_d1, rfl⟩

theorem put_g (σ : Valuation τ sig (Elt Ideal)) : ∃ hc, StableHlo.after putG σ (Proc.devRef .tc main_v69) =
    concatenate S5888x4112 0 [⟨S1024x4112, σ (Proc.devRef .tc main_v50)⟩, ⟨S1024x4112, σ (Proc.devRef .tc main_v46)⟩,
      ⟨S1024x4112, σ (Proc.devRef .tc main_v47)⟩, ⟨S512x4112, σ (Proc.devRef .tc main_v53)⟩, ⟨S512x4112, σ (Proc.devRef .tc main_v56)⟩,
      ⟨S512x4112, σ (Proc.devRef .tc main_v39)⟩, ⟨S512x4112, σ (Proc.devRef .tc main_v40)⟩, ⟨S256x4112, σ (Proc.devRef .tc main_v59)⟩,
      ⟨S256x4112, σ (Proc.devRef .tc main_v62)⟩, ⟨S128x4112, σ (Proc.devRef .tc main_v65)⟩, ⟨S128x4112, σ (Proc.devRef .tc main_v68)⟩] hc := by
  simp only [putG, hostOps0_28, List.drop, List.take, StableHlo.after_cons, StableHlo.after_nil]
  rw [StableHlo.nary_result]
  exact ⟨concatenates_S1024x4112_S1024x4112_S1024x4112_S512x4112_S512x4112_S512x4112_S512x4112_S256x4112_S256x4112_S128x4112_S128x4112_S5888x4112_d0, rfl⟩

theorem weight (h : σ (Proc.devRef .tc main_arg2) = fun i : S1024x4384.Idx => ((wi (i 0).val (i 1).val : ℝ) : EReal)) :
    StableHlo.after putW (StableHlo.after opsW σ) (Proc.devRef .tc main_v35) = turned wi := by
  funext i
  obtain ⟨hc, e⟩ := put_w (StableHlo.after opsW σ)
  refine (congrFun e i).trans ?_
  have P := partsW h (i 2)
  have hi : (i 1).val < 5888 := (i 1).isLt
  pointwise [turned, pack, joined]
  refine join (fun e => P.attnQ _) fun e => join (fun e => P.gateA _) fun e => join (fun e => P.gateB _) fun e => join (fun e => P.glaQ _) fun e =>
    join (fun e => P.glaK _) fun e => join (fun e => P.glaV _) fun e => join (fun e => P.glaGate _) fun e => join (fun e => P.attnK _) fun e =>
    join (fun e => P.attnV _) fun e => join (fun e => P.low _) fun e => (P.low' _).trans (congrArg (fun s : ℝ => (s : EReal)) (if_pos (by omega)).symm)

theorem grad (h : σ (Proc.devRef .tc main_arg3) = fun i : S4112x4384.Idx => ((dh (i 0).val (i 1).val : ℝ) : EReal)) (i : S5888x4112.Idx) :
    StableHlo.after putG (StableHlo.after opsG σ) (Proc.devRef .tc main_v69) i = ((pack (dh (i 1).val) (i 0).val : ℝ) : EReal) := by
  obtain ⟨hc, e⟩ := put_g (StableHlo.after opsG σ)
  refine (congrFun e i).trans ?_
  have P := partsG h (i 1)
  have hi : (i 0).val < 5888 := (i 0).isLt
  pointwise [pack, joined]
  refine join (fun e => P.attnQ _) fun e => join (fun e => P.gateA _) fun e => join (fun e => P.gateB _) fun e => join (fun e => P.glaQ _) fun e =>
    join (fun e => P.glaK _) fun e => join (fun e => P.glaV _) fun e => join (fun e => P.glaGate _) fun e => join (fun e => P.attnK _) fun e =>
    join (fun e => P.attnV _) fun e => join (fun e => P.low _) fun e => (P.low' _).trans (congrArg (fun s : ℝ => (s : EReal)) (if_pos (by omega)).symm)

end Cert.InProjDzIdeal.Mine

end
-- ==== Proof.InProjDz.Blocks.lean ====
/- The arrays of the backward through the mixer's norm: each block it reads, and what each point leaves in each
   result. -/
module

public import proofs.«01_k».proof.Proof.InProjDz.Packed

@[expose] public section

set_option maxRecDepth 16384

noncomputable section

namespace Cert.InProjDzIdeal.Mine

open Idealize.ShloMosaic Idealize.ShloMosaic.TcCoe Idealize.SL.Sem
open Idealize.ShloMosaic.Pipeline (Dat)
open Cert.InProjDzIdeal Cert.InProjDzIdeal.Gen Cert.Reals

variable (m : (ℓ : Loc nD τ sig) → Buf (Elt Ideal) ℓ)

/-- The arguments are real arrays: the stream `x`, the gain `g`, the projection `wi`, its output's gradient `dh`, the gradient `d`. -/
structure Args (c : Dev nD) (x : ℕ → ℕ → ℝ) (g : ℕ → ℝ) (wi dh d : ℕ → ℕ → ℝ) : Prop where
  x : m ((c.tc : Thread nD τ).loc main_arg0) = fun i : S4112x1024.Idx => ((x (i 0).val (i 1).val : ℝ) : EReal)
  g : m ((c.tc : Thread nD τ).loc main_arg1) = fun i : S1024.Idx => ((g (i 0).val : ℝ) : EReal)
  wi : m ((c.tc : Thread nD τ).loc main_arg2) = fun i : S1024x4384.Idx => ((wi (i 0).val (i 1).val : ℝ) : EReal)
  dh : m ((c.tc : Thread nD τ).loc main_arg3) = fun i : S4112x4384.Idx => ((dh (i 0).val (i 1).val : ℝ) : EReal)
  d : m ((c.tc : Thread nD τ).loc main_arg4) = fun i : S4112x1024.Idx => ((d (i 0).val (i 1).val : ℝ) : EReal)

variable {m}
variable {c : Dev nD} {x : ℕ → ℕ → ℝ} {g : ℕ → ℝ} {wi dh d : ℕ → ℕ → ℝ} (A : Args m c x g wi dh d)

theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

theorem V_ops (b : Ref sig .tc) : V m c b = StableHlo.after (opsG ++ (putG ++ restG)) (fun b => m (c, b)) (Proc.devRef .tc b) := rfl

theorem V_opsW (b : Ref sig .tc) : V m c b = StableHlo.after (opsW ++ (putW ++ restW)) (fun b => m (c, b)) (Proc.devRef .tc b) := rfl

/-- The lines after the weight's stack leave it. -/
theorem keep (σ : Valuation τ sig (Elt Ideal)) : StableHlo.after restW σ (Proc.devRef .tc main_v35) = σ (Proc.devRef .tc main_v35) := by
  simp only [restW, lines, hostOps0_14, hostOps0_15, hostOps0_16, hostOps0_17, hostOps0_18, hostOps0_19, hostOps0_20, hostOps0_21, hostOps0_22, hostOps0_23,
    hostOps0_24, hostOps0_25, hostOps0_26, hostOps0_27, hostOps0_28, List.flatten, List.append_eq, List.drop,
    List.cons_append, List.nil_append, List.append_nil]
  entry_read
  rfl

/-- The gradient's stack turned, padded with rows in front and cast. -/
theorem rest (σ : Valuation τ sig (Elt Ideal)) (hg : ∀ i : S5888x4112.Idx, σ (Proc.devRef .tc main_v69) i = ((pack (dh (i 1).val) (i 0).val : ℝ) : EReal))
    (i : S4224x5888.Idx) : StableHlo.after restG σ (Proc.devRef .tc main_v73) i = ((pack (nul dh (i 0).val) (i 1).val : ℝ) : EReal) := by
  simp only [restG, hostOps0_28, List.drop]
  entry_read
  pointwise
  rw [← nul_pack]
  exact nul_layout (fun n => pack (dh n)) fun e => hg _

include A in
theorem V_wi : V m c main_v35 = turned wi := by
  rw [V_opsW, StableHlo.after_append, StableHlo.after_append]
  exact (keep _).trans (weight A.wi)

include A in
theorem V_dh (i : S4224x5888.Idx) : V m c main_v73 i = ((pack (nul dh (i 0).val) (i 1).val : ℝ) : EReal) := by
  rw [V_ops, StableHlo.after_append, StableHlo.after_append]
  exact rest _ (grad A.dh) i

include A in
/-- The arrays that are only padded, and the gain. -/
theorem V_plain : (∀ i : S4224x1024.Idx, V m c main_v75 i = ((nul x (i 0).val (i 1).val : ℝ) : EReal))
    ∧ (∀ i : S4224x1024.Idx, V m c main_v77 i = ((nul d (i 0).val (i 1).val : ℝ) : EReal)) ∧ ∀ i : S1x1024.Idx, V m c main_v78 i = row g i := by
  refine ⟨fun i => ?_, fun i => ?_, fun i => ?_⟩
  all_goals
    rw [V_ops]
    simp only [opsG, putG, restG, lines, hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19,
      hostOps0_20, hostOps0_21, hostOps0_22, hostOps0_23, hostOps0_24, hostOps0_25, hostOps0_26, hostOps0_27, hostOps0_28, List.flatten,
      List.append_eq, List.take, List.drop, List.cons_append, List.nil_append, List.append_nil]
    entry_read
    pointwise
  · exact nul_layout x fun e => congrFun A.x _
  · exact nul_layout d fun e => congrFun A.d _
  · exact congrFun A.g _

set_option maxHeartbeats 2000000 in
include A in
theorem reads (t : Fin cfg0.N) : Reads m c t (fun n => nul dh (528 * t.val + n)) wi (fun n p => nul x (528 * t.val + n) p)
    (fun n p => nul d (528 * t.val + n) p) g := by
  constructor
  · funext y
    blk_simp [iblk]
    rw [V_dh A]
    blk_simp [packed, idx t]
    exact congrArg (fun n => ((pack (nul dh n) (y 1).val : ℝ) : EReal)) (by rw [mul_comm])
  · funext y
    blk_simp [iblk]
    rw [V_wi A]
    blk_simp [turned, idx t]
  · funext y
    blk_simp [iblk]
    rw [(V_plain A).1]
    blk_simp [rows, idx t]
    exact congrArg₂ (fun m n => ((nul x m n : ℝ) : EReal)) (by rw [mul_comm]) rfl
  · funext y
    blk_simp [iblk]
    rw [(V_plain A).2.1]
    blk_simp [rows, idx t]
    exact congrArg₂ (fun m n => ((nul d m n : ℝ) : EReal)) (by rw [mul_comm]) rfl
  · funext y
    blk_simp [iblk]
    rw [(V_plain A).2.2]
    blk_simp [row, idx t]

/-- The padded cotangent. -/
theorem dz_nul : dz (nul dh) wi = nul (dz dh wi) := by
  funext n p
  by_cases e : n < 112
  · simp only [dz, nul, if_pos e, zero_mul, Finset.sum_const_zero]
  · simp only [dz, nul, if_neg e]

/-- The stream's gradient. -/
def dRes (x : ℕ → ℕ → ℝ) (g : ℕ → ℝ) (wi dh d : ℕ → ℕ → ℝ) (n p : ℕ) : ℝ := d n p + dNorm x (dz dh wi) g n p

include A in
theorem point (t : Fin cfg0.N) (y : S528x1024.Idx) : (outsAt0 m c t.val t.isLt).1 y
    = ((nul (dRes x g wi dh d) (528 * t.val + (y 0).val) (y 1).val : ℝ) : EReal) := by
  refine (res_at (reads A t) y).trans (congrArg (fun s : ℝ => (s : EReal)) ?_)
  refine Eq.trans ?_ (nul_dNorm x (dz dh wi) d g _ _)
  rw [← dz_nul]
  rfl

include A in
/-- The stream's gradient, as the region leaves it. -/
theorem final5 : (dats m 0 c).arrAt 5 cfg0.N = fun i : S4224x1024.Idx => ((nul (dRes x g wi dh d) (i 0).val (i 1).val : ℝ) : EReal) := by
  refine (dats m 0 c).arrAt_eq_of_covers 5 _ (by decide +kernel) fun t _ y => ?_
  blk_simp
  rw [after0_5]
  refine (point A t y).trans ?_
  blk_simp [idx t]
  rw [mul_comm]

include A in
/-- The same in bfloat16. -/
theorem final6 : (dats m 0 c).arrAt 6 cfg0.N = fun i : S4224x1024.Idx => ((nul (dRes x g wi dh d) (i 0).val (i 1).val : ℝ) : EReal) := by
  refine (dats m 0 c).arrAt_eq_of_covers 6 _ (by decide +kernel) fun t _ y => ?_
  blk_simp
  rw [after0_6]
  refine (cast_at y).trans ((point A t y).trans ?_)
  blk_simp [idx t]
  rw [mul_comm]

include A in
/-- The running sum of the gain's gradient after each point. -/
theorem acc : ∀ (n : ℕ) (hn : n < cfg0.N) (y : S1x1024.Idx), (outsAt0 m c n hn).2.2 y
    = ((∑ p ∈ Finset.range (n + 1), ∑ r : Fin 528, dGainAt (nul x) (dz (nul dh) wi) (528 * p + r.val) (y 1).val : ℝ) : EReal) := by
  intro n
  induction n with
  | zero =>
    intro hn y
    refine (gain_at0 (reads A ⟨0, hn⟩) (by simp) y).trans ?_
    rw [zero_add, Finset.sum_range_one]
    rfl
  | succ n ih =>
    intro hn y
    refine (gain_at1 (reads A ⟨n + 1, hn⟩) (by simp) y).trans ?_
    rw [Finset.sum_range_succ, EReal.coe_add]
    exact congrArg₂ (· + ·) (ih (Nat.lt_of_succ_lt hn) y) rfl

theorem flush7 : ∀ t : Fin cfg0.N, (cfg0.win 7).flush t = true → t.val = 7 :=
  (by decide +kernel : ∀ t : Fin grid0.N, _)

include A in
/-- The gain's gradient, as the region leaves it. -/
theorem final7 : (dats m 0 c).arrAt 7 cfg0.N = row fun p => ∑ n : Fin 4112, dGainAt x (dz dh wi) n.val p := by
  refine (dats m 0 c).arrAt_eq_of_covers 7 _ (by decide +kernel) fun t ht y => ?_
  blk_simp
  rw [after0_7]
  refine (acc A t.val t.isLt y).trans ?_
  rw [flush7 t ht, dz_nul, dGain_sum]
  blk_simp [row, idx t]

end Cert.InProjDzIdeal.Mine

end
-- ==== Proof.InProjDz.Ref.lean ====
/- The reference of the backward through the mixer's norm, stage by stage, at arrays of real numbers. -/
module

public import proofs.«01_k».proof.Proof.InProjDz.Blocks
public import proofs.«01_k».proof.Proof.Gen.InProjDzRefIdeal.Read

@[expose] public section

set_option maxRecDepth 16384

noncomputable section

namespace Cert.InProjDzRefIdeal.Mine

open Idealize.ShloMosaic Idealize.ShloMosaic.TcCoe Idealize.SL.Sem
open Cert.InProjDzRefIdeal Cert.InProjDzRefIdeal.Gen Cert.InProjDzRefIdeal.Read Cert.Reals
open Cert.InProjDzIdeal.Mine (dz dRes)

variable (x : ℕ → ℕ → ℝ) (g : ℕ → ℝ) (wi dh d : ℕ → ℕ → ℝ)

/-- The arguments as arrays. -/
def R2 (a : ℕ → ℕ → ℝ) : (⟨S4112x1024, .f32⟩ : BufTy).Contents (Elt Ideal) := fun i : S4112x1024.Idx => ((a (i 0).val (i 1).val : ℝ) : EReal)
def H (a : ℕ → ℕ → ℝ) : (⟨S4112x4384, .f32⟩ : BufTy).Contents (Elt Ideal) := fun i : S4112x4384.Idx => ((a (i 0).val (i 1).val : ℝ) : EReal)
def W (a : ℕ → ℕ → ℝ) : (⟨S1024x4384, .f32⟩ : BufTy).Contents (Elt Ideal) := fun i : S1024x4384.Idx => ((a (i 0).val (i 1).val : ℝ) : EReal)
def G (g : ℕ → ℝ) : (⟨S1024, .f32⟩ : BufTy).Contents (Elt Ideal) := fun i : S1024.Idx => ((g (i 0).val : ℝ) : EReal)

theorem v6 (i : S4112x1.Idx) : val_main_v6 (F := Ideal) (R2 x) i = ((ms 1024 (fun k : Fin 1024 => x (i 0).val k.val) : ℝ) : EReal) := by
  simp only [val_main_v6_apply, val_main_v5_apply, val_main_cst_1_apply, val_main_v4_apply, val_main_v3_apply, val_main_cst_0_apply,
    val_main_v2_apply, val_main_v1_apply, val_main_cst_apply, val_main_v0_apply]
  pointwise [R2]
  rw [k_f32, eps_f32]
  simp only [← EReal.coe_mul, coe_sum]
  rw [div_coe_coe (by norm_num), ← EReal.coe_add]
  rfl

theorem v7 (i : S4112x1.Idx) : val_main_v7 (F := Ideal) (R2 x) i = ((rn x (i 0).val : ℝ) : EReal) := by
  rw [val_main_v7_apply, v6]
  exact rsqrt_pos (ms_pos (by norm_num) _)

theorem v10 (i : S4112x1.Idx) : val_main_v10 (F := Ideal) (R2 x) i
    = ((-(1 / 2) * (rn x (i 0).val * rn x (i 0).val * rn x (i 0).val) : ℝ) : EReal) := by
  simp only [val_main_v10_apply, val_main_v9_apply, val_main_cst_2_apply, val_main_v8_apply, v6, v7]
  pointwise
  rw [neg_half_f32, div_coe_coe (ms_pos (by norm_num) _).ne', ← EReal.coe_mul]
  exact congrArg (fun s : ℝ => ((-(1 / 2) * s : ℝ) : EReal)) (rt_div_ms (by norm_num) _)

theorem v17 (i : S4112x1024.Idx) : val_main_v17 (F := Ideal) (W wi) (H dh) i = ((dz dh wi (i 0).val (i 1).val : ℝ) : EReal) := by
  rw [val_main_v17_apply]
  exact sum_mul_coe (fun l => rfl) fun l => rfl

theorem v22 (i : S4112x1024.Idx) : val_main_v22 (F := Ideal) (G g) (W wi) (H dh) i
    = ((dz dh wi (i 0).val (i 1).val * g (i 1).val : ℝ) : EReal) := by
  simp only [val_main_v22_apply, v17, val_main_v21_apply, val_main_v13_apply]
  pointwise [G]
  rw [← EReal.coe_mul]

theorem v41 : val_main_v41 (F := Ideal) (R2 x) (W wi) (H dh) = fun i : S1x1024.Idx =>
    ((∑ n : Fin 4112, dGainAt x (dz dh wi) n.val (i 1).val : ℝ) : EReal) := by
  funext i
  simp only [val_main_v41_apply, val_main_v23_apply, val_main_cst_4_apply, val_main_v20_apply, val_main_v19_apply, val_main_cst_3_apply,
    val_main_v18_apply, v17, val_main_v12_apply, val_main_v11_apply, v7]
  pointwise [R2]
  simp only [Finset.univ_unique, Finset.sum_singleton, ← EReal.coe_mul, coe_sum]
  rfl

theorem v32 (i : S4112x1.Idx) : val_main_v32 (F := Ideal) (R2 x) (G g) (W wi) (H dh) i
    = ((rootBack x (dz dh wi) g (i 0).val : ℝ) : EReal) := by
  simp only [val_main_v32_apply, val_main_v31_apply, val_main_cst_6_apply, val_main_v30_apply, v10, val_main_v26_apply, val_main_v25_apply,
    val_main_cst_5_apply, val_main_v24_apply, v22]
  pointwise [R2]
  rw [k_f32]
  simp only [← EReal.coe_mul, coe_sum]
  rw [div_coe_coe (by norm_num)]
  rfl

theorem v38 (i : S4112x1024.Idx) : val_main_v38 (F := Ideal) (R2 x) (G g) (W wi) (H dh) (R2 d) i
    = ((dRes x g wi dh d (i 0).val (i 1).val : ℝ) : EReal) := by
  simp only [val_main_v38_apply, val_main_v37_apply, val_main_v36_apply, val_main_v35_apply, val_main_v34_apply, val_main_v33_apply,
    val_main_cst_7_apply, val_main_v29_apply, val_main_v28_apply, val_main_v27_apply, v7, v22, v32]
  pointwise [R2]
  simp only [Finset.univ_unique, Finset.sum_singleton, ← EReal.coe_mul, ← EReal.coe_add]
  exact congrArg (fun s : ℝ => (s : EReal)) (dNorm_eq x (dz dh wi) d g _ _)

theorem v39 : val_main_v39 (F := Ideal) (R2 x) (G g) (W wi) (H dh) (R2 d) = fun i : S4224x1024.Idx =>
    ((nul (dRes x g wi dh d) (i 0).val (i 1).val : ℝ) : EReal) := by
  funext i
  unfold val_main_v39
  pointwise
  idx_bounds
  exact nul_pad _ (by omega) (fun e => v38 x g wi dh d _) (by unfold val_main_call0_v0; pointwise; rfl)

theorem v40 : val_main_v40 (F := Ideal) (R2 x) (G g) (W wi) (H dh) (R2 d) = fun i : S4224x1024.Idx =>
    ((nul (dRes x g wi dh d) (i 0).val (i 1).val : ℝ) : EReal) :=
  v39 x g wi dh d

end Cert.InProjDzRefIdeal.Mine

end
-- ==== Proof.InProjDz.Claims.lean ====
/- The claims about the backward through the mixer's norm: under real arguments the three gradients of the kernel are
   those of the reference. -/
module

public import proofs.«01_k».proof.Defs
public import proofs.«01_k».proof.Proof.InProjDz.Ref
public import proofs.«01_k».proof.Proof.Gen.InProjDz.Frame
public import proofs.«01_k».proof.Proof.Gen.InProjDzIdeal.Value
public import proofs.«01_k».proof.Proof.Gen.InProjDzRefIdeal.Run
public import proofs.«01_k».proof.Proof.Gen.Pre_finite10

@[expose] public section

set_option maxRecDepth 16384

noncomputable section

namespace Cert.InProjDzClaims

open Idealize.ShloMosaic Idealize.ShloMosaic.TcCoe Idealize.SL.Sem
open Cert.InProjDzIdeal.Mine Cert.Reals
open Cert.InProjDzRefIdeal.Mine (v39 v40 v41)

theorem frame_p : Cert.quiescent_InProjDz := fun m ρ _ => Cert.InProjDz.Gen.frame m ρ

theorem frame_pi : Cert.quiescent_InProjDzIdeal := fun m ρ _ => Cert.InProjDzIdeal.Gen.frame m ρ

theorem frame_pi_pre : Cert.quiescent_InProjDzIdeal_pre_finite10 := fun m ρ _ => Cert.InProjDzIdeal.Gen.frame m ρ

theorem frame_ri : Cert.quiescent_InProjDzRefIdeal := fun m ρ _ =>
  (θ_run Cert.InProjDzRefIdeal.defs _ _).mono (fun r h => ⟨fun c => (h c).2.2.2, sem_eq_zero_of_no_sems (by decide) r.2⟩)
    (Cert.InProjDzRefIdeal.Value.run (F := Ideal) m ρ)

theorem frame_ri_pre : Cert.quiescent_InProjDzRefIdeal_pre_finite10 := fun m ρ _ => frame_ri m ρ trivial

theorem preserves : Cert.preserves_InProjDz_InProjDzIdeal := trivial

/-- Under the precondition the arguments are arrays of real numbers. -/
theorem args (m : (ℓ : Loc InProjDzIdeal.nD InProjDzIdeal.τ InProjDzIdeal.sig) → Buf (Elt Ideal) ℓ)
    (h : Pre_InProjDzIdeal_finite10 m) (c : Dev InProjDzIdeal.nD) : ∃ x g wi dh d, Args m c x g wi dh d := by
  obtain ⟨h0, h1, h2, h3, h4⟩ := h c
  obtain ⟨x, hx⟩ := exists_real h0
  obtain ⟨g, hg⟩ := exists_real h1
  obtain ⟨wi, hwi⟩ := exists_real h2
  obtain ⟨dh, hdh⟩ := exists_real h3
  obtain ⟨d, hd⟩ := exists_real h4
  exact ⟨byCoords x, byCoord g, byCoords wi, byCoords dh, byCoords d, hx.trans (byCoords_spec x),
    hg.trans (byCoord_spec g), hwi.trans (byCoords_spec wi), hdh.trans (byCoords_spec dh), hd.trans (byCoords_spec d)⟩

set_option maxHeartbeats 4000000 in
theorem algebraic : Cert.algebraic_InProjDzIdeal_InProjDzRefIdeal_pre_finite10 := by
  intro m g m' g' hpre hargs
  refine ⟨fun c => (Cert.InProjDzIdeal.Gen.dats m 0 c).arrAt 5 Cert.InProjDzIdeal.cfg0.N,
    fun c => (Cert.InProjDzIdeal.Gen.dats m 0 c).arrAt 6 Cert.InProjDzIdeal.cfg0.N,
    fun c => (Cert.InProjDzIdeal.Gen.dats m 0 c).arrAt 7 Cert.InProjDzIdeal.cfg0.N,
    Cert.InProjDzIdeal.Value.run_blocks m g,
    (θ_run Cert.InProjDzRefIdeal.defs _ _).mono (fun r h c => ?_) (Cert.InProjDzRefIdeal.Value.run (F := Ideal) m' g')⟩
  obtain ⟨h39, h40, h41, hr⟩ := h c
  obtain ⟨x, gn, wi, dh, d, A⟩ := args m hpre c
  obtain ⟨a0, a1, a2, a3, a4⟩ := hargs c
  have b0 := a0.trans A.x
  have b1 := a1.trans A.g
  have b2 := a2.trans A.wi
  have b3 := a3.trans A.dh
  have b4 := a4.trans A.d
  refine ⟨?_, ?_, ?_, hr⟩
  · refine h39.trans ((Cert.InProjDzRefIdeal.Read.val_main_v39_eq ..).trans (Eq.trans ?_ (final5 A).symm))
    rw [b0, b1, b2, b3, b4]
    exact v39 x gn wi dh d
  · refine h40.trans ((Cert.InProjDzRefIdeal.Read.val_main_v40_eq ..).trans (Eq.trans ?_ (final6 A).symm))
    rw [b0, b1, b2, b3, b4]
    exact v40 x gn wi dh d
  · refine h41.trans ((Cert.InProjDzRefIdeal.Read.val_main_v41_eq ..).trans (Eq.trans ?_ (final7 A).symm))
    rw [b0, b2, b3]
    exact v41 x wi dh

end Cert.InProjDzClaims

end
-- ==== Proof.AttnPrepBwd.Turn.lean ====
/- A head's rotation and norm, differentiated, over the real numbers: 64 numbers in 128 columns. -/
module

public import proofs.«01_k».proof.Proof.Padded

@[expose] public section

noncomputable section

namespace Cert.Reals

open Idealize.ShloMosaic

/-- The columns of head `h`. -/
def headOf (h : ℕ) (a : ℕ → ℕ → ℝ) (n p : ℕ) : ℝ := a n (128 * h + p)

/-- The reciprocal root mean square of a head's row `n`. -/
def rh (x : ℕ → ℕ → ℝ) (n : ℕ) : ℝ := rt 64 fun k : Fin 128 => x n k.val

/-- The rotation turned back: every column gets its own number times `C`, and what stands 16 columns before and 16 columns
    behind (around the row's end), times `A` and `B`. -/
def turnBack (d C A B : ℕ → ℕ → ℝ) (n p : ℕ) : ℝ :=
  d n p * C n p + d n ((p + 112) % 128) * A n ((p + 112) % 128) + d n ((p + 16) % 128) * B n ((p + 16) % 128)

/-- The mean of a normed row times the cotangent `w` of the row with its gain `g`. -/
def meanHead (x w : ℕ → ℕ → ℝ) (g : ℕ → ℝ) (n : ℕ) : ℝ := (∑ l : Fin 128, w n l.val * g l.val * (x n l.val * rh x n)) * (1 / 64)

/-- The gradient before the norm. -/
def dHead (x w : ℕ → ℕ → ℝ) (g : ℕ → ℝ) (n p : ℕ) : ℝ := rh x n * (w n p * g p - x n p * rh x n * meanHead x w g n)

/-- A row's part of the gain's gradient. -/
def gainHead (x w : ℕ → ℕ → ℝ) (n p : ℕ) : ℝ := w n p * (x n p * rh x n)

end Cert.Reals

end
-- ==== Proof.AttnPrepBwd.Strip.lean ====
/- One head's strip of a block: what the body computes from rows of real numbers. -/
module

public import proofs.«01_k».proof.Proof.Gates
public import proofs.«01_k».proof.Proof.AttnPrepBwd.Turn
public import proofs.«01_k».proof.Proof.Gen.AttnPrepBwdIdeal.Value

@[expose] public section

set_option maxRecDepth 16384

noncomputable section

namespace Cert.AttnPrepBwdIdeal.Mine

open Idealize.ShloMosaic Idealize.ShloMosaic.TcCoe Idealize.SL.Sem
open Cert.AttnPrepBwdIdeal Cert.AttnPrepBwdIdeal.Gen Cert.Reals

/-- A strip of one head, a column of numbers, a row of weights. -/
def strip (a : ℕ → ℕ → ℝ) : FVec Ideal S384x128 .f32 := fun i => ((a (i 0).val (i 1).val : ℝ) : EReal)
def thin (a : ℕ → ℕ → ℝ) : FVec Ideal S384x128 .bf16 := fun i => ((a (i 0).val (i 1).val : ℝ) : EReal)
def col (a : ℕ → ℝ) : FVec Ideal S384x1 .f32 := fun i => ((a (i 0).val : ℝ) : EReal)
def lane (a : ℕ → ℝ) : FVec Ideal S1x128 .f32 := fun i => ((a (i 1).val : ℝ) : EReal)

theorem c64th_f32 : Ideal.ofBits .f32 0x3C800000#32 = ((1 / 64 : ℝ) : EReal) := by
  simp [Ideal.ofBits, Ideal.ieee, -EReal.coe_mul]; norm_num

theorem q_scale_val : Named.named (F := Ideal) κ "q_scale" (φ := .f32) 0x3E38AA3B#32 = ((8⁻¹ * (Real.log 2)⁻¹ : ℝ) : EReal) := by
  simp [Named.named, κ]

/-- The body's head, step by step: the reciprocal root of the mean square, the normed row, the rotation turned back, the
    gradient before the norm, and the gain's gradient. -/
def wide (v : FVec Ideal S384x128 .bf16) : FVec Ideal S384x128 .f32 :=
  extf .f32 (shapeCast S384x128 v shapeCasts_S384x128_S384x128) bitsLt_bf16_f32

def rootOf (x : FVec Ideal S384x128 .f32) : FVec Ideal S384x1 .f32 :=
  rsqrt (addf (mulf (shapeCast S384x1 (multiReduction .add [1] S384 (mulf x x) 0x00000000#32 reduces_S384x128_S384 (.inl rfl) rfl)
    shapeCasts_S384_S384x1) (broadcast S384x1 (Scalar.ofBits .f32 0x3C800000#32))) (broadcast S384x1 (Scalar.ofBits .f32 0x358637BD#32)))

def normOf (x : FVec Ideal S384x128 .f32) : FVec Ideal S384x128 .f32 :=
  mulf x (broadcastTo S384x128 (rootOf x) broadcasts_S384x1_S384x128)

def turnOf (s : Ideal .f32) (d c a b : FVec Ideal S384x128 .f32) : FVec Ideal S384x128 .f32 :=
  have e := mulf (shapeCast S384x128 d shapeCasts_S384x128_S384x128) (broadcast S384x128 s)
  addf (addf (mulf e (shapeCast S384x128 c shapeCasts_S384x128_S384x128))
      (dynamicRotate 1 16#32 none (mulf e (shapeCast S384x128 a shapeCasts_S384x128_S384x128)) rotates_S384x128_d1))
    (dynamicRotate 1 112#32 none (mulf e (shapeCast S384x128 b shapeCasts_S384x128_S384x128)) rotates_S384x128_d1)

def backOf (x w : FVec Ideal S384x128 .f32) (g : FVec Ideal S1x128 .f32) : FVec Ideal S384x128 .bf16 :=
  have u := mulf w (broadcastTo S384x128 (shapeCast S1x128 g shapeCasts_S1x128_S1x128) broadcasts_S1x128_S384x128)
  have t := mulf (shapeCast S384x1 (multiReduction .add [1] S384 (mulf u (normOf x)) 0x00000000#32 reduces_S384x128_S384 (.inl rfl) rfl)
    shapeCasts_S384_S384x1) (broadcast S384x1 (Scalar.ofBits .f32 0x3C800000#32))
  truncf .bf16 (mulf (broadcastTo S384x128 (rootOf x) broadcasts_S384x1_S384x128)
    (subf u (mulf (normOf x) (broadcastTo S384x128 t broadcasts_S384x1_S384x128)))) bitsLt_bf16_f32

def gainOf (x w : FVec Ideal S384x128 .f32) : FVec Ideal S1x128 .f32 :=
  shapeCast S1x128 (multiReduction .add [0] S128 (mulf w (normOf x)) 0x00000000#32 reduces_S384x128_S128 (.inl rfl) rfl) shapeCasts_S128_S1x128

variable (x w d c a b : ℕ → ℕ → ℝ) (g : ℕ → ℝ) (s : ℝ)

theorem wide_apply : wide (thin x) = strip x := by
  funext i
  pointwise [wide]
  rfl

theorem rootOf_apply : rootOf (strip x) = col (rh x) := by
  funext i
  have h : rootOf (strip x) i = Ideal.rsqrt ((ms 64 (fun k : Fin 128 => x (i 0).val k.val) : ℝ) : EReal) := by
    pointwise [rootOf, strip]
    rw [c64th_f32, eps_f32]
    simp only [← EReal.coe_mul, coe_sum]
    rw [← EReal.coe_add, mul_one_div]
    rfl
  rw [h, rsqrt_pos (ms_pos (by norm_num) _)]
  rfl

theorem normOf_apply : normOf (strip x) = strip fun n p => x n p * rh x n := by
  funext i
  pointwise [normOf]
  rw [rootOf_apply]
  simp only [strip, col, ← EReal.coe_mul]
  rfl

theorem turnOf_apply : turnOf (s : EReal) (strip d) (strip c) (strip a) (strip b)
    = strip (turnBack (fun n p => d n p * s) c a b) := by
  funext i
  pointwise [turnOf, strip]
  simp only [← EReal.coe_mul, ← EReal.coe_add]
  rfl

theorem backOf_apply : backOf (strip x) (strip w) (lane g) = thin (dHead x w g) := by
  funext i
  pointwise [backOf]
  rw [normOf_apply, rootOf_apply]
  simp only [strip, lane, col, ← EReal.coe_mul, coe_sum, c64th_f32]
  simp only [← EReal.coe_mul, ← EReal.coe_sub]
  rfl

theorem gainOf_apply : gainOf (strip x) (strip w) = lane fun p => ∑ n : Fin 384, gainHead x w n.val p := by
  funext i
  pointwise [gainOf]
  rw [normOf_apply]
  simp only [strip, lane, ← EReal.coe_mul, coe_sum]
  rfl

end Cert.AttnPrepBwdIdeal.Mine

end
-- ==== Proof.AttnPrepBwd.Point.lean ====
/- What a point of the region leaves, from blocks of real numbers. -/
module

public import proofs.«01_k».proof.Proof.AttnPrepBwd.Strip

@[expose] public section

set_option maxRecDepth 16384

noncomputable section

namespace Cert.AttnPrepBwdIdeal.Mine

open Idealize.ShloMosaic Idealize.ShloMosaic.TcCoe Idealize.SL.Sem
open Idealize.ShloMosaic.Pipeline (Dat)
open Cert.AttnPrepBwdIdeal Cert.AttnPrepBwdIdeal.Gen Cert.Reals

/-- The cotangent of head `h`'s normed and gained row: `s` times the head's part of `d`, turned back. -/
def cotHead (s : ℝ) (d C A B : ℕ → ℕ → ℝ) (h : ℕ) : ℕ → ℕ → ℝ := turnBack (fun n p => headOf h d n p * s) C A B

/-- The gradient before the norms, at a row and a column; and a row's part of the gain's gradient, of `k` heads together. -/
def dOut (s : ℝ) (x d C A B : ℕ → ℕ → ℝ) (g : ℕ → ℝ) (n p : ℕ) : ℝ :=
  dHead (headOf (p / 128) x) (cotHead s d C A B (p / 128)) g n (p % 128)

def dGain (k : ℕ) (s : ℝ) (x d C A B : ℕ → ℕ → ℝ) (n p : ℕ) : ℝ :=
  ∑ h ∈ Finset.range k, gainHead (headOf h x) (cotHead s d C A B h) n p

/-- Blocks of eight heads and of two. -/
def wideQ (a : ℕ → ℕ → ℝ) : Vec Ideal S384x1024 .f32 := fun i => ((a (i 0).val (i 1).val : ℝ) : EReal)
def thinQ (a : ℕ → ℕ → ℝ) : Vec Ideal S384x1024 .bf16 := fun i => ((a (i 0).val (i 1).val : ℝ) : EReal)
def wideK (a : ℕ → ℕ → ℝ) : Vec Ideal S384x256 .f32 := fun i => ((a (i 0).val (i 1).val : ℝ) : EReal)
def thinK (a : ℕ → ℕ → ℝ) : Vec Ideal S384x256 .bf16 := fun i => ((a (i 0).val (i 1).val : ℝ) : EReal)

section Parts

variable (a : ℕ → ℕ → ℝ) (p h : ℕ) (hp : p = 128 * h)

include hp in
theorem ld_wideQ (inb) : View.ld (Val := Elt Ideal) (e' := .f32) (wideQ a) (Rect.unit (s := S384x1024) ![0, p] S384x128.size inb)
    = strip (headOf h a) := by
  funext x
  refine congrArg₂ (fun m n => ((a m n : ℝ) : EReal)) ?_ ?_
  · rw [Rect.idx_unit_val]; exact Nat.zero_add _
  · rw [Rect.idx_unit_val, ← hp]; rfl

include hp in
theorem ld_thinQ (inb) : View.ld (Val := Elt Ideal) (e' := .bf16) (thinQ a) (Rect.unit (s := S384x1024) ![0, p] S384x128.size inb)
    = thin (headOf h a) := by
  funext x
  refine congrArg₂ (fun m n => ((a m n : ℝ) : EReal)) ?_ ?_
  · rw [Rect.idx_unit_val]; exact Nat.zero_add _
  · rw [Rect.idx_unit_val, ← hp]; rfl

include hp in
theorem ld_wideK (inb) : View.ld (Val := Elt Ideal) (e' := .f32) (wideK a) (Rect.unit (s := S384x256) ![0, p] S384x128.size inb)
    = strip (headOf h a) := by
  funext x
  refine congrArg₂ (fun m n => ((a m n : ℝ) : EReal)) ?_ ?_
  · rw [Rect.idx_unit_val]; exact Nat.zero_add _
  · rw [Rect.idx_unit_val, ← hp]; rfl

include hp in
theorem ld_thinK (inb) : View.ld (Val := Elt Ideal) (e' := .bf16) (thinK a) (Rect.unit (s := S384x256) ![0, p] S384x128.size inb)
    = thin (headOf h a) := by
  funext x
  refine congrArg₂ (fun m n => ((a m n : ℝ) : EReal)) ?_ ?_
  · rw [Rect.idx_unit_val]; exact Nat.zero_add _
  · rw [Rect.idx_unit_val, ← hp]; rfl

end Parts

/-- The scales of the queries and of the keys. -/
def sQ : Ideal .f32 := Named.named κ "q_scale" 0x3E38AA3B#32
def sK : Ideal .f32 := Scalar.ofBits .f32 0x3F800000#32
def rQ : ℝ := 8⁻¹ * (Real.log 2)⁻¹

theorem sQ_val : sQ = ((rQ : ℝ) : EReal) := q_scale_val
theorem sK_val : sK = ((1 : ℝ) : EReal) := one_f32

/-- A head's gradient and its part of the gain's gradient, from the parts of the blocks. -/
def headBack (s : Ideal .f32) (x d C A B : ℕ → ℕ → ℝ) (g : ℕ → ℝ) (h : ℕ) : FVec Ideal S384x128 .bf16 :=
  backOf (wide (thin (headOf h x))) (turnOf s (strip (headOf h d)) (strip C) (strip A) (strip B)) (lane g)

def headGain (s : Ideal .f32) (x d C A B : ℕ → ℕ → ℝ) (h : ℕ) : FVec Ideal S1x128 .f32 :=
  gainOf (wide (thin (headOf h x))) (turnOf s (strip (headOf h d)) (strip C) (strip A) (strip B))

variable {s : Ideal .f32} {r : ℝ} (hs : s = (r : EReal)) (x y d e C A B : ℕ → ℕ → ℝ) (g g' : ℕ → ℝ)

include hs in
theorem headBack_at (h : ℕ) (i : S384x128.Idx) {n p : ℕ} (hn : n = (i 0).val) (hp : p = 128 * h + (i 1).val) :
    headBack s x d C A B g h i = ((dOut r x d C A B g n p : ℝ) : EReal) := by
  have hi : (i 1).val < 128 := (i 1).isLt
  have e : p / 128 = h := by omega
  have e' : p % 128 = (i 1).val := by omega
  rw [headBack, wide_apply, hs, turnOf_apply, backOf_apply, dOut, e, e', hn]
  rfl

include hs in
theorem headGain_eq (h : ℕ) : headGain s x d C A B h = lane fun p => ∑ n : Fin 384, gainHead (headOf h x) (cotHead r d C A B h) n.val p := by
  rw [headGain, wide_apply, hs, turnOf_apply, gainOf_apply]
  rfl

/-- The heads' parts together. -/
def zeros : FVec Ideal S1x128 .f32 := broadcast S1x128 (Scalar.ofBits .f32 0x00000000#32)

def gains (s : Ideal .f32) (x d C A B : ℕ → ℕ → ℝ) : ℕ → FVec Ideal S1x128 .f32
  | 0 => zeros
  | k + 1 => addf (gains s x d C A B k) (headGain s x d C A B k)

include hs in
theorem gains_eq : ∀ k, gains s x d C A B k = lane fun p => ∑ n : Fin 384, dGain k r x d C A B n.val p
  | 0 => by
    funext i
    simp only [dGain, Finset.sum_range_zero, Finset.sum_const_zero, lane]
    pointwise [gains, zeros]
    try rfl
  | k + 1 => by
    funext i
    show gains s x d C A B k i + headGain s x d C A B k i = _
    rw [gains_eq k, headGain_eq hs]
    simp only [lane, ← EReal.coe_add, dGain, Finset.sum_range_succ, Finset.sum_add_distrib]

variable {m : (ℓ : Loc nD τ sig) → Buf (Elt Ideal) ℓ} {c : Dev nD} {t : Fin cfg0.N}

/-- What the point reads. -/
structure Reads (m : (ℓ : Loc nD τ sig) → Buf (Elt Ideal) ℓ) (c : Dev nD) (t : Fin cfg0.N) (x y d e C A B : ℕ → ℕ → ℝ) (g g' : ℕ → ℝ) :
    Prop where
  d : iblk m c 0 t = wideQ d
  e : iblk m c 1 t = wideK e
  x : X0_2 m c t = thinQ x
  y : iblk m c 3 t = thinK y
  g : iblk m c 4 t = lane g
  g' : iblk m c 5 t = lane g'
  C : iblk m c 6 t = strip C
  A : iblk m c 7 t = strip A
  B : iblk m c 8 t = strip B

variable {x y d e C A B g g'} (R : Reads m c t x y d e C A B g g')

set_option maxHeartbeats 4000000 in
include R in
theorem outQ_at (i : S384x1024.Idx) : (outsAt0 m c t.val t.isLt).1 i = ((dOut rQ x d C A B g (i 0).val (i 1).val : ℝ) : EReal) := by
  by_cases h : 1 ≤ t.val
  on_goal 1 =>
    have hN : t.val < 11 := t.isLt
    rw [outsAt0_B m c t (by omega) h (by omega) h]
  on_goal 2 => rw [outsAt0_A m c t (by omega) h (by omega) h]
  all_goals
    frame_out
    rw [R.d, R.x, R.g, R.C, R.A, R.B, ld_wideQ d 0 0 rfl, ld_wideQ d 128 1 rfl, ld_wideQ d 256 2 rfl, ld_wideQ d 384 3 rfl,
      ld_wideQ d 512 4 rfl, ld_wideQ d 640 5 rfl, ld_wideQ d 768 6 rfl, ld_wideQ d 896 7 rfl,
      ld_thinQ x 0 0 rfl, ld_thinQ x 128 1 rfl, ld_thinQ x 256 2 rfl, ld_thinQ x 384 3 rfl,
      ld_thinQ x 512 4 rfl, ld_thinQ x 640 5 rfl, ld_thinQ x 768 6 rfl, ld_thinQ x 896 7 rfl]
    canon_tiles z h
    · exact headBack_at sQ_val x d C A B g 7 z h0 h1
    · exact headBack_at sQ_val x d C A B g 6 z h0 h1
    · exact headBack_at sQ_val x d C A B g 5 z h0 h1
    · exact headBack_at sQ_val x d C A B g 4 z h0 h1
    · exact headBack_at sQ_val x d C A B g 3 z h0 h1
    · exact headBack_at sQ_val x d C A B g 2 z h0 h1
    · exact headBack_at sQ_val x d C A B g 1 z h0 h1
    · exact headBack_at sQ_val x d C A B g 0 z h0 (h1.trans (Nat.zero_add _).symm)

set_option maxHeartbeats 4000000 in
include R in
theorem outK_at (i : S384x256.Idx) : (outsAt0 m c t.val t.isLt).2.1 i = ((dOut 1 y e C A B g' (i 0).val (i 1).val : ℝ) : EReal) := by
  by_cases h : 1 ≤ t.val
  on_goal 1 =>
    have hN : t.val < 11 := t.isLt
    rw [outsAt0_B m c t (by omega) h (by omega) h]
  on_goal 2 => rw [outsAt0_A m c t (by omega) h (by omega) h]
  all_goals
    frame_out
    rw [R.e, R.y, R.g', R.C, R.A, R.B, ld_wideK e 0 0 rfl, ld_wideK e 128 1 rfl, ld_thinK y 0 0 rfl, ld_thinK y 128 1 rfl]
    canon_tiles z h
    · exact headBack_at sK_val y e C A B g' 1 z h0 h1
    · exact headBack_at sK_val y e C A B g' 0 z h0 (h1.trans (Nat.zero_add _).symm)

include R in
theorem gainQ_at0 (h : ¬ 1 ≤ t.val) (i : S1x128.Idx) : (outsAt0 m c t.val t.isLt).2.2.1 i
    = ((∑ n : Fin 384, dGain 8 rQ x d C A B n.val (i 1).val : ℝ) : EReal) := by
  rw [outsAt0_A m c t (by omega) h (by omega) h]
  frame_out
  rw [R.d, R.x, R.C, R.A, R.B, ld_wideQ d 0 0 rfl, ld_wideQ d 128 1 rfl, ld_wideQ d 256 2 rfl, ld_wideQ d 384 3 rfl,
      ld_wideQ d 512 4 rfl, ld_wideQ d 640 5 rfl, ld_wideQ d 768 6 rfl, ld_wideQ d 896 7 rfl,
      ld_thinQ x 0 0 rfl, ld_thinQ x 128 1 rfl, ld_thinQ x 256 2 rfl, ld_thinQ x 384 3 rfl,
      ld_thinQ x 512 4 rfl, ld_thinQ x 640 5 rfl, ld_thinQ x 768 6 rfl, ld_thinQ x 896 7 rfl]
  exact congrFun (gains_eq sQ_val x d C A B 8) i

include R in
theorem gainQ_at1 (h : 1 ≤ t.val) (i : S1x128.Idx) : (outsAt0 m c t.val t.isLt).2.2.1 i
    = (outsAt0 m c (t.val - 1) (Nat.lt_of_le_of_lt (Nat.sub_le _ _) t.isLt)).2.2.1 i
      + ((∑ n : Fin 384, dGain 8 rQ x d C A B n.val (i 1).val : ℝ) : EReal) := by
  have hN : t.val < 11 := t.isLt
  rw [outsAt0_B m c t (by omega) h (by omega) h]
  frame_out
  rw [R.d, R.x, R.C, R.A, R.B, ld_wideQ d 0 0 rfl, ld_wideQ d 128 1 rfl, ld_wideQ d 256 2 rfl, ld_wideQ d 384 3 rfl,
      ld_wideQ d 512 4 rfl, ld_wideQ d 640 5 rfl, ld_wideQ d 768 6 rfl, ld_wideQ d 896 7 rfl,
      ld_thinQ x 0 0 rfl, ld_thinQ x 128 1 rfl, ld_thinQ x 256 2 rfl, ld_thinQ x 384 3 rfl,
      ld_thinQ x 512 4 rfl, ld_thinQ x 640 5 rfl, ld_thinQ x 768 6 rfl, ld_thinQ x 896 7 rfl]
  refine Eq.trans ?_ (congrArg (_ + ·) (congrFun (gains_eq sQ_val x d C A B 8) i))
  pointwise [k0_pay63]
  rfl

include R in
theorem gainK_at0 (h : ¬ 1 ≤ t.val) (i : S1x128.Idx) : (outsAt0 m c t.val t.isLt).2.2.2 i
    = ((∑ n : Fin 384, dGain 2 1 y e C A B n.val (i 1).val : ℝ) : EReal) := by
  rw [outsAt0_A m c t (by omega) h (by omega) h]
  frame_out
  rw [R.e, R.y, R.C, R.A, R.B, ld_wideK e 0 0 rfl, ld_wideK e 128 1 rfl, ld_thinK y 0 0 rfl, ld_thinK y 128 1 rfl]
  exact congrFun (gains_eq sK_val y e C A B 2) i

include R in
theorem gainK_at1 (h : 1 ≤ t.val) (i : S1x128.Idx) : (outsAt0 m c t.val t.isLt).2.2.2 i
    = (outsAt0 m c (t.val - 1) (Nat.lt_of_le_of_lt (Nat.sub_le _ _) t.isLt)).2.2.2 i
      + ((∑ n : Fin 384, dGain 2 1 y e C A B n.val (i 1).val : ℝ) : EReal) := by
  have hN : t.val < 11 := t.isLt
  rw [outsAt0_B m c t (by omega) h (by omega) h]
  frame_out
  rw [R.e, R.y, R.C, R.A, R.B, ld_wideK e 0 0 rfl, ld_wideK e 128 1 rfl, ld_thinK y 0 0 rfl, ld_thinK y 128 1 rfl]
  refine Eq.trans ?_ (congrArg (_ + ·) (congrFun (gains_eq sK_val y e C A B 2) i))
  pointwise [k0_pay1]
  rfl

end Cert.AttnPrepBwdIdeal.Mine

end
-- ==== Proof.AttnPrepBwd.Angles.lean ====
/- The rotary embedding's angles: 16 frequencies of a token's row and 16 of its column on a 64 by 64 grid. -/
module

public import proofs.«01_k».proof.Proof.AttnPrepBwd.Turn

@[expose] public section

noncomputable section

namespace Cert.Reals

open Idealize.ShloMosaic

theorem base_f32 : Ideal.ofBits FTy.f32 0x461C4000#32 = ((10000 : ℝ) : EReal) := by
  simp [Ideal.ofBits, Ideal.ieee, -EReal.coe_mul]; norm_num

theorem dim_f32 : Ideal.ofBits FTy.f32 0x42000000#32 = ((32 : ℝ) : EReal) := by
  simp [Ideal.ofBits, Ideal.ieee, -EReal.coe_mul]; norm_num

/-- A whole number, as a program counts it. -/
def num (k : ℕ) : ℝ := ((BitVec.ofNat 32 k).toInt : ℝ)

/-- A frequency. -/
def freq (f : ℕ) : ℝ := Real.rpow 10000 (-(2 * num f) / 32)

/-- The angle of a row: none for the first sixteen rows, then a grid's token after token. -/
def angle (n f : ℕ) : ℝ :=
  if n < 16 then 0 else if f < 16 then num ((n - 16) / 64) * freq f else num ((n - 16) % 64) * freq (f - 16)

theorem num_coe (k : ℕ) : (FloatOps.sitofp FTy.f32 (BitVec.ofNat 32 k) : Ideal .f32) = ((num k : ℝ) : EReal) := rfl

theorem freq_coe (f : ℕ) : Ideal.pow (Ideal.ofBits FTy.f32 0x461C4000#32)
    (Ideal.div (-(Ideal.ofBits FTy.f32 0x40000000#32 * (FloatOps.sitofp FTy.f32 (BitVec.ofNat 32 f) : Ideal .f32))) (Ideal.ofBits FTy.f32 0x42000000#32))
    = ((freq f : ℝ) : EReal) := by
  rw [num_coe, two_f32, base_f32, dim_f32, ← EReal.coe_mul, ← EReal.coe_neg, div_coe_coe (by norm_num : (32 : ℝ) ≠ 0), Ideal.pow_coe_coe]
  rfl

/-- The tables: cosines, negated sines of each quarter's first lanes and sines of its last, none past column 64. -/
def tabC (θ : ℕ → ℕ → ℝ) (n p : ℕ) : ℝ := if p < 64 then Real.cos (θ n (p / 32 * 16 + p % 16)) else 0
def tabA (θ : ℕ → ℕ → ℝ) (n p : ℕ) : ℝ := if p < 64 ∧ p % 32 < 16 then -Real.sin (θ n (p / 32 * 16 + p % 16)) else 0
def tabB (θ : ℕ → ℕ → ℝ) (n p : ℕ) : ℝ := if p < 64 ∧ 16 ≤ p % 32 then Real.sin (θ n (p / 32 * 16 + p % 16)) else 0

section At

variable (θ : ℕ → ℕ → ℝ) (n : ℕ) {p f : ℕ}

theorem tabC_at (hp : p < 64) (hf : f = p / 32 * 16 + p % 16) : Real.cos (θ n f) = tabC θ n p := by rw [tabC, if_pos hp, hf]
theorem tabC_zero (hp : ¬ p < 64) : 0 = tabC θ n p := by rw [tabC, if_neg hp]
theorem tabA_at (hp : p < 64 ∧ p % 32 < 16) (hf : f = p / 32 * 16 + p % 16) : -Real.sin (θ n f) = tabA θ n p := by rw [tabA, if_pos hp, hf]
theorem tabA_zero (hp : ¬ (p < 64 ∧ p % 32 < 16)) : 0 = tabA θ n p := by rw [tabA, if_neg hp]
theorem tabB_at (hp : p < 64 ∧ 16 ≤ p % 32) (hf : f = p / 32 * 16 + p % 16) : Real.sin (θ n f) = tabB θ n p := by rw [tabB, if_pos hp, hf]
theorem tabB_zero (hp : ¬ (p < 64 ∧ 16 ≤ p % 32)) : 0 = tabB θ n p := by rw [tabB, if_neg hp]

end At

end Cert.Reals

end
-- ==== Proof.AttnPrepBwd.Tables.lean ====
/- The tables of the rotary embedding, as the host lines make them. -/
module

public import proofs.«01_k».proof.Proof.AttnPrepBwd.Point
public import proofs.«01_k».proof.Proof.AttnPrepBwd.Angles

@[expose] public section

set_option maxRecDepth 16384

noncomputable section

namespace Cert.AttnPrepBwdIdeal.Mine

open Idealize.ShloMosaic Idealize.ShloMosaic.TcCoe Idealize.SL.Sem
open Idealize.ShloMosaic.Pipeline (Dat)
open Cert.AttnPrepBwdIdeal Cert.AttnPrepBwdIdeal.Gen Cert.Reals

variable {σ : Valuation τ sig (Elt Ideal)}

/-- The lines that make the angles' cosines and sines; those up to each table's parts, and the table's. -/
abbrev opsAng : List (HloOp τ sig (Elt Ideal)) := hostOps0_18.take 39
abbrev opsTab : List (HloOp τ sig (Elt Ideal)) := hostOps0_18.drop 39
abbrev opsC : List (HloOp τ sig (Elt Ideal)) := opsTab.take 8
abbrev putC : List (HloOp τ sig (Elt Ideal)) := (opsTab.drop 8).take 1
abbrev opsA : List (HloOp τ sig (Elt Ideal)) := opsTab.take 13
abbrev putA : List (HloOp τ sig (Elt Ideal)) := (opsTab.drop 13).take 1
abbrev opsB : List (HloOp τ sig (Elt Ideal)) := opsTab.take 16
abbrev putB : List (HloOp τ sig (Elt Ideal)) := (opsTab.drop 16).take 1

theorem angle_at {n f : ℕ} (hn : n < 4224) :
    (if h : n < 128 then (0 : EReal)
    else
      if h : f < 16 then
        (FloatOps.sitofp FTy.f32 (BitVec.ofNat 32 ((n - 128) / 64)) : Ideal .f32) *
          Ideal.pow (Ideal.ofBits FTy.f32 1176256512#32)
            (Ideal.div (-(Ideal.ofBits FTy.f32 1073741824#32 * (FloatOps.sitofp FTy.f32 (BitVec.ofNat 32 f) : Ideal .f32)))
              (Ideal.ofBits FTy.f32 1107296256#32))
      else
        (FloatOps.sitofp FTy.f32 (BitVec.ofNat 32 ((n - 128) % 64)) : Ideal .f32) *
          Ideal.pow (Ideal.ofBits FTy.f32 1176256512#32)
            (Ideal.div (-(Ideal.ofBits FTy.f32 1073741824#32 * (FloatOps.sitofp FTy.f32 (BitVec.ofNat 32 (f - 16)) : Ideal .f32)))
              (Ideal.ofBits FTy.f32 1107296256#32))) = ((nul angle n f : ℝ) : EReal) := by
  by_cases h : n < 128
  · rw [dif_pos h]
    by_cases e : n < 112
    · rw [nul, if_pos e]; rfl
    · rw [nul, if_neg e, angle, if_pos (by omega)]; rfl
  · rw [dif_neg h, nul, if_neg (by omega), angle, if_neg (by omega), show n - 112 - 16 = n - 128 by omega]
    by_cases e : f < 16
    · rw [dif_pos e, if_pos e, freq_coe, num_coe, ← EReal.coe_mul]
    · rw [dif_neg e, if_neg e, freq_coe, num_coe, ← EReal.coe_mul]

def cosT : FVec Ideal S4224x32 .f32 := fun i => ((Real.cos (nul angle (i 0).val (i 1).val) : ℝ) : EReal)
def sinT : FVec Ideal S4224x32 .f32 := fun i => ((Real.sin (nul angle (i 0).val (i 1).val) : ℝ) : EReal)

theorem cosines : StableHlo.after opsAng σ (Proc.devRef .tc main_v89) = cosT := by
  funext i
  simp only [opsAng, hostOps0_18, List.take]
  entry_read
  pointwise [cosT]
  idx_bounds
  rw [angle_at hb0]
  exact Ideal.cos_coe _

theorem sines : StableHlo.after opsAng σ (Proc.devRef .tc main_v90) = sinT := by
  funext i
  simp only [opsAng, hostOps0_18, List.take]
  entry_read
  pointwise [sinT]
  idx_bounds
  rw [angle_at hb0]
  exact Ideal.sin_coe _

/-- Five parts behind one another. -/
theorem five {p : ℕ} {X0 : p < 16 → EReal} {X1 : p - 16 < 16 → EReal} {X2 : p - 16 - 16 < 16 → EReal} {X3 : p - 16 - 16 - 16 < 16 → EReal}
    {X4 : ¬ p - 16 - 16 - 16 < 16 → EReal} {F : EReal} (h0 : ∀ e, X0 e = F) (h1 : ¬ p < 16 → ∀ e, X1 e = F) (h2 : ¬ p < 32 → ∀ e, X2 e = F)
    (h3 : ¬ p < 48 → ∀ e, X3 e = F) (h4 : ¬ p < 64 → ∀ e, X4 e = F) :
    (if e : p < 16 then X0 e else if e : p - 16 < 16 then X1 e else if e : p - 16 - 16 < 16 then X2 e
      else if e : p - 16 - 16 - 16 < 16 then X3 e else X4 e) = F := by
  split_ifs with e0 e1 e2 e3
  · exact h0 _
  · exact h1 (by omega) _
  · exact h2 (by omega) _
  · exact h3 (by omega) _
  · exact h4 (by omega) _

variable (hc : σ (Proc.devRef .tc main_v89) = cosT) (hs : σ (Proc.devRef .tc main_v90) = sinT)

theorem put_c (σ : Valuation τ sig (Elt Ideal)) : StableHlo.after putC σ (Proc.devRef .tc main_v97) =
    concatenate S4224x128 1 [⟨S4224x16, σ (Proc.devRef .tc main_v93)⟩, ⟨S4224x16, σ (Proc.devRef .tc main_v94)⟩,
      ⟨S4224x16, σ (Proc.devRef .tc main_v95)⟩, ⟨S4224x16, σ (Proc.devRef .tc main_v96)⟩, ⟨S4224x64, σ (Proc.devRef .tc main_v92)⟩]
      concatenates_S4224x16_S4224x16_S4224x16_S4224x16_S4224x64_S4224x128_d1 := by
  simp only [putC, opsTab, hostOps0_18, List.drop, List.take, StableHlo.after_cons, StableHlo.after_nil]
  rw [StableHlo.nary_result]
  rfl

include hc in
theorem partsC (n : Fin 4224) :
    (∀ p : Fin 16, StableHlo.after opsC σ (Proc.devRef .tc main_v93) (ix2 n p) = ((Real.cos (nul angle n.val p.val) : ℝ) : EReal)) ∧
    (∀ p : Fin 16, StableHlo.after opsC σ (Proc.devRef .tc main_v94) (ix2 n p) = ((Real.cos (nul angle n.val p.val) : ℝ) : EReal)) ∧
    (∀ p : Fin 16, StableHlo.after opsC σ (Proc.devRef .tc main_v95) (ix2 n p) = ((Real.cos (nul angle n.val (16 + p.val)) : ℝ) : EReal)) ∧
    (∀ p : Fin 16, StableHlo.after opsC σ (Proc.devRef .tc main_v96) (ix2 n p) = ((Real.cos (nul angle n.val (16 + p.val)) : ℝ) : EReal)) ∧
    (∀ p : Fin 64, StableHlo.after opsC σ (Proc.devRef .tc main_v92) (ix2 n p) = ((0 : ℝ) : EReal)) := by
  refine ⟨?_, ?_, ?_, ?_, ?_⟩ <;> intro p <;> simp only [opsC, opsTab, hostOps0_18, List.drop, List.take] <;> entry_read <;> pointwise
  · exact congrFun hc _
  · exact congrFun hc _
  · exact congrFun hc _
  · exact congrFun hc _
  · rfl

include hc in
theorem tableC (i : S4224x128.Idx) : StableHlo.after putC (StableHlo.after opsC σ) (Proc.devRef .tc main_v97) i
    = ((tabC (nul angle) (i 0).val (i 1).val : ℝ) : EReal) := by
  refine (congrFun (put_c _) i).trans ?_
  obtain ⟨h0, h1, h2, h3, h4⟩ := partsC hc (i 0)
  have hi : (i 1).val < 128 := (i 1).isLt
  pointwise
  refine five (fun e => (h0 _).trans ?_) (fun _ e => (h1 _).trans ?_) (fun _ e => (h2 _).trans ?_) (fun _ e => (h3 _).trans ?_)
    (fun e _ => (h4 ⟨(i 1).val - 16 - 16 - 16 - 16, by omega⟩).trans ?_)
  · exact congrArg _ (tabC_at _ _ (by omega) (by simp only []; omega))
  · exact congrArg _ (tabC_at _ _ (by omega) (by simp only []; omega))
  · exact congrArg _ (tabC_at _ _ (by omega) (by simp only []; omega))
  · exact congrArg _ (tabC_at _ _ (by omega) (by simp only []; omega))
  · exact congrArg _ (tabC_zero _ _ (by omega))

theorem put_a (σ : Valuation τ sig (Elt Ideal)) : StableHlo.after putA σ (Proc.devRef .tc main_v102) =
    concatenate S4224x128 1 [⟨S4224x16, σ (Proc.devRef .tc main_v99)⟩, ⟨S4224x16, σ (Proc.devRef .tc main_v91)⟩,
      ⟨S4224x16, σ (Proc.devRef .tc main_v101)⟩, ⟨S4224x16, σ (Proc.devRef .tc main_v91)⟩, ⟨S4224x64, σ (Proc.devRef .tc main_v92)⟩]
      concatenates_S4224x16_S4224x16_S4224x16_S4224x16_S4224x64_S4224x128_d1 := by
  simp only [putA, opsTab, hostOps0_18, List.drop, List.take, StableHlo.after_cons, StableHlo.after_nil]
  rw [StableHlo.nary_result]
  rfl

include hs in
theorem partsA (n : Fin 4224) :
    (∀ p : Fin 16, StableHlo.after opsA σ (Proc.devRef .tc main_v99) (ix2 n p) = ((-Real.sin (nul angle n.val p.val) : ℝ) : EReal)) ∧
    (∀ p : Fin 16, StableHlo.after opsA σ (Proc.devRef .tc main_v91) (ix2 n p) = ((0 : ℝ) : EReal)) ∧
    (∀ p : Fin 16, StableHlo.after opsA σ (Proc.devRef .tc main_v101) (ix2 n p) = ((-Real.sin (nul angle n.val (16 + p.val)) : ℝ) : EReal)) ∧
    (∀ p : Fin 64, StableHlo.after opsA σ (Proc.devRef .tc main_v92) (ix2 n p) = ((0 : ℝ) : EReal)) := by
  refine ⟨?_, ?_, ?_, ?_⟩ <;> intro p <;> simp only [opsA, opsTab, hostOps0_18, List.drop, List.take] <;> entry_read <;> pointwise
  · exact congrArg (fun x : EReal => -x) (congrFun hs _)
  · rfl
  · exact congrArg (fun x : EReal => -x) (congrFun hs _)
  · rfl

include hs in
theorem tableA (i : S4224x128.Idx) : StableHlo.after putA (StableHlo.after opsA σ) (Proc.devRef .tc main_v102) i
    = ((tabA (nul angle) (i 0).val (i 1).val : ℝ) : EReal) := by
  refine (congrFun (put_a _) i).trans ?_
  obtain ⟨h0, h1, h2, h4⟩ := partsA hs (i 0)
  have hi : (i 1).val < 128 := (i 1).isLt
  pointwise
  refine five (fun e => (h0 _).trans ?_) (fun _ e => (h1 _).trans ?_) (fun _ e => (h2 _).trans ?_) (fun _ e => (h1 _).trans ?_)
    (fun e _ => (h4 ⟨(i 1).val - 16 - 16 - 16 - 16, by omega⟩).trans ?_)
  · exact congrArg _ (tabA_at _ _ (by omega) (by simp only []; omega))
  · exact congrArg _ (tabA_zero _ _ (by omega))
  · exact congrArg _ (tabA_at _ _ (by omega) (by simp only []; omega))
  · exact congrArg _ (tabA_zero _ _ (by omega))
  · exact congrArg _ (tabA_zero _ _ (by omega))

theorem put_b (σ : Valuation τ sig (Elt Ideal)) : StableHlo.after putB σ (Proc.devRef .tc main_v105) =
    concatenate S4224x128 1 [⟨S4224x16, σ (Proc.devRef .tc main_v91)⟩, ⟨S4224x16, σ (Proc.devRef .tc main_v103)⟩,
      ⟨S4224x16, σ (Proc.devRef .tc main_v91)⟩, ⟨S4224x16, σ (Proc.devRef .tc main_v104)⟩, ⟨S4224x64, σ (Proc.devRef .tc main_v92)⟩]
      concatenates_S4224x16_S4224x16_S4224x16_S4224x16_S4224x64_S4224x128_d1 := by
  simp only [putB, opsTab, hostOps0_18, List.drop, List.take, StableHlo.after_cons, StableHlo.after_nil]
  rw [StableHlo.nary_result]
  rfl

include hs in
theorem partsB (n : Fin 4224) :
    (∀ p : Fin 16, StableHlo.after opsB σ (Proc.devRef .tc main_v91) (ix2 n p) = ((0 : ℝ) : EReal)) ∧
    (∀ p : Fin 16, StableHlo.after opsB σ (Proc.devRef .tc main_v103) (ix2 n p) = ((Real.sin (nul angle n.val p.val) : ℝ) : EReal)) ∧
    (∀ p : Fin 16, StableHlo.after opsB σ (Proc.devRef .tc main_v104) (ix2 n p) = ((Real.sin (nul angle n.val (16 + p.val)) : ℝ) : EReal)) ∧
    (∀ p : Fin 64, StableHlo.after opsB σ (Proc.devRef .tc main_v92) (ix2 n p) = ((0 : ℝ) : EReal)) := by
  refine ⟨?_, ?_, ?_, ?_⟩ <;> intro p <;> simp only [opsB, opsTab, hostOps0_18, List.drop, List.take] <;> entry_read <;> pointwise
  · rfl
  · exact congrFun hs _
  · exact congrFun hs _
  · rfl

include hs in
theorem tableB (i : S4224x128.Idx) : StableHlo.after putB (StableHlo.after opsB σ) (Proc.devRef .tc main_v105) i
    = ((tabB (nul angle) (i 0).val (i 1).val : ℝ) : EReal) := by
  refine (congrFun (put_b _) i).trans ?_
  obtain ⟨h0, h1, h2, h4⟩ := partsB hs (i 0)
  have hi : (i 1).val < 128 := (i 1).isLt
  pointwise
  refine five (fun e => (h0 _).trans ?_) (fun _ e => (h1 _).trans ?_) (fun _ e => (h0 _).trans ?_) (fun _ e => (h2 _).trans ?_)
    (fun e _ => (h4 ⟨(i 1).val - 16 - 16 - 16 - 16, by omega⟩).trans ?_)
  · exact congrArg _ (tabB_zero _ _ (by omega))
  · exact congrArg _ (tabB_at _ _ (by omega) (by simp only []; omega))
  · exact congrArg _ (tabB_zero _ _ (by omega))
  · exact congrArg _ (tabB_at _ _ (by omega) (by simp only []; omega))
  · exact congrArg _ (tabB_zero _ _ (by omega))

end Cert.AttnPrepBwdIdeal.Mine

end
-- ==== Proof.AttnPrepBwd.Packed.lean ====
/- The heads' rows among the packed columns, and the padded gradients and gains: the host lines before the tables. -/
module

public import proofs.«01_k».proof.Proof.AttnPrepBwd.Tables
public import proofs.«01_k».proof.Proof.InProjDz.Pack

@[expose] public section

set_option maxRecDepth 16384

noncomputable section

namespace Cert.AttnPrepBwdIdeal.Mine

open Idealize.ShloMosaic Idealize.ShloMosaic.TcCoe Idealize.SL.Sem
open Idealize.ShloMosaic.Pipeline (Dat)
open Cert.AttnPrepBwdIdeal Cert.AttnPrepBwdIdeal.Gen Cert.Reals

/-- The host lines up to the parts, the line that puts them together, and the rest. -/
abbrev opsP : List (HloOp τ sig (Elt Ideal)) :=
  List.flatten [hostOps0, hostOps0_1, hostOps0_2, hostOps0_3, hostOps0_4, hostOps0_5, hostOps0_6, hostOps0_7, hostOps0_8, hostOps0_9, hostOps0_10,
    hostOps0_11, hostOps0_12, hostOps0_13, hostOps0_14.take 1]
abbrev putP : List (HloOp τ sig (Elt Ideal)) := (hostOps0_14.drop 1).take 1
abbrev restP : List (HloOp τ sig (Elt Ideal)) :=
  List.flatten [hostOps0_14.drop 2, hostOps0_15, hostOps0_16, hostOps0_17, hostOps0_18]

variable {h : ℕ → ℕ → ℝ} {σ : Valuation τ sig (Elt Ideal)}

/-- Heads of 64 columns, padded to 128 lanes. -/
theorem lanes_at (f : ℕ → ℝ) {a w r : ℕ} {p : Prop} [Decidable p] {X : p → EReal} {Z : EReal} (hp : p ↔ r % 128 < w)
    (hX : ∀ e, X e = ((f (a + (r / 128 * w + r % 128)) : ℝ) : EReal)) (hZ : Z = (((0#32 : BitVec 32).toInt : ℝ) : EReal)) :
    (if e : p then X e else Z) = ((lanes a w f r : ℝ) : EReal) := by
  by_cases e : p
  · rw [dif_pos e, lanes, if_pos (hp.mp e), hX]
  · rw [dif_neg e, lanes, if_neg fun h => e (hp.mpr h), hZ]; norm_num

/-- The queries' and the keys' parts. -/
theorem parts (hh : σ (Proc.devRef .tc main_arg2) = fun i : S4112x4384.Idx => ((h (i 0).val (i 1).val : ℝ) : EReal)) (n : Fin 4112) :
    (∀ r : Fin 1024, StableHlo.after opsP σ (Proc.devRef .tc main_v29) (ix2 r n) = ((lanes 1568 64 (h n.val) r.val : ℝ) : EReal)) ∧
    (∀ r : Fin 256, StableHlo.after opsP σ (Proc.devRef .tc main_v38) (ix2 r n) = ((lanes 2080 64 (h n.val) r.val : ℝ) : EReal)) := by
  refine ⟨?_, ?_⟩ <;> intro r <;>
    simp only [opsP, hostOps0, hostOps0_1, hostOps0_2, hostOps0_3, hostOps0_4, hostOps0_5, hostOps0_6, hostOps0_7, hostOps0_8, hostOps0_9, hostOps0_10,
      hostOps0_11, hostOps0_12, hostOps0_13, hostOps0_14, List.flatten, List.append_eq, List.take, List.cons_append, List.nil_append, List.append_nil] <;>
    entry_read <;> pointwise <;> idx_bounds <;>
    (try simp only [StableHlo.TRef.toBuf, StableHlo.TRef.ofBuf, cast_eq]) <;> (try pointwise)
  · exact lanes_at _ (by omega) (fun e => congrFun hh _) rfl
  · exact lanes_at _ (by omega) (fun e => congrFun hh _) rfl

theorem put_p (σ : Valuation τ sig (Elt Ideal)) : StableHlo.after putP σ (Proc.devRef .tc main_v48) =
    concatenate S5888x4112 0 [⟨S1024x4112, σ (Proc.devRef .tc main_v29)⟩, ⟨S1024x4112, σ (Proc.devRef .tc main_v25)⟩,
      ⟨S1024x4112, σ (Proc.devRef .tc main_v26)⟩, ⟨S512x4112, σ (Proc.devRef .tc main_v32)⟩, ⟨S512x4112, σ (Proc.devRef .tc main_v35)⟩,
      ⟨S512x4112, σ (Proc.devRef .tc main_v18)⟩, ⟨S512x4112, σ (Proc.devRef .tc main_v19)⟩, ⟨S256x4112, σ (Proc.devRef .tc main_v38)⟩,
      ⟨S256x4112, σ (Proc.devRef .tc main_v41)⟩, ⟨S128x4112, σ (Proc.devRef .tc main_v44)⟩, ⟨S128x4112, σ (Proc.devRef .tc main_v47)⟩]
      concatenates_S1024x4112_S1024x4112_S1024x4112_S512x4112_S512x4112_S512x4112_S512x4112_S256x4112_S256x4112_S128x4112_S128x4112_S5888x4112_d0 := by
  simp only [putP, hostOps0_14, List.drop, List.take, StableHlo.after_cons, StableHlo.after_nil]
  rw [StableHlo.nary_result]
  rfl

theorem stackQ (hh : σ (Proc.devRef .tc main_arg2) = fun i : S4112x4384.Idx => ((h (i 0).val (i 1).val : ℝ) : EReal)) (i : S5888x4112.Idx)
    (h0 : (i 0).val < 1024) : StableHlo.after putP (StableHlo.after opsP σ) (Proc.devRef .tc main_v48) i
      = ((lanes 1568 64 (h (i 1).val) (i 0).val : ℝ) : EReal) := by
  refine (congrFun (put_p _) i).trans ?_
  pointwise
  rw [dif_pos h0]
  exact (parts hh (i 1)).1 _

theorem stackK (hh : σ (Proc.devRef .tc main_arg2) = fun i : S4112x4384.Idx => ((h (i 0).val (i 1).val : ℝ) : EReal)) (i : S5888x4112.Idx)
    (h0 : 5120 ≤ (i 0).val) (h1 : (i 0).val < 5376) : StableHlo.after putP (StableHlo.after opsP σ) (Proc.devRef .tc main_v48) i
      = ((lanes 2080 64 (h (i 1).val) ((i 0).val - 5120) : ℝ) : EReal) := by
  refine (congrFun (put_p _) i).trans ?_
  pointwise
  rw [dif_neg (by omega), dif_neg (by omega), dif_neg (by omega), dif_neg (by omega), dif_neg (by omega), dif_neg (by omega), dif_neg (by omega),
    dif_pos (by omega)]
  refine ((parts hh (i 1)).2 _).trans ?_
  exact congrArg (fun r => ((lanes 2080 64 (h (i 1).val) r : ℝ) : EReal)) (by simp only []; omega)

/-- The stack turned, padded with rows in front and cast. -/
theorem turned (σ : Valuation τ sig (Elt Ideal)) (i : S4224x5888.Idx) (f : ℕ → ℕ → ℝ)
    (hf : ∀ n : Fin 4112, σ (Proc.devRef .tc main_v48) (ix2 (i 1) n) = ((f n.val (i 1).val : ℝ) : EReal)) :
    StableHlo.after restP σ (Proc.devRef .tc main_v52) i = ((nul f (i 0).val (i 1).val : ℝ) : EReal) := by
  simp only [restP, hostOps0_14, hostOps0_15, hostOps0_16, hostOps0_17, hostOps0_18, List.flatten, List.append_eq, List.drop, List.cons_append,
    List.nil_append, List.append_nil]
  entry_read
  pointwise
  exact nul_layout f fun e => hf _

theorem log_two : Ideal.log (Ideal.ofBits FTy.f32 0x40000000#32) = ((Real.log 2 : ℝ) : EReal) := by
  rw [two_f32, Ideal.log_coe]
  norm_num

theorem heads_at (f : ℕ → ℕ → ℝ) {n p : ℕ} {X : ¬ n < 112 → p % 128 < 64 → EReal}
    (hX : ∀ e e', X e e' = ((f (n - 112) (p / 128 * 64 + p % 128) : ℝ) : EReal)) :
    (if e : n < 112 then (0 : EReal) else if e' : p % 128 < 64 then X e e' else 0) = ((nul (fun n => lanes 0 64 (f n)) n p : ℝ) : EReal) := by
  refine nul_layout (fun n => lanes 0 64 (f n)) fun e => ?_
  refine lanes_at _ Iff.rfl (fun e' => ?_) (by norm_num)
  rw [hX, Nat.zero_add]

/-- The heads' gradients, each head in 128 lanes, with rows in front. -/
theorem padsD {d : ℕ → ℕ → ℝ} (hd : σ (Proc.devRef .tc main_arg0) = fun i : S4112x512.Idx => ((d (i 0).val (i 1).val : ℝ) : EReal)) (i : S4224x1024.Idx) :
    StableHlo.after opsP σ (Proc.devRef .tc main_v8) i = ((nul (fun n => lanes 0 64 fun p => d n p * Real.log 2) (i 0).val (i 1).val : ℝ) : EReal) := by
  simp only [opsP, hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten, List.append_eq, List.take, List.cons_append, List.nil_append, List.append_nil]
  entry_read
  pointwise
  idx_bounds
  (try simp only [StableHlo.TRef.toBuf, StableHlo.TRef.ofBuf, cast_eq])
  (try pointwise)
  exact heads_at (fun n p => d n p * Real.log 2) fun e e' =>
    (congrArg₂ (fun a b : EReal => a * b) (congrFun hd _) log_two).trans (EReal.coe_mul _ _).symm

theorem padsE {d : ℕ → ℕ → ℝ} (hd : σ (Proc.devRef .tc main_arg1) = fun i : S4112x128.Idx => ((d (i 0).val (i 1).val : ℝ) : EReal)) (i : S4224x256.Idx) :
    StableHlo.after opsP σ (Proc.devRef .tc main_v14) i = ((nul (fun n => lanes 0 64 (d n)) (i 0).val (i 1).val : ℝ) : EReal) := by
  simp only [opsP, hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten, List.append_eq, List.take, List.cons_append, List.nil_append, List.append_nil]
  entry_read
  pointwise
  idx_bounds
  (try simp only [StableHlo.TRef.toBuf, StableHlo.TRef.ofBuf, cast_eq])
  (try pointwise)
  exact heads_at d fun e e' => congrFun hd _

theorem keepD (σ : Valuation τ sig (Elt Ideal)) : StableHlo.after (putP ++ restP) σ (Proc.devRef .tc main_v8) = σ (Proc.devRef .tc main_v8) := by
  simp only [putP, restP, hostOps0_14, hostOps0_15, hostOps0_16, hostOps0_17, hostOps0_18, List.flatten, List.append_eq, List.take, List.drop,
    List.cons_append, List.nil_append, List.append_nil]
  entry_read
  rfl

theorem keepE (σ : Valuation τ sig (Elt Ideal)) : StableHlo.after (putP ++ restP) σ (Proc.devRef .tc main_v14) = σ (Proc.devRef .tc main_v14) := by
  simp only [putP, restP, hostOps0_14, hostOps0_15, hostOps0_16, hostOps0_17, hostOps0_18, List.flatten, List.append_eq, List.take, List.drop,
    List.cons_append, List.nil_append, List.append_nil]
  entry_read
  rfl

end Cert.AttnPrepBwdIdeal.Mine

end
-- ==== Proof.AttnPrepBwd.Blocks.lean ====
/- The arrays of the norms' and the embedding's backward: each block of rows it reads, and what each point leaves in each result. -/
module

public import proofs.«01_k».proof.Proof.AttnPrepBwd.Packed

@[expose] public section

set_option maxRecDepth 16384

noncomputable section

namespace Cert.AttnPrepBwdIdeal.Mine

open Idealize.ShloMosaic Idealize.ShloMosaic.TcCoe Idealize.SL.Sem
open Idealize.ShloMosaic.Pipeline (Dat)
open Cert.AttnPrepBwdIdeal Cert.AttnPrepBwdIdeal.Gen Cert.Reals

variable (m : (ℓ : Loc nD τ sig) → Buf (Elt Ideal) ℓ)

/-- The arguments are real arrays: the queries' and keys' gradients `dq` and `dk`, the projection `h`, the gains `gq` and `gk`. -/
structure Args (c : Dev nD) (dq dk h : ℕ → ℕ → ℝ) (gq gk : ℕ → ℝ) : Prop where
  dq : m ((c.tc : Thread nD τ).loc main_arg0) = fun i : S4112x512.Idx => ((dq (i 0).val (i 1).val : ℝ) : EReal)
  dk : m ((c.tc : Thread nD τ).loc main_arg1) = fun i : S4112x128.Idx => ((dk (i 0).val (i 1).val : ℝ) : EReal)
  h : m ((c.tc : Thread nD τ).loc main_arg2) = fun i : S4112x4384.Idx => ((h (i 0).val (i 1).val : ℝ) : EReal)
  gq : m ((c.tc : Thread nD τ).loc main_arg3) = fun i : S64.Idx => ((gq (i 0).val : ℝ) : EReal)
  gk : m ((c.tc : Thread nD τ).loc main_arg4) = fun i : S64.Idx => ((gk (i 0).val : ℝ) : EReal)

variable {m}
variable {c : Dev nD} {dq dk h : ℕ → ℕ → ℝ} {gq gk : ℕ → ℝ} (A : Args m c dq dk h gq gk)

theorem idx : ∀ t : Fin cfg0.N, win0_0.index t = ![t.val, 0] ∧ win0_1.index t = ![t.val, 0] ∧ win0_2.index t = ![t.val, 0]
    ∧ win0_3.index t = ![t.val, 20] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, _)

theorem V_ops (b : Ref sig .tc) : V m c b = StableHlo.after (opsP ++ (putP ++ restP)) (fun b => m (c, b)) (Proc.devRef .tc b) := rfl

/-- The host lines before the tables. -/
def before (m : (ℓ : Loc nD τ sig) → Buf (Elt Ideal) ℓ) (c : Dev nD) :=
  StableHlo.after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12 ++ hostOps0_13 ++ hostOps0_14 ++ hostOps0_15 ++ hostOps0_16 ++ hostOps0_17)
    (fun b => m (c, b))

theorem V_before (b : Ref sig .tc) : V m c b = StableHlo.after opsTab (StableHlo.after opsAng (before m c)) (Proc.devRef .tc b) := by
  have e : V m c b = StableHlo.after ((hostOps0 ++ hostOps0_1 ++ hostOps0_2 ++ hostOps0_3 ++ hostOps0_4 ++ hostOps0_5 ++ hostOps0_6 ++ hostOps0_7
      ++ hostOps0_8 ++ hostOps0_9 ++ hostOps0_10 ++ hostOps0_11 ++ hostOps0_12 ++ hostOps0_13 ++ hostOps0_14 ++ hostOps0_15 ++ hostOps0_16
      ++ hostOps0_17) ++ (opsAng ++ opsTab)) (fun b => m (c, b)) (Proc.devRef .tc b) := rfl
  rw [e, StableHlo.after_append, StableHlo.after_append]
  rfl

theorem keepC (σ : Valuation τ sig (Elt Ideal)) : StableHlo.after opsTab σ (Proc.devRef .tc main_v97)
    = StableHlo.after putC (StableHlo.after opsC σ) (Proc.devRef .tc main_v97) := by
  have e : opsTab = opsC ++ (putC ++ opsTab.drop 9) := rfl
  rw [e, StableHlo.after_append, StableHlo.after_append]
  generalize StableHlo.after putC _ = τ
  simp only [opsTab, hostOps0_18, List.drop]
  entry_read
  rfl

theorem keepA (σ : Valuation τ sig (Elt Ideal)) : StableHlo.after opsTab σ (Proc.devRef .tc main_v102)
    = StableHlo.after putA (StableHlo.after opsA σ) (Proc.devRef .tc main_v102) := by
  have e : opsTab = opsA ++ (putA ++ opsTab.drop 14) := rfl
  rw [e, StableHlo.after_append, StableHlo.after_append]
  generalize StableHlo.after putA _ = τ
  simp only [opsTab, hostOps0_18, List.drop]
  entry_read
  rfl

theorem keepB (σ : Valuation τ sig (Elt Ideal)) : StableHlo.after opsTab σ (Proc.devRef .tc main_v105)
    = StableHlo.after putB (StableHlo.after opsB σ) (Proc.devRef .tc main_v105) := by
  have e : opsTab = opsB ++ putB := rfl
  rw [e, StableHlo.after_append]

theorem V_C (i : S4224x128.Idx) : V m c main_v97 i = ((tabC (nul angle) (i 0).val (i 1).val : ℝ) : EReal) :=
  (congrFun ((V_before _).trans (keepC _)) i).trans (tableC cosines i)

theorem V_A (i : S4224x128.Idx) : V m c main_v102 i = ((tabA (nul angle) (i 0).val (i 1).val : ℝ) : EReal) :=
  (congrFun ((V_before _).trans (keepA _)) i).trans (tableA sines i)

theorem V_B (i : S4224x128.Idx) : V m c main_v105 i = ((tabB (nul angle) (i 0).val (i 1).val : ℝ) : EReal) :=
  (congrFun ((V_before _).trans (keepB _)) i).trans (tableB sines i)

include A in
theorem V_x (i : S4224x5888.Idx) (h0 : (i 1).val < 1024) :
    V m c main_v52 i = ((nul (fun n => lanes 1568 64 (h n)) (i 0).val (i 1).val : ℝ) : EReal) := by
  rw [V_ops, StableHlo.after_append, StableHlo.after_append]
  exact turned _ i _ fun n => stackQ A.h _ h0

include A in
theorem V_y (i : S4224x5888.Idx) (h0 : 5120 ≤ (i 1).val) (h1 : (i 1).val < 5376) :
    V m c main_v52 i = ((nul (fun n p => lanes 2080 64 (h n) (p - 5120)) (i 0).val (i 1).val : ℝ) : EReal) := by
  rw [V_ops, StableHlo.after_append, StableHlo.after_append]
  exact turned _ i _ fun n => stackK A.h _ h0 h1

include A in
theorem V_d (i : S4224x1024.Idx) :
    V m c main_v8 i = ((nul (fun n => lanes 0 64 fun p => dq n p * Real.log 2) (i 0).val (i 1).val : ℝ) : EReal) := by
  rw [V_ops, StableHlo.after_append, keepD]
  exact padsD A.dq i

include A in
theorem V_e (i : S4224x256.Idx) : V m c main_v14 i = ((nul (fun n => lanes 0 64 (dk n)) (i 0).val (i 1).val : ℝ) : EReal) := by
  rw [V_ops, StableHlo.after_append, keepE]
  exact padsE A.dk i

/-- A gain of 64 columns in a lane of 128. -/
def wideGain (g : ℕ → ℝ) (p : ℕ) : ℝ := if p < 64 then g p else 0

theorem gain_at (g : ℕ → ℝ) {p : ℕ} {X : p < 64 → EReal} (hX : ∀ e, X e = ((g p : ℝ) : EReal)) :
    (if e : p < 64 then X e else (FloatOps.sitofp FTy.f32 (0#32 : BitVec 32) : Ideal .f32)) = ((wideGain g p : ℝ) : EReal) := by
  by_cases e : p < 64
  · rw [dif_pos e, wideGain, if_pos e, hX]
  · rw [dif_neg e, wideGain, if_neg e]
    show (((0#32 : BitVec 32).toInt : ℝ) : EReal) = _
    norm_num

include A in
theorem V_g : V m c main_v54 = lane (wideGain gq) := by
  funext i
  rw [V_ops]
  simp only [opsP, putP, restP, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten, List.append_eq,
    List.take, List.drop, List.cons_append, List.nil_append, List.append_nil]
  entry_read
  pointwise [lane]
  idx_bounds
  (try simp only [StableHlo.TRef.toBuf, StableHlo.TRef.ofBuf, cast_eq])
  (try pointwise)
  exact gain_at _ fun e => congrFun A.gq _

include A in
theorem V_g' : V m c main_v56 = lane (wideGain gk) := by
  funext i
  rw [V_ops]
  simp only [opsP, putP, restP, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten, List.append_eq,
    List.take, List.drop, List.cons_append, List.nil_append, List.append_nil]
  entry_read
  pointwise [lane]
  idx_bounds
  (try simp only [StableHlo.TRef.toBuf, StableHlo.TRef.ofBuf, cast_eq])
  (try pointwise)
  exact gain_at _ fun e => congrFun A.gk _

/-- The padded arrays: the heads' rows and their gradients. -/
def rowsQ (h : ℕ → ℕ → ℝ) : ℕ → ℕ → ℝ := nul fun n => lanes 1568 64 (h n)
def rowsK (h : ℕ → ℕ → ℝ) : ℕ → ℕ → ℝ := nul fun n => lanes 2080 64 (h n)
def gradQ (d : ℕ → ℕ → ℝ) : ℕ → ℕ → ℝ := nul fun n => lanes 0 64 fun p => d n p * Real.log 2
def gradK (d : ℕ → ℕ → ℝ) : ℕ → ℕ → ℝ := nul fun n => lanes 0 64 (d n)

set_option maxHeartbeats 2000000 in
include A in
theorem reads (t : Fin cfg0.N) : Reads m c t (fun n p => rowsQ h (384 * t.val + n) p) (fun n p => rowsK h (384 * t.val + n) p)
    (fun n p => gradQ dq (384 * t.val + n) p) (fun n p => gradK dk (384 * t.val + n) p)
    (fun n p => tabC (nul angle) (384 * t.val + n) p) (fun n p => tabA (nul angle) (384 * t.val + n) p)
    (fun n p => tabB (nul angle) (384 * t.val + n) p) (wideGain gq) (wideGain gk) := by
  constructor
  · funext y
    blk_simp [iblk]
    refine (V_d A _).trans ?_
    blk_simp [idx t]
    exact congrArg₂ (fun m n => ((gradQ dq m n : ℝ) : EReal)) (by rw [mul_comm]) rfl
  · funext y
    blk_simp [iblk]
    refine (V_e A _).trans ?_
    blk_simp [idx t]
    exact congrArg₂ (fun m n => ((gradK dk m n : ℝ) : EReal)) (by rw [mul_comm]) rfl
  · funext y
    rw [show X0_2 m c t y = _ from dif_pos (moved0_2 t y)]
    blk_simp [iblk]
    have h0 : (y 0).val < 384 := (y 0).isLt
    have h1 : (y 1).val < 1024 := (y 1).isLt
    refine (V_x A _ (by blk_simp [idx t]; exact h1)).trans ?_
    blk_simp [idx t]
    exact congrArg₂ (fun m n => ((rowsQ h m n : ℝ) : EReal)) (by rw [mul_comm]) rfl
  · funext y
    blk_simp [iblk]
    have h0 : (y 0).val < 384 := (y 0).isLt
    have h1 : (y 1).val < 256 := (y 1).isLt
    refine (V_y A _ (by blk_simp [idx t]; omega) (by blk_simp [idx t]; exact Nat.add_lt_add_left h1 _)).trans ?_
    refine congrArg (fun s : ℝ => (s : EReal)) ?_
    have e1 : 20 * 256 + (y 1).val - 5120 = (y 1).val := by omega
    blk_simp [idx t]
    show nul _ (t.val * 384 + (y 0).val) (20 * 256 + (y 1).val) = nul _ _ _
    rw [mul_comm t.val, nul, nul, e1]
  · funext y
    blk_simp [iblk]
    rw [V_g A]
    blk_simp [lane, idx t]
  · funext y
    blk_simp [iblk]
    rw [V_g' A]
    blk_simp [lane, idx t]
  · funext y
    blk_simp [iblk]
    refine (V_C _).trans ?_
    blk_simp [idx t]
    exact congrArg₂ (fun m n => ((tabC (nul angle) m n : ℝ) : EReal)) (by rw [mul_comm]) rfl
  · funext y
    blk_simp [iblk]
    refine (V_A _).trans ?_
    blk_simp [idx t]
    exact congrArg₂ (fun m n => ((tabA (nul angle) m n : ℝ) : EReal)) (by rw [mul_comm]) rfl
  · funext y
    blk_simp [iblk]
    refine (V_B _).trans ?_
    blk_simp [idx t]
    exact congrArg₂ (fun m n => ((tabB (nul angle) m n : ℝ) : EReal)) (by rw [mul_comm]) rfl

/-- The gradients before the norms, and a row's part of the gains' gradients. -/
def outQ (dq h : ℕ → ℕ → ℝ) (g : ℕ → ℝ) : ℕ → ℕ → ℝ :=
  dOut rQ (rowsQ h) (gradQ dq) (tabC (nul angle)) (tabA (nul angle)) (tabB (nul angle)) (wideGain g)
def outK (dk h : ℕ → ℕ → ℝ) (g : ℕ → ℝ) : ℕ → ℕ → ℝ :=
  dOut 1 (rowsK h) (gradK dk) (tabC (nul angle)) (tabA (nul angle)) (tabB (nul angle)) (wideGain g)
def partQ (dq h : ℕ → ℕ → ℝ) : ℕ → ℕ → ℝ :=
  dGain 8 rQ (rowsQ h) (gradQ dq) (tabC (nul angle)) (tabA (nul angle)) (tabB (nul angle))
def partK (dk h : ℕ → ℕ → ℝ) : ℕ → ℕ → ℝ :=
  dGain 2 1 (rowsK h) (gradK dk) (tabC (nul angle)) (tabA (nul angle)) (tabB (nul angle))

include A in
/-- The queries' gradient, as the region leaves it. -/
theorem final9 : (dats m 0 c).arrAt 9 cfg0.N = fun i : S4224x1024.Idx => ((outQ dq h gq (i 0).val (i 1).val : ℝ) : EReal) := by
  refine (dats m 0 c).arrAt_eq_of_covers 9 _ (by decide +kernel) fun t _ y => ?_
  blk_simp
  rw [after0_9]
  refine (outQ_at (reads A t) y).trans ?_
  refine congrArg (fun s : ℝ => (s : EReal)) ?_
  show outQ dq h gq (384 * t.val + (y 0).val) (y 1).val = _
  blk_simp [idx t]
  rw [mul_comm]

include A in
/-- The keys' gradient, as the region leaves it. -/
theorem final10 : (dats m 0 c).arrAt 10 cfg0.N = fun i : S4224x256.Idx => ((outK dk h gk (i 0).val (i 1).val : ℝ) : EReal) := by
  refine (dats m 0 c).arrAt_eq_of_covers 10 _ (by decide +kernel) fun t _ y => ?_
  blk_simp
  rw [after0_10]
  refine (outK_at (reads A t) y).trans ?_
  refine congrArg (fun s : ℝ => (s : EReal)) ?_
  show outK dk h gk (384 * t.val + (y 0).val) (y 1).val = _
  blk_simp [idx t]
  rw [mul_comm]

include A in
/-- The running sums of the gains' gradients after each point. -/
theorem accQ : ∀ (n : ℕ) (hn : n < cfg0.N) (y : S1x128.Idx), (outsAt0 m c n hn).2.2.1 y
    = ((∑ p ∈ Finset.range (n + 1), ∑ r : Fin 384, partQ dq h (384 * p + r.val) (y 1).val : ℝ) : EReal) := by
  intro n
  induction n with
  | zero =>
    intro hn y
    refine (gainQ_at0 (reads A ⟨0, hn⟩) (by simp) y).trans ?_
    rw [zero_add, Finset.sum_range_one]
    rfl
  | succ n ih =>
    intro hn y
    refine (gainQ_at1 (reads A ⟨n + 1, hn⟩) (by simp) y).trans ?_
    rw [Finset.sum_range_succ, EReal.coe_add]
    exact congrArg₂ (· + ·) (ih (Nat.lt_of_succ_lt hn) y) rfl

include A in
theorem accK : ∀ (n : ℕ) (hn : n < cfg0.N) (y : S1x128.Idx), (outsAt0 m c n hn).2.2.2 y
    = ((∑ p ∈ Finset.range (n + 1), ∑ r : Fin 384, partK dk h (384 * p + r.val) (y 1).val : ℝ) : EReal) := by
  intro n
  induction n with
  | zero =>
    intro hn y
    refine (gainK_at0 (reads A ⟨0, hn⟩) (by simp) y).trans ?_
    rw [zero_add, Finset.sum_range_one]
    rfl
  | succ n ih =>
    intro hn y
    refine (gainK_at1 (reads A ⟨n + 1, hn⟩) (by simp) y).trans ?_
    rw [Finset.sum_range_succ, EReal.coe_add]
    exact congrArg₂ (· + ·) (ih (Nat.lt_of_succ_lt hn) y) rfl

theorem flush11 : ∀ t : Fin cfg0.N, (cfg0.win 11).flush t = true → t.val = 10 :=
  (by decide +kernel : ∀ t : Fin grid0.N, _)
theorem flush12 : ∀ t : Fin cfg0.N, (cfg0.win 12).flush t = true → t.val = 10 :=
  (by decide +kernel : ∀ t : Fin grid0.N, _)

include A in
/-- The gains' gradients, as the region leaves them. -/
theorem final11 : (dats m 0 c).arrAt 11 cfg0.N = lane fun p => ∑ q ∈ Finset.range 11, ∑ r : Fin 384, partQ dq h (384 * q + r.val) p := by
  refine (dats m 0 c).arrAt_eq_of_covers 11 _ (by decide +kernel) fun t ht y => ?_
  blk_simp
  rw [after0_11]
  refine (accQ A t.val t.isLt y).trans ?_
  rw [flush11 t ht]
  blk_simp [lane, idx t]

include A in
theorem final12 : (dats m 0 c).arrAt 12 cfg0.N = lane fun p => ∑ q ∈ Finset.range 11, ∑ r : Fin 384, partK dk h (384 * q + r.val) p := by
  refine (dats m 0 c).arrAt_eq_of_covers 12 _ (by decide +kernel) fun t ht y => ?_
  blk_simp
  rw [after0_12]
  refine (accK A t.val t.isLt y).trans ?_
  rw [flush12 t ht]
  blk_simp [lane, idx t]

end Cert.AttnPrepBwdIdeal.Mine

end
-- ==== Proof.AttnPrepBwd.Rows.lean ====
/- A head's row of 64 columns in 128 lanes: the norm's backward and the embedding turned back, as the kernel and as the reference write them. -/
module

public import proofs.«01_k».proof.Proof.AttnPrepBwd.Angles
public import proofs.«01_k».proof.Proof.InProjDz.Pack

@[expose] public section

noncomputable section

namespace Cert.Reals

/-- The cotangent turned back: each half of a quarter takes from the other. -/
def turnRow (d θ : ℕ → ℝ) (p : ℕ) : ℝ :=
  if p % 32 < 16 then d (p + 16) * Real.sin (θ (p / 32 * 16 + p % 16)) + d p * Real.cos (θ (p / 32 * 16 + p % 16))
  else d p * Real.cos (θ (p / 32 * 16 + p % 16)) + -d (p - 16) * Real.sin (θ (p / 32 * 16 + p % 16))

/-- The norm's backward in a row of 64 columns; `v` is the cotangent with the gain. -/
def root64 (x : ℕ → ℝ) : ℝ := rt 64 fun l : Fin 64 => x l.val
def slope (x v : ℕ → ℝ) : ℝ := (∑ l : Fin 64, x l.val * v l.val) * (-(1 / 2) * (root64 x * root64 x * root64 x)) / 64
def backRow (x v : ℕ → ℝ) (p : ℕ) : ℝ := v p * root64 x + x p * slope x v + slope x v * x p

/-- The first 64 of 128 lanes. -/
theorem sum_half (f : ℕ → ℝ) (h : ∀ l, 64 ≤ l → l < 128 → f l = 0) : ∑ l : Fin 128, f l.val = ∑ l : Fin 64, f l.val := by
  rw [← Finset.sum_range f, ← Finset.sum_range f, show 128 = 64 + 64 from rfl, Finset.sum_range_add,
    Finset.sum_eq_zero (s := Finset.range 64) (f := fun x => f (64 + x)) fun l hl => h _ (by omega) (by have := Finset.mem_range.mp hl; omega), add_zero]

def half (x : ℕ → ℝ) (p : ℕ) : ℝ := if p < 64 then x p else 0

theorem half_lt (x : ℕ → ℝ) {p : ℕ} (h : p < 64) : half x p = x p := if_pos h
theorem half_ge (x : ℕ → ℝ) {p : ℕ} (h : 64 ≤ p) : half x p = 0 := if_neg (by omega)

variable {X W : ℕ → ℕ → ℝ} {G x w g : ℕ → ℝ} {n : ℕ} (hX : ∀ p, p < 128 → X n p = half x p) (hW : ∀ p, p < 128 → W n p = half w p)

include hX in
theorem rh_half : rh X n = root64 x := by
  have e : ∑ k : Fin 128, X n k.val * X n k.val = ∑ k : Fin 64, x k.val * x k.val := by
    rw [Finset.sum_congr rfl fun k _ => by rw [hX k.val k.isLt]]
    refine (sum_half (fun l => half x l * half x l) fun l h _ => by rw [half_ge x h, zero_mul]).trans ?_
    exact Finset.sum_congr rfl fun k _ => by rw [half_lt x k.isLt]
  rw [rh, root64, rt, rt, ms, ms, e]

include hX hW in
theorem gainHead_half {p : ℕ} (hp : p < 128) : gainHead X W n p = half (fun p => x p * root64 x * w p) p := by
  rw [gainHead, hX p hp, hW p hp, rh_half hX]
  by_cases h : p < 64
  · rw [half_lt x h, half_lt w h, half_lt _ h]; ring
  · rw [half_ge w (Nat.le_of_not_lt h), zero_mul]
    exact (half_ge _ (Nat.le_of_not_lt h)).symm

include hX hW in
theorem dHead_half {p : ℕ} (hp : p < 128) : dHead X W (half g) n p = half (backRow x fun l => w l * g l) p := by
  have e : ∑ l : Fin 128, W n l.val * half g l.val * (X n l.val * rh X n) = (∑ l : Fin 64, x l.val * (w l.val * g l.val)) * root64 x := by
    rw [Finset.sum_congr rfl fun k _ => by rw [hX k.val k.isLt, hW k.val k.isLt], rh_half hX]
    refine (sum_half (fun l => half w l * half g l * (half x l * root64 x)) fun l h _ => by rw [half_ge w h, zero_mul, zero_mul]).trans ?_
    rw [Finset.sum_mul]
    exact Finset.sum_congr rfl fun k _ => by rw [half_lt x k.isLt, half_lt w k.isLt, half_lt g k.isLt]; ring
  rw [dHead, meanHead, e, hX p hp, hW p hp, rh_half hX]
  by_cases h : p < 64
  · rw [half_lt x h, half_lt w h, half_lt g h, half_lt _ h, backRow, slope]; ring
  · rw [half_ge x (Nat.le_of_not_lt h), half_ge w (Nat.le_of_not_lt h)]
    refine Eq.trans ?_ (half_ge _ (Nat.le_of_not_lt h)).symm
    ring

/-- The kernel's three products are the reference's two. -/
theorem turn_half {D θ : ℕ → ℕ → ℝ} {d : ℕ → ℝ} (hD : ∀ p, p < 128 → D n p = half d p) {p : ℕ} (hp : p < 128) :
    turnBack D (tabC θ) (tabA θ) (tabB θ) n p = half (turnRow d (θ n)) p := by
  rw [turnBack]
  by_cases h : p < 64
  · rw [half_lt _ h, turnRow, hD p hp, half_lt _ h]
    have eC : tabC θ n p = Real.cos (θ n (p / 32 * 16 + p % 16)) := by rw [tabC, if_pos h]
    by_cases e : p % 32 < 16
    · have zA : tabA θ n ((p + 112) % 128) = 0 := by rw [tabA, if_neg (by omega)]
      have eB : tabB θ n ((p + 16) % 128) = Real.sin (θ n (p / 32 * 16 + p % 16)) := by
        rw [tabB, if_pos (by omega), show (p + 16) % 128 / 32 * 16 + (p + 16) % 128 % 16 = p / 32 * 16 + p % 16 by omega]
      rw [if_pos e, eC, zA, eB, hD _ (Nat.mod_lt _ (by norm_num)), hD _ (Nat.mod_lt _ (by norm_num)),
        show (p + 16) % 128 = p + 16 by omega, half_lt d (show p + 16 < 64 by omega)]
      ring
    · have zB : tabB θ n ((p + 16) % 128) = 0 := by rw [tabB, if_neg (by omega)]
      have eA : tabA θ n ((p + 112) % 128) = -Real.sin (θ n (p / 32 * 16 + p % 16)) := by
        rw [tabA, if_pos (by omega), show (p + 112) % 128 / 32 * 16 + (p + 112) % 128 % 16 = p / 32 * 16 + p % 16 by omega]
      rw [if_neg e, eC, zB, eA, hD _ (Nat.mod_lt _ (by norm_num)), hD _ (Nat.mod_lt _ (by norm_num)),
        show (p + 112) % 128 = p - 16 by omega, half_lt d (show p - 16 < 64 by omega)]
      ring
  · have zC : tabC θ n p = 0 := by rw [tabC, if_neg h]
    have zA : tabA θ n ((p + 112) % 128) = 0 := by rw [tabA, if_neg (by omega)]
    have zB : tabB θ n ((p + 16) % 128) = 0 := by rw [tabB, if_neg (by omega)]
    rw [half_ge _ (Nat.le_of_not_lt h), zC, zA, zB, mul_zero, mul_zero, mul_zero, add_zero, add_zero]

end Cert.Reals

end
-- ==== Proof.AttnPrepBwd.Ref.lean ====
/- The reference of the norms' and the embedding's backward, stage by stage, at arrays of real numbers: the queries. -/
module

public import proofs.«01_k».proof.Proof.AttnPrepBwd.Rows
public import proofs.«01_k».proof.Proof.Gen.AttnPrepBwdRefIdeal.Read

@[expose] public section

set_option maxRecDepth 16384

noncomputable section

namespace Cert.AttnPrepBwdRefIdeal.Mine

open Idealize.ShloMosaic Idealize.ShloMosaic.TcCoe Idealize.SL.Sem
open Cert.AttnPrepBwdRefIdeal Cert.AttnPrepBwdRefIdeal.Gen Cert.AttnPrepBwdRefIdeal.Read Cert.Reals

variable (dq dk h : ℕ → ℕ → ℝ) (g : ℕ → ℝ)

/-- The arguments as arrays. -/
def DQ : (⟨S4112x512, .f32⟩ : BufTy).Contents (Elt Ideal) := fun i : S4112x512.Idx => ((dq (i 0).val (i 1).val : ℝ) : EReal)
def DK : (⟨S4112x128, .f32⟩ : BufTy).Contents (Elt Ideal) := fun i : S4112x128.Idx => ((dk (i 0).val (i 1).val : ℝ) : EReal)
def H : (⟨S4112x4384, .f32⟩ : BufTy).Contents (Elt Ideal) := fun i : S4112x4384.Idx => ((h (i 0).val (i 1).val : ℝ) : EReal)
def G : (⟨S64, .f32⟩ : BufTy).Contents (Elt Ideal) := fun i : S64.Idx => ((g (i 0).val : ℝ) : EReal)

theorem angle_at {n f : ℕ} :
    (if h : n < 16 then (0 : EReal)
    else
      if h : f < 16 then
        (FloatOps.sitofp FTy.f32 (BitVec.ofNat 32 ((n - 16) / 64)) : Ideal .f32) *
          Ideal.pow (Ideal.ofBits FTy.f32 0x461C4000#32)
            (Ideal.div (-(0 + Ideal.ofBits FTy.f32 0x40000000#32 * (FloatOps.sitofp FTy.f32 (BitVec.ofNat 32 f) : Ideal .f32)))
              (Ideal.ofBits FTy.f32 0x42000000#32))
      else
        (FloatOps.sitofp FTy.f32 (BitVec.ofNat 32 ((n - 16) % 64)) : Ideal .f32) *
          Ideal.pow (Ideal.ofBits FTy.f32 0x461C4000#32)
            (Ideal.div (-(0 + Ideal.ofBits FTy.f32 0x40000000#32 * (FloatOps.sitofp FTy.f32 (BitVec.ofNat 32 (f - 16)) : Ideal .f32)))
              (Ideal.ofBits FTy.f32 0x42000000#32))) = ((angle n f : ℝ) : EReal) := by
  by_cases h : n < 16
  · rw [dif_pos h, angle, if_pos h]; rfl
  · rw [dif_neg h, angle, if_neg h]
    by_cases e : f < 16
    · rw [dif_pos e, if_pos e, zero_add, freq_coe, num_coe, ← EReal.coe_mul]
    · rw [dif_neg e, if_neg e, zero_add, freq_coe, num_coe, ← EReal.coe_mul]

theorem v42 (i : S4112x32.Idx) : val_main_v42 (F := Ideal) i = ((angle (i 0).val (i 1).val : ℝ) : EReal) := by
  simp only [val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14,
    val_main_v13, val_main_v12, val_main_v11]
  pointwise
  simp only [val_main_cst_apply, val_main_cst_0_apply, val_main_cst_1_apply, val_main_cst_2_apply, val_main_cst_3_apply]
  pointwise
  refine Eq.trans ?_ (angle_at (n := (i 0).val) (f := (i 1).val))
  simp only [zero_add]

theorem v43 (i : S4112x32.Idx) : val_main_v43 (F := Ideal) i = ((Real.cos (angle (i 0).val (i 1).val) : ℝ) : EReal) := by
  rw [val_main_v43_apply, v42]
  exact Ideal.cos_coe _

theorem v44 (i : S4112x32.Idx) : val_main_v44 (F := Ideal) i = ((Real.sin (angle (i 0).val (i 1).val) : ℝ) : EReal) := by
  rw [val_main_v44_apply, v42]
  exact Ideal.sin_coe _

theorem eighth_f32 : Ideal.ofBits FTy.f32 0x3E000000#32 = ((1 / 8 : ℝ) : EReal) := by
  simp [Ideal.ofBits, Ideal.ieee, -EReal.coe_mul]; norm_num

theorem c64_f32 : Ideal.ofBits FTy.f32 0x42800000#32 = ((64 : ℝ) : EReal) := by
  simp [Ideal.ofBits, Ideal.ieee, -EReal.coe_mul]; norm_num

/-- A head's row among the packed columns, and its cotangent. -/
def rowQ (j n p : ℕ) : ℝ := h n (1568 + (j * 64 + p))
def cotQ (j n p : ℕ) : ℝ := dq n (j * 64 + p) * (1 / 8)

theorem v46 (i : S8x4112x64.Idx) : val_main_v46 (F := Ideal) (H h) i = ((rowQ h (i 0).val (i 1).val (i 2).val : ℝ) : EReal) := by
  rw [val_main_v46_apply]
  unfold val_main_v45
  pointwise
  unfold val_main_v6
  pointwise [H]
  rfl

theorem v184 (i : S8x4112x64.Idx) : val_main_v184 (F := Ideal) (DQ dq) i = ((cotQ dq (i 0).val (i 1).val (i 2).val : ℝ) : EReal) := by
  rw [val_main_v184_apply, val_main_v140_apply, val_main_v183_apply]
  unfold val_main_v139
  pointwise [DQ]
  rw [val_main_cst_20_apply]
  refine (congrArg (fun x : EReal => _ * x) eighth_f32).trans ?_
  exact (EReal.coe_mul _ _).symm

theorem v187 (i : S8x4112x2x16.Idx) : val_main_v187 (F := Ideal) (DQ dq) i
    = ((cotQ dq (i 0).val (i 1).val ((i 2).val * 32 + (i 3).val) : ℝ) : EReal) := by
  unfold val_main_v187
  pointwise
  rw [val_main_v186_apply]
  unfold val_main_v185
  pointwise
  exact v184 dq _

theorem v189 (i : S8x4112x2x16.Idx) : val_main_v189 (F := Ideal) (DQ dq) i
    = ((cotQ dq (i 0).val (i 1).val ((i 2).val * 32 + 16 + (i 3).val) : ℝ) : EReal) := by
  unfold val_main_v189
  pointwise
  rw [val_main_v188_apply]
  unfold val_main_v185
  pointwise
  exact v184 dq _

/-- The tables by row and column of the grid. -/
theorem cosQ (i : S8x4112x2x16.Idx) : val_main_v192 (F := Ideal) i = ((Real.cos (angle (i 1).val ((i 2).val * 16 + (i 3).val)) : ℝ) : EReal) := by
  rw [val_main_v192_apply, val_main_v79_apply]
  unfold val_main_v70
  pointwise
  exact v43 _

theorem sinQ (i : S8x4112x2x16.Idx) : val_main_v190 (F := Ideal) i = ((Real.sin (angle (i 1).val ((i 2).val * 16 + (i 3).val)) : ℝ) : EReal) := by
  rw [val_main_v190_apply, val_main_v82_apply]
  unfold val_main_v71
  pointwise
  exact v44 _

theorem cosQ' (i : S8x4112x2x16.Idx) : val_main_v198 (F := Ideal) i = ((Real.cos (angle (i 1).val ((i 2).val * 16 + (i 3).val)) : ℝ) : EReal) := by
  rw [val_main_v198_apply, val_main_v72_apply]
  unfold val_main_v70
  pointwise
  exact v43 _

theorem sinQ' (i : S8x4112x2x16.Idx) : val_main_v195 (F := Ideal) i = ((Real.sin (angle (i 1).val ((i 2).val * 16 + (i 3).val)) : ℝ) : EReal) := by
  rw [val_main_v195_apply, val_main_v75_apply]
  unfold val_main_v71
  pointwise
  exact v44 _

theorem v201 (i : S8x4112x2x1x16.Idx) {p : ℕ} (hp : p = (i 2).val * 32 + 16 + (i 4).val) :
    val_main_v201 (F := Ideal) (DQ dq) i = ((turnRow (cotQ dq (i 0).val (i 1).val) (angle (i 1).val) p : ℝ) : EReal) := by
  have h4 : (i 4).val < 16 := (i 4).isLt
  rw [val_main_v201_apply, val_main_v197_apply, val_main_v193_apply, val_main_v196_apply, val_main_v194_apply, v189, cosQ, v187, sinQ']
  pointwise
  rw [← EReal.coe_neg, ← EReal.coe_mul, ← EReal.coe_mul, ← EReal.coe_add]
  refine congrArg (fun r : ℝ => (r : EReal)) ?_
  rw [turnRow, if_neg (by omega), show p / 32 * 16 + p % 16 = (i 2).val * 16 + (i 4).val by omega, show p - 16 = (i 2).val * 32 + (i 4).val by omega, hp]

theorem v203 (i : S8x4112x2x1x16.Idx) {p : ℕ} (hp : p = (i 2).val * 32 + (i 4).val) :
    val_main_v203 (F := Ideal) (DQ dq) i = ((turnRow (cotQ dq (i 0).val (i 1).val) (angle (i 1).val) p : ℝ) : EReal) := by
  have h4 : (i 4).val < 16 := (i 4).isLt
  rw [val_main_v203_apply, val_main_v200_apply, val_main_v191_apply, val_main_v199_apply, v189, sinQ, v187, cosQ']
  pointwise
  rw [← EReal.coe_mul, ← EReal.coe_mul, ← EReal.coe_add]
  refine congrArg (fun r : ℝ => (r : EReal)) ?_
  rw [turnRow, if_pos (by omega), show p / 32 * 16 + p % 16 = (i 2).val * 16 + (i 4).val by omega,
    show p + 16 = (i 2).val * 32 + 16 + (i 4).val by omega, hp]

/-- One of two parts. -/
theorem pick {P Q : Prop} [Decidable P] [Decidable Q] {X : P → EReal} {Y : Q → EReal} {Z Z' F : EReal} (hZ : Z = 0) (hZ' : Z' = 0)
    (h : P ∧ ¬ Q ∨ ¬ P ∧ Q) (hX : ∀ e, X e = F) (hY : ∀ e, Y e = F) : (if e : P then X e else Z) + (if e : Q then Y e else Z') = F := by
  rcases h with ⟨p, q⟩ | ⟨p, q⟩
  · rw [dif_pos p, dif_neg q, hX, hZ', add_zero]
  · rw [dif_neg p, dif_pos q, hY, hZ, zero_add]

theorem v206 (i : S8x4112x64.Idx) : val_main_v206 (F := Ideal) (DQ dq) i = ((turnRow (cotQ dq (i 0).val (i 1).val) (angle (i 1).val) (i 2).val : ℝ) : EReal) := by
  unfold val_main_v206
  pointwise
  rw [val_main_v205_apply]
  unfold val_main_v202 val_main_v204
  pointwise
  idx_bounds
  refine pick ?_ ?_ (by omega) (fun e => v201 dq _ ?_) (fun e => v203 dq _ ?_)
  · rw [val_main_cst_21_apply]; pointwise
  · rw [val_main_cst_22_apply]; pointwise
  · show (i 2).val = (i 2).val / 32 * 32 + 16 + (i 2).val % 16
    omega
  · show (i 2).val = (i 2).val / 32 * 32 + (i 2).val % 16
    omega

/-- The norm and its backward. -/
theorem v55 (i : S8x4112x1.Idx) : val_main_v55 (F := Ideal) (H h) i = ((ms 64 (fun l : Fin 64 => rowQ h (i 0).val (i 1).val l.val) : ℝ) : EReal) := by
  simp only [val_main_v55_apply, val_main_v54_apply, val_main_cst_6_apply, val_main_v53_apply, val_main_v52_apply, val_main_cst_5_apply,
    val_main_v51_apply, val_main_v50_apply, val_main_cst_4_apply, val_main_v49_apply, v46]
  pointwise
  rw [c64_f32, eps_f32]
  simp only [← EReal.coe_mul, coe_sum]
  rw [div_coe_coe (by norm_num), ← EReal.coe_add]
  rfl

theorem v56 (i : S8x4112x1.Idx) : val_main_v56 (F := Ideal) (H h) i = ((root64 (rowQ h (i 0).val (i 1).val) : ℝ) : EReal) := by
  rw [val_main_v56_apply, v55]
  exact rsqrt_pos (ms_pos (by norm_num) _)

theorem v59 (i : S8x4112x1.Idx) : val_main_v59 (F := Ideal) (H h) i
    = ((-(1 / 2) * (root64 (rowQ h (i 0).val (i 1).val) * root64 (rowQ h (i 0).val (i 1).val) * root64 (rowQ h (i 0).val (i 1).val)) : ℝ) : EReal) := by
  simp only [val_main_v59_apply, val_main_v58_apply, val_main_cst_7_apply, val_main_v57_apply, v55, v56]
  pointwise
  rw [neg_half_f32, div_coe_coe (ms_pos (by norm_num) _).ne', ← EReal.coe_mul, root64, rt_div_ms (by norm_num)]

theorem v61 (i : S8x4112x64.Idx) : val_main_v61 (F := Ideal) (H h) i
    = ((rowQ h (i 0).val (i 1).val (i 2).val * root64 (rowQ h (i 0).val (i 1).val) : ℝ) : EReal) := by
  rw [val_main_v61_apply, val_main_v60_apply, v46, v56]
  exact (EReal.coe_mul _ _).symm

/-- The cotangent of a head's normed row, without and with the gain. -/
def wQ (j n p : ℕ) : ℝ := turnRow (cotQ dq j n) (angle n) p

theorem v211 (i : S8x4112x64.Idx) : val_main_v211 (F := Ideal) (DQ dq) (G g) i
    = ((wQ dq (i 0).val (i 1).val (i 2).val * g (i 2).val : ℝ) : EReal) := by
  rw [val_main_v211_apply, v206, val_main_v210_apply, val_main_v62_apply]
  exact (EReal.coe_mul _ _).symm

theorem v221 (i : S8x4112.Idx) : val_main_v221 (F := Ideal) (DQ dq) (H h) (G g) i
    = ((slope (rowQ h (i 0).val (i 1).val) (fun l => wQ dq (i 0).val (i 1).val l * g l) : ℝ) : EReal) := by
  simp only [val_main_v221_apply, val_main_cst_27_apply, val_main_v220_apply, val_main_v219_apply, val_main_cst_26_apply, val_main_v218_apply, v59]
  unfold val_main_v215
  pointwise
  simp only [val_main_v214_apply, val_main_cst_25_apply, val_main_v213_apply, v46, v211]
  pointwise
  simp only [← EReal.coe_mul, coe_sum]
  rw [c64_f32]
  simp only [Finset.univ_unique, Finset.sum_singleton]
  exact div_coe_coe (by norm_num) _

theorem v226 (i : S8x4112x64.Idx) : val_main_v226 (F := Ideal) (DQ dq) (H h) (G g) i
    = ((backRow (rowQ h (i 0).val (i 1).val) (fun l => wQ dq (i 0).val (i 1).val l * g l) (i 2).val : ℝ) : EReal) := by
  simp only [val_main_v226_apply, val_main_v225_apply, val_main_v224_apply, val_main_v223_apply, val_main_v222_apply, val_main_v217_apply,
    val_main_v216_apply, v211, v56, v46, v221]
  pointwise
  simp only [← EReal.coe_mul, ← EReal.coe_add]
  rfl

/-- The places of an array of heads, rows and lanes that are summed into one lane. -/
theorem heads_fiber {n0 n1 n2 : ℕ} (h : (⟨3, ![n0, n1, n2]⟩ : Shape).ReducesTo [0, 1] ⟨1, ![n2]⟩) (j : (⟨1, ![n2]⟩ : Shape).Idx)
    (i : (⟨3, ![n0, n1, n2]⟩ : Shape).Idx) : h.drop i = j ↔ ∃ k : Fin n0 × Fin n1, ix3 k.1 k.2 (j 0) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A sum over the heads and the rows. -/
theorem sum_heads {n0 n1 n2 : ℕ} {t : Shape} (h : (⟨3, ![n0, n1, n2]⟩ : Shape).ReducesTo [0, 1] t) (v : (⟨3, ![n0, n1, n2]⟩ : Shape).Idx → EReal)
    (init : EReal) (j : t.Idx) (c : Fin n2) (hp : ∀ i, h.drop i = j ↔ ∃ k : Fin n0 × Fin n1, ix3 k.1 k.2 c = i) :
    Ideal.hostReduceAdd h v init j = init + ∑ a : Fin n0, ∑ b : Fin n1, v (ix3 a b c) := by
  refine Eq.trans (b := init + ∑ k : Fin n0 × Fin n1, v (ix3 k.1 k.2 c)) (congrArg (init + ·)
    (Finset.sum_filter_eq_sum_of_fiber _ (fun k : Fin n0 × Fin n1 => ix3 k.1 k.2 c)
      (fun _ _ e => Prod.ext (congrFun e 0) (congrFun e 1)) hp v)) ?_
  rw [Fintype.sum_prod_type]

/-- The gain's gradient. -/
def gainQ (p : ℕ) : ℝ := ∑ j : Fin 8, ∑ n : Fin 4112, rowQ h j.val n.val p * root64 (rowQ h j.val n.val) * wQ dq j.val n.val p

theorem v208 (i : S64.Idx) : val_main_v208 (F := Ideal) (DQ dq) (H h) i = ((gainQ dq h (i 0).val : ℝ) : EReal) := by
  unfold val_main_v208
  refine (sum_heads _ _ _ _ _ (heads_fiber _ i)).trans ?_
  simp only [val_main_v207_apply, v61, v206, val_main_cst_23_apply]
  pointwise
  simp only [← EReal.coe_mul, coe_sum]
  rfl

theorem v212 (i : S64.Idx) : val_main_v212 (F := Ideal) (DQ dq) (H h) i = ((gainQ dq h (i 0).val : ℝ) : EReal) := by
  unfold val_main_v212
  refine (sum_heads _ _ _ _ _ (heads_fiber _ i)).trans ?_
  unfold val_main_v209
  pointwise
  simp only [val_main_cst_24_apply, Finset.univ_unique, Finset.sum_singleton]
  pointwise
  exact v208 dq h _

/-- A value in the first 64 of 128 lanes, zero behind. -/
theorem halved {P : Prop} [Decidable P] {q : ℕ} {f : ℕ → ℝ} {a : P → EReal} {z : EReal} (hp : P → q < 64) (hq : q < 64 → P)
    (ha : ∀ e, a e = ((f q : ℝ) : EReal)) (hz : z = ((0 : ℝ) : EReal)) : (if e : P then a e else z) = ((half f q : ℝ) : EReal) := by
  by_cases e : P
  · rw [dif_pos e, ha, half_lt _ (hp e)]
  · rw [dif_neg e, hz, half_ge _ (Nat.le_of_not_lt fun l => e (hq l))]

/-- A value behind 112 rows of zeros. -/
theorem shifted {n p : ℕ} {f : ℕ → ℕ → ℝ} {a : 112 ≤ n ∧ n - 112 < 4112 → EReal} {z : EReal} (hn : n < 4224)
    (ha : ∀ e, a e = ((f (n - 112) p : ℝ) : EReal)) (hz : z = ((0 : ℝ) : EReal)) :
    (if e : 112 ≤ n ∧ n - 112 < 4112 then a e else z) = ((nul f n p : ℝ) : EReal) := by
  unfold nul
  split_ifs with e l l
  · omega
  · exact ha e
  · exact hz
  · omega

theorem v230 (i : S4112x512.Idx) : val_main_v230 (F := Ideal) (DQ dq) (H h) (G g) i
    = ((backRow (rowQ h ((i 1).val / 64) (i 0).val) (fun l => wQ dq ((i 1).val / 64) (i 0).val l * g l) ((i 1).val % 64) : ℝ) : EReal) := by
  unfold val_main_v230
  pointwise
  rw [val_main_v229_apply]
  exact v226 dq h g _

/-- The queries' gradient, each head in 128 lanes. -/
def gradWideQ (n p : ℕ) : ℝ := half (backRow (rowQ h (p / 128) n) fun l => wQ dq (p / 128) n l * g l) (p % 128)

theorem grad_lane (j j' n l l' : ℕ) (hj : j = j') (hl : l = l') : ((backRow (rowQ h j n) (fun l => wQ dq j n l * g l) l : ℝ) : EReal)
    = ((backRow (rowQ h j' n) (fun l => wQ dq j' n l * g l) l' : ℝ) : EReal) := by
  rw [hj, hl]

theorem v233 (i : S4112x1024.Idx) : val_main_v233 (F := Ideal) (DQ dq) (H h) (G g) i = ((gradWideQ dq h g (i 0).val (i 1).val : ℝ) : EReal) := by
  unfold val_main_v233
  pointwise
  unfold val_main_v232
  pointwise
  idx_bounds
  unfold val_main_v231
  pointwise
  refine halved (q := (i 1).val % 128) (by omega) (by omega) (fun e => ?_) ?_
  · rw [v230]
    have a := e.2
    refine grad_lane dq h g _ _ _ _ _ ?_ ?_
    · show ((i 1).val / 128 * 64 + (i 1).val % 128) / 64 = (i 1).val / 128
      omega
    · show ((i 1).val / 128 * 64 + (i 1).val % 128) % 64 = (i 1).val % 128
      omega
  · show (((0#32 : BitVec 32).toInt : ℝ) : EReal) = _
    norm_num

theorem v235 (i : S4224x1024.Idx) : val_main_v235 (F := Ideal) (DQ dq) (H h) (G g) i = ((nul (gradWideQ dq h g) (i 0).val (i 1).val : ℝ) : EReal) := by
  rw [val_main_v235_apply]
  unfold val_main_v234
  pointwise
  idx_bounds
  refine shifted (by omega) (fun e => v233 dq h g _) ?_
  show (((0#32 : BitVec 32).toInt : ℝ) : EReal) = _
  norm_num

theorem v242 (i : S1x128.Idx) : val_main_v242 (F := Ideal) (DQ dq) (H h) i = ((half (gainQ dq h) (i 1).val : ℝ) : EReal) := by
  unfold val_main_v242
  pointwise
  idx_bounds
  unfold val_main_v241
  pointwise
  refine halved (q := (i 1).val) (by omega) (by omega) (fun e => v212 dq h _) ?_
  show (((0#32 : BitVec 32).toInt : ℝ) : EReal) = _
  norm_num

end Cert.AttnPrepBwdRefIdeal.Mine

end
-- ==== Proof.AttnPrepBwd.RefK.lean ====
/- The keys in the reference: two heads, not scaled. What a row of 64 columns goes through is said once, for any row; the values follow. -/
module

public import proofs.«01_k».proof.Proof.AttnPrepBwd.Ref

@[expose] public section

set_option maxRecDepth 16384

noncomputable section

namespace Cert.AttnPrepBwdRefIdeal.Mine

open Idealize.ShloMosaic Idealize.ShloMosaic.TcCoe Idealize.SL.Sem
open Cert.AttnPrepBwdRefIdeal Cert.AttnPrepBwdRefIdeal.Gen Cert.AttnPrepBwdRefIdeal.Read Cert.Reals

section row

/- A row `x`, its cotangent `d` or with the gain `v`, the angles `θ`. -/
variable (x d v θ : ℕ → ℝ)

theorem turn_hi {a b p : ℕ} (h : b < 16) (hp : p = a * 32 + 16 + b) :
    ((d (a * 32 + 16 + b) : ℝ) : EReal) * ((Real.cos (θ (a * 16 + b)) : ℝ) : EReal)
      + -((d (a * 32 + b) : ℝ) : EReal) * ((Real.sin (θ (a * 16 + b)) : ℝ) : EReal) = ((turnRow d θ p : ℝ) : EReal) := by
  have e : p / 32 * 16 + p % 16 = a * 16 + b := by omega
  have e' : p - 16 = a * 32 + b := by omega
  rw [turnRow, if_neg (by omega), e, e', hp]
  push_cast
  rfl

theorem turn_lo {a b p : ℕ} (h : b < 16) (hp : p = a * 32 + b) :
    ((d (a * 32 + 16 + b) : ℝ) : EReal) * ((Real.sin (θ (a * 16 + b)) : ℝ) : EReal)
      + ((d (a * 32 + b) : ℝ) : EReal) * ((Real.cos (θ (a * 16 + b)) : ℝ) : EReal) = ((turnRow d θ p : ℝ) : EReal) := by
  have e : p / 32 * 16 + p % 16 = a * 16 + b := by omega
  have e' : p + 16 = a * 32 + 16 + b := by omega
  rw [turnRow, if_pos (by omega), e, e', hp]
  push_cast
  rfl

theorem mean64 : Ideal.div (∑ l : Fin 64, ((x l.val : ℝ) : EReal) * ((x l.val : ℝ) : EReal)) (Ideal.ofBits FTy.f32 0x42800000#32)
    + Ideal.ofBits FTy.f32 0x358637BD#32 = ((ms 64 (fun l : Fin 64 => x l.val) : ℝ) : EReal) := by
  simp only [← EReal.coe_mul, coe_sum]
  rw [c64_f32, eps_f32, div_coe_coe (by norm_num), ← EReal.coe_add]
  rfl

theorem slope64 : Ideal.div ((∑ l : Fin 64, ((x l.val : ℝ) : EReal) * ((v l.val : ℝ) : EReal))
      * ((-(1 / 2) * (root64 x * root64 x * root64 x) : ℝ) : EReal)) (Ideal.ofBits FTy.f32 0x42800000#32) = ((slope x v : ℝ) : EReal) := by
  simp only [← EReal.coe_mul, coe_sum]
  rw [c64_f32]
  exact div_coe_coe (by norm_num) _

end row

variable (dk h : ℕ → ℕ → ℝ) (g : ℕ → ℝ)

/-- A key head's row lies behind the queries; its cotangent, turned back, is that of the normed row. -/
def rowK (j n p : ℕ) : ℝ := h n (2080 + (j * 64 + p))
def cotK (j n p : ℕ) : ℝ := dk n (j * 64 + p)
def wK (j n p : ℕ) : ℝ := turnRow (cotK dk j n) (angle n) p

/-- The gain's gradient; the keys' gradient, each head in 128 lanes. -/
def gainK (p : ℕ) : ℝ := ∑ j : Fin 2, ∑ n : Fin 4112, rowK h j.val n.val p * root64 (rowK h j.val n.val) * wK dk j.val n.val p
def gradWideK (n p : ℕ) : ℝ := half (backRow (rowK h (p / 128) n) fun l => wK dk (p / 128) n l * g l) (p % 128)

theorem v48 (i : S2x4112x64.Idx) : val_main_v48 (F := Ideal) (H h) i = ((rowK h (i 0).val (i 1).val (i 2).val : ℝ) : EReal) := by
  rw [val_main_v48_apply]
  unfold val_main_v47
  pointwise
  unfold val_main_v7
  pointwise [H]
  rfl

theorem v138 (i : S2x4112x64.Idx) : val_main_v138 (F := Ideal) (DK dk) i = ((cotK dk (i 0).val (i 1).val (i 2).val : ℝ) : EReal) := by
  rw [val_main_v138_apply]
  unfold val_main_v137
  pointwise [DK]
  rfl

/-- The lower and the upper half of each quarter. -/
theorem lower (i : S2x4112x2x16.Idx) : val_main_v143 (F := Ideal) (DK dk) i
    = ((cotK dk (i 0).val (i 1).val ((i 2).val * 32 + (i 3).val) : ℝ) : EReal) := by
  unfold val_main_v143
  pointwise
  rw [val_main_v142_apply]
  unfold val_main_v141
  pointwise
  exact v138 dk _

theorem upper (i : S2x4112x2x16.Idx) : val_main_v145 (F := Ideal) (DK dk) i
    = ((cotK dk (i 0).val (i 1).val ((i 2).val * 32 + 16 + (i 3).val) : ℝ) : EReal) := by
  unfold val_main_v145
  pointwise
  rw [val_main_v144_apply]
  unfold val_main_v141
  pointwise
  exact v138 dk _

/-- Each table is read twice. -/
theorem tables (i : S2x4112x2x16.Idx) {c s : EReal} (hc : c = ((Real.cos (angle (i 1).val ((i 2).val * 16 + (i 3).val)) : ℝ) : EReal))
    (hs : s = ((Real.sin (angle (i 1).val ((i 2).val * 16 + (i 3).val)) : ℝ) : EReal)) :
    (val_main_v148 (F := Ideal) i = c ∧ val_main_v154 (F := Ideal) i = c) ∧ val_main_v146 (F := Ideal) i = s ∧ val_main_v151 (F := Ideal) i = s := by
  simp only [val_main_v148_apply, val_main_v122_apply, val_main_v154_apply, val_main_v115_apply, val_main_v146_apply, val_main_v125_apply,
    val_main_v151_apply, val_main_v118_apply]
  unfold val_main_v113 val_main_v114
  pointwise
  rw [hc, hs]
  exact ⟨⟨v43 _, v43 _⟩, v44 _, v44 _⟩

theorem turned_hi (i : S2x4112x2x1x16.Idx) {p : ℕ} (hp : p = (i 2).val * 32 + 16 + (i 4).val) :
    val_main_v157 (F := Ideal) (DK dk) i = ((wK dk (i 0).val (i 1).val p : ℝ) : EReal) := by
  simp only [val_main_v157_apply, val_main_v153_apply, val_main_v149_apply, val_main_v152_apply, val_main_v150_apply, upper, lower,
    (tables _ rfl rfl).1.1, (tables _ rfl rfl).2.2]
  pointwise
  exact turn_hi _ _ (i 4).isLt hp

theorem turned_lo (i : S2x4112x2x1x16.Idx) {p : ℕ} (hp : p = (i 2).val * 32 + (i 4).val) :
    val_main_v159 (F := Ideal) (DK dk) i = ((wK dk (i 0).val (i 1).val p : ℝ) : EReal) := by
  simp only [val_main_v159_apply, val_main_v156_apply, val_main_v147_apply, val_main_v155_apply, upper, lower,
    (tables _ rfl rfl).1.2, (tables _ rfl rfl).2.1]
  pointwise
  exact turn_lo _ _ (i 4).isLt hp

theorem cotangent (i : S2x4112x64.Idx) : val_main_v162 (F := Ideal) (DK dk) i = ((wK dk (i 0).val (i 1).val (i 2).val : ℝ) : EReal) := by
  unfold val_main_v162
  pointwise
  rw [val_main_v161_apply]
  unfold val_main_v158 val_main_v160
  pointwise
  idx_bounds
  refine pick (by rw [val_main_cst_13_apply]; pointwise) (by rw [val_main_cst_14_apply]; pointwise) (by omega)
    (fun q => turned_hi dk _ ?_) (fun q => turned_lo dk _ ?_)
  · show (i 2).val = (i 2).val / 32 * 32 + 16 + (i 2).val % 16
    omega
  · show (i 2).val = (i 2).val / 32 * 32 + (i 2).val % 16
    omega

theorem meanK (i : S2x4112x1.Idx) : val_main_v98 (F := Ideal) (H h) i = ((ms 64 (fun l : Fin 64 => rowK h (i 0).val (i 1).val l.val) : ℝ) : EReal) := by
  simp only [val_main_v98_apply, val_main_v97_apply, val_main_cst_11_apply, val_main_v96_apply, val_main_v95_apply, val_main_cst_10_apply,
    val_main_v94_apply, val_main_v93_apply, val_main_cst_9_apply, val_main_v92_apply, v48]
  pointwise
  exact mean64 _

theorem rootK (i : S2x4112x1.Idx) : val_main_v99 (F := Ideal) (H h) i = ((root64 (rowK h (i 0).val (i 1).val) : ℝ) : EReal) := by
  rw [val_main_v99_apply, meanK]
  exact rsqrt_pos (ms_pos (by norm_num) _)

theorem gained (i : S2x4112x64.Idx) : val_main_v167 (F := Ideal) (DK dk) (G g) i
    = ((wK dk (i 0).val (i 1).val (i 2).val * g (i 2).val : ℝ) : EReal) := by
  rw [val_main_v167_apply, cotangent, val_main_v166_apply, val_main_v105_apply, EReal.coe_mul]
  rfl

theorem slopeK (i : S2x4112.Idx) : val_main_v177 (F := Ideal) (DK dk) (H h) (G g) i
    = ((slope (rowK h (i 0).val (i 1).val) (fun l => wK dk (i 0).val (i 1).val l * g l) : ℝ) : EReal) := by
  simp only [val_main_v177_apply, val_main_cst_19_apply, val_main_v176_apply, val_main_v175_apply, val_main_cst_18_apply, val_main_v174_apply,
    val_main_v102_apply, val_main_v101_apply, val_main_cst_12_apply, val_main_v100_apply, meanK, rootK]
  unfold val_main_v171
  pointwise
  simp only [val_main_v170_apply, val_main_cst_17_apply, val_main_v169_apply, v48, gained]
  pointwise
  rw [neg_half_f32, div_coe_coe (ms_pos (by norm_num) _).ne', ← EReal.coe_mul, root64, rt_div_ms (by norm_num)]
  simp only [Finset.univ_unique, Finset.sum_singleton]
  exact slope64 (rowK h (i 0).val (i 1).val) fun l => wK dk (i 0).val (i 1).val l * g l

theorem rows (i : S4112x128.Idx) : val_main_v228 (F := Ideal) (DK dk) (H h) (G g) i
    = ((backRow (rowK h ((i 1).val / 64) (i 0).val) (fun l => wK dk ((i 1).val / 64) (i 0).val l * g l) ((i 1).val % 64) : ℝ) : EReal) := by
  unfold val_main_v228
  pointwise
  simp only [val_main_v227_apply, val_main_v182_apply, val_main_v181_apply, val_main_v180_apply, val_main_v179_apply, val_main_v178_apply,
    val_main_v173_apply, val_main_v172_apply, gained, rootK, v48, slopeK]
  pointwise
  rw [backRow, EReal.coe_add, EReal.coe_add, EReal.coe_mul, EReal.coe_mul, EReal.coe_mul]
  rfl

theorem gainSum (i : S64.Idx) : val_main_v168 (F := Ideal) (DK dk) (H h) i = ((gainK dk h (i 0).val : ℝ) : EReal) := by
  unfold val_main_v168
  refine (sum_heads _ _ _ _ _ (heads_fiber _ i)).trans ?_
  unfold val_main_v165
  pointwise
  simp only [val_main_cst_16_apply, Finset.univ_unique, Finset.sum_singleton]
  pointwise
  unfold val_main_v164
  refine (sum_heads _ _ _ _ _ (heads_fiber _ _)).trans ?_
  simp only [val_main_v163_apply, val_main_v104_apply, val_main_v103_apply, v48, rootK, cotangent, val_main_cst_15_apply]
  pointwise
  simp only [← EReal.coe_mul, coe_sum]
  rfl

theorem lanes (i : S4112x256.Idx) : val_main_v238 (F := Ideal) (DK dk) (H h) (G g) i = ((gradWideK dk h g (i 0).val (i 1).val : ℝ) : EReal) := by
  unfold val_main_v238
  pointwise
  unfold val_main_v237
  pointwise
  idx_bounds
  unfold val_main_v236
  pointwise
  refine halved (q := (i 1).val % 128) (by omega) (by omega) (fun e => ?_) ?_
  · have a := e.2
    have e1 : ((i 1).val / 128 * 64 + (i 1).val % 128) / 64 = (i 1).val / 128 := by omega
    have e2 : ((i 1).val / 128 * 64 + (i 1).val % 128) % 64 = (i 1).val % 128 := by omega
    refine (rows dk h g _).trans ?_
    show ((backRow (rowK h (((i 1).val / 128 * 64 + (i 1).val % 128) / 64) (i 0).val)
      (fun l => wK dk (((i 1).val / 128 * 64 + (i 1).val % 128) / 64) (i 0).val l * g l)
      (((i 1).val / 128 * 64 + (i 1).val % 128) % 64) : ℝ) : EReal) = _
    rw [e1, e2]
  · show (((0#32 : BitVec 32).toInt : ℝ) : EReal) = _
    norm_num

/-- The two results of the keys. -/
theorem v240 (i : S4224x256.Idx) : val_main_v240 (F := Ideal) (DK dk) (H h) (G g) i = ((nul (gradWideK dk h g) (i 0).val (i 1).val : ℝ) : EReal) := by
  rw [val_main_v240_apply]
  unfold val_main_v239
  pointwise
  idx_bounds
  refine shifted (by omega) (fun e => lanes dk h g _) ?_
  show (((0#32 : BitVec 32).toInt : ℝ) : EReal) = _
  norm_num

theorem v244 (i : S1x128.Idx) : val_main_v244 (F := Ideal) (DK dk) (H h) i = ((half (gainK dk h) (i 1).val : ℝ) : EReal) := by
  unfold val_main_v244
  pointwise
  idx_bounds
  unfold val_main_v243
  pointwise
  refine halved (q := (i 1).val) (by omega) (by omega) (fun e => gainSum dk h _) ?_
  show (((0#32 : BitVec 32).toInt : ℝ) : EReal) = _
  norm_num

end Cert.AttnPrepBwdRefIdeal.Mine

end
-- ==== Proof.AttnPrepBwd.Equation.lean ====
/- The kernel's functions of padded rows and heads in 128 lanes are the reference's functions of rows and heads in 64 columns. -/
module

public import proofs.«01_k».proof.Proof.AttnPrepBwd.Blocks
public import proofs.«01_k».proof.Proof.AttnPrepBwd.RefK

@[expose] public section

set_option maxRecDepth 16384

noncomputable section

namespace Cert.AttnPrepBwdEquation

open Idealize.ShloMosaic
open Cert.AttnPrepBwdIdeal.Mine Cert.Reals
open Cert.AttnPrepBwdRefIdeal.Mine (rowQ cotQ wQ gainQ gradWideQ rowK cotK wK gainK gradWideK)

variable (a : ℕ) (h d : ℕ → ℕ → ℝ) (g : ℕ → ℝ) (s : ℝ) {n j p : ℕ}

/-- The padded rows and gradients. -/
def rows : ℕ → ℕ → ℝ := nul fun n => lanes a 64 (h n)

/-- A head's row, its gradient and the gradient turned back, in 64 columns. -/
def row (j n p : ℕ) : ℝ := h n (a + (j * 64 + p))
def turned (j n p : ℕ) : ℝ := turnRow (fun p => d n (j * 64 + p) * s) (angle n) p

theorem head_row (e : ¬ n < 112) (hp : p < 128) : headOf j (rows a h) n p = half (row a h j (n - 112)) p := by
  rw [headOf, rows, nul, if_neg e, lanes, show (128 * j + p) % 128 = p by omega, show (128 * j + p) / 128 = j by omega]
  rfl

theorem head_grad (e : ¬ n < 112) (hp : p < 128) : headOf j (rows 0 d) n p * s = half (fun p => d (n - 112) (j * 64 + p) * s) p := by
  rw [head_row 0 d e hp]
  unfold half
  split_ifs
  · rw [row, zero_add]
  · rw [zero_mul]

theorem head_cot (e : ¬ n < 112) (hp : p < 128) :
    cotHead s (rows 0 d) (tabC (nul angle)) (tabA (nul angle)) (tabB (nul angle)) j n p = half (turned d s j (n - 112)) p := by
  have z : nul angle n = angle (n - 112) := funext fun f => if_neg e
  refine (turn_half (fun q hq => head_grad d s e hq) hp).trans ?_
  rw [z]
  rfl

theorem zero_row (e : n < 112) (q : ℕ) : headOf j (rows a h) n q = 0 := by
  rw [headOf, rows, nul, if_pos e]

theorem zero_cot (C A B : ℕ → ℕ → ℝ) (e : n < 112) (q : ℕ) : cotHead s (rows 0 d) C A B j n q = 0 := by
  simp only [cotHead, turnBack, zero_row 0 d e, zero_mul, add_zero]

/-- The gradient before the norm. -/
theorem out_eq (n p : ℕ) :
    dOut s (rows a h) (rows 0 d) (tabC (nul angle)) (tabA (nul angle)) (tabB (nul angle)) (wideGain g) n p
    = nul (fun n p => half (backRow (row a h (p / 128) n) fun l => turned d s (p / 128) n l * g l) (p % 128)) n p := by
  by_cases e : n < 112
  · rw [nul, if_pos e, dOut, dHead, zero_row a h e, zero_cot d s _ _ _ e]
    ring
  · rw [nul, if_neg e, dOut]
    exact dHead_half (fun q hq => head_row a h e hq) (fun q hq => head_cot d s e hq) (Nat.mod_lt _ (by norm_num))

/-- The gain's gradient. -/
theorem gain_eq (k : ℕ) {p : ℕ} (hp : p < 128) : ∑ q ∈ Finset.range 11, ∑ r : Fin 384,
      dGain k s (rows a h) (rows 0 d) (tabC (nul angle)) (tabA (nul angle)) (tabB (nul angle)) (384 * q + r.val) p
    = half (fun p => ∑ j : Fin k, ∑ n : Fin 4112, row a h j.val n.val p * root64 (row a h j.val n.val) * turned d s j.val n.val p) p := by
  rw [sum_blocks 384 (fun n => dGain k s (rows a h) (rows 0 d) (tabC (nul angle)) (tabA (nul angle)) (tabB (nul angle)) n p) 11]
  refine (sum_drop 112 4112 _ fun n e => ?_).trans ?_
  · exact Finset.sum_eq_zero fun j _ => by rw [gainHead, zero_cot d s _ _ _ e, zero_mul]
  · have y : ∀ n, dGain k s (rows a h) (rows 0 d) (tabC (nul angle)) (tabA (nul angle)) (tabB (nul angle)) (112 + n) p
        = ∑ j ∈ Finset.range k, half (fun p => row a h j n p * root64 (row a h j n) * turned d s j n p) p := fun n => by
      have e : ¬ 112 + n < 112 := by omega
      refine Finset.sum_congr rfl fun j _ => ?_
      have z := gainHead_half (fun q hq => head_row a h (j := j) e hq) (fun q hq => head_cot d s (j := j) e hq) hp
      rw [Nat.add_sub_cancel_left] at z
      exact z
    rw [Finset.sum_congr rfl fun n _ => y n, Finset.sum_comm, Finset.sum_range]
    unfold half
    split_ifs
    · exact Finset.sum_congr rfl fun j _ => Finset.sum_range _
    · simp

/-- The queries. -/
theorem scaleQ (x : ℝ) : x * Real.log 2 * rQ = x * (1 / 8) := by
  have e : Real.log 2 ≠ 0 := (Real.log_pos (by norm_num)).ne'
  rw [rQ]
  field_simp

theorem turnedQ : turned (fun n p => d n p * Real.log 2) rQ = wQ d := by
  funext j n p
  simp only [turned, scaleQ]
  rfl

theorem outQ_eq (n p : ℕ) : outQ d h g n p = nul (gradWideQ d h g) n p := by
  refine (out_eq 1568 h (fun n p => d n p * Real.log 2) g rQ n p).trans ?_
  rw [turnedQ]
  rfl

theorem partQ_eq {p : ℕ} (hp : p < 128) : ∑ q ∈ Finset.range 11, ∑ r : Fin 384, partQ d h (384 * q + r.val) p = half (gainQ d h) p := by
  refine (gain_eq 1568 h (fun n p => d n p * Real.log 2) rQ 8 hp).trans ?_
  rw [turnedQ]
  rfl

/-- The keys. -/
theorem turnedK : turned d 1 = wK d := by
  funext j n p
  simp only [turned, mul_one]
  rfl

theorem outK_eq (n p : ℕ) : outK d h g n p = nul (gradWideK d h g) n p := by
  refine (out_eq 2080 h d g 1 n p).trans ?_
  rw [turnedK]
  rfl

theorem partK_eq {p : ℕ} (hp : p < 128) : ∑ q ∈ Finset.range 11, ∑ r : Fin 384, partK d h (384 * q + r.val) p = half (gainK d h) p := by
  refine (gain_eq 2080 h d 1 2 hp).trans ?_
  rw [turnedK]
  rfl

end Cert.AttnPrepBwdEquation

end
-- ==== Proof.AttnPrepBwd.Claims.lean ====
/- The claims about the backward of the queries' and keys' norms and rotary embedding: under real arguments the four
   gradients of the kernel are those of the reference. -/
module

public import proofs.«01_k».proof.Defs
public import proofs.«01_k».proof.Proof.AttnPrepBwd.Equation
public import proofs.«01_k».proof.Proof.Gen.AttnPrepBwd.Frame
public import proofs.«01_k».proof.Proof.Gen.AttnPrepBwdIdeal.Value
public import proofs.«01_k».proof.Proof.Gen.AttnPrepBwdRefIdeal.Run
public import proofs.«01_k».proof.Proof.Gen.Pre_finite8

@[expose] public section

set_option maxRecDepth 16384

noncomputable section

namespace Cert.AttnPrepBwdClaims

open Idealize.ShloMosaic Idealize.ShloMosaic.TcCoe Idealize.SL.Sem
open Cert.AttnPrepBwdIdeal.Mine Cert.Reals
open Cert.AttnPrepBwdRefIdeal.Mine (v235 v240 v242 v244)
open Cert.AttnPrepBwdEquation

theorem frame_p : Cert.quiescent_AttnPrepBwd := fun m ρ _ => Cert.AttnPrepBwd.Gen.frame m ρ

theorem frame_pi : Cert.quiescent_AttnPrepBwdIdeal := fun m ρ _ => Cert.AttnPrepBwdIdeal.Gen.frame m ρ

theorem frame_pi_pre : Cert.quiescent_AttnPrepBwdIdeal_pre_finite8 := fun m ρ _ => Cert.AttnPrepBwdIdeal.Gen.frame m ρ

theorem frame_ri : Cert.quiescent_AttnPrepBwdRefIdeal := fun m ρ _ =>
  (θ_run Cert.AttnPrepBwdRefIdeal.defs _ _).mono (fun r h => ⟨fun c => (h c).2.2.2.2, sem_eq_zero_of_no_sems (by decide) r.2⟩)
    (Cert.AttnPrepBwdRefIdeal.Value.run (F := Ideal) m ρ)

theorem frame_ri_pre : Cert.quiescent_AttnPrepBwdRefIdeal_pre_finite8 := fun m ρ _ => frame_ri m ρ trivial

theorem preserves : Cert.preserves_AttnPrepBwd_AttnPrepBwdIdeal :=
  IdealRules.named_const.statement Cert.AttnPrepBwdIdeal.κ "q_scale" .f32 0x3E38AA3B#32 (((8 : ℝ)⁻¹ * (Real.log 2)⁻¹ : ℝ) : EReal) rfl

/-- Under the precondition the arguments are arrays of real numbers. -/
theorem args (m : (ℓ : Loc AttnPrepBwdIdeal.nD AttnPrepBwdIdeal.τ AttnPrepBwdIdeal.sig) → Buf (Elt Ideal) ℓ)
    (h : Pre_AttnPrepBwdIdeal_finite8 m) (c : Dev AttnPrepBwdIdeal.nD) : ∃ dq dk h gq gk, Args m c dq dk h gq gk := by
  obtain ⟨h0, h1, h2, h3, h4⟩ := h c
  obtain ⟨dq, hdq⟩ := exists_real h0
  obtain ⟨dk, hdk⟩ := exists_real h1
  obtain ⟨x, hx⟩ := exists_real h2
  obtain ⟨gq, hq⟩ := exists_real h3
  obtain ⟨gk, hk⟩ := exists_real h4
  exact ⟨byCoords dq, byCoords dk, byCoords x, byCoord gq, byCoord gk, hdq.trans (byCoords_spec dq), hdk.trans (byCoords_spec dk),
    hx.trans (byCoords_spec x), hq.trans (byCoord_spec gq), hk.trans (byCoord_spec gk)⟩

set_option maxHeartbeats 2000000 in
theorem algebraic : Cert.algebraic_AttnPrepBwdIdeal_AttnPrepBwdRefIdeal_pre_finite8 := by
  intro m g m' g' hpre hargs
  refine ⟨fun c => (Cert.AttnPrepBwdIdeal.Gen.dats m 0 c).arrAt 9 Cert.AttnPrepBwdIdeal.cfg0.N,
    fun c => (Cert.AttnPrepBwdIdeal.Gen.dats m 0 c).arrAt 10 Cert.AttnPrepBwdIdeal.cfg0.N,
    fun c => (Cert.AttnPrepBwdIdeal.Gen.dats m 0 c).arrAt 11 Cert.AttnPrepBwdIdeal.cfg0.N,
    fun c => (Cert.AttnPrepBwdIdeal.Gen.dats m 0 c).arrAt 12 Cert.AttnPrepBwdIdeal.cfg0.N,
    Cert.AttnPrepBwdIdeal.Value.run_blocks m g,
    (θ_run Cert.AttnPrepBwdRefIdeal.defs _ _).mono (fun r h c => ?_) (Cert.AttnPrepBwdRefIdeal.Value.run (F := Ideal) m' g')⟩
  obtain ⟨h235, h240, h242, h244, hr⟩ := h c
  obtain ⟨dq, dk, x, gq, gk, A⟩ := args m hpre c
  obtain ⟨a0, a1, a2, a3, a4⟩ := hargs c
  have b0 := a0.trans A.dq
  have b1 := a1.trans A.dk
  have b2 := a2.trans A.h
  have b3 := a3.trans A.gq
  have b4 := a4.trans A.gk
  refine ⟨?_, ?_, ?_, ?_, hr⟩
  · refine h235.trans ((Cert.AttnPrepBwdRefIdeal.Read.val_main_v235_eq ..).trans (Eq.trans ?_ (final9 A).symm))
    rw [show StableHlo.launchContents m' c _ = _ from b0, show StableHlo.launchContents m' c _ = _ from b2, show StableHlo.launchContents m' c _ = _ from b3]
    funext i
    exact (v235 dq x gq i).trans (congrArg (fun r : ℝ => (r : EReal)) (outQ_eq x dq gq _ _).symm)
  · refine h240.trans ((Cert.AttnPrepBwdRefIdeal.Read.val_main_v240_eq ..).trans (Eq.trans ?_ (final10 A).symm))
    rw [show StableHlo.launchContents m' c _ = _ from b1, show StableHlo.launchContents m' c _ = _ from b2, show StableHlo.launchContents m' c _ = _ from b4]
    funext i
    exact (v240 dk x gk i).trans (congrArg (fun r : ℝ => (r : EReal)) (outK_eq x dk gk _ _).symm)
  · refine h242.trans ((Cert.AttnPrepBwdRefIdeal.Read.val_main_v242_eq ..).trans (Eq.trans ?_ (final11 A).symm))
    rw [show StableHlo.launchContents m' c _ = _ from b0, show StableHlo.launchContents m' c _ = _ from b2]
    funext i
    exact (v242 dq x i).trans (congrArg (fun r : ℝ => (r : EReal)) (partQ_eq x dq (i 1).isLt).symm)
  · refine h244.trans ((Cert.AttnPrepBwdRefIdeal.Read.val_main_v244_eq ..).trans (Eq.trans ?_ (final12 A).symm))
    rw [show StableHlo.launchContents m' c _ = _ from b1, show StableHlo.launchContents m' c _ = _ from b2]
    funext i
    exact (v244 dk x i).trans (congrArg (fun r : ℝ => (r : EReal)) (partK_eq x dk (i 1).isLt).symm)

end Cert.AttnPrepBwdClaims

end
-- ==== Proof.NormFwd.Blocks.lean ====
/- The forward norm of the stream: the blocks it reads and what each point leaves. -/
module

public import proofs.«01_k».proof.Proof.Norm
public import proofs.«01_k».proof.Proof.Gen.NormFwdIdeal.Value

@[expose] public section

set_option maxRecDepth 16384

noncomputable section

namespace Cert.NormFwdIdeal.Mine

open Idealize.ShloMosaic Idealize.ShloMosaic.TcCoe Idealize.SL.Sem
open Idealize.ShloMosaic.Pipeline (Dat)
open Cert.NormFwdIdeal Cert.NormFwdIdeal.Gen Cert.Reals

/-- A block of rows and a row of gains; a normed row with its gain. -/
def rows (x : ℕ → ℕ → ℝ) : Vec Ideal S384x1024 .f32 := fun i => ((x (i 0).val (i 1).val : ℝ) : EReal)
def lane (g : ℕ → ℝ) : Vec Ideal S1x1024 .f32 := fun i => ((g (i 1).val : ℝ) : EReal)
def normed (x : ℕ → ℕ → ℝ) (g : ℕ → ℝ) (n p : ℕ) : ℝ := x n p * rn x n * g p

theorem body (x : ℕ → ℕ → ℝ) (g : ℕ → ℝ) (i : S384x1024.Idx) :
    k0_pay1 (F := Ideal) (rows x) (lane g) i = ((normed x g (i 0).val (i 1).val : ℝ) : EReal) := by
  have h : k0_pay1 (F := Ideal) (rows x) (lane g) i = ((x (i 0).val (i 1).val : ℝ) : EReal)
      * Ideal.rsqrt ((ms 1024 (fun k : Fin 1024 => x (i 0).val k.val) : ℝ) : EReal) * ((g (i 1).val : ℝ) : EReal) := by
    pointwise [k0_pay1, rows, lane]
    rw [k_f32, eps_f32]
    simp only [← EReal.coe_mul, coe_sum]
    rw [div_coe_coe (by norm_num), ← EReal.coe_add]
    rfl
  rw [h, rsqrt_pos (ms_pos (by norm_num) _), ← EReal.coe_mul, ← EReal.coe_mul]
  rfl

variable (m : (ℓ : Loc nD τ sig) → Buf (Elt Ideal) ℓ)

/-- The arguments are real arrays: the stream `x` and the gain `g`. -/
structure Args (c : Dev nD) (x : ℕ → ℕ → ℝ) (g : ℕ → ℝ) : Prop where
  x : m ((c.tc : Thread nD τ).loc main_arg0) = fun i : S4112x1024.Idx => ((x (i 0).val (i 1).val : ℝ) : EReal)
  g : m ((c.tc : Thread nD τ).loc main_arg1) = fun i : S1024.Idx => ((g (i 0).val : ℝ) : EReal)

variable {m}
variable {c : Dev nD} {x : ℕ → ℕ → ℝ} {g : ℕ → ℝ} (A : Args m c x g)

theorem idx : ∀ t : Fin cfg0.N, win0_0.index t = ![t.val, 0] ∧ win0_1.index t = ![0, 0] ∧ win0_2.index t = ![t.val, 0] :=
  (by decide +kernel : ∀ t : Fin grid0.N, _)

include A in
theorem V_x : V m c main_v1 = fun i : S4224x1024.Idx => ((nul x (i 0).val (i 1).val : ℝ) : EReal) := by
  funext i
  simp only [V, hostOps0]
  entry_read
  pointwise
  exact nul_layout x fun e => congrFun A.x _

include A in
theorem V_g : V m c main_v2 = lane g := by
  funext i
  simp only [V, hostOps0]
  entry_read
  pointwise
  exact congrFun A.g _

include A in
theorem block_x (t : Fin cfg0.N) : iblk m c 0 t = rows fun n p => nul x (384 * t.val + n) p := by
  funext y
  blk_simp [iblk]
  rw [V_x A]
  blk_simp [rows, idx t]
  exact congrArg₂ (fun m n => ((nul x m n : ℝ) : EReal)) (by rw [mul_comm]) rfl

include A in
theorem block_g (t : Fin cfg0.N) : iblk m c 1 t = lane g := by
  funext y
  blk_simp [iblk]
  rw [V_g A]
  blk_simp [lane, idx t]

include A in
/-- The normed rows, as the region leaves them. -/
theorem final2 : (dats m 0 c).arrAt 2 cfg0.N = fun i : S4224x1024.Idx => ((normed (nul x) g (i 0).val (i 1).val : ℝ) : EReal) := by
  refine (dats m 0 c).arrAt_eq_of_covers 2 _ (by decide +kernel) fun t _ y => ?_
  blk_simp
  rw [after0_2, block_x A, block_g A]
  frame_out
  refine (body _ _ _).trans ?_
  refine congrArg (fun s : ℝ => (s : EReal)) ?_
  show normed (nul x) g (384 * t.val + (y 0).val) (y 1).val = _
  blk_simp [idx t]
  rw [mul_comm]

end Cert.NormFwdIdeal.Mine

end
-- ==== Proof.NormFwd.Ref.lean ====
/- The reference of the forward norm, at arrays of real numbers. -/
module

public import proofs.«01_k».proof.Proof.NormFwd.Blocks
public import proofs.«01_k».proof.Proof.Gen.NormFwdRefIdeal.Read

@[expose] public section

set_option maxRecDepth 16384

noncomputable section

namespace Cert.NormFwdRefIdeal.Mine

open Idealize.ShloMosaic Idealize.ShloMosaic.TcCoe Idealize.SL.Sem
open Cert.NormFwdRefIdeal Cert.NormFwdRefIdeal.Gen Cert.NormFwdRefIdeal.Read Cert.Reals
open Cert.NormFwdIdeal.Mine (normed)

variable (x : ℕ → ℕ → ℝ) (g : ℕ → ℝ)

/-- The arguments as arrays. -/
def X : (⟨S4112x1024, .f32⟩ : BufTy).Contents (Elt Ideal) := fun i : S4112x1024.Idx => ((x (i 0).val (i 1).val : ℝ) : EReal)
def G : (⟨S1024, .f32⟩ : BufTy).Contents (Elt Ideal) := fun i : S1024.Idx => ((g (i 0).val : ℝ) : EReal)

theorem v6 (i : S4112x1.Idx) : val_main_v6 (F := Ideal) (X x) i = ((ms 1024 (fun k : Fin 1024 => x (i 0).val k.val) : ℝ) : EReal) := by
  simp only [val_main_v6_apply, val_main_v5_apply, val_main_cst_1_apply, val_main_v4_apply, val_main_v3_apply, val_main_cst_0_apply,
    val_main_v2_apply, val_main_v1_apply, val_main_cst_apply, val_main_v0_apply]
  pointwise [X]
  rw [k_f32, eps_f32]
  simp only [← EReal.coe_mul, coe_sum]
  rw [div_coe_coe (by norm_num), ← EReal.coe_add]
  rfl

theorem v12 (i : S4112x1024.Idx) : val_main_v12 (F := Ideal) (X x) (G g) i = ((normed x g (i 0).val (i 1).val : ℝ) : EReal) := by
  simp only [val_main_v12_apply, val_main_v11_apply, val_main_v10_apply, val_main_v9_apply, val_main_v8_apply, val_main_v7_apply, v6]
  refine (congrArg (fun r : EReal => _ * r * _) (rsqrt_pos (ms_pos (by norm_num) _))).trans ?_
  show ((x (i 0).val (i 1).val : ℝ) : EReal) * (((Real.sqrt _)⁻¹ : ℝ) : EReal) * ((g (i 1).val : ℝ) : EReal) = _
  rw [← EReal.coe_mul, ← EReal.coe_mul]
  rfl

theorem nul_normed (n p : ℕ) : nul (normed x g) n p = normed (nul x) g n p := by
  by_cases e : n < 112
  · rw [nul, if_pos e, normed, nul, if_pos e, zero_mul, zero_mul]
  · simp only [nul, normed, rn, if_neg e]

theorem v14 (i : S4224x1024.Idx) : val_main_v14 (F := Ideal) (X x) (G g) i = ((normed (nul x) g (i 0).val (i 1).val : ℝ) : EReal) := by
  rw [val_main_v14_apply]
  unfold val_main_v13
  pointwise
  idx_bounds
  refine (nul_pad (normed x g) (by omega) (fun e => v12 x g _) ?_).trans (congrArg (fun s : ℝ => (s : EReal)) (nul_normed x g _ _))
  show (((0#32 : BitVec 32).toInt : ℝ) : EReal) = _
  norm_num

end Cert.NormFwdRefIdeal.Mine

end
-- ==== Proof.NormFwd.Claims.lean ====
/- The claims about the forward norm of the stream: under real arguments the kernel's normed rows are those of the reference. -/
module

public import proofs.«01_k».proof.Defs
public import proofs.«01_k».proof.Proof.NormFwd.Ref
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.Pre_finite11

@[expose] public section

set_option maxRecDepth 16384

noncomputable section

namespace Cert.NormFwdClaims

open Idealize.ShloMosaic Idealize.ShloMosaic.TcCoe Idealize.SL.Sem
open Cert.NormFwdIdeal.Mine Cert.Reals

theorem frame_p : Cert.quiescent_NormFwd := fun m ρ _ => Cert.NormFwd.Gen.frame m ρ

theorem frame_pi : Cert.quiescent_NormFwdIdeal := fun m ρ _ => Cert.NormFwdIdeal.Gen.frame m ρ

theorem frame_pi_pre : Cert.quiescent_NormFwdIdeal_pre_finite11 := fun m ρ _ => Cert.NormFwdIdeal.Gen.frame m ρ

theorem frame_ri : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

theorem frame_ri_pre : Cert.quiescent_NormFwdRefIdeal_pre_finite11 := fun m ρ _ => frame_ri m ρ trivial

theorem preserves : Cert.preserves_NormFwd_NormFwdIdeal := trivial

/-- Under the precondition the arguments are arrays of real numbers. -/
theorem args (m : (ℓ : Loc NormFwdIdeal.nD NormFwdIdeal.τ NormFwdIdeal.sig) → Buf (Elt Ideal) ℓ)
    (h : Pre_NormFwdIdeal_finite11 m) (c : Dev NormFwdIdeal.nD) : ∃ x g, Args m c x g := by
  obtain ⟨h0, h1⟩ := h c
  obtain ⟨x, hx⟩ := exists_real h0
  obtain ⟨g, hg⟩ := exists_real h1
  exact ⟨byCoords x, byCoord g, hx.trans (byCoords_spec x), hg.trans (byCoord_spec g)⟩

theorem algebraic : Cert.algebraic_NormFwdIdeal_NormFwdRefIdeal_pre_finite11 := by
  intro m g m' g' hpre hargs
  refine ⟨fun c => (Cert.NormFwdIdeal.Gen.dats m 0 c).arrAt 2 Cert.NormFwdIdeal.cfg0.N, Cert.NormFwdIdeal.Value.run_blocks m g,
    (θ_run Cert.NormFwdRefIdeal.defs _ _).mono (fun r h c => ?_) (Cert.NormFwdRefIdeal.Value.run (F := Ideal) m' g')⟩
  obtain ⟨h14, hr⟩ := h c
  obtain ⟨x, gn, A⟩ := args m hpre c
  obtain ⟨a0, a1⟩ := hargs c
  refine ⟨h14.trans ((Cert.NormFwdRefIdeal.Read.val_main_v14_eq ..).trans (Eq.trans ?_ (final2 A).symm)), hr⟩
  rw [a0.trans A.x, a1.trans A.g]
  exact funext (Cert.NormFwdRefIdeal.Mine.v14 x gn)

end Cert.NormFwdClaims

end
-- ==== Proof.GlaOutFwd.Point.lean ====
/- The gated norm of the linear attention's heads, forward: what a grid point computes from blocks of real numbers. -/
module

public import proofs.«01_k».proof.Proof.Gates
public import proofs.«01_k».proof.Proof.Padded
public import proofs.«01_k».proof.Proof.Gen.GlaOutFwdIdeal.Value

@[expose] public section

set_option maxRecDepth 16384

noncomputable section

namespace Cert.GlaOutFwdIdeal.Mine

open Idealize.ShloMosaic Idealize.ShloMosaic.TcCoe Idealize.SL.Sem
open Cert.GlaOutFwdIdeal Cert.GlaOutFwdIdeal.Gen Cert.Reals

/-- A head's row of 128 among the columns; the normed row with its gain and its gate, at a column `p`. -/
def headRow (o : ℕ → ℕ → ℝ) (h n : ℕ) (k : Fin 128) : ℝ := o n (128 * h + k.val)
def gatedOf (o r : ℕ → ℕ → ℝ) (g : ℕ → ℝ) (h n p : ℕ) : ℝ := o n p * rt 128 (headRow o h n) * g p * (r n p * sg (r n p))
def gated (o r : ℕ → ℕ → ℝ) (g : ℕ → ℝ) (n p : ℕ) : ℝ := gatedOf o r g (p / 128) n p

/-- Blocks of the heads' outputs and of the gate, a row of gains, and a head's part of each. -/
def blk (a : ℕ → ℕ → ℝ) : Vec Ideal S384x512 .f32 := fun i => ((a (i 0).val (i 1).val : ℝ) : EReal)
def thin (a : ℕ → ℕ → ℝ) : Vec Ideal S384x512 .bf16 := fun i => ((a (i 0).val (i 1).val : ℝ) : EReal)
def row (g : ℕ → ℝ) : Vec Ideal S1x512 .f32 := fun i => ((g (i 1).val : ℝ) : EReal)
def part (h : ℕ) (a : ℕ → ℕ → ℝ) : Vec Ideal S384x128 .f32 := fun i => ((headRow a h (i 0).val (i 1) : ℝ) : EReal)
def gains (h : ℕ) (g : ℕ → ℝ) : Vec Ideal S1x128 .f32 := fun i => ((g (128 * h + (i 1).val) : ℝ) : EReal)

variable (a b r : ℕ → ℕ → ℝ) (g : ℕ → ℝ)

theorem ld_part (p h : ℕ) (hp : p = 128 * h) (inb) :
    View.ld (Val := Elt Ideal) (e' := .f32) (blk a) (Rect.unit (s := S384x512) ![0, p] S384x128.size inb) = part h a := by
  funext x
  refine congrArg₂ (fun m n => ((a m n : ℝ) : EReal)) ?_ ?_
  · rw [Rect.idx_unit_val]; exact Nat.zero_add _
  · rw [Rect.idx_unit_val, ← hp]; rfl

theorem ld_gains (p h : ℕ) (hp : p = 128 * h) (inb) :
    View.ld (Val := Elt Ideal) (e' := .f32) (row g) (Rect.unit (s := S1x512) ![0, p] S1x128.size inb) = gains h g := by
  funext x
  refine congrArg (fun n => ((g n : ℝ) : EReal)) ?_
  rw [Rect.idx_unit_val, ← hp]; rfl

theorem gate : k0_pay2 (F := Ideal) (thin r) = blk fun n p => r n p * sg (r n p) := by
  funext i
  pointwise [k0_pay2, thin, blk]
  rw [half_f32]
  simp only [← EReal.coe_mul, ← EReal.coe_add, tanh_coe, half_tanh]

/-- What every head's strip holds, at a row and a lane. -/
theorem close (h n : ℕ) (k : Fin 128) {p : ℕ} (hp : p = 128 * h + k.val) :
    (((headRow a h n k : ℝ) : EReal) + ((headRow b h n k : ℝ) : EReal))
      * Ideal.rsqrt (Ideal.div (∑ l : Fin 128, (((headRow a h n l : ℝ) : EReal) + ((headRow b h n l : ℝ) : EReal))
        * (((headRow a h n l : ℝ) : EReal) + ((headRow b h n l : ℝ) : EReal))) (Ideal.ofBits .f32 0x43000000#32) + Ideal.ofBits .f32 0x358637BD#32)
      * ((g (128 * h + k.val) : ℝ) : EReal) * ((r n p * sg (r n p) : ℝ) : EReal)
    = ((gatedOf (fun n p => a n p + b n p) r g h n p : ℝ) : EReal) := by
  simp only [← EReal.coe_mul, ← EReal.coe_add, coe_sum]
  rw [c128_f32, eps_f32, div_coe_coe (by norm_num), ← EReal.coe_add]
  refine (congrArg (fun s : EReal => _ * s * _ * _) (rsqrt_pos (ms_pos (d := 128) (by norm_num) fun l => headRow a h n l + headRow b h n l))).trans ?_
  rw [← EReal.coe_mul, ← EReal.coe_mul, ← EReal.coe_mul, hp]
  rfl

theorem head0 (i : S384x128.Idx) : k0_pay3 (F := Ideal) (thin r) (part 0 a) (part 0 b) (gains 0 g) i
    = ((gatedOf (fun n p => a n p + b n p) r g 0 (i 0).val (i 1).val : ℝ) : EReal) := by
  pointwise [k0_pay3, gate, part, gains, blk]
  refine Eq.trans ?_ (close a b r g 0 (i 0).val (i 1) (p := (i 1).val) (by omega))
  simp only [Nat.mul_zero, Nat.zero_add]

theorem head1 (i : S384x128.Idx) : k0_pay6 (F := Ideal) (k0_pay2 (thin r)) (k0_pay4 (part 1 a)) (k0_pay5 (part 1 b)) (gains 1 g) i
    = ((gatedOf (fun n p => a n p + b n p) r g 1 (i 0).val (128 * 1 + (i 1).val) : ℝ) : EReal) := by
  pointwise [k0_pay6, k0_pay4, k0_pay5, gate, part, gains, blk]
  exact close a b r g 1 (i 0).val (i 1) rfl

theorem head2 (i : S384x128.Idx) : k0_pay7 (F := Ideal) (k0_pay2 (thin r)) (part 2 a) (part 2 b) (gains 2 g) i
    = ((gatedOf (fun n p => a n p + b n p) r g 2 (i 0).val (128 * 2 + (i 1).val) : ℝ) : EReal) := by
  pointwise [k0_pay7, gate, part, gains, blk]
  exact close a b r g 2 (i 0).val (i 1) rfl

theorem head3 (i : S384x128.Idx) : k0_pay1 (F := Ideal) (k0_pay2 (thin r)) (part 3 a) (part 3 b) (gains 3 g) i
    = ((gatedOf (fun n p => a n p + b n p) r g 3 (i 0).val (128 * 3 + (i 1).val) : ℝ) : EReal) := by
  pointwise [k0_pay1, gate, part, gains, blk]
  exact close a b r g 3 (i 0).val (i 1) rfl

/-- A strip's entry is the block's. -/
theorem put (o : ℕ → ℕ → ℝ) {h n p q n' : ℕ} {s : EReal} (hs : s = ((gatedOf o r g h n q : ℝ) : EReal)) (hn : n' = n) (hq : p = q)
    (h0 : 128 * h ≤ q) (h1 : q < 128 * h + 128) : s = ((gated o r g n' p : ℝ) : EReal) := by
  rw [hs, gated, show p / 128 = h by omega, hn, hq]

variable {m : (ℓ : Loc nD τ sig) → Buf (Elt Ideal) ℓ} {c : Dev nD} {t : Fin cfg0.N}

/-- What the point reads. -/
structure Reads (m : (ℓ : Loc nD τ sig) → Buf (Elt Ideal) ℓ) (c : Dev nD) (t : Fin cfg0.N) (a b r : ℕ → ℕ → ℝ) (g : ℕ → ℝ) : Prop where
  a : iblk m c 0 t = blk a
  b : iblk m c 1 t = blk b
  r : X0_2 m c t = thin r
  g : iblk m c 3 t = row g

variable {a b r g} (R : Reads m c t a b r g)

include R in
theorem out_at (y : S384x512.Idx) : outsAt0 m c t y = ((gated (fun n p => a n p + b n p) r g (y 0).val (y 1).val : ℝ) : EReal) := by
  rw [outsAt0]
  frame_out
  rw [R.a, R.b, R.r, R.g, ld_part a 0 0 rfl, ld_part a 128 1 rfl, ld_part a 256 2 rfl, ld_part a 384 3 rfl, ld_part b 0 0 rfl, ld_part b 128 1 rfl,
    ld_part b 256 2 rfl, ld_part b 384 3 rfl, ld_gains g 0 0 rfl, ld_gains g 128 1 rfl, ld_gains g 256 2 rfl, ld_gains g 384 3 rfl]
  canon_tiles x h
  · exact put r g _ (head3 a b r g x) h0 h1 (by omega) (Nat.add_lt_add_left (x 1).isLt _)
  · exact put r g _ (head2 a b r g x) h0 h1 (by omega) (Nat.add_lt_add_left (x 1).isLt _)
  · exact put r g _ (head1 a b r g x) h0 h1 (by omega) (Nat.add_lt_add_left (x 1).isLt _)
  · exact put r g _ (head0 a b r g x) h0 h1 (by omega) (x 1).isLt

end Cert.GlaOutFwdIdeal.Mine

end
-- ==== Proof.GlaOutFwd.Blocks.lean ====
/- The arrays of the heads' gated norm, forward: each block it reads, the gate's among the packed columns, and what the region leaves. -/
module

public import proofs.«01_k».proof.Proof.GlaOutFwd.Point

@[expose] public section

set_option maxRecDepth 16384

noncomputable section

namespace Cert.GlaOutFwdIdeal.Mine

open Idealize.ShloMosaic Idealize.ShloMosaic.TcCoe Idealize.SL.Sem
open Idealize.ShloMosaic.Pipeline (Dat)
open Cert.GlaOutFwdIdeal Cert.GlaOutFwdIdeal.Gen Cert.Reals

variable (m : (ℓ : Loc nD τ sig) → Buf (Elt Ideal) ℓ)

/-- The arguments are real arrays: the two directions' outputs `a` and `b`, the packed projection `h`, the gain `g`. -/
structure Args (c : Dev nD) (a b h : ℕ → ℕ → ℝ) (g : ℕ → ℝ) : Prop where
  a : m ((c.tc : Thread nD τ).loc main_arg0) = fun i : S4112x512.Idx => ((a (i 0).val (i 1).val : ℝ) : EReal)
  b : m ((c.tc : Thread nD τ).loc main_arg1) = fun i : S4112x512.Idx => ((b (i 0).val (i 1).val : ℝ) : EReal)
  h : m ((c.tc : Thread nD τ).loc main_arg2) = fun i : S4112x4384.Idx => ((h (i 0).val (i 1).val : ℝ) : EReal)
  g : m ((c.tc : Thread nD τ).loc main_arg3) = fun i : S512.Idx => ((g (i 0).val : ℝ) : EReal)

variable {m}
variable {c : Dev nD} {a b h : ℕ → ℕ → ℝ} {g : ℕ → ℝ} (A : Args m c a b h g)

theorem idx : ∀ t : Fin cfg0.N, win0_0.index t = ![t.val, 0] ∧ win0_1.index t = ![t.val, 0] ∧ win0_2.index t = ![t.val, 9]
    ∧ win0_3.index t = ![0, 0] ∧ win0_4.index t = ![t.val, 0] :=
  (by decide +kernel : ∀ t : Fin grid0.N, _)

/-- The host's lines before the last stretch, which puts the projection's parts behind one another. -/
abbrev early : List (HloOp τ sig (Elt Ideal)) := hostOps0 ++ hostOps0_1 ++ hostOps0_2 ++ hostOps0_3 ++ hostOps0_4 ++ hostOps0_5 ++ hostOps0_6
  ++ hostOps0_7 ++ hostOps0_8 ++ hostOps0_9 ++ hostOps0_10 ++ hostOps0_11 ++ hostOps0_12 ++ hostOps0_13

theorem V_ops (b : Ref sig .tc) : V m c b = StableHlo.after (early ++ hostOps0_14) (fun b => m (c, b)) (Proc.devRef .tc b) := rfl

include A in
/-- The arrays that are only padded, and the gain. -/
theorem V_plain : (∀ i : S4224x512.Idx, V m c main_v1 i = ((nul a (i 0).val (i 1).val : ℝ) : EReal))
    ∧ (∀ i : S4224x512.Idx, V m c main_v3 i = ((nul b (i 0).val (i 1).val : ℝ) : EReal)) ∧ ∀ i : S1x512.Idx, V m c main_v42 i = row g i := by
  refine ⟨fun i => ?_, fun i => ?_, fun i => ?_⟩
  all_goals
    rw [V_ops]
    simp only [early, hostOps0, hostOps0_1, hostOps0_2, hostOps0_3, hostOps0_4, hostOps0_5, hostOps0_6, hostOps0_7, hostOps0_8, hostOps0_9,
      hostOps0_10, hostOps0_11, hostOps0_12, hostOps0_13, hostOps0_14, List.cons_append, List.nil_append]
    entry_read
    pointwise
  · exact nul_layout a fun e => congrFun A.a _
  · exact nul_layout b fun e => congrFun A.b _
  · exact congrFun A.g _

/-- What the last stretch starts from. -/
def before (m : (ℓ : Loc nD τ sig) → Buf (Elt Ideal) ℓ) (c : Dev nD) := StableHlo.after early (fun b => m (c, b))

include A in
theorem before_r (r : Fin 512) (s : Fin 4112) : before m c (Proc.devRef .tc main_v8) (ix2 r s) = ((h s.val (1024 + r.val) : ℝ) : EReal) := by
  rw [before]
  simp only [early, hostOps0, hostOps0_1, hostOps0_2, hostOps0_3, hostOps0_4, hostOps0_5, hostOps0_6, hostOps0_7, hostOps0_8, hostOps0_9,
    hostOps0_10, hostOps0_11, hostOps0_12, hostOps0_13, List.cons_append, List.nil_append]
  entry_read
  pointwise
  exact congrFun A.h _

/-- Where the gate lies among the parts under one another. -/
theorem stack_r (u0 u1 u2 : FVec Ideal S1024x4112 .f32) (u3 u4 u5 u6 : FVec Ideal S512x4112 .f32) (u7 u8 : FVec Ideal S256x4112 .f32)
    (u9 u10 : FVec Ideal S128x4112 .f32) (hc) (p : Fin 5888) (s : Fin 4112) (h0 : 4608 ≤ p.val) (h1 : p.val < 5120) :
    concatenate S5888x4112 0 [⟨S1024x4112, u0⟩, ⟨S1024x4112, u1⟩, ⟨S1024x4112, u2⟩, ⟨S512x4112, u3⟩, ⟨S512x4112, u4⟩, ⟨S512x4112, u5⟩,
      ⟨S512x4112, u6⟩, ⟨S256x4112, u7⟩, ⟨S256x4112, u8⟩, ⟨S128x4112, u9⟩, ⟨S128x4112, u10⟩] hc (ix2 p s) = u6 (ix2 ⟨p.val - 4608, by omega⟩ s) := by
  pointwise
  rw [dif_neg (by omega), dif_neg (by omega), dif_neg (by omega), dif_neg (by omega), dif_neg (by omega), dif_neg (by omega), dif_pos (by omega)]
  exact congrArg (fun q : Fin 512 => u6 (ix2 q s)) (Fin.ext (by show p.val - 1024 - 1024 - 1024 - 512 - 512 - 512 = p.val - 4608; omega))

/-- The first two lines of the last stretch put the parts together and leave the gate where it lies. -/
theorem stacked (σ : Valuation τ sig (Elt Ideal)) (i : S5888x4112.Idx) (h0 : 4608 ≤ (i 0).val) (h1 : (i 0).val < 5120) :
    StableHlo.after (hostOps0_14.take 2) σ (Proc.devRef .tc main_v37) i
      = σ (Proc.devRef .tc main_v8) (ix2 ⟨(i 0).val - 4608, by omega⟩ (i 1)) := by
  simp only [hostOps0_14, List.take, StableHlo.after_cons, StableHlo.after_nil]
  rw [StableHlo.nary_result]
  refine Eq.trans (congrArg _ (ix2_eta i).symm) ((stack_r _ _ _ _ _ _ _ _ _ _ _ _ (i 0) (i 1) h0 h1).trans ?_)
  exact congrFun (StableHlo.reshape_result_ne (y := main_v36) (r := main_v8) (h := by decide) ..) _

include A in
/-- The gate among the packed columns. -/
theorem V_r (i : S4224x5888.Idx) (h0 : 4608 ≤ (i 1).val) (h1 : (i 1).val < 5120) :
    V m c main_v41 i = ((nul (fun n p => h n (p - 3584)) (i 0).val (i 1).val : ℝ) : EReal) := by
  rw [V_ops, StableHlo.after_append, ← List.take_append_drop 2 hostOps0_14, StableHlo.after_append]
  generalize hσ : StableHlo.after (hostOps0_14.take 2) (StableHlo.after early fun b => m (c, b)) = σ
  simp only [hostOps0_14, List.drop]
  entry_read
  pointwise
  refine nul_layout (fun n p => h n (p - 3584)) fun e => ?_
  rw [← hσ]
  refine (stacked _ _ h0 h1).trans ((before_r A _ _).trans ?_)
  exact congrArg (fun p => ((h ((i 0).val - 112) p : ℝ) : EReal)) (by show 1024 + ((i 1).val - 4608) = _; omega)

include A in
theorem reads (t : Fin cfg0.N) : Reads m c t (fun n p => nul a (384 * t.val + n) p) (fun n p => nul b (384 * t.val + n) p)
    (fun n p => nul (fun n p => h n (1024 + p)) (384 * t.val + n) p) g := by
  constructor
  · funext y
    blk_simp [iblk]
    rw [(V_plain A).1]
    blk_simp [blk, idx t]
    rw [mul_comm]
  · funext y
    blk_simp [iblk]
    rw [(V_plain A).2.1]
    blk_simp [blk, idx t]
    rw [mul_comm]
  · funext y
    rw [show X0_2 m c t y = _ from dif_pos (moved0_2 t y)]
    blk_simp [iblk]
    have h1 : (y 1).val < 512 := (y 1).isLt
    refine (V_r A _ (by blk_simp [idx t]; omega) (by blk_simp [idx t]; exact Nat.add_lt_add_left h1 _)).trans ?_
    refine congrArg (fun s : ℝ => (s : EReal)) ?_
    have e1 : 9 * 512 + (y 1).val - 3584 = 1024 + (y 1).val := by omega
    blk_simp [idx t]
    show nul _ (t.val * 384 + (y 0).val) (9 * 512 + (y 1).val) = nul _ _ _
    rw [mul_comm t.val, nul, nul, e1]
  · funext y
    blk_simp [iblk]
    rw [(V_plain A).2.2]
    blk_simp [row, idx t]

/-- The two directions together and the gate, in the rows of the arguments. -/
def both (a b : ℕ → ℕ → ℝ) (n p : ℕ) : ℝ := a n p + b n p
def gateAt (h : ℕ → ℕ → ℝ) (n p : ℕ) : ℝ := h n (1024 + p)

theorem gated_nul (n p : ℕ) : gated (fun n p => nul a n p + nul b n p) (nul (gateAt h)) g n p = nul (gated (both a b) (gateAt h) g) n p := by
  by_cases e : n < 112
  · simp only [gated, gatedOf, nul, if_pos e, add_zero, zero_mul]
  · have z : headRow (fun n p => nul a n p + nul b n p) (p / 128) n = headRow (both a b) (p / 128) (n - 112) := by
      funext k
      simp only [headRow, nul, if_neg e, both]
    rw [gated, gatedOf, z]
    simp only [nul, if_neg e, gated, gatedOf, both]

include A in
/-- The gated rows, as the region leaves them. -/
theorem final4 : (dats m 0 c).arrAt 4 cfg0.N = fun i : S4224x512.Idx => ((nul (gated (both a b) (gateAt h) g) (i 0).val (i 1).val : ℝ) : EReal) := by
  refine (dats m 0 c).arrAt_eq_of_covers 4 _ (by decide +kernel) fun t _ y => ?_
  blk_simp
  rw [after0_4]
  refine (out_at (reads A t) y).trans ?_
  refine congrArg (fun s : ℝ => (s : EReal)) ?_
  refine Eq.trans ?_ ((gated_nul (a := a) (b := b) (h := h) (g := g) (384 * t.val + (y 0).val) (y 1).val).trans ?_)
  · rfl
  · blk_simp [idx t]
    rw [mul_comm]

end Cert.GlaOutFwdIdeal.Mine

end
-- ==== Proof.GlaOutFwd.Ref.lean ====
/- The reference of the heads' gated norm, forward, at arrays of real numbers. -/
module

public import proofs.«01_k».proof.Proof.GlaOutFwd.Blocks
public import proofs.«01_k».proof.Proof.Gen.GlaOutFwdRefIdeal.Read

@[expose] public section

set_option maxRecDepth 16384

noncomputable section

namespace Cert.GlaOutFwdRefIdeal.Mine

open Idealize.ShloMosaic Idealize.ShloMosaic.TcCoe Idealize.SL.Sem
open Cert.GlaOutFwdRefIdeal Cert.GlaOutFwdRefIdeal.Gen Cert.GlaOutFwdRefIdeal.Read Cert.Reals
open Cert.GlaOutFwdIdeal.Mine (gated gatedOf headRow both gateAt)

variable (a b h : ℕ → ℕ → ℝ) (g : ℕ → ℝ)

/-- The arguments as arrays. -/
def Heads (o : ℕ → ℕ → ℝ) : (⟨S4112x512, .f32⟩ : BufTy).Contents (Elt Ideal) := fun i : S4112x512.Idx => ((o (i 0).val (i 1).val : ℝ) : EReal)
def H : (⟨S4112x4384, .f32⟩ : BufTy).Contents (Elt Ideal) := fun i : S4112x4384.Idx => ((h (i 0).val (i 1).val : ℝ) : EReal)
def G : (⟨S512, .f32⟩ : BufTy).Contents (Elt Ideal) := fun i : S512.Idx => ((g (i 0).val : ℝ) : EReal)

/-- The two directions added, in heads. -/
theorem v12 (i : S4112x4x128.Idx) : val_main_v12 (F := Ideal) (Heads a) (Heads b) i = ((headRow (both a b) (i 1).val (i 0).val (i 2) : ℝ) : EReal) := by
  rw [val_main_v12_apply, val_main_v11_apply]
  pointwise [Heads]
  have h1 : (i 1).val < 4 := (i 1).isLt
  have h2 : (i 2).val < 128 := (i 2).isLt
  rw [← EReal.coe_add]
  refine congrArg (fun s : ℝ => (s : EReal)) (congrArg₂ (both a b) (?_ : (((i 0).val * 4 + (i 1).val) * 128 + (i 2).val) / 512 = (i 0).val)
    (?_ : (((i 0).val * 4 + (i 1).val) * 128 + (i 2).val) % 512 = 128 * (i 1).val + (i 2).val)) <;> omega

/-- A head's mean square with the small term. -/
theorem v19 (i : S4112x4x1.Idx) : val_main_v19 (F := Ideal) (Heads a) (Heads b) i
    = ((ms 128 (headRow (both a b) (i 1).val (i 0).val) : ℝ) : EReal) := by
  simp only [val_main_v19_apply, val_main_v18_apply, val_main_cst_1_apply, val_main_v17_apply, val_main_v16_apply, val_main_cst_0_apply,
    val_main_v15_apply, val_main_v14_apply, val_main_cst_apply, val_main_v13_apply, v12]
  pointwise
  rw [c128_f32, eps_f32]
  simp only [← EReal.coe_mul, coe_sum]
  rw [div_coe_coe (by norm_num), ← EReal.coe_add]
  rfl

/-- A head normed. -/
theorem v22 (i : S4112x4x128.Idx) : val_main_v22 (F := Ideal) (Heads a) (Heads b) i
    = ((headRow (both a b) (i 1).val (i 0).val (i 2) * rt 128 (headRow (both a b) (i 1).val (i 0).val) : ℝ) : EReal) := by
  simp only [val_main_v22_apply, val_main_v21_apply, val_main_v20_apply, v19, v12]
  refine (congrArg (fun r : EReal => _ * r) (rsqrt_pos (ms_pos (by norm_num) _))).trans ?_
  exact (EReal.coe_mul _ _).symm

/-- The gate times its logistic. -/
theorem v27 (i : S4112x512.Idx) : val_main_v27 (F := Ideal) (H h) i
    = ((gateAt h (i 0).val (i 1).val * sg (gateAt h (i 0).val (i 1).val) : ℝ) : EReal) := by
  unfold val_main_v27 val_main_call0_v5 val_main_call0_v4 val_main_call0_v3 val_main_call0_v2 val_main_call0_v1 val_main_call0_v0 val_main_call0_cst_0 val_main_call0_cst val_main_v3
  pointwise [H]
  refine (congrArg (fun s : EReal => _ * s) (logistic _)).trans ?_
  exact (EReal.coe_mul _ _).symm

theorem v28 (i : S4112x512.Idx) : val_main_v28 (F := Ideal) (Heads a) (Heads b) (H h) (G g) i
    = ((gated (both a b) (gateAt h) g (i 0).val (i 1).val : ℝ) : EReal) := by
  have hi : (i 1).val < 512 := (i 1).isLt
  have e : 128 * ((i 1).val / 128) + (i 1).val % 128 = (i 1).val := Nat.div_add_mod _ _
  simp only [val_main_v28_apply, val_main_v26_apply, val_main_v25_apply, val_main_v24_apply, val_main_v23_apply, v22, v27]
  refine (congrArg₂ (fun s t : EReal => s * t * _) (congrArg (fun r : ℝ => (r : EReal)) (?_ : _ = both a b (i 0).val (i 1).val
    * rt 128 (headRow (both a b) ((i 1).val / 128) (i 0).val))) (?_ : _ = ((g (i 1).val : ℝ) : EReal))).trans ?_
  · show both a b (((i 0).val * 512 + (i 1).val) / 512) (128 * (((i 0).val * 512 + (i 1).val) / 128 % 4) + ((i 0).val * 512 + (i 1).val) % 128)
      * rt 128 (headRow (both a b) (((i 0).val * 512 + (i 1).val) / 128 % 4) (((i 0).val * 512 + (i 1).val) / 512)) = _
    rw [show ((i 0).val * 512 + (i 1).val) / 512 = (i 0).val by omega, show ((i 0).val * 512 + (i 1).val) / 128 % 4 = (i 1).val / 128 by omega,
      show ((i 0).val * 512 + (i 1).val) % 128 = (i 1).val % 128 by omega, e]
  · rfl
  · rw [← EReal.coe_mul, ← EReal.coe_mul]
    rfl

theorem v30 (i : S4224x512.Idx) : val_main_v30 (F := Ideal) (Heads a) (Heads b) (H h) (G g) i
    = ((nul (gated (both a b) (gateAt h) g) (i 0).val (i 1).val : ℝ) : EReal) := by
  rw [val_main_v30_apply]
  unfold val_main_v29
  pointwise
  idx_bounds
  refine nul_pad (gated (both a b) (gateAt h) g) (by omega) (fun e => v28 a b h g _) ?_
  show (((0#32 : BitVec 32).toInt : ℝ) : EReal) = _
  norm_num

end Cert.GlaOutFwdRefIdeal.Mine

end
-- ==== Proof.GlaOutFwd.Claims.lean ====
/- The claims about the heads' gated norm, forward: under real arguments the kernel's gated rows are those of the reference. -/
module

public import proofs.«01_k».proof.Defs
public import proofs.«01_k».proof.Proof.GlaOutFwd.Ref
public import proofs.«01_k».proof.Proof.Gen.GlaOutFwd.Frame
public import proofs.«01_k».proof.Proof.Gen.GlaOutFwdIdeal.Value
public import proofs.«01_k».proof.Proof.Gen.GlaOutFwdRefIdeal.Run
public import proofs.«01_k».proof.Proof.Gen.Pre_finite12

@[expose] public section

set_option maxRecDepth 16384

noncomputable section

namespace Cert.GlaOutFwdClaims

open Idealize.ShloMosaic Idealize.ShloMosaic.TcCoe Idealize.SL.Sem
open Cert.GlaOutFwdIdeal.Mine Cert.Reals

theorem frame_p : Cert.quiescent_GlaOutFwd := fun m ρ _ => Cert.GlaOutFwd.Gen.frame m ρ

theorem frame_pi : Cert.quiescent_GlaOutFwdIdeal := fun m ρ _ => Cert.GlaOutFwdIdeal.Gen.frame m ρ

theorem frame_pi_pre : Cert.quiescent_GlaOutFwdIdeal_pre_finite12 := fun m ρ _ => Cert.GlaOutFwdIdeal.Gen.frame m ρ

theorem frame_ri : Cert.quiescent_GlaOutFwdRefIdeal := fun m ρ _ =>
  (θ_run Cert.GlaOutFwdRefIdeal.defs _ _).mono (fun r h => ⟨fun c => (h c).2, sem_eq_zero_of_no_sems (by decide) r.2⟩)
    (Cert.GlaOutFwdRefIdeal.Value.run (F := Ideal) m ρ)

theorem frame_ri_pre : Cert.quiescent_GlaOutFwdRefIdeal_pre_finite12 := fun m ρ _ => frame_ri m ρ trivial

theorem preserves : Cert.preserves_GlaOutFwd_GlaOutFwdIdeal := trivial

/-- Under the precondition the four arguments are arrays of real numbers. -/
theorem args (m : (ℓ : Loc GlaOutFwdIdeal.nD GlaOutFwdIdeal.τ GlaOutFwdIdeal.sig) → Buf (Elt Ideal) ℓ)
    (h : Pre_GlaOutFwdIdeal_finite12 m) (c : Dev GlaOutFwdIdeal.nD) : ∃ a b w g, Args m c a b w g := by
  obtain ⟨h0, h1, h2, h3⟩ := h c
  obtain ⟨a, ha⟩ := exists_real h0
  obtain ⟨b, hb⟩ := exists_real h1
  obtain ⟨w, hw⟩ := exists_real h2
  obtain ⟨g, hg⟩ := exists_real h3
  exact ⟨byCoords a, byCoords b, byCoords w, byCoord g, ha.trans (byCoords_spec a), hb.trans (byCoords_spec b), hw.trans (byCoords_spec w),
    hg.trans (byCoord_spec g)⟩

theorem algebraic : Cert.algebraic_GlaOutFwdIdeal_GlaOutFwdRefIdeal_pre_finite12 := by
  intro m g m' g' hpre hargs
  refine ⟨fun c => (Cert.GlaOutFwdIdeal.Gen.dats m 0 c).arrAt 4 Cert.GlaOutFwdIdeal.cfg0.N, Cert.GlaOutFwdIdeal.Value.run_blocks m g,
    (θ_run Cert.GlaOutFwdRefIdeal.defs _ _).mono (fun r h c => ?_) (Cert.GlaOutFwdRefIdeal.Value.run (F := Ideal) m' g')⟩
  obtain ⟨h30, hr⟩ := h c
  obtain ⟨a, b, w, gn, A⟩ := args m hpre c
  obtain ⟨a0, a1, a2, a3⟩ := hargs c
  refine ⟨h30.trans ((Cert.GlaOutFwdRefIdeal.Read.val_main_v30_eq ..).trans (Eq.trans ?_ (final4 A).symm)), hr⟩
  rw [a0.trans A.a, a1.trans A.b, a2.trans A.h, a3.trans A.g]
  exact funext (Cert.GlaOutFwdRefIdeal.Mine.v30 a b w gn)

end Cert.GlaOutFwdClaims

end
-- ==== Proof.FfnUp.Point.lean ====
/- The feed-forward's two products up, with the activation: what a grid point computes from blocks of real numbers. -/
module

public import proofs.«01_k».proof.Proof.Gates
public import proofs.«01_k».proof.Proof.Padded
public import proofs.«01_k».proof.Proof.Gen.FfnUpIdeal.Value

@[expose] public section

set_option maxRecDepth 16384

noncomputable section

namespace Cert.FfnUpIdeal.Mine

open Idealize.ShloMosaic Idealize.ShloMosaic.TcCoe Idealize.SL.Sem
open Cert.FfnUpIdeal Cert.FfnUpIdeal.Gen Cert.Reals

/-- A block of rows, a turned weight, a block of inner rows; 256 lines of the weight and 256 columns of the inner block. -/
def rows (x : ℕ → ℕ → ℝ) : Vec Ideal S528x1024 .bf16 := fun i => ((x (i 0).val (i 1).val : ℝ) : EReal)
def turned (w : ℕ → ℕ → ℝ) : Vec Ideal S2816x1024 .bf16 := fun i => ((w (i 1).val (i 0).val : ℝ) : EReal)
def inner (o : ℕ → ℕ → ℝ) : Vec Ideal S528x2816 .bf16 := fun i => ((o (i 0).val (i 1).val : ℝ) : EReal)
def lines (q : ℕ) (w : ℕ → ℕ → ℝ) : Vec Ideal S256x1024 .bf16 := fun i => ((w (i 1).val (256 * q + (i 0).val) : ℝ) : EReal)
def columns (q : ℕ) (o : ℕ → ℕ → ℝ) : Vec Ideal S528x256 .bf16 := fun i => ((o (i 0).val (256 * q + (i 1).val) : ℝ) : EReal)

/-- The product of rows and a weight, and the activation of two products. -/
def up (x w : ℕ → ℕ → ℝ) (n p : ℕ) : ℝ := ∑ l : Fin 1024, x n l.val * w l.val p
def act (x w v : ℕ → ℕ → ℝ) (n p : ℕ) : ℝ := up x w n p * sg (up x w n p) * up x v n p

variable (x w v : ℕ → ℕ → ℝ)

theorem product (q : ℕ) (i : S528x256.Idx) : k0_pay6 (F := Ideal) (lines q w) (rows x) i = ((up x w (i 0).val (256 * q + (i 1).val) : ℝ) : EReal) := by
  pointwise [k0_pay6, lines, rows]
  exact sum_mul_coe (fun l => rfl) fun l => rfl

theorem first (q : ℕ) : k0_pay8 (F := Ideal) (lines q w) (rows x) = columns q (up x w) := by
  funext i
  pointwise [k0_pay8]
  exact product x w q i

theorem third (q : ℕ) : k0_pay10 (F := Ideal) (lines q w) (rows x) (lines q v) (rows x) = columns q (act x w v) := by
  funext i
  have e : k0_pay7 (F := Ideal) (lines q v) (rows x) i = ((up x v (i 0).val (256 * q + (i 1).val) : ℝ) : EReal) := product x v q i
  pointwise [k0_pay10]
  rw [product, e, half_f32]
  simp only [← EReal.coe_mul, ← EReal.coe_add, tanh_coe, half_tanh]
  rfl

theorem ld_rows (inb) : View.ld (Val := Elt Ideal) (e' := .bf16) (rows x) (Rect.unit (s := S528x1024) ![0, 0] S528x1024.size inb) = rows x := by
  funext i
  refine congrArg₂ (fun m n => ((x m n : ℝ) : EReal)) ?_ ?_ <;> (rw [Rect.idx_unit_val]; exact Nat.zero_add _)

theorem ld_lines (q p : ℕ) (hp : p = 256 * q) (inb) :
    View.ld (Val := Elt Ideal) (e' := .bf16) (turned w) (Rect.unit (s := S2816x1024) ![p, 0] S256x1024.size inb) = lines q w := by
  funext i
  refine congrArg₂ (fun m n => ((w m n : ℝ) : EReal)) ?_ ?_
  · rw [Rect.idx_unit_val]; exact Nat.zero_add _
  · rw [Rect.idx_unit_val, ← hp]; rfl

/-- What a strip of each kind holds, the weight's lines taken at `p = 256 q`. -/
theorem piece (q p : ℕ) (hp : p = 256 * q) (inb) :
    k0_pay8 (F := Ideal) (View.ld (turned w) (Rect.unit (s := S2816x1024) ![p, 0] S256x1024.size inb)) (View.ld (rows x) r0_1) = columns q (up x w) := by
  rw [ld_lines w q p hp, ld_rows, first]

theorem pieceAct (q p : ℕ) (hp : p = 256 * q) (inb) :
    k0_pay10 (F := Ideal) (View.ld (turned w) (Rect.unit (s := S2816x1024) ![p, 0] S256x1024.size inb)) (View.ld (rows x) r0_1)
      (View.ld (turned v) (Rect.unit (s := S2816x1024) ![p, 0] S256x1024.size inb)) (View.ld (rows x) r0_1) = columns q (act x w v) := by
  rw [ld_lines w q p hp, ld_lines v q p hp, ld_rows, third]

theorem column (o : ℕ → ℕ → ℝ) {q : ℕ} {i : S528x256.Idx} {n p : ℕ} (hn : n = (i 0).val) (hp : p = 256 * q + (i 1).val) :
    columns q o i = ((o n p : ℝ) : EReal) := by
  rw [hn, hp]; rfl

/-- Eleven strips side by side are the block. -/
theorem eleven (o : ℕ → ℕ → ℝ) : View.canon ([⟨r0_22, columns 10 o⟩, ⟨r0_20, columns 9 o⟩, ⟨r0_18, columns 8 o⟩, ⟨r0_16, columns 7 o⟩, ⟨r0_14, columns 6 o⟩,
    ⟨r0_12, columns 5 o⟩, ⟨r0_10, columns 4 o⟩, ⟨r0_8, columns 3 o⟩, ⟨r0_6, columns 2 o⟩, ⟨r0_4, columns 1 o⟩, ⟨r0_2, columns 0 o⟩]
      : List (View.Piece (Elt Ideal) S528x2816 .bf16)) = inner o := by
  funext y
  canon_tiles i h
  iterate 10
    · exact column o h0 h1
  exact column o h0 (h1.trans (Nat.zero_add _).symm)

/-- The same, of any strips that hold these. -/
theorem strips (o : ℕ → ℕ → ℝ) {s0 s1 s2 s3 s4 s5 s6 s7 s8 s9 s10 : Vec Ideal S528x256 .bf16} (h0 : s0 = columns 0 o) (h1 : s1 = columns 1 o)
    (h2 : s2 = columns 2 o) (h3 : s3 = columns 3 o) (h4 : s4 = columns 4 o) (h5 : s5 = columns 5 o) (h6 : s6 = columns 6 o) (h7 : s7 = columns 7 o)
    (h8 : s8 = columns 8 o) (h9 : s9 = columns 9 o) (h10 : s10 = columns 10 o) :
    View.canon ([⟨r0_22, s10⟩, ⟨r0_20, s9⟩, ⟨r0_18, s8⟩, ⟨r0_16, s7⟩, ⟨r0_14, s6⟩, ⟨r0_12, s5⟩, ⟨r0_10, s4⟩, ⟨r0_8, s3⟩, ⟨r0_6, s2⟩, ⟨r0_4, s1⟩, ⟨r0_2, s0⟩]
      : List (View.Piece (Elt Ideal) S528x2816 .bf16)) = inner o := by
  rw [h0, h1, h2, h3, h4, h5, h6, h7, h8, h9, h10, eleven]

theorem gates : out0_4 (F := Ideal) (rows x) (turned w) (rows x) (turned v) = inner (up x w) :=
  strips _ (piece x w 0 0 rfl _) (piece x w 1 256 rfl _) (piece x w 2 512 rfl _) (piece x w 3 768 rfl _) (piece x w 4 1024 rfl _) (piece x w 5 1280 rfl _)
    (piece x w 6 1536 rfl _) (piece x w 7 1792 rfl _) (piece x w 8 2048 rfl _) (piece x w 9 2304 rfl _) (piece x w 10 2560 rfl _)

theorem ups : out0_5 (F := Ideal) (rows x) (turned w) (rows x) (turned v) = inner (up x v) :=
  strips _ (piece x v 0 0 rfl _) (piece x v 1 256 rfl _) (piece x v 2 512 rfl _) (piece x v 3 768 rfl _) (piece x v 4 1024 rfl _) (piece x v 5 1280 rfl _)
    (piece x v 6 1536 rfl _) (piece x v 7 1792 rfl _) (piece x v 8 2048 rfl _) (piece x v 9 2304 rfl _) (piece x v 10 2560 rfl _)

theorem acts : out0_6 (F := Ideal) (rows x) (turned w) (rows x) (turned v) = inner (act x w v) :=
  strips _ (pieceAct x w v 0 0 rfl _) (pieceAct x w v 1 256 rfl _) (pieceAct x w v 2 512 rfl _) (pieceAct x w v 3 768 rfl _) (pieceAct x w v 4 1024 rfl _)
    (pieceAct x w v 5 1280 rfl _) (pieceAct x w v 6 1536 rfl _) (pieceAct x w v 7 1792 rfl _) (pieceAct x w v 8 2048 rfl _) (pieceAct x w v 9 2304 rfl _)
    (pieceAct x w v 10 2560 rfl _)

end Cert.FfnUpIdeal.Mine

end
-- ==== Proof.FfnUp.Blocks.lean ====
/- The arrays of the feed-forward's products up: each block it reads, and what the region leaves in its three results. -/
module

public import proofs.«01_k».proof.Proof.FfnUp.Point

@[expose] public section

set_option maxRecDepth 16384

noncomputable section

namespace Cert.FfnUpIdeal.Mine

open Idealize.ShloMosaic Idealize.ShloMosaic.TcCoe Idealize.SL.Sem
open Idealize.ShloMosaic.Pipeline (Dat)
open Cert.FfnUpIdeal Cert.FfnUpIdeal.Gen Cert.Reals

variable (m : (ℓ : Loc nD τ sig) → Buf (Elt Ideal) ℓ)

/-- The arguments are real arrays: the normed rows `z`, the gate's weight `w` and the other weight `v`. -/
structure Args (c : Dev nD) (z w v : ℕ → ℕ → ℝ) : Prop where
  z : m ((c.tc : Thread nD τ).loc main_arg0) = fun i : S4112x1024.Idx => ((z (i 0).val (i 1).val : ℝ) : EReal)
  w : m ((c.tc : Thread nD τ).loc main_arg1) = fun i : S1024x2816.Idx => ((w (i 0).val (i 1).val : ℝ) : EReal)
  v : m ((c.tc : Thread nD τ).loc main_arg2) = fun i : S1024x2816.Idx => ((v (i 0).val (i 1).val : ℝ) : EReal)

variable {m}
variable {c : Dev nD} {z w v : ℕ → ℕ → ℝ} (A : Args m c z w v)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] :=
  (by decide +kernel : ∀ t : Fin grid0.N, _)

include A in
/-- The rows with zeros in front, and the two weights turned. -/
theorem arrays : (∀ i : S4224x1024.Idx, V m c main_v2 i = ((nul z (i 0).val (i 1).val : ℝ) : EReal))
    ∧ (∀ i : S2816x1024.Idx, V m c main_v4 i = turned w i) ∧ ∀ i : S2816x1024.Idx, V m c main_v6 i = turned v i := by
  refine ⟨fun i => ?_, fun i => ?_, fun i => ?_⟩
  all_goals
    simp only [V, hostOps0]
    entry_read
    pointwise
  · exact nul_layout z fun e => congrFun A.z _
  · exact congrFun A.w _
  · exact congrFun A.v _

include A in
theorem reads (t : Fin cfg0.N) : iblk m c 0 t = rows (fun n p => nul z (528 * t.val + n) p) ∧ iblk m c 1 t = turned w
    ∧ iblk m c 2 t = rows (fun n p => nul z (528 * t.val + n) p) ∧ iblk m c 3 t = turned v := by
  refine ⟨funext fun y => ?_, funext fun y => ?_, funext fun y => ?_, funext fun y => ?_⟩ <;> blk_simp [iblk]
  · rw [(arrays A).1]
    blk_simp [rows, idx t]
    rw [mul_comm]
  · rw [(arrays A).2.1]
    blk_simp [turned, idx t]
  · rw [(arrays A).1]
    blk_simp [rows, idx t]
    rw [mul_comm]
  · rw [(arrays A).2.2]
    blk_simp [turned, idx t]

include A in
theorem final4 : (dats m 0 c).arrAt 4 cfg0.N = fun i : S4224x2816.Idx => ((up (nul z) w (i 0).val (i 1).val : ℝ) : EReal) := by
  refine (dats m 0 c).arrAt_eq_of_covers 4 _ (by decide +kernel) fun t _ y => ?_
  blk_simp
  rw [after0_4, (reads A t).1, (reads A t).2.1, (reads A t).2.2.1, (reads A t).2.2.2, gates]
  show ((up (nul z) w (528 * t.val + (y 0).val) (y 1).val : ℝ) : EReal) = _
  blk_simp [idx t]
  rw [mul_comm]

include A in
theorem final5 : (dats m 0 c).arrAt 5 cfg0.N = fun i : S4224x2816.Idx => ((up (nul z) v (i 0).val (i 1).val : ℝ) : EReal) := by
  refine (dats m 0 c).arrAt_eq_of_covers 5 _ (by decide +kernel) fun t _ y => ?_
  blk_simp
  rw [after0_5, (reads A t).1, (reads A t).2.1, (reads A t).2.2.1, (reads A t).2.2.2, ups]
  show ((up (nul z) v (528 * t.val + (y 0).val) (y 1).val : ℝ) : EReal) = _
  blk_simp [idx t]
  rw [mul_comm]

include A in
theorem final6 : (dats m 0 c).arrAt 6 cfg0.N = fun i : S4224x2816.Idx => ((act (nul z) w v (i 0).val (i 1).val : ℝ) : EReal) := by
  refine (dats m 0 c).arrAt_eq_of_covers 6 _ (by decide +kernel) fun t _ y => ?_
  blk_simp
  rw [after0_6, (reads A t).1, (reads A t).2.1, (reads A t).2.2.1, (reads A t).2.2.2, acts]
  show ((act (nul z) w v (528 * t.val + (y 0).val) (y 1).val : ℝ) : EReal) = _
  blk_simp [idx t]
  rw [mul_comm]

end Cert.FfnUpIdeal.Mine

end
-- ==== Proof.FfnUp.Ref.lean ====
/- The reference of the feed-forward's products up, at arrays of real numbers. -/
module

public import proofs.«01_k».proof.Proof.FfnUp.Blocks
public import proofs.«01_k».proof.Proof.Gen.FfnUpRefIdeal.Read

@[expose] public section

set_option maxRecDepth 16384

noncomputable section

namespace Cert.FfnUpRefIdeal.Mine

open Idealize.ShloMosaic Idealize.ShloMosaic.TcCoe Idealize.SL.Sem
open Cert.FfnUpRefIdeal Cert.FfnUpRefIdeal.Gen Cert.FfnUpRefIdeal.Read Cert.Reals
open Cert.FfnUpIdeal.Mine (up act)

variable (z w v : ℕ → ℕ → ℝ)

/-- The arguments as arrays. -/
def Z : (⟨S4112x1024, .f32⟩ : BufTy).Contents (Elt Ideal) := fun i : S4112x1024.Idx => ((z (i 0).val (i 1).val : ℝ) : EReal)
def W : (⟨S1024x2816, .f32⟩ : BufTy).Contents (Elt Ideal) := fun i : S1024x2816.Idx => ((w (i 0).val (i 1).val : ℝ) : EReal)

theorem v0 (i : S4112x2816.Idx) : val_main_v0 (F := Ideal) (Z z) (W w) i = ((up z w (i 0).val (i 1).val : ℝ) : EReal) := by
  rw [val_main_v0_apply]
  exact sum_mul_coe (fun l => rfl) fun l => rfl

theorem v1 (i : S4112x2816.Idx) : val_main_v1 (F := Ideal) (Z z) (W v) i = ((up z v (i 0).val (i 1).val : ℝ) : EReal) := v0 z v i

/-- The gate's product times its logistic, times the other product. -/
theorem v3 (i : S4112x2816.Idx) : val_main_v3 (F := Ideal) (Z z) (W w) (W v) i = ((act z w v (i 0).val (i 1).val : ℝ) : EReal) := by
  simp only [val_main_v3_apply, val_main_v2_apply, val_main_call0_v5_apply, val_main_call0_v4_apply, val_main_call0_cst_0_apply,
    val_main_call0_v3_apply, val_main_call0_v2_apply, val_main_call0_cst_apply, val_main_call0_v1_apply, val_main_call0_v0_apply, v0, v1]
  pointwise
  simp only [← EReal.coe_one]
  refine (congrArg (fun s : EReal => _ * s * _) (logistic _)).trans ?_
  rw [← EReal.coe_mul, ← EReal.coe_mul]
  rfl

/-- Rows of zeros give zeros. -/
theorem nul_up (n p : ℕ) : nul (up z w) n p = up (nul z) w n p := by
  by_cases e : n < 112
  · simp only [nul, up, if_pos e, zero_mul, Finset.sum_const_zero]
  · simp only [nul, up, if_neg e]

theorem nul_act (n p : ℕ) : nul (act z w v) n p = act (nul z) w v n p := by
  rw [act, ← nul_up, ← nul_up]
  by_cases e : n < 112
  · simp only [nul, if_pos e, mul_zero]
  · simp only [nul, act, if_neg e]

theorem v5 (i : S4224x2816.Idx) : val_main_v5 (F := Ideal) (Z z) (W w) i = ((up (nul z) w (i 0).val (i 1).val : ℝ) : EReal) := by
  rw [← nul_up, val_main_v5_apply]
  unfold val_main_v4
  pointwise
  idx_bounds
  exact nul_pad _ (by omega) (fun e => v0 z w _) (by unfold val_main_call1_v0; pointwise; rfl)

theorem v7 (i : S4224x2816.Idx) : val_main_v7 (F := Ideal) (Z z) (W v) i = ((up (nul z) v (i 0).val (i 1).val : ℝ) : EReal) := by
  rw [← nul_up, val_main_v7_apply]
  unfold val_main_v6
  pointwise
  idx_bounds
  exact nul_pad _ (by omega) (fun e => v1 z v _) (by unfold val_main_call2_v0; pointwise; rfl)

theorem v9 (i : S4224x2816.Idx) : val_main_v9 (F := Ideal) (Z z) (W w) (W v) i = ((act (nul z) w v (i 0).val (i 1).val : ℝ) : EReal) := by
  rw [← nul_act, val_main_v9_apply]
  unfold val_main_v8
  pointwise
  idx_bounds
  exact nul_pad _ (by omega) (fun e => v3 z w v _) (by unfold val_main_call3_v0; pointwise; rfl)

end Cert.FfnUpRefIdeal.Mine

end
-- ==== Proof.FfnUp.Claims.lean ====
/- The claims about the feed-forward's products up: under real arguments the kernel's three results are those of the reference. -/
module

public import proofs.«01_k».proof.Defs
public import proofs.«01_k».proof.Proof.FfnUp.Ref
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.Pre_finite13

@[expose] public section

set_option maxRecDepth 16384

noncomputable section

namespace Cert.FfnUpClaims

open Idealize.ShloMosaic Idealize.ShloMosaic.TcCoe Idealize.SL.Sem
open Cert.FfnUpIdeal.Mine Cert.Reals

theorem frame_p : Cert.quiescent_FfnUp := fun m ρ _ => Cert.FfnUp.Gen.frame m ρ

theorem frame_pi : Cert.quiescent_FfnUpIdeal := fun m ρ _ => Cert.FfnUpIdeal.Gen.frame m ρ

theorem frame_pi_pre : Cert.quiescent_FfnUpIdeal_pre_finite13 := fun m ρ _ => Cert.FfnUpIdeal.Gen.frame m ρ

theorem frame_ri : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

theorem frame_ri_pre : Cert.quiescent_FfnUpRefIdeal_pre_finite13 := fun m ρ _ => frame_ri m ρ trivial

theorem preserves : Cert.preserves_FfnUp_FfnUpIdeal := trivial

/-- Under the precondition the three arguments are arrays of real numbers. -/
theorem args (m : (ℓ : Loc FfnUpIdeal.nD FfnUpIdeal.τ FfnUpIdeal.sig) → Buf (Elt Ideal) ℓ)
    (h : Pre_FfnUpIdeal_finite13 m) (c : Dev FfnUpIdeal.nD) : ∃ z w v, Args m c z w v := by
  obtain ⟨h0, h1, h2⟩ := h c
  obtain ⟨z, hz⟩ := exists_real h0
  obtain ⟨w, hw⟩ := exists_real h1
  obtain ⟨v, hv⟩ := exists_real h2
  exact ⟨byCoords z, byCoords w, byCoords v, hz.trans (byCoords_spec z), hw.trans (byCoords_spec w), hv.trans (byCoords_spec v)⟩

theorem algebraic : Cert.algebraic_FfnUpIdeal_FfnUpRefIdeal_pre_finite13 := by
  intro m g m' g' hpre hargs
  refine ⟨fun c => (Cert.FfnUpIdeal.Gen.dats m 0 c).arrAt 4 Cert.FfnUpIdeal.cfg0.N, fun c => (Cert.FfnUpIdeal.Gen.dats m 0 c).arrAt 5 Cert.FfnUpIdeal.cfg0.N,
    fun c => (Cert.FfnUpIdeal.Gen.dats m 0 c).arrAt 6 Cert.FfnUpIdeal.cfg0.N, Cert.FfnUpIdeal.Value.run_blocks m g,
    (θ_run Cert.FfnUpRefIdeal.defs _ _).mono (fun r h c => ?_) (Cert.FfnUpRefIdeal.Value.run (F := Ideal) m' g')⟩
  obtain ⟨h5, h7, h9, hr⟩ := h c
  obtain ⟨z, w, v, A⟩ := args m hpre c
  obtain ⟨a0, a1, a2⟩ := hargs c
  have b0 := a0.trans A.z
  have b1 := a1.trans A.w
  have b2 := a2.trans A.v
  refine ⟨h5.trans ((Cert.FfnUpRefIdeal.Read.val_main_v5_eq ..).trans (Eq.trans ?_ (final4 A).symm)),
    h7.trans ((Cert.FfnUpRefIdeal.Read.val_main_v7_eq ..).trans (Eq.trans ?_ (final5 A).symm)),
    h9.trans ((Cert.FfnUpRefIdeal.Read.val_main_v9_eq ..).trans (Eq.trans ?_ (final6 A).symm)), hr⟩
  · rw [b0, b1]
    exact funext (Cert.FfnUpRefIdeal.Mine.v5 z w)
  · rw [b0, b2]
    exact funext (Cert.FfnUpRefIdeal.Mine.v7 z v)
  · rw [b0, b1, b2]
    exact funext (Cert.FfnUpRefIdeal.Mine.v9 z w v)

end Cert.FfnUpClaims

end
-- ==== Proof.MergeFwd.Point.lean ====
/- The merge of the two branches, forward: what a grid point computes from blocks of real numbers. -/
module

public import proofs.«01_k».proof.Proof.Gates
public import proofs.«01_k».proof.Proof.Padded
public import proofs.«01_k».proof.Proof.Gen.MergeFwdIdeal.Value

@[expose] public section

set_option maxRecDepth 16384

noncomputable section

namespace Cert.MergeFwdIdeal.Mine

open Idealize.ShloMosaic Idealize.ShloMosaic.TcCoe Idealize.SL.Sem
open Cert.MergeFwdIdeal Cert.MergeFwdIdeal.Gen Cert.Reals

/-- Blocks of a branch's rows, of its turned weight, of a gate or a result, and a bias; a strip of 256 columns of the last three. -/
def branch (a : ℕ → ℕ → ℝ) : Vec Ideal S1056x512 .bf16 := fun i => ((a (i 0).val (i 1).val : ℝ) : EReal)
def weight (w : ℕ → ℕ → ℝ) : Vec Ideal S1x1024x512 .bf16 := fun i => ((w (i 2).val (i 1).val : ℝ) : EReal)
def wide (o : ℕ → ℕ → ℝ) : Vec Ideal S1056x1024 .bf16 := fun i => ((o (i 0).val (i 1).val : ℝ) : EReal)
def shift (b : ℕ → ℝ) : Vec Ideal S1x1x1x1024 .f32 := fun i => ((b (i 3).val : ℝ) : EReal)
def weightS (q : ℕ) (w : ℕ → ℕ → ℝ) : Vec Ideal S1x256x512 .bf16 := fun i => ((w (i 2).val (256 * q + (i 1).val) : ℝ) : EReal)
def wideS (q : ℕ) (o : ℕ → ℕ → ℝ) : Vec Ideal S1056x256 .bf16 := fun i => ((o (i 0).val (256 * q + (i 1).val) : ℝ) : EReal)
def shiftS (q : ℕ) (b : ℕ → ℝ) : Vec Ideal S1x1x1x256 .f32 := fun i => ((b (256 * q + (i 3).val) : ℝ) : EReal)

/-- A branch's product, a gate's factor, and the two branches merged. -/
def prod (a w : ℕ → ℕ → ℝ) (n p : ℕ) : ℝ := ∑ l : Fin 512, a n l.val * w l.val p
def factor (g : ℕ → ℕ → ℝ) (b : ℕ → ℝ) (n p : ℕ) : ℝ := sg (g n p + b p)
def merged (a wa ga : ℕ → ℕ → ℝ) (ba : ℕ → ℝ) (b wb gb : ℕ → ℕ → ℝ) (bb : ℕ → ℝ) (n p : ℕ) : ℝ :=
  factor ga ba n p * prod a wa n p + factor gb bb n p * prod b wb n p

section strip

variable (a wa ga b wb gb : ℕ → ℕ → ℝ) (ba bb : ℕ → ℝ) (q : ℕ)

theorem prod_at (i : S1056x256.Idx) : k0_pay4 (F := Ideal) (weightS q wa) (branch a) i = ((prod a wa (i 0).val (256 * q + (i 1).val) : ℝ) : EReal) := by
  pointwise [k0_pay4, weightS, branch]
  exact sum_mul_coe (fun l => rfl) fun l => rfl

theorem half_at (i : S1056x256.Idx) : k0_pay7 (F := Ideal) (weightS q wa) (branch a) (wideS q ga) (shiftS q ba) i
    = ((factor ga ba (i 0).val (256 * q + (i 1).val) * prod a wa (i 0).val (256 * q + (i 1).val) : ℝ) : EReal) := by
  pointwise [k0_pay7]
  rw [prod_at, half_f32]
  pointwise [wideS, shiftS]
  simp only [← EReal.coe_mul, ← EReal.coe_add, tanh_coe, half_tanh]
  rfl

theorem merged_strip : k0_pay9 (F := Ideal) (k0_pay5 (weightS q wb) (branch b)) (k0_pay6 (shiftS q bb))
    (k0_pay7 (weightS q wa) (branch a) (wideS q ga) (shiftS q ba)) (k0_pay8 (wideS q gb)) = wideS q (merged a wa ga ba b wb gb bb) := by
  funext i
  have e : k0_pay5 (F := Ideal) (weightS q wb) (branch b) i = ((prod b wb (i 0).val (256 * q + (i 1).val) : ℝ) : EReal) := prod_at b wb q i
  pointwise [k0_pay9]
  rw [half_at, e, half_f32]
  pointwise [k0_pay6, k0_pay8, wideS, shiftS]
  simp only [← EReal.coe_mul, ← EReal.coe_add, tanh_coe, half_tanh]
  rfl

theorem prod_strip : k0_pay10 (F := Ideal) (k0_pay4 (weightS q wa) (branch a)) = wideS q (prod a wa) := by
  funext i
  pointwise [k0_pay10]
  exact prod_at a wa q i

variable (p : ℕ) (hp : p = 256 * q)
include hp

theorem ld_weight (inb) : View.ld (Val := Elt Ideal) (e' := .bf16) (weight wa) (Rect.unit (s := S1x1024x512) ![0, p, 0] S1x256x512.size inb)
    = weightS q wa := by
  funext i
  refine congrArg₂ (fun m n => ((wa m n : ℝ) : EReal)) ?_ ?_
  · rw [Rect.idx_unit_val]; exact Nat.zero_add _
  · rw [Rect.idx_unit_val, ← hp]; rfl

theorem ld_wide (inb) : View.ld (Val := Elt Ideal) (e' := .bf16) (wide ga) (Rect.unit (s := S1056x1024) ![0, p] S1056x256.size inb) = wideS q ga := by
  funext i
  refine congrArg₂ (fun m n => ((ga m n : ℝ) : EReal)) ?_ ?_
  · rw [Rect.idx_unit_val]; exact Nat.zero_add _
  · rw [Rect.idx_unit_val, ← hp]; rfl

theorem ld_shift (inb) : View.ld (Val := Elt Ideal) (e' := .f32) (shift ba) (Rect.unit (s := S1x1x1x1024) ![0, 0, 0, p] S1x1x1x256.size inb)
    = shiftS q ba := by
  funext i
  refine congrArg (fun n => ((ba n : ℝ) : EReal)) ?_
  rw [Rect.idx_unit_val, ← hp]; rfl

/-- What the strip at `p = 256 q` of each result holds. -/
theorem prodPiece (i1) : k0_pay10 (F := Ideal) (k0_pay4 (View.ld (weight wa) (Rect.unit (s := S1x1024x512) ![0, p, 0] S1x256x512.size i1))
    (branch a)) = wideS q (prod a wa) := by
  rw [ld_weight wa q p hp, prod_strip]

theorem mergedPiece (i1 i3 i4) :
    k0_pay9 (F := Ideal) (k0_pay5 (View.ld (weight wb) (Rect.unit (s := S1x1024x512) ![0, p, 0] S1x256x512.size i1))
        (branch b))
      (k0_pay6 (View.ld (shift bb) (Rect.unit (s := S1x1x1x1024) ![0, 0, 0, p] S1x1x1x256.size i3)))
      (k0_pay7 (View.ld (weight wa) (Rect.unit (s := S1x1024x512) ![0, p, 0] S1x256x512.size i1))
        (branch a)
        (View.ld (wide ga) (Rect.unit (s := S1056x1024) ![0, p] S1056x256.size i4))
        (View.ld (shift ba) (Rect.unit (s := S1x1x1x1024) ![0, 0, 0, p] S1x1x1x256.size i3)))
      (k0_pay8 (View.ld (wide gb) (Rect.unit (s := S1056x1024) ![0, p] S1056x256.size i4))) = wideS q (merged a wa ga ba b wb gb bb) := by
  rw [ld_weight wa q p hp, ld_weight wb q p hp, ld_wide ga q p hp, ld_wide gb q p hp, ld_shift ba q p hp, ld_shift bb q p hp,
    merged_strip]

end strip

theorem lane (o : ℕ → ℕ → ℝ) {q : ℕ} {i : S1056x256.Idx} {n p : ℕ} (hn : n = (i 0).val) (hp : p = 256 * q + (i 1).val) :
    wideS q o i = ((o n p : ℝ) : EReal) := by
  rw [hn, hp]; rfl

/-- Four strips side by side, of any that hold the columns. -/
theorem four (o : ℕ → ℕ → ℝ) {s0 s1 s2 s3 : Vec Ideal S1056x256 .bf16} (h0 : s0 = wideS 0 o) (h1 : s1 = wideS 1 o) (h2 : s2 = wideS 2 o)
    (h3 : s3 = wideS 3 o) : View.canon ([⟨Rect.unit (s := S1056x1024) ![0, 768] S1056x256.size inb_S1056x1024_S1056x256_0_768, s3⟩,
      ⟨Rect.unit (s := S1056x1024) ![0, 512] S1056x256.size inb_S1056x1024_S1056x256_0_512, s2⟩,
      ⟨Rect.unit (s := S1056x1024) ![0, 256] S1056x256.size inb_S1056x1024_S1056x256_0_256, s1⟩,
      ⟨Rect.unit (s := S1056x1024) ![0, 0] S1056x256.size inb_S1056x1024_S1056x256_0_0, s0⟩] : List (View.Piece (Elt Ideal) S1056x1024 .bf16)) = wide o := by
  rw [h0, h1, h2, h3]
  funext y
  canon_tiles i h
  iterate 3
    · exact lane o h0 h1
  exact lane o h0 (h1.trans (Nat.zero_add _).symm)

variable {m : (ℓ : Loc nD τ sig) → Buf (Elt Ideal) ℓ} {c : Dev nD} {t : Fin cfg0.N}

/-- What the point reads. -/
structure Reads (m : (ℓ : Loc nD τ sig) → Buf (Elt Ideal) ℓ) (c : Dev nD) (t : Fin cfg0.N) (a wa ga : ℕ → ℕ → ℝ) (ba : ℕ → ℝ) (b wb gb : ℕ → ℕ → ℝ)
    (bb : ℕ → ℝ) : Prop where
  a : iblk m c 0 t = branch a
  wa : iblk m c 1 t = weight wa
  b : iblk m c 2 t = branch b
  wb : iblk m c 3 t = weight wb
  ga : X0_4 m c t = wide ga
  gb : X0_5 m c t = wide gb
  ba : iblk m c 6 t = shift ba
  bb : iblk m c 7 t = shift bb

variable {a wa ga b wb gb : ℕ → ℕ → ℝ} {ba bb : ℕ → ℝ} (R : Reads m c t a wa ga ba b wb gb bb)

include R in
theorem merged_out : (outsAt0 m c t).1 = wide (merged a wa ga ba b wb gb bb) := by
  rw [outsAt0]
  frame_out
  rw [R.a, R.wa, R.b, R.wb, R.ga, R.gb, R.ba, R.bb]
  exact four _ (mergedPiece a wa ga b wb gb ba bb 0 0 rfl _ _ _) (mergedPiece a wa ga b wb gb ba bb 1 256 rfl _ _ _)
    (mergedPiece a wa ga b wb gb ba bb 2 512 rfl _ _ _) (mergedPiece a wa ga b wb gb ba bb 3 768 rfl _ _ _)

include R in
theorem first_out : (outsAt0 m c t).2.1 = wide (prod a wa) := by
  rw [outsAt0]
  frame_out
  rw [R.a, R.wa]
  exact four _ (prodPiece a wa 0 0 rfl _) (prodPiece a wa 1 256 rfl _) (prodPiece a wa 2 512 rfl _) (prodPiece a wa 3 768 rfl _)

include R in
theorem second_out : (outsAt0 m c t).2.2 = wide (prod b wb) := by
  rw [outsAt0]
  frame_out
  rw [R.b, R.wb]
  exact four _ (prodPiece b wb 0 0 rfl _) (prodPiece b wb 1 256 rfl _) (prodPiece b wb 2 512 rfl _) (prodPiece b wb 3 768 rfl _)

end Cert.MergeFwdIdeal.Mine

end
-- ==== Proof.MergeFwd.Blocks.lean ====
/- The arrays of the merge, forward: each block it reads, the gates' among the packed columns, and what the region leaves. -/
module

public import proofs.«01_k».proof.Proof.MergeFwd.Point

@[expose] public section

set_option maxRecDepth 16384

noncomputable section

namespace Cert.MergeFwdIdeal.Mine

open Idealize.ShloMosaic Idealize.ShloMosaic.TcCoe Idealize.SL.Sem
open Idealize.ShloMosaic.Pipeline (Dat)
open Cert.MergeFwdIdeal Cert.MergeFwdIdeal.Gen Cert.Reals

variable (m : (ℓ : Loc nD τ sig) → Buf (Elt Ideal) ℓ)

/-- The arguments are real arrays: the two branches `a` and `b`, the packed projection `h`, the branches' weights, the gates' biases. -/
structure Args (c : Dev nD) (a b h wa wb s : ℕ → ℕ → ℝ) : Prop where
  a : m ((c.tc : Thread nD τ).loc main_arg0) = fun i : S4112x512.Idx => ((a (i 0).val (i 1).val : ℝ) : EReal)
  b : m ((c.tc : Thread nD τ).loc main_arg1) = fun i : S4112x512.Idx => ((b (i 0).val (i 1).val : ℝ) : EReal)
  h : m ((c.tc : Thread nD τ).loc main_arg2) = fun i : S4112x4384.Idx => ((h (i 0).val (i 1).val : ℝ) : EReal)
  wa : m ((c.tc : Thread nD τ).loc main_arg3) = fun i : S512x1024.Idx => ((wa (i 0).val (i 1).val : ℝ) : EReal)
  wb : m ((c.tc : Thread nD τ).loc main_arg4) = fun i : S512x1024.Idx => ((wb (i 0).val (i 1).val : ℝ) : EReal)
  s : m ((c.tc : Thread nD τ).loc main_arg5) = fun i : S2x1024.Idx => ((s (i 0).val (i 1).val : ℝ) : EReal)

variable {m}
variable {c : Dev nD} {a b h wa wb s : ℕ → ℕ → ℝ} (A : Args m c a b h wa wb s)

theorem idx : ∀ t : Fin cfg0.N, win0_0.index t = ![t.val, 0] ∧ win0_1.index t = ![0, 0, 0] ∧ win0_2.index t = ![t.val, 0]
    ∧ win0_3.index t = ![0, 0, 0] ∧ win0_4.index t = ![t.val, 1] ∧ win0_5.index t = ![t.val, 2] ∧ win0_6.index t = ![0, 0, 0, 0]
    ∧ win0_7.index t = ![0, 1, 0, 0] ∧ win0_8.index t = ![t.val, 0] ∧ win0_9.index t = ![t.val, 0] ∧ win0_10.index t = ![t.val, 0] :=
  (by decide +kernel : ∀ t : Fin grid0.N, _)

/-- The host's lines before the last stretch, which puts the projection's parts behind one another. -/
abbrev early : List (HloOp τ sig (Elt Ideal)) := hostOps0 ++ hostOps0_1 ++ hostOps0_2 ++ hostOps0_3 ++ hostOps0_4 ++ hostOps0_5 ++ hostOps0_6
  ++ hostOps0_7 ++ hostOps0_8 ++ hostOps0_9 ++ hostOps0_10 ++ hostOps0_11 ++ hostOps0_12 ++ hostOps0_13

theorem V_ops (b : Ref sig .tc) : V m c b = StableHlo.after (early ++ hostOps0_14) (fun b => m (c, b)) (Proc.devRef .tc b) := rfl

include A in
/-- The arrays that are laid out without the packed projection. -/
theorem V_plain : (∀ i : S4224x512.Idx, V m c main_v40 i = ((nul a (i 0).val (i 1).val : ℝ) : EReal))
    ∧ (∀ i : S4224x512.Idx, V m c main_v43 i = ((nul b (i 0).val (i 1).val : ℝ) : EReal)) ∧ (∀ i : S1x1024x512.Idx, V m c main_v46 i = weight wa i)
    ∧ (∀ i : S1x1024x512.Idx, V m c main_v49 i = weight wb i)
    ∧ ∀ i : S1x2x1x1024.Idx, V m c main_v50 i = ((s (i 1).val (i 3).val : ℝ) : EReal) := by
  refine ⟨fun i => ?_, fun i => ?_, fun i => ?_, fun i => ?_, fun i => ?_⟩
  all_goals
    rw [V_ops]
    simp only [early, hostOps0, hostOps0_1, hostOps0_2, hostOps0_3, hostOps0_4, hostOps0_5, hostOps0_6, hostOps0_7, hostOps0_8, hostOps0_9,
      hostOps0_10, hostOps0_11, hostOps0_12, hostOps0_13, hostOps0_14, List.cons_append, List.nil_append]
    entry_read
    pointwise
  · exact nul_layout a fun e => congrFun A.a _
  · exact nul_layout b fun e => congrFun A.b _
  · exact congrFun A.wa _
  · exact congrFun A.wb _
  · exact congrFun A.s _

include A in
/-- The two gates before the parts are put together. -/
theorem gates_before : (∀ (r : Fin 1024) (n : Fin 4112), StableHlo.after early (fun b => m (c, b)) (Proc.devRef .tc main_v10) (ix2 r n)
      = ((h n.val (2336 + r.val) : ℝ) : EReal))
    ∧ ∀ (r : Fin 1024) (n : Fin 4112), StableHlo.after early (fun b => m (c, b)) (Proc.devRef .tc main_v11) (ix2 r n)
      = ((h n.val (3360 + r.val) : ℝ) : EReal) := by
  refine ⟨fun r n => ?_, fun r n => ?_⟩
  all_goals
    simp only [early, hostOps0, hostOps0_1, hostOps0_2, hostOps0_3, hostOps0_4, hostOps0_5, hostOps0_6, hostOps0_7, hostOps0_8, hostOps0_9,
      hostOps0_10, hostOps0_11, hostOps0_12, hostOps0_13, List.cons_append, List.nil_append]
    entry_read
    pointwise
    exact congrFun A.h _

section stack

variable (u0 u1 u2 : FVec Ideal S1024x4112 .f32) (u3 u4 u5 u6 : FVec Ideal S512x4112 .f32) (u7 u8 : FVec Ideal S256x4112 .f32)
  (u9 u10 : FVec Ideal S128x4112 .f32)

/-- Where the second and the third part lie among the parts under one another. -/
theorem stack_ga (hc) (p : Fin 5888) (n : Fin 4112) (h0 : 1024 ≤ p.val) (h1 : p.val < 2048) :
    concatenate S5888x4112 0 [⟨S1024x4112, u0⟩, ⟨S1024x4112, u1⟩, ⟨S1024x4112, u2⟩, ⟨S512x4112, u3⟩, ⟨S512x4112, u4⟩, ⟨S512x4112, u5⟩,
      ⟨S512x4112, u6⟩, ⟨S256x4112, u7⟩, ⟨S256x4112, u8⟩, ⟨S128x4112, u9⟩, ⟨S128x4112, u10⟩] hc (ix2 p n) = u1 (ix2 ⟨p.val - 1024, by omega⟩ n) := by
  pointwise
  rw [dif_neg (by omega), dif_pos (by omega)]

theorem stack_gb (hc) (p : Fin 5888) (n : Fin 4112) (h0 : 2048 ≤ p.val) (h1 : p.val < 3072) :
    concatenate S5888x4112 0 [⟨S1024x4112, u0⟩, ⟨S1024x4112, u1⟩, ⟨S1024x4112, u2⟩, ⟨S512x4112, u3⟩, ⟨S512x4112, u4⟩, ⟨S512x4112, u5⟩,
      ⟨S512x4112, u6⟩, ⟨S256x4112, u7⟩, ⟨S256x4112, u8⟩, ⟨S128x4112, u9⟩, ⟨S128x4112, u10⟩] hc (ix2 p n) = u2 (ix2 ⟨p.val - 2048, by omega⟩ n) := by
  pointwise
  rw [dif_neg (by omega), dif_neg (by omega), dif_pos (by omega)]
  exact congrArg (fun q : Fin 1024 => u2 (ix2 q n)) (Fin.ext (by show p.val - 1024 - 1024 = p.val - 2048; omega))

end stack

/-- The first two lines of the last stretch put the parts together and leave the gates where they lie. -/
theorem stacked (σ : Valuation τ sig (Elt Ideal)) (i : S5888x4112.Idx) :
    (∀ (h0 : 1024 ≤ (i 0).val) (h1 : (i 0).val < 2048), StableHlo.after (hostOps0_14.take 2) σ (Proc.devRef .tc main_v33) i
      = σ (Proc.devRef .tc main_v10) (ix2 ⟨(i 0).val - 1024, by omega⟩ (i 1)))
    ∧ ∀ (h0 : 2048 ≤ (i 0).val) (h1 : (i 0).val < 3072), StableHlo.after (hostOps0_14.take 2) σ (Proc.devRef .tc main_v33) i
      = σ (Proc.devRef .tc main_v11) (ix2 ⟨(i 0).val - 2048, by omega⟩ (i 1)) := by
  refine ⟨fun h0 h1 => ?_, fun h0 h1 => ?_⟩
  all_goals
    simp only [hostOps0_14, List.take, StableHlo.after_cons, StableHlo.after_nil]
    rw [StableHlo.nary_result]
    refine Eq.trans (congrArg _ (ix2_eta i).symm) ?_
  · refine (stack_ga _ _ _ _ _ _ _ _ _ _ _ _ (i 0) (i 1) h0 h1).trans ?_
    exact congrFun (StableHlo.reshape_result_ne (y := main_v32) (r := main_v10) (h := by decide) ..) _
  · refine (stack_gb _ _ _ _ _ _ _ _ _ _ _ _ (i 0) (i 1) h0 h1).trans ?_
    exact congrFun (StableHlo.reshape_result_ne (y := main_v32) (r := main_v11) (h := by decide) ..) _

include A in
/-- The gates among the packed columns: both lie 1312 columns further right in the projection as it is given. -/
theorem V_gates (i : S4224x5888.Idx) (h0 : 1024 ≤ (i 1).val) (h1 : (i 1).val < 3072) :
    V m c main_v37 i = ((nul (fun n p => h n (1312 + p)) (i 0).val (i 1).val : ℝ) : EReal) := by
  rw [V_ops, StableHlo.after_append, ← List.take_append_drop 2 hostOps0_14, StableHlo.after_append]
  generalize hσ : StableHlo.after (hostOps0_14.take 2) (StableHlo.after early fun b => m (c, b)) = σ
  simp only [hostOps0_14, List.drop]
  entry_read
  pointwise
  refine nul_layout (fun n p => h n (1312 + p)) fun e => ?_
  rw [← hσ]
  by_cases hg : (i 1).val < 2048
  · refine ((stacked _ _).1 h0 hg).trans (((gates_before A).1 _ _).trans ?_)
    exact congrArg (fun p => ((h ((i 0).val - 112) p : ℝ) : EReal)) (by show 2336 + ((i 1).val - 1024) = _; omega)
  · refine ((stacked _ _).2 (Nat.le_of_not_lt hg) h1).trans (((gates_before A).2 _ _).trans ?_)
    exact congrArg (fun p => ((h ((i 0).val - 112) p : ℝ) : EReal)) (by show 3360 + ((i 1).val - 2048) = _; omega)

/-- The gates in the rows of the arguments. -/
def gateA (h : ℕ → ℕ → ℝ) (n p : ℕ) : ℝ := h n (2336 + p)
def gateB (h : ℕ → ℕ → ℝ) (n p : ℕ) : ℝ := h n (3360 + p)

/-- The rows of a point among all rows. -/
def at_ (t : ℕ) (o : ℕ → ℕ → ℝ) (n p : ℕ) : ℝ := nul o (1056 * t + n) p

set_option maxHeartbeats 4000000 in
include A in
theorem reads (t : Fin cfg0.N) : Reads m c t (at_ t.val a) wa (at_ t.val (gateA h)) (s 0) (at_ t.val b) wb (at_ t.val (gateB h)) (s 1) := by
  obtain ⟨va, vb, vwa, vwb, vs⟩ := V_plain A
  constructor
  · funext y
    blk_simp [iblk]
    rw [va]
    blk_simp [branch, idx t]
    rw [mul_comm]
    rfl
  · funext y
    blk_simp [iblk]
    rw [vwa]
    blk_simp [weight, idx t]
  · funext y
    blk_simp [iblk]
    rw [vb]
    blk_simp [branch, idx t]
    rw [mul_comm]
    rfl
  · funext y
    blk_simp [iblk]
    rw [vwb]
    blk_simp [weight, idx t]
  · funext y
    rw [show X0_4 m c t y = _ from dif_pos (moved0_4 t y)]
    blk_simp [iblk]
    have h1 : (y 1).val < 1024 := (y 1).isLt
    refine (V_gates A _ (by blk_simp [idx t]; omega)
      (by blk_simp [idx t]; exact (Nat.add_lt_add_left h1 _).trans (by decide : 1 * 1024 + 1024 < 3072))).trans ?_
    refine congrArg (fun s : ℝ => (s : EReal)) ?_
    have e1 : 1312 + (1 * 1024 + (y 1).val) = 2336 + (y 1).val := by omega
    blk_simp [idx t]
    show nul _ (t.val * 1056 + (y 0).val) (1 * 1024 + (y 1).val) = nul _ (1056 * t.val + (y 0).val) (y 1).val
    rw [mul_comm t.val, nul, nul, e1]
    rfl
  · funext y
    rw [show X0_5 m c t y = _ from dif_pos (moved0_5 t y)]
    blk_simp [iblk]
    have h1 : (y 1).val < 1024 := (y 1).isLt
    refine (V_gates A _ (by blk_simp [idx t]; omega)
      (by blk_simp [idx t]; exact Nat.add_lt_add_left h1 _)).trans ?_
    refine congrArg (fun s : ℝ => (s : EReal)) ?_
    have e1 : 1312 + (2 * 1024 + (y 1).val) = 3360 + (y 1).val := by omega
    blk_simp [idx t]
    show nul _ (t.val * 1056 + (y 0).val) (2 * 1024 + (y 1).val) = nul _ (1056 * t.val + (y 0).val) (y 1).val
    rw [mul_comm t.val, nul, nul, e1]
    rfl
  · funext y
    blk_simp [iblk]
    rw [vs]
    blk_simp [shift, idx t]
  · funext y
    blk_simp [iblk]
    rw [vs]
    blk_simp [shift, idx t]

/-- Rows of zeros give zeros. -/
theorem prod_nul (a w : ℕ → ℕ → ℝ) (t n p : ℕ) : prod (at_ t a) w n p = nul (prod a w) (1056 * t + n) p := by
  by_cases e : 1056 * t + n < 112
  · simp only [nul, at_, prod, if_pos e, zero_mul, Finset.sum_const_zero]
  · simp only [nul, at_, prod, if_neg e]

theorem merged_nul (t n p : ℕ) : merged (at_ t a) wa (at_ t (gateA h)) (s 0) (at_ t b) wb (at_ t (gateB h)) (s 1) n p
    = nul (merged a wa (gateA h) (s 0) b wb (gateB h) (s 1)) (1056 * t + n) p := by
  rw [merged, prod_nul, prod_nul]
  by_cases e : 1056 * t + n < 112
  · simp only [nul, if_pos e, mul_zero, add_zero]
  · simp only [nul, at_, merged, factor, if_neg e]

include A in
theorem final8 : (dats m 0 c).arrAt 8 cfg0.N = fun i : S4224x1024.Idx =>
    ((nul (merged a wa (gateA h) (s 0) b wb (gateB h) (s 1)) (i 0).val (i 1).val : ℝ) : EReal) := by
  refine (dats m 0 c).arrAt_eq_of_covers 8 _ (by decide +kernel) fun t _ y => ?_
  blk_simp
  rw [after0_8, merged_out (reads A t)]
  refine (congrArg (fun s : ℝ => (s : EReal)) (merged_nul t.val (y 0).val (y 1).val)).trans ?_
  blk_simp [idx t]
  rw [mul_comm]

include A in
theorem final9 : (dats m 0 c).arrAt 9 cfg0.N = fun i : S4224x1024.Idx => ((nul (prod a wa) (i 0).val (i 1).val : ℝ) : EReal) := by
  refine (dats m 0 c).arrAt_eq_of_covers 9 _ (by decide +kernel) fun t _ y => ?_
  blk_simp
  rw [after0_9, first_out (reads A t)]
  refine (congrArg (fun s : ℝ => (s : EReal)) (prod_nul a wa t.val (y 0).val (y 1).val)).trans ?_
  blk_simp [idx t]
  rw [mul_comm]

include A in
theorem final10 : (dats m 0 c).arrAt 10 cfg0.N = fun i : S4224x1024.Idx => ((nul (prod b wb) (i 0).val (i 1).val : ℝ) : EReal) := by
  refine (dats m 0 c).arrAt_eq_of_covers 10 _ (by decide +kernel) fun t _ y => ?_
  blk_simp
  rw [after0_10, second_out (reads A t)]
  refine (congrArg (fun s : ℝ => (s : EReal)) (prod_nul b wb t.val (y 0).val (y 1).val)).trans ?_
  blk_simp [idx t]
  rw [mul_comm]

end Cert.MergeFwdIdeal.Mine

end
-- ==== Proof.MergeFwd.Ref.lean ====
/- The reference of the merge, forward, at arrays of real numbers. -/
module

public import proofs.«01_k».proof.Proof.MergeFwd.Blocks
public import proofs.«01_k».proof.Proof.Gen.MergeFwdRefIdeal.Read

@[expose] public section

set_option maxRecDepth 16384

noncomputable section

namespace Cert.MergeFwdRefIdeal.Mine

open Idealize.ShloMosaic Idealize.ShloMosaic.TcCoe Idealize.SL.Sem
open Cert.MergeFwdRefIdeal Cert.MergeFwdRefIdeal.Gen Cert.MergeFwdRefIdeal.Read Cert.Reals
open Cert.MergeFwdIdeal.Mine (prod factor merged gateA gateB)

variable (a b h wa wb s : ℕ → ℕ → ℝ)

/-- The arguments as arrays: a branch, the packed projection, a branch's weight, the two biases. -/
def A : (⟨S4112x512, .f32⟩ : BufTy).Contents (Elt Ideal) := fun i : S4112x512.Idx => ((a (i 0).val (i 1).val : ℝ) : EReal)
def H : (⟨S4112x4384, .f32⟩ : BufTy).Contents (Elt Ideal) := fun i : S4112x4384.Idx => ((h (i 0).val (i 1).val : ℝ) : EReal)
def W : (⟨S512x1024, .f32⟩ : BufTy).Contents (Elt Ideal) := fun i : S512x1024.Idx => ((wa (i 0).val (i 1).val : ℝ) : EReal)
def B : (⟨S2x1024, .f32⟩ : BufTy).Contents (Elt Ideal) := fun i : S2x1024.Idx => ((s (i 0).val (i 1).val : ℝ) : EReal)

theorem v11 (i : S4112x1024.Idx) : val_main_v11 (F := Ideal) (A a) (W wa) i = ((prod a wa (i 0).val (i 1).val : ℝ) : EReal) := by
  rw [val_main_v11_apply]
  exact sum_mul_coe (fun l => rfl) fun l => rfl

theorem v12 (i : S4112x1024.Idx) : val_main_v12 (F := Ideal) (A b) (W wb) i = ((prod b wb (i 0).val (i 1).val : ℝ) : EReal) := v11 b wb i

/-- A gate with its bias. -/
theorem v17 (i : S4112x1024.Idx) : val_main_v17 (F := Ideal) (H h) (B s) i = ((gateA h (i 0).val (i 1).val + s 0 (i 1).val : ℝ) : EReal) := by
  rw [val_main_v17_apply]
  unfold val_main_v16 val_main_v15 val_main_v14 val_main_v13 val_main_v9
  pointwise
  rfl

theorem v29 (i : S4112x1024.Idx) : val_main_v29 (F := Ideal) (H h) (B s) i = ((gateB h (i 0).val (i 1).val + s 1 (i 1).val : ℝ) : EReal) := by
  rw [val_main_v29_apply]
  unfold val_main_v28 val_main_v27 val_main_v26 val_main_v25 val_main_v10
  pointwise
  rfl

/-- The factors are logistic functions. -/
theorem v23 (i : S4112x1024.Idx) : val_main_v23 (F := Ideal) (H h) (B s) i = ((factor (gateA h) (s 0) (i 0).val (i 1).val : ℝ) : EReal) := by
  simp only [val_main_v23_apply, val_main_v22_apply, val_main_cst_0_apply, val_main_v21_apply, val_main_v20_apply, val_main_cst_apply,
    val_main_v19_apply, val_main_v18_apply, v17]
  pointwise
  simp only [← EReal.coe_one]
  exact logistic _

theorem v35 (i : S4112x1024.Idx) : val_main_v35 (F := Ideal) (H h) (B s) i = ((factor (gateB h) (s 1) (i 0).val (i 1).val : ℝ) : EReal) := by
  simp only [val_main_v35_apply, val_main_v34_apply, val_main_cst_2_apply, val_main_v33_apply, val_main_v32_apply, val_main_cst_1_apply,
    val_main_v31_apply, val_main_v30_apply, v29]
  pointwise
  simp only [← EReal.coe_one]
  exact logistic _

theorem v37 (i : S4112x1024.Idx) : val_main_v37 (F := Ideal) (A a) (A b) (H h) (W wa) (W wb) (B s) i
    = ((merged a wa (gateA h) (s 0) b wb (gateB h) (s 1) (i 0).val (i 1).val : ℝ) : EReal) := by
  rw [val_main_v37_apply, val_main_v24_apply, val_main_v36_apply, v23, v35, v11, v12]
  pointwise
  rw [← EReal.coe_mul, ← EReal.coe_mul, ← EReal.coe_add]
  rfl

theorem v39 (i : S4224x1024.Idx) : val_main_v39 (F := Ideal) (A a) (A b) (H h) (W wa) (W wb) (B s) i
    = ((nul (merged a wa (gateA h) (s 0) b wb (gateB h) (s 1)) (i 0).val (i 1).val : ℝ) : EReal) := by
  rw [val_main_v39_apply]
  unfold val_main_v38
  pointwise
  idx_bounds
  exact nul_pad _ (by omega) (fun e => v37 a b h wa wb s _) (by unfold val_main_call0_v0; pointwise; rfl)

theorem v41 (i : S4224x1024.Idx) : val_main_v41 (F := Ideal) (A a) (W wa) i = ((nul (prod a wa) (i 0).val (i 1).val : ℝ) : EReal) := by
  rw [val_main_v41_apply]
  unfold val_main_v40
  pointwise
  idx_bounds
  exact nul_pad _ (by omega) (fun e => v11 a wa _) (by unfold val_main_call1_v0; pointwise; rfl)

theorem v43 (i : S4224x1024.Idx) : val_main_v43 (F := Ideal) (A b) (W wb) i = ((nul (prod b wb) (i 0).val (i 1).val : ℝ) : EReal) := by
  rw [val_main_v43_apply]
  unfold val_main_v42
  pointwise
  idx_bounds
  exact nul_pad _ (by omega) (fun e => v12 b wb _) (by unfold val_main_call2_v0; pointwise; rfl)

end Cert.MergeFwdRefIdeal.Mine

end
-- ==== Proof.MergeFwd.Claims.lean ====
/- The claims about the merge, forward: under real arguments the merged rows and the two branches' products are the reference's. -/
module

public import proofs.«01_k».proof.Defs
public import proofs.«01_k».proof.Proof.MergeFwd.Ref
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.Pre_finite14

@[expose] public section

set_option maxRecDepth 16384

noncomputable section

namespace Cert.MergeFwdClaims

open Idealize.ShloMosaic Idealize.ShloMosaic.TcCoe Idealize.SL.Sem
open Cert.MergeFwdIdeal.Mine Cert.Reals

theorem frame_p : Cert.quiescent_MergeFwd := fun m ρ _ => Cert.MergeFwd.Gen.frame m ρ

theorem frame_pi : Cert.quiescent_MergeFwdIdeal := fun m ρ _ => Cert.MergeFwdIdeal.Gen.frame m ρ

theorem frame_pi_pre : Cert.quiescent_MergeFwdIdeal_pre_finite14 := fun m ρ _ => Cert.MergeFwdIdeal.Gen.frame m ρ

theorem frame_ri : Cert.quiescent_MergeFwdRefIdeal := fun m ρ _ =>
  (θ_run Cert.MergeFwdRefIdeal.defs _ _).mono (fun r h => ⟨fun c => (h c).2.2.2, sem_eq_zero_of_no_sems (by decide) r.2⟩)
    (Cert.MergeFwdRefIdeal.Value.run (F := Ideal) m ρ)

theorem frame_ri_pre : Cert.quiescent_MergeFwdRefIdeal_pre_finite14 := fun m ρ _ => frame_ri m ρ trivial

theorem preserves : Cert.preserves_MergeFwd_MergeFwdIdeal := trivial

/-- Under the precondition the six arguments are arrays of real numbers. -/
theorem args (m : (ℓ : Loc MergeFwdIdeal.nD MergeFwdIdeal.τ MergeFwdIdeal.sig) → Buf (Elt Ideal) ℓ)
    (hm : Pre_MergeFwdIdeal_finite14 m) (c : Dev MergeFwdIdeal.nD) : ∃ a b h wa wb s, Args m c a b h wa wb s := by
  obtain ⟨h0, h1, h2, h3, h4, h5⟩ := hm c
  obtain ⟨a, ha⟩ := exists_real h0
  obtain ⟨b, hb⟩ := exists_real h1
  obtain ⟨h, hh⟩ := exists_real h2
  obtain ⟨u, hu⟩ := exists_real h3
  obtain ⟨v, hv⟩ := exists_real h4
  obtain ⟨s, hs⟩ := exists_real h5
  exact ⟨byCoords a, byCoords b, byCoords h, byCoords u, byCoords v, byCoords s, ha.trans (byCoords_spec a), hb.trans (byCoords_spec b),
    hh.trans (byCoords_spec h), hu.trans (byCoords_spec u), hv.trans (byCoords_spec v), hs.trans (byCoords_spec s)⟩

theorem algebraic : Cert.algebraic_MergeFwdIdeal_MergeFwdRefIdeal_pre_finite14 := by
  intro m g m' g' hpre hargs
  refine ⟨fun c => (Cert.MergeFwdIdeal.Gen.dats m 0 c).arrAt 8 Cert.MergeFwdIdeal.cfg0.N,
    fun c => (Cert.MergeFwdIdeal.Gen.dats m 0 c).arrAt 9 Cert.MergeFwdIdeal.cfg0.N,
    fun c => (Cert.MergeFwdIdeal.Gen.dats m 0 c).arrAt 10 Cert.MergeFwdIdeal.cfg0.N, Cert.MergeFwdIdeal.Value.run_blocks m g,
    (θ_run Cert.MergeFwdRefIdeal.defs _ _).mono (fun r h c => ?_) (Cert.MergeFwdRefIdeal.Value.run (F := Ideal) m' g')⟩
  obtain ⟨hy, hp, hq, hr⟩ := h c
  obtain ⟨a, b, h, wa, wb, s, A⟩ := args m hpre c
  obtain ⟨a0, a1, a2, a3, a4, a5⟩ := hargs c
  have b0 := a0.trans A.a
  have b1 := a1.trans A.b
  have b2 := a2.trans A.h
  have b3 := a3.trans A.wa
  have b4 := a4.trans A.wb
  have b5 := a5.trans A.s
  refine ⟨hy.trans ((Cert.MergeFwdRefIdeal.Read.val_main_v39_eq ..).trans (Eq.trans ?_ (final8 A).symm)),
    hp.trans ((Cert.MergeFwdRefIdeal.Read.val_main_v41_eq ..).trans (Eq.trans ?_ (final9 A).symm)),
    hq.trans ((Cert.MergeFwdRefIdeal.Read.val_main_v43_eq ..).trans (Eq.trans ?_ (final10 A).symm)), hr⟩
  · rw [b0, b1, b2, b3, b4, b5]
    exact funext (Cert.MergeFwdRefIdeal.Mine.v39 a b h wa wb s)
  · rw [b0, b3]
    exact funext (Cert.MergeFwdRefIdeal.Mine.v41 a wa)
  · rw [b1, b4]
    exact funext (Cert.MergeFwdRefIdeal.Mine.v43 b wb)

end Cert.MergeFwdClaims

end
-- ==== Proof.FfnDown.Blocks.lean ====
/- The feed-forward's product down, forward, with the stream handed on and the norm that follows: what a point computes, and what the region leaves. -/
module

public import proofs.«01_k».proof.Proof.Norm
public import proofs.«01_k».proof.Proof.Gen.FfnDownIdeal.Value

@[expose] public section

set_option maxRecDepth 16384

noncomputable section

namespace Cert.FfnDownIdeal.Mine

open Idealize.ShloMosaic Idealize.ShloMosaic.TcCoe Idealize.SL.Sem
open Idealize.ShloMosaic.Pipeline (Dat)
open Cert.FfnDownIdeal Cert.FfnDownIdeal.Gen Cert.Reals

/-- Blocks: rows of the stream, inner rows, the weight, the gains. -/
def stream (o : ℕ → ℕ → ℝ) : Vec Ideal S528x1024 .f32 := fun i => ((o (i 0).val (i 1).val : ℝ) : EReal)
def inner (o : ℕ → ℕ → ℝ) : Vec Ideal S528x2816 .bf16 := fun i => ((o (i 0).val (i 1).val : ℝ) : EReal)
def weight (w : ℕ → ℕ → ℝ) : Vec Ideal S2816x1024 .bf16 := fun i => ((w (i 0).val (i 1).val : ℝ) : EReal)
def gains (g : ℕ → ℝ) : Vec Ideal S1x1024 .f32 := fun i => ((g (i 1).val : ℝ) : EReal)

/-- The stream after half of the product is added, and its norm with the next gain. -/
def next (h a w : ℕ → ℕ → ℝ) (n p : ℕ) : ℝ := h n p + 1 / 2 * ∑ l : Fin 2816, a n l.val * w l.val p
def scaled (x : ℕ → ℕ → ℝ) (g : ℕ → ℝ) (n p : ℕ) : ℝ := x n p * rn x n * g p

theorem next_body (h a w : ℕ → ℕ → ℝ) : k0_pay1 (F := Ideal) (weight w) (inner a) (stream h) = stream (next h a w) := by
  funext i
  pointwise [k0_pay1, weight, inner, stream]
  rw [half_f32]
  simp only [← EReal.coe_mul, coe_sum, ← EReal.coe_add]
  rfl

theorem scaled_body (h a w : ℕ → ℕ → ℝ) (g : ℕ → ℝ) (i : S528x1024.Idx) :
    k0_pay2 (F := Ideal) (weight w) (inner a) (stream h) (gains g) i = ((scaled (next h a w) g (i 0).val (i 1).val : ℝ) : EReal) := by
  have e : k0_pay2 (F := Ideal) (weight w) (inner a) (stream h) (gains g) i = ((next h a w (i 0).val (i 1).val : ℝ) : EReal)
      * Ideal.rsqrt ((ms 1024 (fun k : Fin 1024 => next h a w (i 0).val k.val) : ℝ) : EReal) * ((g (i 1).val : ℝ) : EReal) := by
    unfold k0_pay2
    rw [next_body]
    pointwise [stream, gains]
    rw [k_f32, eps_f32]
    simp only [← EReal.coe_mul, coe_sum]
    rw [div_coe_coe (by norm_num), ← EReal.coe_add]
    rfl
  rw [e, rsqrt_pos (ms_pos (by norm_num) _), ← EReal.coe_mul, ← EReal.coe_mul]
  rfl

variable (m : (ℓ : Loc nD τ sig) → Buf (Elt Ideal) ℓ)

/-- The arguments are real arrays: the stream, the inner rows, the weight and the next gain. -/
structure Args (c : Dev nD) (h a w : ℕ → ℕ → ℝ) (g : ℕ → ℝ) : Prop where
  h : m ((c.tc : Thread nD τ).loc main_arg0) = fun i : S4112x1024.Idx => ((h (i 0).val (i 1).val : ℝ) : EReal)
  a : m ((c.tc : Thread nD τ).loc main_arg1) = fun i : S4112x2816.Idx => ((a (i 0).val (i 1).val : ℝ) : EReal)
  w : m ((c.tc : Thread nD τ).loc main_arg2) = fun i : S2816x1024.Idx => ((w (i 0).val (i 1).val : ℝ) : EReal)
  g : m ((c.tc : Thread nD τ).loc main_arg3) = fun i : S1024.Idx => ((g (i 0).val : ℝ) : EReal)

variable {m}
variable {c : Dev nD} {h a w : ℕ → ℕ → ℝ} {g : ℕ → ℝ} (A : Args m c h a w g)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

include A in
theorem laid_out : V m c main_v2 = (fun i : S4224x2816.Idx => ((nul a (i 0).val (i 1).val : ℝ) : EReal)) ∧ V m c main_v3 = weight w
    ∧ V m c main_v5 = (fun i : S4224x1024.Idx => ((nul h (i 0).val (i 1).val : ℝ) : EReal)) ∧ V m c main_v6 = gains g := by
  refine ⟨?_, ?_, ?_, ?_⟩
  all_goals
    funext i
    simp only [V, hostOps0]
    entry_read
    pointwise
  · exact nul_layout a fun e => congrFun A.a _
  · exact congrFun A.w _
  · exact nul_layout h fun e => congrFun A.h _
  · exact congrFun A.g _

/-- The rows that point `t` reads. -/
def at_ (t : ℕ) (o : ℕ → ℕ → ℝ) (n p : ℕ) : ℝ := nul o (528 * t + n) p

include A in
theorem blocks (t : Fin cfg0.N) : iblk m c 0 t = inner (at_ t.val a) ∧ iblk m c 1 t = weight w ∧ iblk m c 2 t = stream (at_ t.val h)
    ∧ iblk m c 3 t = gains g := by
  obtain ⟨va, vw, vh, vg⟩ := laid_out A
  refine ⟨?_, ?_, ?_, ?_⟩
  all_goals
    funext y
    blk_simp [iblk]
  · rw [va]
    blk_simp [inner, idx t]
    rw [mul_comm]
    rfl
  · rw [vw]
    blk_simp [weight, idx t]
  · rw [vh]
    blk_simp [stream, idx t]
    rw [mul_comm]
    rfl
  · rw [vg]
    blk_simp [gains, idx t]

/-- Rows of zeros stay zeros. -/
theorem next_nul (t n p : ℕ) : next (at_ t h) (at_ t a) w n p = nul (next h a w) (528 * t + n) p := by
  by_cases e : 528 * t + n < 112
  · simp only [next, at_, nul, if_pos e, zero_mul, Finset.sum_const_zero, mul_zero, add_zero]
  · simp only [next, at_, nul, if_neg e]

theorem scaled_nul (t n p : ℕ) : scaled (next (at_ t h) (at_ t a) w) g n p = nul (scaled (next h a w) g) (528 * t + n) p := by
  simp only [scaled, rn, next_nul]
  by_cases e : 528 * t + n < 112
  · simp only [nul, if_pos e, zero_mul]
  · simp only [nul, if_neg e, scaled, rn]

include A in
theorem final4 : (dats m 0 c).arrAt 4 cfg0.N = fun i : S4224x1024.Idx => ((nul (next h a w) (i 0).val (i 1).val : ℝ) : EReal) := by
  refine (dats m 0 c).arrAt_eq_of_covers 4 _ (by decide +kernel) fun t _ y => ?_
  obtain ⟨ba, bw, bh, bg⟩ := blocks A t
  blk_simp
  rw [after0_4, ba, bw, bh, bg]
  frame_out
  rw [next_body]
  refine (congrArg (fun s : ℝ => (s : EReal)) (next_nul t.val (y 0).val (y 1).val)).trans ?_
  blk_simp [idx t]
  rw [mul_comm]

include A in
theorem final5 : (dats m 0 c).arrAt 5 cfg0.N = fun i : S4224x1024.Idx => ((nul (scaled (next h a w) g) (i 0).val (i 1).val : ℝ) : EReal) := by
  refine (dats m 0 c).arrAt_eq_of_covers 5 _ (by decide +kernel) fun t _ y => ?_
  obtain ⟨ba, bw, bh, bg⟩ := blocks A t
  blk_simp
  rw [after0_5, ba, bw, bh, bg]
  frame_out
  refine (scaled_body _ _ _ _ _).trans ?_
  refine (congrArg (fun s : ℝ => (s : EReal)) (scaled_nul t.val (y 0).val (y 1).val)).trans ?_
  blk_simp [idx t]
  rw [mul_comm]

end Cert.FfnDownIdeal.Mine

end
-- ==== Proof.FfnDown.Ref.lean ====
/- The reference of the feed-forward's product down, at arrays of real numbers. -/
module

public import proofs.«01_k».proof.Proof.FfnDown.Blocks
public import proofs.«01_k».proof.Proof.Gen.FfnDownRefIdeal.Read

@[expose] public section

set_option maxRecDepth 16384

noncomputable section

namespace Cert.FfnDownRefIdeal.Mine

open Idealize.ShloMosaic Idealize.ShloMosaic.TcCoe Idealize.SL.Sem
open Cert.FfnDownRefIdeal Cert.FfnDownRefIdeal.Gen Cert.FfnDownRefIdeal.Read Cert.Reals
open Cert.FfnDownIdeal.Mine (next scaled)

variable (h a w : ℕ → ℕ → ℝ) (g : ℕ → ℝ)

/-- The arguments as arrays. -/
def H : (⟨S4112x1024, .f32⟩ : BufTy).Contents (Elt Ideal) := fun i : S4112x1024.Idx => ((h (i 0).val (i 1).val : ℝ) : EReal)
def I : (⟨S4112x2816, .f32⟩ : BufTy).Contents (Elt Ideal) := fun i : S4112x2816.Idx => ((a (i 0).val (i 1).val : ℝ) : EReal)
def W : (⟨S2816x1024, .f32⟩ : BufTy).Contents (Elt Ideal) := fun i : S2816x1024.Idx => ((w (i 0).val (i 1).val : ℝ) : EReal)
def G : (⟨S1024, .f32⟩ : BufTy).Contents (Elt Ideal) := fun i : S1024.Idx => ((g (i 0).val : ℝ) : EReal)

theorem v0 (i : S4112x1024.Idx) : val_main_v0 (F := Ideal) (I a) (W w) i
    = ((∑ l : Fin 2816, a (i 0).val l.val * w l.val (i 1).val : ℝ) : EReal) := by
  rw [val_main_v0_apply]
  exact sum_mul_coe (fun l => rfl) fun l => rfl

/-- The stream after the layer. -/
theorem v3 (i : S4112x1024.Idx) : val_main_v3 (F := Ideal) (H h) (I a) (W w) i = ((next h a w (i 0).val (i 1).val : ℝ) : EReal) := by
  simp only [val_main_v3_apply, val_main_v2_apply, val_main_v1_apply, val_main_cst_apply, v0]
  pointwise [H]
  rw [half_f32, ← EReal.coe_mul, ← EReal.coe_add]
  rfl

/-- The mean of a row's squares and the small number that is added to it. -/
theorem v11 (i : S4112x1.Idx) : val_main_v11 (F := Ideal) (H h) (I a) (W w) i
    = ((ms 1024 (fun k : Fin 1024 => next h a w (i 0).val k.val) : ℝ) : EReal) := by
  simp only [val_main_v11_apply, val_main_v10_apply, val_main_cst_2_apply, val_main_v9_apply, val_main_v8_apply, val_main_cst_1_apply,
    val_main_v7_apply, val_main_v6_apply, val_main_cst_0_apply, val_main_v5_apply, v3]
  pointwise
  rw [k_f32, eps_f32]
  simp only [← EReal.coe_mul, coe_sum]
  rw [div_coe_coe (by norm_num), ← EReal.coe_add]
  rfl

theorem v17 (i : S4112x1024.Idx) : val_main_v17 (F := Ideal) (H h) (I a) (W w) (G g) i
    = ((scaled (next h a w) g (i 0).val (i 1).val : ℝ) : EReal) := by
  simp only [val_main_v17_apply, val_main_v16_apply, val_main_v15_apply, val_main_v14_apply, val_main_v13_apply, val_main_v12_apply, v11, v3]
  refine (congrArg (fun r : EReal => _ * r * _) (rsqrt_pos (ms_pos (by norm_num) _))).trans ?_
  show ((next h a w (i 0).val (i 1).val : ℝ) : EReal) * (((Real.sqrt _)⁻¹ : ℝ) : EReal) * ((g (i 1).val : ℝ) : EReal) = _
  rw [← EReal.coe_mul, ← EReal.coe_mul]
  rfl

theorem v4 (i : S4224x1024.Idx) : val_main_v4 (F := Ideal) (H h) (I a) (W w) i = ((nul (next h a w) (i 0).val (i 1).val : ℝ) : EReal) := by
  unfold val_main_v4
  pointwise
  idx_bounds
  exact nul_pad _ (by omega) (fun e => v3 h a w _) (by unfold val_main_call0_v0; pointwise; rfl)

theorem v19 (i : S4224x1024.Idx) : val_main_v19 (F := Ideal) (H h) (I a) (W w) (G g) i
    = ((nul (scaled (next h a w) g) (i 0).val (i 1).val : ℝ) : EReal) := by
  rw [val_main_v19_apply]
  unfold val_main_v18
  pointwise
  idx_bounds
  exact nul_pad _ (by omega) (fun e => v17 h a w g _) (by unfold val_main_call1_v0; pointwise; rfl)

end Cert.FfnDownRefIdeal.Mine

end
-- ==== Proof.FfnDown.Claims.lean ====
/- The claims about the feed-forward's product down: the stream handed on and its norm are the reference's for real arguments. -/
module

public import proofs.«01_k».proof.Defs
public import proofs.«01_k».proof.Proof.FfnDown.Ref
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.Pre_finite15

@[expose] public section

set_option maxRecDepth 16384

noncomputable section

namespace Cert.FfnDownClaims

open Idealize.ShloMosaic Idealize.ShloMosaic.TcCoe Idealize.SL.Sem
open Cert.FfnDownIdeal.Mine Cert.Reals

theorem frame_p : Cert.quiescent_FfnDown := fun m ρ _ => Cert.FfnDown.Gen.frame m ρ

theorem frame_pi : Cert.quiescent_FfnDownIdeal := fun m ρ _ => Cert.FfnDownIdeal.Gen.frame m ρ

theorem frame_pi_pre : Cert.quiescent_FfnDownIdeal_pre_finite15 := fun m ρ _ => Cert.FfnDownIdeal.Gen.frame m ρ

theorem frame_ri : Cert.quiescent_FfnDownRefIdeal := fun m ρ _ =>
  (θ_run Cert.FfnDownRefIdeal.defs _ _).mono (fun r h => ⟨fun c => (h c).2.2, sem_eq_zero_of_no_sems (by decide) r.2⟩)
    (Cert.FfnDownRefIdeal.Value.run (F := Ideal) m ρ)

theorem frame_ri_pre : Cert.quiescent_FfnDownRefIdeal_pre_finite15 := fun m ρ _ => frame_ri m ρ trivial

theorem preserves : Cert.preserves_FfnDown_FfnDownIdeal := trivial

/-- Under the precondition the four arguments are arrays of real numbers. -/
theorem args (m : (ℓ : Loc FfnDownIdeal.nD FfnDownIdeal.τ FfnDownIdeal.sig) → Buf (Elt Ideal) ℓ)
    (hm : Pre_FfnDownIdeal_finite15 m) (c : Dev FfnDownIdeal.nD) : ∃ h a w g, Args m c h a w g := by
  obtain ⟨h0, h1, h2, h3⟩ := hm c
  obtain ⟨h, hh⟩ := exists_real h0
  obtain ⟨a, ha⟩ := exists_real h1
  obtain ⟨w, hw⟩ := exists_real h2
  obtain ⟨g, hg⟩ := exists_real h3
  exact ⟨byCoords h, byCoords a, byCoords w, byCoord g, hh.trans (byCoords_spec h), ha.trans (byCoords_spec a), hw.trans (byCoords_spec w),
    hg.trans (byCoord_spec g)⟩

theorem algebraic : Cert.algebraic_FfnDownIdeal_FfnDownRefIdeal_pre_finite15 := by
  intro m r m' r' hpre hargs
  refine ⟨fun c => (Cert.FfnDownIdeal.Gen.dats m 0 c).arrAt 4 Cert.FfnDownIdeal.cfg0.N, fun c => (Cert.FfnDownIdeal.Gen.dats m 0 c).arrAt 5 Cert.FfnDownIdeal.cfg0.N,
    Cert.FfnDownIdeal.Value.run_blocks m r,
    (θ_run Cert.FfnDownRefIdeal.defs _ _).mono (fun s e c => ?_) (Cert.FfnDownRefIdeal.Value.run (F := Ideal) m' r')⟩
  obtain ⟨e4, e19, hs⟩ := e c
  obtain ⟨h, a, w, g, A⟩ := args m hpre c
  obtain ⟨a0, a1, a2, a3⟩ := hargs c
  have b0 := a0.trans A.h
  have b1 := a1.trans A.a
  have b2 := a2.trans A.w
  have b3 := a3.trans A.g
  refine ⟨e4.trans ((Cert.FfnDownRefIdeal.Read.val_main_v4_eq ..).trans (Eq.trans ?_ (final4 A).symm)),
    e19.trans ((Cert.FfnDownRefIdeal.Read.val_main_v19_eq ..).trans (Eq.trans ?_ (final5 A).symm)), hs⟩
  · rw [b0, b1, b2]
    exact funext (Cert.FfnDownRefIdeal.Mine.v4 h a w)
  · rw [b0, b1, b2, b3]
    exact funext (Cert.FfnDownRefIdeal.Mine.v19 h a w g)

end Cert.FfnDownClaims

end
-- ==== Proof.OutProj.Blocks.lean ====
/- The mixer's last product, forward, added to the stream and normed for the next layer: a point's two results, and the region's. -/
module

public import proofs.«01_k».proof.Proof.Norm
public import proofs.«01_k».proof.Proof.Gen.OutProjIdeal.Value

@[expose] public section

set_option maxRecDepth 16384

noncomputable section

namespace Cert.OutProjIdeal.Mine

open Idealize.ShloMosaic Idealize.ShloMosaic.TcCoe Idealize.SL.Sem
open Idealize.ShloMosaic.Pipeline (Dat)
open Cert.OutProjIdeal Cert.OutProjIdeal.Gen Cert.Reals

/-- The stream with the mixer's product on top, and a row normed with its gain. -/
def mixed (h y w : ℕ → ℕ → ℝ) (n p : ℕ) : ℝ := h n p + ∑ l : Fin 1024, y n l.val * w l.val p
def unit (x : ℕ → ℕ → ℝ) (g : ℕ → ℝ) (n p : ℕ) : ℝ := x n p * rn x n * g p

section point

variable (h y w : ℕ → ℕ → ℝ) (g : ℕ → ℝ)

/-- What a point reads: rows of the mixer's output, the weight, rows of the stream, the gains. -/
def tallB : Vec Ideal S1056x1024 .bf16 := fun i => ((y (i 0).val (i 1).val : ℝ) : EReal)
def squareB : Vec Ideal S1x1024x1024 .bf16 := fun i => ((w (i 1).val (i 2).val : ℝ) : EReal)
def tallF : Vec Ideal S1056x1024 .f32 := fun i => ((h (i 0).val (i 1).val : ℝ) : EReal)
def lineF : Vec Ideal S1x1024 .f32 := fun i => ((g (i 1).val : ℝ) : EReal)

theorem pay1 : k0_pay1 (F := Ideal) (squareB w) (tallB y) (tallF h) = tallF (mixed h y w) := by
  funext i
  pointwise [k0_pay1, squareB, tallB, tallF]
  simp only [one_mul, ← EReal.coe_mul, coe_sum, ← EReal.coe_add]
  rfl

theorem pay2 (i : S1056x1024.Idx) : k0_pay2 (F := Ideal) (squareB w) (tallB y) (tallF h) (lineF g) i
    = ((unit (mixed h y w) g (i 0).val (i 1).val : ℝ) : EReal) := by
  unfold k0_pay2
  rw [pay1]
  generalize mixed h y w = x
  refine Eq.trans (b := tallF x i * Ideal.rsqrt ((ms 1024 (fun k : Fin 1024 => x (i 0).val k.val) : ℝ) : EReal) * ((g (i 1).val : ℝ) : EReal)) ?_ ?_
  · pointwise [tallF, lineF]
    rw [k_f32, eps_f32]
    simp only [← EReal.coe_mul, coe_sum]
    rw [div_coe_coe (by norm_num), ← EReal.coe_add]
    rfl
  · rw [rsqrt_pos (ms_pos (by norm_num) _), tallF, ← EReal.coe_mul, ← EReal.coe_mul]
    rfl

end point

variable (m : (ℓ : Loc nD τ sig) → Buf (Elt Ideal) ℓ)

/-- The four arguments are real arrays. -/
structure Args (c : Dev nD) (h y w : ℕ → ℕ → ℝ) (g : ℕ → ℝ) : Prop where
  h : m ((c.tc : Thread nD τ).loc main_arg0) = fun i : S4112x1024.Idx => ((h (i 0).val (i 1).val : ℝ) : EReal)
  y : m ((c.tc : Thread nD τ).loc main_arg1) = fun i : S4112x1024.Idx => ((y (i 0).val (i 1).val : ℝ) : EReal)
  w : m ((c.tc : Thread nD τ).loc main_arg2) = fun i : S1024x1024.Idx => ((w (i 0).val (i 1).val : ℝ) : EReal)
  g : m ((c.tc : Thread nD τ).loc main_arg3) = fun i : S1024.Idx => ((g (i 0).val : ℝ) : EReal)

variable {m}
variable {c : Dev nD} {h y w : ℕ → ℕ → ℝ} {g : ℕ → ℝ} (A : Args m c h y w g)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

include A in
theorem read_y (t : Fin cfg0.N) : iblk m c 0 t = tallB fun n p => nul y (1056 * t.val + n) p := by
  have v : ∀ i : S4224x1024.Idx, V m c main_v2 i = ((nul y (i 0).val (i 1).val : ℝ) : EReal) := fun i => by
    simp only [V, hostOps0]
    entry_read
    pointwise
    exact nul_layout y fun e => congrFun A.y _
  funext q
  blk_simp [iblk]
  rw [v]
  blk_simp [tallB, idx t]
  rw [mul_comm]

include A in
theorem read_w (t : Fin cfg0.N) : iblk m c 1 t = squareB w := by
  have v : ∀ i : S1x1024x1024.Idx, V m c main_v4 i = ((w (i 1).val (i 2).val : ℝ) : EReal) := fun i => by
    simp only [V, hostOps0]
    entry_read
    pointwise
    exact congrFun A.w _
  funext q
  blk_simp [iblk]
  rw [v]
  blk_simp [squareB, idx t]

include A in
theorem read_h (t : Fin cfg0.N) : iblk m c 2 t = tallF fun n p => nul h (1056 * t.val + n) p := by
  have v : ∀ i : S4224x1024.Idx, V m c main_v6 i = ((nul h (i 0).val (i 1).val : ℝ) : EReal) := fun i => by
    simp only [V, hostOps0]
    entry_read
    pointwise
    exact nul_layout h fun e => congrFun A.h _
  funext q
  blk_simp [iblk]
  rw [v]
  blk_simp [tallF, idx t]
  rw [mul_comm]

include A in
theorem read_g (t : Fin cfg0.N) : iblk m c 3 t = lineF g := by
  have v : ∀ i : S1x1024.Idx, V m c main_v7 i = ((g (i 1).val : ℝ) : EReal) := fun i => by
    simp only [V, hostOps0]
    entry_read
    pointwise
    exact congrFun A.g _
  funext q
  blk_simp [iblk]
  rw [v]
  blk_simp [lineF, idx t]

/-- A point sees the padding rows as rows of zeros, and leaves zeros there. -/
theorem mixed_at (s : ℕ) : mixed (fun n p => nul h (s + n) p) (fun n p => nul y (s + n) p) w = fun n p => nul (mixed h y w) (s + n) p := by
  funext n p
  by_cases e : s + n < 112
  · simp only [mixed, nul, if_pos e, zero_mul, Finset.sum_const_zero, add_zero]
  · simp only [mixed, nul, if_neg e]

theorem unit_at (x : ℕ → ℕ → ℝ) (s n p : ℕ) : unit (fun n p => nul x (s + n) p) g n p = nul (unit x g) (s + n) p := by
  by_cases e : s + n < 112
  · simp only [unit, nul, if_pos e, zero_mul]
  · simp only [unit, rn, nul, if_neg e]

include A in
theorem final4 : (dats m 0 c).arrAt 4 cfg0.N = fun i : S4224x1024.Idx => ((nul (mixed h y w) (i 0).val (i 1).val : ℝ) : EReal) := by
  refine (dats m 0 c).arrAt_eq_of_covers 4 _ (by decide +kernel) fun t _ q => ?_
  blk_simp
  rw [after0_4, read_y A, read_w A, read_h A, read_g A]
  frame_out
  rw [pay1, mixed_at]
  blk_simp [idx t, tallF]
  rw [mul_comm]

include A in
theorem final5 : (dats m 0 c).arrAt 5 cfg0.N = fun i : S4224x1024.Idx => ((nul (unit (mixed h y w) g) (i 0).val (i 1).val : ℝ) : EReal) := by
  refine (dats m 0 c).arrAt_eq_of_covers 5 _ (by decide +kernel) fun t _ q => ?_
  blk_simp
  rw [after0_5, read_y A, read_w A, read_h A, read_g A]
  frame_out
  refine (pay2 _ _ _ _ _).trans ?_
  rw [mixed_at, unit_at]
  blk_simp [idx t]
  rw [mul_comm]

end Cert.OutProjIdeal.Mine

end
-- ==== Proof.OutProj.Ref.lean ====
/- The reference of the mixer's last product with the next norm, at arrays of real numbers. -/
module

public import proofs.«01_k».proof.Proof.OutProj.Blocks
public import proofs.«01_k».proof.Proof.Gen.OutProjRefIdeal.Read

@[expose] public section

set_option maxRecDepth 16384

noncomputable section

namespace Cert.OutProjRefIdeal.Mine

open Idealize.ShloMosaic Idealize.ShloMosaic.TcCoe Idealize.SL.Sem
open Cert.OutProjRefIdeal Cert.OutProjRefIdeal.Gen Cert.OutProjRefIdeal.Read Cert.Reals
open Cert.OutProjIdeal.Mine (mixed unit)

variable (h y w : ℕ → ℕ → ℝ) (g : ℕ → ℝ)

/-- The arguments as arrays: rows of 1024 numbers, the weight, the gains. -/
def rows : (⟨S4112x1024, .f32⟩ : BufTy).Contents (Elt Ideal) := fun i : S4112x1024.Idx => ((h (i 0).val (i 1).val : ℝ) : EReal)
def square : (⟨S1024x1024, .f32⟩ : BufTy).Contents (Elt Ideal) := fun i : S1024x1024.Idx => ((w (i 0).val (i 1).val : ℝ) : EReal)
def line : (⟨S1024, .f32⟩ : BufTy).Contents (Elt Ideal) := fun i : S1024.Idx => ((g (i 0).val : ℝ) : EReal)

theorem v1 (i : S4112x1024.Idx) : val_main_v1 (F := Ideal) (rows h) (rows y) (square w) i = ((mixed h y w (i 0).val (i 1).val : ℝ) : EReal) := by
  have e : val_main_v0 (F := Ideal) (rows y) (square w) i = ((∑ l : Fin 1024, y (i 0).val l.val * w l.val (i 1).val : ℝ) : EReal) := by
    rw [val_main_v0_apply]
    exact sum_mul_coe (fun l => rfl) fun l => rfl
  rw [val_main_v1_apply, e]
  exact (EReal.coe_add _ _).symm

theorem v2 (i : S4224x1024.Idx) : val_main_v2 (F := Ideal) (rows h) (rows y) (square w) i
    = ((nul (mixed h y w) (i 0).val (i 1).val : ℝ) : EReal) := by
  unfold val_main_v2
  pointwise
  idx_bounds
  exact nul_pad _ (by omega) (fun e => v1 h y w _) (by unfold val_main_call0_v0; pointwise; rfl)

/-- One over a row's root mean square. -/
theorem v10 (i : S4112x1.Idx) : val_main_v10 (F := Ideal) (rows h) (rows y) (square w) i = ((rn (mixed h y w) (i 0).val : ℝ) : EReal) := by
  have e : val_main_v9 (F := Ideal) (rows h) (rows y) (square w) i = ((ms 1024 (fun k : Fin 1024 => mixed h y w (i 0).val k.val) : ℝ) : EReal) := by
    simp only [val_main_v9_apply, val_main_v8_apply, val_main_cst_1_apply, val_main_v7_apply, val_main_v6_apply, val_main_cst_0_apply,
      val_main_v5_apply, val_main_v4_apply, val_main_cst_apply, val_main_v3_apply, v1]
    pointwise
    rw [k_f32, eps_f32]
    simp only [← EReal.coe_mul, coe_sum]
    rw [div_coe_coe (by norm_num), ← EReal.coe_add]
    rfl
  rw [val_main_v10_apply, e]
  exact rsqrt_pos (ms_pos (by norm_num) _)

theorem v15 (i : S4112x1024.Idx) : val_main_v15 (F := Ideal) (rows h) (rows y) (square w) (line g) i
    = ((unit (mixed h y w) g (i 0).val (i 1).val : ℝ) : EReal) := by
  simp only [val_main_v15_apply, val_main_v14_apply, val_main_v13_apply, val_main_v12_apply, val_main_v11_apply, v10, v1]
  show ((mixed h y w (i 0).val (i 1).val : ℝ) : EReal) * ((rn (mixed h y w) (i 0).val : ℝ) : EReal) * ((g (i 1).val : ℝ) : EReal) = _
  rw [← EReal.coe_mul, ← EReal.coe_mul]
  rfl

theorem v17 (i : S4224x1024.Idx) : val_main_v17 (F := Ideal) (rows h) (rows y) (square w) (line g) i
    = ((nul (unit (mixed h y w) g) (i 0).val (i 1).val : ℝ) : EReal) := by
  rw [val_main_v17_apply]
  unfold val_main_v16
  pointwise
  idx_bounds
  exact nul_pad _ (by omega) (fun e => v15 h y w g _) (by unfold val_main_call1_v0; pointwise; rfl)

end Cert.OutProjRefIdeal.Mine

end
-- ==== Proof.OutProj.Claims.lean ====
/- The claims about the mixer's last product: for real arguments the stream and its norm are the reference's. -/
module

public import proofs.«01_k».proof.Defs
public import proofs.«01_k».proof.Proof.OutProj.Ref
public import proofs.«01_k».proof.Proof.Gen.OutProj.Frame
public import proofs.«01_k».proof.Proof.Gen.OutProjIdeal.Value
public import proofs.«01_k».proof.Proof.Gen.OutProjRefIdeal.Run
public import proofs.«01_k».proof.Proof.Gen.Pre_finite16

@[expose] public section

set_option maxRecDepth 16384

noncomputable section

namespace Cert.OutProjClaims

open Idealize.ShloMosaic Idealize.ShloMosaic.TcCoe Idealize.SL.Sem
open Cert.OutProjIdeal.Mine Cert.Reals

theorem frame_p : Cert.quiescent_OutProj := fun m ρ _ => Cert.OutProj.Gen.frame m ρ

theorem frame_pi : Cert.quiescent_OutProjIdeal := fun m ρ _ => Cert.OutProjIdeal.Gen.frame m ρ

theorem frame_pi_pre : Cert.quiescent_OutProjIdeal_pre_finite16 := fun m ρ _ => Cert.OutProjIdeal.Gen.frame m ρ

theorem frame_ri : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

theorem frame_ri_pre : Cert.quiescent_OutProjRefIdeal_pre_finite16 := fun m ρ _ => frame_ri m ρ trivial

theorem preserves : Cert.preserves_OutProj_OutProjIdeal := trivial

/-- Finite arguments are arrays of real numbers. -/
theorem args (m : (ℓ : Loc OutProjIdeal.nD OutProjIdeal.τ OutProjIdeal.sig) → Buf (Elt Ideal) ℓ)
    (hm : Pre_OutProjIdeal_finite16 m) (c : Dev OutProjIdeal.nD) : ∃ h y w g, Args m c h y w g := by
  obtain ⟨h0, h1, h2, h3⟩ := hm c
  obtain ⟨h, hh⟩ := exists_real h0
  obtain ⟨y, hy⟩ := exists_real h1
  obtain ⟨w, hw⟩ := exists_real h2
  obtain ⟨g, hg⟩ := exists_real h3
  exact ⟨byCoords h, byCoords y, byCoords w, byCoord g, hh.trans (byCoords_spec h), hy.trans (byCoords_spec y), hw.trans (byCoords_spec w),
    hg.trans (byCoord_spec g)⟩

theorem algebraic : Cert.algebraic_OutProjIdeal_OutProjRefIdeal_pre_finite16 := by
  intro m r m' r' hpre hargs
  refine ⟨fun c => (Cert.OutProjIdeal.Gen.dats m 0 c).arrAt 4 Cert.OutProjIdeal.cfg0.N, fun c => (Cert.OutProjIdeal.Gen.dats m 0 c).arrAt 5 Cert.OutProjIdeal.cfg0.N,
    Cert.OutProjIdeal.Value.run_blocks m r,
    (θ_run Cert.OutProjRefIdeal.defs _ _).mono (fun s e c => ?_) (Cert.OutProjRefIdeal.Value.run (F := Ideal) m' r')⟩
  obtain ⟨e2, e17, hs⟩ := e c
  obtain ⟨h, y, w, g, A⟩ := args m hpre c
  obtain ⟨a0, a1, a2, a3⟩ := hargs c
  have b0 := a0.trans A.h
  have b1 := a1.trans A.y
  have b2 := a2.trans A.w
  have b3 := a3.trans A.g
  refine ⟨e2.trans ((Cert.OutProjRefIdeal.Read.val_main_v2_eq ..).trans (Eq.trans ?_ (final4 A).symm)),
    e17.trans ((Cert.OutProjRefIdeal.Read.val_main_v17_eq ..).trans (Eq.trans ?_ (final5 A).symm)), hs⟩
  · rw [b0, b1, b2]
    exact funext (Cert.OutProjRefIdeal.Mine.v2 h y w)
  · rw [b0, b1, b2, b3]
    exact funext (Cert.OutProjRefIdeal.Mine.v17 h y w g)

end Cert.OutProjClaims

end
-- ==== Proof.GlaInBwd.Claims.lean ====
/- The claims about the backward of the log gates and the packing: the programs run, leave their semaphores at zero, and the ideal program is the kernel's. -/
module

public import proofs.«01_k».proof.Defs
public import proofs.«01_k».proof.Proof.Gen.GlaInBwd.Frame
public import proofs.«01_k».proof.Proof.Gen.GlaInBwdIdeal.Frame
public import proofs.«01_k».proof.Proof.Gen.GlaInBwdRefIdeal.Run

@[expose] public section

set_option maxRecDepth 16384

noncomputable section

namespace Cert.GlaInBwdClaims

open Idealize.ShloMosaic Idealize.ShloMosaic.TcCoe Idealize.SL.Sem

theorem frame_p : Cert.quiescent_GlaInBwd := fun m ρ _ => Cert.GlaInBwd.Gen.frame m ρ

theorem frame_pi : Cert.quiescent_GlaInBwdIdeal := fun m ρ _ => Cert.GlaInBwdIdeal.Gen.frame m ρ

theorem frame_ri : Cert.quiescent_GlaInBwdRefIdeal := fun m ρ _ =>
  (θ_run Cert.GlaInBwdRefIdeal.defs _ _).mono (fun r h => ⟨fun c => (h c).2.2.2, sem_eq_zero_of_no_sems (by decide) r.2⟩)
    (Cert.GlaInBwdRefIdeal.Value.run (F := Ideal) m ρ)

theorem preserves : Cert.preserves_GlaInBwd_GlaInBwdIdeal := trivial

end Cert.GlaInBwdClaims

end
-- ==== Proof.lean ====
/- The certificate: every claim of `Defs.lean`, each proved in the module of its call. -/
module

public import proofs.«01_k».proof.Defs
public import proofs.«01_k».proof.Proof.Gen.LossHead
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.Pre_finite1
public import proofs.«01_k».proof.Proof.LossHead.Claims
public import proofs.«01_k».proof.Proof.Gen.Attn
public import proofs.«01_k».proof.Proof.Gen.AttnIdeal
public import proofs.«01_k».proof.Proof.Gen.AttnRefIdeal.Run
public import proofs.«01_k».proof.Proof.Gen.AttnRefIdeal.Read
public import proofs.«01_k».proof.Proof.Gen.Pre_finite7
public import proofs.«01_k».proof.Proof.Attn.Claims
public import proofs.«01_k».proof.Proof.Gen.GlaOutBwd
public import proofs.«01_k».proof.Proof.Gen.GlaOutBwdIdeal.Value
public import proofs.«01_k».proof.Proof.Gen.GlaOutBwdRefIdeal.Run
public import proofs.«01_k».proof.Proof.Gen.GlaOutBwdRefIdeal.Read
public import proofs.«01_k».proof.Proof.Gen.Pre_finite5
public import proofs.«01_k».proof.Proof.GlaOutBwd.Claims
public import proofs.«01_k».proof.Proof.Gen.FfnDact
public import proofs.«01_k».proof.Proof.Gen.FfnDactIdeal.Value
public import proofs.«01_k».proof.Proof.Gen.FfnDactRefIdeal.Run
public import proofs.«01_k».proof.Proof.Gen.FfnDactRefIdeal.Read
public import proofs.«01_k».proof.Proof.Gen.Pre_finite2
public import proofs.«01_k».proof.Proof.FfnDact.Claims
public import proofs.«01_k».proof.Proof.Gen.FfnDz
public import proofs.«01_k».proof.Proof.Gen.FfnDzIdeal.Value
public import proofs.«01_k».proof.Proof.Gen.FfnDzRefIdeal.Run
public import proofs.«01_k».proof.Proof.Gen.FfnDzRefIdeal.Read
public import proofs.«01_k».proof.Proof.Gen.Pre_finite3
public import proofs.«01_k».proof.Proof.FfnDz.Claims
public import proofs.«01_k».proof.Proof.Gen.MergeBwd
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.Pre_finite4
public import proofs.«01_k».proof.Proof.MergeBwd.Claims
public import proofs.«01_k».proof.Proof.Gen.InProjDz
public import proofs.«01_k».proof.Proof.Gen.InProjDzIdeal.Value
public import proofs.«01_k».proof.Proof.Gen.InProjDzRefIdeal.Run
public import proofs.«01_k».proof.Proof.Gen.InProjDzRefIdeal.Read
public import proofs.«01_k».proof.Proof.Gen.Pre_finite10
public import proofs.«01_k».proof.Proof.InProjDz.Claims
public import proofs.«01_k».proof.Proof.Gen.AttnPrepBwd
public import proofs.«01_k».proof.Proof.Gen.AttnPrepBwdIdeal.Value
public import proofs.«01_k».proof.Proof.Gen.AttnPrepBwdRefIdeal.Run
public import proofs.«01_k».proof.Proof.Gen.AttnPrepBwdRefIdeal.Read
public import proofs.«01_k».proof.Proof.Gen.Pre_finite8
public import proofs.«01_k».proof.Proof.AttnPrepBwd.Claims
public import proofs.«01_k».proof.Proof.Gen.NormFwd
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.Pre_finite11
public import proofs.«01_k».proof.Proof.NormFwd.Claims
public import proofs.«01_k».proof.Proof.Gen.GlaOutFwd
public import proofs.«01_k».proof.Proof.Gen.GlaOutFwdIdeal.Value
public import proofs.«01_k».proof.Proof.Gen.GlaOutFwdRefIdeal.Run
public import proofs.«01_k».proof.Proof.Gen.GlaOutFwdRefIdeal.Read
public import proofs.«01_k».proof.Proof.Gen.Pre_finite12
public import proofs.«01_k».proof.Proof.GlaOutFwd.Claims
public import proofs.«01_k».proof.Proof.Gen.FfnUp
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.Pre_finite13
public import proofs.«01_k».proof.Proof.FfnUp.Claims
public import proofs.«01_k».proof.Proof.Gen.MergeFwd
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.Pre_finite14
public import proofs.«01_k».proof.Proof.MergeFwd.Claims
public import proofs.«01_k».proof.Proof.Gen.FfnDown
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.Pre_finite15
public import proofs.«01_k».proof.Proof.FfnDown.Claims
public import proofs.«01_k».proof.Proof.Gen.OutProj
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.Pre_finite16
public import proofs.«01_k».proof.Proof.OutProj.Claims
public import proofs.«01_k».proof.Proof.Gen.GlaInBwd
public import proofs.«01_k».proof.Proof.Gen.GlaInBwdIdeal
public import proofs.«01_k».proof.Proof.Gen.GlaInBwdRefIdeal.Run
public import proofs.«01_k».proof.Proof.GlaInBwd.Claims

@[expose] public section

noncomputable section

namespace Cert.Proof

open Idealize.ShloMosaic Idealize.SL.Sem

theorem claim : Cert.Claim :=
  ⟨Cert.LossHead.Gen.facts, Cert.LossHeadIdeal.Gen.facts, Cert.LossHeadRefIdeal.Gen.facts,
    Cert.Attn.Gen.facts, Cert.AttnIdeal.Gen.facts, Cert.AttnRefIdeal.Gen.facts,
    Cert.GlaOutBwd.Gen.facts, Cert.GlaOutBwdIdeal.Gen.facts, Cert.GlaOutBwdRefIdeal.Gen.facts,
    Cert.FfnDact.Gen.facts, Cert.FfnDactIdeal.Gen.facts, Cert.FfnDactRefIdeal.Gen.facts,
    Cert.FfnDz.Gen.facts, Cert.FfnDzIdeal.Gen.facts, Cert.FfnDzRefIdeal.Gen.facts,
    Cert.MergeBwd.Gen.facts, Cert.MergeBwdIdeal.Gen.facts, Cert.MergeBwdRefIdeal.Gen.facts,
    Cert.InProjDz.Gen.facts, Cert.InProjDzIdeal.Gen.facts, Cert.InProjDzRefIdeal.Gen.facts,
    Cert.AttnPrepBwd.Gen.facts, Cert.AttnPrepBwdIdeal.Gen.facts, Cert.AttnPrepBwdRefIdeal.Gen.facts,
    Cert.NormFwd.Gen.facts, Cert.NormFwdIdeal.Gen.facts, Cert.NormFwdRefIdeal.Gen.facts,
    Cert.GlaOutFwd.Gen.facts, Cert.GlaOutFwdIdeal.Gen.facts, Cert.GlaOutFwdRefIdeal.Gen.facts,
    Cert.FfnUp.Gen.facts, Cert.FfnUpIdeal.Gen.facts, Cert.FfnUpRefIdeal.Gen.facts,
    Cert.MergeFwd.Gen.facts, Cert.MergeFwdIdeal.Gen.facts, Cert.MergeFwdRefIdeal.Gen.facts,
    Cert.FfnDown.Gen.facts, Cert.FfnDownIdeal.Gen.facts, Cert.FfnDownRefIdeal.Gen.facts,
    Cert.OutProj.Gen.facts, Cert.OutProjIdeal.Gen.facts, Cert.OutProjRefIdeal.Gen.facts,
    Cert.GlaInBwd.Gen.facts, Cert.GlaInBwdIdeal.Gen.facts, Cert.GlaInBwdRefIdeal.Gen.facts,
    Cert.Pre_finite1.Gen.facts, Cert.Pre_finite7.Gen.facts, Cert.Pre_finite5.Gen.facts, Cert.Pre_finite2.Gen.facts, Cert.Pre_finite3.Gen.facts, Cert.Pre_finite4.Gen.facts, Cert.Pre_finite10.Gen.facts, Cert.Pre_finite8.Gen.facts, Cert.Pre_finite11.Gen.facts, Cert.Pre_finite12.Gen.facts, Cert.Pre_finite13.Gen.facts, Cert.Pre_finite14.Gen.facts, Cert.Pre_finite15.Gen.facts, Cert.Pre_finite16.Gen.facts,
    LossHeadClaims.frame_p, LossHeadClaims.frame_pi, LossHeadClaims.frame_pi_pre, LossHeadClaims.frame_ri, LossHeadClaims.frame_ri_pre,
    AttnClaims.frame_p, AttnClaims.frame_pi, AttnClaims.frame_pi_pre, AttnClaims.frame_ri, AttnClaims.frame_ri_pre,
    GlaOutBwdClaims.frame_p, GlaOutBwdClaims.frame_pi, GlaOutBwdClaims.frame_pi_pre, GlaOutBwdClaims.frame_ri, GlaOutBwdClaims.frame_ri_pre,
    FfnDactClaims.frame_p, FfnDactClaims.frame_pi, FfnDactClaims.frame_pi_pre, FfnDactClaims.frame_ri, FfnDactClaims.frame_ri_pre,
    FfnDzClaims.frame_p, FfnDzClaims.frame_pi, FfnDzClaims.frame_pi_pre, FfnDzClaims.frame_ri, FfnDzClaims.frame_ri_pre,
    MergeBwdClaims.frame_p, MergeBwdClaims.frame_pi, MergeBwdClaims.frame_pi_pre, MergeBwdClaims.frame_ri, MergeBwdClaims.frame_ri_pre,
    InProjDzClaims.frame_p, InProjDzClaims.frame_pi, InProjDzClaims.frame_pi_pre, InProjDzClaims.frame_ri, InProjDzClaims.frame_ri_pre,
    AttnPrepBwdClaims.frame_p, AttnPrepBwdClaims.frame_pi, AttnPrepBwdClaims.frame_pi_pre, AttnPrepBwdClaims.frame_ri, AttnPrepBwdClaims.frame_ri_pre,
    NormFwdClaims.frame_p, NormFwdClaims.frame_pi, NormFwdClaims.frame_pi_pre, NormFwdClaims.frame_ri, NormFwdClaims.frame_ri_pre,
    GlaOutFwdClaims.frame_p, GlaOutFwdClaims.frame_pi, GlaOutFwdClaims.frame_pi_pre, GlaOutFwdClaims.frame_ri, GlaOutFwdClaims.frame_ri_pre,
    FfnUpClaims.frame_p, FfnUpClaims.frame_pi, FfnUpClaims.frame_pi_pre, FfnUpClaims.frame_ri, FfnUpClaims.frame_ri_pre,
    MergeFwdClaims.frame_p, MergeFwdClaims.frame_pi, MergeFwdClaims.frame_pi_pre, MergeFwdClaims.frame_ri, MergeFwdClaims.frame_ri_pre,
    FfnDownClaims.frame_p, FfnDownClaims.frame_pi, FfnDownClaims.frame_pi_pre, FfnDownClaims.frame_ri, FfnDownClaims.frame_ri_pre,
    OutProjClaims.frame_p, OutProjClaims.frame_pi, OutProjClaims.frame_pi_pre, OutProjClaims.frame_ri, OutProjClaims.frame_ri_pre,
    GlaInBwdClaims.frame_p, GlaInBwdClaims.frame_pi, GlaInBwdClaims.frame_ri,
    trivial, LossHeadClaims.algebraic,
    AttnClaims.preserves, AttnClaims.algebraic,
    GlaOutBwdClaims.preserves, GlaOutBwdClaims.algebraic,
    FfnDactClaims.preserves, FfnDactClaims.algebraic,
    FfnDzClaims.preserves, FfnDzClaims.algebraic,
    MergeBwdClaims.preserves, MergeBwdClaims.algebraic,
    InProjDzClaims.preserves, InProjDzClaims.algebraic,
    AttnPrepBwdClaims.preserves, AttnPrepBwdClaims.algebraic,
    NormFwdClaims.preserves, NormFwdClaims.algebraic,
    GlaOutFwdClaims.preserves, GlaOutFwdClaims.algebraic,
    FfnUpClaims.preserves, FfnUpClaims.algebraic,
    MergeFwdClaims.preserves, MergeFwdClaims.algebraic,
    FfnDownClaims.preserves, FfnDownClaims.algebraic,
    OutProjClaims.preserves, OutProjClaims.algebraic,
    GlaInBwdClaims.preserves⟩

end Cert.Proof

end
